-- ==== Defs.lean ====
def Pre_Tr (m : (ℓ : Loc Cert.Tr.nD Cert.Tr.τ Cert.Tr.sig) → Buf (Elt Bits) ℓ) : Prop :=
  True

def Pre_TrIdeal (m : (ℓ : Loc Cert.TrIdeal.nD Cert.TrIdeal.τ Cert.TrIdeal.sig) → Buf (Elt Ideal) ℓ) : Prop :=
  True

def Pre_TrIdeal_ids_in_range [hPre_ids_in_range : Cert.Pre_ids_in_range.Facts] (m : (ℓ : Loc Cert.TrIdeal.nD Cert.TrIdeal.τ Cert.TrIdeal.sig) → Buf (Elt Ideal) ℓ) : Prop :=
  ∀ c : Dev Cert.TrIdeal.nD,
    (Cert.Pre_ids_in_range.fn (F := Ideal) (m ((c.tc : Thread Cert.TrIdeal.nD Cert.TrIdeal.τ).loc Cert.TrIdeal.main_arg0)) (m ((c.tc : Thread Cert.TrIdeal.nD Cert.TrIdeal.τ).loc Cert.TrIdeal.main_arg1)) (m ((c.tc : Thread Cert.TrIdeal.nD Cert.TrIdeal.τ).loc Cert.TrIdeal.main_arg2)) (m ((c.tc : Thread Cert.TrIdeal.nD Cert.TrIdeal.τ).loc Cert.TrIdeal.main_arg3)) (m ((c.tc : Thread Cert.TrIdeal.nD Cert.TrIdeal.τ).loc Cert.TrIdeal.main_arg4)) (m ((c.tc : Thread Cert.TrIdeal.nD Cert.TrIdeal.τ).loc Cert.TrIdeal.main_arg5)) (m ((c.tc : Thread Cert.TrIdeal.nD Cert.TrIdeal.τ).loc Cert.TrIdeal.main_arg6)) (m ((c.tc : Thread Cert.TrIdeal.nD Cert.TrIdeal.τ).loc Cert.TrIdeal.main_arg7)) (m ((c.tc : Thread Cert.TrIdeal.nD Cert.TrIdeal.τ).loc Cert.TrIdeal.main_arg8)) (m ((c.tc : Thread Cert.TrIdeal.nD Cert.TrIdeal.τ).loc Cert.TrIdeal.main_arg9)) (m ((c.tc : Thread Cert.TrIdeal.nD Cert.TrIdeal.τ).loc Cert.TrIdeal.main_arg10)) (m ((c.tc : Thread Cert.TrIdeal.nD Cert.TrIdeal.τ).loc Cert.TrIdeal.main_arg11)) (m ((c.tc : Thread Cert.TrIdeal.nD Cert.TrIdeal.τ).loc Cert.TrIdeal.main_arg12)) (m ((c.tc : Thread Cert.TrIdeal.nD Cert.TrIdeal.τ).loc Cert.TrIdeal.main_arg13)) (m ((c.tc : Thread Cert.TrIdeal.nD Cert.TrIdeal.τ).loc Cert.TrIdeal.main_arg14)) (m ((c.tc : Thread Cert.TrIdeal.nD Cert.TrIdeal.τ).loc Cert.TrIdeal.main_arg15)) (m ((c.tc : Thread Cert.TrIdeal.nD Cert.TrIdeal.τ).loc Cert.TrIdeal.main_arg16)) (m ((c.tc : Thread Cert.TrIdeal.nD Cert.TrIdeal.τ).loc Cert.TrIdeal.main_arg17)) (m ((c.tc : Thread Cert.TrIdeal.nD Cert.TrIdeal.τ).loc Cert.TrIdeal.main_arg18)) (m ((c.tc : Thread Cert.TrIdeal.nD Cert.TrIdeal.τ).loc Cert.TrIdeal.main_arg19)) (m ((c.tc : Thread Cert.TrIdeal.nD Cert.TrIdeal.τ).loc Cert.TrIdeal.main_arg20)) (m ((c.tc : Thread Cert.TrIdeal.nD Cert.TrIdeal.τ).loc Cert.TrIdeal.main_arg21)) (m ((c.tc : Thread Cert.TrIdeal.nD Cert.TrIdeal.τ).loc Cert.TrIdeal.main_arg22)) (m ((c.tc : Thread Cert.TrIdeal.nD Cert.TrIdeal.τ).loc Cert.TrIdeal.main_arg23)) (m ((c.tc : Thread Cert.TrIdeal.nD Cert.TrIdeal.τ).loc Cert.TrIdeal.main_arg24)) (m ((c.tc : Thread Cert.TrIdeal.nD Cert.TrIdeal.τ).loc Cert.TrIdeal.main_arg25))) = (fun _ => 1#1)

def Pre_TrRefIdeal (m : (ℓ : Loc Cert.TrRefIdeal.nD Cert.TrRefIdeal.τ Cert.TrRefIdeal.sig) → Buf (Elt Ideal) ℓ) : Prop :=
  True

def Pre_TrRefIdeal_ids_in_range [hPre_ids_in_range : Cert.Pre_ids_in_range.Facts] (m : (ℓ : Loc Cert.TrRefIdeal.nD Cert.TrRefIdeal.τ Cert.TrRefIdeal.sig) → Buf (Elt Ideal) ℓ) : Prop :=
  ∀ c : Dev Cert.TrRefIdeal.nD,
    (Cert.Pre_ids_in_range.fn (F := Ideal) (m ((c.tc : Thread Cert.TrRefIdeal.nD Cert.TrRefIdeal.τ).loc Cert.TrRefIdeal.main_arg0)) (m ((c.tc : Thread Cert.TrRefIdeal.nD Cert.TrRefIdeal.τ).loc Cert.TrRefIdeal.main_arg1)) (m ((c.tc : Thread Cert.TrRefIdeal.nD Cert.TrRefIdeal.τ).loc Cert.TrRefIdeal.main_arg2)) (m ((c.tc : Thread Cert.TrRefIdeal.nD Cert.TrRefIdeal.τ).loc Cert.TrRefIdeal.main_arg3)) (m ((c.tc : Thread Cert.TrRefIdeal.nD Cert.TrRefIdeal.τ).loc Cert.TrRefIdeal.main_arg4)) (m ((c.tc : Thread Cert.TrRefIdeal.nD Cert.TrRefIdeal.τ).loc Cert.TrRefIdeal.main_arg5)) (m ((c.tc : Thread Cert.TrRefIdeal.nD Cert.TrRefIdeal.τ).loc Cert.TrRefIdeal.main_arg6)) (m ((c.tc : Thread Cert.TrRefIdeal.nD Cert.TrRefIdeal.τ).loc Cert.TrRefIdeal.main_arg7)) (m ((c.tc : Thread Cert.TrRefIdeal.nD Cert.TrRefIdeal.τ).loc Cert.TrRefIdeal.main_arg8)) (m ((c.tc : Thread Cert.TrRefIdeal.nD Cert.TrRefIdeal.τ).loc Cert.TrRefIdeal.main_arg9)) (m ((c.tc : Thread Cert.TrRefIdeal.nD Cert.TrRefIdeal.τ).loc Cert.TrRefIdeal.main_arg10)) (m ((c.tc : Thread Cert.TrRefIdeal.nD Cert.TrRefIdeal.τ).loc Cert.TrRefIdeal.main_arg11)) (m ((c.tc : Thread Cert.TrRefIdeal.nD Cert.TrRefIdeal.τ).loc Cert.TrRefIdeal.main_arg12)) (m ((c.tc : Thread Cert.TrRefIdeal.nD Cert.TrRefIdeal.τ).loc Cert.TrRefIdeal.main_arg13)) (m ((c.tc : Thread Cert.TrRefIdeal.nD Cert.TrRefIdeal.τ).loc Cert.TrRefIdeal.main_arg14)) (m ((c.tc : Thread Cert.TrRefIdeal.nD Cert.TrRefIdeal.τ).loc Cert.TrRefIdeal.main_arg15)) (m ((c.tc : Thread Cert.TrRefIdeal.nD Cert.TrRefIdeal.τ).loc Cert.TrRefIdeal.main_arg16)) (m ((c.tc : Thread Cert.TrRefIdeal.nD Cert.TrRefIdeal.τ).loc Cert.TrRefIdeal.main_arg17)) (m ((c.tc : Thread Cert.TrRefIdeal.nD Cert.TrRefIdeal.τ).loc Cert.TrRefIdeal.main_arg18)) (m ((c.tc : Thread Cert.TrRefIdeal.nD Cert.TrRefIdeal.τ).loc Cert.TrRefIdeal.main_arg19)) (m ((c.tc : Thread Cert.TrRefIdeal.nD Cert.TrRefIdeal.τ).loc Cert.TrRefIdeal.main_arg20)) (m ((c.tc : Thread Cert.TrRefIdeal.nD Cert.TrRefIdeal.τ).loc Cert.TrRefIdeal.main_arg21)) (m ((c.tc : Thread Cert.TrRefIdeal.nD Cert.TrRefIdeal.τ).loc Cert.TrRefIdeal.main_arg22)) (m ((c.tc : Thread Cert.TrRefIdeal.nD Cert.TrRefIdeal.τ).loc Cert.TrRefIdeal.main_arg23)) (m ((c.tc : Thread Cert.TrRefIdeal.nD Cert.TrRefIdeal.τ).loc Cert.TrRefIdeal.main_arg24)) (m ((c.tc : Thread Cert.TrRefIdeal.nD Cert.TrRefIdeal.τ).loc Cert.TrRefIdeal.main_arg25))) = (fun _ => 1#1)

def Pre_Gnn [hPre_bundle_in_range : Cert.Pre_bundle_in_range.Facts] (m : (ℓ : Loc Cert.Gnn.nD Cert.Gnn.τ Cert.Gnn.sig) → Buf (Elt Bits) ℓ) : Prop :=
  ∀ c : Dev Cert.Gnn.nD,
    (Cert.Pre_bundle_in_range.fn (F := Bits) (m ((c.tc : Thread Cert.Gnn.nD Cert.Gnn.τ).loc Cert.Gnn.main_arg0)) (m ((c.tc : Thread Cert.Gnn.nD Cert.Gnn.τ).loc Cert.Gnn.main_arg1)) (m ((c.tc : Thread Cert.Gnn.nD Cert.Gnn.τ).loc Cert.Gnn.main_arg2)) (m ((c.tc : Thread Cert.Gnn.nD Cert.Gnn.τ).loc Cert.Gnn.main_arg3)) (m ((c.tc : Thread Cert.Gnn.nD Cert.Gnn.τ).loc Cert.Gnn.main_arg4)) (m ((c.tc : Thread Cert.Gnn.nD Cert.Gnn.τ).loc Cert.Gnn.main_arg5)) (m ((c.tc : Thread Cert.Gnn.nD Cert.Gnn.τ).loc Cert.Gnn.main_arg6))) = (fun _ => 1#1)

def Pre_GnnIdeal [hPre_bundle_in_range : Cert.Pre_bundle_in_range.Facts] (m : (ℓ : Loc Cert.GnnIdeal.nD Cert.GnnIdeal.τ Cert.GnnIdeal.sig) → Buf (Elt Ideal) ℓ) : Prop :=
  ∀ c : Dev Cert.GnnIdeal.nD,
    (Cert.Pre_bundle_in_range.fn (F := Ideal) (m ((c.tc : Thread Cert.GnnIdeal.nD Cert.GnnIdeal.τ).loc Cert.GnnIdeal.main_arg0)) (m ((c.tc : Thread Cert.GnnIdeal.nD Cert.GnnIdeal.τ).loc Cert.GnnIdeal.main_arg1)) (m ((c.tc : Thread Cert.GnnIdeal.nD Cert.GnnIdeal.τ).loc Cert.GnnIdeal.main_arg2)) (m ((c.tc : Thread Cert.GnnIdeal.nD Cert.GnnIdeal.τ).loc Cert.GnnIdeal.main_arg3)) (m ((c.tc : Thread Cert.GnnIdeal.nD Cert.GnnIdeal.τ).loc Cert.GnnIdeal.main_arg4)) (m ((c.tc : Thread Cert.GnnIdeal.nD Cert.GnnIdeal.τ).loc Cert.GnnIdeal.main_arg5)) (m ((c.tc : Thread Cert.GnnIdeal.nD Cert.GnnIdeal.τ).loc Cert.GnnIdeal.main_arg6))) = (fun _ => 1#1)

def Pre_GnnIdeal_gnn_in_range [hPre_gnn_in_range : Cert.Pre_gnn_in_range.Facts] (m : (ℓ : Loc Cert.GnnIdeal.nD Cert.GnnIdeal.τ Cert.GnnIdeal.sig) → Buf (Elt Ideal) ℓ) : Prop :=
  ∀ c : Dev Cert.GnnIdeal.nD,
    (Cert.Pre_gnn_in_range.fn (F := Ideal) (m ((c.tc : Thread Cert.GnnIdeal.nD Cert.GnnIdeal.τ).loc Cert.GnnIdeal.main_arg0)) (m ((c.tc : Thread Cert.GnnIdeal.nD Cert.GnnIdeal.τ).loc Cert.GnnIdeal.main_arg1)) (m ((c.tc : Thread Cert.GnnIdeal.nD Cert.GnnIdeal.τ).loc Cert.GnnIdeal.main_arg2)) (m ((c.tc : Thread Cert.GnnIdeal.nD Cert.GnnIdeal.τ).loc Cert.GnnIdeal.main_arg3)) (m ((c.tc : Thread Cert.GnnIdeal.nD Cert.GnnIdeal.τ).loc Cert.GnnIdeal.main_arg4)) (m ((c.tc : Thread Cert.GnnIdeal.nD Cert.GnnIdeal.τ).loc Cert.GnnIdeal.main_arg5)) (m ((c.tc : Thread Cert.GnnIdeal.nD Cert.GnnIdeal.τ).loc Cert.GnnIdeal.main_arg6))) = (fun _ => 1#1)

def Pre_GnnRefIdeal (m : (ℓ : Loc Cert.GnnRefIdeal.nD Cert.GnnRefIdeal.τ Cert.GnnRefIdeal.sig) → Buf (Elt Ideal) ℓ) : Prop :=
  True

def Pre_GnnRefIdeal_gnn_in_range [hPre_gnn_in_range : Cert.Pre_gnn_in_range.Facts] (m : (ℓ : Loc Cert.GnnRefIdeal.nD Cert.GnnRefIdeal.τ Cert.GnnRefIdeal.sig) → Buf (Elt Ideal) ℓ) : Prop :=
  ∀ c : Dev Cert.GnnRefIdeal.nD,
    (Cert.Pre_gnn_in_range.fn (F := Ideal) (m ((c.tc : Thread Cert.GnnRefIdeal.nD Cert.GnnRefIdeal.τ).loc Cert.GnnRefIdeal.main_arg0)) (m ((c.tc : Thread Cert.GnnRefIdeal.nD Cert.GnnRefIdeal.τ).loc Cert.GnnRefIdeal.main_arg1)) (m ((c.tc : Thread Cert.GnnRefIdeal.nD Cert.GnnRefIdeal.τ).loc Cert.GnnRefIdeal.main_arg2)) (m ((c.tc : Thread Cert.GnnRefIdeal.nD Cert.GnnRefIdeal.τ).loc Cert.GnnRefIdeal.main_arg3)) (m ((c.tc : Thread Cert.GnnRefIdeal.nD Cert.GnnRefIdeal.τ).loc Cert.GnnRefIdeal.main_arg4)) (m ((c.tc : Thread Cert.GnnRefIdeal.nD Cert.GnnRefIdeal.τ).loc Cert.GnnRefIdeal.main_arg5)) (m ((c.tc : Thread Cert.GnnRefIdeal.nD Cert.GnnRefIdeal.τ).loc Cert.GnnRefIdeal.main_arg6))) = (fun _ => 1#1)

def quiescent_Tr [hTr : Cert.Tr.Facts] : Prop :=
  ∀ (m : (ℓ : Loc Cert.Tr.nD Cert.Tr.τ Cert.Tr.sig) → Buf (Elt Bits) ℓ) (g : Dev Cert.Tr.nD → PrngReg), Pre_Tr m →
    θ_run (Cert.Tr.defs (F := Bits)) (onTc (τ := Cert.Tr.τ) (Cert.Tr.main (F := Bits))) ⟨m, fun _ => 0, g⟩ (fun r => (∀ c : Dev Cert.Tr.nD,
      r.2.mem ((c.tc : Thread Cert.Tr.nD Cert.Tr.τ).loc Cert.Tr.main_arg0) = m ((c.tc : Thread Cert.Tr.nD Cert.Tr.τ).loc Cert.Tr.main_arg0)
      ∧ r.2.mem ((c.tc : Thread Cert.Tr.nD Cert.Tr.τ).loc Cert.Tr.main_arg1) = m ((c.tc : Thread Cert.Tr.nD Cert.Tr.τ).loc Cert.Tr.main_arg1)
      ∧ r.2.mem ((c.tc : Thread Cert.Tr.nD Cert.Tr.τ).loc Cert.Tr.main_arg2) = m ((c.tc : Thread Cert.Tr.nD Cert.Tr.τ).loc Cert.Tr.main_arg2)
      ∧ r.2.mem ((c.tc : Thread Cert.Tr.nD Cert.Tr.τ).loc Cert.Tr.main_arg3) = m ((c.tc : Thread Cert.Tr.nD Cert.Tr.τ).loc Cert.Tr.main_arg3)
      ∧ r.2.mem ((c.tc : Thread Cert.Tr.nD Cert.Tr.τ).loc Cert.Tr.main_arg4) = m ((c.tc : Thread Cert.Tr.nD Cert.Tr.τ).loc Cert.Tr.main_arg4)
      ∧ r.2.mem ((c.tc : Thread Cert.Tr.nD Cert.Tr.τ).loc Cert.Tr.main_arg5) = m ((c.tc : Thread Cert.Tr.nD Cert.Tr.τ).loc Cert.Tr.main_arg5)
      ∧ r.2.mem ((c.tc : Thread Cert.Tr.nD Cert.Tr.τ).loc Cert.Tr.main_arg6) = m ((c.tc : Thread Cert.Tr.nD Cert.Tr.τ).loc Cert.Tr.main_arg6)
      ∧ r.2.mem ((c.tc : Thread Cert.Tr.nD Cert.Tr.τ).loc Cert.Tr.main_arg7) = m ((c.tc : Thread Cert.Tr.nD Cert.Tr.τ).loc Cert.Tr.main_arg7)
      ∧ r.2.mem ((c.tc : Thread Cert.Tr.nD Cert.Tr.τ).loc Cert.Tr.main_arg8) = m ((c.tc : Thread Cert.Tr.nD Cert.Tr.τ).loc Cert.Tr.main_arg8)
      ∧ r.2.mem ((c.tc : Thread Cert.Tr.nD Cert.Tr.τ).loc Cert.Tr.main_arg9) = m ((c.tc : Thread Cert.Tr.nD Cert.Tr.τ).loc Cert.Tr.main_arg9)
      ∧ r.2.mem ((c.tc : Thread Cert.Tr.nD Cert.Tr.τ).loc Cert.Tr.main_arg10) = m ((c.tc : Thread Cert.Tr.nD Cert.Tr.τ).loc Cert.Tr.main_arg10)
      ∧ r.2.mem ((c.tc : Thread Cert.Tr.nD Cert.Tr.τ).loc Cert.Tr.main_arg11) = m ((c.tc : Thread Cert.Tr.nD Cert.Tr.τ).loc Cert.Tr.main_arg11)
      ∧ r.2.mem ((c.tc : Thread Cert.Tr.nD Cert.Tr.τ).loc Cert.Tr.main_arg12) = m ((c.tc : Thread Cert.Tr.nD Cert.Tr.τ).loc Cert.Tr.main_arg12)
      ∧ r.2.mem ((c.tc : Thread Cert.Tr.nD Cert.Tr.τ).loc Cert.Tr.main_arg13) = m ((c.tc : Thread Cert.Tr.nD Cert.Tr.τ).loc Cert.Tr.main_arg13)
      ∧ r.2.mem ((c.tc : Thread Cert.Tr.nD Cert.Tr.τ).loc Cert.Tr.main_arg14) = m ((c.tc : Thread Cert.Tr.nD Cert.Tr.τ).loc Cert.Tr.main_arg14)
      ∧ r.2.mem ((c.tc : Thread Cert.Tr.nD Cert.Tr.τ).loc Cert.Tr.main_arg15) = m ((c.tc : Thread Cert.Tr.nD Cert.Tr.τ).loc Cert.Tr.main_arg15)
      ∧ r.2.mem ((c.tc : Thread Cert.Tr.nD Cert.Tr.τ).loc Cert.Tr.main_arg16) = m ((c.tc : Thread Cert.Tr.nD Cert.Tr.τ).loc Cert.Tr.main_arg16)
      ∧ r.2.mem ((c.tc : Thread Cert.Tr.nD Cert.Tr.τ).loc Cert.Tr.main_arg17) = m ((c.tc : Thread Cert.Tr.nD Cert.Tr.τ).loc Cert.Tr.main_arg17)
      ∧ r.2.mem ((c.tc : Thread Cert.Tr.nD Cert.Tr.τ).loc Cert.Tr.main_arg18) = m ((c.tc : Thread Cert.Tr.nD Cert.Tr.τ).loc Cert.Tr.main_arg18)
      ∧ r.2.mem ((c.tc : Thread Cert.Tr.nD Cert.Tr.τ).loc Cert.Tr.main_arg19) = m ((c.tc : Thread Cert.Tr.nD Cert.Tr.τ).loc Cert.Tr.main_arg19)
      ∧ r.2.mem ((c.tc : Thread Cert.Tr.nD Cert.Tr.τ).loc Cert.Tr.main_arg20) = m ((c.tc : Thread Cert.Tr.nD Cert.Tr.τ).loc Cert.Tr.main_arg20)
      ∧ r.2.mem ((c.tc : Thread Cert.Tr.nD Cert.Tr.τ).loc Cert.Tr.main_arg21) = m ((c.tc : Thread Cert.Tr.nD Cert.Tr.τ).loc Cert.Tr.main_arg21)
      ∧ r.2.mem ((c.tc : Thread Cert.Tr.nD Cert.Tr.τ).loc Cert.Tr.main_arg22) = m ((c.tc : Thread Cert.Tr.nD Cert.Tr.τ).loc Cert.Tr.main_arg22)
      ∧ r.2.mem ((c.tc : Thread Cert.Tr.nD Cert.Tr.τ).loc Cert.Tr.main_arg23) = m ((c.tc : Thread Cert.Tr.nD Cert.Tr.τ).loc Cert.Tr.main_arg23)
      ∧ r.2.mem ((c.tc : Thread Cert.Tr.nD Cert.Tr.τ).loc Cert.Tr.main_arg24) = m ((c.tc : Thread Cert.Tr.nD Cert.Tr.τ).loc Cert.Tr.main_arg24)
      ∧ r.2.mem ((c.tc : Thread Cert.Tr.nD Cert.Tr.τ).loc Cert.Tr.main_arg25) = m ((c.tc : Thread Cert.Tr.nD Cert.Tr.τ).loc Cert.Tr.main_arg25))
      ∧ r.2.sem = fun _ => 0)

def quiescent_TrIdeal [hTrIdeal : Cert.TrIdeal.Facts] : Prop :=
  ∀ (m : (ℓ : Loc Cert.TrIdeal.nD Cert.TrIdeal.τ Cert.TrIdeal.sig) → Buf (Elt Ideal) ℓ) (g : Dev Cert.TrIdeal.nD → PrngReg), Pre_TrIdeal m →
    θ_run (Cert.TrIdeal.defs (F := Ideal)) (onTc (τ := Cert.TrIdeal.τ) (Cert.TrIdeal.main (F := Ideal))) ⟨m, fun _ => 0, g⟩ (fun r => (∀ c : Dev Cert.TrIdeal.nD,
      r.2.mem ((c.tc : Thread Cert.TrIdeal.nD Cert.TrIdeal.τ).loc Cert.TrIdeal.main_arg0) = m ((c.tc : Thread Cert.TrIdeal.nD Cert.TrIdeal.τ).loc Cert.TrIdeal.main_arg0)
      ∧ r.2.mem ((c.tc : Thread Cert.TrIdeal.nD Cert.TrIdeal.τ).loc Cert.TrIdeal.main_arg1) = m ((c.tc : Thread Cert.TrIdeal.nD Cert.TrIdeal.τ).loc Cert.TrIdeal.main_arg1)
      ∧ r.2.mem ((c.tc : Thread Cert.TrIdeal.nD Cert.TrIdeal.τ).loc Cert.TrIdeal.main_arg2) = m ((c.tc : Thread Cert.TrIdeal.nD Cert.TrIdeal.τ).loc Cert.TrIdeal.main_arg2)
      ∧ r.2.mem ((c.tc : Thread Cert.TrIdeal.nD Cert.TrIdeal.τ).loc Cert.TrIdeal.main_arg3) = m ((c.tc : Thread Cert.TrIdeal.nD Cert.TrIdeal.τ).loc Cert.TrIdeal.main_arg3)
      ∧ r.2.mem ((c.tc : Thread Cert.TrIdeal.nD Cert.TrIdeal.τ).loc Cert.TrIdeal.main_arg4) = m ((c.tc : Thread Cert.TrIdeal.nD Cert.TrIdeal.τ).loc Cert.TrIdeal.main_arg4)
      ∧ r.2.mem ((c.tc : Thread Cert.TrIdeal.nD Cert.TrIdeal.τ).loc Cert.TrIdeal.main_arg5) = m ((c.tc : Thread Cert.TrIdeal.nD Cert.TrIdeal.τ).loc Cert.TrIdeal.main_arg5)
      ∧ r.2.mem ((c.tc : Thread Cert.TrIdeal.nD Cert.TrIdeal.τ).loc Cert.TrIdeal.main_arg6) = m ((c.tc : Thread Cert.TrIdeal.nD Cert.TrIdeal.τ).loc Cert.TrIdeal.main_arg6)
      ∧ r.2.mem ((c.tc : Thread Cert.TrIdeal.nD Cert.TrIdeal.τ).loc Cert.TrIdeal.main_arg7) = m ((c.tc : Thread Cert.TrIdeal.nD Cert.TrIdeal.τ).loc Cert.TrIdeal.main_arg7)
      ∧ r.2.mem ((c.tc : Thread Cert.TrIdeal.nD Cert.TrIdeal.τ).loc Cert.TrIdeal.main_arg8) = m ((c.tc : Thread Cert.TrIdeal.nD Cert.TrIdeal.τ).loc Cert.TrIdeal.main_arg8)
      ∧ r.2.mem ((c.tc : Thread Cert.TrIdeal.nD Cert.TrIdeal.τ).loc Cert.TrIdeal.main_arg9) = m ((c.tc : Thread Cert.TrIdeal.nD Cert.TrIdeal.τ).loc Cert.TrIdeal.main_arg9)
      ∧ r.2.mem ((c.tc : Thread Cert.TrIdeal.nD Cert.TrIdeal.τ).loc Cert.TrIdeal.main_arg10) = m ((c.tc : Thread Cert.TrIdeal.nD Cert.TrIdeal.τ).loc Cert.TrIdeal.main_arg10)
      ∧ r.2.mem ((c.tc : Thread Cert.TrIdeal.nD Cert.TrIdeal.τ).loc Cert.TrIdeal.main_arg11) = m ((c.tc : Thread Cert.TrIdeal.nD Cert.TrIdeal.τ).loc Cert.TrIdeal.main_arg11)
      ∧ r.2.mem ((c.tc : Thread Cert.TrIdeal.nD Cert.TrIdeal.τ).loc Cert.TrIdeal.main_arg12) = m ((c.tc : Thread Cert.TrIdeal.nD Cert.TrIdeal.τ).loc Cert.TrIdeal.main_arg12)
      ∧ r.2.mem ((c.tc : Thread Cert.TrIdeal.nD Cert.TrIdeal.τ).loc Cert.TrIdeal.main_arg13) = m ((c.tc : Thread Cert.TrIdeal.nD Cert.TrIdeal.τ).loc Cert.TrIdeal.main_arg13)
      ∧ r.2.mem ((c.tc : Thread Cert.TrIdeal.nD Cert.TrIdeal.τ).loc Cert.TrIdeal.main_arg14) = m ((c.tc : Thread Cert.TrIdeal.nD Cert.TrIdeal.τ).loc Cert.TrIdeal.main_arg14)
      ∧ r.2.mem ((c.tc : Thread Cert.TrIdeal.nD Cert.TrIdeal.τ).loc Cert.TrIdeal.main_arg15) = m ((c.tc : Thread Cert.TrIdeal.nD Cert.TrIdeal.τ).loc Cert.TrIdeal.main_arg15)
      ∧ r.2.mem ((c.tc : Thread Cert.TrIdeal.nD Cert.TrIdeal.τ).loc Cert.TrIdeal.main_arg16) = m ((c.tc : Thread Cert.TrIdeal.nD Cert.TrIdeal.τ).loc Cert.TrIdeal.main_arg16)
      ∧ r.2.mem ((c.tc : Thread Cert.TrIdeal.nD Cert.TrIdeal.τ).loc Cert.TrIdeal.main_arg17) = m ((c.tc : Thread Cert.TrIdeal.nD Cert.TrIdeal.τ).loc Cert.TrIdeal.main_arg17)
      ∧ r.2.mem ((c.tc : Thread Cert.TrIdeal.nD Cert.TrIdeal.τ).loc Cert.TrIdeal.main_arg18) = m ((c.tc : Thread Cert.TrIdeal.nD Cert.TrIdeal.τ).loc Cert.TrIdeal.main_arg18)
      ∧ r.2.mem ((c.tc : Thread Cert.TrIdeal.nD Cert.TrIdeal.τ).loc Cert.TrIdeal.main_arg19) = m ((c.tc : Thread Cert.TrIdeal.nD Cert.TrIdeal.τ).loc Cert.TrIdeal.main_arg19)
      ∧ r.2.mem ((c.tc : Thread Cert.TrIdeal.nD Cert.TrIdeal.τ).loc Cert.TrIdeal.main_arg20) = m ((c.tc : Thread Cert.TrIdeal.nD Cert.TrIdeal.τ).loc Cert.TrIdeal.main_arg20)
      ∧ r.2.mem ((c.tc : Thread Cert.TrIdeal.nD Cert.TrIdeal.τ).loc Cert.TrIdeal.main_arg21) = m ((c.tc : Thread Cert.TrIdeal.nD Cert.TrIdeal.τ).loc Cert.TrIdeal.main_arg21)
      ∧ r.2.mem ((c.tc : Thread Cert.TrIdeal.nD Cert.TrIdeal.τ).loc Cert.TrIdeal.main_arg22) = m ((c.tc : Thread Cert.TrIdeal.nD Cert.TrIdeal.τ).loc Cert.TrIdeal.main_arg22)
      ∧ r.2.mem ((c.tc : Thread Cert.TrIdeal.nD Cert.TrIdeal.τ).loc Cert.TrIdeal.main_arg23) = m ((c.tc : Thread Cert.TrIdeal.nD Cert.TrIdeal.τ).loc Cert.TrIdeal.main_arg23)
      ∧ r.2.mem ((c.tc : Thread Cert.TrIdeal.nD Cert.TrIdeal.τ).loc Cert.TrIdeal.main_arg24) = m ((c.tc : Thread Cert.TrIdeal.nD Cert.TrIdeal.τ).loc Cert.TrIdeal.main_arg24)
      ∧ r.2.mem ((c.tc : Thread Cert.TrIdeal.nD Cert.TrIdeal.τ).loc Cert.TrIdeal.main_arg25) = m ((c.tc : Thread Cert.TrIdeal.nD Cert.TrIdeal.τ).loc Cert.TrIdeal.main_arg25))
      ∧ r.2.sem = fun _ => 0)

def quiescent_TrIdeal_pre_ids_in_range [hTrIdeal : Cert.TrIdeal.Facts] [hPre_ids_in_range : Cert.Pre_ids_in_range.Facts] : Prop :=
  ∀ (m : (ℓ : Loc Cert.TrIdeal.nD Cert.TrIdeal.τ Cert.TrIdeal.sig) → Buf (Elt Ideal) ℓ) (g : Dev Cert.TrIdeal.nD → PrngReg), Pre_TrIdeal_ids_in_range m →
    θ_run (Cert.TrIdeal.defs (F := Ideal)) (onTc (τ := Cert.TrIdeal.τ) (Cert.TrIdeal.main (F := Ideal))) ⟨m, fun _ => 0, g⟩ (fun r => (∀ c : Dev Cert.TrIdeal.nD,
      r.2.mem ((c.tc : Thread Cert.TrIdeal.nD Cert.TrIdeal.τ).loc Cert.TrIdeal.main_arg0) = m ((c.tc : Thread Cert.TrIdeal.nD Cert.TrIdeal.τ).loc Cert.TrIdeal.main_arg0)
      ∧ r.2.mem ((c.tc : Thread Cert.TrIdeal.nD Cert.TrIdeal.τ).loc Cert.TrIdeal.main_arg1) = m ((c.tc : Thread Cert.TrIdeal.nD Cert.TrIdeal.τ).loc Cert.TrIdeal.main_arg1)
      ∧ r.2.mem ((c.tc : Thread Cert.TrIdeal.nD Cert.TrIdeal.τ).loc Cert.TrIdeal.main_arg2) = m ((c.tc : Thread Cert.TrIdeal.nD Cert.TrIdeal.τ).loc Cert.TrIdeal.main_arg2)
      ∧ r.2.mem ((c.tc : Thread Cert.TrIdeal.nD Cert.TrIdeal.τ).loc Cert.TrIdeal.main_arg3) = m ((c.tc : Thread Cert.TrIdeal.nD Cert.TrIdeal.τ).loc Cert.TrIdeal.main_arg3)
      ∧ r.2.mem ((c.tc : Thread Cert.TrIdeal.nD Cert.TrIdeal.τ).loc Cert.TrIdeal.main_arg4) = m ((c.tc : Thread Cert.TrIdeal.nD Cert.TrIdeal.τ).loc Cert.TrIdeal.main_arg4)
      ∧ r.2.mem ((c.tc : Thread Cert.TrIdeal.nD Cert.TrIdeal.τ).loc Cert.TrIdeal.main_arg5) = m ((c.tc : Thread Cert.TrIdeal.nD Cert.TrIdeal.τ).loc Cert.TrIdeal.main_arg5)
      ∧ r.2.mem ((c.tc : Thread Cert.TrIdeal.nD Cert.TrIdeal.τ).loc Cert.TrIdeal.main_arg6) = m ((c.tc : Thread Cert.TrIdeal.nD Cert.TrIdeal.τ).loc Cert.TrIdeal.main_arg6)
      ∧ r.2.mem ((c.tc : Thread Cert.TrIdeal.nD Cert.TrIdeal.τ).loc Cert.TrIdeal.main_arg7) = m ((c.tc : Thread Cert.TrIdeal.nD Cert.TrIdeal.τ).loc Cert.TrIdeal.main_arg7)
      ∧ r.2.mem ((c.tc : Thread Cert.TrIdeal.nD Cert.TrIdeal.τ).loc Cert.TrIdeal.main_arg8) = m ((c.tc : Thread Cert.TrIdeal.nD Cert.TrIdeal.τ).loc Cert.TrIdeal.main_arg8)
      ∧ r.2.mem ((c.tc : Thread Cert.TrIdeal.nD Cert.TrIdeal.τ).loc Cert.TrIdeal.main_arg9) = m ((c.tc : Thread Cert.TrIdeal.nD Cert.TrIdeal.τ).loc Cert.TrIdeal.main_arg9)
      ∧ r.2.mem ((c.tc : Thread Cert.TrIdeal.nD Cert.TrIdeal.τ).loc Cert.TrIdeal.main_arg10) = m ((c.tc : Thread Cert.TrIdeal.nD Cert.TrIdeal.τ).loc Cert.TrIdeal.main_arg10)
      ∧ r.2.mem ((c.tc : Thread Cert.TrIdeal.nD Cert.TrIdeal.τ).loc Cert.TrIdeal.main_arg11) = m ((c.tc : Thread Cert.TrIdeal.nD Cert.TrIdeal.τ).loc Cert.TrIdeal.main_arg11)
      ∧ r.2.mem ((c.tc : Thread Cert.TrIdeal.nD Cert.TrIdeal.τ).loc Cert.TrIdeal.main_arg12) = m ((c.tc : Thread Cert.TrIdeal.nD Cert.TrIdeal.τ).loc Cert.TrIdeal.main_arg12)
      ∧ r.2.mem ((c.tc : Thread Cert.TrIdeal.nD Cert.TrIdeal.τ).loc Cert.TrIdeal.main_arg13) = m ((c.tc : Thread Cert.TrIdeal.nD Cert.TrIdeal.τ).loc Cert.TrIdeal.main_arg13)
      ∧ r.2.mem ((c.tc : Thread Cert.TrIdeal.nD Cert.TrIdeal.τ).loc Cert.TrIdeal.main_arg14) = m ((c.tc : Thread Cert.TrIdeal.nD Cert.TrIdeal.τ).loc Cert.TrIdeal.main_arg14)
      ∧ r.2.mem ((c.tc : Thread Cert.TrIdeal.nD Cert.TrIdeal.τ).loc Cert.TrIdeal.main_arg15) = m ((c.tc : Thread Cert.TrIdeal.nD Cert.TrIdeal.τ).loc Cert.TrIdeal.main_arg15)
      ∧ r.2.mem ((c.tc : Thread Cert.TrIdeal.nD Cert.TrIdeal.τ).loc Cert.TrIdeal.main_arg16) = m ((c.tc : Thread Cert.TrIdeal.nD Cert.TrIdeal.τ).loc Cert.TrIdeal.main_arg16)
      ∧ r.2.mem ((c.tc : Thread Cert.TrIdeal.nD Cert.TrIdeal.τ).loc Cert.TrIdeal.main_arg17) = m ((c.tc : Thread Cert.TrIdeal.nD Cert.TrIdeal.τ).loc Cert.TrIdeal.main_arg17)
      ∧ r.2.mem ((c.tc : Thread Cert.TrIdeal.nD Cert.TrIdeal.τ).loc Cert.TrIdeal.main_arg18) = m ((c.tc : Thread Cert.TrIdeal.nD Cert.TrIdeal.τ).loc Cert.TrIdeal.main_arg18)
      ∧ r.2.mem ((c.tc : Thread Cert.TrIdeal.nD Cert.TrIdeal.τ).loc Cert.TrIdeal.main_arg19) = m ((c.tc : Thread Cert.TrIdeal.nD Cert.TrIdeal.τ).loc Cert.TrIdeal.main_arg19)
      ∧ r.2.mem ((c.tc : Thread Cert.TrIdeal.nD Cert.TrIdeal.τ).loc Cert.TrIdeal.main_arg20) = m ((c.tc : Thread Cert.TrIdeal.nD Cert.TrIdeal.τ).loc Cert.TrIdeal.main_arg20)
      ∧ r.2.mem ((c.tc : Thread Cert.TrIdeal.nD Cert.TrIdeal.τ).loc Cert.TrIdeal.main_arg21) = m ((c.tc : Thread Cert.TrIdeal.nD Cert.TrIdeal.τ).loc Cert.TrIdeal.main_arg21)
      ∧ r.2.mem ((c.tc : Thread Cert.TrIdeal.nD Cert.TrIdeal.τ).loc Cert.TrIdeal.main_arg22) = m ((c.tc : Thread Cert.TrIdeal.nD Cert.TrIdeal.τ).loc Cert.TrIdeal.main_arg22)
      ∧ r.2.mem ((c.tc : Thread Cert.TrIdeal.nD Cert.TrIdeal.τ).loc Cert.TrIdeal.main_arg23) = m ((c.tc : Thread Cert.TrIdeal.nD Cert.TrIdeal.τ).loc Cert.TrIdeal.main_arg23)
      ∧ r.2.mem ((c.tc : Thread Cert.TrIdeal.nD Cert.TrIdeal.τ).loc Cert.TrIdeal.main_arg24) = m ((c.tc : Thread Cert.TrIdeal.nD Cert.TrIdeal.τ).loc Cert.TrIdeal.main_arg24)
      ∧ r.2.mem ((c.tc : Thread Cert.TrIdeal.nD Cert.TrIdeal.τ).loc Cert.TrIdeal.main_arg25) = m ((c.tc : Thread Cert.TrIdeal.nD Cert.TrIdeal.τ).loc Cert.TrIdeal.main_arg25))
      ∧ r.2.sem = fun _ => 0)

def quiescent_TrRefIdeal [hTrRefIdeal : Cert.TrRefIdeal.Facts] : Prop :=
  ∀ (m : (ℓ : Loc Cert.TrRefIdeal.nD Cert.TrRefIdeal.τ Cert.TrRefIdeal.sig) → Buf (Elt Ideal) ℓ) (g : Dev Cert.TrRefIdeal.nD → PrngReg), Pre_TrRefIdeal m →
    θ_run (Cert.TrRefIdeal.defs (F := Ideal)) (onTc (τ := Cert.TrRefIdeal.τ) (Cert.TrRefIdeal.main (F := Ideal))) ⟨m, fun _ => 0, g⟩ (fun r => (∀ c : Dev Cert.TrRefIdeal.nD,
      r.2.mem ((c.tc : Thread Cert.TrRefIdeal.nD Cert.TrRefIdeal.τ).loc Cert.TrRefIdeal.main_arg0) = m ((c.tc : Thread Cert.TrRefIdeal.nD Cert.TrRefIdeal.τ).loc Cert.TrRefIdeal.main_arg0)
      ∧ r.2.mem ((c.tc : Thread Cert.TrRefIdeal.nD Cert.TrRefIdeal.τ).loc Cert.TrRefIdeal.main_arg1) = m ((c.tc : Thread Cert.TrRefIdeal.nD Cert.TrRefIdeal.τ).loc Cert.TrRefIdeal.main_arg1)
      ∧ r.2.mem ((c.tc : Thread Cert.TrRefIdeal.nD Cert.TrRefIdeal.τ).loc Cert.TrRefIdeal.main_arg2) = m ((c.tc : Thread Cert.TrRefIdeal.nD Cert.TrRefIdeal.τ).loc Cert.TrRefIdeal.main_arg2)
      ∧ r.2.mem ((c.tc : Thread Cert.TrRefIdeal.nD Cert.TrRefIdeal.τ).loc Cert.TrRefIdeal.main_arg3) = m ((c.tc : Thread Cert.TrRefIdeal.nD Cert.TrRefIdeal.τ).loc Cert.TrRefIdeal.main_arg3)
      ∧ r.2.mem ((c.tc : Thread Cert.TrRefIdeal.nD Cert.TrRefIdeal.τ).loc Cert.TrRefIdeal.main_arg4) = m ((c.tc : Thread Cert.TrRefIdeal.nD Cert.TrRefIdeal.τ).loc Cert.TrRefIdeal.main_arg4)
      ∧ r.2.mem ((c.tc : Thread Cert.TrRefIdeal.nD Cert.TrRefIdeal.τ).loc Cert.TrRefIdeal.main_arg5) = m ((c.tc : Thread Cert.TrRefIdeal.nD Cert.TrRefIdeal.τ).loc Cert.TrRefIdeal.main_arg5)
      ∧ r.2.mem ((c.tc : Thread Cert.TrRefIdeal.nD Cert.TrRefIdeal.τ).loc Cert.TrRefIdeal.main_arg6) = m ((c.tc : Thread Cert.TrRefIdeal.nD Cert.TrRefIdeal.τ).loc Cert.TrRefIdeal.main_arg6)
      ∧ r.2.mem ((c.tc : Thread Cert.TrRefIdeal.nD Cert.TrRefIdeal.τ).loc Cert.TrRefIdeal.main_arg7) = m ((c.tc : Thread Cert.TrRefIdeal.nD Cert.TrRefIdeal.τ).loc Cert.TrRefIdeal.main_arg7)
      ∧ r.2.mem ((c.tc : Thread Cert.TrRefIdeal.nD Cert.TrRefIdeal.τ).loc Cert.TrRefIdeal.main_arg8) = m ((c.tc : Thread Cert.TrRefIdeal.nD Cert.TrRefIdeal.τ).loc Cert.TrRefIdeal.main_arg8)
      ∧ r.2.mem ((c.tc : Thread Cert.TrRefIdeal.nD Cert.TrRefIdeal.τ).loc Cert.TrRefIdeal.main_arg9) = m ((c.tc : Thread Cert.TrRefIdeal.nD Cert.TrRefIdeal.τ).loc Cert.TrRefIdeal.main_arg9)
      ∧ r.2.mem ((c.tc : Thread Cert.TrRefIdeal.nD Cert.TrRefIdeal.τ).loc Cert.TrRefIdeal.main_arg10) = m ((c.tc : Thread Cert.TrRefIdeal.nD Cert.TrRefIdeal.τ).loc Cert.TrRefIdeal.main_arg10)
      ∧ r.2.mem ((c.tc : Thread Cert.TrRefIdeal.nD Cert.TrRefIdeal.τ).loc Cert.TrRefIdeal.main_arg11) = m ((c.tc : Thread Cert.TrRefIdeal.nD Cert.TrRefIdeal.τ).loc Cert.TrRefIdeal.main_arg11)
      ∧ r.2.mem ((c.tc : Thread Cert.TrRefIdeal.nD Cert.TrRefIdeal.τ).loc Cert.TrRefIdeal.main_arg12) = m ((c.tc : Thread Cert.TrRefIdeal.nD Cert.TrRefIdeal.τ).loc Cert.TrRefIdeal.main_arg12)
      ∧ r.2.mem ((c.tc : Thread Cert.TrRefIdeal.nD Cert.TrRefIdeal.τ).loc Cert.TrRefIdeal.main_arg13) = m ((c.tc : Thread Cert.TrRefIdeal.nD Cert.TrRefIdeal.τ).loc Cert.TrRefIdeal.main_arg13)
      ∧ r.2.mem ((c.tc : Thread Cert.TrRefIdeal.nD Cert.TrRefIdeal.τ).loc Cert.TrRefIdeal.main_arg14) = m ((c.tc : Thread Cert.TrRefIdeal.nD Cert.TrRefIdeal.τ).loc Cert.TrRefIdeal.main_arg14)
      ∧ r.2.mem ((c.tc : Thread Cert.TrRefIdeal.nD Cert.TrRefIdeal.τ).loc Cert.TrRefIdeal.main_arg15) = m ((c.tc : Thread Cert.TrRefIdeal.nD Cert.TrRefIdeal.τ).loc Cert.TrRefIdeal.main_arg15)
      ∧ r.2.mem ((c.tc : Thread Cert.TrRefIdeal.nD Cert.TrRefIdeal.τ).loc Cert.TrRefIdeal.main_arg16) = m ((c.tc : Thread Cert.TrRefIdeal.nD Cert.TrRefIdeal.τ).loc Cert.TrRefIdeal.main_arg16)
      ∧ r.2.mem ((c.tc : Thread Cert.TrRefIdeal.nD Cert.TrRefIdeal.τ).loc Cert.TrRefIdeal.main_arg17) = m ((c.tc : Thread Cert.TrRefIdeal.nD Cert.TrRefIdeal.τ).loc Cert.TrRefIdeal.main_arg17)
      ∧ r.2.mem ((c.tc : Thread Cert.TrRefIdeal.nD Cert.TrRefIdeal.τ).loc Cert.TrRefIdeal.main_arg18) = m ((c.tc : Thread Cert.TrRefIdeal.nD Cert.TrRefIdeal.τ).loc Cert.TrRefIdeal.main_arg18)
      ∧ r.2.mem ((c.tc : Thread Cert.TrRefIdeal.nD Cert.TrRefIdeal.τ).loc Cert.TrRefIdeal.main_arg19) = m ((c.tc : Thread Cert.TrRefIdeal.nD Cert.TrRefIdeal.τ).loc Cert.TrRefIdeal.main_arg19)
      ∧ r.2.mem ((c.tc : Thread Cert.TrRefIdeal.nD Cert.TrRefIdeal.τ).loc Cert.TrRefIdeal.main_arg20) = m ((c.tc : Thread Cert.TrRefIdeal.nD Cert.TrRefIdeal.τ).loc Cert.TrRefIdeal.main_arg20)
      ∧ r.2.mem ((c.tc : Thread Cert.TrRefIdeal.nD Cert.TrRefIdeal.τ).loc Cert.TrRefIdeal.main_arg21) = m ((c.tc : Thread Cert.TrRefIdeal.nD Cert.TrRefIdeal.τ).loc Cert.TrRefIdeal.main_arg21)
      ∧ r.2.mem ((c.tc : Thread Cert.TrRefIdeal.nD Cert.TrRefIdeal.τ).loc Cert.TrRefIdeal.main_arg22) = m ((c.tc : Thread Cert.TrRefIdeal.nD Cert.TrRefIdeal.τ).loc Cert.TrRefIdeal.main_arg22)
      ∧ r.2.mem ((c.tc : Thread Cert.TrRefIdeal.nD Cert.TrRefIdeal.τ).loc Cert.TrRefIdeal.main_arg23) = m ((c.tc : Thread Cert.TrRefIdeal.nD Cert.TrRefIdeal.τ).loc Cert.TrRefIdeal.main_arg23)
      ∧ r.2.mem ((c.tc : Thread Cert.TrRefIdeal.nD Cert.TrRefIdeal.τ).loc Cert.TrRefIdeal.main_arg24) = m ((c.tc : Thread Cert.TrRefIdeal.nD Cert.TrRefIdeal.τ).loc Cert.TrRefIdeal.main_arg24)
      ∧ r.2.mem ((c.tc : Thread Cert.TrRefIdeal.nD Cert.TrRefIdeal.τ).loc Cert.TrRefIdeal.main_arg25) = m ((c.tc : Thread Cert.TrRefIdeal.nD Cert.TrRefIdeal.τ).loc Cert.TrRefIdeal.main_arg25))
      ∧ r.2.sem = fun _ => 0)

def quiescent_TrRefIdeal_pre_ids_in_range [hTrRefIdeal : Cert.TrRefIdeal.Facts] [hPre_ids_in_range : Cert.Pre_ids_in_range.Facts] : Prop :=
  ∀ (m : (ℓ : Loc Cert.TrRefIdeal.nD Cert.TrRefIdeal.τ Cert.TrRefIdeal.sig) → Buf (Elt Ideal) ℓ) (g : Dev Cert.TrRefIdeal.nD → PrngReg), Pre_TrRefIdeal_ids_in_range m →
    θ_run (Cert.TrRefIdeal.defs (F := Ideal)) (onTc (τ := Cert.TrRefIdeal.τ) (Cert.TrRefIdeal.main (F := Ideal))) ⟨m, fun _ => 0, g⟩ (fun r => (∀ c : Dev Cert.TrRefIdeal.nD,
      r.2.mem ((c.tc : Thread Cert.TrRefIdeal.nD Cert.TrRefIdeal.τ).loc Cert.TrRefIdeal.main_arg0) = m ((c.tc : Thread Cert.TrRefIdeal.nD Cert.TrRefIdeal.τ).loc Cert.TrRefIdeal.main_arg0)
      ∧ r.2.mem ((c.tc : Thread Cert.TrRefIdeal.nD Cert.TrRefIdeal.τ).loc Cert.TrRefIdeal.main_arg1) = m ((c.tc : Thread Cert.TrRefIdeal.nD Cert.TrRefIdeal.τ).loc Cert.TrRefIdeal.main_arg1)
      ∧ r.2.mem ((c.tc : Thread Cert.TrRefIdeal.nD Cert.TrRefIdeal.τ).loc Cert.TrRefIdeal.main_arg2) = m ((c.tc : Thread Cert.TrRefIdeal.nD Cert.TrRefIdeal.τ).loc Cert.TrRefIdeal.main_arg2)
      ∧ r.2.mem ((c.tc : Thread Cert.TrRefIdeal.nD Cert.TrRefIdeal.τ).loc Cert.TrRefIdeal.main_arg3) = m ((c.tc : Thread Cert.TrRefIdeal.nD Cert.TrRefIdeal.τ).loc Cert.TrRefIdeal.main_arg3)
      ∧ r.2.mem ((c.tc : Thread Cert.TrRefIdeal.nD Cert.TrRefIdeal.τ).loc Cert.TrRefIdeal.main_arg4) = m ((c.tc : Thread Cert.TrRefIdeal.nD Cert.TrRefIdeal.τ).loc Cert.TrRefIdeal.main_arg4)
      ∧ r.2.mem ((c.tc : Thread Cert.TrRefIdeal.nD Cert.TrRefIdeal.τ).loc Cert.TrRefIdeal.main_arg5) = m ((c.tc : Thread Cert.TrRefIdeal.nD Cert.TrRefIdeal.τ).loc Cert.TrRefIdeal.main_arg5)
      ∧ r.2.mem ((c.tc : Thread Cert.TrRefIdeal.nD Cert.TrRefIdeal.τ).loc Cert.TrRefIdeal.main_arg6) = m ((c.tc : Thread Cert.TrRefIdeal.nD Cert.TrRefIdeal.τ).loc Cert.TrRefIdeal.main_arg6)
      ∧ r.2.mem ((c.tc : Thread Cert.TrRefIdeal.nD Cert.TrRefIdeal.τ).loc Cert.TrRefIdeal.main_arg7) = m ((c.tc : Thread Cert.TrRefIdeal.nD Cert.TrRefIdeal.τ).loc Cert.TrRefIdeal.main_arg7)
      ∧ r.2.mem ((c.tc : Thread Cert.TrRefIdeal.nD Cert.TrRefIdeal.τ).loc Cert.TrRefIdeal.main_arg8) = m ((c.tc : Thread Cert.TrRefIdeal.nD Cert.TrRefIdeal.τ).loc Cert.TrRefIdeal.main_arg8)
      ∧ r.2.mem ((c.tc : Thread Cert.TrRefIdeal.nD Cert.TrRefIdeal.τ).loc Cert.TrRefIdeal.main_arg9) = m ((c.tc : Thread Cert.TrRefIdeal.nD Cert.TrRefIdeal.τ).loc Cert.TrRefIdeal.main_arg9)
      ∧ r.2.mem ((c.tc : Thread Cert.TrRefIdeal.nD Cert.TrRefIdeal.τ).loc Cert.TrRefIdeal.main_arg10) = m ((c.tc : Thread Cert.TrRefIdeal.nD Cert.TrRefIdeal.τ).loc Cert.TrRefIdeal.main_arg10)
      ∧ r.2.mem ((c.tc : Thread Cert.TrRefIdeal.nD Cert.TrRefIdeal.τ).loc Cert.TrRefIdeal.main_arg11) = m ((c.tc : Thread Cert.TrRefIdeal.nD Cert.TrRefIdeal.τ).loc Cert.TrRefIdeal.main_arg11)
      ∧ r.2.mem ((c.tc : Thread Cert.TrRefIdeal.nD Cert.TrRefIdeal.τ).loc Cert.TrRefIdeal.main_arg12) = m ((c.tc : Thread Cert.TrRefIdeal.nD Cert.TrRefIdeal.τ).loc Cert.TrRefIdeal.main_arg12)
      ∧ r.2.mem ((c.tc : Thread Cert.TrRefIdeal.nD Cert.TrRefIdeal.τ).loc Cert.TrRefIdeal.main_arg13) = m ((c.tc : Thread Cert.TrRefIdeal.nD Cert.TrRefIdeal.τ).loc Cert.TrRefIdeal.main_arg13)
      ∧ r.2.mem ((c.tc : Thread Cert.TrRefIdeal.nD Cert.TrRefIdeal.τ).loc Cert.TrRefIdeal.main_arg14) = m ((c.tc : Thread Cert.TrRefIdeal.nD Cert.TrRefIdeal.τ).loc Cert.TrRefIdeal.main_arg14)
      ∧ r.2.mem ((c.tc : Thread Cert.TrRefIdeal.nD Cert.TrRefIdeal.τ).loc Cert.TrRefIdeal.main_arg15) = m ((c.tc : Thread Cert.TrRefIdeal.nD Cert.TrRefIdeal.τ).loc Cert.TrRefIdeal.main_arg15)
      ∧ r.2.mem ((c.tc : Thread Cert.TrRefIdeal.nD Cert.TrRefIdeal.τ).loc Cert.TrRefIdeal.main_arg16) = m ((c.tc : Thread Cert.TrRefIdeal.nD Cert.TrRefIdeal.τ).loc Cert.TrRefIdeal.main_arg16)
      ∧ r.2.mem ((c.tc : Thread Cert.TrRefIdeal.nD Cert.TrRefIdeal.τ).loc Cert.TrRefIdeal.main_arg17) = m ((c.tc : Thread Cert.TrRefIdeal.nD Cert.TrRefIdeal.τ).loc Cert.TrRefIdeal.main_arg17)
      ∧ r.2.mem ((c.tc : Thread Cert.TrRefIdeal.nD Cert.TrRefIdeal.τ).loc Cert.TrRefIdeal.main_arg18) = m ((c.tc : Thread Cert.TrRefIdeal.nD Cert.TrRefIdeal.τ).loc Cert.TrRefIdeal.main_arg18)
      ∧ r.2.mem ((c.tc : Thread Cert.TrRefIdeal.nD Cert.TrRefIdeal.τ).loc Cert.TrRefIdeal.main_arg19) = m ((c.tc : Thread Cert.TrRefIdeal.nD Cert.TrRefIdeal.τ).loc Cert.TrRefIdeal.main_arg19)
      ∧ r.2.mem ((c.tc : Thread Cert.TrRefIdeal.nD Cert.TrRefIdeal.τ).loc Cert.TrRefIdeal.main_arg20) = m ((c.tc : Thread Cert.TrRefIdeal.nD Cert.TrRefIdeal.τ).loc Cert.TrRefIdeal.main_arg20)
      ∧ r.2.mem ((c.tc : Thread Cert.TrRefIdeal.nD Cert.TrRefIdeal.τ).loc Cert.TrRefIdeal.main_arg21) = m ((c.tc : Thread Cert.TrRefIdeal.nD Cert.TrRefIdeal.τ).loc Cert.TrRefIdeal.main_arg21)
      ∧ r.2.mem ((c.tc : Thread Cert.TrRefIdeal.nD Cert.TrRefIdeal.τ).loc Cert.TrRefIdeal.main_arg22) = m ((c.tc : Thread Cert.TrRefIdeal.nD Cert.TrRefIdeal.τ).loc Cert.TrRefIdeal.main_arg22)
      ∧ r.2.mem ((c.tc : Thread Cert.TrRefIdeal.nD Cert.TrRefIdeal.τ).loc Cert.TrRefIdeal.main_arg23) = m ((c.tc : Thread Cert.TrRefIdeal.nD Cert.TrRefIdeal.τ).loc Cert.TrRefIdeal.main_arg23)
      ∧ r.2.mem ((c.tc : Thread Cert.TrRefIdeal.nD Cert.TrRefIdeal.τ).loc Cert.TrRefIdeal.main_arg24) = m ((c.tc : Thread Cert.TrRefIdeal.nD Cert.TrRefIdeal.τ).loc Cert.TrRefIdeal.main_arg24)
      ∧ r.2.mem ((c.tc : Thread Cert.TrRefIdeal.nD Cert.TrRefIdeal.τ).loc Cert.TrRefIdeal.main_arg25) = m ((c.tc : Thread Cert.TrRefIdeal.nD Cert.TrRefIdeal.τ).loc Cert.TrRefIdeal.main_arg25))
      ∧ r.2.sem = fun _ => 0)

def quiescent_Gnn [hGnn : Cert.Gnn.Facts] [hPre_bundle_in_range : Cert.Pre_bundle_in_range.Facts] : Prop :=
  ∀ (m : (ℓ : Loc Cert.Gnn.nD Cert.Gnn.τ Cert.Gnn.sig) → Buf (Elt Bits) ℓ) (g : Dev Cert.Gnn.nD → PrngReg), Pre_Gnn m →
    θ_run (Cert.Gnn.defs (F := Bits)) (onTc (τ := Cert.Gnn.τ) (Cert.Gnn.main (F := Bits))) ⟨m, fun _ => 0, g⟩ (fun r => (∀ c : Dev Cert.Gnn.nD,
      r.2.mem ((c.tc : Thread Cert.Gnn.nD Cert.Gnn.τ).loc Cert.Gnn.main_arg0) = m ((c.tc : Thread Cert.Gnn.nD Cert.Gnn.τ).loc Cert.Gnn.main_arg0)
      ∧ r.2.mem ((c.tc : Thread Cert.Gnn.nD Cert.Gnn.τ).loc Cert.Gnn.main_arg1) = m ((c.tc : Thread Cert.Gnn.nD Cert.Gnn.τ).loc Cert.Gnn.main_arg1)
      ∧ r.2.mem ((c.tc : Thread Cert.Gnn.nD Cert.Gnn.τ).loc Cert.Gnn.main_arg2) = m ((c.tc : Thread Cert.Gnn.nD Cert.Gnn.τ).loc Cert.Gnn.main_arg2)
      ∧ r.2.mem ((c.tc : Thread Cert.Gnn.nD Cert.Gnn.τ).loc Cert.Gnn.main_arg3) = m ((c.tc : Thread Cert.Gnn.nD Cert.Gnn.τ).loc Cert.Gnn.main_arg3)
      ∧ r.2.mem ((c.tc : Thread Cert.Gnn.nD Cert.Gnn.τ).loc Cert.Gnn.main_arg4) = m ((c.tc : Thread Cert.Gnn.nD Cert.Gnn.τ).loc Cert.Gnn.main_arg4)
      ∧ r.2.mem ((c.tc : Thread Cert.Gnn.nD Cert.Gnn.τ).loc Cert.Gnn.main_arg5) = m ((c.tc : Thread Cert.Gnn.nD Cert.Gnn.τ).loc Cert.Gnn.main_arg5)
      ∧ r.2.mem ((c.tc : Thread Cert.Gnn.nD Cert.Gnn.τ).loc Cert.Gnn.main_arg6) = m ((c.tc : Thread Cert.Gnn.nD Cert.Gnn.τ).loc Cert.Gnn.main_arg6))
      ∧ r.2.sem = fun _ => 0)

def quiescent_GnnIdeal [hGnnIdeal : Cert.GnnIdeal.Facts] [hPre_bundle_in_range : Cert.Pre_bundle_in_range.Facts] : Prop :=
  ∀ (m : (ℓ : Loc Cert.GnnIdeal.nD Cert.GnnIdeal.τ Cert.GnnIdeal.sig) → Buf (Elt Ideal) ℓ) (g : Dev Cert.GnnIdeal.nD → PrngReg), Pre_GnnIdeal m →
    θ_run (Cert.GnnIdeal.defs (F := Ideal)) (onTc (τ := Cert.GnnIdeal.τ) (Cert.GnnIdeal.main (F := Ideal))) ⟨m, fun _ => 0, g⟩ (fun r => (∀ c : Dev Cert.GnnIdeal.nD,
      r.2.mem ((c.tc : Thread Cert.GnnIdeal.nD Cert.GnnIdeal.τ).loc Cert.GnnIdeal.main_arg0) = m ((c.tc : Thread Cert.GnnIdeal.nD Cert.GnnIdeal.τ).loc Cert.GnnIdeal.main_arg0)
      ∧ r.2.mem ((c.tc : Thread Cert.GnnIdeal.nD Cert.GnnIdeal.τ).loc Cert.GnnIdeal.main_arg1) = m ((c.tc : Thread Cert.GnnIdeal.nD Cert.GnnIdeal.τ).loc Cert.GnnIdeal.main_arg1)
      ∧ r.2.mem ((c.tc : Thread Cert.GnnIdeal.nD Cert.GnnIdeal.τ).loc Cert.GnnIdeal.main_arg2) = m ((c.tc : Thread Cert.GnnIdeal.nD Cert.GnnIdeal.τ).loc Cert.GnnIdeal.main_arg2)
      ∧ r.2.mem ((c.tc : Thread Cert.GnnIdeal.nD Cert.GnnIdeal.τ).loc Cert.GnnIdeal.main_arg3) = m ((c.tc : Thread Cert.GnnIdeal.nD Cert.GnnIdeal.τ).loc Cert.GnnIdeal.main_arg3)
      ∧ r.2.mem ((c.tc : Thread Cert.GnnIdeal.nD Cert.GnnIdeal.τ).loc Cert.GnnIdeal.main_arg4) = m ((c.tc : Thread Cert.GnnIdeal.nD Cert.GnnIdeal.τ).loc Cert.GnnIdeal.main_arg4)
      ∧ r.2.mem ((c.tc : Thread Cert.GnnIdeal.nD Cert.GnnIdeal.τ).loc Cert.GnnIdeal.main_arg5) = m ((c.tc : Thread Cert.GnnIdeal.nD Cert.GnnIdeal.τ).loc Cert.GnnIdeal.main_arg5)
      ∧ r.2.mem ((c.tc : Thread Cert.GnnIdeal.nD Cert.GnnIdeal.τ).loc Cert.GnnIdeal.main_arg6) = m ((c.tc : Thread Cert.GnnIdeal.nD Cert.GnnIdeal.τ).loc Cert.GnnIdeal.main_arg6))
      ∧ r.2.sem = fun _ => 0)

def quiescent_GnnIdeal_pre_gnn_in_range [hGnnIdeal : Cert.GnnIdeal.Facts] [hPre_gnn_in_range : Cert.Pre_gnn_in_range.Facts] : Prop :=
  ∀ (m : (ℓ : Loc Cert.GnnIdeal.nD Cert.GnnIdeal.τ Cert.GnnIdeal.sig) → Buf (Elt Ideal) ℓ) (g : Dev Cert.GnnIdeal.nD → PrngReg), Pre_GnnIdeal_gnn_in_range m →
    θ_run (Cert.GnnIdeal.defs (F := Ideal)) (onTc (τ := Cert.GnnIdeal.τ) (Cert.GnnIdeal.main (F := Ideal))) ⟨m, fun _ => 0, g⟩ (fun r => (∀ c : Dev Cert.GnnIdeal.nD,
      r.2.mem ((c.tc : Thread Cert.GnnIdeal.nD Cert.GnnIdeal.τ).loc Cert.GnnIdeal.main_arg0) = m ((c.tc : Thread Cert.GnnIdeal.nD Cert.GnnIdeal.τ).loc Cert.GnnIdeal.main_arg0)
      ∧ r.2.mem ((c.tc : Thread Cert.GnnIdeal.nD Cert.GnnIdeal.τ).loc Cert.GnnIdeal.main_arg1) = m ((c.tc : Thread Cert.GnnIdeal.nD Cert.GnnIdeal.τ).loc Cert.GnnIdeal.main_arg1)
      ∧ r.2.mem ((c.tc : Thread Cert.GnnIdeal.nD Cert.GnnIdeal.τ).loc Cert.GnnIdeal.main_arg2) = m ((c.tc : Thread Cert.GnnIdeal.nD Cert.GnnIdeal.τ).loc Cert.GnnIdeal.main_arg2)
      ∧ r.2.mem ((c.tc : Thread Cert.GnnIdeal.nD Cert.GnnIdeal.τ).loc Cert.GnnIdeal.main_arg3) = m ((c.tc : Thread Cert.GnnIdeal.nD Cert.GnnIdeal.τ).loc Cert.GnnIdeal.main_arg3)
      ∧ r.2.mem ((c.tc : Thread Cert.GnnIdeal.nD Cert.GnnIdeal.τ).loc Cert.GnnIdeal.main_arg4) = m ((c.tc : Thread Cert.GnnIdeal.nD Cert.GnnIdeal.τ).loc Cert.GnnIdeal.main_arg4)
      ∧ r.2.mem ((c.tc : Thread Cert.GnnIdeal.nD Cert.GnnIdeal.τ).loc Cert.GnnIdeal.main_arg5) = m ((c.tc : Thread Cert.GnnIdeal.nD Cert.GnnIdeal.τ).loc Cert.GnnIdeal.main_arg5)
      ∧ r.2.mem ((c.tc : Thread Cert.GnnIdeal.nD Cert.GnnIdeal.τ).loc Cert.GnnIdeal.main_arg6) = m ((c.tc : Thread Cert.GnnIdeal.nD Cert.GnnIdeal.τ).loc Cert.GnnIdeal.main_arg6))
      ∧ r.2.sem = fun _ => 0)

def quiescent_GnnRefIdeal [hGnnRefIdeal : Cert.GnnRefIdeal.Facts] : Prop :=
  ∀ (m : (ℓ : Loc Cert.GnnRefIdeal.nD Cert.GnnRefIdeal.τ Cert.GnnRefIdeal.sig) → Buf (Elt Ideal) ℓ) (g : Dev Cert.GnnRefIdeal.nD → PrngReg), Pre_GnnRefIdeal m →
    θ_run (Cert.GnnRefIdeal.defs (F := Ideal)) (onTc (τ := Cert.GnnRefIdeal.τ) (Cert.GnnRefIdeal.main (F := Ideal))) ⟨m, fun _ => 0, g⟩ (fun r => (∀ c : Dev Cert.GnnRefIdeal.nD,
      r.2.mem ((c.tc : Thread Cert.GnnRefIdeal.nD Cert.GnnRefIdeal.τ).loc Cert.GnnRefIdeal.main_arg0) = m ((c.tc : Thread Cert.GnnRefIdeal.nD Cert.GnnRefIdeal.τ).loc Cert.GnnRefIdeal.main_arg0)
      ∧ r.2.mem ((c.tc : Thread Cert.GnnRefIdeal.nD Cert.GnnRefIdeal.τ).loc Cert.GnnRefIdeal.main_arg1) = m ((c.tc : Thread Cert.GnnRefIdeal.nD Cert.GnnRefIdeal.τ).loc Cert.GnnRefIdeal.main_arg1)
      ∧ r.2.mem ((c.tc : Thread Cert.GnnRefIdeal.nD Cert.GnnRefIdeal.τ).loc Cert.GnnRefIdeal.main_arg2) = m ((c.tc : Thread Cert.GnnRefIdeal.nD Cert.GnnRefIdeal.τ).loc Cert.GnnRefIdeal.main_arg2)
      ∧ r.2.mem ((c.tc : Thread Cert.GnnRefIdeal.nD Cert.GnnRefIdeal.τ).loc Cert.GnnRefIdeal.main_arg3) = m ((c.tc : Thread Cert.GnnRefIdeal.nD Cert.GnnRefIdeal.τ).loc Cert.GnnRefIdeal.main_arg3)
      ∧ r.2.mem ((c.tc : Thread Cert.GnnRefIdeal.nD Cert.GnnRefIdeal.τ).loc Cert.GnnRefIdeal.main_arg4) = m ((c.tc : Thread Cert.GnnRefIdeal.nD Cert.GnnRefIdeal.τ).loc Cert.GnnRefIdeal.main_arg4)
      ∧ r.2.mem ((c.tc : Thread Cert.GnnRefIdeal.nD Cert.GnnRefIdeal.τ).loc Cert.GnnRefIdeal.main_arg5) = m ((c.tc : Thread Cert.GnnRefIdeal.nD Cert.GnnRefIdeal.τ).loc Cert.GnnRefIdeal.main_arg5)
      ∧ r.2.mem ((c.tc : Thread Cert.GnnRefIdeal.nD Cert.GnnRefIdeal.τ).loc Cert.GnnRefIdeal.main_arg6) = m ((c.tc : Thread Cert.GnnRefIdeal.nD Cert.GnnRefIdeal.τ).loc Cert.GnnRefIdeal.main_arg6))
      ∧ r.2.sem = fun _ => 0)

def quiescent_GnnRefIdeal_pre_gnn_in_range [hGnnRefIdeal : Cert.GnnRefIdeal.Facts] [hPre_gnn_in_range : Cert.Pre_gnn_in_range.Facts] : Prop :=
  ∀ (m : (ℓ : Loc Cert.GnnRefIdeal.nD Cert.GnnRefIdeal.τ Cert.GnnRefIdeal.sig) → Buf (Elt Ideal) ℓ) (g : Dev Cert.GnnRefIdeal.nD → PrngReg), Pre_GnnRefIdeal_gnn_in_range m →
    θ_run (Cert.GnnRefIdeal.defs (F := Ideal)) (onTc (τ := Cert.GnnRefIdeal.τ) (Cert.GnnRefIdeal.main (F := Ideal))) ⟨m, fun _ => 0, g⟩ (fun r => (∀ c : Dev Cert.GnnRefIdeal.nD,
      r.2.mem ((c.tc : Thread Cert.GnnRefIdeal.nD Cert.GnnRefIdeal.τ).loc Cert.GnnRefIdeal.main_arg0) = m ((c.tc : Thread Cert.GnnRefIdeal.nD Cert.GnnRefIdeal.τ).loc Cert.GnnRefIdeal.main_arg0)
      ∧ r.2.mem ((c.tc : Thread Cert.GnnRefIdeal.nD Cert.GnnRefIdeal.τ).loc Cert.GnnRefIdeal.main_arg1) = m ((c.tc : Thread Cert.GnnRefIdeal.nD Cert.GnnRefIdeal.τ).loc Cert.GnnRefIdeal.main_arg1)
      ∧ r.2.mem ((c.tc : Thread Cert.GnnRefIdeal.nD Cert.GnnRefIdeal.τ).loc Cert.GnnRefIdeal.main_arg2) = m ((c.tc : Thread Cert.GnnRefIdeal.nD Cert.GnnRefIdeal.τ).loc Cert.GnnRefIdeal.main_arg2)
      ∧ r.2.mem ((c.tc : Thread Cert.GnnRefIdeal.nD Cert.GnnRefIdeal.τ).loc Cert.GnnRefIdeal.main_arg3) = m ((c.tc : Thread Cert.GnnRefIdeal.nD Cert.GnnRefIdeal.τ).loc Cert.GnnRefIdeal.main_arg3)
      ∧ r.2.mem ((c.tc : Thread Cert.GnnRefIdeal.nD Cert.GnnRefIdeal.τ).loc Cert.GnnRefIdeal.main_arg4) = m ((c.tc : Thread Cert.GnnRefIdeal.nD Cert.GnnRefIdeal.τ).loc Cert.GnnRefIdeal.main_arg4)
      ∧ r.2.mem ((c.tc : Thread Cert.GnnRefIdeal.nD Cert.GnnRefIdeal.τ).loc Cert.GnnRefIdeal.main_arg5) = m ((c.tc : Thread Cert.GnnRefIdeal.nD Cert.GnnRefIdeal.τ).loc Cert.GnnRefIdeal.main_arg5)
      ∧ r.2.mem ((c.tc : Thread Cert.GnnRefIdeal.nD Cert.GnnRefIdeal.τ).loc Cert.GnnRefIdeal.main_arg6) = m ((c.tc : Thread Cert.GnnRefIdeal.nD Cert.GnnRefIdeal.τ).loc Cert.GnnRefIdeal.main_arg6))
      ∧ r.2.sem = fun _ => 0)

def preserves_Tr_TrIdeal : Prop :=
  True

def algebraic_TrIdeal_TrRefIdeal_pre_ids_in_range [hTrIdeal : Cert.TrIdeal.Facts] [hTrRefIdeal : Cert.TrRefIdeal.Facts] [hPre_ids_in_range : Cert.Pre_ids_in_range.Facts] : Prop :=
  ∀ (m : (ℓ : Loc Cert.TrIdeal.nD Cert.TrIdeal.τ Cert.TrIdeal.sig) → Buf (Elt Ideal) ℓ) (g : Dev Cert.TrIdeal.nD → PrngReg)
    (m' : (ℓ : Loc Cert.TrRefIdeal.nD Cert.TrRefIdeal.τ Cert.TrRefIdeal.sig) → Buf (Elt Ideal) ℓ) (g' : Dev Cert.TrRefIdeal.nD → PrngReg), Pre_TrIdeal_ids_in_range m →
    (∀ c : Dev Cert.TrIdeal.nD,
      m' ((c.tc : Thread Cert.TrRefIdeal.nD Cert.TrRefIdeal.τ).loc Cert.TrRefIdeal.main_arg0) = m ((c.tc : Thread Cert.TrIdeal.nD Cert.TrIdeal.τ).loc Cert.TrIdeal.main_arg0)
      ∧ m' ((c.tc : Thread Cert.TrRefIdeal.nD Cert.TrRefIdeal.τ).loc Cert.TrRefIdeal.main_arg1) = m ((c.tc : Thread Cert.TrIdeal.nD Cert.TrIdeal.τ).loc Cert.TrIdeal.main_arg1)
      ∧ m' ((c.tc : Thread Cert.TrRefIdeal.nD Cert.TrRefIdeal.τ).loc Cert.TrRefIdeal.main_arg2) = m ((c.tc : Thread Cert.TrIdeal.nD Cert.TrIdeal.τ).loc Cert.TrIdeal.main_arg2)
      ∧ m' ((c.tc : Thread Cert.TrRefIdeal.nD Cert.TrRefIdeal.τ).loc Cert.TrRefIdeal.main_arg3) = m ((c.tc : Thread Cert.TrIdeal.nD Cert.TrIdeal.τ).loc Cert.TrIdeal.main_arg3)
      ∧ m' ((c.tc : Thread Cert.TrRefIdeal.nD Cert.TrRefIdeal.τ).loc Cert.TrRefIdeal.main_arg4) = m ((c.tc : Thread Cert.TrIdeal.nD Cert.TrIdeal.τ).loc Cert.TrIdeal.main_arg4)
      ∧ m' ((c.tc : Thread Cert.TrRefIdeal.nD Cert.TrRefIdeal.τ).loc Cert.TrRefIdeal.main_arg5) = m ((c.tc : Thread Cert.TrIdeal.nD Cert.TrIdeal.τ).loc Cert.TrIdeal.main_arg5)
      ∧ m' ((c.tc : Thread Cert.TrRefIdeal.nD Cert.TrRefIdeal.τ).loc Cert.TrRefIdeal.main_arg6) = m ((c.tc : Thread Cert.TrIdeal.nD Cert.TrIdeal.τ).loc Cert.TrIdeal.main_arg6)
      ∧ m' ((c.tc : Thread Cert.TrRefIdeal.nD Cert.TrRefIdeal.τ).loc Cert.TrRefIdeal.main_arg7) = m ((c.tc : Thread Cert.TrIdeal.nD Cert.TrIdeal.τ).loc Cert.TrIdeal.main_arg7)
      ∧ m' ((c.tc : Thread Cert.TrRefIdeal.nD Cert.TrRefIdeal.τ).loc Cert.TrRefIdeal.main_arg8) = m ((c.tc : Thread Cert.TrIdeal.nD Cert.TrIdeal.τ).loc Cert.TrIdeal.main_arg8)
      ∧ m' ((c.tc : Thread Cert.TrRefIdeal.nD Cert.TrRefIdeal.τ).loc Cert.TrRefIdeal.main_arg9) = m ((c.tc : Thread Cert.TrIdeal.nD Cert.TrIdeal.τ).loc Cert.TrIdeal.main_arg9)
      ∧ m' ((c.tc : Thread Cert.TrRefIdeal.nD Cert.TrRefIdeal.τ).loc Cert.TrRefIdeal.main_arg10) = m ((c.tc : Thread Cert.TrIdeal.nD Cert.TrIdeal.τ).loc Cert.TrIdeal.main_arg10)
      ∧ m' ((c.tc : Thread Cert.TrRefIdeal.nD Cert.TrRefIdeal.τ).loc Cert.TrRefIdeal.main_arg11) = m ((c.tc : Thread Cert.TrIdeal.nD Cert.TrIdeal.τ).loc Cert.TrIdeal.main_arg11)
      ∧ m' ((c.tc : Thread Cert.TrRefIdeal.nD Cert.TrRefIdeal.τ).loc Cert.TrRefIdeal.main_arg12) = m ((c.tc : Thread Cert.TrIdeal.nD Cert.TrIdeal.τ).loc Cert.TrIdeal.main_arg12)
      ∧ m' ((c.tc : Thread Cert.TrRefIdeal.nD Cert.TrRefIdeal.τ).loc Cert.TrRefIdeal.main_arg13) = m ((c.tc : Thread Cert.TrIdeal.nD Cert.TrIdeal.τ).loc Cert.TrIdeal.main_arg13)
      ∧ m' ((c.tc : Thread Cert.TrRefIdeal.nD Cert.TrRefIdeal.τ).loc Cert.TrRefIdeal.main_arg14) = m ((c.tc : Thread Cert.TrIdeal.nD Cert.TrIdeal.τ).loc Cert.TrIdeal.main_arg14)
      ∧ m' ((c.tc : Thread Cert.TrRefIdeal.nD Cert.TrRefIdeal.τ).loc Cert.TrRefIdeal.main_arg15) = m ((c.tc : Thread Cert.TrIdeal.nD Cert.TrIdeal.τ).loc Cert.TrIdeal.main_arg15)
      ∧ m' ((c.tc : Thread Cert.TrRefIdeal.nD Cert.TrRefIdeal.τ).loc Cert.TrRefIdeal.main_arg16) = m ((c.tc : Thread Cert.TrIdeal.nD Cert.TrIdeal.τ).loc Cert.TrIdeal.main_arg16)
      ∧ m' ((c.tc : Thread Cert.TrRefIdeal.nD Cert.TrRefIdeal.τ).loc Cert.TrRefIdeal.main_arg17) = m ((c.tc : Thread Cert.TrIdeal.nD Cert.TrIdeal.τ).loc Cert.TrIdeal.main_arg17)
      ∧ m' ((c.tc : Thread Cert.TrRefIdeal.nD Cert.TrRefIdeal.τ).loc Cert.TrRefIdeal.main_arg18) = m ((c.tc : Thread Cert.TrIdeal.nD Cert.TrIdeal.τ).loc Cert.TrIdeal.main_arg18)
      ∧ m' ((c.tc : Thread Cert.TrRefIdeal.nD Cert.TrRefIdeal.τ).loc Cert.TrRefIdeal.main_arg19) = m ((c.tc : Thread Cert.TrIdeal.nD Cert.TrIdeal.τ).loc Cert.TrIdeal.main_arg19)
      ∧ m' ((c.tc : Thread Cert.TrRefIdeal.nD Cert.TrRefIdeal.τ).loc Cert.TrRefIdeal.main_arg20) = m ((c.tc : Thread Cert.TrIdeal.nD Cert.TrIdeal.τ).loc Cert.TrIdeal.main_arg20)
      ∧ m' ((c.tc : Thread Cert.TrRefIdeal.nD Cert.TrRefIdeal.τ).loc Cert.TrRefIdeal.main_arg21) = m ((c.tc : Thread Cert.TrIdeal.nD Cert.TrIdeal.τ).loc Cert.TrIdeal.main_arg21)
      ∧ m' ((c.tc : Thread Cert.TrRefIdeal.nD Cert.TrRefIdeal.τ).loc Cert.TrRefIdeal.main_arg22) = m ((c.tc : Thread Cert.TrIdeal.nD Cert.TrIdeal.τ).loc Cert.TrIdeal.main_arg22)
      ∧ m' ((c.tc : Thread Cert.TrRefIdeal.nD Cert.TrRefIdeal.τ).loc Cert.TrRefIdeal.main_arg23) = m ((c.tc : Thread Cert.TrIdeal.nD Cert.TrIdeal.τ).loc Cert.TrIdeal.main_arg23)
      ∧ m' ((c.tc : Thread Cert.TrRefIdeal.nD Cert.TrRefIdeal.τ).loc Cert.TrRefIdeal.main_arg24) = m ((c.tc : Thread Cert.TrIdeal.nD Cert.TrIdeal.τ).loc Cert.TrIdeal.main_arg24)
      ∧ m' ((c.tc : Thread Cert.TrRefIdeal.nD Cert.TrRefIdeal.τ).loc Cert.TrRefIdeal.main_arg25) = m ((c.tc : Thread Cert.TrIdeal.nD Cert.TrIdeal.τ).loc Cert.TrIdeal.main_arg25)) →
    ∃ (v0 : (c : Dev Cert.TrIdeal.nD) → Buf (Elt Ideal) ((c.tc : Thread Cert.TrIdeal.nD Cert.TrIdeal.τ).loc Cert.TrIdeal.main_v37)),
      θ_run (Cert.TrIdeal.defs (F := Ideal)) (onTc (τ := Cert.TrIdeal.τ) (Cert.TrIdeal.main (F := Ideal))) ⟨m, fun _ => 0, g⟩ (fun r => ∀ c : Dev Cert.TrIdeal.nD,
          r.2.mem ((c.tc : Thread Cert.TrIdeal.nD Cert.TrIdeal.τ).loc Cert.TrIdeal.main_v37) = v0 c
          ∧ r.2.mem ((c.tc : Thread Cert.TrIdeal.nD Cert.TrIdeal.τ).loc Cert.TrIdeal.main_arg0) = m ((c.tc : Thread Cert.TrIdeal.nD Cert.TrIdeal.τ).loc Cert.TrIdeal.main_arg0)
          ∧ r.2.mem ((c.tc : Thread Cert.TrIdeal.nD Cert.TrIdeal.τ).loc Cert.TrIdeal.main_arg1) = m ((c.tc : Thread Cert.TrIdeal.nD Cert.TrIdeal.τ).loc Cert.TrIdeal.main_arg1)
          ∧ r.2.mem ((c.tc : Thread Cert.TrIdeal.nD Cert.TrIdeal.τ).loc Cert.TrIdeal.main_arg2) = m ((c.tc : Thread Cert.TrIdeal.nD Cert.TrIdeal.τ).loc Cert.TrIdeal.main_arg2)
          ∧ r.2.mem ((c.tc : Thread Cert.TrIdeal.nD Cert.TrIdeal.τ).loc Cert.TrIdeal.main_arg3) = m ((c.tc : Thread Cert.TrIdeal.nD Cert.TrIdeal.τ).loc Cert.TrIdeal.main_arg3)
          ∧ r.2.mem ((c.tc : Thread Cert.TrIdeal.nD Cert.TrIdeal.τ).loc Cert.TrIdeal.main_arg4) = m ((c.tc : Thread Cert.TrIdeal.nD Cert.TrIdeal.τ).loc Cert.TrIdeal.main_arg4)
          ∧ r.2.mem ((c.tc : Thread Cert.TrIdeal.nD Cert.TrIdeal.τ).loc Cert.TrIdeal.main_arg5) = m ((c.tc : Thread Cert.TrIdeal.nD Cert.TrIdeal.τ).loc Cert.TrIdeal.main_arg5)
          ∧ r.2.mem ((c.tc : Thread Cert.TrIdeal.nD Cert.TrIdeal.τ).loc Cert.TrIdeal.main_arg6) = m ((c.tc : Thread Cert.TrIdeal.nD Cert.TrIdeal.τ).loc Cert.TrIdeal.main_arg6)
          ∧ r.2.mem ((c.tc : Thread Cert.TrIdeal.nD Cert.TrIdeal.τ).loc Cert.TrIdeal.main_arg7) = m ((c.tc : Thread Cert.TrIdeal.nD Cert.TrIdeal.τ).loc Cert.TrIdeal.main_arg7)
          ∧ r.2.mem ((c.tc : Thread Cert.TrIdeal.nD Cert.TrIdeal.τ).loc Cert.TrIdeal.main_arg8) = m ((c.tc : Thread Cert.TrIdeal.nD Cert.TrIdeal.τ).loc Cert.TrIdeal.main_arg8)
          ∧ r.2.mem ((c.tc : Thread Cert.TrIdeal.nD Cert.TrIdeal.τ).loc Cert.TrIdeal.main_arg9) = m ((c.tc : Thread Cert.TrIdeal.nD Cert.TrIdeal.τ).loc Cert.TrIdeal.main_arg9)
          ∧ r.2.mem ((c.tc : Thread Cert.TrIdeal.nD Cert.TrIdeal.τ).loc Cert.TrIdeal.main_arg10) = m ((c.tc : Thread Cert.TrIdeal.nD Cert.TrIdeal.τ).loc Cert.TrIdeal.main_arg10)
          ∧ r.2.mem ((c.tc : Thread Cert.TrIdeal.nD Cert.TrIdeal.τ).loc Cert.TrIdeal.main_arg11) = m ((c.tc : Thread Cert.TrIdeal.nD Cert.TrIdeal.τ).loc Cert.TrIdeal.main_arg11)
          ∧ r.2.mem ((c.tc : Thread Cert.TrIdeal.nD Cert.TrIdeal.τ).loc Cert.TrIdeal.main_arg12) = m ((c.tc : Thread Cert.TrIdeal.nD Cert.TrIdeal.τ).loc Cert.TrIdeal.main_arg12)
          ∧ r.2.mem ((c.tc : Thread Cert.TrIdeal.nD Cert.TrIdeal.τ).loc Cert.TrIdeal.main_arg13) = m ((c.tc : Thread Cert.TrIdeal.nD Cert.TrIdeal.τ).loc Cert.TrIdeal.main_arg13)
          ∧ r.2.mem ((c.tc : Thread Cert.TrIdeal.nD Cert.TrIdeal.τ).loc Cert.TrIdeal.main_arg14) = m ((c.tc : Thread Cert.TrIdeal.nD Cert.TrIdeal.τ).loc Cert.TrIdeal.main_arg14)
          ∧ r.2.mem ((c.tc : Thread Cert.TrIdeal.nD Cert.TrIdeal.τ).loc Cert.TrIdeal.main_arg15) = m ((c.tc : Thread Cert.TrIdeal.nD Cert.TrIdeal.τ).loc Cert.TrIdeal.main_arg15)
          ∧ r.2.mem ((c.tc : Thread Cert.TrIdeal.nD Cert.TrIdeal.τ).loc Cert.TrIdeal.main_arg16) = m ((c.tc : Thread Cert.TrIdeal.nD Cert.TrIdeal.τ).loc Cert.TrIdeal.main_arg16)
          ∧ r.2.mem ((c.tc : Thread Cert.TrIdeal.nD Cert.TrIdeal.τ).loc Cert.TrIdeal.main_arg17) = m ((c.tc : Thread Cert.TrIdeal.nD Cert.TrIdeal.τ).loc Cert.TrIdeal.main_arg17)
          ∧ r.2.mem ((c.tc : Thread Cert.TrIdeal.nD Cert.TrIdeal.τ).loc Cert.TrIdeal.main_arg18) = m ((c.tc : Thread Cert.TrIdeal.nD Cert.TrIdeal.τ).loc Cert.TrIdeal.main_arg18)
          ∧ r.2.mem ((c.tc : Thread Cert.TrIdeal.nD Cert.TrIdeal.τ).loc Cert.TrIdeal.main_arg19) = m ((c.tc : Thread Cert.TrIdeal.nD Cert.TrIdeal.τ).loc Cert.TrIdeal.main_arg19)
          ∧ r.2.mem ((c.tc : Thread Cert.TrIdeal.nD Cert.TrIdeal.τ).loc Cert.TrIdeal.main_arg20) = m ((c.tc : Thread Cert.TrIdeal.nD Cert.TrIdeal.τ).loc Cert.TrIdeal.main_arg20)
          ∧ r.2.mem ((c.tc : Thread Cert.TrIdeal.nD Cert.TrIdeal.τ).loc Cert.TrIdeal.main_arg21) = m ((c.tc : Thread Cert.TrIdeal.nD Cert.TrIdeal.τ).loc Cert.TrIdeal.main_arg21)
          ∧ r.2.mem ((c.tc : Thread Cert.TrIdeal.nD Cert.TrIdeal.τ).loc Cert.TrIdeal.main_arg22) = m ((c.tc : Thread Cert.TrIdeal.nD Cert.TrIdeal.τ).loc Cert.TrIdeal.main_arg22)
          ∧ r.2.mem ((c.tc : Thread Cert.TrIdeal.nD Cert.TrIdeal.τ).loc Cert.TrIdeal.main_arg23) = m ((c.tc : Thread Cert.TrIdeal.nD Cert.TrIdeal.τ).loc Cert.TrIdeal.main_arg23)
          ∧ r.2.mem ((c.tc : Thread Cert.TrIdeal.nD Cert.TrIdeal.τ).loc Cert.TrIdeal.main_arg24) = m ((c.tc : Thread Cert.TrIdeal.nD Cert.TrIdeal.τ).loc Cert.TrIdeal.main_arg24)
          ∧ r.2.mem ((c.tc : Thread Cert.TrIdeal.nD Cert.TrIdeal.τ).loc Cert.TrIdeal.main_arg25) = m ((c.tc : Thread Cert.TrIdeal.nD Cert.TrIdeal.τ).loc Cert.TrIdeal.main_arg25))
      ∧ θ_run (Cert.TrRefIdeal.defs (F := Ideal)) (onTc (τ := Cert.TrRefIdeal.τ) (Cert.TrRefIdeal.main (F := Ideal))) ⟨m', fun _ => 0, g'⟩ (fun r => ∀ c : Dev Cert.TrRefIdeal.nD,
          r.2.mem ((c.tc : Thread Cert.TrRefIdeal.nD Cert.TrRefIdeal.τ).loc Cert.TrRefIdeal.main_v606) = v0 c
          ∧ r.2.mem ((c.tc : Thread Cert.TrRefIdeal.nD Cert.TrRefIdeal.τ).loc Cert.TrRefIdeal.main_arg0) = m' ((c.tc : Thread Cert.TrRefIdeal.nD Cert.TrRefIdeal.τ).loc Cert.TrRefIdeal.main_arg0)
          ∧ r.2.mem ((c.tc : Thread Cert.TrRefIdeal.nD Cert.TrRefIdeal.τ).loc Cert.TrRefIdeal.main_arg1) = m' ((c.tc : Thread Cert.TrRefIdeal.nD Cert.TrRefIdeal.τ).loc Cert.TrRefIdeal.main_arg1)
          ∧ r.2.mem ((c.tc : Thread Cert.TrRefIdeal.nD Cert.TrRefIdeal.τ).loc Cert.TrRefIdeal.main_arg2) = m' ((c.tc : Thread Cert.TrRefIdeal.nD Cert.TrRefIdeal.τ).loc Cert.TrRefIdeal.main_arg2)
          ∧ r.2.mem ((c.tc : Thread Cert.TrRefIdeal.nD Cert.TrRefIdeal.τ).loc Cert.TrRefIdeal.main_arg3) = m' ((c.tc : Thread Cert.TrRefIdeal.nD Cert.TrRefIdeal.τ).loc Cert.TrRefIdeal.main_arg3)
          ∧ r.2.mem ((c.tc : Thread Cert.TrRefIdeal.nD Cert.TrRefIdeal.τ).loc Cert.TrRefIdeal.main_arg4) = m' ((c.tc : Thread Cert.TrRefIdeal.nD Cert.TrRefIdeal.τ).loc Cert.TrRefIdeal.main_arg4)
          ∧ r.2.mem ((c.tc : Thread Cert.TrRefIdeal.nD Cert.TrRefIdeal.τ).loc Cert.TrRefIdeal.main_arg5) = m' ((c.tc : Thread Cert.TrRefIdeal.nD Cert.TrRefIdeal.τ).loc Cert.TrRefIdeal.main_arg5)
          ∧ r.2.mem ((c.tc : Thread Cert.TrRefIdeal.nD Cert.TrRefIdeal.τ).loc Cert.TrRefIdeal.main_arg6) = m' ((c.tc : Thread Cert.TrRefIdeal.nD Cert.TrRefIdeal.τ).loc Cert.TrRefIdeal.main_arg6)
          ∧ r.2.mem ((c.tc : Thread Cert.TrRefIdeal.nD Cert.TrRefIdeal.τ).loc Cert.TrRefIdeal.main_arg7) = m' ((c.tc : Thread Cert.TrRefIdeal.nD Cert.TrRefIdeal.τ).loc Cert.TrRefIdeal.main_arg7)
          ∧ r.2.mem ((c.tc : Thread Cert.TrRefIdeal.nD Cert.TrRefIdeal.τ).loc Cert.TrRefIdeal.main_arg8) = m' ((c.tc : Thread Cert.TrRefIdeal.nD Cert.TrRefIdeal.τ).loc Cert.TrRefIdeal.main_arg8)
          ∧ r.2.mem ((c.tc : Thread Cert.TrRefIdeal.nD Cert.TrRefIdeal.τ).loc Cert.TrRefIdeal.main_arg9) = m' ((c.tc : Thread Cert.TrRefIdeal.nD Cert.TrRefIdeal.τ).loc Cert.TrRefIdeal.main_arg9)
          ∧ r.2.mem ((c.tc : Thread Cert.TrRefIdeal.nD Cert.TrRefIdeal.τ).loc Cert.TrRefIdeal.main_arg10) = m' ((c.tc : Thread Cert.TrRefIdeal.nD Cert.TrRefIdeal.τ).loc Cert.TrRefIdeal.main_arg10)
          ∧ r.2.mem ((c.tc : Thread Cert.TrRefIdeal.nD Cert.TrRefIdeal.τ).loc Cert.TrRefIdeal.main_arg11) = m' ((c.tc : Thread Cert.TrRefIdeal.nD Cert.TrRefIdeal.τ).loc Cert.TrRefIdeal.main_arg11)
          ∧ r.2.mem ((c.tc : Thread Cert.TrRefIdeal.nD Cert.TrRefIdeal.τ).loc Cert.TrRefIdeal.main_arg12) = m' ((c.tc : Thread Cert.TrRefIdeal.nD Cert.TrRefIdeal.τ).loc Cert.TrRefIdeal.main_arg12)
          ∧ r.2.mem ((c.tc : Thread Cert.TrRefIdeal.nD Cert.TrRefIdeal.τ).loc Cert.TrRefIdeal.main_arg13) = m' ((c.tc : Thread Cert.TrRefIdeal.nD Cert.TrRefIdeal.τ).loc Cert.TrRefIdeal.main_arg13)
          ∧ r.2.mem ((c.tc : Thread Cert.TrRefIdeal.nD Cert.TrRefIdeal.τ).loc Cert.TrRefIdeal.main_arg14) = m' ((c.tc : Thread Cert.TrRefIdeal.nD Cert.TrRefIdeal.τ).loc Cert.TrRefIdeal.main_arg14)
          ∧ r.2.mem ((c.tc : Thread Cert.TrRefIdeal.nD Cert.TrRefIdeal.τ).loc Cert.TrRefIdeal.main_arg15) = m' ((c.tc : Thread Cert.TrRefIdeal.nD Cert.TrRefIdeal.τ).loc Cert.TrRefIdeal.main_arg15)
          ∧ r.2.mem ((c.tc : Thread Cert.TrRefIdeal.nD Cert.TrRefIdeal.τ).loc Cert.TrRefIdeal.main_arg16) = m' ((c.tc : Thread Cert.TrRefIdeal.nD Cert.TrRefIdeal.τ).loc Cert.TrRefIdeal.main_arg16)
          ∧ r.2.mem ((c.tc : Thread Cert.TrRefIdeal.nD Cert.TrRefIdeal.τ).loc Cert.TrRefIdeal.main_arg17) = m' ((c.tc : Thread Cert.TrRefIdeal.nD Cert.TrRefIdeal.τ).loc Cert.TrRefIdeal.main_arg17)
          ∧ r.2.mem ((c.tc : Thread Cert.TrRefIdeal.nD Cert.TrRefIdeal.τ).loc Cert.TrRefIdeal.main_arg18) = m' ((c.tc : Thread Cert.TrRefIdeal.nD Cert.TrRefIdeal.τ).loc Cert.TrRefIdeal.main_arg18)
          ∧ r.2.mem ((c.tc : Thread Cert.TrRefIdeal.nD Cert.TrRefIdeal.τ).loc Cert.TrRefIdeal.main_arg19) = m' ((c.tc : Thread Cert.TrRefIdeal.nD Cert.TrRefIdeal.τ).loc Cert.TrRefIdeal.main_arg19)
          ∧ r.2.mem ((c.tc : Thread Cert.TrRefIdeal.nD Cert.TrRefIdeal.τ).loc Cert.TrRefIdeal.main_arg20) = m' ((c.tc : Thread Cert.TrRefIdeal.nD Cert.TrRefIdeal.τ).loc Cert.TrRefIdeal.main_arg20)
          ∧ r.2.mem ((c.tc : Thread Cert.TrRefIdeal.nD Cert.TrRefIdeal.τ).loc Cert.TrRefIdeal.main_arg21) = m' ((c.tc : Thread Cert.TrRefIdeal.nD Cert.TrRefIdeal.τ).loc Cert.TrRefIdeal.main_arg21)
          ∧ r.2.mem ((c.tc : Thread Cert.TrRefIdeal.nD Cert.TrRefIdeal.τ).loc Cert.TrRefIdeal.main_arg22) = m' ((c.tc : Thread Cert.TrRefIdeal.nD Cert.TrRefIdeal.τ).loc Cert.TrRefIdeal.main_arg22)
          ∧ r.2.mem ((c.tc : Thread Cert.TrRefIdeal.nD Cert.TrRefIdeal.τ).loc Cert.TrRefIdeal.main_arg23) = m' ((c.tc : Thread Cert.TrRefIdeal.nD Cert.TrRefIdeal.τ).loc Cert.TrRefIdeal.main_arg23)
          ∧ r.2.mem ((c.tc : Thread Cert.TrRefIdeal.nD Cert.TrRefIdeal.τ).loc Cert.TrRefIdeal.main_arg24) = m' ((c.tc : Thread Cert.TrRefIdeal.nD Cert.TrRefIdeal.τ).loc Cert.TrRefIdeal.main_arg24)
          ∧ r.2.mem ((c.tc : Thread Cert.TrRefIdeal.nD Cert.TrRefIdeal.τ).loc Cert.TrRefIdeal.main_arg25) = m' ((c.tc : Thread Cert.TrRefIdeal.nD Cert.TrRefIdeal.τ).loc Cert.TrRefIdeal.main_arg25))

def preserves_Gnn_GnnIdeal : Prop :=
  True

def algebraic_GnnIdeal_GnnRefIdeal_pre_gnn_in_range [hGnnIdeal : Cert.GnnIdeal.Facts] [hGnnRefIdeal : Cert.GnnRefIdeal.Facts] [hPre_gnn_in_range : Cert.Pre_gnn_in_range.Facts] : Prop :=
  ∀ (m : (ℓ : Loc Cert.GnnIdeal.nD Cert.GnnIdeal.τ Cert.GnnIdeal.sig) → Buf (Elt Ideal) ℓ) (g : Dev Cert.GnnIdeal.nD → PrngReg)
    (m' : (ℓ : Loc Cert.GnnRefIdeal.nD Cert.GnnRefIdeal.τ Cert.GnnRefIdeal.sig) → Buf (Elt Ideal) ℓ) (g' : Dev Cert.GnnRefIdeal.nD → PrngReg), Pre_GnnIdeal_gnn_in_range m →
    (∀ c : Dev Cert.GnnIdeal.nD,
      m' ((c.tc : Thread Cert.GnnRefIdeal.nD Cert.GnnRefIdeal.τ).loc Cert.GnnRefIdeal.main_arg0) = m ((c.tc : Thread Cert.GnnIdeal.nD Cert.GnnIdeal.τ).loc Cert.GnnIdeal.main_arg0)
      ∧ m' ((c.tc : Thread Cert.GnnRefIdeal.nD Cert.GnnRefIdeal.τ).loc Cert.GnnRefIdeal.main_arg1) = m ((c.tc : Thread Cert.GnnIdeal.nD Cert.GnnIdeal.τ).loc Cert.GnnIdeal.main_arg1)
      ∧ m' ((c.tc : Thread Cert.GnnRefIdeal.nD Cert.GnnRefIdeal.τ).loc Cert.GnnRefIdeal.main_arg2) = m ((c.tc : Thread Cert.GnnIdeal.nD Cert.GnnIdeal.τ).loc Cert.GnnIdeal.main_arg2)
      ∧ m' ((c.tc : Thread Cert.GnnRefIdeal.nD Cert.GnnRefIdeal.τ).loc Cert.GnnRefIdeal.main_arg3) = m ((c.tc : Thread Cert.GnnIdeal.nD Cert.GnnIdeal.τ).loc Cert.GnnIdeal.main_arg3)
      ∧ m' ((c.tc : Thread Cert.GnnRefIdeal.nD Cert.GnnRefIdeal.τ).loc Cert.GnnRefIdeal.main_arg4) = m ((c.tc : Thread Cert.GnnIdeal.nD Cert.GnnIdeal.τ).loc Cert.GnnIdeal.main_arg4)
      ∧ m' ((c.tc : Thread Cert.GnnRefIdeal.nD Cert.GnnRefIdeal.τ).loc Cert.GnnRefIdeal.main_arg5) = m ((c.tc : Thread Cert.GnnIdeal.nD Cert.GnnIdeal.τ).loc Cert.GnnIdeal.main_arg5)
      ∧ m' ((c.tc : Thread Cert.GnnRefIdeal.nD Cert.GnnRefIdeal.τ).loc Cert.GnnRefIdeal.main_arg6) = m ((c.tc : Thread Cert.GnnIdeal.nD Cert.GnnIdeal.τ).loc Cert.GnnIdeal.main_arg6)) →
    ∃ (v0 : (c : Dev Cert.GnnIdeal.nD) → Buf (Elt Ideal) ((c.tc : Thread Cert.GnnIdeal.nD Cert.GnnIdeal.τ).loc Cert.GnnIdeal.main_v0)),
      θ_run (Cert.GnnIdeal.defs (F := Ideal)) (onTc (τ := Cert.GnnIdeal.τ) (Cert.GnnIdeal.main (F := Ideal))) ⟨m, fun _ => 0, g⟩ (fun r => ∀ c : Dev Cert.GnnIdeal.nD,
          r.2.mem ((c.tc : Thread Cert.GnnIdeal.nD Cert.GnnIdeal.τ).loc Cert.GnnIdeal.main_v0) = v0 c
          ∧ r.2.mem ((c.tc : Thread Cert.GnnIdeal.nD Cert.GnnIdeal.τ).loc Cert.GnnIdeal.main_arg0) = m ((c.tc : Thread Cert.GnnIdeal.nD Cert.GnnIdeal.τ).loc Cert.GnnIdeal.main_arg0)
          ∧ r.2.mem ((c.tc : Thread Cert.GnnIdeal.nD Cert.GnnIdeal.τ).loc Cert.GnnIdeal.main_arg1) = m ((c.tc : Thread Cert.GnnIdeal.nD Cert.GnnIdeal.τ).loc Cert.GnnIdeal.main_arg1)
          ∧ r.2.mem ((c.tc : Thread Cert.GnnIdeal.nD Cert.GnnIdeal.τ).loc Cert.GnnIdeal.main_arg2) = m ((c.tc : Thread Cert.GnnIdeal.nD Cert.GnnIdeal.τ).loc Cert.GnnIdeal.main_arg2)
          ∧ r.2.mem ((c.tc : Thread Cert.GnnIdeal.nD Cert.GnnIdeal.τ).loc Cert.GnnIdeal.main_arg3) = m ((c.tc : Thread Cert.GnnIdeal.nD Cert.GnnIdeal.τ).loc Cert.GnnIdeal.main_arg3)
          ∧ r.2.mem ((c.tc : Thread Cert.GnnIdeal.nD Cert.GnnIdeal.τ).loc Cert.GnnIdeal.main_arg4) = m ((c.tc : Thread Cert.GnnIdeal.nD Cert.GnnIdeal.τ).loc Cert.GnnIdeal.main_arg4)
          ∧ r.2.mem ((c.tc : Thread Cert.GnnIdeal.nD Cert.GnnIdeal.τ).loc Cert.GnnIdeal.main_arg5) = m ((c.tc : Thread Cert.GnnIdeal.nD Cert.GnnIdeal.τ).loc Cert.GnnIdeal.main_arg5)
          ∧ r.2.mem ((c.tc : Thread Cert.GnnIdeal.nD Cert.GnnIdeal.τ).loc Cert.GnnIdeal.main_arg6) = m ((c.tc : Thread Cert.GnnIdeal.nD Cert.GnnIdeal.τ).loc Cert.GnnIdeal.main_arg6))
      ∧ θ_run (Cert.GnnRefIdeal.defs (F := Ideal)) (onTc (τ := Cert.GnnRefIdeal.τ) (Cert.GnnRefIdeal.main (F := Ideal))) ⟨m', fun _ => 0, g'⟩ (fun r => ∀ c : Dev Cert.GnnRefIdeal.nD,
          r.2.mem ((c.tc : Thread Cert.GnnRefIdeal.nD Cert.GnnRefIdeal.τ).loc Cert.GnnRefIdeal.main_v151) = v0 c
          ∧ r.2.mem ((c.tc : Thread Cert.GnnRefIdeal.nD Cert.GnnRefIdeal.τ).loc Cert.GnnRefIdeal.main_arg0) = m' ((c.tc : Thread Cert.GnnRefIdeal.nD Cert.GnnRefIdeal.τ).loc Cert.GnnRefIdeal.main_arg0)
          ∧ r.2.mem ((c.tc : Thread Cert.GnnRefIdeal.nD Cert.GnnRefIdeal.τ).loc Cert.GnnRefIdeal.main_arg1) = m' ((c.tc : Thread Cert.GnnRefIdeal.nD Cert.GnnRefIdeal.τ).loc Cert.GnnRefIdeal.main_arg1)
          ∧ r.2.mem ((c.tc : Thread Cert.GnnRefIdeal.nD Cert.GnnRefIdeal.τ).loc Cert.GnnRefIdeal.main_arg2) = m' ((c.tc : Thread Cert.GnnRefIdeal.nD Cert.GnnRefIdeal.τ).loc Cert.GnnRefIdeal.main_arg2)
          ∧ r.2.mem ((c.tc : Thread Cert.GnnRefIdeal.nD Cert.GnnRefIdeal.τ).loc Cert.GnnRefIdeal.main_arg3) = m' ((c.tc : Thread Cert.GnnRefIdeal.nD Cert.GnnRefIdeal.τ).loc Cert.GnnRefIdeal.main_arg3)
          ∧ r.2.mem ((c.tc : Thread Cert.GnnRefIdeal.nD Cert.GnnRefIdeal.τ).loc Cert.GnnRefIdeal.main_arg4) = m' ((c.tc : Thread Cert.GnnRefIdeal.nD Cert.GnnRefIdeal.τ).loc Cert.GnnRefIdeal.main_arg4)
          ∧ r.2.mem ((c.tc : Thread Cert.GnnRefIdeal.nD Cert.GnnRefIdeal.τ).loc Cert.GnnRefIdeal.main_arg5) = m' ((c.tc : Thread Cert.GnnRefIdeal.nD Cert.GnnRefIdeal.τ).loc Cert.GnnRefIdeal.main_arg5)
          ∧ r.2.mem ((c.tc : Thread Cert.GnnRefIdeal.nD Cert.GnnRefIdeal.τ).loc Cert.GnnRefIdeal.main_arg6) = m' ((c.tc : Thread Cert.GnnRefIdeal.nD Cert.GnnRefIdeal.τ).loc Cert.GnnRefIdeal.main_arg6))

def Claim : Prop :=
  ∃ (hTr : Cert.Tr.Facts) (hTrIdeal : Cert.TrIdeal.Facts) (hTrRefIdeal : Cert.TrRefIdeal.Facts) (hGnn : Cert.Gnn.Facts) (hGnnIdeal : Cert.GnnIdeal.Facts) (hGnnRefIdeal : Cert.GnnRefIdeal.Facts) (hPre_ids_in_range : Cert.Pre_ids_in_range.Facts) (hPre_bundle_in_range : Cert.Pre_bundle_in_range.Facts) (hPre_gnn_in_range : Cert.Pre_gnn_in_range.Facts),
    quiescent_Tr (hTr := hTr)
    ∧ quiescent_TrIdeal (hTrIdeal := hTrIdeal)
    ∧ quiescent_TrIdeal_pre_ids_in_range (hTrIdeal := hTrIdeal) (hPre_ids_in_range := hPre_ids_in_range)
    ∧ quiescent_TrRefIdeal (hTrRefIdeal := hTrRefIdeal)
    ∧ quiescent_TrRefIdeal_pre_ids_in_range (hTrRefIdeal := hTrRefIdeal) (hPre_ids_in_range := hPre_ids_in_range)
    ∧ quiescent_Gnn (hGnn := hGnn) (hPre_bundle_in_range := hPre_bundle_in_range)
    ∧ quiescent_GnnIdeal (hGnnIdeal := hGnnIdeal) (hPre_bundle_in_range := hPre_bundle_in_range)
    ∧ quiescent_GnnIdeal_pre_gnn_in_range (hGnnIdeal := hGnnIdeal) (hPre_gnn_in_range := hPre_gnn_in_range)
    ∧ quiescent_GnnRefIdeal (hGnnRefIdeal := hGnnRefIdeal)
    ∧ quiescent_GnnRefIdeal_pre_gnn_in_range (hGnnRefIdeal := hGnnRefIdeal) (hPre_gnn_in_range := hPre_gnn_in_range)
    ∧ preserves_Tr_TrIdeal
    ∧ algebraic_TrIdeal_TrRefIdeal_pre_ids_in_range (hTrIdeal := hTrIdeal) (hTrRefIdeal := hTrRefIdeal) (hPre_ids_in_range := hPre_ids_in_range)
    ∧ preserves_Gnn_GnnIdeal
    ∧ algebraic_GnnIdeal_GnnRefIdeal_pre_gnn_in_range (hGnnIdeal := hGnnIdeal) (hGnnRefIdeal := hGnnRefIdeal) (hPre_gnn_in_range := hPre_gnn_in_range)
-- ==== Pre_bundle_in_range.lean ====
abbrev S64x1x2048 : Shape := ⟨3, ![64, 1, 2048]⟩
abbrev S64x72x1x256 : Shape := ⟨4, ![64, 72, 1, 256]⟩
abbrev S64x1x19456 : Shape := ⟨3, ![64, 1, 19456]⟩
abbrev S128x768 : Shape := ⟨2, ![128, 768]⟩
abbrev S2x768x768 : Shape := ⟨3, ![2, 768, 768]⟩
abbrev S8x768 : Shape := ⟨2, ![8, 768]⟩
abbrev S64x1x72 : Shape := ⟨3, ![64, 1, 72]⟩
abbrev S64x72 : Shape := ⟨2, ![64, 72]⟩
abbrev S64x1x18432 : Shape := ⟨3, ![64, 1, 18432]⟩
abbrev S64x18432 : Shape := ⟨2, ![64, 18432]⟩
abbrev S_ : Shape := ⟨0, ![]⟩

class Facts : Prop where
  slices_S64x1x19456_S64x1x72_0_0_0 : S64x1x19456.Slices ![0, 0, 0] S64x1x72
  shapeCasts_S64x1x72_S64x72 : S64x1x72.ShapeCasts S64x72
  slices_S64x1x19456_S64x1x18432_0_0_72 : S64x1x19456.Slices ![0, 0, 72] S64x1x18432
  shapeCasts_S64x1x18432_S64x18432 : S64x1x18432.ShapeCasts S64x18432
  bcast_S_S64x72 : S_.BroadcastsInDim S64x72 (![] : Fin 0 → Fin S64x72.rank)
  reducesTo_S64x72_S_d0_1 : S64x72.ReducesTo [0, 1] S_
  h_S_ : 0 < S_.numel
  bcast_S_S64x18432 : S_.BroadcastsInDim S64x18432 (![] : Fin 0 → Fin S64x18432.rank)
  reducesTo_S64x18432_S_d0_1 : S64x18432.ReducesTo [0, 1] S_

variable [Facts]

def fn_part1 {F : FTy → Type} [FloatOps F] (main_v3 : IVec S64x18432 32) (main_v14 : IVec S_ 1) (main_v16 : IVec S64x18432 1) (main_c_5 : IVec S_ 32) : IVec S_ 1 :=
  let main_v17 : IVec S64x18432 32 := broadcastInDim S64x18432 ![] bcast_S_S64x18432 main_c_5
  let main_v18 : IVec S64x18432 1 := cmpi .slt main_v3 main_v17
  let main_v19 : IVec S64x18432 1 := andi main_v16 main_v18
  let main_c_6 : IVec S_ 32 := constantI S_ 32 7#32
  let main_v20 : IVec S64x18432 32 := broadcastInDim S64x18432 ![] bcast_S_S64x18432 main_c_6
  let main_v21 : IVec S64x18432 32 := andi main_v3 main_v20
  let main_c_7 : IVec S_ 32 := constantI S_ 32 0#32
  let main_v22 : IVec S64x18432 32 := broadcastInDim S64x18432 ![] bcast_S_S64x18432 main_c_7
  let main_v23 : IVec S64x18432 1 := cmpi .eq main_v21 main_v22
  let main_v24 : IVec S64x18432 1 := andi main_v19 main_v23
  let main_c_8 : IVec S_ 1 := constantI S_ 1 1#1
  let main_v25 : IVec S_ 1 := (fun x v => Host.reduce IntOp.andi x v reducesTo_S64x18432_S_d0_1 h_S_) main_v24 main_c_8
  let main_v26 : IVec S_ 1 := andi main_v14 main_v25
  main_v26

def fn {F : FTy → Type} [FloatOps F] (main_arg0 : IVec S64x1x2048 32) (main_arg1 : IVec S64x1x2048 32) (main_arg2 : IVec S64x72x1x256 32) (main_arg3 : IVec S64x1x19456 32) (main_arg4 : FVec F S128x768 .f32) (main_arg5 : FVec F S2x768x768 .f32) (main_arg6 : FVec F S8x768 .f32) : IVec S_ 1 :=
  let main_v0 : IVec S64x1x72 32 := (extractStridedSlice S64x1x72 ![0, 0, 0] · slices_S64x1x19456_S64x1x72_0_0_0) main_arg3
  let main_v1 : IVec S64x72 32 := shapeCast S64x72 main_v0 shapeCasts_S64x1x72_S64x72
  let main_v2 : IVec S64x1x18432 32 := (extractStridedSlice S64x1x18432 ![0, 0, 72] · slices_S64x1x19456_S64x1x18432_0_0_72) main_arg3
  let main_v3 : IVec S64x18432 32 := shapeCast S64x18432 main_v2 shapeCasts_S64x1x18432_S64x18432
  let main_c : IVec S_ 32 := constantI S_ 32 0#32
  let main_v4 : IVec S64x72 32 := broadcastInDim S64x72 ![] bcast_S_S64x72 main_c
  let main_v5 : IVec S64x72 1 := cmpi .sge main_v1 main_v4
  let main_c_0 : IVec S_ 32 := constantI S_ 32 2048#32
  let main_v6 : IVec S64x72 32 := broadcastInDim S64x72 ![] bcast_S_S64x72 main_c_0
  let main_v7 : IVec S64x72 1 := cmpi .slt main_v1 main_v6
  let main_v8 : IVec S64x72 1 := andi main_v5 main_v7
  let main_c_1 : IVec S_ 32 := constantI S_ 32 255#32
  let main_v9 : IVec S64x72 32 := broadcastInDim S64x72 ![] bcast_S_S64x72 main_c_1
  let main_v10 : IVec S64x72 32 := andi main_v1 main_v9
  let main_c_2 : IVec S_ 32 := constantI S_ 32 0#32
  let main_v11 : IVec S64x72 32 := broadcastInDim S64x72 ![] bcast_S_S64x72 main_c_2
  let main_v12 : IVec S64x72 1 := cmpi .eq main_v10 main_v11
  let main_v13 : IVec S64x72 1 := andi main_v8 main_v12
  let main_c_3 : IVec S_ 1 := constantI S_ 1 1#1
  let main_v14 : IVec S_ 1 := (fun x v => Host.reduce IntOp.andi x v reducesTo_S64x72_S_d0_1 h_S_) main_v13 main_c_3
  let main_c_4 : IVec S_ 32 := constantI S_ 32 0#32
  let main_v15 : IVec S64x18432 32 := broadcastInDim S64x18432 ![] bcast_S_S64x18432 main_c_4
  let main_v16 : IVec S64x18432 1 := cmpi .sge main_v3 main_v15
  let main_c_5 : IVec S_ 32 := constantI S_ 32 16384#32
  fn_part1 (F := F) main_v3 main_v14 main_v16 main_c_5
-- ==== Pre_gnn_in_range.lean ====
abbrev S64x1x2048 : Shape := ⟨3, ![64, 1, 2048]⟩
abbrev S64x72x1x256 : Shape := ⟨4, ![64, 72, 1, 256]⟩
abbrev S64x1x19456 : Shape := ⟨3, ![64, 1, 19456]⟩
abbrev S128x768 : Shape := ⟨2, ![128, 768]⟩
abbrev S2x768x768 : Shape := ⟨3, ![2, 768, 768]⟩
abbrev S8x768 : Shape := ⟨2, ![8, 768]⟩
abbrev S64x1x72 : Shape := ⟨3, ![64, 1, 72]⟩
abbrev S64x72 : Shape := ⟨2, ![64, 72]⟩
abbrev S64x1x18432 : Shape := ⟨3, ![64, 1, 18432]⟩
abbrev S64x18432 : Shape := ⟨2, ![64, 18432]⟩
abbrev S_ : Shape := ⟨0, ![]⟩

class Facts : Prop where
  slices_S64x1x19456_S64x1x72_0_0_0 : S64x1x19456.Slices ![0, 0, 0] S64x1x72
  shapeCasts_S64x1x72_S64x72 : S64x1x72.ShapeCasts S64x72
  slices_S64x1x19456_S64x1x18432_0_0_72 : S64x1x19456.Slices ![0, 0, 72] S64x1x18432
  shapeCasts_S64x1x18432_S64x18432 : S64x1x18432.ShapeCasts S64x18432
  bcast_S_S64x72 : S_.BroadcastsInDim S64x72 (![] : Fin 0 → Fin S64x72.rank)
  reducesTo_S64x72_S_d0_1 : S64x72.ReducesTo [0, 1] S_
  h_S_ : 0 < S_.numel
  bcast_S_S64x18432 : S_.BroadcastsInDim S64x18432 (![] : Fin 0 → Fin S64x18432.rank)
  reducesTo_S64x18432_S_d0_1 : S64x18432.ReducesTo [0, 1] S_
  bcast_S_S64x1x2048 : S_.BroadcastsInDim S64x1x2048 (![] : Fin 0 → Fin S64x1x2048.rank)
  reducesTo_S64x1x2048_S_d0_1_2 : S64x1x2048.ReducesTo [0, 1, 2] S_

variable [Facts]

def fn_part2 {F : FTy → Type} [FloatOps F] (main_arg1 : IVec S64x1x2048 32) (main_v26 : IVec S_ 1) (main_v34 : IVec S64x1x2048 1) : IVec S_ 1 :=
  let main_c_12 : IVec S_ 32 := constantI S_ 32 32#32
  let main_v35 : IVec S64x1x2048 32 := broadcastInDim S64x1x2048 ![] bcast_S_S64x1x2048 main_c_12
  let main_v36 : IVec S64x1x2048 1 := cmpi .slt main_arg1 main_v35
  let main_v37 : IVec S64x1x2048 1 := andi main_v34 main_v36
  let main_c_13 : IVec S_ 1 := constantI S_ 1 1#1
  let main_v38 : IVec S_ 1 := (fun x v => Host.reduce IntOp.andi x v reducesTo_S64x1x2048_S_d0_1_2 h_S_) main_v37 main_c_13
  let main_v39 : IVec S_ 1 := andi main_v26 main_v38
  main_v39

def fn_part1 {F : FTy → Type} [FloatOps F] (main_arg0 : IVec S64x1x2048 32) (main_arg1 : IVec S64x1x2048 32) (main_v3 : IVec S64x18432 32) (main_v14 : IVec S_ 1) (main_v16 : IVec S64x18432 1) (main_c_5 : IVec S_ 32) : IVec S_ 1 :=
  let main_v17 : IVec S64x18432 32 := broadcastInDim S64x18432 ![] bcast_S_S64x18432 main_c_5
  let main_v18 : IVec S64x18432 1 := cmpi .slt main_v3 main_v17
  let main_v19 : IVec S64x18432 1 := andi main_v16 main_v18
  let main_c_6 : IVec S_ 32 := constantI S_ 32 7#32
  let main_v20 : IVec S64x18432 32 := broadcastInDim S64x18432 ![] bcast_S_S64x18432 main_c_6
  let main_v21 : IVec S64x18432 32 := andi main_v3 main_v20
  let main_c_7 : IVec S_ 32 := constantI S_ 32 0#32
  let main_v22 : IVec S64x18432 32 := broadcastInDim S64x18432 ![] bcast_S_S64x18432 main_c_7
  let main_v23 : IVec S64x18432 1 := cmpi .eq main_v21 main_v22
  let main_v24 : IVec S64x18432 1 := andi main_v19 main_v23
  let main_c_8 : IVec S_ 1 := constantI S_ 1 1#1
  let main_v25 : IVec S_ 1 := (fun x v => Host.reduce IntOp.andi x v reducesTo_S64x18432_S_d0_1 h_S_) main_v24 main_c_8
  let main_v26 : IVec S_ 1 := andi main_v14 main_v25
  let main_c_9 : IVec S_ 32 := constantI S_ 32 0#32
  let main_v27 : IVec S64x1x2048 32 := broadcastInDim S64x1x2048 ![] bcast_S_S64x1x2048 main_c_9
  let main_v28 : IVec S64x1x2048 1 := cmpi .sge main_arg0 main_v27
  let main_c_10 : IVec S_ 32 := constantI S_ 32 25#32
  let main_v29 : IVec S64x1x2048 32 := broadcastInDim S64x1x2048 ![] bcast_S_S64x1x2048 main_c_10
  let main_v30 : IVec S64x1x2048 1 := cmpi .slt main_arg0 main_v29
  let main_v31 : IVec S64x1x2048 1 := andi main_v28 main_v30
  let main_c_11 : IVec S_ 32 := constantI S_ 32 0#32
  let main_v32 : IVec S64x1x2048 32 := broadcastInDim S64x1x2048 ![] bcast_S_S64x1x2048 main_c_11
  let main_v33 : IVec S64x1x2048 1 := cmpi .sge main_arg1 main_v32
  let main_v34 : IVec S64x1x2048 1 := andi main_v31 main_v33
  fn_part2 (F := F) main_arg1 main_v26 main_v34

def fn {F : FTy → Type} [FloatOps F] (main_arg0 : IVec S64x1x2048 32) (main_arg1 : IVec S64x1x2048 32) (main_arg2 : IVec S64x72x1x256 32) (main_arg3 : IVec S64x1x19456 32) (main_arg4 : FVec F S128x768 .f32) (main_arg5 : FVec F S2x768x768 .f32) (main_arg6 : FVec F S8x768 .f32) : IVec S_ 1 :=
  let main_v0 : IVec S64x1x72 32 := (extractStridedSlice S64x1x72 ![0, 0, 0] · slices_S64x1x19456_S64x1x72_0_0_0) main_arg3
  let main_v1 : IVec S64x72 32 := shapeCast S64x72 main_v0 shapeCasts_S64x1x72_S64x72
  let main_v2 : IVec S64x1x18432 32 := (extractStridedSlice S64x1x18432 ![0, 0, 72] · slices_S64x1x19456_S64x1x18432_0_0_72) main_arg3
  let main_v3 : IVec S64x18432 32 := shapeCast S64x18432 main_v2 shapeCasts_S64x1x18432_S64x18432
  let main_c : IVec S_ 32 := constantI S_ 32 0#32
  let main_v4 : IVec S64x72 32 := broadcastInDim S64x72 ![] bcast_S_S64x72 main_c
  let main_v5 : IVec S64x72 1 := cmpi .sge main_v1 main_v4
  let main_c_0 : IVec S_ 32 := constantI S_ 32 2048#32
  let main_v6 : IVec S64x72 32 := broadcastInDim S64x72 ![] bcast_S_S64x72 main_c_0
  let main_v7 : IVec S64x72 1 := cmpi .slt main_v1 main_v6
  let main_v8 : IVec S64x72 1 := andi main_v5 main_v7
  let main_c_1 : IVec S_ 32 := constantI S_ 32 255#32
  let main_v9 : IVec S64x72 32 := broadcastInDim S64x72 ![] bcast_S_S64x72 main_c_1
  let main_v10 : IVec S64x72 32 := andi main_v1 main_v9
  let main_c_2 : IVec S_ 32 := constantI S_ 32 0#32
  let main_v11 : IVec S64x72 32 := broadcastInDim S64x72 ![] bcast_S_S64x72 main_c_2
  let main_v12 : IVec S64x72 1 := cmpi .eq main_v10 main_v11
  let main_v13 : IVec S64x72 1 := andi main_v8 main_v12
  let main_c_3 : IVec S_ 1 := constantI S_ 1 1#1
  let main_v14 : IVec S_ 1 := (fun x v => Host.reduce IntOp.andi x v reducesTo_S64x72_S_d0_1 h_S_) main_v13 main_c_3
  let main_c_4 : IVec S_ 32 := constantI S_ 32 0#32
  let main_v15 : IVec S64x18432 32 := broadcastInDim S64x18432 ![] bcast_S_S64x18432 main_c_4
  let main_v16 : IVec S64x18432 1 := cmpi .sge main_v3 main_v15
  let main_c_5 : IVec S_ 32 := constantI S_ 32 16384#32
  fn_part1 (F := F) main_arg0 main_arg1 main_v3 main_v14 main_v16 main_c_5
-- ==== Pre_ids_in_range.lean ====
abbrev S32x32x768 : Shape := ⟨3, ![32, 32, 768]⟩
abbrev S32x32 : Shape := ⟨2, ![32, 32]⟩
abbrev S2x768 : Shape := ⟨2, ![2, 768]⟩
abbrev S64x768 : Shape := ⟨2, ![64, 768]⟩
abbrev S16x768 : Shape := ⟨2, ![16, 768]⟩
abbrev S768 : Shape := ⟨1, ![768]⟩
abbrev S4x768x768 : Shape := ⟨3, ![4, 768, 768]⟩
abbrev S4x768 : Shape := ⟨2, ![4, 768]⟩
abbrev S4x768x3072 : Shape := ⟨3, ![4, 768, 3072]⟩
abbrev S4x3072 : Shape := ⟨2, ![4, 3072]⟩
abbrev S4x3072x768 : Shape := ⟨3, ![4, 3072, 768]⟩
abbrev S_ : Shape := ⟨0, ![]⟩

class Facts : Prop where
  bcast_S_S32x32 : S_.BroadcastsInDim S32x32 (![] : Fin 0 → Fin S32x32.rank)

variable [Facts]

def fn {F : FTy → Type} [FloatOps F] (main_arg0 : FVec F S32x32x768 .f32) (main_arg1 : FVec F S32x32x768 .f32) (main_arg2 : IVec S32x32 32) (main_arg3 : IVec S32x32 32) (main_arg4 : IVec S32x32 32) (main_arg5 : FVec F S2x768 .f32) (main_arg6 : FVec F S64x768 .f32) (main_arg7 : FVec F S16x768 .f32) (main_arg8 : FVec F S768 .f32) (main_arg9 : FVec F S768 .f32) (main_arg10 : FVec F S4x768x768 .f32) (main_arg11 : FVec F S4x768 .f32) (main_arg12 : FVec F S4x768x768 .f32) (main_arg13 : FVec F S4x768 .f32) (main_arg14 : FVec F S4x768x768 .f32) (main_arg15 : FVec F S4x768 .f32) (main_arg16 : FVec F S4x768x768 .f32) (main_arg17 : FVec F S4x768 .f32) (main_arg18 : FVec F S4x768 .f32) (main_arg19 : FVec F S4x768 .f32) (main_arg20 : FVec F S4x768x3072 .f32) (main_arg21 : FVec F S4x3072 .f32) (main_arg22 : FVec F S4x3072x768 .f32) (main_arg23 : FVec F S4x768 .f32) (main_arg24 : FVec F S4x768 .f32) (main_arg25 : FVec F S4x768 .f32) : IVec S32x32 1 :=
  let main_c : IVec S_ 32 := constantI S_ 32 0#32
  let main_v0 : IVec S32x32 32 := broadcastInDim S32x32 ![] bcast_S_S32x32 main_c
  let main_v1 : IVec S32x32 1 := cmpi .sge main_arg2 main_v0
  let main_c_0 : IVec S_ 32 := constantI S_ 32 2#32
  let main_v2 : IVec S32x32 32 := broadcastInDim S32x32 ![] bcast_S_S32x32 main_c_0
  let main_v3 : IVec S32x32 1 := cmpi .slt main_arg2 main_v2
  let main_v4 : IVec S32x32 1 := andi main_v1 main_v3
  let main_c_1 : IVec S_ 32 := constantI S_ 32 0#32
  let main_v5 : IVec S32x32 32 := broadcastInDim S32x32 ![] bcast_S_S32x32 main_c_1
  let main_v6 : IVec S32x32 1 := cmpi .sge main_arg3 main_v5
  let main_v7 : IVec S32x32 1 := andi main_v4 main_v6
  let main_c_2 : IVec S_ 32 := constantI S_ 32 64#32
  let main_v8 : IVec S32x32 32 := broadcastInDim S32x32 ![] bcast_S_S32x32 main_c_2
  let main_v9 : IVec S32x32 1 := cmpi .slt main_arg3 main_v8
  let main_v10 : IVec S32x32 1 := andi main_v7 main_v9
  let main_c_3 : IVec S_ 32 := constantI S_ 32 0#32
  let main_v11 : IVec S32x32 32 := broadcastInDim S32x32 ![] bcast_S_S32x32 main_c_3
  let main_v12 : IVec S32x32 1 := cmpi .sge main_arg4 main_v11
  let main_v13 : IVec S32x32 1 := andi main_v10 main_v12
  let main_c_4 : IVec S_ 32 := constantI S_ 32 16#32
  let main_v14 : IVec S32x32 32 := broadcastInDim S32x32 ![] bcast_S_S32x32 main_c_4
  let main_v15 : IVec S32x32 1 := cmpi .slt main_arg4 main_v14
  let main_v16 : IVec S32x32 1 := andi main_v13 main_v15
  main_v16
-- ==== Tr.lean ====
abbrev S32x32x768 : Shape := ⟨3, ![32, 32, 768]⟩
abbrev S32x32 : Shape := ⟨2, ![32, 32]⟩
abbrev S2x768 : Shape := ⟨2, ![2, 768]⟩
abbrev S64x768 : Shape := ⟨2, ![64, 768]⟩
abbrev S16x768 : Shape := ⟨2, ![16, 768]⟩
abbrev S768 : Shape := ⟨1, ![768]⟩
abbrev S4x768x768 : Shape := ⟨3, ![4, 768, 768]⟩
abbrev S4x768 : Shape := ⟨2, ![4, 768]⟩
abbrev S4x768x3072 : Shape := ⟨3, ![4, 768, 3072]⟩
abbrev S4x3072 : Shape := ⟨2, ![4, 3072]⟩
abbrev S4x3072x768 : Shape := ⟨3, ![4, 3072, 768]⟩
abbrev S1024x768 : Shape := ⟨2, ![1024, 768]⟩
abbrev S1x1024 : Shape := ⟨2, ![1, 1024]⟩
abbrev S_ : Shape := ⟨0, ![]⟩
abbrev S128x768 : Shape := ⟨2, ![128, 768]⟩
abbrev S1 : Shape := ⟨1, ![1]⟩
abbrev S1x768 : Shape := ⟨2, ![1, 768]⟩
abbrev S4x1x768 : Shape := ⟨3, ![4, 1, 768]⟩
abbrev S4x1x3072 : Shape := ⟨3, ![4, 1, 3072]⟩
abbrev S512x768 : Shape := ⟨2, ![512, 768]⟩
abbrev S1x512 : Shape := ⟨2, ![1, 512]⟩
abbrev S1x768x768 : Shape := ⟨3, ![1, 768, 768]⟩
abbrev S1x1x768 : Shape := ⟨3, ![1, 1, 768]⟩
abbrev S1x768x3072 : Shape := ⟨3, ![1, 768, 3072]⟩
abbrev S1x1x3072 : Shape := ⟨3, ![1, 1, 3072]⟩
abbrev S1x3072x768 : Shape := ⟨3, ![1, 3072, 768]⟩
abbrev S128x512 : Shape := ⟨2, ![128, 512]⟩
abbrev S512 : Shape := ⟨1, ![512]⟩
abbrev S512x1 : Shape := ⟨2, ![512, 1]⟩
abbrev S768x768 : Shape := ⟨2, ![768, 768]⟩
abbrev S16x32x768 : Shape := ⟨3, ![16, 32, 768]⟩
abbrev S16x32x64 : Shape := ⟨3, ![16, 32, 64]⟩
abbrev S16x32x32 : Shape := ⟨3, ![16, 32, 32]⟩
abbrev S16x32 : Shape := ⟨2, ![16, 32]⟩
abbrev S16x32x1 : Shape := ⟨3, ![16, 32, 1]⟩
abbrev S768x3072 : Shape := ⟨2, ![768, 3072]⟩
abbrev S512x3072 : Shape := ⟨2, ![512, 3072]⟩
abbrev S1x3072 : Shape := ⟨2, ![1, 3072]⟩
abbrev S3072x768 : Shape := ⟨2, ![3072, 768]⟩

abbrev nBuf : Space → Nat
  | .hbm => 71
  | .vmem => 47
  | .smem => 0
  | _ => 0

abbrev bufTy : (tb : Table) → Fin (tcTables nBuf tb) → BufTy
  | .hbm, ⟨0, _⟩ => ⟨S32x32x768, .f32⟩
  | .hbm, ⟨1, _⟩ => ⟨S32x32x768, .f32⟩
  | .hbm, ⟨2, _⟩ => ⟨S32x32, .i32⟩
  | .hbm, ⟨3, _⟩ => ⟨S32x32, .i32⟩
  | .hbm, ⟨4, _⟩ => ⟨S32x32, .i32⟩
  | .hbm, ⟨5, _⟩ => ⟨S2x768, .f32⟩
  | .hbm, ⟨6, _⟩ => ⟨S64x768, .f32⟩
  | .hbm, ⟨7, _⟩ => ⟨S16x768, .f32⟩
  | .hbm, ⟨8, _⟩ => ⟨S768, .f32⟩
  | .hbm, ⟨9, _⟩ => ⟨S768, .f32⟩
  | .hbm, ⟨10, _⟩ => ⟨S4x768x768, .f32⟩
  | .hbm, ⟨11, _⟩ => ⟨S4x768, .f32⟩
  | .hbm, ⟨12, _⟩ => ⟨S4x768x768, .f32⟩
  | .hbm, ⟨13, _⟩ => ⟨S4x768, .f32⟩
  | .hbm, ⟨14, _⟩ => ⟨S4x768x768, .f32⟩
  | .hbm, ⟨15, _⟩ => ⟨S4x768, .f32⟩
  | .hbm, ⟨16, _⟩ => ⟨S4x768x768, .f32⟩
  | .hbm, ⟨17, _⟩ => ⟨S4x768, .f32⟩
  | .hbm, ⟨18, _⟩ => ⟨S4x768, .f32⟩
  | .hbm, ⟨19, _⟩ => ⟨S4x768, .f32⟩
  | .hbm, ⟨20, _⟩ => ⟨S4x768x3072, .f32⟩
  | .hbm, ⟨21, _⟩ => ⟨S4x3072, .f32⟩
  | .hbm, ⟨22, _⟩ => ⟨S4x3072x768, .f32⟩
  | .hbm, ⟨23, _⟩ => ⟨S4x768, .f32⟩
  | .hbm, ⟨24, _⟩ => ⟨S4x768, .f32⟩
  | .hbm, ⟨25, _⟩ => ⟨S4x768, .f32⟩
  | .hbm, ⟨26, _⟩ => ⟨S32x32x768, .f32⟩
  | .hbm, ⟨27, _⟩ => ⟨S1024x768, .f32⟩
  | .hbm, ⟨28, _⟩ => ⟨S1024x768, .f32⟩
  | .hbm, ⟨29, _⟩ => ⟨S1x1024, .i32⟩
  | .hbm, ⟨30, _⟩ => ⟨S_, .i32⟩
  | .hbm, ⟨31, _⟩ => ⟨S32x32, .i32⟩
  | .hbm, ⟨32, _⟩ => ⟨S32x32, .i32⟩
  | .hbm, ⟨33, _⟩ => ⟨S1x1024, .i32⟩
  | .hbm, ⟨34, _⟩ => ⟨S_, .i32⟩
  | .hbm, ⟨35, _⟩ => ⟨S32x32, .i32⟩
  | .hbm, ⟨36, _⟩ => ⟨S32x32, .i32⟩
  | .hbm, ⟨37, _⟩ => ⟨S_, .i32⟩
  | .hbm, ⟨38, _⟩ => ⟨S32x32, .i32⟩
  | .hbm, ⟨39, _⟩ => ⟨S32x32, .i32⟩
  | .hbm, ⟨40, _⟩ => ⟨S1x1024, .i32⟩
  | .hbm, ⟨41, _⟩ => ⟨S_, .f32⟩
  | .hbm, ⟨42, _⟩ => ⟨S128x768, .f32⟩
  | .hbm, ⟨43, _⟩ => ⟨S_, .i32⟩
  | .hbm, ⟨44, _⟩ => ⟨S1, .i32⟩
  | .hbm, ⟨45, _⟩ => ⟨S128x768, .f32⟩
  | .hbm, ⟨46, _⟩ => ⟨S_, .i32⟩
  | .hbm, ⟨47, _⟩ => ⟨S1, .i32⟩
  | .hbm, ⟨48, _⟩ => ⟨S128x768, .f32⟩
  | .hbm, ⟨49, _⟩ => ⟨S_, .i32⟩
  | .hbm, ⟨50, _⟩ => ⟨S1, .i32⟩
  | .hbm, ⟨51, _⟩ => ⟨S128x768, .f32⟩
  | .hbm, ⟨52, _⟩ => ⟨S1x768, .f32⟩
  | .hbm, ⟨53, _⟩ => ⟨S1x768, .f32⟩
  | .hbm, ⟨54, _⟩ => ⟨S4x768x768, .bf16⟩
  | .hbm, ⟨55, _⟩ => ⟨S4x1x768, .f32⟩
  | .hbm, ⟨56, _⟩ => ⟨S4x768x768, .bf16⟩
  | .hbm, ⟨57, _⟩ => ⟨S4x1x768, .f32⟩
  | .hbm, ⟨58, _⟩ => ⟨S4x768x768, .bf16⟩
  | .hbm, ⟨59, _⟩ => ⟨S4x1x768, .f32⟩
  | .hbm, ⟨60, _⟩ => ⟨S4x768x768, .bf16⟩
  | .hbm, ⟨61, _⟩ => ⟨S4x1x768, .f32⟩
  | .hbm, ⟨62, _⟩ => ⟨S4x1x768, .f32⟩
  | .hbm, ⟨63, _⟩ => ⟨S4x1x768, .f32⟩
  | .hbm, ⟨64, _⟩ => ⟨S4x768x3072, .bf16⟩
  | .hbm, ⟨65, _⟩ => ⟨S4x1x3072, .f32⟩
  | .hbm, ⟨66, _⟩ => ⟨S4x3072x768, .bf16⟩
  | .hbm, ⟨67, _⟩ => ⟨S4x1x768, .f32⟩
  | .hbm, ⟨68, _⟩ => ⟨S4x1x768, .f32⟩
  | .hbm, ⟨69, _⟩ => ⟨S4x1x768, .f32⟩
  | .hbm, ⟨70, _⟩ => ⟨S1024x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S1x512, .i32⟩
  | .local _ .vmem, ⟨5, _⟩ => ⟨S1x512, .i32⟩
  | .local _ .vmem, ⟨6, _⟩ => ⟨S1x512, .i32⟩
  | .local _ .vmem, ⟨7, _⟩ => ⟨S1x512, .i32⟩
  | .local _ .vmem, ⟨8, _⟩ => ⟨S1x512, .i32⟩
  | .local _ .vmem, ⟨9, _⟩ => ⟨S1x512, .i32⟩
  | .local _ .vmem, ⟨10, _⟩ => ⟨S128x768, .f32⟩
  | .local _ .vmem, ⟨11, _⟩ => ⟨S1x768, .f32⟩
  | .local _ .vmem, ⟨12, _⟩ => ⟨S1x768, .f32⟩
  | .local _ .vmem, ⟨13, _⟩ => ⟨S1x768x768, .bf16⟩
  | .local _ .vmem, ⟨14, _⟩ => ⟨S1x768x768, .bf16⟩
  | .local _ .vmem, ⟨15, _⟩ => ⟨S1x1x768, .f32⟩
  | .local _ .vmem, ⟨16, _⟩ => ⟨S1x1x768, .f32⟩
  | .local _ .vmem, ⟨17, _⟩ => ⟨S1x768x768, .bf16⟩
  | .local _ .vmem, ⟨18, _⟩ => ⟨S1x768x768, .bf16⟩
  | .local _ .vmem, ⟨19, _⟩ => ⟨S1x1x768, .f32⟩
  | .local _ .vmem, ⟨20, _⟩ => ⟨S1x1x768, .f32⟩
  | .local _ .vmem, ⟨21, _⟩ => ⟨S1x768x768, .bf16⟩
  | .local _ .vmem, ⟨22, _⟩ => ⟨S1x768x768, .bf16⟩
  | .local _ .vmem, ⟨23, _⟩ => ⟨S1x1x768, .f32⟩
  | .local _ .vmem, ⟨24, _⟩ => ⟨S1x1x768, .f32⟩
  | .local _ .vmem, ⟨25, _⟩ => ⟨S1x768x768, .bf16⟩
  | .local _ .vmem, ⟨26, _⟩ => ⟨S1x768x768, .bf16⟩
  | .local _ .vmem, ⟨27, _⟩ => ⟨S1x1x768, .f32⟩
  | .local _ .vmem, ⟨28, _⟩ => ⟨S1x1x768, .f32⟩
  | .local _ .vmem, ⟨29, _⟩ => ⟨S1x1x768, .f32⟩
  | .local _ .vmem, ⟨30, _⟩ => ⟨S1x1x768, .f32⟩
  | .local _ .vmem, ⟨31, _⟩ => ⟨S1x1x768, .f32⟩
  | .local _ .vmem, ⟨32, _⟩ => ⟨S1x1x768, .f32⟩
  | .local _ .vmem, ⟨33, _⟩ => ⟨S1x768x3072, .bf16⟩
  | .local _ .vmem, ⟨34, _⟩ => ⟨S1x768x3072, .bf16⟩
  | .local _ .vmem, ⟨35, _⟩ => ⟨S1x1x3072, .f32⟩
  | .local _ .vmem, ⟨36, _⟩ => ⟨S1x1x3072, .f32⟩
  | .local _ .vmem, ⟨37, _⟩ => ⟨S1x3072x768, .bf16⟩
  | .local _ .vmem, ⟨38, _⟩ => ⟨S1x3072x768, .bf16⟩
  | .local _ .vmem, ⟨39, _⟩ => ⟨S1x1x768, .f32⟩
  | .local _ .vmem, ⟨40, _⟩ => ⟨S1x1x768, .f32⟩
  | .local _ .vmem, ⟨41, _⟩ => ⟨S1x1x768, .f32⟩
  | .local _ .vmem, ⟨42, _⟩ => ⟨S1x1x768, .f32⟩
  | .local _ .vmem, ⟨43, _⟩ => ⟨S1x1x768, .f32⟩
  | .local _ .vmem, ⟨44, _⟩ => ⟨S1x1x768, .f32⟩
  | .local _ .vmem, ⟨45, _⟩ => ⟨S512x768, .f32⟩
  | .local _ .vmem, ⟨46, _⟩ => ⟨S512x768, .f32⟩
  | _, _ => ⟨S32x32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_c_0 : Ref sig .tc := ⟨.hbm, 34, rfl⟩
abbrev main_v7 : Ref sig .tc := ⟨.hbm, 35, rfl⟩
abbrev main_v8 : Ref sig .tc := ⟨.hbm, 36, rfl⟩
abbrev main_c_1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst : Ref sig .tc := ⟨.hbm, 41, rfl⟩
abbrev main_v12 : Ref sig .tc := ⟨.hbm, 42, rfl⟩
abbrev main_c_2 : Ref sig .tc := ⟨.hbm, 43, rfl⟩
abbrev main_v13 : Ref sig .tc := ⟨.hbm, 44, rfl⟩
abbrev main_v14 : Ref sig .tc := ⟨.hbm, 45, rfl⟩
abbrev main_c_3 : Ref sig .tc := ⟨.hbm, 46, rfl⟩
abbrev main_v15 : Ref sig .tc := ⟨.hbm, 47, rfl⟩
abbrev main_v16 : Ref sig .tc := ⟨.hbm, 48, rfl⟩
abbrev main_c_4 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_stg22_0 : Ref sig .tc := ⟨.vmem, 41, rfl⟩
abbrev cc0_stg22_1 : Ref sig .tc := ⟨.vmem, 42, rfl⟩
abbrev cc0_stg23_0 : Ref sig .tc := ⟨.vmem, 43, rfl⟩
abbrev cc0_stg23_1 : Ref sig .tc := ⟨.vmem, 44, rfl⟩
abbrev cc0_stg24_0 : Ref sig .tc := ⟨.vmem, 45, rfl⟩
abbrev cc0_stg24_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40
abbrev cc0_sem22_0 : DmaSem sig := 41
abbrev cc0_sem22_1 : DmaSem sig := 42
abbrev cc0_sem23_0 : DmaSem sig := 43
abbrev cc0_sem23_1 : DmaSem sig := 44
abbrev cc0_sem24_0 : DmaSem sig := 45
abbrev cc0_sem24_1 : DmaSem sig := 46

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x768x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x768x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x768x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x768x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x1x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x1x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S1x1x768 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x768x3072 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S1x1x3072 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![false, true]

abbrev stage0_20 : Fin 2 → Memref sig .tc .vmem S1x3072x768 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![false, true]

abbrev stage0_21 : Fin 2 → Memref sig .tc .vmem S1x1x768 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![false, true]

abbrev stage0_22 : Fin 2 → Memref sig .tc .vmem S1x1x768 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![false, true]

abbrev stage0_23 : Fin 2 → Memref sig .tc .vmem S1x1x768 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![false, true]

abbrev stage0_24 : Fin 2 → Memref sig .tc .vmem S512x768 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, false]
-- ==== TrRefIdeal.lean ====
abbrev S32x32x768 : Shape := ⟨3, ![32, 32, 768]⟩
abbrev S32x32 : Shape := ⟨2, ![32, 32]⟩
abbrev S2x768 : Shape := ⟨2, ![2, 768]⟩
abbrev S64x768 : Shape := ⟨2, ![64, 768]⟩
abbrev S16x768 : Shape := ⟨2, ![16, 768]⟩
abbrev S768 : Shape := ⟨1, ![768]⟩
abbrev S4x768x768 : Shape := ⟨3, ![4, 768, 768]⟩
abbrev S4x768 : Shape := ⟨2, ![4, 768]⟩
abbrev S4x768x3072 : Shape := ⟨3, ![4, 768, 3072]⟩
abbrev S4x3072 : Shape := ⟨2, ![4, 3072]⟩
abbrev S4x3072x768 : Shape := ⟨3, ![4, 3072, 768]⟩
abbrev S_ : Shape := ⟨0, ![]⟩
abbrev S32x32x1 : Shape := ⟨3, ![32, 32, 1]⟩
abbrev S1x1x768 : Shape := ⟨3, ![1, 1, 768]⟩
abbrev S1x768x768 : Shape := ⟨3, ![1, 768, 768]⟩
abbrev S768x768 : Shape := ⟨2, ![768, 768]⟩
abbrev S1x768 : Shape := ⟨2, ![1, 768]⟩
abbrev S32x32x12x64 : Shape := ⟨4, ![32, 32, 12, 64]⟩
abbrev S32x12x32x32 : Shape := ⟨4, ![32, 12, 32, 32]⟩
abbrev S32x12x32 : Shape := ⟨3, ![32, 12, 32]⟩
abbrev S32x12x32x1 : Shape := ⟨4, ![32, 12, 32, 1]⟩
abbrev S32x12x64x32 : Shape := ⟨4, ![32, 12, 64, 32]⟩
abbrev S1x768x3072 : Shape := ⟨3, ![1, 768, 3072]⟩
abbrev S768x3072 : Shape := ⟨2, ![768, 3072]⟩
abbrev S32x32x3072 : Shape := ⟨3, ![32, 32, 3072]⟩
abbrev S1x3072 : Shape := ⟨2, ![1, 3072]⟩
abbrev S3072 : Shape := ⟨1, ![3072]⟩
abbrev S1x1x3072 : Shape := ⟨3, ![1, 1, 3072]⟩
abbrev S1x3072x768 : Shape := ⟨3, ![1, 3072, 768]⟩
abbrev S3072x768 : Shape := ⟨2, ![3072, 768]⟩
abbrev S1024x768 : Shape := ⟨2, ![1024, 768]⟩

abbrev nBuf : Space → Nat
  | .hbm => 716
  | .vmem => 0
  | .smem => 0
  | _ => 0

abbrev hbmTy0_0 (i : Nat) : BufTy := match i % 128 with
  | 0 => ⟨S32x32x768, .f32⟩
  | 1 => ⟨S32x32x768, .f32⟩
  | 2 => ⟨S32x32, .i32⟩
  | 3 => ⟨S32x32, .i32⟩
  | 4 => ⟨S32x32, .i32⟩
  | 5 => ⟨S2x768, .f32⟩
  | 6 => ⟨S64x768, .f32⟩
  | 7 => ⟨S16x768, .f32⟩
  | 8 => ⟨S768, .f32⟩
  | 9 => ⟨S768, .f32⟩
  | 10 => ⟨S4x768x768, .f32⟩
  | 11 => ⟨S4x768, .f32⟩
  | 12 => ⟨S4x768x768, .f32⟩
  | 13 => ⟨S4x768, .f32⟩
  | 14 => ⟨S4x768x768, .f32⟩
  | 15 => ⟨S4x768, .f32⟩
  | 16 => ⟨S4x768x768, .f32⟩
  | 17 => ⟨S4x768, .f32⟩
  | 18 => ⟨S4x768, .f32⟩
  | 19 => ⟨S4x768, .f32⟩
  | 20 => ⟨S4x768x3072, .f32⟩
  | 21 => ⟨S4x3072, .f32⟩
  | 22 => ⟨S4x3072x768, .f32⟩
  | 23 => ⟨S4x768, .f32⟩
  | 24 => ⟨S4x768, .f32⟩
  | 25 => ⟨S4x768, .f32⟩
  | 26 => ⟨S32x32x768, .f32⟩
  | 27 => ⟨S32x32x768, .f32⟩
  | 28 => ⟨S_, .i32⟩
  | 29 => ⟨S32x32, .i32⟩
  | 30 => ⟨S32x32, .i1⟩
  | 31 => ⟨S_, .i32⟩
  | 32 => ⟨S32x32, .i32⟩
  | 33 => ⟨S32x32, .i32⟩
  | 34 => ⟨S32x32, .i32⟩
  | 35 => ⟨S32x32x1, .i32⟩
  | 36 => ⟨S32x32x768, .f32⟩
  | 37 => ⟨S32x32x768, .f32⟩
  | 38 => ⟨S_, .i32⟩
  | 39 => ⟨S32x32, .i32⟩
  | 40 => ⟨S32x32, .i1⟩
  | 41 => ⟨S_, .i32⟩
  | 42 => ⟨S32x32, .i32⟩
  | 43 => ⟨S32x32, .i32⟩
  | 44 => ⟨S32x32, .i32⟩
  | 45 => ⟨S32x32x1, .i32⟩
  | 46 => ⟨S32x32x768, .f32⟩
  | 47 => ⟨S32x32x768, .f32⟩
  | 48 => ⟨S_, .i32⟩
  | 49 => ⟨S32x32, .i32⟩
  | 50 => ⟨S32x32, .i1⟩
  | 51 => ⟨S_, .i32⟩
  | 52 => ⟨S32x32, .i32⟩
  | 53 => ⟨S32x32, .i32⟩
  | 54 => ⟨S32x32, .i32⟩
  | 55 => ⟨S32x32x1, .i32⟩
  | 56 => ⟨S32x32x768, .f32⟩
  | 57 => ⟨S32x32x768, .f32⟩
  | 58 => ⟨S_, .f32⟩
  | 59 => ⟨S32x32, .f32⟩
  | 60 => ⟨S32x32x1, .f32⟩
  | 61 => ⟨S_, .f32⟩
  | 62 => ⟨S32x32x1, .f32⟩
  | 63 => ⟨S32x32x1, .f32⟩
  | 64 => ⟨S32x32x768, .f32⟩
  | 65 => ⟨S32x32x768, .f32⟩
  | 66 => ⟨S32x32x768, .f32⟩
  | 67 => ⟨S_, .f32⟩
  | 68 => ⟨S32x32, .f32⟩
  | 69 => ⟨S32x32x1, .f32⟩
  | 70 => ⟨S_, .f32⟩
  | 71 => ⟨S32x32x1, .f32⟩
  | 72 => ⟨S32x32x1, .f32⟩
  | 73 => ⟨S32x32x768, .f32⟩
  | 74 => ⟨S32x32x768, .f32⟩
  | 75 => ⟨S_, .f32⟩
  | 76 => ⟨S32x32x1, .f32⟩
  | 77 => ⟨S32x32x1, .f32⟩
  | 78 => ⟨S32x32x1, .f32⟩
  | 79 => ⟨S32x32x768, .f32⟩
  | 80 => ⟨S32x32x768, .f32⟩
  | 81 => ⟨S1x1x768, .f32⟩
  | 82 => ⟨S32x32x768, .f32⟩
  | 83 => ⟨S32x32x768, .f32⟩
  | 84 => ⟨S1x1x768, .f32⟩
  | 85 => ⟨S32x32x768, .f32⟩
  | 86 => ⟨S32x32x768, .f32⟩
  | 87 => ⟨S1x768x768, .f32⟩
  | 88 => ⟨S768x768, .f32⟩
  | 89 => ⟨S32x32x768, .f32⟩
  | 90 => ⟨S1x768, .f32⟩
  | 91 => ⟨S768, .f32⟩
  | 92 => ⟨S1x1x768, .f32⟩
  | 93 => ⟨S32x32x768, .f32⟩
  | 94 => ⟨S32x32x768, .f32⟩
  | 95 => ⟨S32x32x12x64, .f32⟩
  | 96 => ⟨S1x768x768, .f32⟩
  | 97 => ⟨S768x768, .f32⟩
  | 98 => ⟨S32x32x768, .f32⟩
  | 99 => ⟨S1x768, .f32⟩
  | 100 => ⟨S768, .f32⟩
  | 101 => ⟨S1x1x768, .f32⟩
  | 102 => ⟨S32x32x768, .f32⟩
  | 103 => ⟨S32x32x768, .f32⟩
  | 104 => ⟨S32x32x12x64, .f32⟩
  | 105 => ⟨S1x768x768, .f32⟩
  | 106 => ⟨S768x768, .f32⟩
  | 107 => ⟨S32x32x768, .f32⟩
  | 108 => ⟨S1x768, .f32⟩
  | 109 => ⟨S768, .f32⟩
  | 110 => ⟨S1x1x768, .f32⟩
  | 111 => ⟨S32x32x768, .f32⟩
  | 112 => ⟨S32x32x768, .f32⟩
  | 113 => ⟨S32x32x12x64, .f32⟩
  | 114 => ⟨S32x12x32x32, .f32⟩
  | 115 => ⟨S_, .f32⟩
  | 116 => ⟨S32x12x32x32, .f32⟩
  | 117 => ⟨S32x12x32x32, .f32⟩
  | 118 => ⟨S_, .f32⟩
  | 119 => ⟨S32x12x32, .f32⟩
  | 120 => ⟨S_, .f32⟩
  | 121 => ⟨S32x12x32, .f32⟩
  | 122 => ⟨S32x12x32, .f32⟩
  | 123 => ⟨S32x12x32x1, .f32⟩
  | 124 => ⟨S32x12x32x32, .f32⟩
  | 125 => ⟨S32x12x32x32, .f32⟩
  | 126 => ⟨S32x12x32x32, .f32⟩
  | 127 => ⟨S_, .f32⟩
  | _ => ⟨S32x32x768, .f32⟩

abbrev hbmTy0_1 (i : Nat) : BufTy := match i % 128 with
  | 0 => ⟨S32x12x32, .f32⟩
  | 1 => ⟨S32x12x32x1, .f32⟩
  | 2 => ⟨S32x12x32x32, .f32⟩
  | 3 => ⟨S32x12x32x32, .f32⟩
  | 4 => ⟨S32x12x64x32, .f32⟩
  | 5 => ⟨S32x32x12x64, .f32⟩
  | 6 => ⟨S32x32x768, .f32⟩
  | 7 => ⟨S1x768x768, .f32⟩
  | 8 => ⟨S768x768, .f32⟩
  | 9 => ⟨S32x32x768, .f32⟩
  | 10 => ⟨S32x32x768, .f32⟩
  | 11 => ⟨S1x768, .f32⟩
  | 12 => ⟨S768, .f32⟩
  | 13 => ⟨S1x1x768, .f32⟩
  | 14 => ⟨S32x32x768, .f32⟩
  | 15 => ⟨S32x32x768, .f32⟩
  | 16 => ⟨S1x768, .f32⟩
  | 17 => ⟨S768, .f32⟩
  | 18 => ⟨S1x768, .f32⟩
  | 19 => ⟨S768, .f32⟩
  | 20 => ⟨S_, .f32⟩
  | 21 => ⟨S32x32, .f32⟩
  | 22 => ⟨S32x32x1, .f32⟩
  | 23 => ⟨S_, .f32⟩
  | 24 => ⟨S32x32x1, .f32⟩
  | 25 => ⟨S32x32x1, .f32⟩
  | 26 => ⟨S32x32x768, .f32⟩
  | 27 => ⟨S32x32x768, .f32⟩
  | 28 => ⟨S32x32x768, .f32⟩
  | 29 => ⟨S_, .f32⟩
  | 30 => ⟨S32x32, .f32⟩
  | 31 => ⟨S32x32x1, .f32⟩
  | 32 => ⟨S_, .f32⟩
  | 33 => ⟨S32x32x1, .f32⟩
  | 34 => ⟨S32x32x1, .f32⟩
  | 35 => ⟨S32x32x768, .f32⟩
  | 36 => ⟨S32x32x768, .f32⟩
  | 37 => ⟨S_, .f32⟩
  | 38 => ⟨S32x32x1, .f32⟩
  | 39 => ⟨S32x32x1, .f32⟩
  | 40 => ⟨S32x32x1, .f32⟩
  | 41 => ⟨S32x32x768, .f32⟩
  | 42 => ⟨S32x32x768, .f32⟩
  | 43 => ⟨S1x1x768, .f32⟩
  | 44 => ⟨S32x32x768, .f32⟩
  | 45 => ⟨S32x32x768, .f32⟩
  | 46 => ⟨S1x1x768, .f32⟩
  | 47 => ⟨S32x32x768, .f32⟩
  | 48 => ⟨S32x32x768, .f32⟩
  | 49 => ⟨S1x768x3072, .f32⟩
  | 50 => ⟨S768x3072, .f32⟩
  | 51 => ⟨S32x32x3072, .f32⟩
  | 52 => ⟨S1x3072, .f32⟩
  | 53 => ⟨S3072, .f32⟩
  | 54 => ⟨S1x1x3072, .f32⟩
  | 55 => ⟨S32x32x3072, .f32⟩
  | 56 => ⟨S32x32x3072, .f32⟩
  | 57 => ⟨S32x32x3072, .f32⟩
  | 58 => ⟨S32x32x3072, .f32⟩
  | 59 => ⟨S_, .f32⟩
  | 60 => ⟨S32x32x3072, .f32⟩
  | 61 => ⟨S32x32x3072, .f32⟩
  | 62 => ⟨S32x32x3072, .f32⟩
  | 63 => ⟨S_, .f32⟩
  | 64 => ⟨S32x32x3072, .f32⟩
  | 65 => ⟨S32x32x3072, .f32⟩
  | 66 => ⟨S32x32x3072, .f32⟩
  | 67 => ⟨S_, .f32⟩
  | 68 => ⟨S32x32x3072, .f32⟩
  | 69 => ⟨S32x32x3072, .f32⟩
  | 70 => ⟨S_, .f32⟩
  | 71 => ⟨S32x32x3072, .f32⟩
  | 72 => ⟨S32x32x3072, .f32⟩
  | 73 => ⟨S32x32x3072, .f32⟩
  | 74 => ⟨S1x3072x768, .f32⟩
  | 75 => ⟨S3072x768, .f32⟩
  | 76 => ⟨S32x32x768, .f32⟩
  | 77 => ⟨S1x768, .f32⟩
  | 78 => ⟨S768, .f32⟩
  | 79 => ⟨S1x1x768, .f32⟩
  | 80 => ⟨S32x32x768, .f32⟩
  | 81 => ⟨S32x32x768, .f32⟩
  | 82 => ⟨S32x32x768, .f32⟩
  | 83 => ⟨S1x768, .f32⟩
  | 84 => ⟨S768, .f32⟩
  | 85 => ⟨S1x768, .f32⟩
  | 86 => ⟨S768, .f32⟩
  | 87 => ⟨S_, .f32⟩
  | 88 => ⟨S32x32, .f32⟩
  | 89 => ⟨S32x32x1, .f32⟩
  | 90 => ⟨S_, .f32⟩
  | 91 => ⟨S32x32x1, .f32⟩
  | 92 => ⟨S32x32x1, .f32⟩
  | 93 => ⟨S32x32x768, .f32⟩
  | 94 => ⟨S32x32x768, .f32⟩
  | 95 => ⟨S32x32x768, .f32⟩
  | 96 => ⟨S_, .f32⟩
  | 97 => ⟨S32x32, .f32⟩
  | 98 => ⟨S32x32x1, .f32⟩
  | 99 => ⟨S_, .f32⟩
  | 100 => ⟨S32x32x1, .f32⟩
  | 101 => ⟨S32x32x1, .f32⟩
  | 102 => ⟨S32x32x768, .f32⟩
  | 103 => ⟨S32x32x768, .f32⟩
  | 104 => ⟨S_, .f32⟩
  | 105 => ⟨S32x32x1, .f32⟩
  | 106 => ⟨S32x32x1, .f32⟩
  | 107 => ⟨S32x32x1, .f32⟩
  | 108 => ⟨S32x32x768, .f32⟩
  | 109 => ⟨S32x32x768, .f32⟩
  | 110 => ⟨S1x1x768, .f32⟩
  | 111 => ⟨S32x32x768, .f32⟩
  | 112 => ⟨S32x32x768, .f32⟩
  | 113 => ⟨S1x1x768, .f32⟩
  | 114 => ⟨S32x32x768, .f32⟩
  | 115 => ⟨S32x32x768, .f32⟩
  | 116 => ⟨S1x768x768, .f32⟩
  | 117 => ⟨S768x768, .f32⟩
  | 118 => ⟨S32x32x768, .f32⟩
  | 119 => ⟨S1x768, .f32⟩
  | 120 => ⟨S768, .f32⟩
  | 121 => ⟨S1x1x768, .f32⟩
  | 122 => ⟨S32x32x768, .f32⟩
  | 123 => ⟨S32x32x768, .f32⟩
  | 124 => ⟨S32x32x12x64, .f32⟩
  | 125 => ⟨S1x768x768, .f32⟩
  | 126 => ⟨S768x768, .f32⟩
  | 127 => ⟨S32x32x768, .f32⟩
  | _ => ⟨S32x32x768, .f32⟩

abbrev hbmTy0_2 (i : Nat) : BufTy := match i % 128 with
  | 0 => ⟨S1x768, .f32⟩
  | 1 => ⟨S768, .f32⟩
  | 2 => ⟨S1x1x768, .f32⟩
  | 3 => ⟨S32x32x768, .f32⟩
  | 4 => ⟨S32x32x768, .f32⟩
  | 5 => ⟨S32x32x12x64, .f32⟩
  | 6 => ⟨S1x768x768, .f32⟩
  | 7 => ⟨S768x768, .f32⟩
  | 8 => ⟨S32x32x768, .f32⟩
  | 9 => ⟨S1x768, .f32⟩
  | 10 => ⟨S768, .f32⟩
  | 11 => ⟨S1x1x768, .f32⟩
  | 12 => ⟨S32x32x768, .f32⟩
  | 13 => ⟨S32x32x768, .f32⟩
  | 14 => ⟨S32x32x12x64, .f32⟩
  | 15 => ⟨S32x12x32x32, .f32⟩
  | 16 => ⟨S_, .f32⟩
  | 17 => ⟨S32x12x32x32, .f32⟩
  | 18 => ⟨S32x12x32x32, .f32⟩
  | 19 => ⟨S_, .f32⟩
  | 20 => ⟨S32x12x32, .f32⟩
  | 21 => ⟨S_, .f32⟩
  | 22 => ⟨S32x12x32, .f32⟩
  | 23 => ⟨S32x12x32, .f32⟩
  | 24 => ⟨S32x12x32x1, .f32⟩
  | 25 => ⟨S32x12x32x32, .f32⟩
  | 26 => ⟨S32x12x32x32, .f32⟩
  | 27 => ⟨S32x12x32x32, .f32⟩
  | 28 => ⟨S_, .f32⟩
  | 29 => ⟨S32x12x32, .f32⟩
  | 30 => ⟨S32x12x32x1, .f32⟩
  | 31 => ⟨S32x12x32x32, .f32⟩
  | 32 => ⟨S32x12x32x32, .f32⟩
  | 33 => ⟨S32x12x64x32, .f32⟩
  | 34 => ⟨S32x32x12x64, .f32⟩
  | 35 => ⟨S32x32x768, .f32⟩
  | 36 => ⟨S1x768x768, .f32⟩
  | 37 => ⟨S768x768, .f32⟩
  | 38 => ⟨S32x32x768, .f32⟩
  | 39 => ⟨S32x32x768, .f32⟩
  | 40 => ⟨S1x768, .f32⟩
  | 41 => ⟨S768, .f32⟩
  | 42 => ⟨S1x1x768, .f32⟩
  | 43 => ⟨S32x32x768, .f32⟩
  | 44 => ⟨S32x32x768, .f32⟩
  | 45 => ⟨S1x768, .f32⟩
  | 46 => ⟨S768, .f32⟩
  | 47 => ⟨S1x768, .f32⟩
  | 48 => ⟨S768, .f32⟩
  | 49 => ⟨S_, .f32⟩
  | 50 => ⟨S32x32, .f32⟩
  | 51 => ⟨S32x32x1, .f32⟩
  | 52 => ⟨S_, .f32⟩
  | 53 => ⟨S32x32x1, .f32⟩
  | 54 => ⟨S32x32x1, .f32⟩
  | 55 => ⟨S32x32x768, .f32⟩
  | 56 => ⟨S32x32x768, .f32⟩
  | 57 => ⟨S32x32x768, .f32⟩
  | 58 => ⟨S_, .f32⟩
  | 59 => ⟨S32x32, .f32⟩
  | 60 => ⟨S32x32x1, .f32⟩
  | 61 => ⟨S_, .f32⟩
  | 62 => ⟨S32x32x1, .f32⟩
  | 63 => ⟨S32x32x1, .f32⟩
  | 64 => ⟨S32x32x768, .f32⟩
  | 65 => ⟨S32x32x768, .f32⟩
  | 66 => ⟨S_, .f32⟩
  | 67 => ⟨S32x32x1, .f32⟩
  | 68 => ⟨S32x32x1, .f32⟩
  | 69 => ⟨S32x32x1, .f32⟩
  | 70 => ⟨S32x32x768, .f32⟩
  | 71 => ⟨S32x32x768, .f32⟩
  | 72 => ⟨S1x1x768, .f32⟩
  | 73 => ⟨S32x32x768, .f32⟩
  | 74 => ⟨S32x32x768, .f32⟩
  | 75 => ⟨S1x1x768, .f32⟩
  | 76 => ⟨S32x32x768, .f32⟩
  | 77 => ⟨S32x32x768, .f32⟩
  | 78 => ⟨S1x768x3072, .f32⟩
  | 79 => ⟨S768x3072, .f32⟩
  | 80 => ⟨S32x32x3072, .f32⟩
  | 81 => ⟨S1x3072, .f32⟩
  | 82 => ⟨S3072, .f32⟩
  | 83 => ⟨S1x1x3072, .f32⟩
  | 84 => ⟨S32x32x3072, .f32⟩
  | 85 => ⟨S32x32x3072, .f32⟩
  | 86 => ⟨S32x32x3072, .f32⟩
  | 87 => ⟨S32x32x3072, .f32⟩
  | 88 => ⟨S_, .f32⟩
  | 89 => ⟨S32x32x3072, .f32⟩
  | 90 => ⟨S32x32x3072, .f32⟩
  | 91 => ⟨S32x32x3072, .f32⟩
  | 92 => ⟨S_, .f32⟩
  | 93 => ⟨S32x32x3072, .f32⟩
  | 94 => ⟨S32x32x3072, .f32⟩
  | 95 => ⟨S32x32x3072, .f32⟩
  | 96 => ⟨S_, .f32⟩
  | 97 => ⟨S32x32x3072, .f32⟩
  | 98 => ⟨S32x32x3072, .f32⟩
  | 99 => ⟨S_, .f32⟩
  | 100 => ⟨S32x32x3072, .f32⟩
  | 101 => ⟨S32x32x3072, .f32⟩
  | 102 => ⟨S32x32x3072, .f32⟩
  | 103 => ⟨S1x3072x768, .f32⟩
  | 104 => ⟨S3072x768, .f32⟩
  | 105 => ⟨S32x32x768, .f32⟩
  | 106 => ⟨S1x768, .f32⟩
  | 107 => ⟨S768, .f32⟩
  | 108 => ⟨S1x1x768, .f32⟩
  | 109 => ⟨S32x32x768, .f32⟩
  | 110 => ⟨S32x32x768, .f32⟩
  | 111 => ⟨S32x32x768, .f32⟩
  | 112 => ⟨S1x768, .f32⟩
  | 113 => ⟨S768, .f32⟩
  | 114 => ⟨S1x768, .f32⟩
  | 115 => ⟨S768, .f32⟩
  | 116 => ⟨S_, .f32⟩
  | 117 => ⟨S32x32, .f32⟩
  | 118 => ⟨S32x32x1, .f32⟩
  | 119 => ⟨S_, .f32⟩
  | 120 => ⟨S32x32x1, .f32⟩
  | 121 => ⟨S32x32x1, .f32⟩
  | 122 => ⟨S32x32x768, .f32⟩
  | 123 => ⟨S32x32x768, .f32⟩
  | 124 => ⟨S32x32x768, .f32⟩
  | 125 => ⟨S_, .f32⟩
  | 126 => ⟨S32x32, .f32⟩
  | 127 => ⟨S32x32x1, .f32⟩
  | _ => ⟨S32x32x768, .f32⟩

abbrev hbmTy0_3 (i : Nat) : BufTy := match i % 128 with
  | 0 => ⟨S_, .f32⟩
  | 1 => ⟨S32x32x1, .f32⟩
  | 2 => ⟨S32x32x1, .f32⟩
  | 3 => ⟨S32x32x768, .f32⟩
  | 4 => ⟨S32x32x768, .f32⟩
  | 5 => ⟨S_, .f32⟩
  | 6 => ⟨S32x32x1, .f32⟩
  | 7 => ⟨S32x32x1, .f32⟩
  | 8 => ⟨S32x32x1, .f32⟩
  | 9 => ⟨S32x32x768, .f32⟩
  | 10 => ⟨S32x32x768, .f32⟩
  | 11 => ⟨S1x1x768, .f32⟩
  | 12 => ⟨S32x32x768, .f32⟩
  | 13 => ⟨S32x32x768, .f32⟩
  | 14 => ⟨S1x1x768, .f32⟩
  | 15 => ⟨S32x32x768, .f32⟩
  | 16 => ⟨S32x32x768, .f32⟩
  | 17 => ⟨S1x768x768, .f32⟩
  | 18 => ⟨S768x768, .f32⟩
  | 19 => ⟨S32x32x768, .f32⟩
  | 20 => ⟨S1x768, .f32⟩
  | 21 => ⟨S768, .f32⟩
  | 22 => ⟨S1x1x768, .f32⟩
  | 23 => ⟨S32x32x768, .f32⟩
  | 24 => ⟨S32x32x768, .f32⟩
  | 25 => ⟨S32x32x12x64, .f32⟩
  | 26 => ⟨S1x768x768, .f32⟩
  | 27 => ⟨S768x768, .f32⟩
  | 28 => ⟨S32x32x768, .f32⟩
  | 29 => ⟨S1x768, .f32⟩
  | 30 => ⟨S768, .f32⟩
  | 31 => ⟨S1x1x768, .f32⟩
  | 32 => ⟨S32x32x768, .f32⟩
  | 33 => ⟨S32x32x768, .f32⟩
  | 34 => ⟨S32x32x12x64, .f32⟩
  | 35 => ⟨S1x768x768, .f32⟩
  | 36 => ⟨S768x768, .f32⟩
  | 37 => ⟨S32x32x768, .f32⟩
  | 38 => ⟨S1x768, .f32⟩
  | 39 => ⟨S768, .f32⟩
  | 40 => ⟨S1x1x768, .f32⟩
  | 41 => ⟨S32x32x768, .f32⟩
  | 42 => ⟨S32x32x768, .f32⟩
  | 43 => ⟨S32x32x12x64, .f32⟩
  | 44 => ⟨S32x12x32x32, .f32⟩
  | 45 => ⟨S_, .f32⟩
  | 46 => ⟨S32x12x32x32, .f32⟩
  | 47 => ⟨S32x12x32x32, .f32⟩
  | 48 => ⟨S_, .f32⟩
  | 49 => ⟨S32x12x32, .f32⟩
  | 50 => ⟨S_, .f32⟩
  | 51 => ⟨S32x12x32, .f32⟩
  | 52 => ⟨S32x12x32, .f32⟩
  | 53 => ⟨S32x12x32x1, .f32⟩
  | 54 => ⟨S32x12x32x32, .f32⟩
  | 55 => ⟨S32x12x32x32, .f32⟩
  | 56 => ⟨S32x12x32x32, .f32⟩
  | 57 => ⟨S_, .f32⟩
  | 58 => ⟨S32x12x32, .f32⟩
  | 59 => ⟨S32x12x32x1, .f32⟩
  | 60 => ⟨S32x12x32x32, .f32⟩
  | 61 => ⟨S32x12x32x32, .f32⟩
  | 62 => ⟨S32x12x64x32, .f32⟩
  | 63 => ⟨S32x32x12x64, .f32⟩
  | 64 => ⟨S32x32x768, .f32⟩
  | 65 => ⟨S1x768x768, .f32⟩
  | 66 => ⟨S768x768, .f32⟩
  | 67 => ⟨S32x32x768, .f32⟩
  | 68 => ⟨S32x32x768, .f32⟩
  | 69 => ⟨S1x768, .f32⟩
  | 70 => ⟨S768, .f32⟩
  | 71 => ⟨S1x1x768, .f32⟩
  | 72 => ⟨S32x32x768, .f32⟩
  | 73 => ⟨S32x32x768, .f32⟩
  | 74 => ⟨S1x768, .f32⟩
  | 75 => ⟨S768, .f32⟩
  | 76 => ⟨S1x768, .f32⟩
  | 77 => ⟨S768, .f32⟩
  | 78 => ⟨S_, .f32⟩
  | 79 => ⟨S32x32, .f32⟩
  | 80 => ⟨S32x32x1, .f32⟩
  | 81 => ⟨S_, .f32⟩
  | 82 => ⟨S32x32x1, .f32⟩
  | 83 => ⟨S32x32x1, .f32⟩
  | 84 => ⟨S32x32x768, .f32⟩
  | 85 => ⟨S32x32x768, .f32⟩
  | 86 => ⟨S32x32x768, .f32⟩
  | 87 => ⟨S_, .f32⟩
  | 88 => ⟨S32x32, .f32⟩
  | 89 => ⟨S32x32x1, .f32⟩
  | 90 => ⟨S_, .f32⟩
  | 91 => ⟨S32x32x1, .f32⟩
  | 92 => ⟨S32x32x1, .f32⟩
  | 93 => ⟨S32x32x768, .f32⟩
  | 94 => ⟨S32x32x768, .f32⟩
  | 95 => ⟨S_, .f32⟩
  | 96 => ⟨S32x32x1, .f32⟩
  | 97 => ⟨S32x32x1, .f32⟩
  | 98 => ⟨S32x32x1, .f32⟩
  | 99 => ⟨S32x32x768, .f32⟩
  | 100 => ⟨S32x32x768, .f32⟩
  | 101 => ⟨S1x1x768, .f32⟩
  | 102 => ⟨S32x32x768, .f32⟩
  | 103 => ⟨S32x32x768, .f32⟩
  | 104 => ⟨S1x1x768, .f32⟩
  | 105 => ⟨S32x32x768, .f32⟩
  | 106 => ⟨S32x32x768, .f32⟩
  | 107 => ⟨S1x768x3072, .f32⟩
  | 108 => ⟨S768x3072, .f32⟩
  | 109 => ⟨S32x32x3072, .f32⟩
  | 110 => ⟨S1x3072, .f32⟩
  | 111 => ⟨S3072, .f32⟩
  | 112 => ⟨S1x1x3072, .f32⟩
  | 113 => ⟨S32x32x3072, .f32⟩
  | 114 => ⟨S32x32x3072, .f32⟩
  | 115 => ⟨S32x32x3072, .f32⟩
  | 116 => ⟨S32x32x3072, .f32⟩
  | 117 => ⟨S_, .f32⟩
  | 118 => ⟨S32x32x3072, .f32⟩
  | 119 => ⟨S32x32x3072, .f32⟩
  | 120 => ⟨S32x32x3072, .f32⟩
  | 121 => ⟨S_, .f32⟩
  | 122 => ⟨S32x32x3072, .f32⟩
  | 123 => ⟨S32x32x3072, .f32⟩
  | 124 => ⟨S32x32x3072, .f32⟩
  | 125 => ⟨S_, .f32⟩
  | 126 => ⟨S32x32x3072, .f32⟩
  | 127 => ⟨S32x32x3072, .f32⟩
  | _ => ⟨S32x32x768, .f32⟩

abbrev hbmTy0_4 (i : Nat) : BufTy := match i % 128 with
  | 0 => ⟨S_, .f32⟩
  | 1 => ⟨S32x32x3072, .f32⟩
  | 2 => ⟨S32x32x3072, .f32⟩
  | 3 => ⟨S32x32x3072, .f32⟩
  | 4 => ⟨S1x3072x768, .f32⟩
  | 5 => ⟨S3072x768, .f32⟩
  | 6 => ⟨S32x32x768, .f32⟩
  | 7 => ⟨S1x768, .f32⟩
  | 8 => ⟨S768, .f32⟩
  | 9 => ⟨S1x1x768, .f32⟩
  | 10 => ⟨S32x32x768, .f32⟩
  | 11 => ⟨S32x32x768, .f32⟩
  | 12 => ⟨S32x32x768, .f32⟩
  | 13 => ⟨S1x768, .f32⟩
  | 14 => ⟨S768, .f32⟩
  | 15 => ⟨S1x768, .f32⟩
  | 16 => ⟨S768, .f32⟩
  | 17 => ⟨S_, .f32⟩
  | 18 => ⟨S32x32, .f32⟩
  | 19 => ⟨S32x32x1, .f32⟩
  | 20 => ⟨S_, .f32⟩
  | 21 => ⟨S32x32x1, .f32⟩
  | 22 => ⟨S32x32x1, .f32⟩
  | 23 => ⟨S32x32x768, .f32⟩
  | 24 => ⟨S32x32x768, .f32⟩
  | 25 => ⟨S32x32x768, .f32⟩
  | 26 => ⟨S_, .f32⟩
  | 27 => ⟨S32x32, .f32⟩
  | 28 => ⟨S32x32x1, .f32⟩
  | 29 => ⟨S_, .f32⟩
  | 30 => ⟨S32x32x1, .f32⟩
  | 31 => ⟨S32x32x1, .f32⟩
  | 32 => ⟨S32x32x768, .f32⟩
  | 33 => ⟨S32x32x768, .f32⟩
  | 34 => ⟨S_, .f32⟩
  | 35 => ⟨S32x32x1, .f32⟩
  | 36 => ⟨S32x32x1, .f32⟩
  | 37 => ⟨S32x32x1, .f32⟩
  | 38 => ⟨S32x32x768, .f32⟩
  | 39 => ⟨S32x32x768, .f32⟩
  | 40 => ⟨S1x1x768, .f32⟩
  | 41 => ⟨S32x32x768, .f32⟩
  | 42 => ⟨S32x32x768, .f32⟩
  | 43 => ⟨S1x1x768, .f32⟩
  | 44 => ⟨S32x32x768, .f32⟩
  | 45 => ⟨S32x32x768, .f32⟩
  | 46 => ⟨S1x768x768, .f32⟩
  | 47 => ⟨S768x768, .f32⟩
  | 48 => ⟨S32x32x768, .f32⟩
  | 49 => ⟨S1x768, .f32⟩
  | 50 => ⟨S768, .f32⟩
  | 51 => ⟨S1x1x768, .f32⟩
  | 52 => ⟨S32x32x768, .f32⟩
  | 53 => ⟨S32x32x768, .f32⟩
  | 54 => ⟨S32x32x12x64, .f32⟩
  | 55 => ⟨S1x768x768, .f32⟩
  | 56 => ⟨S768x768, .f32⟩
  | 57 => ⟨S32x32x768, .f32⟩
  | 58 => ⟨S1x768, .f32⟩
  | 59 => ⟨S768, .f32⟩
  | 60 => ⟨S1x1x768, .f32⟩
  | 61 => ⟨S32x32x768, .f32⟩
  | 62 => ⟨S32x32x768, .f32⟩
  | 63 => ⟨S32x32x12x64, .f32⟩
  | 64 => ⟨S1x768x768, .f32⟩
  | 65 => ⟨S768x768, .f32⟩
  | 66 => ⟨S32x32x768, .f32⟩
  | 67 => ⟨S1x768, .f32⟩
  | 68 => ⟨S768, .f32⟩
  | 69 => ⟨S1x1x768, .f32⟩
  | 70 => ⟨S32x32x768, .f32⟩
  | 71 => ⟨S32x32x768, .f32⟩
  | 72 => ⟨S32x32x12x64, .f32⟩
  | 73 => ⟨S32x12x32x32, .f32⟩
  | 74 => ⟨S_, .f32⟩
  | 75 => ⟨S32x12x32x32, .f32⟩
  | 76 => ⟨S32x12x32x32, .f32⟩
  | 77 => ⟨S_, .f32⟩
  | 78 => ⟨S32x12x32, .f32⟩
  | 79 => ⟨S_, .f32⟩
  | 80 => ⟨S32x12x32, .f32⟩
  | 81 => ⟨S32x12x32, .f32⟩
  | 82 => ⟨S32x12x32x1, .f32⟩
  | 83 => ⟨S32x12x32x32, .f32⟩
  | 84 => ⟨S32x12x32x32, .f32⟩
  | 85 => ⟨S32x12x32x32, .f32⟩
  | 86 => ⟨S_, .f32⟩
  | 87 => ⟨S32x12x32, .f32⟩
  | 88 => ⟨S32x12x32x1, .f32⟩
  | 89 => ⟨S32x12x32x32, .f32⟩
  | 90 => ⟨S32x12x32x32, .f32⟩
  | 91 => ⟨S32x12x64x32, .f32⟩
  | 92 => ⟨S32x32x12x64, .f32⟩
  | 93 => ⟨S32x32x768, .f32⟩
  | 94 => ⟨S1x768x768, .f32⟩
  | 95 => ⟨S768x768, .f32⟩
  | 96 => ⟨S32x32x768, .f32⟩
  | 97 => ⟨S32x32x768, .f32⟩
  | 98 => ⟨S1x768, .f32⟩
  | 99 => ⟨S768, .f32⟩
  | 100 => ⟨S1x1x768, .f32⟩
  | 101 => ⟨S32x32x768, .f32⟩
  | 102 => ⟨S32x32x768, .f32⟩
  | 103 => ⟨S1x768, .f32⟩
  | 104 => ⟨S768, .f32⟩
  | 105 => ⟨S1x768, .f32⟩
  | 106 => ⟨S768, .f32⟩
  | 107 => ⟨S_, .f32⟩
  | 108 => ⟨S32x32, .f32⟩
  | 109 => ⟨S32x32x1, .f32⟩
  | 110 => ⟨S_, .f32⟩
  | 111 => ⟨S32x32x1, .f32⟩
  | 112 => ⟨S32x32x1, .f32⟩
  | 113 => ⟨S32x32x768, .f32⟩
  | 114 => ⟨S32x32x768, .f32⟩
  | 115 => ⟨S32x32x768, .f32⟩
  | 116 => ⟨S_, .f32⟩
  | 117 => ⟨S32x32, .f32⟩
  | 118 => ⟨S32x32x1, .f32⟩
  | 119 => ⟨S_, .f32⟩
  | 120 => ⟨S32x32x1, .f32⟩
  | 121 => ⟨S32x32x1, .f32⟩
  | 122 => ⟨S32x32x768, .f32⟩
  | 123 => ⟨S32x32x768, .f32⟩
  | 124 => ⟨S_, .f32⟩
  | 125 => ⟨S32x32x1, .f32⟩
  | 126 => ⟨S32x32x1, .f32⟩
  | 127 => ⟨S32x32x1, .f32⟩
  | _ => ⟨S32x32x768, .f32⟩

abbrev hbmTy0_5 (i : Nat) : BufTy := match i % 128 with
  | 0 => ⟨S32x32x768, .f32⟩
  | 1 => ⟨S32x32x768, .f32⟩
  | 2 => ⟨S1x1x768, .f32⟩
  | 3 => ⟨S32x32x768, .f32⟩
  | 4 => ⟨S32x32x768, .f32⟩
  | 5 => ⟨S1x1x768, .f32⟩
  | 6 => ⟨S32x32x768, .f32⟩
  | 7 => ⟨S32x32x768, .f32⟩
  | 8 => ⟨S1x768x3072, .f32⟩
  | 9 => ⟨S768x3072, .f32⟩
  | 10 => ⟨S32x32x3072, .f32⟩
  | 11 => ⟨S1x3072, .f32⟩
  | 12 => ⟨S3072, .f32⟩
  | 13 => ⟨S1x1x3072, .f32⟩
  | 14 => ⟨S32x32x3072, .f32⟩
  | 15 => ⟨S32x32x3072, .f32⟩
  | 16 => ⟨S32x32x3072, .f32⟩
  | 17 => ⟨S32x32x3072, .f32⟩
  | 18 => ⟨S_, .f32⟩
  | 19 => ⟨S32x32x3072, .f32⟩
  | 20 => ⟨S32x32x3072, .f32⟩
  | 21 => ⟨S32x32x3072, .f32⟩
  | 22 => ⟨S_, .f32⟩
  | 23 => ⟨S32x32x3072, .f32⟩
  | 24 => ⟨S32x32x3072, .f32⟩
  | 25 => ⟨S32x32x3072, .f32⟩
  | 26 => ⟨S_, .f32⟩
  | 27 => ⟨S32x32x3072, .f32⟩
  | 28 => ⟨S32x32x3072, .f32⟩
  | 29 => ⟨S_, .f32⟩
  | 30 => ⟨S32x32x3072, .f32⟩
  | 31 => ⟨S32x32x3072, .f32⟩
  | 32 => ⟨S32x32x3072, .f32⟩
  | 33 => ⟨S1x3072x768, .f32⟩
  | 34 => ⟨S3072x768, .f32⟩
  | 35 => ⟨S32x32x768, .f32⟩
  | 36 => ⟨S1x768, .f32⟩
  | 37 => ⟨S768, .f32⟩
  | 38 => ⟨S1x1x768, .f32⟩
  | 39 => ⟨S32x32x768, .f32⟩
  | 40 => ⟨S32x32x768, .f32⟩
  | 41 => ⟨S32x32x768, .f32⟩
  | 42 => ⟨S1x768, .f32⟩
  | 43 => ⟨S768, .f32⟩
  | 44 => ⟨S1x768, .f32⟩
  | 45 => ⟨S768, .f32⟩
  | 46 => ⟨S_, .f32⟩
  | 47 => ⟨S32x32, .f32⟩
  | 48 => ⟨S32x32x1, .f32⟩
  | 49 => ⟨S_, .f32⟩
  | 50 => ⟨S32x32x1, .f32⟩
  | 51 => ⟨S32x32x1, .f32⟩
  | 52 => ⟨S32x32x768, .f32⟩
  | 53 => ⟨S32x32x768, .f32⟩
  | 54 => ⟨S32x32x768, .f32⟩
  | 55 => ⟨S_, .f32⟩
  | 56 => ⟨S32x32, .f32⟩
  | 57 => ⟨S32x32x1, .f32⟩
  | 58 => ⟨S_, .f32⟩
  | 59 => ⟨S32x32x1, .f32⟩
  | 60 => ⟨S32x32x1, .f32⟩
  | 61 => ⟨S32x32x768, .f32⟩
  | 62 => ⟨S32x32x768, .f32⟩
  | 63 => ⟨S_, .f32⟩
  | 64 => ⟨S32x32x1, .f32⟩
  | 65 => ⟨S32x32x1, .f32⟩
  | 66 => ⟨S32x32x1, .f32⟩
  | 67 => ⟨S32x32x768, .f32⟩
  | 68 => ⟨S32x32x768, .f32⟩
  | 69 => ⟨S1x1x768, .f32⟩
  | 70 => ⟨S32x32x768, .f32⟩
  | 71 => ⟨S32x32x768, .f32⟩
  | 72 => ⟨S1x1x768, .f32⟩
  | 73 => ⟨S32x32x768, .f32⟩
  | 74 => ⟨S32x32x768, .f32⟩
  | 75 => ⟨S1024x768, .f32⟩
  | _ => ⟨S32x32x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S32x32x768, .f32⟩

abbrev bufTy : (tb : Table) → Fin (tcTables nBuf tb) → BufTy
  | .hbm, ⟨i, _⟩ => hbmTy i
  | _, _ => ⟨S32x32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_1 : Ref sig .tc := ⟨.hbm, 38, rfl⟩
abbrev main_v10 : Ref sig .tc := ⟨.hbm, 39, rfl⟩
abbrev main_v11 : Ref sig .tc := ⟨.hbm, 40, rfl⟩
abbrev main_c_2 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst : Ref sig .tc := ⟨.hbm, 58, rfl⟩
abbrev main_v26 : Ref sig .tc := ⟨.hbm, 59, rfl⟩
abbrev main_v27 : Ref sig .tc := ⟨.hbm, 60, rfl⟩
abbrev main_cst_5 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_v33 : Ref sig .tc := ⟨.hbm, 68, rfl⟩
abbrev main_v34 : Ref sig .tc := ⟨.hbm, 69, rfl⟩
abbrev main_cst_7 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_8 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_9 : Ref sig .tc := ⟨.hbm, 115, rfl⟩
abbrev main_v78 : Ref sig .tc := ⟨.hbm, 116, rfl⟩
abbrev main_v79 : Ref sig .tc := ⟨.hbm, 117, rfl⟩
abbrev main_cst_10 : Ref sig .tc := ⟨.hbm, 118, rfl⟩
abbrev main_v80 : Ref sig .tc := ⟨.hbm, 119, rfl⟩
abbrev main_cst_11 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_12 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_13 : Ref sig .tc := ⟨.hbm, 148, rfl⟩
abbrev main_v107 : Ref sig .tc := ⟨.hbm, 149, rfl⟩
abbrev main_v108 : Ref sig .tc := ⟨.hbm, 150, rfl⟩
abbrev main_cst_14 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_15 : Ref sig .tc := ⟨.hbm, 157, rfl⟩
abbrev main_v114 : Ref sig .tc := ⟨.hbm, 158, rfl⟩
abbrev main_v115 : Ref sig .tc := ⟨.hbm, 159, rfl⟩
abbrev main_cst_16 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_17 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_18 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_19 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_20 : Ref sig .tc := ⟨.hbm, 195, rfl⟩
abbrev main_v147 : Ref sig .tc := ⟨.hbm, 196, rfl⟩
abbrev main_v148 : Ref sig .tc := ⟨.hbm, 197, rfl⟩
abbrev main_cst_21 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_cst_22 : Ref sig .tc := ⟨.hbm, 215, rfl⟩
abbrev main_v165 : Ref sig .tc := ⟨.hbm, 216, rfl⟩
abbrev main_v166 : Ref sig .tc := ⟨.hbm, 217, rfl⟩
abbrev main_cst_23 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_cst_24 : Ref sig .tc := ⟨.hbm, 224, rfl⟩
abbrev main_v172 : Ref sig .tc := ⟨.hbm, 225, rfl⟩
abbrev main_v173 : Ref sig .tc := ⟨.hbm, 226, rfl⟩
abbrev main_cst_25 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_cst_26 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_cst_27 : Ref sig .tc := ⟨.hbm, 272, rfl⟩
abbrev main_v217 : Ref sig .tc := ⟨.hbm, 273, rfl⟩
abbrev main_v218 : Ref sig .tc := ⟨.hbm, 274, rfl⟩
abbrev main_cst_28 : Ref sig .tc := ⟨.hbm, 275, rfl⟩
abbrev main_v219 : Ref sig .tc := ⟨.hbm, 276, rfl⟩
abbrev main_cst_29 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_cst_30 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_cst_31 : Ref sig .tc := ⟨.hbm, 305, rfl⟩
abbrev main_v246 : Ref sig .tc := ⟨.hbm, 306, rfl⟩
abbrev main_v247 : Ref sig .tc := ⟨.hbm, 307, rfl⟩
abbrev main_cst_32 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_cst_33 : Ref sig .tc := ⟨.hbm, 314, rfl⟩
abbrev main_v253 : Ref sig .tc := ⟨.hbm, 315, rfl⟩
abbrev main_v254 : Ref sig .tc := ⟨.hbm, 316, rfl⟩
abbrev main_cst_34 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_cst_35 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_v275 : Ref sig .tc := ⟨.hbm, 339, rfl⟩
abbrev main_v276 : Ref sig .tc := ⟨.hbm, 340, rfl⟩
abbrev main_v277 : Ref sig .tc := ⟨.hbm, 341, rfl⟩
abbrev main_v278 : Ref sig .tc := ⟨.hbm, 342, rfl⟩
abbrev main_v279 : Ref sig .tc := ⟨.hbm, 343, rfl⟩
abbrev main_cst_36 : Ref sig .tc := ⟨.hbm, 344, rfl⟩
abbrev main_v280 : Ref sig .tc := ⟨.hbm, 345, rfl⟩
abbrev main_v281 : Ref sig .tc := ⟨.hbm, 346, rfl⟩
abbrev main_v282 : Ref sig .tc := ⟨.hbm, 347, rfl⟩
abbrev main_cst_37 : Ref sig .tc := ⟨.hbm, 348, rfl⟩
abbrev main_v283 : Ref sig .tc := ⟨.hbm, 349, rfl⟩
abbrev main_v284 : Ref sig .tc := ⟨.hbm, 350, rfl⟩
abbrev main_v285 : Ref sig .tc := ⟨.hbm, 351, rfl⟩
abbrev main_cst_38 : Ref sig .tc := ⟨.hbm, 352, rfl⟩
abbrev main_v286 : Ref sig .tc := ⟨.hbm, 353, rfl⟩
abbrev main_v287 : Ref sig .tc := ⟨.hbm, 354, rfl⟩
abbrev main_cst_39 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩
abbrev main_v295 : Ref sig .tc := ⟨.hbm, 363, rfl⟩
abbrev main_v296 : Ref sig .tc := ⟨.hbm, 364, rfl⟩
abbrev main_v297 : Ref sig .tc := ⟨.hbm, 365, rfl⟩
abbrev main_v298 : Ref sig .tc := ⟨.hbm, 366, rfl⟩
abbrev main_v299 : Ref sig .tc := ⟨.hbm, 367, rfl⟩
abbrev main_v300 : Ref sig .tc := ⟨.hbm, 368, rfl⟩
abbrev main_v301 : Ref sig .tc := ⟨.hbm, 369, rfl⟩
abbrev main_v302 : Ref sig .tc := ⟨.hbm, 370, rfl⟩
abbrev main_v303 : Ref sig .tc := ⟨.hbm, 371, rfl⟩
abbrev main_cst_40 : Ref sig .tc := ⟨.hbm, 372, rfl⟩
abbrev main_v304 : Ref sig .tc := ⟨.hbm, 373, rfl⟩
abbrev main_v305 : Ref sig .tc := ⟨.hbm, 374, rfl⟩
abbrev main_cst_41 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_cst_42 : Ref sig .tc := ⟨.hbm, 381, rfl⟩
abbrev main_v311 : Ref sig .tc := ⟨.hbm, 382, rfl⟩
abbrev main_v312 : Ref sig .tc := ⟨.hbm, 383, rfl⟩
abbrev main_cst_43 : Ref sig .tc := ⟨.hbm, 384, rfl⟩
abbrev main_v313 : Ref sig .tc := ⟨.hbm, 385, rfl⟩
abbrev main_v314 : Ref sig .tc := ⟨.hbm, 386, rfl⟩
abbrev main_v315 : Ref sig .tc := ⟨.hbm, 387, rfl⟩
abbrev main_v316 : Ref sig .tc := ⟨.hbm, 388, rfl⟩
abbrev main_cst_44 : Ref sig .tc := ⟨.hbm, 389, rfl⟩
abbrev main_v317 : Ref sig .tc := ⟨.hbm, 390, rfl⟩
abbrev main_v318 : Ref sig .tc := ⟨.hbm, 391, rfl⟩
abbrev main_v319 : Ref sig .tc := ⟨.hbm, 392, rfl⟩
abbrev main_v320 : Ref sig .tc := ⟨.hbm, 393, rfl⟩
abbrev main_v321 : Ref sig .tc := ⟨.hbm, 394, rfl⟩
abbrev main_v322 : Ref sig .tc := ⟨.hbm, 395, rfl⟩
abbrev main_v323 : Ref sig .tc := ⟨.hbm, 396, rfl⟩
abbrev main_v324 : Ref sig .tc := ⟨.hbm, 397, rfl⟩
abbrev main_v325 : Ref sig .tc := ⟨.hbm, 398, rfl⟩
abbrev main_v326 : Ref sig .tc := ⟨.hbm, 399, rfl⟩
abbrev main_v327 : Ref sig .tc := ⟨.hbm, 400, rfl⟩
abbrev main_v328 : Ref sig .tc := ⟨.hbm, 401, rfl⟩
abbrev main_v329 : Ref sig .tc := ⟨.hbm, 402, rfl⟩
abbrev main_v330 : Ref sig .tc := ⟨.hbm, 403, rfl⟩
abbrev main_v331 : Ref sig .tc := ⟨.hbm, 404, rfl⟩
abbrev main_v332 : Ref sig .tc := ⟨.hbm, 405, rfl⟩
abbrev main_v333 : Ref sig .tc := ⟨.hbm, 406, rfl⟩
abbrev main_v334 : Ref sig .tc := ⟨.hbm, 407, rfl⟩
abbrev main_v335 : Ref sig .tc := ⟨.hbm, 408, rfl⟩
abbrev main_v336 : Ref sig .tc := ⟨.hbm, 409, rfl⟩
abbrev main_v337 : Ref sig .tc := ⟨.hbm, 410, rfl⟩
abbrev main_v338 : Ref sig .tc := ⟨.hbm, 411, rfl⟩
abbrev main_v339 : Ref sig .tc := ⟨.hbm, 412, rfl⟩
abbrev main_v340 : Ref sig .tc := ⟨.hbm, 413, rfl⟩
abbrev main_v341 : Ref sig .tc := ⟨.hbm, 414, rfl⟩
abbrev main_v342 : Ref sig .tc := ⟨.hbm, 415, rfl⟩
abbrev main_v343 : Ref sig .tc := ⟨.hbm, 416, rfl⟩
abbrev main_v344 : Ref sig .tc := ⟨.hbm, 417, rfl⟩
abbrev main_v345 : Ref sig .tc := ⟨.hbm, 418, rfl⟩
abbrev main_v346 : Ref sig .tc := ⟨.hbm, 419, rfl⟩
abbrev main_v347 : Ref sig .tc := ⟨.hbm, 420, rfl⟩
abbrev main_v348 : Ref sig .tc := ⟨.hbm, 421, rfl⟩
abbrev main_v349 : Ref sig .tc := ⟨.hbm, 422, rfl⟩
abbrev main_v350 : Ref sig .tc := ⟨.hbm, 423, rfl⟩
abbrev main_v351 : Ref sig .tc := ⟨.hbm, 424, rfl⟩
abbrev main_v352 : Ref sig .tc := ⟨.hbm, 425, rfl⟩
abbrev main_v353 : Ref sig .tc := ⟨.hbm, 426, rfl⟩
abbrev main_v354 : Ref sig .tc := ⟨.hbm, 427, rfl⟩
abbrev main_v355 : Ref sig .tc := ⟨.hbm, 428, rfl⟩
abbrev main_cst_45 : Ref sig .tc := ⟨.hbm, 429, rfl⟩
abbrev main_v356 : Ref sig .tc := ⟨.hbm, 430, rfl⟩
abbrev main_v357 : Ref sig .tc := ⟨.hbm, 431, rfl⟩
abbrev main_cst_46 : Ref sig .tc := ⟨.hbm, 432, rfl⟩
abbrev main_v358 : Ref sig .tc := ⟨.hbm, 433, rfl⟩
abbrev main_cst_47 : Ref sig .tc := ⟨.hbm, 434, rfl⟩
abbrev main_v359 : Ref sig .tc := ⟨.hbm, 435, rfl⟩
abbrev main_v360 : Ref sig .tc := ⟨.hbm, 436, rfl⟩
abbrev main_v361 : Ref sig .tc := ⟨.hbm, 437, rfl⟩
abbrev main_v362 : Ref sig .tc := ⟨.hbm, 438, rfl⟩
abbrev main_v363 : Ref sig .tc := ⟨.hbm, 439, rfl⟩
abbrev main_v364 : Ref sig .tc := ⟨.hbm, 440, rfl⟩
abbrev main_cst_48 : Ref sig .tc := ⟨.hbm, 441, rfl⟩
abbrev main_v365 : Ref sig .tc := ⟨.hbm, 442, rfl⟩
abbrev main_v366 : Ref sig .tc := ⟨.hbm, 443, rfl⟩
abbrev main_v367 : Ref sig .tc := ⟨.hbm, 444, rfl⟩
abbrev main_v368 : Ref sig .tc := ⟨.hbm, 445, rfl⟩
abbrev main_v369 : Ref sig .tc := ⟨.hbm, 446, rfl⟩
abbrev main_v370 : Ref sig .tc := ⟨.hbm, 447, rfl⟩
abbrev main_v371 : Ref sig .tc := ⟨.hbm, 448, rfl⟩
abbrev main_v372 : Ref sig .tc := ⟨.hbm, 449, rfl⟩
abbrev main_v373 : Ref sig .tc := ⟨.hbm, 450, rfl⟩
abbrev main_v374 : Ref sig .tc := ⟨.hbm, 451, rfl⟩
abbrev main_v375 : Ref sig .tc := ⟨.hbm, 452, rfl⟩
abbrev main_v376 : Ref sig .tc := ⟨.hbm, 453, rfl⟩
abbrev main_v377 : Ref sig .tc := ⟨.hbm, 454, rfl⟩
abbrev main_v378 : Ref sig .tc := ⟨.hbm, 455, rfl⟩
abbrev main_v379 : Ref sig .tc := ⟨.hbm, 456, rfl⟩
abbrev main_v380 : Ref sig .tc := ⟨.hbm, 457, rfl⟩
abbrev main_v381 : Ref sig .tc := ⟨.hbm, 458, rfl⟩
abbrev main_v382 : Ref sig .tc := ⟨.hbm, 459, rfl⟩
abbrev main_v383 : Ref sig .tc := ⟨.hbm, 460, rfl⟩
abbrev main_v384 : Ref sig .tc := ⟨.hbm, 461, rfl⟩
abbrev main_cst_49 : Ref sig .tc := ⟨.hbm, 462, rfl⟩
abbrev main_v385 : Ref sig .tc := ⟨.hbm, 463, rfl⟩
abbrev main_v386 : Ref sig .tc := ⟨.hbm, 464, rfl⟩
abbrev main_cst_50 : Ref sig .tc := ⟨.hbm, 465, rfl⟩
abbrev main_v387 : Ref sig .tc := ⟨.hbm, 466, rfl⟩
abbrev main_v388 : Ref sig .tc := ⟨.hbm, 467, rfl⟩
abbrev main_v389 : Ref sig .tc := ⟨.hbm, 468, rfl⟩
abbrev main_v390 : Ref sig .tc := ⟨.hbm, 469, rfl⟩
abbrev main_v391 : Ref sig .tc := ⟨.hbm, 470, rfl⟩
abbrev main_cst_51 : Ref sig .tc := ⟨.hbm, 471, rfl⟩
abbrev main_v392 : Ref sig .tc := ⟨.hbm, 472, rfl⟩
abbrev main_v393 : Ref sig .tc := ⟨.hbm, 473, rfl⟩
abbrev main_cst_52 : Ref sig .tc := ⟨.hbm, 474, rfl⟩
abbrev main_v394 : Ref sig .tc := ⟨.hbm, 475, rfl⟩
abbrev main_v395 : Ref sig .tc := ⟨.hbm, 476, rfl⟩
abbrev main_v396 : Ref sig .tc := ⟨.hbm, 477, rfl⟩
abbrev main_v397 : Ref sig .tc := ⟨.hbm, 478, rfl⟩
abbrev main_cst_53 : Ref sig .tc := ⟨.hbm, 479, rfl⟩
abbrev main_v398 : Ref sig .tc := ⟨.hbm, 480, rfl⟩
abbrev main_v399 : Ref sig .tc := ⟨.hbm, 481, rfl⟩
abbrev main_v400 : Ref sig .tc := ⟨.hbm, 482, rfl⟩
abbrev main_v401 : Ref sig .tc := ⟨.hbm, 483, rfl⟩
abbrev main_v402 : Ref sig .tc := ⟨.hbm, 484, rfl⟩
abbrev main_v403 : Ref sig .tc := ⟨.hbm, 485, rfl⟩
abbrev main_v404 : Ref sig .tc := ⟨.hbm, 486, rfl⟩
abbrev main_v405 : Ref sig .tc := ⟨.hbm, 487, rfl⟩
abbrev main_v406 : Ref sig .tc := ⟨.hbm, 488, rfl⟩
abbrev main_v407 : Ref sig .tc := ⟨.hbm, 489, rfl⟩
abbrev main_v408 : Ref sig .tc := ⟨.hbm, 490, rfl⟩
abbrev main_v409 : Ref sig .tc := ⟨.hbm, 491, rfl⟩
abbrev main_v410 : Ref sig .tc := ⟨.hbm, 492, rfl⟩
abbrev main_v411 : Ref sig .tc := ⟨.hbm, 493, rfl⟩
abbrev main_v412 : Ref sig .tc := ⟨.hbm, 494, rfl⟩
abbrev main_v413 : Ref sig .tc := ⟨.hbm, 495, rfl⟩
abbrev main_v414 : Ref sig .tc := ⟨.hbm, 496, rfl⟩
abbrev main_v415 : Ref sig .tc := ⟨.hbm, 497, rfl⟩
abbrev main_v416 : Ref sig .tc := ⟨.hbm, 498, rfl⟩
abbrev main_v417 : Ref sig .tc := ⟨.hbm, 499, rfl⟩
abbrev main_v418 : Ref sig .tc := ⟨.hbm, 500, rfl⟩
abbrev main_cst_54 : Ref sig .tc := ⟨.hbm, 501, rfl⟩
abbrev main_v419 : Ref sig .tc := ⟨.hbm, 502, rfl⟩
abbrev main_v420 : Ref sig .tc := ⟨.hbm, 503, rfl⟩
abbrev main_v421 : Ref sig .tc := ⟨.hbm, 504, rfl⟩
abbrev main_cst_55 : Ref sig .tc := ⟨.hbm, 505, rfl⟩
abbrev main_v422 : Ref sig .tc := ⟨.hbm, 506, rfl⟩
abbrev main_v423 : Ref sig .tc := ⟨.hbm, 507, rfl⟩
abbrev main_v424 : Ref sig .tc := ⟨.hbm, 508, rfl⟩
abbrev main_cst_56 : Ref sig .tc := ⟨.hbm, 509, rfl⟩
abbrev main_v425 : Ref sig .tc := ⟨.hbm, 510, rfl⟩
abbrev main_v426 : Ref sig .tc := ⟨.hbm, 511, rfl⟩
abbrev main_cst_57 : Ref sig .tc := ⟨.hbm, 512, rfl⟩
abbrev main_v427 : Ref sig .tc := ⟨.hbm, 513, rfl⟩
abbrev main_v428 : Ref sig .tc := ⟨.hbm, 514, rfl⟩
abbrev main_v429 : Ref sig .tc := ⟨.hbm, 515, rfl⟩
abbrev main_v430 : Ref sig .tc := ⟨.hbm, 516, rfl⟩
abbrev main_v431 : Ref sig .tc := ⟨.hbm, 517, rfl⟩
abbrev main_v432 : Ref sig .tc := ⟨.hbm, 518, rfl⟩
abbrev main_v433 : Ref sig .tc := ⟨.hbm, 519, rfl⟩
abbrev main_v434 : Ref sig .tc := ⟨.hbm, 520, rfl⟩
abbrev main_v435 : Ref sig .tc := ⟨.hbm, 521, rfl⟩
abbrev main_v436 : Ref sig .tc := ⟨.hbm, 522, rfl⟩
abbrev main_v437 : Ref sig .tc := ⟨.hbm, 523, rfl⟩
abbrev main_v438 : Ref sig .tc := ⟨.hbm, 524, rfl⟩
abbrev main_v439 : Ref sig .tc := ⟨.hbm, 525, rfl⟩
abbrev main_v440 : Ref sig .tc := ⟨.hbm, 526, rfl⟩
abbrev main_v441 : Ref sig .tc := ⟨.hbm, 527, rfl⟩
abbrev main_v442 : Ref sig .tc := ⟨.hbm, 528, rfl⟩
abbrev main_cst_58 : Ref sig .tc := ⟨.hbm, 529, rfl⟩
abbrev main_v443 : Ref sig .tc := ⟨.hbm, 530, rfl⟩
abbrev main_v444 : Ref sig .tc := ⟨.hbm, 531, rfl⟩
abbrev main_cst_59 : Ref sig .tc := ⟨.hbm, 532, rfl⟩
abbrev main_v445 : Ref sig .tc := ⟨.hbm, 533, rfl⟩
abbrev main_v446 : Ref sig .tc := ⟨.hbm, 534, rfl⟩
abbrev main_v447 : Ref sig .tc := ⟨.hbm, 535, rfl⟩
abbrev main_v448 : Ref sig .tc := ⟨.hbm, 536, rfl⟩
abbrev main_v449 : Ref sig .tc := ⟨.hbm, 537, rfl⟩
abbrev main_cst_60 : Ref sig .tc := ⟨.hbm, 538, rfl⟩
abbrev main_v450 : Ref sig .tc := ⟨.hbm, 539, rfl⟩
abbrev main_v451 : Ref sig .tc := ⟨.hbm, 540, rfl⟩
abbrev main_cst_61 : Ref sig .tc := ⟨.hbm, 541, rfl⟩
abbrev main_v452 : Ref sig .tc := ⟨.hbm, 542, rfl⟩
abbrev main_v453 : Ref sig .tc := ⟨.hbm, 543, rfl⟩
abbrev main_v454 : Ref sig .tc := ⟨.hbm, 544, rfl⟩
abbrev main_v455 : Ref sig .tc := ⟨.hbm, 545, rfl⟩
abbrev main_cst_62 : Ref sig .tc := ⟨.hbm, 546, rfl⟩
abbrev main_v456 : Ref sig .tc := ⟨.hbm, 547, rfl⟩
abbrev main_v457 : Ref sig .tc := ⟨.hbm, 548, rfl⟩
abbrev main_v458 : Ref sig .tc := ⟨.hbm, 549, rfl⟩
abbrev main_v459 : Ref sig .tc := ⟨.hbm, 550, rfl⟩
abbrev main_v460 : Ref sig .tc := ⟨.hbm, 551, rfl⟩
abbrev main_v461 : Ref sig .tc := ⟨.hbm, 552, rfl⟩
abbrev main_v462 : Ref sig .tc := ⟨.hbm, 553, rfl⟩
abbrev main_v463 : Ref sig .tc := ⟨.hbm, 554, rfl⟩
abbrev main_v464 : Ref sig .tc := ⟨.hbm, 555, rfl⟩
abbrev main_v465 : Ref sig .tc := ⟨.hbm, 556, rfl⟩
abbrev main_v466 : Ref sig .tc := ⟨.hbm, 557, rfl⟩
abbrev main_v467 : Ref sig .tc := ⟨.hbm, 558, rfl⟩
abbrev main_v468 : Ref sig .tc := ⟨.hbm, 559, rfl⟩
abbrev main_v469 : Ref sig .tc := ⟨.hbm, 560, rfl⟩
abbrev main_v470 : Ref sig .tc := ⟨.hbm, 561, rfl⟩
abbrev main_v471 : Ref sig .tc := ⟨.hbm, 562, rfl⟩
abbrev main_v472 : Ref sig .tc := ⟨.hbm, 563, rfl⟩
abbrev main_v473 : Ref sig .tc := ⟨.hbm, 564, rfl⟩
abbrev main_v474 : Ref sig .tc := ⟨.hbm, 565, rfl⟩
abbrev main_v475 : Ref sig .tc := ⟨.hbm, 566, rfl⟩
abbrev main_v476 : Ref sig .tc := ⟨.hbm, 567, rfl⟩
abbrev main_v477 : Ref sig .tc := ⟨.hbm, 568, rfl⟩
abbrev main_v478 : Ref sig .tc := ⟨.hbm, 569, rfl⟩
abbrev main_v479 : Ref sig .tc := ⟨.hbm, 570, rfl⟩
abbrev main_v480 : Ref sig .tc := ⟨.hbm, 571, rfl⟩
abbrev main_v481 : Ref sig .tc := ⟨.hbm, 572, rfl⟩
abbrev main_v482 : Ref sig .tc := ⟨.hbm, 573, rfl⟩
abbrev main_v483 : Ref sig .tc := ⟨.hbm, 574, rfl⟩
abbrev main_v484 : Ref sig .tc := ⟨.hbm, 575, rfl⟩
abbrev main_v485 : Ref sig .tc := ⟨.hbm, 576, rfl⟩
abbrev main_v486 : Ref sig .tc := ⟨.hbm, 577, rfl⟩
abbrev main_v487 : Ref sig .tc := ⟨.hbm, 578, rfl⟩
abbrev main_v488 : Ref sig .tc := ⟨.hbm, 579, rfl⟩
abbrev main_v489 : Ref sig .tc := ⟨.hbm, 580, rfl⟩
abbrev main_v490 : Ref sig .tc := ⟨.hbm, 581, rfl⟩
abbrev main_v491 : Ref sig .tc := ⟨.hbm, 582, rfl⟩
abbrev main_v492 : Ref sig .tc := ⟨.hbm, 583, rfl⟩
abbrev main_v493 : Ref sig .tc := ⟨.hbm, 584, rfl⟩
abbrev main_v494 : Ref sig .tc := ⟨.hbm, 585, rfl⟩
abbrev main_cst_63 : Ref sig .tc := ⟨.hbm, 586, rfl⟩
abbrev main_v495 : Ref sig .tc := ⟨.hbm, 587, rfl⟩
abbrev main_v496 : Ref sig .tc := ⟨.hbm, 588, rfl⟩
abbrev main_cst_64 : Ref sig .tc := ⟨.hbm, 589, rfl⟩
abbrev main_v497 : Ref sig .tc := ⟨.hbm, 590, rfl⟩
abbrev main_cst_65 : Ref sig .tc := ⟨.hbm, 591, rfl⟩
abbrev main_v498 : Ref sig .tc := ⟨.hbm, 592, rfl⟩
abbrev main_v499 : Ref sig .tc := ⟨.hbm, 593, rfl⟩
abbrev main_v500 : Ref sig .tc := ⟨.hbm, 594, rfl⟩
abbrev main_v501 : Ref sig .tc := ⟨.hbm, 595, rfl⟩
abbrev main_v502 : Ref sig .tc := ⟨.hbm, 596, rfl⟩
abbrev main_v503 : Ref sig .tc := ⟨.hbm, 597, rfl⟩
abbrev main_cst_66 : Ref sig .tc := ⟨.hbm, 598, rfl⟩
abbrev main_v504 : Ref sig .tc := ⟨.hbm, 599, rfl⟩
abbrev main_v505 : Ref sig .tc := ⟨.hbm, 600, rfl⟩
abbrev main_v506 : Ref sig .tc := ⟨.hbm, 601, rfl⟩
abbrev main_v507 : Ref sig .tc := ⟨.hbm, 602, rfl⟩
abbrev main_v508 : Ref sig .tc := ⟨.hbm, 603, rfl⟩
abbrev main_v509 : Ref sig .tc := ⟨.hbm, 604, rfl⟩
abbrev main_v510 : Ref sig .tc := ⟨.hbm, 605, rfl⟩
abbrev main_v511 : Ref sig .tc := ⟨.hbm, 606, rfl⟩
abbrev main_v512 : Ref sig .tc := ⟨.hbm, 607, rfl⟩
abbrev main_v513 : Ref sig .tc := ⟨.hbm, 608, rfl⟩
abbrev main_v514 : Ref sig .tc := ⟨.hbm, 609, rfl⟩
abbrev main_v515 : Ref sig .tc := ⟨.hbm, 610, rfl⟩
abbrev main_v516 : Ref sig .tc := ⟨.hbm, 611, rfl⟩
abbrev main_v517 : Ref sig .tc := ⟨.hbm, 612, rfl⟩
abbrev main_v518 : Ref sig .tc := ⟨.hbm, 613, rfl⟩
abbrev main_v519 : Ref sig .tc := ⟨.hbm, 614, rfl⟩
abbrev main_v520 : Ref sig .tc := ⟨.hbm, 615, rfl⟩
abbrev main_v521 : Ref sig .tc := ⟨.hbm, 616, rfl⟩
abbrev main_v522 : Ref sig .tc := ⟨.hbm, 617, rfl⟩
abbrev main_v523 : Ref sig .tc := ⟨.hbm, 618, rfl⟩
abbrev main_cst_67 : Ref sig .tc := ⟨.hbm, 619, rfl⟩
abbrev main_v524 : Ref sig .tc := ⟨.hbm, 620, rfl⟩
abbrev main_v525 : Ref sig .tc := ⟨.hbm, 621, rfl⟩
abbrev main_cst_68 : Ref sig .tc := ⟨.hbm, 622, rfl⟩
abbrev main_v526 : Ref sig .tc := ⟨.hbm, 623, rfl⟩
abbrev main_v527 : Ref sig .tc := ⟨.hbm, 624, rfl⟩
abbrev main_v528 : Ref sig .tc := ⟨.hbm, 625, rfl⟩
abbrev main_v529 : Ref sig .tc := ⟨.hbm, 626, rfl⟩
abbrev main_v530 : Ref sig .tc := ⟨.hbm, 627, rfl⟩
abbrev main_cst_69 : Ref sig .tc := ⟨.hbm, 628, rfl⟩
abbrev main_v531 : Ref sig .tc := ⟨.hbm, 629, rfl⟩
abbrev main_v532 : Ref sig .tc := ⟨.hbm, 630, rfl⟩
abbrev main_cst_70 : Ref sig .tc := ⟨.hbm, 631, rfl⟩
abbrev main_v533 : Ref sig .tc := ⟨.hbm, 632, rfl⟩
abbrev main_v534 : Ref sig .tc := ⟨.hbm, 633, rfl⟩
abbrev main_v535 : Ref sig .tc := ⟨.hbm, 634, rfl⟩
abbrev main_v536 : Ref sig .tc := ⟨.hbm, 635, rfl⟩
abbrev main_cst_71 : Ref sig .tc := ⟨.hbm, 636, rfl⟩
abbrev main_v537 : Ref sig .tc := ⟨.hbm, 637, rfl⟩
abbrev main_v538 : Ref sig .tc := ⟨.hbm, 638, rfl⟩
abbrev main_v539 : Ref sig .tc := ⟨.hbm, 639, rfl⟩
abbrev main_v540 : Ref sig .tc := ⟨.hbm, 640, rfl⟩
abbrev main_v541 : Ref sig .tc := ⟨.hbm, 641, rfl⟩
abbrev main_v542 : Ref sig .tc := ⟨.hbm, 642, rfl⟩
abbrev main_v543 : Ref sig .tc := ⟨.hbm, 643, rfl⟩
abbrev main_v544 : Ref sig .tc := ⟨.hbm, 644, rfl⟩
abbrev main_v545 : Ref sig .tc := ⟨.hbm, 645, rfl⟩
abbrev main_v546 : Ref sig .tc := ⟨.hbm, 646, rfl⟩
abbrev main_v547 : Ref sig .tc := ⟨.hbm, 647, rfl⟩
abbrev main_v548 : Ref sig .tc := ⟨.hbm, 648, rfl⟩
abbrev main_v549 : Ref sig .tc := ⟨.hbm, 649, rfl⟩
abbrev main_v550 : Ref sig .tc := ⟨.hbm, 650, rfl⟩
abbrev main_v551 : Ref sig .tc := ⟨.hbm, 651, rfl⟩
abbrev main_v552 : Ref sig .tc := ⟨.hbm, 652, rfl⟩
abbrev main_v553 : Ref sig .tc := ⟨.hbm, 653, rfl⟩
abbrev main_v554 : Ref sig .tc := ⟨.hbm, 654, rfl⟩
abbrev main_v555 : Ref sig .tc := ⟨.hbm, 655, rfl⟩
abbrev main_v556 : Ref sig .tc := ⟨.hbm, 656, rfl⟩
abbrev main_v557 : Ref sig .tc := ⟨.hbm, 657, rfl⟩
abbrev main_cst_72 : Ref sig .tc := ⟨.hbm, 658, rfl⟩
abbrev main_v558 : Ref sig .tc := ⟨.hbm, 659, rfl⟩
abbrev main_v559 : Ref sig .tc := ⟨.hbm, 660, rfl⟩
abbrev main_v560 : Ref sig .tc := ⟨.hbm, 661, rfl⟩
abbrev main_cst_73 : Ref sig .tc := ⟨.hbm, 662, rfl⟩
abbrev main_v561 : Ref sig .tc := ⟨.hbm, 663, rfl⟩
abbrev main_v562 : Ref sig .tc := ⟨.hbm, 664, rfl⟩
abbrev main_v563 : Ref sig .tc := ⟨.hbm, 665, rfl⟩
abbrev main_cst_74 : Ref sig .tc := ⟨.hbm, 666, rfl⟩
abbrev main_v564 : Ref sig .tc := ⟨.hbm, 667, rfl⟩
abbrev main_v565 : Ref sig .tc := ⟨.hbm, 668, rfl⟩
abbrev main_cst_75 : Ref sig .tc := ⟨.hbm, 669, rfl⟩
abbrev main_v566 : Ref sig .tc := ⟨.hbm, 670, rfl⟩
abbrev main_v567 : Ref sig .tc := ⟨.hbm, 671, rfl⟩
abbrev main_v568 : Ref sig .tc := ⟨.hbm, 672, rfl⟩
abbrev main_v569 : Ref sig .tc := ⟨.hbm, 673, rfl⟩
abbrev main_v570 : Ref sig .tc := ⟨.hbm, 674, rfl⟩
abbrev main_v571 : Ref sig .tc := ⟨.hbm, 675, rfl⟩
abbrev main_v572 : Ref sig .tc := ⟨.hbm, 676, rfl⟩
abbrev main_v573 : Ref sig .tc := ⟨.hbm, 677, rfl⟩
abbrev main_v574 : Ref sig .tc := ⟨.hbm, 678, rfl⟩
abbrev main_v575 : Ref sig .tc := ⟨.hbm, 679, rfl⟩
abbrev main_v576 : Ref sig .tc := ⟨.hbm, 680, rfl⟩
abbrev main_v577 : Ref sig .tc := ⟨.hbm, 681, rfl⟩
abbrev main_v578 : Ref sig .tc := ⟨.hbm, 682, rfl⟩
abbrev main_v579 : Ref sig .tc := ⟨.hbm, 683, rfl⟩
abbrev main_v580 : Ref sig .tc := ⟨.hbm, 684, rfl⟩
abbrev main_v581 : Ref sig .tc := ⟨.hbm, 685, rfl⟩
abbrev main_cst_76 : Ref sig .tc := ⟨.hbm, 686, rfl⟩
abbrev main_v582 : Ref sig .tc := ⟨.hbm, 687, rfl⟩
abbrev main_v583 : Ref sig .tc := ⟨.hbm, 688, rfl⟩
abbrev main_cst_77 : Ref sig .tc := ⟨.hbm, 689, rfl⟩
abbrev main_v584 : Ref sig .tc := ⟨.hbm, 690, rfl⟩
abbrev main_v585 : Ref sig .tc := ⟨.hbm, 691, rfl⟩
abbrev main_v586 : Ref sig .tc := ⟨.hbm, 692, rfl⟩
abbrev main_v587 : Ref sig .tc := ⟨.hbm, 693, rfl⟩
abbrev main_v588 : Ref sig .tc := ⟨.hbm, 694, rfl⟩
abbrev main_cst_78 : Ref sig .tc := ⟨.hbm, 695, rfl⟩
abbrev main_v589 : Ref sig .tc := ⟨.hbm, 696, rfl⟩
abbrev main_v590 : Ref sig .tc := ⟨.hbm, 697, rfl⟩
abbrev main_cst_79 : Ref sig .tc := ⟨.hbm, 698, rfl⟩
abbrev main_v591 : Ref sig .tc := ⟨.hbm, 699, rfl⟩
abbrev main_v592 : Ref sig .tc := ⟨.hbm, 700, rfl⟩
abbrev main_v593 : Ref sig .tc := ⟨.hbm, 701, rfl⟩
abbrev main_v594 : Ref sig .tc := ⟨.hbm, 702, rfl⟩
abbrev main_cst_80 : Ref sig .tc := ⟨.hbm, 703, rfl⟩
abbrev main_v595 : Ref sig .tc := ⟨.hbm, 704, rfl⟩
abbrev main_v596 : Ref sig .tc := ⟨.hbm, 705, rfl⟩
abbrev main_v597 : Ref sig .tc := ⟨.hbm, 706, rfl⟩
abbrev main_v598 : Ref sig .tc := ⟨.hbm, 707, rfl⟩
abbrev main_v599 : Ref sig .tc := ⟨.hbm, 708, rfl⟩
abbrev main_v600 : Ref sig .tc := ⟨.hbm, 709, rfl⟩
abbrev main_v601 : Ref sig .tc := ⟨.hbm, 710, rfl⟩
abbrev main_v602 : Ref sig .tc := ⟨.hbm, 711, rfl⟩
abbrev main_v603 : Ref sig .tc := ⟨.hbm, 712, rfl⟩
abbrev main_v604 : Ref sig .tc := ⟨.hbm, 713, rfl⟩
abbrev main_v605 : Ref sig .tc := ⟨.hbm, 714, rfl⟩
abbrev main_v606 : Ref sig .tc := ⟨.hbm, 715, rfl⟩

abbrev nD : Nat := 1
abbrev τ : Topo := Topo.v7x

variable {F : FTy → Type} [FloatOps F]
-- ==== Gnn.lean ====
abbrev S64x1x2048 : Shape := ⟨3, ![64, 1, 2048]⟩
abbrev S64x72x1x256 : Shape := ⟨4, ![64, 72, 1, 256]⟩
abbrev S64x1x19456 : Shape := ⟨3, ![64, 1, 19456]⟩
abbrev S128x768 : Shape := ⟨2, ![128, 768]⟩
abbrev S2x768x768 : Shape := ⟨3, ![2, 768, 768]⟩
abbrev S8x768 : Shape := ⟨2, ![8, 768]⟩
abbrev S32x32x768 : Shape := ⟨3, ![32, 32, 768]⟩
abbrev S1x1x2048 : Shape := ⟨3, ![1, 1, 2048]⟩
abbrev S1x72x1x256 : Shape := ⟨4, ![1, 72, 1, 256]⟩
abbrev S1x1x19456 : Shape := ⟨3, ![1, 1, 19456]⟩
abbrev S1x32x768 : Shape := ⟨3, ![1, 32, 768]⟩
abbrev S16384x128 : Shape := ⟨2, ![16384, 128]⟩
abbrev S2048x768 : Shape := ⟨2, ![2048, 768]⟩
abbrev S2056x128 : Shape := ⟨2, ![2056, 128]⟩
abbrev S19456 : Shape := ⟨1, ![19456]⟩
abbrev S_ : Shape := ⟨0, ![]⟩
abbrev S1x2048 : Shape := ⟨2, ![1, 2048]⟩
abbrev S128x2048 : Shape := ⟨2, ![128, 2048]⟩
abbrev S2048x128 : Shape := ⟨2, ![2048, 128]⟩
abbrev S1 : Shape := ⟨1, ![1]⟩
abbrev S8x128 : Shape := ⟨2, ![8, 128]⟩
abbrev S1x1x1x256 : Shape := ⟨4, ![1, 1, 1, 256]⟩
abbrev S256 : Shape := ⟨1, ![256]⟩
abbrev S256x256 : Shape := ⟨2, ![256, 256]⟩
abbrev S1x256 : Shape := ⟨2, ![1, 256]⟩
abbrev S256x128 : Shape := ⟨2, ![256, 128]⟩
abbrev S256x768 : Shape := ⟨2, ![256, 768]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩
abbrev S32x2048 : Shape := ⟨2, ![32, 2048]⟩
abbrev S32x768 : Shape := ⟨2, ![32, 768]⟩
abbrev S32 : Shape := ⟨1, ![32]⟩
abbrev S32x1 : Shape := ⟨2, ![32, 1]⟩

abbrev nBuf : Space → Nat
  | .hbm => 8
  | .vmem => 17
  | .smem => 1
  | _ => 0

abbrev bufTy : (tb : Table) → Fin (tcTables nBuf tb) → BufTy
  | .hbm, ⟨0, _⟩ => ⟨S64x1x2048, .i32⟩
  | .hbm, ⟨1, _⟩ => ⟨S64x1x2048, .i32⟩
  | .hbm, ⟨2, _⟩ => ⟨S64x72x1x256, .i32⟩
  | .hbm, ⟨3, _⟩ => ⟨S64x1x19456, .i32⟩
  | .hbm, ⟨4, _⟩ => ⟨S128x768, .f32⟩
  | .hbm, ⟨5, _⟩ => ⟨S2x768x768, .f32⟩
  | .hbm, ⟨6, _⟩ => ⟨S8x768, .f32⟩
  | .hbm, ⟨7, _⟩ => ⟨S32x32x768, .f32⟩
  | .local _ .vmem, ⟨0, _⟩ => ⟨S1x1x2048, .i32⟩
  | .local _ .vmem, ⟨1, _⟩ => ⟨S1x1x2048, .i32⟩
  | .local _ .vmem, ⟨2, _⟩ => ⟨S1x1x2048, .i32⟩
  | .local _ .vmem, ⟨3, _⟩ => ⟨S1x1x2048, .i32⟩
  | .local _ .vmem, ⟨4, _⟩ => ⟨S1x72x1x256, .i32⟩
  | .local _ .vmem, ⟨5, _⟩ => ⟨S1x72x1x256, .i32⟩
  | .local _ .vmem, ⟨6, _⟩ => ⟨S1x1x19456, .i32⟩
  | .local _ .vmem, ⟨7, _⟩ => ⟨S1x1x19456, .i32⟩
  | .local _ .vmem, ⟨8, _⟩ => ⟨S128x768, .f32⟩
  | .local _ .vmem, ⟨9, _⟩ => ⟨S2x768x768, .f32⟩
  | .local _ .vmem, ⟨10, _⟩ => ⟨S8x768, .f32⟩
  | .local _ .vmem, ⟨11, _⟩ => ⟨S1x32x768, .f32⟩
  | .local _ .vmem, ⟨12, _⟩ => ⟨S1x32x768, .f32⟩
  | .local _ .vmem, ⟨13, _⟩ => ⟨S16384x128, .f32⟩
  | .local _ .vmem, ⟨14, _⟩ => ⟨S2048x768, .f32⟩
  | .local _ .vmem, ⟨15, _⟩ => ⟨S2048x768, .f32⟩
  | .local _ .vmem, ⟨16, _⟩ => ⟨S2056x128, .f32⟩
  | .local _ .smem, ⟨0, _⟩ => ⟨S19456, .i32⟩
  | _, _ => ⟨S64x1x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 2], ![false, false]⟩

@[reducible] def k0_t1_loop : Scf.Loop 32 :=
  let c0_i32_28 : BitVec 32 := 0#32
  let c72_i32 : BitVec 32 := 72#32
  let v44 : BitVec 32 := Scalar.addi c0_i32_28 c72_i32
  let c1_i32 : BitVec 32 := 1#32
  ⟨c0_i32_28, v44, c1_i32⟩
def k0_off1 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c0_i32_100 : BitVec 32 := 0#32
  let v129 : BitVec 32 := Scalar.addi v128 c0_i32_100
  let v130 : Index := Scalar.indexCast v129
  ![v130.toNat]
def k0_mult1 (v131 : BitVec 32) : BitVec 32 :=
  v131

def k0_off2 (v131 : BitVec 32) : Fin 2 → Nat :=
  let v132 : BitVec 32 := v131
  let v133 : Index := Scalar.indexCast v132
  let c0_101 : Index := 0#32
  ![v133.toNat, 0]

def k0_chk1 (v131 : BitVec 32) : Prop :=
  (8 ∣ (k0_mult1 v131).toNat) ∧
  (∀ a, (k0_off2 v131) a + S8x128.size a ≤ S16384x128.size a)
theorem k0_mult1_dvd : ∀ (v131 : BitVec 32) (k0_hw1 : k0_chk1 v131), 8 ∣ (k0_mult1 v131).toNat := fun v131 k0_hw1 => k0_hw1.1
theorem k0_off2_inb : ∀ (v131 : BitVec 32) (k0_hw1 : k0_chk1 v131), ∀ a, (k0_off2 v131) a + S8x128.size a ≤ S16384x128.size a := fun v131 k0_hw1 => k0_hw1.2

def k0_off3 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c1_i32_104 : BitVec 32 := 1#32
  let v138 : BitVec 32 := Scalar.addi v128 c1_i32_104
  let v139 : Index := Scalar.indexCast v138
  ![v139.toNat]
def k0_mult2 (v140 : BitVec 32) : BitVec 32 :=
  v140

def k0_off4 (v140 : BitVec 32) : Fin 2 → Nat :=
  let v141 : BitVec 32 := v140
  let v142 : Index := Scalar.indexCast v141
  let c0_105 : Index := 0#32
  ![v142.toNat, 0]

def k0_chk2 (v140 : BitVec 32) : Prop :=
  (8 ∣ (k0_mult2 v140).toNat) ∧
  (∀ a, (k0_off4 v140) a + S8x128.size a ≤ S16384x128.size a)
theorem k0_mult2_dvd : ∀ (v140 : BitVec 32) (k0_hw2 : k0_chk2 v140), 8 ∣ (k0_mult2 v140).toNat := fun v140 k0_hw2 => k0_hw2.1
theorem k0_off4_inb : ∀ (v140 : BitVec 32) (k0_hw2 : k0_chk2 v140), ∀ a, (k0_off4 v140) a + S8x128.size a ≤ S16384x128.size a := fun v140 k0_hw2 => k0_hw2.2

def k0_off5 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c2_i32 : BitVec 32 := 2#32
  let v147 : BitVec 32 := Scalar.addi v128 c2_i32
  let v148 : Index := Scalar.indexCast v147
  ![v148.toNat]
def k0_mult3 (v149 : BitVec 32) : BitVec 32 :=
  v149

def k0_off6 (v149 : BitVec 32) : Fin 2 → Nat :=
  let v150 : BitVec 32 := v149
  let v151 : Index := Scalar.indexCast v150
  let c0_108 : Index := 0#32
  ![v151.toNat, 0]

def k0_chk3 (v149 : BitVec 32) : Prop :=
  (8 ∣ (k0_mult3 v149).toNat) ∧
  (∀ a, (k0_off6 v149) a + S8x128.size a ≤ S16384x128.size a)
theorem k0_mult3_dvd : ∀ (v149 : BitVec 32) (k0_hw3 : k0_chk3 v149), 8 ∣ (k0_mult3 v149).toNat := fun v149 k0_hw3 => k0_hw3.1
theorem k0_off6_inb : ∀ (v149 : BitVec 32) (k0_hw3 : k0_chk3 v149), ∀ a, (k0_off6 v149) a + S8x128.size a ≤ S16384x128.size a := fun v149 k0_hw3 => k0_hw3.2

def k0_off7 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c3_i32 : BitVec 32 := 3#32
  let v156 : BitVec 32 := Scalar.addi v128 c3_i32
  let v157 : Index := Scalar.indexCast v156
  ![v157.toNat]
def k0_mult4 (v158 : BitVec 32) : BitVec 32 :=
  v158

def k0_off8 (v158 : BitVec 32) : Fin 2 → Nat :=
  let v159 : BitVec 32 := v158
  let v160 : Index := Scalar.indexCast v159
  let c0_111 : Index := 0#32
  ![v160.toNat, 0]

def k0_chk4 (v158 : BitVec 32) : Prop :=
  (8 ∣ (k0_mult4 v158).toNat) ∧
  (∀ a, (k0_off8 v158) a + S8x128.size a ≤ S16384x128.size a)
theorem k0_mult4_dvd : ∀ (v158 : BitVec 32) (k0_hw4 : k0_chk4 v158), 8 ∣ (k0_mult4 v158).toNat := fun v158 k0_hw4 => k0_hw4.1
theorem k0_off8_inb : ∀ (v158 : BitVec 32) (k0_hw4 : k0_chk4 v158), ∀ a, (k0_off8 v158) a + S8x128.size a ≤ S16384x128.size a := fun v158 k0_hw4 => k0_hw4.2

def k0_off9 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c4_i32 : BitVec 32 := 4#32
  let v165 : BitVec 32 := Scalar.addi v128 c4_i32
  let v166 : Index := Scalar.indexCast v165
  ![v166.toNat]
def k0_mult5 (v167 : BitVec 32) : BitVec 32 :=
  v167

def k0_off10 (v167 : BitVec 32) : Fin 2 → Nat :=
  let v168 : BitVec 32 := v167
  let v169 : Index := Scalar.indexCast v168
  let c0_114 : Index := 0#32
  ![v169.toNat, 0]

def k0_chk5 (v167 : BitVec 32) : Prop :=
  (8 ∣ (k0_mult5 v167).toNat) ∧
  (∀ a, (k0_off10 v167) a + S8x128.size a ≤ S16384x128.size a)
theorem k0_mult5_dvd : ∀ (v167 : BitVec 32) (k0_hw5 : k0_chk5 v167), 8 ∣ (k0_mult5 v167).toNat := fun v167 k0_hw5 => k0_hw5.1
theorem k0_off10_inb : ∀ (v167 : BitVec 32) (k0_hw5 : k0_chk5 v167), ∀ a, (k0_off10 v167) a + S8x128.size a ≤ S16384x128.size a := fun v167 k0_hw5 => k0_hw5.2

def k0_off11 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c5_i32 : BitVec 32 := 5#32
  let v174 : BitVec 32 := Scalar.addi v128 c5_i32
  let v175 : Index := Scalar.indexCast v174
  ![v175.toNat]
def k0_mult6 (v176 : BitVec 32) : BitVec 32 :=
  v176

def k0_off12 (v176 : BitVec 32) : Fin 2 → Nat :=
  let v177 : BitVec 32 := v176
  let v178 : Index := Scalar.indexCast v177
  let c0_117 : Index := 0#32
  ![v178.toNat, 0]

def k0_chk6 (v176 : BitVec 32) : Prop :=
  (8 ∣ (k0_mult6 v176).toNat) ∧
  (∀ a, (k0_off12 v176) a + S8x128.size a ≤ S16384x128.size a)
theorem k0_mult6_dvd : ∀ (v176 : BitVec 32) (k0_hw6 : k0_chk6 v176), 8 ∣ (k0_mult6 v176).toNat := fun v176 k0_hw6 => k0_hw6.1
theorem k0_off12_inb : ∀ (v176 : BitVec 32) (k0_hw6 : k0_chk6 v176), ∀ a, (k0_off12 v176) a + S8x128.size a ≤ S16384x128.size a := fun v176 k0_hw6 => k0_hw6.2

def k0_off13 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c6_i32 : BitVec 32 := 6#32
  let v183 : BitVec 32 := Scalar.addi v128 c6_i32
  let v184 : Index := Scalar.indexCast v183
  ![v184.toNat]
def k0_mult7 (v185 : BitVec 32) : BitVec 32 :=
  v185

def k0_off14 (v185 : BitVec 32) : Fin 2 → Nat :=
  let v186 : BitVec 32 := v185
  let v187 : Index := Scalar.indexCast v186
  let c0_120 : Index := 0#32
  ![v187.toNat, 0]

def k0_chk7 (v185 : BitVec 32) : Prop :=
  (8 ∣ (k0_mult7 v185).toNat) ∧
  (∀ a, (k0_off14 v185) a + S8x128.size a ≤ S16384x128.size a)
theorem k0_mult7_dvd : ∀ (v185 : BitVec 32) (k0_hw7 : k0_chk7 v185), 8 ∣ (k0_mult7 v185).toNat := fun v185 k0_hw7 => k0_hw7.1
theorem k0_off14_inb : ∀ (v185 : BitVec 32) (k0_hw7 : k0_chk7 v185), ∀ a, (k0_off14 v185) a + S8x128.size a ≤ S16384x128.size a := fun v185 k0_hw7 => k0_hw7.2

def k0_off15 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c7_i32 : BitVec 32 := 7#32
  let v192 : BitVec 32 := Scalar.addi v128 c7_i32
  let v193 : Index := Scalar.indexCast v192
  ![v193.toNat]
def k0_mult8 (v194 : BitVec 32) : BitVec 32 :=
  v194

def k0_off16 (v194 : BitVec 32) : Fin 2 → Nat :=
  let v195 : BitVec 32 := v194
  let v196 : Index := Scalar.indexCast v195
  let c0_122 : Index := 0#32
  ![v196.toNat, 0]

def k0_chk8 (v194 : BitVec 32) : Prop :=
  (8 ∣ (k0_mult8 v194).toNat) ∧
  (∀ a, (k0_off16 v194) a + S8x128.size a ≤ S16384x128.size a)
theorem k0_mult8_dvd : ∀ (v194 : BitVec 32) (k0_hw8 : k0_chk8 v194), 8 ∣ (k0_mult8 v194).toNat := fun v194 k0_hw8 => k0_hw8.1
theorem k0_off16_inb : ∀ (v194 : BitVec 32) (k0_hw8 : k0_chk8 v194), ∀ a, (k0_off16 v194) a + S8x128.size a ≤ S16384x128.size a := fun v194 k0_hw8 => k0_hw8.2

def k0_off17 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c8_i32 : BitVec 32 := 8#32
  let v201 : BitVec 32 := Scalar.addi v128 c8_i32
  let v202 : Index := Scalar.indexCast v201
  ![v202.toNat]
def k0_mult9 (v203 : BitVec 32) : BitVec 32 :=
  v203

def k0_off18 (v203 : BitVec 32) : Fin 2 → Nat :=
  let v204 : BitVec 32 := v203
  let v205 : Index := Scalar.indexCast v204
  let c0_124 : Index := 0#32
  ![v205.toNat, 0]

def k0_chk9 (v203 : BitVec 32) : Prop :=
  (8 ∣ (k0_mult9 v203).toNat) ∧
  (∀ a, (k0_off18 v203) a + S8x128.size a ≤ S16384x128.size a)
theorem k0_mult9_dvd : ∀ (v203 : BitVec 32) (k0_hw9 : k0_chk9 v203), 8 ∣ (k0_mult9 v203).toNat := fun v203 k0_hw9 => k0_hw9.1
theorem k0_off18_inb : ∀ (v203 : BitVec 32) (k0_hw9 : k0_chk9 v203), ∀ a, (k0_off18 v203) a + S8x128.size a ≤ S16384x128.size a := fun v203 k0_hw9 => k0_hw9.2

def k0_off19 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c9_i32 : BitVec 32 := 9#32
  let v210 : BitVec 32 := Scalar.addi v128 c9_i32
  let v211 : Index := Scalar.indexCast v210
  ![v211.toNat]
def k0_mult10 (v212 : BitVec 32) : BitVec 32 :=
  v212

def k0_off20 (v212 : BitVec 32) : Fin 2 → Nat :=
  let v213 : BitVec 32 := v212
  let v214 : Index := Scalar.indexCast v213
  let c0_126 : Index := 0#32
  ![v214.toNat, 0]

def k0_chk10 (v212 : BitVec 32) : Prop :=
  (8 ∣ (k0_mult10 v212).toNat) ∧
  (∀ a, (k0_off20 v212) a + S8x128.size a ≤ S16384x128.size a)
theorem k0_mult10_dvd : ∀ (v212 : BitVec 32) (k0_hw10 : k0_chk10 v212), 8 ∣ (k0_mult10 v212).toNat := fun v212 k0_hw10 => k0_hw10.1
theorem k0_off20_inb : ∀ (v212 : BitVec 32) (k0_hw10 : k0_chk10 v212), ∀ a, (k0_off20 v212) a + S8x128.size a ≤ S16384x128.size a := fun v212 k0_hw10 => k0_hw10.2

def k0_off21 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c10_i32 : BitVec 32 := 10#32
  let v219 : BitVec 32 := Scalar.addi v128 c10_i32
  let v220 : Index := Scalar.indexCast v219
  ![v220.toNat]
def k0_mult11 (v221 : BitVec 32) : BitVec 32 :=
  v221

def k0_off22 (v221 : BitVec 32) : Fin 2 → Nat :=
  let v222 : BitVec 32 := v221
  let v223 : Index := Scalar.indexCast v222
  let c0_128 : Index := 0#32
  ![v223.toNat, 0]

def k0_chk11 (v221 : BitVec 32) : Prop :=
  (8 ∣ (k0_mult11 v221).toNat) ∧
  (∀ a, (k0_off22 v221) a + S8x128.size a ≤ S16384x128.size a)
theorem k0_mult11_dvd : ∀ (v221 : BitVec 32) (k0_hw11 : k0_chk11 v221), 8 ∣ (k0_mult11 v221).toNat := fun v221 k0_hw11 => k0_hw11.1
theorem k0_off22_inb : ∀ (v221 : BitVec 32) (k0_hw11 : k0_chk11 v221), ∀ a, (k0_off22 v221) a + S8x128.size a ≤ S16384x128.size a := fun v221 k0_hw11 => k0_hw11.2

def k0_off23 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c11_i32 : BitVec 32 := 11#32
  let v228 : BitVec 32 := Scalar.addi v128 c11_i32
  let v229 : Index := Scalar.indexCast v228
  ![v229.toNat]
def k0_mult12 (v230 : BitVec 32) : BitVec 32 :=
  v230

def k0_off24 (v230 : BitVec 32) : Fin 2 → Nat :=
  let v231 : BitVec 32 := v230
  let v232 : Index := Scalar.indexCast v231
  let c0_130 : Index := 0#32
  ![v232.toNat, 0]

def k0_chk12 (v230 : BitVec 32) : Prop :=
  (8 ∣ (k0_mult12 v230).toNat) ∧
  (∀ a, (k0_off24 v230) a + S8x128.size a ≤ S16384x128.size a)
theorem k0_mult12_dvd : ∀ (v230 : BitVec 32) (k0_hw12 : k0_chk12 v230), 8 ∣ (k0_mult12 v230).toNat := fun v230 k0_hw12 => k0_hw12.1
theorem k0_off24_inb : ∀ (v230 : BitVec 32) (k0_hw12 : k0_chk12 v230), ∀ a, (k0_off24 v230) a + S8x128.size a ≤ S16384x128.size a := fun v230 k0_hw12 => k0_hw12.2

def k0_off25 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c12_i32 : BitVec 32 := 12#32
  let v237 : BitVec 32 := Scalar.addi v128 c12_i32
  let v238 : Index := Scalar.indexCast v237
  ![v238.toNat]
def k0_mult13 (v239 : BitVec 32) : BitVec 32 :=
  v239

def k0_off26 (v239 : BitVec 32) : Fin 2 → Nat :=
  let v240 : BitVec 32 := v239
  let v241 : Index := Scalar.indexCast v240
  let c0_132 : Index := 0#32
  ![v241.toNat, 0]

def k0_chk13 (v239 : BitVec 32) : Prop :=
  (8 ∣ (k0_mult13 v239).toNat) ∧
  (∀ a, (k0_off26 v239) a + S8x128.size a ≤ S16384x128.size a)
theorem k0_mult13_dvd : ∀ (v239 : BitVec 32) (k0_hw13 : k0_chk13 v239), 8 ∣ (k0_mult13 v239).toNat := fun v239 k0_hw13 => k0_hw13.1
theorem k0_off26_inb : ∀ (v239 : BitVec 32) (k0_hw13 : k0_chk13 v239), ∀ a, (k0_off26 v239) a + S8x128.size a ≤ S16384x128.size a := fun v239 k0_hw13 => k0_hw13.2

def k0_off27 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c13_i32 : BitVec 32 := 13#32
  let v246 : BitVec 32 := Scalar.addi v128 c13_i32
  let v247 : Index := Scalar.indexCast v246
  ![v247.toNat]
def k0_mult14 (v248 : BitVec 32) : BitVec 32 :=
  v248

def k0_off28 (v248 : BitVec 32) : Fin 2 → Nat :=
  let v249 : BitVec 32 := v248
  let v250 : Index := Scalar.indexCast v249
  let c0_134 : Index := 0#32
  ![v250.toNat, 0]

def k0_chk14 (v248 : BitVec 32) : Prop :=
  (8 ∣ (k0_mult14 v248).toNat) ∧
  (∀ a, (k0_off28 v248) a + S8x128.size a ≤ S16384x128.size a)
theorem k0_mult14_dvd : ∀ (v248 : BitVec 32) (k0_hw14 : k0_chk14 v248), 8 ∣ (k0_mult14 v248).toNat := fun v248 k0_hw14 => k0_hw14.1
theorem k0_off28_inb : ∀ (v248 : BitVec 32) (k0_hw14 : k0_chk14 v248), ∀ a, (k0_off28 v248) a + S8x128.size a ≤ S16384x128.size a := fun v248 k0_hw14 => k0_hw14.2

def k0_off29 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c14_i32 : BitVec 32 := 14#32
  let v255 : BitVec 32 := Scalar.addi v128 c14_i32
  let v256 : Index := Scalar.indexCast v255
  ![v256.toNat]
def k0_mult15 (v257 : BitVec 32) : BitVec 32 :=
  v257

def k0_off30 (v257 : BitVec 32) : Fin 2 → Nat :=
  let v258 : BitVec 32 := v257
  let v259 : Index := Scalar.indexCast v258
  let c0_136 : Index := 0#32
  ![v259.toNat, 0]

def k0_chk15 (v257 : BitVec 32) : Prop :=
  (8 ∣ (k0_mult15 v257).toNat) ∧
  (∀ a, (k0_off30 v257) a + S8x128.size a ≤ S16384x128.size a)
theorem k0_mult15_dvd : ∀ (v257 : BitVec 32) (k0_hw15 : k0_chk15 v257), 8 ∣ (k0_mult15 v257).toNat := fun v257 k0_hw15 => k0_hw15.1
theorem k0_off30_inb : ∀ (v257 : BitVec 32) (k0_hw15 : k0_chk15 v257), ∀ a, (k0_off30 v257) a + S8x128.size a ≤ S16384x128.size a := fun v257 k0_hw15 => k0_hw15.2

def k0_off31 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c15_i32 : BitVec 32 := 15#32
  let v264 : BitVec 32 := Scalar.addi v128 c15_i32
  let v265 : Index := Scalar.indexCast v264
  ![v265.toNat]
def k0_mult16 (v266 : BitVec 32) : BitVec 32 :=
  v266

def k0_off32 (v266 : BitVec 32) : Fin 2 → Nat :=
  let v267 : BitVec 32 := v266
  let v268 : Index := Scalar.indexCast v267
  let c0_138 : Index := 0#32
  ![v268.toNat, 0]

def k0_chk16 (v266 : BitVec 32) : Prop :=
  (8 ∣ (k0_mult16 v266).toNat) ∧
  (∀ a, (k0_off32 v266) a + S8x128.size a ≤ S16384x128.size a)
theorem k0_mult16_dvd : ∀ (v266 : BitVec 32) (k0_hw16 : k0_chk16 v266), 8 ∣ (k0_mult16 v266).toNat := fun v266 k0_hw16 => k0_hw16.1
theorem k0_off32_inb : ∀ (v266 : BitVec 32) (k0_hw16 : k0_chk16 v266), ∀ a, (k0_off32 v266) a + S8x128.size a ≤ S16384x128.size a := fun v266 k0_hw16 => k0_hw16.2

def k0_off33 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c16_i32 : BitVec 32 := 16#32
  let v273 : BitVec 32 := Scalar.addi v128 c16_i32
  let v274 : Index := Scalar.indexCast v273
  ![v274.toNat]
def k0_mult17 (v275 : BitVec 32) : BitVec 32 :=
  v275

def k0_off34 (v275 : BitVec 32) : Fin 2 → Nat :=
  let v276 : BitVec 32 := v275
  let v277 : Index := Scalar.indexCast v276
  let c0_140 : Index := 0#32
  ![v277.toNat, 0]

def k0_chk17 (v275 : BitVec 32) : Prop :=
  (8 ∣ (k0_mult17 v275).toNat) ∧
  (∀ a, (k0_off34 v275) a + S8x128.size a ≤ S16384x128.size a)
theorem k0_mult17_dvd : ∀ (v275 : BitVec 32) (k0_hw17 : k0_chk17 v275), 8 ∣ (k0_mult17 v275).toNat := fun v275 k0_hw17 => k0_hw17.1
theorem k0_off34_inb : ∀ (v275 : BitVec 32) (k0_hw17 : k0_chk17 v275), ∀ a, (k0_off34 v275) a + S8x128.size a ≤ S16384x128.size a := fun v275 k0_hw17 => k0_hw17.2

def k0_off35 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c17_i32 : BitVec 32 := 17#32
  let v282 : BitVec 32 := Scalar.addi v128 c17_i32
  let v283 : Index := Scalar.indexCast v282
  ![v283.toNat]
def k0_mult18 (v284 : BitVec 32) : BitVec 32 :=
  v284

def k0_off36 (v284 : BitVec 32) : Fin 2 → Nat :=
  let v285 : BitVec 32 := v284
  let v286 : Index := Scalar.indexCast v285
  let c0_142 : Index := 0#32
  ![v286.toNat, 0]

def k0_chk18 (v284 : BitVec 32) : Prop :=
  (8 ∣ (k0_mult18 v284).toNat) ∧
  (∀ a, (k0_off36 v284) a + S8x128.size a ≤ S16384x128.size a)
theorem k0_mult18_dvd : ∀ (v284 : BitVec 32) (k0_hw18 : k0_chk18 v284), 8 ∣ (k0_mult18 v284).toNat := fun v284 k0_hw18 => k0_hw18.1
theorem k0_off36_inb : ∀ (v284 : BitVec 32) (k0_hw18 : k0_chk18 v284), ∀ a, (k0_off36 v284) a + S8x128.size a ≤ S16384x128.size a := fun v284 k0_hw18 => k0_hw18.2

def k0_off37 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c18_i32 : BitVec 32 := 18#32
  let v291 : BitVec 32 := Scalar.addi v128 c18_i32
  let v292 : Index := Scalar.indexCast v291
  ![v292.toNat]
def k0_mult19 (v293 : BitVec 32) : BitVec 32 :=
  v293

def k0_off38 (v293 : BitVec 32) : Fin 2 → Nat :=
  let v294 : BitVec 32 := v293
  let v295 : Index := Scalar.indexCast v294
  let c0_144 : Index := 0#32
  ![v295.toNat, 0]

def k0_chk19 (v293 : BitVec 32) : Prop :=
  (8 ∣ (k0_mult19 v293).toNat) ∧
  (∀ a, (k0_off38 v293) a + S8x128.size a ≤ S16384x128.size a)
theorem k0_mult19_dvd : ∀ (v293 : BitVec 32) (k0_hw19 : k0_chk19 v293), 8 ∣ (k0_mult19 v293).toNat := fun v293 k0_hw19 => k0_hw19.1
theorem k0_off38_inb : ∀ (v293 : BitVec 32) (k0_hw19 : k0_chk19 v293), ∀ a, (k0_off38 v293) a + S8x128.size a ≤ S16384x128.size a := fun v293 k0_hw19 => k0_hw19.2

def k0_off39 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c19_i32 : BitVec 32 := 19#32
  let v300 : BitVec 32 := Scalar.addi v128 c19_i32
  let v301 : Index := Scalar.indexCast v300
  ![v301.toNat]
def k0_mult20 (v302 : BitVec 32) : BitVec 32 :=
  v302

def k0_off40 (v302 : BitVec 32) : Fin 2 → Nat :=
  let v303 : BitVec 32 := v302
  let v304 : Index := Scalar.indexCast v303
  let c0_146 : Index := 0#32
  ![v304.toNat, 0]

def k0_chk20 (v302 : BitVec 32) : Prop :=
  (8 ∣ (k0_mult20 v302).toNat) ∧
  (∀ a, (k0_off40 v302) a + S8x128.size a ≤ S16384x128.size a)
theorem k0_mult20_dvd : ∀ (v302 : BitVec 32) (k0_hw20 : k0_chk20 v302), 8 ∣ (k0_mult20 v302).toNat := fun v302 k0_hw20 => k0_hw20.1
theorem k0_off40_inb : ∀ (v302 : BitVec 32) (k0_hw20 : k0_chk20 v302), ∀ a, (k0_off40 v302) a + S8x128.size a ≤ S16384x128.size a := fun v302 k0_hw20 => k0_hw20.2

def k0_off41 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c20_i32 : BitVec 32 := 20#32
  let v309 : BitVec 32 := Scalar.addi v128 c20_i32
  let v310 : Index := Scalar.indexCast v309
  ![v310.toNat]
def k0_mult21 (v311 : BitVec 32) : BitVec 32 :=
  v311

def k0_off42 (v311 : BitVec 32) : Fin 2 → Nat :=
  let v312 : BitVec 32 := v311
  let v313 : Index := Scalar.indexCast v312
  let c0_148 : Index := 0#32
  ![v313.toNat, 0]

def k0_chk21 (v311 : BitVec 32) : Prop :=
  (8 ∣ (k0_mult21 v311).toNat) ∧
  (∀ a, (k0_off42 v311) a + S8x128.size a ≤ S16384x128.size a)
theorem k0_mult21_dvd : ∀ (v311 : BitVec 32) (k0_hw21 : k0_chk21 v311), 8 ∣ (k0_mult21 v311).toNat := fun v311 k0_hw21 => k0_hw21.1
theorem k0_off42_inb : ∀ (v311 : BitVec 32) (k0_hw21 : k0_chk21 v311), ∀ a, (k0_off42 v311) a + S8x128.size a ≤ S16384x128.size a := fun v311 k0_hw21 => k0_hw21.2

def k0_off43 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c21_i32 : BitVec 32 := 21#32
  let v318 : BitVec 32 := Scalar.addi v128 c21_i32
  let v319 : Index := Scalar.indexCast v318
  ![v319.toNat]
def k0_mult22 (v320 : BitVec 32) : BitVec 32 :=
  v320

def k0_off44 (v320 : BitVec 32) : Fin 2 → Nat :=
  let v321 : BitVec 32 := v320
  let v322 : Index := Scalar.indexCast v321
  let c0_150 : Index := 0#32
  ![v322.toNat, 0]

def k0_chk22 (v320 : BitVec 32) : Prop :=
  (8 ∣ (k0_mult22 v320).toNat) ∧
  (∀ a, (k0_off44 v320) a + S8x128.size a ≤ S16384x128.size a)
theorem k0_mult22_dvd : ∀ (v320 : BitVec 32) (k0_hw22 : k0_chk22 v320), 8 ∣ (k0_mult22 v320).toNat := fun v320 k0_hw22 => k0_hw22.1
theorem k0_off44_inb : ∀ (v320 : BitVec 32) (k0_hw22 : k0_chk22 v320), ∀ a, (k0_off44 v320) a + S8x128.size a ≤ S16384x128.size a := fun v320 k0_hw22 => k0_hw22.2

def k0_off45 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c22_i32 : BitVec 32 := 22#32
  let v327 : BitVec 32 := Scalar.addi v128 c22_i32
  let v328 : Index := Scalar.indexCast v327
  ![v328.toNat]
def k0_mult23 (v329 : BitVec 32) : BitVec 32 :=
  v329

def k0_off46 (v329 : BitVec 32) : Fin 2 → Nat :=
  let v330 : BitVec 32 := v329
  let v331 : Index := Scalar.indexCast v330
  let c0_152 : Index := 0#32
  ![v331.toNat, 0]

def k0_chk23 (v329 : BitVec 32) : Prop :=
  (8 ∣ (k0_mult23 v329).toNat) ∧
  (∀ a, (k0_off46 v329) a + S8x128.size a ≤ S16384x128.size a)
theorem k0_mult23_dvd : ∀ (v329 : BitVec 32) (k0_hw23 : k0_chk23 v329), 8 ∣ (k0_mult23 v329).toNat := fun v329 k0_hw23 => k0_hw23.1
theorem k0_off46_inb : ∀ (v329 : BitVec 32) (k0_hw23 : k0_chk23 v329), ∀ a, (k0_off46 v329) a + S8x128.size a ≤ S16384x128.size a := fun v329 k0_hw23 => k0_hw23.2

def k0_off47 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c23_i32 : BitVec 32 := 23#32
  let v336 : BitVec 32 := Scalar.addi v128 c23_i32
  let v337 : Index := Scalar.indexCast v336
  ![v337.toNat]
def k0_mult24 (v338 : BitVec 32) : BitVec 32 :=
  v338

def k0_off48 (v338 : BitVec 32) : Fin 2 → Nat :=
  let v339 : BitVec 32 := v338
  let v340 : Index := Scalar.indexCast v339
  let c0_154 : Index := 0#32
  ![v340.toNat, 0]

def k0_chk24 (v338 : BitVec 32) : Prop :=
  (8 ∣ (k0_mult24 v338).toNat) ∧
  (∀ a, (k0_off48 v338) a + S8x128.size a ≤ S16384x128.size a)
theorem k0_mult24_dvd : ∀ (v338 : BitVec 32) (k0_hw24 : k0_chk24 v338), 8 ∣ (k0_mult24 v338).toNat := fun v338 k0_hw24 => k0_hw24.1
theorem k0_off48_inb : ∀ (v338 : BitVec 32) (k0_hw24 : k0_chk24 v338), ∀ a, (k0_off48 v338) a + S8x128.size a ≤ S16384x128.size a := fun v338 k0_hw24 => k0_hw24.2

def k0_off49 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c24_i32 : BitVec 32 := 24#32
  let v345 : BitVec 32 := Scalar.addi v128 c24_i32
  let v346 : Index := Scalar.indexCast v345
  ![v346.toNat]
def k0_mult25 (v347 : BitVec 32) : BitVec 32 :=
  v347

def k0_off50 (v347 : BitVec 32) : Fin 2 → Nat :=
  let v348 : BitVec 32 := v347
  let v349 : Index := Scalar.indexCast v348
  let c0_156 : Index := 0#32
  ![v349.toNat, 0]

def k0_chk25 (v347 : BitVec 32) : Prop :=
  (8 ∣ (k0_mult25 v347).toNat) ∧
  (∀ a, (k0_off50 v347) a + S8x128.size a ≤ S16384x128.size a)
theorem k0_mult25_dvd : ∀ (v347 : BitVec 32) (k0_hw25 : k0_chk25 v347), 8 ∣ (k0_mult25 v347).toNat := fun v347 k0_hw25 => k0_hw25.1
theorem k0_off50_inb : ∀ (v347 : BitVec 32) (k0_hw25 : k0_chk25 v347), ∀ a, (k0_off50 v347) a + S8x128.size a ≤ S16384x128.size a := fun v347 k0_hw25 => k0_hw25.2

def k0_off51 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c25_i32 : BitVec 32 := 25#32
  let v354 : BitVec 32 := Scalar.addi v128 c25_i32
  let v355 : Index := Scalar.indexCast v354
  ![v355.toNat]
def k0_mult26 (v356 : BitVec 32) : BitVec 32 :=
  v356

def k0_off52 (v356 : BitVec 32) : Fin 2 → Nat :=
  let v357 : BitVec 32 := v356
  let v358 : Index := Scalar.indexCast v357
  let c0_158 : Index := 0#32
  ![v358.toNat, 0]

def k0_chk26 (v356 : BitVec 32) : Prop :=
  (8 ∣ (k0_mult26 v356).toNat) ∧
  (∀ a, (k0_off52 v356) a + S8x128.size a ≤ S16384x128.size a)
theorem k0_mult26_dvd : ∀ (v356 : BitVec 32) (k0_hw26 : k0_chk26 v356), 8 ∣ (k0_mult26 v356).toNat := fun v356 k0_hw26 => k0_hw26.1
theorem k0_off52_inb : ∀ (v356 : BitVec 32) (k0_hw26 : k0_chk26 v356), ∀ a, (k0_off52 v356) a + S8x128.size a ≤ S16384x128.size a := fun v356 k0_hw26 => k0_hw26.2

def k0_off53 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c26_i32 : BitVec 32 := 26#32
  let v363 : BitVec 32 := Scalar.addi v128 c26_i32
  let v364 : Index := Scalar.indexCast v363
  ![v364.toNat]
def k0_mult27 (v365 : BitVec 32) : BitVec 32 :=
  v365

def k0_off54 (v365 : BitVec 32) : Fin 2 → Nat :=
  let v366 : BitVec 32 := v365
  let v367 : Index := Scalar.indexCast v366
  let c0_160 : Index := 0#32
  ![v367.toNat, 0]

def k0_chk27 (v365 : BitVec 32) : Prop :=
  (8 ∣ (k0_mult27 v365).toNat) ∧
  (∀ a, (k0_off54 v365) a + S8x128.size a ≤ S16384x128.size a)
theorem k0_mult27_dvd : ∀ (v365 : BitVec 32) (k0_hw27 : k0_chk27 v365), 8 ∣ (k0_mult27 v365).toNat := fun v365 k0_hw27 => k0_hw27.1
theorem k0_off54_inb : ∀ (v365 : BitVec 32) (k0_hw27 : k0_chk27 v365), ∀ a, (k0_off54 v365) a + S8x128.size a ≤ S16384x128.size a := fun v365 k0_hw27 => k0_hw27.2

def k0_off55 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c27_i32 : BitVec 32 := 27#32
  let v372 : BitVec 32 := Scalar.addi v128 c27_i32
  let v373 : Index := Scalar.indexCast v372
  ![v373.toNat]
def k0_mult28 (v374 : BitVec 32) : BitVec 32 :=
  v374

def k0_off56 (v374 : BitVec 32) : Fin 2 → Nat :=
  let v375 : BitVec 32 := v374
  let v376 : Index := Scalar.indexCast v375
  let c0_162 : Index := 0#32
  ![v376.toNat, 0]

def k0_chk28 (v374 : BitVec 32) : Prop :=
  (8 ∣ (k0_mult28 v374).toNat) ∧
  (∀ a, (k0_off56 v374) a + S8x128.size a ≤ S16384x128.size a)
theorem k0_mult28_dvd : ∀ (v374 : BitVec 32) (k0_hw28 : k0_chk28 v374), 8 ∣ (k0_mult28 v374).toNat := fun v374 k0_hw28 => k0_hw28.1
theorem k0_off56_inb : ∀ (v374 : BitVec 32) (k0_hw28 : k0_chk28 v374), ∀ a, (k0_off56 v374) a + S8x128.size a ≤ S16384x128.size a := fun v374 k0_hw28 => k0_hw28.2

def k0_off57 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c28_i32 : BitVec 32 := 28#32
  let v381 : BitVec 32 := Scalar.addi v128 c28_i32
  let v382 : Index := Scalar.indexCast v381
  ![v382.toNat]
def k0_mult29 (v383 : BitVec 32) : BitVec 32 :=
  v383

def k0_off58 (v383 : BitVec 32) : Fin 2 → Nat :=
  let v384 : BitVec 32 := v383
  let v385 : Index := Scalar.indexCast v384
  let c0_164 : Index := 0#32
  ![v385.toNat, 0]

def k0_chk29 (v383 : BitVec 32) : Prop :=
  (8 ∣ (k0_mult29 v383).toNat) ∧
  (∀ a, (k0_off58 v383) a + S8x128.size a ≤ S16384x128.size a)
theorem k0_mult29_dvd : ∀ (v383 : BitVec 32) (k0_hw29 : k0_chk29 v383), 8 ∣ (k0_mult29 v383).toNat := fun v383 k0_hw29 => k0_hw29.1
theorem k0_off58_inb : ∀ (v383 : BitVec 32) (k0_hw29 : k0_chk29 v383), ∀ a, (k0_off58 v383) a + S8x128.size a ≤ S16384x128.size a := fun v383 k0_hw29 => k0_hw29.2

def k0_off59 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c29_i32 : BitVec 32 := 29#32
  let v390 : BitVec 32 := Scalar.addi v128 c29_i32
  let v391 : Index := Scalar.indexCast v390
  ![v391.toNat]
def k0_mult30 (v392 : BitVec 32) : BitVec 32 :=
  v392

def k0_off60 (v392 : BitVec 32) : Fin 2 → Nat :=
  let v393 : BitVec 32 := v392
  let v394 : Index := Scalar.indexCast v393
  let c0_166 : Index := 0#32
  ![v394.toNat, 0]

def k0_chk30 (v392 : BitVec 32) : Prop :=
  (8 ∣ (k0_mult30 v392).toNat) ∧
  (∀ a, (k0_off60 v392) a + S8x128.size a ≤ S16384x128.size a)
theorem k0_mult30_dvd : ∀ (v392 : BitVec 32) (k0_hw30 : k0_chk30 v392), 8 ∣ (k0_mult30 v392).toNat := fun v392 k0_hw30 => k0_hw30.1
theorem k0_off60_inb : ∀ (v392 : BitVec 32) (k0_hw30 : k0_chk30 v392), ∀ a, (k0_off60 v392) a + S8x128.size a ≤ S16384x128.size a := fun v392 k0_hw30 => k0_hw30.2

def k0_off61 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c30_i32 : BitVec 32 := 30#32
  let v399 : BitVec 32 := Scalar.addi v128 c30_i32
  let v400 : Index := Scalar.indexCast v399
  ![v400.toNat]
def k0_mult31 (v401 : BitVec 32) : BitVec 32 :=
  v401

def k0_off62 (v401 : BitVec 32) : Fin 2 → Nat :=
  let v402 : BitVec 32 := v401
  let v403 : Index := Scalar.indexCast v402
  let c0_168 : Index := 0#32
  ![v403.toNat, 0]

def k0_chk31 (v401 : BitVec 32) : Prop :=
  (8 ∣ (k0_mult31 v401).toNat) ∧
  (∀ a, (k0_off62 v401) a + S8x128.size a ≤ S16384x128.size a)
theorem k0_mult31_dvd : ∀ (v401 : BitVec 32) (k0_hw31 : k0_chk31 v401), 8 ∣ (k0_mult31 v401).toNat := fun v401 k0_hw31 => k0_hw31.1
theorem k0_off62_inb : ∀ (v401 : BitVec 32) (k0_hw31 : k0_chk31 v401), ∀ a, (k0_off62 v401) a + S8x128.size a ≤ S16384x128.size a := fun v401 k0_hw31 => k0_hw31.2

def k0_off63 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c31_i32 : BitVec 32 := 31#32
  let v408 : BitVec 32 := Scalar.addi v128 c31_i32
  let v409 : Index := Scalar.indexCast v408
  ![v409.toNat]
def k0_mult32 (v410 : BitVec 32) : BitVec 32 :=
  v410

def k0_off64 (v410 : BitVec 32) : Fin 2 → Nat :=
  let v411 : BitVec 32 := v410
  let v412 : Index := Scalar.indexCast v411
  let c0_170 : Index := 0#32
  ![v412.toNat, 0]

def k0_chk32 (v410 : BitVec 32) : Prop :=
  (8 ∣ (k0_mult32 v410).toNat) ∧
  (∀ a, (k0_off64 v410) a + S8x128.size a ≤ S16384x128.size a)
theorem k0_mult32_dvd : ∀ (v410 : BitVec 32) (k0_hw32 : k0_chk32 v410), 8 ∣ (k0_mult32 v410).toNat := fun v410 k0_hw32 => k0_hw32.1
theorem k0_off64_inb : ∀ (v410 : BitVec 32) (k0_hw32 : k0_chk32 v410), ∀ a, (k0_off64 v410) a + S8x128.size a ≤ S16384x128.size a := fun v410 k0_hw32 => k0_hw32.2

def k0_off65 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c32_i32 : BitVec 32 := 32#32
  let v417 : BitVec 32 := Scalar.addi v128 c32_i32
  let v418 : Index := Scalar.indexCast v417
  ![v418.toNat]
def k0_mult33 (v419 : BitVec 32) : BitVec 32 :=
  v419

def k0_off66 (v419 : BitVec 32) : Fin 2 → Nat :=
  let v420 : BitVec 32 := v419
  let v421 : Index := Scalar.indexCast v420
  let c0_172 : Index := 0#32
  ![v421.toNat, 0]

def k0_chk33 (v419 : BitVec 32) : Prop :=
  (8 ∣ (k0_mult33 v419).toNat) ∧
  (∀ a, (k0_off66 v419) a + S8x128.size a ≤ S16384x128.size a)
theorem k0_mult33_dvd : ∀ (v419 : BitVec 32) (k0_hw33 : k0_chk33 v419), 8 ∣ (k0_mult33 v419).toNat := fun v419 k0_hw33 => k0_hw33.1
theorem k0_off66_inb : ∀ (v419 : BitVec 32) (k0_hw33 : k0_chk33 v419), ∀ a, (k0_off66 v419) a + S8x128.size a ≤ S16384x128.size a := fun v419 k0_hw33 => k0_hw33.2

def k0_off67 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c33_i32 : BitVec 32 := 33#32
  let v426 : BitVec 32 := Scalar.addi v128 c33_i32
  let v427 : Index := Scalar.indexCast v426
  ![v427.toNat]
def k0_mult34 (v428 : BitVec 32) : BitVec 32 :=
  v428

def k0_off68 (v428 : BitVec 32) : Fin 2 → Nat :=
  let v429 : BitVec 32 := v428
  let v430 : Index := Scalar.indexCast v429
  let c0_174 : Index := 0#32
  ![v430.toNat, 0]

def k0_chk34 (v428 : BitVec 32) : Prop :=
  (8 ∣ (k0_mult34 v428).toNat) ∧
  (∀ a, (k0_off68 v428) a + S8x128.size a ≤ S16384x128.size a)
theorem k0_mult34_dvd : ∀ (v428 : BitVec 32) (k0_hw34 : k0_chk34 v428), 8 ∣ (k0_mult34 v428).toNat := fun v428 k0_hw34 => k0_hw34.1
theorem k0_off68_inb : ∀ (v428 : BitVec 32) (k0_hw34 : k0_chk34 v428), ∀ a, (k0_off68 v428) a + S8x128.size a ≤ S16384x128.size a := fun v428 k0_hw34 => k0_hw34.2

def k0_off69 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c34_i32 : BitVec 32 := 34#32
  let v435 : BitVec 32 := Scalar.addi v128 c34_i32
  let v436 : Index := Scalar.indexCast v435
  ![v436.toNat]
def k0_mult35 (v437 : BitVec 32) : BitVec 32 :=
  v437

def k0_off70 (v437 : BitVec 32) : Fin 2 → Nat :=
  let v438 : BitVec 32 := v437
  let v439 : Index := Scalar.indexCast v438
  let c0_176 : Index := 0#32
  ![v439.toNat, 0]

def k0_chk35 (v437 : BitVec 32) : Prop :=
  (8 ∣ (k0_mult35 v437).toNat) ∧
  (∀ a, (k0_off70 v437) a + S8x128.size a ≤ S16384x128.size a)
theorem k0_mult35_dvd : ∀ (v437 : BitVec 32) (k0_hw35 : k0_chk35 v437), 8 ∣ (k0_mult35 v437).toNat := fun v437 k0_hw35 => k0_hw35.1
theorem k0_off70_inb : ∀ (v437 : BitVec 32) (k0_hw35 : k0_chk35 v437), ∀ a, (k0_off70 v437) a + S8x128.size a ≤ S16384x128.size a := fun v437 k0_hw35 => k0_hw35.2

def k0_off71 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c35_i32 : BitVec 32 := 35#32
  let v444 : BitVec 32 := Scalar.addi v128 c35_i32
  let v445 : Index := Scalar.indexCast v444
  ![v445.toNat]
def k0_mult36 (v446 : BitVec 32) : BitVec 32 :=
  v446

def k0_off72 (v446 : BitVec 32) : Fin 2 → Nat :=
  let v447 : BitVec 32 := v446
  let v448 : Index := Scalar.indexCast v447
  let c0_178 : Index := 0#32
  ![v448.toNat, 0]

def k0_chk36 (v446 : BitVec 32) : Prop :=
  (8 ∣ (k0_mult36 v446).toNat) ∧
  (∀ a, (k0_off72 v446) a + S8x128.size a ≤ S16384x128.size a)
theorem k0_mult36_dvd : ∀ (v446 : BitVec 32) (k0_hw36 : k0_chk36 v446), 8 ∣ (k0_mult36 v446).toNat := fun v446 k0_hw36 => k0_hw36.1
theorem k0_off72_inb : ∀ (v446 : BitVec 32) (k0_hw36 : k0_chk36 v446), ∀ a, (k0_off72 v446) a + S8x128.size a ≤ S16384x128.size a := fun v446 k0_hw36 => k0_hw36.2

def k0_off73 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c36_i32 : BitVec 32 := 36#32
  let v453 : BitVec 32 := Scalar.addi v128 c36_i32
  let v454 : Index := Scalar.indexCast v453
  ![v454.toNat]
def k0_mult37 (v455 : BitVec 32) : BitVec 32 :=
  v455

def k0_off74 (v455 : BitVec 32) : Fin 2 → Nat :=
  let v456 : BitVec 32 := v455
  let v457 : Index := Scalar.indexCast v456
  let c0_180 : Index := 0#32
  ![v457.toNat, 0]

def k0_chk37 (v455 : BitVec 32) : Prop :=
  (8 ∣ (k0_mult37 v455).toNat) ∧
  (∀ a, (k0_off74 v455) a + S8x128.size a ≤ S16384x128.size a)
theorem k0_mult37_dvd : ∀ (v455 : BitVec 32) (k0_hw37 : k0_chk37 v455), 8 ∣ (k0_mult37 v455).toNat := fun v455 k0_hw37 => k0_hw37.1
theorem k0_off74_inb : ∀ (v455 : BitVec 32) (k0_hw37 : k0_chk37 v455), ∀ a, (k0_off74 v455) a + S8x128.size a ≤ S16384x128.size a := fun v455 k0_hw37 => k0_hw37.2

def k0_off75 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c37_i32 : BitVec 32 := 37#32
  let v462 : BitVec 32 := Scalar.addi v128 c37_i32
  let v463 : Index := Scalar.indexCast v462
  ![v463.toNat]
def k0_mult38 (v464 : BitVec 32) : BitVec 32 :=
  v464

def k0_off76 (v464 : BitVec 32) : Fin 2 → Nat :=
  let v465 : BitVec 32 := v464
  let v466 : Index := Scalar.indexCast v465
  let c0_182 : Index := 0#32
  ![v466.toNat, 0]

def k0_chk38 (v464 : BitVec 32) : Prop :=
  (8 ∣ (k0_mult38 v464).toNat) ∧
  (∀ a, (k0_off76 v464) a + S8x128.size a ≤ S16384x128.size a)
theorem k0_mult38_dvd : ∀ (v464 : BitVec 32) (k0_hw38 : k0_chk38 v464), 8 ∣ (k0_mult38 v464).toNat := fun v464 k0_hw38 => k0_hw38.1
theorem k0_off76_inb : ∀ (v464 : BitVec 32) (k0_hw38 : k0_chk38 v464), ∀ a, (k0_off76 v464) a + S8x128.size a ≤ S16384x128.size a := fun v464 k0_hw38 => k0_hw38.2

def k0_off77 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c38_i32 : BitVec 32 := 38#32
  let v471 : BitVec 32 := Scalar.addi v128 c38_i32
  let v472 : Index := Scalar.indexCast v471
  ![v472.toNat]
def k0_mult39 (v473 : BitVec 32) : BitVec 32 :=
  v473

def k0_off78 (v473 : BitVec 32) : Fin 2 → Nat :=
  let v474 : BitVec 32 := v473
  let v475 : Index := Scalar.indexCast v474
  let c0_184 : Index := 0#32
  ![v475.toNat, 0]

def k0_chk39 (v473 : BitVec 32) : Prop :=
  (8 ∣ (k0_mult39 v473).toNat) ∧
  (∀ a, (k0_off78 v473) a + S8x128.size a ≤ S16384x128.size a)
theorem k0_mult39_dvd : ∀ (v473 : BitVec 32) (k0_hw39 : k0_chk39 v473), 8 ∣ (k0_mult39 v473).toNat := fun v473 k0_hw39 => k0_hw39.1
theorem k0_off78_inb : ∀ (v473 : BitVec 32) (k0_hw39 : k0_chk39 v473), ∀ a, (k0_off78 v473) a + S8x128.size a ≤ S16384x128.size a := fun v473 k0_hw39 => k0_hw39.2

def k0_off79 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c39_i32 : BitVec 32 := 39#32
  let v480 : BitVec 32 := Scalar.addi v128 c39_i32
  let v481 : Index := Scalar.indexCast v480
  ![v481.toNat]
def k0_mult40 (v482 : BitVec 32) : BitVec 32 :=
  v482

def k0_off80 (v482 : BitVec 32) : Fin 2 → Nat :=
  let v483 : BitVec 32 := v482
  let v484 : Index := Scalar.indexCast v483
  let c0_186 : Index := 0#32
  ![v484.toNat, 0]

def k0_chk40 (v482 : BitVec 32) : Prop :=
  (8 ∣ (k0_mult40 v482).toNat) ∧
  (∀ a, (k0_off80 v482) a + S8x128.size a ≤ S16384x128.size a)
theorem k0_mult40_dvd : ∀ (v482 : BitVec 32) (k0_hw40 : k0_chk40 v482), 8 ∣ (k0_mult40 v482).toNat := fun v482 k0_hw40 => k0_hw40.1
theorem k0_off80_inb : ∀ (v482 : BitVec 32) (k0_hw40 : k0_chk40 v482), ∀ a, (k0_off80 v482) a + S8x128.size a ≤ S16384x128.size a := fun v482 k0_hw40 => k0_hw40.2

def k0_off81 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c40_i32 : BitVec 32 := 40#32
  let v489 : BitVec 32 := Scalar.addi v128 c40_i32
  let v490 : Index := Scalar.indexCast v489
  ![v490.toNat]
def k0_mult41 (v491 : BitVec 32) : BitVec 32 :=
  v491

def k0_off82 (v491 : BitVec 32) : Fin 2 → Nat :=
  let v492 : BitVec 32 := v491
  let v493 : Index := Scalar.indexCast v492
  let c0_188 : Index := 0#32
  ![v493.toNat, 0]

def k0_chk41 (v491 : BitVec 32) : Prop :=
  (8 ∣ (k0_mult41 v491).toNat) ∧
  (∀ a, (k0_off82 v491) a + S8x128.size a ≤ S16384x128.size a)
theorem k0_mult41_dvd : ∀ (v491 : BitVec 32) (k0_hw41 : k0_chk41 v491), 8 ∣ (k0_mult41 v491).toNat := fun v491 k0_hw41 => k0_hw41.1
theorem k0_off82_inb : ∀ (v491 : BitVec 32) (k0_hw41 : k0_chk41 v491), ∀ a, (k0_off82 v491) a + S8x128.size a ≤ S16384x128.size a := fun v491 k0_hw41 => k0_hw41.2

def k0_off83 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c41_i32 : BitVec 32 := 41#32
  let v498 : BitVec 32 := Scalar.addi v128 c41_i32
  let v499 : Index := Scalar.indexCast v498
  ![v499.toNat]
def k0_mult42 (v500 : BitVec 32) : BitVec 32 :=
  v500

def k0_off84 (v500 : BitVec 32) : Fin 2 → Nat :=
  let v501 : BitVec 32 := v500
  let v502 : Index := Scalar.indexCast v501
  let c0_190 : Index := 0#32
  ![v502.toNat, 0]

def k0_chk42 (v500 : BitVec 32) : Prop :=
  (8 ∣ (k0_mult42 v500).toNat) ∧
  (∀ a, (k0_off84 v500) a + S8x128.size a ≤ S16384x128.size a)
theorem k0_mult42_dvd : ∀ (v500 : BitVec 32) (k0_hw42 : k0_chk42 v500), 8 ∣ (k0_mult42 v500).toNat := fun v500 k0_hw42 => k0_hw42.1
theorem k0_off84_inb : ∀ (v500 : BitVec 32) (k0_hw42 : k0_chk42 v500), ∀ a, (k0_off84 v500) a + S8x128.size a ≤ S16384x128.size a := fun v500 k0_hw42 => k0_hw42.2

def k0_off85 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c42_i32 : BitVec 32 := 42#32
  let v507 : BitVec 32 := Scalar.addi v128 c42_i32
  let v508 : Index := Scalar.indexCast v507
  ![v508.toNat]
def k0_mult43 (v509 : BitVec 32) : BitVec 32 :=
  v509

def k0_off86 (v509 : BitVec 32) : Fin 2 → Nat :=
  let v510 : BitVec 32 := v509
  let v511 : Index := Scalar.indexCast v510
  let c0_192 : Index := 0#32
  ![v511.toNat, 0]

def k0_chk43 (v509 : BitVec 32) : Prop :=
  (8 ∣ (k0_mult43 v509).toNat) ∧
  (∀ a, (k0_off86 v509) a + S8x128.size a ≤ S16384x128.size a)
theorem k0_mult43_dvd : ∀ (v509 : BitVec 32) (k0_hw43 : k0_chk43 v509), 8 ∣ (k0_mult43 v509).toNat := fun v509 k0_hw43 => k0_hw43.1
theorem k0_off86_inb : ∀ (v509 : BitVec 32) (k0_hw43 : k0_chk43 v509), ∀ a, (k0_off86 v509) a + S8x128.size a ≤ S16384x128.size a := fun v509 k0_hw43 => k0_hw43.2

def k0_off87 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c43_i32 : BitVec 32 := 43#32
  let v516 : BitVec 32 := Scalar.addi v128 c43_i32
  let v517 : Index := Scalar.indexCast v516
  ![v517.toNat]
def k0_mult44 (v518 : BitVec 32) : BitVec 32 :=
  v518

def k0_off88 (v518 : BitVec 32) : Fin 2 → Nat :=
  let v519 : BitVec 32 := v518
  let v520 : Index := Scalar.indexCast v519
  let c0_194 : Index := 0#32
  ![v520.toNat, 0]

def k0_chk44 (v518 : BitVec 32) : Prop :=
  (8 ∣ (k0_mult44 v518).toNat) ∧
  (∀ a, (k0_off88 v518) a + S8x128.size a ≤ S16384x128.size a)
theorem k0_mult44_dvd : ∀ (v518 : BitVec 32) (k0_hw44 : k0_chk44 v518), 8 ∣ (k0_mult44 v518).toNat := fun v518 k0_hw44 => k0_hw44.1
theorem k0_off88_inb : ∀ (v518 : BitVec 32) (k0_hw44 : k0_chk44 v518), ∀ a, (k0_off88 v518) a + S8x128.size a ≤ S16384x128.size a := fun v518 k0_hw44 => k0_hw44.2

def k0_off89 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c44_i32 : BitVec 32 := 44#32
  let v525 : BitVec 32 := Scalar.addi v128 c44_i32
  let v526 : Index := Scalar.indexCast v525
  ![v526.toNat]
def k0_mult45 (v527 : BitVec 32) : BitVec 32 :=
  v527

def k0_off90 (v527 : BitVec 32) : Fin 2 → Nat :=
  let v528 : BitVec 32 := v527
  let v529 : Index := Scalar.indexCast v528
  let c0_196 : Index := 0#32
  ![v529.toNat, 0]

def k0_chk45 (v527 : BitVec 32) : Prop :=
  (8 ∣ (k0_mult45 v527).toNat) ∧
  (∀ a, (k0_off90 v527) a + S8x128.size a ≤ S16384x128.size a)
theorem k0_mult45_dvd : ∀ (v527 : BitVec 32) (k0_hw45 : k0_chk45 v527), 8 ∣ (k0_mult45 v527).toNat := fun v527 k0_hw45 => k0_hw45.1
theorem k0_off90_inb : ∀ (v527 : BitVec 32) (k0_hw45 : k0_chk45 v527), ∀ a, (k0_off90 v527) a + S8x128.size a ≤ S16384x128.size a := fun v527 k0_hw45 => k0_hw45.2

def k0_off91 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c45_i32 : BitVec 32 := 45#32
  let v534 : BitVec 32 := Scalar.addi v128 c45_i32
  let v535 : Index := Scalar.indexCast v534
  ![v535.toNat]
def k0_mult46 (v536 : BitVec 32) : BitVec 32 :=
  v536

def k0_off92 (v536 : BitVec 32) : Fin 2 → Nat :=
  let v537 : BitVec 32 := v536
  let v538 : Index := Scalar.indexCast v537
  let c0_198 : Index := 0#32
  ![v538.toNat, 0]

def k0_chk46 (v536 : BitVec 32) : Prop :=
  (8 ∣ (k0_mult46 v536).toNat) ∧
  (∀ a, (k0_off92 v536) a + S8x128.size a ≤ S16384x128.size a)
theorem k0_mult46_dvd : ∀ (v536 : BitVec 32) (k0_hw46 : k0_chk46 v536), 8 ∣ (k0_mult46 v536).toNat := fun v536 k0_hw46 => k0_hw46.1
theorem k0_off92_inb : ∀ (v536 : BitVec 32) (k0_hw46 : k0_chk46 v536), ∀ a, (k0_off92 v536) a + S8x128.size a ≤ S16384x128.size a := fun v536 k0_hw46 => k0_hw46.2

def k0_off93 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c46_i32 : BitVec 32 := 46#32
  let v543 : BitVec 32 := Scalar.addi v128 c46_i32
  let v544 : Index := Scalar.indexCast v543
  ![v544.toNat]
def k0_mult47 (v545 : BitVec 32) : BitVec 32 :=
  v545

def k0_off94 (v545 : BitVec 32) : Fin 2 → Nat :=
  let v546 : BitVec 32 := v545
  let v547 : Index := Scalar.indexCast v546
  let c0_200 : Index := 0#32
  ![v547.toNat, 0]

def k0_chk47 (v545 : BitVec 32) : Prop :=
  (8 ∣ (k0_mult47 v545).toNat) ∧
  (∀ a, (k0_off94 v545) a + S8x128.size a ≤ S16384x128.size a)
theorem k0_mult47_dvd : ∀ (v545 : BitVec 32) (k0_hw47 : k0_chk47 v545), 8 ∣ (k0_mult47 v545).toNat := fun v545 k0_hw47 => k0_hw47.1
theorem k0_off94_inb : ∀ (v545 : BitVec 32) (k0_hw47 : k0_chk47 v545), ∀ a, (k0_off94 v545) a + S8x128.size a ≤ S16384x128.size a := fun v545 k0_hw47 => k0_hw47.2

def k0_off95 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c47_i32 : BitVec 32 := 47#32
  let v552 : BitVec 32 := Scalar.addi v128 c47_i32
  let v553 : Index := Scalar.indexCast v552
  ![v553.toNat]
def k0_mult48 (v554 : BitVec 32) : BitVec 32 :=
  v554

def k0_off96 (v554 : BitVec 32) : Fin 2 → Nat :=
  let v555 : BitVec 32 := v554
  let v556 : Index := Scalar.indexCast v555
  let c0_202 : Index := 0#32
  ![v556.toNat, 0]

def k0_chk48 (v554 : BitVec 32) : Prop :=
  (8 ∣ (k0_mult48 v554).toNat) ∧
  (∀ a, (k0_off96 v554) a + S8x128.size a ≤ S16384x128.size a)
theorem k0_mult48_dvd : ∀ (v554 : BitVec 32) (k0_hw48 : k0_chk48 v554), 8 ∣ (k0_mult48 v554).toNat := fun v554 k0_hw48 => k0_hw48.1
theorem k0_off96_inb : ∀ (v554 : BitVec 32) (k0_hw48 : k0_chk48 v554), ∀ a, (k0_off96 v554) a + S8x128.size a ≤ S16384x128.size a := fun v554 k0_hw48 => k0_hw48.2

def k0_off97 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c48_i32 : BitVec 32 := 48#32
  let v561 : BitVec 32 := Scalar.addi v128 c48_i32
  let v562 : Index := Scalar.indexCast v561
  ![v562.toNat]
def k0_mult49 (v563 : BitVec 32) : BitVec 32 :=
  v563

def k0_off98 (v563 : BitVec 32) : Fin 2 → Nat :=
  let v564 : BitVec 32 := v563
  let v565 : Index := Scalar.indexCast v564
  let c0_204 : Index := 0#32
  ![v565.toNat, 0]

def k0_chk49 (v563 : BitVec 32) : Prop :=
  (8 ∣ (k0_mult49 v563).toNat) ∧
  (∀ a, (k0_off98 v563) a + S8x128.size a ≤ S16384x128.size a)
theorem k0_mult49_dvd : ∀ (v563 : BitVec 32) (k0_hw49 : k0_chk49 v563), 8 ∣ (k0_mult49 v563).toNat := fun v563 k0_hw49 => k0_hw49.1
theorem k0_off98_inb : ∀ (v563 : BitVec 32) (k0_hw49 : k0_chk49 v563), ∀ a, (k0_off98 v563) a + S8x128.size a ≤ S16384x128.size a := fun v563 k0_hw49 => k0_hw49.2

def k0_off99 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c49_i32 : BitVec 32 := 49#32
  let v570 : BitVec 32 := Scalar.addi v128 c49_i32
  let v571 : Index := Scalar.indexCast v570
  ![v571.toNat]
def k0_mult50 (v572 : BitVec 32) : BitVec 32 :=
  v572

def k0_off100 (v572 : BitVec 32) : Fin 2 → Nat :=
  let v573 : BitVec 32 := v572
  let v574 : Index := Scalar.indexCast v573
  let c0_206 : Index := 0#32
  ![v574.toNat, 0]

def k0_chk50 (v572 : BitVec 32) : Prop :=
  (8 ∣ (k0_mult50 v572).toNat) ∧
  (∀ a, (k0_off100 v572) a + S8x128.size a ≤ S16384x128.size a)
theorem k0_mult50_dvd : ∀ (v572 : BitVec 32) (k0_hw50 : k0_chk50 v572), 8 ∣ (k0_mult50 v572).toNat := fun v572 k0_hw50 => k0_hw50.1
theorem k0_off100_inb : ∀ (v572 : BitVec 32) (k0_hw50 : k0_chk50 v572), ∀ a, (k0_off100 v572) a + S8x128.size a ≤ S16384x128.size a := fun v572 k0_hw50 => k0_hw50.2

def k0_off101 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c50_i32 : BitVec 32 := 50#32
  let v579 : BitVec 32 := Scalar.addi v128 c50_i32
  let v580 : Index := Scalar.indexCast v579
  ![v580.toNat]
def k0_mult51 (v581 : BitVec 32) : BitVec 32 :=
  v581

def k0_off102 (v581 : BitVec 32) : Fin 2 → Nat :=
  let v582 : BitVec 32 := v581
  let v583 : Index := Scalar.indexCast v582
  let c0_208 : Index := 0#32
  ![v583.toNat, 0]

def k0_chk51 (v581 : BitVec 32) : Prop :=
  (8 ∣ (k0_mult51 v581).toNat) ∧
  (∀ a, (k0_off102 v581) a + S8x128.size a ≤ S16384x128.size a)
theorem k0_mult51_dvd : ∀ (v581 : BitVec 32) (k0_hw51 : k0_chk51 v581), 8 ∣ (k0_mult51 v581).toNat := fun v581 k0_hw51 => k0_hw51.1
theorem k0_off102_inb : ∀ (v581 : BitVec 32) (k0_hw51 : k0_chk51 v581), ∀ a, (k0_off102 v581) a + S8x128.size a ≤ S16384x128.size a := fun v581 k0_hw51 => k0_hw51.2

def k0_off103 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c51_i32 : BitVec 32 := 51#32
  let v588 : BitVec 32 := Scalar.addi v128 c51_i32
  let v589 : Index := Scalar.indexCast v588
  ![v589.toNat]
def k0_mult52 (v590 : BitVec 32) : BitVec 32 :=
  v590

def k0_off104 (v590 : BitVec 32) : Fin 2 → Nat :=
  let v591 : BitVec 32 := v590
  let v592 : Index := Scalar.indexCast v591
  let c0_210 : Index := 0#32
  ![v592.toNat, 0]

def k0_chk52 (v590 : BitVec 32) : Prop :=
  (8 ∣ (k0_mult52 v590).toNat) ∧
  (∀ a, (k0_off104 v590) a + S8x128.size a ≤ S16384x128.size a)
theorem k0_mult52_dvd : ∀ (v590 : BitVec 32) (k0_hw52 : k0_chk52 v590), 8 ∣ (k0_mult52 v590).toNat := fun v590 k0_hw52 => k0_hw52.1
theorem k0_off104_inb : ∀ (v590 : BitVec 32) (k0_hw52 : k0_chk52 v590), ∀ a, (k0_off104 v590) a + S8x128.size a ≤ S16384x128.size a := fun v590 k0_hw52 => k0_hw52.2

def k0_off105 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c52_i32 : BitVec 32 := 52#32
  let v597 : BitVec 32 := Scalar.addi v128 c52_i32
  let v598 : Index := Scalar.indexCast v597
  ![v598.toNat]
def k0_mult53 (v599 : BitVec 32) : BitVec 32 :=
  v599

def k0_off106 (v599 : BitVec 32) : Fin 2 → Nat :=
  let v600 : BitVec 32 := v599
  let v601 : Index := Scalar.indexCast v600
  let c0_212 : Index := 0#32
  ![v601.toNat, 0]

def k0_chk53 (v599 : BitVec 32) : Prop :=
  (8 ∣ (k0_mult53 v599).toNat) ∧
  (∀ a, (k0_off106 v599) a + S8x128.size a ≤ S16384x128.size a)
theorem k0_mult53_dvd : ∀ (v599 : BitVec 32) (k0_hw53 : k0_chk53 v599), 8 ∣ (k0_mult53 v599).toNat := fun v599 k0_hw53 => k0_hw53.1
theorem k0_off106_inb : ∀ (v599 : BitVec 32) (k0_hw53 : k0_chk53 v599), ∀ a, (k0_off106 v599) a + S8x128.size a ≤ S16384x128.size a := fun v599 k0_hw53 => k0_hw53.2

def k0_off107 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c53_i32 : BitVec 32 := 53#32
  let v606 : BitVec 32 := Scalar.addi v128 c53_i32
  let v607 : Index := Scalar.indexCast v606
  ![v607.toNat]
def k0_mult54 (v608 : BitVec 32) : BitVec 32 :=
  v608

def k0_off108 (v608 : BitVec 32) : Fin 2 → Nat :=
  let v609 : BitVec 32 := v608
  let v610 : Index := Scalar.indexCast v609
  let c0_214 : Index := 0#32
  ![v610.toNat, 0]

def k0_chk54 (v608 : BitVec 32) : Prop :=
  (8 ∣ (k0_mult54 v608).toNat) ∧
  (∀ a, (k0_off108 v608) a + S8x128.size a ≤ S16384x128.size a)
theorem k0_mult54_dvd : ∀ (v608 : BitVec 32) (k0_hw54 : k0_chk54 v608), 8 ∣ (k0_mult54 v608).toNat := fun v608 k0_hw54 => k0_hw54.1
theorem k0_off108_inb : ∀ (v608 : BitVec 32) (k0_hw54 : k0_chk54 v608), ∀ a, (k0_off108 v608) a + S8x128.size a ≤ S16384x128.size a := fun v608 k0_hw54 => k0_hw54.2

def k0_off109 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c54_i32 : BitVec 32 := 54#32
  let v615 : BitVec 32 := Scalar.addi v128 c54_i32
  let v616 : Index := Scalar.indexCast v615
  ![v616.toNat]
def k0_mult55 (v617 : BitVec 32) : BitVec 32 :=
  v617

def k0_off110 (v617 : BitVec 32) : Fin 2 → Nat :=
  let v618 : BitVec 32 := v617
  let v619 : Index := Scalar.indexCast v618
  let c0_216 : Index := 0#32
  ![v619.toNat, 0]

def k0_chk55 (v617 : BitVec 32) : Prop :=
  (8 ∣ (k0_mult55 v617).toNat) ∧
  (∀ a, (k0_off110 v617) a + S8x128.size a ≤ S16384x128.size a)
theorem k0_mult55_dvd : ∀ (v617 : BitVec 32) (k0_hw55 : k0_chk55 v617), 8 ∣ (k0_mult55 v617).toNat := fun v617 k0_hw55 => k0_hw55.1
theorem k0_off110_inb : ∀ (v617 : BitVec 32) (k0_hw55 : k0_chk55 v617), ∀ a, (k0_off110 v617) a + S8x128.size a ≤ S16384x128.size a := fun v617 k0_hw55 => k0_hw55.2

def k0_off111 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c55_i32 : BitVec 32 := 55#32
  let v624 : BitVec 32 := Scalar.addi v128 c55_i32
  let v625 : Index := Scalar.indexCast v624
  ![v625.toNat]
def k0_mult56 (v626 : BitVec 32) : BitVec 32 :=
  v626

def k0_off112 (v626 : BitVec 32) : Fin 2 → Nat :=
  let v627 : BitVec 32 := v626
  let v628 : Index := Scalar.indexCast v627
  let c0_218 : Index := 0#32
  ![v628.toNat, 0]

def k0_chk56 (v626 : BitVec 32) : Prop :=
  (8 ∣ (k0_mult56 v626).toNat) ∧
  (∀ a, (k0_off112 v626) a + S8x128.size a ≤ S16384x128.size a)
theorem k0_mult56_dvd : ∀ (v626 : BitVec 32) (k0_hw56 : k0_chk56 v626), 8 ∣ (k0_mult56 v626).toNat := fun v626 k0_hw56 => k0_hw56.1
theorem k0_off112_inb : ∀ (v626 : BitVec 32) (k0_hw56 : k0_chk56 v626), ∀ a, (k0_off112 v626) a + S8x128.size a ≤ S16384x128.size a := fun v626 k0_hw56 => k0_hw56.2

def k0_off113 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c56_i32 : BitVec 32 := 56#32
  let v633 : BitVec 32 := Scalar.addi v128 c56_i32
  let v634 : Index := Scalar.indexCast v633
  ![v634.toNat]
def k0_mult57 (v635 : BitVec 32) : BitVec 32 :=
  v635

def k0_off114 (v635 : BitVec 32) : Fin 2 → Nat :=
  let v636 : BitVec 32 := v635
  let v637 : Index := Scalar.indexCast v636
  let c0_220 : Index := 0#32
  ![v637.toNat, 0]

def k0_chk57 (v635 : BitVec 32) : Prop :=
  (8 ∣ (k0_mult57 v635).toNat) ∧
  (∀ a, (k0_off114 v635) a + S8x128.size a ≤ S16384x128.size a)
theorem k0_mult57_dvd : ∀ (v635 : BitVec 32) (k0_hw57 : k0_chk57 v635), 8 ∣ (k0_mult57 v635).toNat := fun v635 k0_hw57 => k0_hw57.1
theorem k0_off114_inb : ∀ (v635 : BitVec 32) (k0_hw57 : k0_chk57 v635), ∀ a, (k0_off114 v635) a + S8x128.size a ≤ S16384x128.size a := fun v635 k0_hw57 => k0_hw57.2

def k0_off115 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c57_i32 : BitVec 32 := 57#32
  let v642 : BitVec 32 := Scalar.addi v128 c57_i32
  let v643 : Index := Scalar.indexCast v642
  ![v643.toNat]
def k0_mult58 (v644 : BitVec 32) : BitVec 32 :=
  v644

def k0_off116 (v644 : BitVec 32) : Fin 2 → Nat :=
  let v645 : BitVec 32 := v644
  let v646 : Index := Scalar.indexCast v645
  let c0_222 : Index := 0#32
  ![v646.toNat, 0]

def k0_chk58 (v644 : BitVec 32) : Prop :=
  (8 ∣ (k0_mult58 v644).toNat) ∧
  (∀ a, (k0_off116 v644) a + S8x128.size a ≤ S16384x128.size a)
theorem k0_mult58_dvd : ∀ (v644 : BitVec 32) (k0_hw58 : k0_chk58 v644), 8 ∣ (k0_mult58 v644).toNat := fun v644 k0_hw58 => k0_hw58.1
theorem k0_off116_inb : ∀ (v644 : BitVec 32) (k0_hw58 : k0_chk58 v644), ∀ a, (k0_off116 v644) a + S8x128.size a ≤ S16384x128.size a := fun v644 k0_hw58 => k0_hw58.2

def k0_off117 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c58_i32 : BitVec 32 := 58#32
  let v651 : BitVec 32 := Scalar.addi v128 c58_i32
  let v652 : Index := Scalar.indexCast v651
  ![v652.toNat]
def k0_mult59 (v653 : BitVec 32) : BitVec 32 :=
  v653

def k0_off118 (v653 : BitVec 32) : Fin 2 → Nat :=
  let v654 : BitVec 32 := v653
  let v655 : Index := Scalar.indexCast v654
  let c0_224 : Index := 0#32
  ![v655.toNat, 0]

def k0_chk59 (v653 : BitVec 32) : Prop :=
  (8 ∣ (k0_mult59 v653).toNat) ∧
  (∀ a, (k0_off118 v653) a + S8x128.size a ≤ S16384x128.size a)
theorem k0_mult59_dvd : ∀ (v653 : BitVec 32) (k0_hw59 : k0_chk59 v653), 8 ∣ (k0_mult59 v653).toNat := fun v653 k0_hw59 => k0_hw59.1
theorem k0_off118_inb : ∀ (v653 : BitVec 32) (k0_hw59 : k0_chk59 v653), ∀ a, (k0_off118 v653) a + S8x128.size a ≤ S16384x128.size a := fun v653 k0_hw59 => k0_hw59.2

def k0_off119 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c59_i32 : BitVec 32 := 59#32
  let v660 : BitVec 32 := Scalar.addi v128 c59_i32
  let v661 : Index := Scalar.indexCast v660
  ![v661.toNat]
def k0_mult60 (v662 : BitVec 32) : BitVec 32 :=
  v662

def k0_off120 (v662 : BitVec 32) : Fin 2 → Nat :=
  let v663 : BitVec 32 := v662
  let v664 : Index := Scalar.indexCast v663
  let c0_226 : Index := 0#32
  ![v664.toNat, 0]

def k0_chk60 (v662 : BitVec 32) : Prop :=
  (8 ∣ (k0_mult60 v662).toNat) ∧
  (∀ a, (k0_off120 v662) a + S8x128.size a ≤ S16384x128.size a)
theorem k0_mult60_dvd : ∀ (v662 : BitVec 32) (k0_hw60 : k0_chk60 v662), 8 ∣ (k0_mult60 v662).toNat := fun v662 k0_hw60 => k0_hw60.1
theorem k0_off120_inb : ∀ (v662 : BitVec 32) (k0_hw60 : k0_chk60 v662), ∀ a, (k0_off120 v662) a + S8x128.size a ≤ S16384x128.size a := fun v662 k0_hw60 => k0_hw60.2

def k0_off121 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c60_i32 : BitVec 32 := 60#32
  let v669 : BitVec 32 := Scalar.addi v128 c60_i32
  let v670 : Index := Scalar.indexCast v669
  ![v670.toNat]
def k0_mult61 (v671 : BitVec 32) : BitVec 32 :=
  v671

def k0_off122 (v671 : BitVec 32) : Fin 2 → Nat :=
  let v672 : BitVec 32 := v671
  let v673 : Index := Scalar.indexCast v672
  let c0_228 : Index := 0#32
  ![v673.toNat, 0]

def k0_chk61 (v671 : BitVec 32) : Prop :=
  (8 ∣ (k0_mult61 v671).toNat) ∧
  (∀ a, (k0_off122 v671) a + S8x128.size a ≤ S16384x128.size a)
theorem k0_mult61_dvd : ∀ (v671 : BitVec 32) (k0_hw61 : k0_chk61 v671), 8 ∣ (k0_mult61 v671).toNat := fun v671 k0_hw61 => k0_hw61.1
theorem k0_off122_inb : ∀ (v671 : BitVec 32) (k0_hw61 : k0_chk61 v671), ∀ a, (k0_off122 v671) a + S8x128.size a ≤ S16384x128.size a := fun v671 k0_hw61 => k0_hw61.2

def k0_off123 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c61_i32 : BitVec 32 := 61#32
  let v678 : BitVec 32 := Scalar.addi v128 c61_i32
  let v679 : Index := Scalar.indexCast v678
  ![v679.toNat]
def k0_mult62 (v680 : BitVec 32) : BitVec 32 :=
  v680

def k0_off124 (v680 : BitVec 32) : Fin 2 → Nat :=
  let v681 : BitVec 32 := v680
  let v682 : Index := Scalar.indexCast v681
  let c0_230 : Index := 0#32
  ![v682.toNat, 0]

def k0_chk62 (v680 : BitVec 32) : Prop :=
  (8 ∣ (k0_mult62 v680).toNat) ∧
  (∀ a, (k0_off124 v680) a + S8x128.size a ≤ S16384x128.size a)
theorem k0_mult62_dvd : ∀ (v680 : BitVec 32) (k0_hw62 : k0_chk62 v680), 8 ∣ (k0_mult62 v680).toNat := fun v680 k0_hw62 => k0_hw62.1
theorem k0_off124_inb : ∀ (v680 : BitVec 32) (k0_hw62 : k0_chk62 v680), ∀ a, (k0_off124 v680) a + S8x128.size a ≤ S16384x128.size a := fun v680 k0_hw62 => k0_hw62.2

def k0_off125 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c62_i32 : BitVec 32 := 62#32
  let v687 : BitVec 32 := Scalar.addi v128 c62_i32
  let v688 : Index := Scalar.indexCast v687
  ![v688.toNat]
def k0_mult63 (v689 : BitVec 32) : BitVec 32 :=
  v689

def k0_off126 (v689 : BitVec 32) : Fin 2 → Nat :=
  let v690 : BitVec 32 := v689
  let v691 : Index := Scalar.indexCast v690
  let c0_232 : Index := 0#32
  ![v691.toNat, 0]

def k0_chk63 (v689 : BitVec 32) : Prop :=
  (8 ∣ (k0_mult63 v689).toNat) ∧
  (∀ a, (k0_off126 v689) a + S8x128.size a ≤ S16384x128.size a)
theorem k0_mult63_dvd : ∀ (v689 : BitVec 32) (k0_hw63 : k0_chk63 v689), 8 ∣ (k0_mult63 v689).toNat := fun v689 k0_hw63 => k0_hw63.1
theorem k0_off126_inb : ∀ (v689 : BitVec 32) (k0_hw63 : k0_chk63 v689), ∀ a, (k0_off126 v689) a + S8x128.size a ≤ S16384x128.size a := fun v689 k0_hw63 => k0_hw63.2

def k0_off127 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c63_i32 : BitVec 32 := 63#32
  let v696 : BitVec 32 := Scalar.addi v128 c63_i32
  let v697 : Index := Scalar.indexCast v696
  ![v697.toNat]
def k0_mult64 (v698 : BitVec 32) : BitVec 32 :=
  v698

def k0_off128 (v698 : BitVec 32) : Fin 2 → Nat :=
  let v699 : BitVec 32 := v698
  let v700 : Index := Scalar.indexCast v699
  let c0_234 : Index := 0#32
  ![v700.toNat, 0]

def k0_chk64 (v698 : BitVec 32) : Prop :=
  (8 ∣ (k0_mult64 v698).toNat) ∧
  (∀ a, (k0_off128 v698) a + S8x128.size a ≤ S16384x128.size a)
theorem k0_mult64_dvd : ∀ (v698 : BitVec 32) (k0_hw64 : k0_chk64 v698), 8 ∣ (k0_mult64 v698).toNat := fun v698 k0_hw64 => k0_hw64.1
theorem k0_off128_inb : ∀ (v698 : BitVec 32) (k0_hw64 : k0_chk64 v698), ∀ a, (k0_off128 v698) a + S8x128.size a ≤ S16384x128.size a := fun v698 k0_hw64 => k0_hw64.2

def k0_off129 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c64_i32 : BitVec 32 := 64#32
  let v705 : BitVec 32 := Scalar.addi v128 c64_i32
  let v706 : Index := Scalar.indexCast v705
  ![v706.toNat]
def k0_mult65 (v707 : BitVec 32) : BitVec 32 :=
  v707

def k0_off130 (v707 : BitVec 32) : Fin 2 → Nat :=
  let v708 : BitVec 32 := v707
  let v709 : Index := Scalar.indexCast v708
  let c0_236 : Index := 0#32
  ![v709.toNat, 0]

def k0_chk65 (v707 : BitVec 32) : Prop :=
  (8 ∣ (k0_mult65 v707).toNat) ∧
  (∀ a, (k0_off130 v707) a + S8x128.size a ≤ S16384x128.size a)
theorem k0_mult65_dvd : ∀ (v707 : BitVec 32) (k0_hw65 : k0_chk65 v707), 8 ∣ (k0_mult65 v707).toNat := fun v707 k0_hw65 => k0_hw65.1
theorem k0_off130_inb : ∀ (v707 : BitVec 32) (k0_hw65 : k0_chk65 v707), ∀ a, (k0_off130 v707) a + S8x128.size a ≤ S16384x128.size a := fun v707 k0_hw65 => k0_hw65.2

def k0_off131 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c65_i32 : BitVec 32 := 65#32
  let v714 : BitVec 32 := Scalar.addi v128 c65_i32
  let v715 : Index := Scalar.indexCast v714
  ![v715.toNat]
def k0_mult66 (v716 : BitVec 32) : BitVec 32 :=
  v716

def k0_off132 (v716 : BitVec 32) : Fin 2 → Nat :=
  let v717 : BitVec 32 := v716
  let v718 : Index := Scalar.indexCast v717
  let c0_238 : Index := 0#32
  ![v718.toNat, 0]

def k0_chk66 (v716 : BitVec 32) : Prop :=
  (8 ∣ (k0_mult66 v716).toNat) ∧
  (∀ a, (k0_off132 v716) a + S8x128.size a ≤ S16384x128.size a)
theorem k0_mult66_dvd : ∀ (v716 : BitVec 32) (k0_hw66 : k0_chk66 v716), 8 ∣ (k0_mult66 v716).toNat := fun v716 k0_hw66 => k0_hw66.1
theorem k0_off132_inb : ∀ (v716 : BitVec 32) (k0_hw66 : k0_chk66 v716), ∀ a, (k0_off132 v716) a + S8x128.size a ≤ S16384x128.size a := fun v716 k0_hw66 => k0_hw66.2

def k0_off133 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c66_i32 : BitVec 32 := 66#32
  let v723 : BitVec 32 := Scalar.addi v128 c66_i32
  let v724 : Index := Scalar.indexCast v723
  ![v724.toNat]
def k0_mult67 (v725 : BitVec 32) : BitVec 32 :=
  v725

def k0_off134 (v725 : BitVec 32) : Fin 2 → Nat :=
  let v726 : BitVec 32 := v725
  let v727 : Index := Scalar.indexCast v726
  let c0_240 : Index := 0#32
  ![v727.toNat, 0]

def k0_chk67 (v725 : BitVec 32) : Prop :=
  (8 ∣ (k0_mult67 v725).toNat) ∧
  (∀ a, (k0_off134 v725) a + S8x128.size a ≤ S16384x128.size a)
theorem k0_mult67_dvd : ∀ (v725 : BitVec 32) (k0_hw67 : k0_chk67 v725), 8 ∣ (k0_mult67 v725).toNat := fun v725 k0_hw67 => k0_hw67.1
theorem k0_off134_inb : ∀ (v725 : BitVec 32) (k0_hw67 : k0_chk67 v725), ∀ a, (k0_off134 v725) a + S8x128.size a ≤ S16384x128.size a := fun v725 k0_hw67 => k0_hw67.2

def k0_off135 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c67_i32 : BitVec 32 := 67#32
  let v732 : BitVec 32 := Scalar.addi v128 c67_i32
  let v733 : Index := Scalar.indexCast v732
  ![v733.toNat]
def k0_mult68 (v734 : BitVec 32) : BitVec 32 :=
  v734

def k0_off136 (v734 : BitVec 32) : Fin 2 → Nat :=
  let v735 : BitVec 32 := v734
  let v736 : Index := Scalar.indexCast v735
  let c0_242 : Index := 0#32
  ![v736.toNat, 0]

def k0_chk68 (v734 : BitVec 32) : Prop :=
  (8 ∣ (k0_mult68 v734).toNat) ∧
  (∀ a, (k0_off136 v734) a + S8x128.size a ≤ S16384x128.size a)
theorem k0_mult68_dvd : ∀ (v734 : BitVec 32) (k0_hw68 : k0_chk68 v734), 8 ∣ (k0_mult68 v734).toNat := fun v734 k0_hw68 => k0_hw68.1
theorem k0_off136_inb : ∀ (v734 : BitVec 32) (k0_hw68 : k0_chk68 v734), ∀ a, (k0_off136 v734) a + S8x128.size a ≤ S16384x128.size a := fun v734 k0_hw68 => k0_hw68.2

def k0_off137 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c68_i32 : BitVec 32 := 68#32
  let v741 : BitVec 32 := Scalar.addi v128 c68_i32
  let v742 : Index := Scalar.indexCast v741
  ![v742.toNat]
def k0_mult69 (v743 : BitVec 32) : BitVec 32 :=
  v743

def k0_off138 (v743 : BitVec 32) : Fin 2 → Nat :=
  let v744 : BitVec 32 := v743
  let v745 : Index := Scalar.indexCast v744
  let c0_244 : Index := 0#32
  ![v745.toNat, 0]

def k0_chk69 (v743 : BitVec 32) : Prop :=
  (8 ∣ (k0_mult69 v743).toNat) ∧
  (∀ a, (k0_off138 v743) a + S8x128.size a ≤ S16384x128.size a)
theorem k0_mult69_dvd : ∀ (v743 : BitVec 32) (k0_hw69 : k0_chk69 v743), 8 ∣ (k0_mult69 v743).toNat := fun v743 k0_hw69 => k0_hw69.1
theorem k0_off138_inb : ∀ (v743 : BitVec 32) (k0_hw69 : k0_chk69 v743), ∀ a, (k0_off138 v743) a + S8x128.size a ≤ S16384x128.size a := fun v743 k0_hw69 => k0_hw69.2

def k0_off139 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c69_i32 : BitVec 32 := 69#32
  let v750 : BitVec 32 := Scalar.addi v128 c69_i32
  let v751 : Index := Scalar.indexCast v750
  ![v751.toNat]
def k0_mult70 (v752 : BitVec 32) : BitVec 32 :=
  v752

def k0_off140 (v752 : BitVec 32) : Fin 2 → Nat :=
  let v753 : BitVec 32 := v752
  let v754 : Index := Scalar.indexCast v753
  let c0_246 : Index := 0#32
  ![v754.toNat, 0]

def k0_chk70 (v752 : BitVec 32) : Prop :=
  (8 ∣ (k0_mult70 v752).toNat) ∧
  (∀ a, (k0_off140 v752) a + S8x128.size a ≤ S16384x128.size a)
theorem k0_mult70_dvd : ∀ (v752 : BitVec 32) (k0_hw70 : k0_chk70 v752), 8 ∣ (k0_mult70 v752).toNat := fun v752 k0_hw70 => k0_hw70.1
theorem k0_off140_inb : ∀ (v752 : BitVec 32) (k0_hw70 : k0_chk70 v752), ∀ a, (k0_off140 v752) a + S8x128.size a ≤ S16384x128.size a := fun v752 k0_hw70 => k0_hw70.2

def k0_off141 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c70_i32 : BitVec 32 := 70#32
  let v759 : BitVec 32 := Scalar.addi v128 c70_i32
  let v760 : Index := Scalar.indexCast v759
  ![v760.toNat]
def k0_mult71 (v761 : BitVec 32) : BitVec 32 :=
  v761

def k0_off142 (v761 : BitVec 32) : Fin 2 → Nat :=
  let v762 : BitVec 32 := v761
  let v763 : Index := Scalar.indexCast v762
  let c0_248 : Index := 0#32
  ![v763.toNat, 0]

def k0_chk71 (v761 : BitVec 32) : Prop :=
  (8 ∣ (k0_mult71 v761).toNat) ∧
  (∀ a, (k0_off142 v761) a + S8x128.size a ≤ S16384x128.size a)
theorem k0_mult71_dvd : ∀ (v761 : BitVec 32) (k0_hw71 : k0_chk71 v761), 8 ∣ (k0_mult71 v761).toNat := fun v761 k0_hw71 => k0_hw71.1
theorem k0_off142_inb : ∀ (v761 : BitVec 32) (k0_hw71 : k0_chk71 v761), ∀ a, (k0_off142 v761) a + S8x128.size a ≤ S16384x128.size a := fun v761 k0_hw71 => k0_hw71.2

def k0_off143 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c71_i32 : BitVec 32 := 71#32
  let v768 : BitVec 32 := Scalar.addi v128 c71_i32
  let v769 : Index := Scalar.indexCast v768
  ![v769.toNat]
def k0_mult72 (v770 : BitVec 32) : BitVec 32 :=
  v770

def k0_off144 (v770 : BitVec 32) : Fin 2 → Nat :=
  let v771 : BitVec 32 := v770
  let v772 : Index := Scalar.indexCast v771
  let c0_250 : Index := 0#32
  ![v772.toNat, 0]

def k0_chk72 (v770 : BitVec 32) : Prop :=
  (8 ∣ (k0_mult72 v770).toNat) ∧
  (∀ a, (k0_off144 v770) a + S8x128.size a ≤ S16384x128.size a)
theorem k0_mult72_dvd : ∀ (v770 : BitVec 32) (k0_hw72 : k0_chk72 v770), 8 ∣ (k0_mult72 v770).toNat := fun v770 k0_hw72 => k0_hw72.1
theorem k0_off144_inb : ∀ (v770 : BitVec 32) (k0_hw72 : k0_chk72 v770), ∀ a, (k0_off144 v770) a + S8x128.size a ≤ S16384x128.size a := fun v770 k0_hw72 => k0_hw72.2

def k0_off145 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c72_i32_252 : BitVec 32 := 72#32
  let v777 : BitVec 32 := Scalar.addi v128 c72_i32_252
  let v778 : Index := Scalar.indexCast v777
  ![v778.toNat]
def k0_mult73 (v779 : BitVec 32) : BitVec 32 :=
  v779

def k0_off146 (v779 : BitVec 32) : Fin 2 → Nat :=
  let v780 : BitVec 32 := v779
  let v781 : Index := Scalar.indexCast v780
  let c0_253 : Index := 0#32
  ![v781.toNat, 0]

def k0_chk73 (v779 : BitVec 32) : Prop :=
  (8 ∣ (k0_mult73 v779).toNat) ∧
  (∀ a, (k0_off146 v779) a + S8x128.size a ≤ S16384x128.size a)
theorem k0_mult73_dvd : ∀ (v779 : BitVec 32) (k0_hw73 : k0_chk73 v779), 8 ∣ (k0_mult73 v779).toNat := fun v779 k0_hw73 => k0_hw73.1
theorem k0_off146_inb : ∀ (v779 : BitVec 32) (k0_hw73 : k0_chk73 v779), ∀ a, (k0_off146 v779) a + S8x128.size a ≤ S16384x128.size a := fun v779 k0_hw73 => k0_hw73.2

def k0_off147 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c73_i32 : BitVec 32 := 73#32
  let v786 : BitVec 32 := Scalar.addi v128 c73_i32
  let v787 : Index := Scalar.indexCast v786
  ![v787.toNat]
def k0_mult74 (v788 : BitVec 32) : BitVec 32 :=
  v788

def k0_off148 (v788 : BitVec 32) : Fin 2 → Nat :=
  let v789 : BitVec 32 := v788
  let v790 : Index := Scalar.indexCast v789
  let c0_255 : Index := 0#32
  ![v790.toNat, 0]

def k0_chk74 (v788 : BitVec 32) : Prop :=
  (8 ∣ (k0_mult74 v788).toNat) ∧
  (∀ a, (k0_off148 v788) a + S8x128.size a ≤ S16384x128.size a)
theorem k0_mult74_dvd : ∀ (v788 : BitVec 32) (k0_hw74 : k0_chk74 v788), 8 ∣ (k0_mult74 v788).toNat := fun v788 k0_hw74 => k0_hw74.1
theorem k0_off148_inb : ∀ (v788 : BitVec 32) (k0_hw74 : k0_chk74 v788), ∀ a, (k0_off148 v788) a + S8x128.size a ≤ S16384x128.size a := fun v788 k0_hw74 => k0_hw74.2

def k0_off149 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c74_i32 : BitVec 32 := 74#32
  let v795 : BitVec 32 := Scalar.addi v128 c74_i32
  let v796 : Index := Scalar.indexCast v795
  ![v796.toNat]
def k0_mult75 (v797 : BitVec 32) : BitVec 32 :=
  v797

def k0_off150 (v797 : BitVec 32) : Fin 2 → Nat :=
  let v798 : BitVec 32 := v797
  let v799 : Index := Scalar.indexCast v798
  let c0_257 : Index := 0#32
  ![v799.toNat, 0]

def k0_chk75 (v797 : BitVec 32) : Prop :=
  (8 ∣ (k0_mult75 v797).toNat) ∧
  (∀ a, (k0_off150 v797) a + S8x128.size a ≤ S16384x128.size a)
theorem k0_mult75_dvd : ∀ (v797 : BitVec 32) (k0_hw75 : k0_chk75 v797), 8 ∣ (k0_mult75 v797).toNat := fun v797 k0_hw75 => k0_hw75.1
theorem k0_off150_inb : ∀ (v797 : BitVec 32) (k0_hw75 : k0_chk75 v797), ∀ a, (k0_off150 v797) a + S8x128.size a ≤ S16384x128.size a := fun v797 k0_hw75 => k0_hw75.2

def k0_off151 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c75_i32 : BitVec 32 := 75#32
  let v804 : BitVec 32 := Scalar.addi v128 c75_i32
  let v805 : Index := Scalar.indexCast v804
  ![v805.toNat]
def k0_mult76 (v806 : BitVec 32) : BitVec 32 :=
  v806

def k0_off152 (v806 : BitVec 32) : Fin 2 → Nat :=
  let v807 : BitVec 32 := v806
  let v808 : Index := Scalar.indexCast v807
  let c0_259 : Index := 0#32
  ![v808.toNat, 0]

def k0_chk76 (v806 : BitVec 32) : Prop :=
  (8 ∣ (k0_mult76 v806).toNat) ∧
  (∀ a, (k0_off152 v806) a + S8x128.size a ≤ S16384x128.size a)
theorem k0_mult76_dvd : ∀ (v806 : BitVec 32) (k0_hw76 : k0_chk76 v806), 8 ∣ (k0_mult76 v806).toNat := fun v806 k0_hw76 => k0_hw76.1
theorem k0_off152_inb : ∀ (v806 : BitVec 32) (k0_hw76 : k0_chk76 v806), ∀ a, (k0_off152 v806) a + S8x128.size a ≤ S16384x128.size a := fun v806 k0_hw76 => k0_hw76.2

def k0_off153 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c76_i32 : BitVec 32 := 76#32
  let v813 : BitVec 32 := Scalar.addi v128 c76_i32
  let v814 : Index := Scalar.indexCast v813
  ![v814.toNat]
def k0_mult77 (v815 : BitVec 32) : BitVec 32 :=
  v815

def k0_off154 (v815 : BitVec 32) : Fin 2 → Nat :=
  let v816 : BitVec 32 := v815
  let v817 : Index := Scalar.indexCast v816
  let c0_261 : Index := 0#32
  ![v817.toNat, 0]

def k0_chk77 (v815 : BitVec 32) : Prop :=
  (8 ∣ (k0_mult77 v815).toNat) ∧
  (∀ a, (k0_off154 v815) a + S8x128.size a ≤ S16384x128.size a)
theorem k0_mult77_dvd : ∀ (v815 : BitVec 32) (k0_hw77 : k0_chk77 v815), 8 ∣ (k0_mult77 v815).toNat := fun v815 k0_hw77 => k0_hw77.1
theorem k0_off154_inb : ∀ (v815 : BitVec 32) (k0_hw77 : k0_chk77 v815), ∀ a, (k0_off154 v815) a + S8x128.size a ≤ S16384x128.size a := fun v815 k0_hw77 => k0_hw77.2

def k0_off155 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c77_i32 : BitVec 32 := 77#32
  let v822 : BitVec 32 := Scalar.addi v128 c77_i32
  let v823 : Index := Scalar.indexCast v822
  ![v823.toNat]
def k0_mult78 (v824 : BitVec 32) : BitVec 32 :=
  v824

def k0_off156 (v824 : BitVec 32) : Fin 2 → Nat :=
  let v825 : BitVec 32 := v824
  let v826 : Index := Scalar.indexCast v825
  let c0_263 : Index := 0#32
  ![v826.toNat, 0]

def k0_chk78 (v824 : BitVec 32) : Prop :=
  (8 ∣ (k0_mult78 v824).toNat) ∧
  (∀ a, (k0_off156 v824) a + S8x128.size a ≤ S16384x128.size a)
theorem k0_mult78_dvd : ∀ (v824 : BitVec 32) (k0_hw78 : k0_chk78 v824), 8 ∣ (k0_mult78 v824).toNat := fun v824 k0_hw78 => k0_hw78.1
theorem k0_off156_inb : ∀ (v824 : BitVec 32) (k0_hw78 : k0_chk78 v824), ∀ a, (k0_off156 v824) a + S8x128.size a ≤ S16384x128.size a := fun v824 k0_hw78 => k0_hw78.2

def k0_off157 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c78_i32 : BitVec 32 := 78#32
  let v831 : BitVec 32 := Scalar.addi v128 c78_i32
  let v832 : Index := Scalar.indexCast v831
  ![v832.toNat]
def k0_mult79 (v833 : BitVec 32) : BitVec 32 :=
  v833

def k0_off158 (v833 : BitVec 32) : Fin 2 → Nat :=
  let v834 : BitVec 32 := v833
  let v835 : Index := Scalar.indexCast v834
  let c0_265 : Index := 0#32
  ![v835.toNat, 0]

def k0_chk79 (v833 : BitVec 32) : Prop :=
  (8 ∣ (k0_mult79 v833).toNat) ∧
  (∀ a, (k0_off158 v833) a + S8x128.size a ≤ S16384x128.size a)
theorem k0_mult79_dvd : ∀ (v833 : BitVec 32) (k0_hw79 : k0_chk79 v833), 8 ∣ (k0_mult79 v833).toNat := fun v833 k0_hw79 => k0_hw79.1
theorem k0_off158_inb : ∀ (v833 : BitVec 32) (k0_hw79 : k0_chk79 v833), ∀ a, (k0_off158 v833) a + S8x128.size a ≤ S16384x128.size a := fun v833 k0_hw79 => k0_hw79.2

def k0_off159 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c79_i32 : BitVec 32 := 79#32
  let v840 : BitVec 32 := Scalar.addi v128 c79_i32
  let v841 : Index := Scalar.indexCast v840
  ![v841.toNat]
def k0_mult80 (v842 : BitVec 32) : BitVec 32 :=
  v842

def k0_off160 (v842 : BitVec 32) : Fin 2 → Nat :=
  let v843 : BitVec 32 := v842
  let v844 : Index := Scalar.indexCast v843
  let c0_267 : Index := 0#32
  ![v844.toNat, 0]

def k0_chk80 (v842 : BitVec 32) : Prop :=
  (8 ∣ (k0_mult80 v842).toNat) ∧
  (∀ a, (k0_off160 v842) a + S8x128.size a ≤ S16384x128.size a)
theorem k0_mult80_dvd : ∀ (v842 : BitVec 32) (k0_hw80 : k0_chk80 v842), 8 ∣ (k0_mult80 v842).toNat := fun v842 k0_hw80 => k0_hw80.1
theorem k0_off160_inb : ∀ (v842 : BitVec 32) (k0_hw80 : k0_chk80 v842), ∀ a, (k0_off160 v842) a + S8x128.size a ≤ S16384x128.size a := fun v842 k0_hw80 => k0_hw80.2

def k0_off161 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c80_i32 : BitVec 32 := 80#32
  let v849 : BitVec 32 := Scalar.addi v128 c80_i32
  let v850 : Index := Scalar.indexCast v849
  ![v850.toNat]
def k0_mult81 (v851 : BitVec 32) : BitVec 32 :=
  v851

def k0_off162 (v851 : BitVec 32) : Fin 2 → Nat :=
  let v852 : BitVec 32 := v851
  let v853 : Index := Scalar.indexCast v852
  let c0_269 : Index := 0#32
  ![v853.toNat, 0]

def k0_chk81 (v851 : BitVec 32) : Prop :=
  (8 ∣ (k0_mult81 v851).toNat) ∧
  (∀ a, (k0_off162 v851) a + S8x128.size a ≤ S16384x128.size a)
theorem k0_mult81_dvd : ∀ (v851 : BitVec 32) (k0_hw81 : k0_chk81 v851), 8 ∣ (k0_mult81 v851).toNat := fun v851 k0_hw81 => k0_hw81.1
theorem k0_off162_inb : ∀ (v851 : BitVec 32) (k0_hw81 : k0_chk81 v851), ∀ a, (k0_off162 v851) a + S8x128.size a ≤ S16384x128.size a := fun v851 k0_hw81 => k0_hw81.2

def k0_off163 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c81_i32 : BitVec 32 := 81#32
  let v858 : BitVec 32 := Scalar.addi v128 c81_i32
  let v859 : Index := Scalar.indexCast v858
  ![v859.toNat]
def k0_mult82 (v860 : BitVec 32) : BitVec 32 :=
  v860

def k0_off164 (v860 : BitVec 32) : Fin 2 → Nat :=
  let v861 : BitVec 32 := v860
  let v862 : Index := Scalar.indexCast v861
  let c0_271 : Index := 0#32
  ![v862.toNat, 0]

def k0_chk82 (v860 : BitVec 32) : Prop :=
  (8 ∣ (k0_mult82 v860).toNat) ∧
  (∀ a, (k0_off164 v860) a + S8x128.size a ≤ S16384x128.size a)
theorem k0_mult82_dvd : ∀ (v860 : BitVec 32) (k0_hw82 : k0_chk82 v860), 8 ∣ (k0_mult82 v860).toNat := fun v860 k0_hw82 => k0_hw82.1
theorem k0_off164_inb : ∀ (v860 : BitVec 32) (k0_hw82 : k0_chk82 v860), ∀ a, (k0_off164 v860) a + S8x128.size a ≤ S16384x128.size a := fun v860 k0_hw82 => k0_hw82.2

def k0_off165 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c82_i32 : BitVec 32 := 82#32
  let v867 : BitVec 32 := Scalar.addi v128 c82_i32
  let v868 : Index := Scalar.indexCast v867
  ![v868.toNat]
def k0_mult83 (v869 : BitVec 32) : BitVec 32 :=
  v869

def k0_off166 (v869 : BitVec 32) : Fin 2 → Nat :=
  let v870 : BitVec 32 := v869
  let v871 : Index := Scalar.indexCast v870
  let c0_273 : Index := 0#32
  ![v871.toNat, 0]

def k0_chk83 (v869 : BitVec 32) : Prop :=
  (8 ∣ (k0_mult83 v869).toNat) ∧
  (∀ a, (k0_off166 v869) a + S8x128.size a ≤ S16384x128.size a)
theorem k0_mult83_dvd : ∀ (v869 : BitVec 32) (k0_hw83 : k0_chk83 v869), 8 ∣ (k0_mult83 v869).toNat := fun v869 k0_hw83 => k0_hw83.1
theorem k0_off166_inb : ∀ (v869 : BitVec 32) (k0_hw83 : k0_chk83 v869), ∀ a, (k0_off166 v869) a + S8x128.size a ≤ S16384x128.size a := fun v869 k0_hw83 => k0_hw83.2

def k0_off167 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c83_i32 : BitVec 32 := 83#32
  let v876 : BitVec 32 := Scalar.addi v128 c83_i32
  let v877 : Index := Scalar.indexCast v876
  ![v877.toNat]
def k0_mult84 (v878 : BitVec 32) : BitVec 32 :=
  v878

def k0_off168 (v878 : BitVec 32) : Fin 2 → Nat :=
  let v879 : BitVec 32 := v878
  let v880 : Index := Scalar.indexCast v879
  let c0_275 : Index := 0#32
  ![v880.toNat, 0]

def k0_chk84 (v878 : BitVec 32) : Prop :=
  (8 ∣ (k0_mult84 v878).toNat) ∧
  (∀ a, (k0_off168 v878) a + S8x128.size a ≤ S16384x128.size a)
theorem k0_mult84_dvd : ∀ (v878 : BitVec 32) (k0_hw84 : k0_chk84 v878), 8 ∣ (k0_mult84 v878).toNat := fun v878 k0_hw84 => k0_hw84.1
theorem k0_off168_inb : ∀ (v878 : BitVec 32) (k0_hw84 : k0_chk84 v878), ∀ a, (k0_off168 v878) a + S8x128.size a ≤ S16384x128.size a := fun v878 k0_hw84 => k0_hw84.2

def k0_off169 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c84_i32 : BitVec 32 := 84#32
  let v885 : BitVec 32 := Scalar.addi v128 c84_i32
  let v886 : Index := Scalar.indexCast v885
  ![v886.toNat]
def k0_mult85 (v887 : BitVec 32) : BitVec 32 :=
  v887

def k0_off170 (v887 : BitVec 32) : Fin 2 → Nat :=
  let v888 : BitVec 32 := v887
  let v889 : Index := Scalar.indexCast v888
  let c0_277 : Index := 0#32
  ![v889.toNat, 0]

def k0_chk85 (v887 : BitVec 32) : Prop :=
  (8 ∣ (k0_mult85 v887).toNat) ∧
  (∀ a, (k0_off170 v887) a + S8x128.size a ≤ S16384x128.size a)
theorem k0_mult85_dvd : ∀ (v887 : BitVec 32) (k0_hw85 : k0_chk85 v887), 8 ∣ (k0_mult85 v887).toNat := fun v887 k0_hw85 => k0_hw85.1
theorem k0_off170_inb : ∀ (v887 : BitVec 32) (k0_hw85 : k0_chk85 v887), ∀ a, (k0_off170 v887) a + S8x128.size a ≤ S16384x128.size a := fun v887 k0_hw85 => k0_hw85.2

def k0_off171 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c85_i32 : BitVec 32 := 85#32
  let v894 : BitVec 32 := Scalar.addi v128 c85_i32
  let v895 : Index := Scalar.indexCast v894
  ![v895.toNat]
def k0_mult86 (v896 : BitVec 32) : BitVec 32 :=
  v896

def k0_off172 (v896 : BitVec 32) : Fin 2 → Nat :=
  let v897 : BitVec 32 := v896
  let v898 : Index := Scalar.indexCast v897
  let c0_279 : Index := 0#32
  ![v898.toNat, 0]

def k0_chk86 (v896 : BitVec 32) : Prop :=
  (8 ∣ (k0_mult86 v896).toNat) ∧
  (∀ a, (k0_off172 v896) a + S8x128.size a ≤ S16384x128.size a)
theorem k0_mult86_dvd : ∀ (v896 : BitVec 32) (k0_hw86 : k0_chk86 v896), 8 ∣ (k0_mult86 v896).toNat := fun v896 k0_hw86 => k0_hw86.1
theorem k0_off172_inb : ∀ (v896 : BitVec 32) (k0_hw86 : k0_chk86 v896), ∀ a, (k0_off172 v896) a + S8x128.size a ≤ S16384x128.size a := fun v896 k0_hw86 => k0_hw86.2

def k0_off173 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c86_i32 : BitVec 32 := 86#32
  let v903 : BitVec 32 := Scalar.addi v128 c86_i32
  let v904 : Index := Scalar.indexCast v903
  ![v904.toNat]
def k0_mult87 (v905 : BitVec 32) : BitVec 32 :=
  v905

def k0_off174 (v905 : BitVec 32) : Fin 2 → Nat :=
  let v906 : BitVec 32 := v905
  let v907 : Index := Scalar.indexCast v906
  let c0_281 : Index := 0#32
  ![v907.toNat, 0]

def k0_chk87 (v905 : BitVec 32) : Prop :=
  (8 ∣ (k0_mult87 v905).toNat) ∧
  (∀ a, (k0_off174 v905) a + S8x128.size a ≤ S16384x128.size a)
theorem k0_mult87_dvd : ∀ (v905 : BitVec 32) (k0_hw87 : k0_chk87 v905), 8 ∣ (k0_mult87 v905).toNat := fun v905 k0_hw87 => k0_hw87.1
theorem k0_off174_inb : ∀ (v905 : BitVec 32) (k0_hw87 : k0_chk87 v905), ∀ a, (k0_off174 v905) a + S8x128.size a ≤ S16384x128.size a := fun v905 k0_hw87 => k0_hw87.2

def k0_off175 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c87_i32 : BitVec 32 := 87#32
  let v912 : BitVec 32 := Scalar.addi v128 c87_i32
  let v913 : Index := Scalar.indexCast v912
  ![v913.toNat]
def k0_mult88 (v914 : BitVec 32) : BitVec 32 :=
  v914

def k0_off176 (v914 : BitVec 32) : Fin 2 → Nat :=
  let v915 : BitVec 32 := v914
  let v916 : Index := Scalar.indexCast v915
  let c0_283 : Index := 0#32
  ![v916.toNat, 0]

def k0_chk88 (v914 : BitVec 32) : Prop :=
  (8 ∣ (k0_mult88 v914).toNat) ∧
  (∀ a, (k0_off176 v914) a + S8x128.size a ≤ S16384x128.size a)
theorem k0_mult88_dvd : ∀ (v914 : BitVec 32) (k0_hw88 : k0_chk88 v914), 8 ∣ (k0_mult88 v914).toNat := fun v914 k0_hw88 => k0_hw88.1
theorem k0_off176_inb : ∀ (v914 : BitVec 32) (k0_hw88 : k0_chk88 v914), ∀ a, (k0_off176 v914) a + S8x128.size a ≤ S16384x128.size a := fun v914 k0_hw88 => k0_hw88.2

def k0_off177 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c88_i32 : BitVec 32 := 88#32
  let v921 : BitVec 32 := Scalar.addi v128 c88_i32
  let v922 : Index := Scalar.indexCast v921
  ![v922.toNat]
def k0_mult89 (v923 : BitVec 32) : BitVec 32 :=
  v923

def k0_off178 (v923 : BitVec 32) : Fin 2 → Nat :=
  let v924 : BitVec 32 := v923
  let v925 : Index := Scalar.indexCast v924
  let c0_285 : Index := 0#32
  ![v925.toNat, 0]

def k0_chk89 (v923 : BitVec 32) : Prop :=
  (8 ∣ (k0_mult89 v923).toNat) ∧
  (∀ a, (k0_off178 v923) a + S8x128.size a ≤ S16384x128.size a)
theorem k0_mult89_dvd : ∀ (v923 : BitVec 32) (k0_hw89 : k0_chk89 v923), 8 ∣ (k0_mult89 v923).toNat := fun v923 k0_hw89 => k0_hw89.1
theorem k0_off178_inb : ∀ (v923 : BitVec 32) (k0_hw89 : k0_chk89 v923), ∀ a, (k0_off178 v923) a + S8x128.size a ≤ S16384x128.size a := fun v923 k0_hw89 => k0_hw89.2

def k0_off179 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c89_i32 : BitVec 32 := 89#32
  let v930 : BitVec 32 := Scalar.addi v128 c89_i32
  let v931 : Index := Scalar.indexCast v930
  ![v931.toNat]
def k0_mult90 (v932 : BitVec 32) : BitVec 32 :=
  v932

def k0_off180 (v932 : BitVec 32) : Fin 2 → Nat :=
  let v933 : BitVec 32 := v932
  let v934 : Index := Scalar.indexCast v933
  let c0_287 : Index := 0#32
  ![v934.toNat, 0]

def k0_chk90 (v932 : BitVec 32) : Prop :=
  (8 ∣ (k0_mult90 v932).toNat) ∧
  (∀ a, (k0_off180 v932) a + S8x128.size a ≤ S16384x128.size a)
theorem k0_mult90_dvd : ∀ (v932 : BitVec 32) (k0_hw90 : k0_chk90 v932), 8 ∣ (k0_mult90 v932).toNat := fun v932 k0_hw90 => k0_hw90.1
theorem k0_off180_inb : ∀ (v932 : BitVec 32) (k0_hw90 : k0_chk90 v932), ∀ a, (k0_off180 v932) a + S8x128.size a ≤ S16384x128.size a := fun v932 k0_hw90 => k0_hw90.2

def k0_off181 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c90_i32 : BitVec 32 := 90#32
  let v939 : BitVec 32 := Scalar.addi v128 c90_i32
  let v940 : Index := Scalar.indexCast v939
  ![v940.toNat]
def k0_mult91 (v941 : BitVec 32) : BitVec 32 :=
  v941

def k0_off182 (v941 : BitVec 32) : Fin 2 → Nat :=
  let v942 : BitVec 32 := v941
  let v943 : Index := Scalar.indexCast v942
  let c0_289 : Index := 0#32
  ![v943.toNat, 0]

def k0_chk91 (v941 : BitVec 32) : Prop :=
  (8 ∣ (k0_mult91 v941).toNat) ∧
  (∀ a, (k0_off182 v941) a + S8x128.size a ≤ S16384x128.size a)
theorem k0_mult91_dvd : ∀ (v941 : BitVec 32) (k0_hw91 : k0_chk91 v941), 8 ∣ (k0_mult91 v941).toNat := fun v941 k0_hw91 => k0_hw91.1
theorem k0_off182_inb : ∀ (v941 : BitVec 32) (k0_hw91 : k0_chk91 v941), ∀ a, (k0_off182 v941) a + S8x128.size a ≤ S16384x128.size a := fun v941 k0_hw91 => k0_hw91.2

def k0_off183 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c91_i32 : BitVec 32 := 91#32
  let v948 : BitVec 32 := Scalar.addi v128 c91_i32
  let v949 : Index := Scalar.indexCast v948
  ![v949.toNat]
def k0_mult92 (v950 : BitVec 32) : BitVec 32 :=
  v950

def k0_off184 (v950 : BitVec 32) : Fin 2 → Nat :=
  let v951 : BitVec 32 := v950
  let v952 : Index := Scalar.indexCast v951
  let c0_291 : Index := 0#32
  ![v952.toNat, 0]

def k0_chk92 (v950 : BitVec 32) : Prop :=
  (8 ∣ (k0_mult92 v950).toNat) ∧
  (∀ a, (k0_off184 v950) a + S8x128.size a ≤ S16384x128.size a)
theorem k0_mult92_dvd : ∀ (v950 : BitVec 32) (k0_hw92 : k0_chk92 v950), 8 ∣ (k0_mult92 v950).toNat := fun v950 k0_hw92 => k0_hw92.1
theorem k0_off184_inb : ∀ (v950 : BitVec 32) (k0_hw92 : k0_chk92 v950), ∀ a, (k0_off184 v950) a + S8x128.size a ≤ S16384x128.size a := fun v950 k0_hw92 => k0_hw92.2

def k0_off185 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c92_i32 : BitVec 32 := 92#32
  let v957 : BitVec 32 := Scalar.addi v128 c92_i32
  let v958 : Index := Scalar.indexCast v957
  ![v958.toNat]
def k0_mult93 (v959 : BitVec 32) : BitVec 32 :=
  v959

def k0_off186 (v959 : BitVec 32) : Fin 2 → Nat :=
  let v960 : BitVec 32 := v959
  let v961 : Index := Scalar.indexCast v960
  let c0_293 : Index := 0#32
  ![v961.toNat, 0]

def k0_chk93 (v959 : BitVec 32) : Prop :=
  (8 ∣ (k0_mult93 v959).toNat) ∧
  (∀ a, (k0_off186 v959) a + S8x128.size a ≤ S16384x128.size a)
theorem k0_mult93_dvd : ∀ (v959 : BitVec 32) (k0_hw93 : k0_chk93 v959), 8 ∣ (k0_mult93 v959).toNat := fun v959 k0_hw93 => k0_hw93.1
theorem k0_off186_inb : ∀ (v959 : BitVec 32) (k0_hw93 : k0_chk93 v959), ∀ a, (k0_off186 v959) a + S8x128.size a ≤ S16384x128.size a := fun v959 k0_hw93 => k0_hw93.2

def k0_off187 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c93_i32 : BitVec 32 := 93#32
  let v966 : BitVec 32 := Scalar.addi v128 c93_i32
  let v967 : Index := Scalar.indexCast v966
  ![v967.toNat]
def k0_mult94 (v968 : BitVec 32) : BitVec 32 :=
  v968

def k0_off188 (v968 : BitVec 32) : Fin 2 → Nat :=
  let v969 : BitVec 32 := v968
  let v970 : Index := Scalar.indexCast v969
  let c0_295 : Index := 0#32
  ![v970.toNat, 0]

def k0_chk94 (v968 : BitVec 32) : Prop :=
  (8 ∣ (k0_mult94 v968).toNat) ∧
  (∀ a, (k0_off188 v968) a + S8x128.size a ≤ S16384x128.size a)
theorem k0_mult94_dvd : ∀ (v968 : BitVec 32) (k0_hw94 : k0_chk94 v968), 8 ∣ (k0_mult94 v968).toNat := fun v968 k0_hw94 => k0_hw94.1
theorem k0_off188_inb : ∀ (v968 : BitVec 32) (k0_hw94 : k0_chk94 v968), ∀ a, (k0_off188 v968) a + S8x128.size a ≤ S16384x128.size a := fun v968 k0_hw94 => k0_hw94.2

def k0_off189 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c94_i32 : BitVec 32 := 94#32
  let v975 : BitVec 32 := Scalar.addi v128 c94_i32
  let v976 : Index := Scalar.indexCast v975
  ![v976.toNat]
def k0_mult95 (v977 : BitVec 32) : BitVec 32 :=
  v977

def k0_off190 (v977 : BitVec 32) : Fin 2 → Nat :=
  let v978 : BitVec 32 := v977
  let v979 : Index := Scalar.indexCast v978
  let c0_297 : Index := 0#32
  ![v979.toNat, 0]

def k0_chk95 (v977 : BitVec 32) : Prop :=
  (8 ∣ (k0_mult95 v977).toNat) ∧
  (∀ a, (k0_off190 v977) a + S8x128.size a ≤ S16384x128.size a)
theorem k0_mult95_dvd : ∀ (v977 : BitVec 32) (k0_hw95 : k0_chk95 v977), 8 ∣ (k0_mult95 v977).toNat := fun v977 k0_hw95 => k0_hw95.1
theorem k0_off190_inb : ∀ (v977 : BitVec 32) (k0_hw95 : k0_chk95 v977), ∀ a, (k0_off190 v977) a + S8x128.size a ≤ S16384x128.size a := fun v977 k0_hw95 => k0_hw95.2

def k0_off191 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c95_i32 : BitVec 32 := 95#32
  let v984 : BitVec 32 := Scalar.addi v128 c95_i32
  let v985 : Index := Scalar.indexCast v984
  ![v985.toNat]
def k0_mult96 (v986 : BitVec 32) : BitVec 32 :=
  v986

def k0_off192 (v986 : BitVec 32) : Fin 2 → Nat :=
  let v987 : BitVec 32 := v986
  let v988 : Index := Scalar.indexCast v987
  let c0_299 : Index := 0#32
  ![v988.toNat, 0]

def k0_chk96 (v986 : BitVec 32) : Prop :=
  (8 ∣ (k0_mult96 v986).toNat) ∧
  (∀ a, (k0_off192 v986) a + S8x128.size a ≤ S16384x128.size a)
theorem k0_mult96_dvd : ∀ (v986 : BitVec 32) (k0_hw96 : k0_chk96 v986), 8 ∣ (k0_mult96 v986).toNat := fun v986 k0_hw96 => k0_hw96.1
theorem k0_off192_inb : ∀ (v986 : BitVec 32) (k0_hw96 : k0_chk96 v986), ∀ a, (k0_off192 v986) a + S8x128.size a ≤ S16384x128.size a := fun v986 k0_hw96 => k0_hw96.2

def k0_off193 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c96_i32 : BitVec 32 := 96#32
  let v993 : BitVec 32 := Scalar.addi v128 c96_i32
  let v994 : Index := Scalar.indexCast v993
  ![v994.toNat]
def k0_mult97 (v995 : BitVec 32) : BitVec 32 :=
  v995

def k0_off194 (v995 : BitVec 32) : Fin 2 → Nat :=
  let v996 : BitVec 32 := v995
  let v997 : Index := Scalar.indexCast v996
  let c0_301 : Index := 0#32
  ![v997.toNat, 0]

def k0_chk97 (v995 : BitVec 32) : Prop :=
  (8 ∣ (k0_mult97 v995).toNat) ∧
  (∀ a, (k0_off194 v995) a + S8x128.size a ≤ S16384x128.size a)
theorem k0_mult97_dvd : ∀ (v995 : BitVec 32) (k0_hw97 : k0_chk97 v995), 8 ∣ (k0_mult97 v995).toNat := fun v995 k0_hw97 => k0_hw97.1
theorem k0_off194_inb : ∀ (v995 : BitVec 32) (k0_hw97 : k0_chk97 v995), ∀ a, (k0_off194 v995) a + S8x128.size a ≤ S16384x128.size a := fun v995 k0_hw97 => k0_hw97.2

def k0_off195 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c97_i32 : BitVec 32 := 97#32
  let v1002 : BitVec 32 := Scalar.addi v128 c97_i32
  let v1003 : Index := Scalar.indexCast v1002
  ![v1003.toNat]
def k0_mult98 (v1004 : BitVec 32) : BitVec 32 :=
  v1004

def k0_off196 (v1004 : BitVec 32) : Fin 2 → Nat :=
  let v1005 : BitVec 32 := v1004
  let v1006 : Index := Scalar.indexCast v1005
  let c0_303 : Index := 0#32
  ![v1006.toNat, 0]

def k0_chk98 (v1004 : BitVec 32) : Prop :=
  (8 ∣ (k0_mult98 v1004).toNat) ∧
  (∀ a, (k0_off196 v1004) a + S8x128.size a ≤ S16384x128.size a)
theorem k0_mult98_dvd : ∀ (v1004 : BitVec 32) (k0_hw98 : k0_chk98 v1004), 8 ∣ (k0_mult98 v1004).toNat := fun v1004 k0_hw98 => k0_hw98.1
theorem k0_off196_inb : ∀ (v1004 : BitVec 32) (k0_hw98 : k0_chk98 v1004), ∀ a, (k0_off196 v1004) a + S8x128.size a ≤ S16384x128.size a := fun v1004 k0_hw98 => k0_hw98.2

def k0_off197 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c98_i32 : BitVec 32 := 98#32
  let v1011 : BitVec 32 := Scalar.addi v128 c98_i32
  let v1012 : Index := Scalar.indexCast v1011
  ![v1012.toNat]
def k0_mult99 (v1013 : BitVec 32) : BitVec 32 :=
  v1013

def k0_off198 (v1013 : BitVec 32) : Fin 2 → Nat :=
  let v1014 : BitVec 32 := v1013
  let v1015 : Index := Scalar.indexCast v1014
  let c0_305 : Index := 0#32
  ![v1015.toNat, 0]

def k0_chk99 (v1013 : BitVec 32) : Prop :=
  (8 ∣ (k0_mult99 v1013).toNat) ∧
  (∀ a, (k0_off198 v1013) a + S8x128.size a ≤ S16384x128.size a)
theorem k0_mult99_dvd : ∀ (v1013 : BitVec 32) (k0_hw99 : k0_chk99 v1013), 8 ∣ (k0_mult99 v1013).toNat := fun v1013 k0_hw99 => k0_hw99.1
theorem k0_off198_inb : ∀ (v1013 : BitVec 32) (k0_hw99 : k0_chk99 v1013), ∀ a, (k0_off198 v1013) a + S8x128.size a ≤ S16384x128.size a := fun v1013 k0_hw99 => k0_hw99.2

def k0_off199 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c99_i32 : BitVec 32 := 99#32
  let v1020 : BitVec 32 := Scalar.addi v128 c99_i32
  let v1021 : Index := Scalar.indexCast v1020
  ![v1021.toNat]
def k0_mult100 (v1022 : BitVec 32) : BitVec 32 :=
  v1022

def k0_off200 (v1022 : BitVec 32) : Fin 2 → Nat :=
  let v1023 : BitVec 32 := v1022
  let v1024 : Index := Scalar.indexCast v1023
  let c0_307 : Index := 0#32
  ![v1024.toNat, 0]

def k0_chk100 (v1022 : BitVec 32) : Prop :=
  (8 ∣ (k0_mult100 v1022).toNat) ∧
  (∀ a, (k0_off200 v1022) a + S8x128.size a ≤ S16384x128.size a)
theorem k0_mult100_dvd : ∀ (v1022 : BitVec 32) (k0_hw100 : k0_chk100 v1022), 8 ∣ (k0_mult100 v1022).toNat := fun v1022 k0_hw100 => k0_hw100.1
theorem k0_off200_inb : ∀ (v1022 : BitVec 32) (k0_hw100 : k0_chk100 v1022), ∀ a, (k0_off200 v1022) a + S8x128.size a ≤ S16384x128.size a := fun v1022 k0_hw100 => k0_hw100.2

def k0_off201 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c100_i32 : BitVec 32 := 100#32
  let v1029 : BitVec 32 := Scalar.addi v128 c100_i32
  let v1030 : Index := Scalar.indexCast v1029
  ![v1030.toNat]
def k0_mult101 (v1031 : BitVec 32) : BitVec 32 :=
  v1031

def k0_off202 (v1031 : BitVec 32) : Fin 2 → Nat :=
  let v1032 : BitVec 32 := v1031
  let v1033 : Index := Scalar.indexCast v1032
  let c0_309 : Index := 0#32
  ![v1033.toNat, 0]

def k0_chk101 (v1031 : BitVec 32) : Prop :=
  (8 ∣ (k0_mult101 v1031).toNat) ∧
  (∀ a, (k0_off202 v1031) a + S8x128.size a ≤ S16384x128.size a)
theorem k0_mult101_dvd : ∀ (v1031 : BitVec 32) (k0_hw101 : k0_chk101 v1031), 8 ∣ (k0_mult101 v1031).toNat := fun v1031 k0_hw101 => k0_hw101.1
theorem k0_off202_inb : ∀ (v1031 : BitVec 32) (k0_hw101 : k0_chk101 v1031), ∀ a, (k0_off202 v1031) a + S8x128.size a ≤ S16384x128.size a := fun v1031 k0_hw101 => k0_hw101.2

def k0_off203 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c101_i32 : BitVec 32 := 101#32
  let v1038 : BitVec 32 := Scalar.addi v128 c101_i32
  let v1039 : Index := Scalar.indexCast v1038
  ![v1039.toNat]
def k0_mult102 (v1040 : BitVec 32) : BitVec 32 :=
  v1040

def k0_off204 (v1040 : BitVec 32) : Fin 2 → Nat :=
  let v1041 : BitVec 32 := v1040
  let v1042 : Index := Scalar.indexCast v1041
  let c0_311 : Index := 0#32
  ![v1042.toNat, 0]

def k0_chk102 (v1040 : BitVec 32) : Prop :=
  (8 ∣ (k0_mult102 v1040).toNat) ∧
  (∀ a, (k0_off204 v1040) a + S8x128.size a ≤ S16384x128.size a)
theorem k0_mult102_dvd : ∀ (v1040 : BitVec 32) (k0_hw102 : k0_chk102 v1040), 8 ∣ (k0_mult102 v1040).toNat := fun v1040 k0_hw102 => k0_hw102.1
theorem k0_off204_inb : ∀ (v1040 : BitVec 32) (k0_hw102 : k0_chk102 v1040), ∀ a, (k0_off204 v1040) a + S8x128.size a ≤ S16384x128.size a := fun v1040 k0_hw102 => k0_hw102.2

def k0_off205 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c102_i32 : BitVec 32 := 102#32
  let v1047 : BitVec 32 := Scalar.addi v128 c102_i32
  let v1048 : Index := Scalar.indexCast v1047
  ![v1048.toNat]
def k0_mult103 (v1049 : BitVec 32) : BitVec 32 :=
  v1049

def k0_off206 (v1049 : BitVec 32) : Fin 2 → Nat :=
  let v1050 : BitVec 32 := v1049
  let v1051 : Index := Scalar.indexCast v1050
  let c0_313 : Index := 0#32
  ![v1051.toNat, 0]

def k0_chk103 (v1049 : BitVec 32) : Prop :=
  (8 ∣ (k0_mult103 v1049).toNat) ∧
  (∀ a, (k0_off206 v1049) a + S8x128.size a ≤ S16384x128.size a)
theorem k0_mult103_dvd : ∀ (v1049 : BitVec 32) (k0_hw103 : k0_chk103 v1049), 8 ∣ (k0_mult103 v1049).toNat := fun v1049 k0_hw103 => k0_hw103.1
theorem k0_off206_inb : ∀ (v1049 : BitVec 32) (k0_hw103 : k0_chk103 v1049), ∀ a, (k0_off206 v1049) a + S8x128.size a ≤ S16384x128.size a := fun v1049 k0_hw103 => k0_hw103.2

def k0_off207 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c103_i32 : BitVec 32 := 103#32
  let v1056 : BitVec 32 := Scalar.addi v128 c103_i32
  let v1057 : Index := Scalar.indexCast v1056
  ![v1057.toNat]
def k0_mult104 (v1058 : BitVec 32) : BitVec 32 :=
  v1058

def k0_off208 (v1058 : BitVec 32) : Fin 2 → Nat :=
  let v1059 : BitVec 32 := v1058
  let v1060 : Index := Scalar.indexCast v1059
  let c0_315 : Index := 0#32
  ![v1060.toNat, 0]

def k0_chk104 (v1058 : BitVec 32) : Prop :=
  (8 ∣ (k0_mult104 v1058).toNat) ∧
  (∀ a, (k0_off208 v1058) a + S8x128.size a ≤ S16384x128.size a)
theorem k0_mult104_dvd : ∀ (v1058 : BitVec 32) (k0_hw104 : k0_chk104 v1058), 8 ∣ (k0_mult104 v1058).toNat := fun v1058 k0_hw104 => k0_hw104.1
theorem k0_off208_inb : ∀ (v1058 : BitVec 32) (k0_hw104 : k0_chk104 v1058), ∀ a, (k0_off208 v1058) a + S8x128.size a ≤ S16384x128.size a := fun v1058 k0_hw104 => k0_hw104.2

def k0_off209 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c104_i32 : BitVec 32 := 104#32
  let v1065 : BitVec 32 := Scalar.addi v128 c104_i32
  let v1066 : Index := Scalar.indexCast v1065
  ![v1066.toNat]
def k0_mult105 (v1067 : BitVec 32) : BitVec 32 :=
  v1067

def k0_off210 (v1067 : BitVec 32) : Fin 2 → Nat :=
  let v1068 : BitVec 32 := v1067
  let v1069 : Index := Scalar.indexCast v1068
  let c0_317 : Index := 0#32
  ![v1069.toNat, 0]

def k0_chk105 (v1067 : BitVec 32) : Prop :=
  (8 ∣ (k0_mult105 v1067).toNat) ∧
  (∀ a, (k0_off210 v1067) a + S8x128.size a ≤ S16384x128.size a)
theorem k0_mult105_dvd : ∀ (v1067 : BitVec 32) (k0_hw105 : k0_chk105 v1067), 8 ∣ (k0_mult105 v1067).toNat := fun v1067 k0_hw105 => k0_hw105.1
theorem k0_off210_inb : ∀ (v1067 : BitVec 32) (k0_hw105 : k0_chk105 v1067), ∀ a, (k0_off210 v1067) a + S8x128.size a ≤ S16384x128.size a := fun v1067 k0_hw105 => k0_hw105.2

def k0_off211 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c105_i32 : BitVec 32 := 105#32
  let v1074 : BitVec 32 := Scalar.addi v128 c105_i32
  let v1075 : Index := Scalar.indexCast v1074
  ![v1075.toNat]
def k0_mult106 (v1076 : BitVec 32) : BitVec 32 :=
  v1076

def k0_off212 (v1076 : BitVec 32) : Fin 2 → Nat :=
  let v1077 : BitVec 32 := v1076
  let v1078 : Index := Scalar.indexCast v1077
  let c0_319 : Index := 0#32
  ![v1078.toNat, 0]

def k0_chk106 (v1076 : BitVec 32) : Prop :=
  (8 ∣ (k0_mult106 v1076).toNat) ∧
  (∀ a, (k0_off212 v1076) a + S8x128.size a ≤ S16384x128.size a)
theorem k0_mult106_dvd : ∀ (v1076 : BitVec 32) (k0_hw106 : k0_chk106 v1076), 8 ∣ (k0_mult106 v1076).toNat := fun v1076 k0_hw106 => k0_hw106.1
theorem k0_off212_inb : ∀ (v1076 : BitVec 32) (k0_hw106 : k0_chk106 v1076), ∀ a, (k0_off212 v1076) a + S8x128.size a ≤ S16384x128.size a := fun v1076 k0_hw106 => k0_hw106.2

def k0_off213 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c106_i32 : BitVec 32 := 106#32
  let v1083 : BitVec 32 := Scalar.addi v128 c106_i32
  let v1084 : Index := Scalar.indexCast v1083
  ![v1084.toNat]
def k0_mult107 (v1085 : BitVec 32) : BitVec 32 :=
  v1085

def k0_off214 (v1085 : BitVec 32) : Fin 2 → Nat :=
  let v1086 : BitVec 32 := v1085
  let v1087 : Index := Scalar.indexCast v1086
  let c0_321 : Index := 0#32
  ![v1087.toNat, 0]

def k0_chk107 (v1085 : BitVec 32) : Prop :=
  (8 ∣ (k0_mult107 v1085).toNat) ∧
  (∀ a, (k0_off214 v1085) a + S8x128.size a ≤ S16384x128.size a)
theorem k0_mult107_dvd : ∀ (v1085 : BitVec 32) (k0_hw107 : k0_chk107 v1085), 8 ∣ (k0_mult107 v1085).toNat := fun v1085 k0_hw107 => k0_hw107.1
theorem k0_off214_inb : ∀ (v1085 : BitVec 32) (k0_hw107 : k0_chk107 v1085), ∀ a, (k0_off214 v1085) a + S8x128.size a ≤ S16384x128.size a := fun v1085 k0_hw107 => k0_hw107.2

def k0_off215 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c107_i32 : BitVec 32 := 107#32
  let v1092 : BitVec 32 := Scalar.addi v128 c107_i32
  let v1093 : Index := Scalar.indexCast v1092
  ![v1093.toNat]
def k0_mult108 (v1094 : BitVec 32) : BitVec 32 :=
  v1094

def k0_off216 (v1094 : BitVec 32) : Fin 2 → Nat :=
  let v1095 : BitVec 32 := v1094
  let v1096 : Index := Scalar.indexCast v1095
  let c0_323 : Index := 0#32
  ![v1096.toNat, 0]

def k0_chk108 (v1094 : BitVec 32) : Prop :=
  (8 ∣ (k0_mult108 v1094).toNat) ∧
  (∀ a, (k0_off216 v1094) a + S8x128.size a ≤ S16384x128.size a)
theorem k0_mult108_dvd : ∀ (v1094 : BitVec 32) (k0_hw108 : k0_chk108 v1094), 8 ∣ (k0_mult108 v1094).toNat := fun v1094 k0_hw108 => k0_hw108.1
theorem k0_off216_inb : ∀ (v1094 : BitVec 32) (k0_hw108 : k0_chk108 v1094), ∀ a, (k0_off216 v1094) a + S8x128.size a ≤ S16384x128.size a := fun v1094 k0_hw108 => k0_hw108.2

def k0_off217 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c108_i32 : BitVec 32 := 108#32
  let v1101 : BitVec 32 := Scalar.addi v128 c108_i32
  let v1102 : Index := Scalar.indexCast v1101
  ![v1102.toNat]
def k0_mult109 (v1103 : BitVec 32) : BitVec 32 :=
  v1103

def k0_off218 (v1103 : BitVec 32) : Fin 2 → Nat :=
  let v1104 : BitVec 32 := v1103
  let v1105 : Index := Scalar.indexCast v1104
  let c0_325 : Index := 0#32
  ![v1105.toNat, 0]

def k0_chk109 (v1103 : BitVec 32) : Prop :=
  (8 ∣ (k0_mult109 v1103).toNat) ∧
  (∀ a, (k0_off218 v1103) a + S8x128.size a ≤ S16384x128.size a)
theorem k0_mult109_dvd : ∀ (v1103 : BitVec 32) (k0_hw109 : k0_chk109 v1103), 8 ∣ (k0_mult109 v1103).toNat := fun v1103 k0_hw109 => k0_hw109.1
theorem k0_off218_inb : ∀ (v1103 : BitVec 32) (k0_hw109 : k0_chk109 v1103), ∀ a, (k0_off218 v1103) a + S8x128.size a ≤ S16384x128.size a := fun v1103 k0_hw109 => k0_hw109.2

def k0_off219 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c109_i32 : BitVec 32 := 109#32
  let v1110 : BitVec 32 := Scalar.addi v128 c109_i32
  let v1111 : Index := Scalar.indexCast v1110
  ![v1111.toNat]
def k0_mult110 (v1112 : BitVec 32) : BitVec 32 :=
  v1112

def k0_off220 (v1112 : BitVec 32) : Fin 2 → Nat :=
  let v1113 : BitVec 32 := v1112
  let v1114 : Index := Scalar.indexCast v1113
  let c0_327 : Index := 0#32
  ![v1114.toNat, 0]

def k0_chk110 (v1112 : BitVec 32) : Prop :=
  (8 ∣ (k0_mult110 v1112).toNat) ∧
  (∀ a, (k0_off220 v1112) a + S8x128.size a ≤ S16384x128.size a)
theorem k0_mult110_dvd : ∀ (v1112 : BitVec 32) (k0_hw110 : k0_chk110 v1112), 8 ∣ (k0_mult110 v1112).toNat := fun v1112 k0_hw110 => k0_hw110.1
theorem k0_off220_inb : ∀ (v1112 : BitVec 32) (k0_hw110 : k0_chk110 v1112), ∀ a, (k0_off220 v1112) a + S8x128.size a ≤ S16384x128.size a := fun v1112 k0_hw110 => k0_hw110.2

def k0_off221 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c110_i32 : BitVec 32 := 110#32
  let v1119 : BitVec 32 := Scalar.addi v128 c110_i32
  let v1120 : Index := Scalar.indexCast v1119
  ![v1120.toNat]
def k0_mult111 (v1121 : BitVec 32) : BitVec 32 :=
  v1121

def k0_off222 (v1121 : BitVec 32) : Fin 2 → Nat :=
  let v1122 : BitVec 32 := v1121
  let v1123 : Index := Scalar.indexCast v1122
  let c0_329 : Index := 0#32
  ![v1123.toNat, 0]

def k0_chk111 (v1121 : BitVec 32) : Prop :=
  (8 ∣ (k0_mult111 v1121).toNat) ∧
  (∀ a, (k0_off222 v1121) a + S8x128.size a ≤ S16384x128.size a)
theorem k0_mult111_dvd : ∀ (v1121 : BitVec 32) (k0_hw111 : k0_chk111 v1121), 8 ∣ (k0_mult111 v1121).toNat := fun v1121 k0_hw111 => k0_hw111.1
theorem k0_off222_inb : ∀ (v1121 : BitVec 32) (k0_hw111 : k0_chk111 v1121), ∀ a, (k0_off222 v1121) a + S8x128.size a ≤ S16384x128.size a := fun v1121 k0_hw111 => k0_hw111.2

def k0_off223 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c111_i32 : BitVec 32 := 111#32
  let v1128 : BitVec 32 := Scalar.addi v128 c111_i32
  let v1129 : Index := Scalar.indexCast v1128
  ![v1129.toNat]
def k0_mult112 (v1130 : BitVec 32) : BitVec 32 :=
  v1130

def k0_off224 (v1130 : BitVec 32) : Fin 2 → Nat :=
  let v1131 : BitVec 32 := v1130
  let v1132 : Index := Scalar.indexCast v1131
  let c0_331 : Index := 0#32
  ![v1132.toNat, 0]

def k0_chk112 (v1130 : BitVec 32) : Prop :=
  (8 ∣ (k0_mult112 v1130).toNat) ∧
  (∀ a, (k0_off224 v1130) a + S8x128.size a ≤ S16384x128.size a)
theorem k0_mult112_dvd : ∀ (v1130 : BitVec 32) (k0_hw112 : k0_chk112 v1130), 8 ∣ (k0_mult112 v1130).toNat := fun v1130 k0_hw112 => k0_hw112.1
theorem k0_off224_inb : ∀ (v1130 : BitVec 32) (k0_hw112 : k0_chk112 v1130), ∀ a, (k0_off224 v1130) a + S8x128.size a ≤ S16384x128.size a := fun v1130 k0_hw112 => k0_hw112.2

def k0_off225 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c112_i32 : BitVec 32 := 112#32
  let v1137 : BitVec 32 := Scalar.addi v128 c112_i32
  let v1138 : Index := Scalar.indexCast v1137
  ![v1138.toNat]
def k0_mult113 (v1139 : BitVec 32) : BitVec 32 :=
  v1139

def k0_off226 (v1139 : BitVec 32) : Fin 2 → Nat :=
  let v1140 : BitVec 32 := v1139
  let v1141 : Index := Scalar.indexCast v1140
  let c0_333 : Index := 0#32
  ![v1141.toNat, 0]

def k0_chk113 (v1139 : BitVec 32) : Prop :=
  (8 ∣ (k0_mult113 v1139).toNat) ∧
  (∀ a, (k0_off226 v1139) a + S8x128.size a ≤ S16384x128.size a)
theorem k0_mult113_dvd : ∀ (v1139 : BitVec 32) (k0_hw113 : k0_chk113 v1139), 8 ∣ (k0_mult113 v1139).toNat := fun v1139 k0_hw113 => k0_hw113.1
theorem k0_off226_inb : ∀ (v1139 : BitVec 32) (k0_hw113 : k0_chk113 v1139), ∀ a, (k0_off226 v1139) a + S8x128.size a ≤ S16384x128.size a := fun v1139 k0_hw113 => k0_hw113.2

def k0_off227 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c113_i32 : BitVec 32 := 113#32
  let v1146 : BitVec 32 := Scalar.addi v128 c113_i32
  let v1147 : Index := Scalar.indexCast v1146
  ![v1147.toNat]
def k0_mult114 (v1148 : BitVec 32) : BitVec 32 :=
  v1148

def k0_off228 (v1148 : BitVec 32) : Fin 2 → Nat :=
  let v1149 : BitVec 32 := v1148
  let v1150 : Index := Scalar.indexCast v1149
  let c0_335 : Index := 0#32
  ![v1150.toNat, 0]

def k0_chk114 (v1148 : BitVec 32) : Prop :=
  (8 ∣ (k0_mult114 v1148).toNat) ∧
  (∀ a, (k0_off228 v1148) a + S8x128.size a ≤ S16384x128.size a)
theorem k0_mult114_dvd : ∀ (v1148 : BitVec 32) (k0_hw114 : k0_chk114 v1148), 8 ∣ (k0_mult114 v1148).toNat := fun v1148 k0_hw114 => k0_hw114.1
theorem k0_off228_inb : ∀ (v1148 : BitVec 32) (k0_hw114 : k0_chk114 v1148), ∀ a, (k0_off228 v1148) a + S8x128.size a ≤ S16384x128.size a := fun v1148 k0_hw114 => k0_hw114.2

def k0_off229 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c114_i32 : BitVec 32 := 114#32
  let v1155 : BitVec 32 := Scalar.addi v128 c114_i32
  let v1156 : Index := Scalar.indexCast v1155
  ![v1156.toNat]
def k0_mult115 (v1157 : BitVec 32) : BitVec 32 :=
  v1157

def k0_off230 (v1157 : BitVec 32) : Fin 2 → Nat :=
  let v1158 : BitVec 32 := v1157
  let v1159 : Index := Scalar.indexCast v1158
  let c0_337 : Index := 0#32
  ![v1159.toNat, 0]

def k0_chk115 (v1157 : BitVec 32) : Prop :=
  (8 ∣ (k0_mult115 v1157).toNat) ∧
  (∀ a, (k0_off230 v1157) a + S8x128.size a ≤ S16384x128.size a)
theorem k0_mult115_dvd : ∀ (v1157 : BitVec 32) (k0_hw115 : k0_chk115 v1157), 8 ∣ (k0_mult115 v1157).toNat := fun v1157 k0_hw115 => k0_hw115.1
theorem k0_off230_inb : ∀ (v1157 : BitVec 32) (k0_hw115 : k0_chk115 v1157), ∀ a, (k0_off230 v1157) a + S8x128.size a ≤ S16384x128.size a := fun v1157 k0_hw115 => k0_hw115.2

def k0_off231 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c115_i32 : BitVec 32 := 115#32
  let v1164 : BitVec 32 := Scalar.addi v128 c115_i32
  let v1165 : Index := Scalar.indexCast v1164
  ![v1165.toNat]
def k0_mult116 (v1166 : BitVec 32) : BitVec 32 :=
  v1166

def k0_off232 (v1166 : BitVec 32) : Fin 2 → Nat :=
  let v1167 : BitVec 32 := v1166
  let v1168 : Index := Scalar.indexCast v1167
  let c0_339 : Index := 0#32
  ![v1168.toNat, 0]

def k0_chk116 (v1166 : BitVec 32) : Prop :=
  (8 ∣ (k0_mult116 v1166).toNat) ∧
  (∀ a, (k0_off232 v1166) a + S8x128.size a ≤ S16384x128.size a)
theorem k0_mult116_dvd : ∀ (v1166 : BitVec 32) (k0_hw116 : k0_chk116 v1166), 8 ∣ (k0_mult116 v1166).toNat := fun v1166 k0_hw116 => k0_hw116.1
theorem k0_off232_inb : ∀ (v1166 : BitVec 32) (k0_hw116 : k0_chk116 v1166), ∀ a, (k0_off232 v1166) a + S8x128.size a ≤ S16384x128.size a := fun v1166 k0_hw116 => k0_hw116.2

def k0_off233 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c116_i32 : BitVec 32 := 116#32
  let v1173 : BitVec 32 := Scalar.addi v128 c116_i32
  let v1174 : Index := Scalar.indexCast v1173
  ![v1174.toNat]
def k0_mult117 (v1175 : BitVec 32) : BitVec 32 :=
  v1175

def k0_off234 (v1175 : BitVec 32) : Fin 2 → Nat :=
  let v1176 : BitVec 32 := v1175
  let v1177 : Index := Scalar.indexCast v1176
  let c0_341 : Index := 0#32
  ![v1177.toNat, 0]

def k0_chk117 (v1175 : BitVec 32) : Prop :=
  (8 ∣ (k0_mult117 v1175).toNat) ∧
  (∀ a, (k0_off234 v1175) a + S8x128.size a ≤ S16384x128.size a)
theorem k0_mult117_dvd : ∀ (v1175 : BitVec 32) (k0_hw117 : k0_chk117 v1175), 8 ∣ (k0_mult117 v1175).toNat := fun v1175 k0_hw117 => k0_hw117.1
theorem k0_off234_inb : ∀ (v1175 : BitVec 32) (k0_hw117 : k0_chk117 v1175), ∀ a, (k0_off234 v1175) a + S8x128.size a ≤ S16384x128.size a := fun v1175 k0_hw117 => k0_hw117.2

def k0_off235 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c117_i32 : BitVec 32 := 117#32
  let v1182 : BitVec 32 := Scalar.addi v128 c117_i32
  let v1183 : Index := Scalar.indexCast v1182
  ![v1183.toNat]
def k0_mult118 (v1184 : BitVec 32) : BitVec 32 :=
  v1184

def k0_off236 (v1184 : BitVec 32) : Fin 2 → Nat :=
  let v1185 : BitVec 32 := v1184
  let v1186 : Index := Scalar.indexCast v1185
  let c0_343 : Index := 0#32
  ![v1186.toNat, 0]

def k0_chk118 (v1184 : BitVec 32) : Prop :=
  (8 ∣ (k0_mult118 v1184).toNat) ∧
  (∀ a, (k0_off236 v1184) a + S8x128.size a ≤ S16384x128.size a)
theorem k0_mult118_dvd : ∀ (v1184 : BitVec 32) (k0_hw118 : k0_chk118 v1184), 8 ∣ (k0_mult118 v1184).toNat := fun v1184 k0_hw118 => k0_hw118.1
theorem k0_off236_inb : ∀ (v1184 : BitVec 32) (k0_hw118 : k0_chk118 v1184), ∀ a, (k0_off236 v1184) a + S8x128.size a ≤ S16384x128.size a := fun v1184 k0_hw118 => k0_hw118.2

def k0_off237 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c118_i32 : BitVec 32 := 118#32
  let v1191 : BitVec 32 := Scalar.addi v128 c118_i32
  let v1192 : Index := Scalar.indexCast v1191
  ![v1192.toNat]
def k0_mult119 (v1193 : BitVec 32) : BitVec 32 :=
  v1193

def k0_off238 (v1193 : BitVec 32) : Fin 2 → Nat :=
  let v1194 : BitVec 32 := v1193
  let v1195 : Index := Scalar.indexCast v1194
  let c0_345 : Index := 0#32
  ![v1195.toNat, 0]

def k0_chk119 (v1193 : BitVec 32) : Prop :=
  (8 ∣ (k0_mult119 v1193).toNat) ∧
  (∀ a, (k0_off238 v1193) a + S8x128.size a ≤ S16384x128.size a)
theorem k0_mult119_dvd : ∀ (v1193 : BitVec 32) (k0_hw119 : k0_chk119 v1193), 8 ∣ (k0_mult119 v1193).toNat := fun v1193 k0_hw119 => k0_hw119.1
theorem k0_off238_inb : ∀ (v1193 : BitVec 32) (k0_hw119 : k0_chk119 v1193), ∀ a, (k0_off238 v1193) a + S8x128.size a ≤ S16384x128.size a := fun v1193 k0_hw119 => k0_hw119.2

def k0_off239 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c119_i32 : BitVec 32 := 119#32
  let v1200 : BitVec 32 := Scalar.addi v128 c119_i32
  let v1201 : Index := Scalar.indexCast v1200
  ![v1201.toNat]
def k0_mult120 (v1202 : BitVec 32) : BitVec 32 :=
  v1202

def k0_off240 (v1202 : BitVec 32) : Fin 2 → Nat :=
  let v1203 : BitVec 32 := v1202
  let v1204 : Index := Scalar.indexCast v1203
  let c0_347 : Index := 0#32
  ![v1204.toNat, 0]

def k0_chk120 (v1202 : BitVec 32) : Prop :=
  (8 ∣ (k0_mult120 v1202).toNat) ∧
  (∀ a, (k0_off240 v1202) a + S8x128.size a ≤ S16384x128.size a)
theorem k0_mult120_dvd : ∀ (v1202 : BitVec 32) (k0_hw120 : k0_chk120 v1202), 8 ∣ (k0_mult120 v1202).toNat := fun v1202 k0_hw120 => k0_hw120.1
theorem k0_off240_inb : ∀ (v1202 : BitVec 32) (k0_hw120 : k0_chk120 v1202), ∀ a, (k0_off240 v1202) a + S8x128.size a ≤ S16384x128.size a := fun v1202 k0_hw120 => k0_hw120.2

def k0_off241 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c120_i32 : BitVec 32 := 120#32
  let v1209 : BitVec 32 := Scalar.addi v128 c120_i32
  let v1210 : Index := Scalar.indexCast v1209
  ![v1210.toNat]
def k0_mult121 (v1211 : BitVec 32) : BitVec 32 :=
  v1211

def k0_off242 (v1211 : BitVec 32) : Fin 2 → Nat :=
  let v1212 : BitVec 32 := v1211
  let v1213 : Index := Scalar.indexCast v1212
  let c0_349 : Index := 0#32
  ![v1213.toNat, 0]

def k0_chk121 (v1211 : BitVec 32) : Prop :=
  (8 ∣ (k0_mult121 v1211).toNat) ∧
  (∀ a, (k0_off242 v1211) a + S8x128.size a ≤ S16384x128.size a)
theorem k0_mult121_dvd : ∀ (v1211 : BitVec 32) (k0_hw121 : k0_chk121 v1211), 8 ∣ (k0_mult121 v1211).toNat := fun v1211 k0_hw121 => k0_hw121.1
theorem k0_off242_inb : ∀ (v1211 : BitVec 32) (k0_hw121 : k0_chk121 v1211), ∀ a, (k0_off242 v1211) a + S8x128.size a ≤ S16384x128.size a := fun v1211 k0_hw121 => k0_hw121.2

def k0_off243 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c121_i32 : BitVec 32 := 121#32
  let v1218 : BitVec 32 := Scalar.addi v128 c121_i32
  let v1219 : Index := Scalar.indexCast v1218
  ![v1219.toNat]
def k0_mult122 (v1220 : BitVec 32) : BitVec 32 :=
  v1220

def k0_off244 (v1220 : BitVec 32) : Fin 2 → Nat :=
  let v1221 : BitVec 32 := v1220
  let v1222 : Index := Scalar.indexCast v1221
  let c0_351 : Index := 0#32
  ![v1222.toNat, 0]

def k0_chk122 (v1220 : BitVec 32) : Prop :=
  (8 ∣ (k0_mult122 v1220).toNat) ∧
  (∀ a, (k0_off244 v1220) a + S8x128.size a ≤ S16384x128.size a)
theorem k0_mult122_dvd : ∀ (v1220 : BitVec 32) (k0_hw122 : k0_chk122 v1220), 8 ∣ (k0_mult122 v1220).toNat := fun v1220 k0_hw122 => k0_hw122.1
theorem k0_off244_inb : ∀ (v1220 : BitVec 32) (k0_hw122 : k0_chk122 v1220), ∀ a, (k0_off244 v1220) a + S8x128.size a ≤ S16384x128.size a := fun v1220 k0_hw122 => k0_hw122.2

def k0_off245 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c122_i32 : BitVec 32 := 122#32
  let v1227 : BitVec 32 := Scalar.addi v128 c122_i32
  let v1228 : Index := Scalar.indexCast v1227
  ![v1228.toNat]
def k0_mult123 (v1229 : BitVec 32) : BitVec 32 :=
  v1229

def k0_off246 (v1229 : BitVec 32) : Fin 2 → Nat :=
  let v1230 : BitVec 32 := v1229
  let v1231 : Index := Scalar.indexCast v1230
  let c0_353 : Index := 0#32
  ![v1231.toNat, 0]

def k0_chk123 (v1229 : BitVec 32) : Prop :=
  (8 ∣ (k0_mult123 v1229).toNat) ∧
  (∀ a, (k0_off246 v1229) a + S8x128.size a ≤ S16384x128.size a)
theorem k0_mult123_dvd : ∀ (v1229 : BitVec 32) (k0_hw123 : k0_chk123 v1229), 8 ∣ (k0_mult123 v1229).toNat := fun v1229 k0_hw123 => k0_hw123.1
theorem k0_off246_inb : ∀ (v1229 : BitVec 32) (k0_hw123 : k0_chk123 v1229), ∀ a, (k0_off246 v1229) a + S8x128.size a ≤ S16384x128.size a := fun v1229 k0_hw123 => k0_hw123.2

def k0_off247 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c123_i32 : BitVec 32 := 123#32
  let v1236 : BitVec 32 := Scalar.addi v128 c123_i32
  let v1237 : Index := Scalar.indexCast v1236
  ![v1237.toNat]
def k0_mult124 (v1238 : BitVec 32) : BitVec 32 :=
  v1238

def k0_off248 (v1238 : BitVec 32) : Fin 2 → Nat :=
  let v1239 : BitVec 32 := v1238
  let v1240 : Index := Scalar.indexCast v1239
  let c0_355 : Index := 0#32
  ![v1240.toNat, 0]

def k0_chk124 (v1238 : BitVec 32) : Prop :=
  (8 ∣ (k0_mult124 v1238).toNat) ∧
  (∀ a, (k0_off248 v1238) a + S8x128.size a ≤ S16384x128.size a)
theorem k0_mult124_dvd : ∀ (v1238 : BitVec 32) (k0_hw124 : k0_chk124 v1238), 8 ∣ (k0_mult124 v1238).toNat := fun v1238 k0_hw124 => k0_hw124.1
theorem k0_off248_inb : ∀ (v1238 : BitVec 32) (k0_hw124 : k0_chk124 v1238), ∀ a, (k0_off248 v1238) a + S8x128.size a ≤ S16384x128.size a := fun v1238 k0_hw124 => k0_hw124.2

def k0_off249 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c124_i32 : BitVec 32 := 124#32
  let v1245 : BitVec 32 := Scalar.addi v128 c124_i32
  let v1246 : Index := Scalar.indexCast v1245
  ![v1246.toNat]
def k0_mult125 (v1247 : BitVec 32) : BitVec 32 :=
  v1247

def k0_off250 (v1247 : BitVec 32) : Fin 2 → Nat :=
  let v1248 : BitVec 32 := v1247
  let v1249 : Index := Scalar.indexCast v1248
  let c0_357 : Index := 0#32
  ![v1249.toNat, 0]

def k0_chk125 (v1247 : BitVec 32) : Prop :=
  (8 ∣ (k0_mult125 v1247).toNat) ∧
  (∀ a, (k0_off250 v1247) a + S8x128.size a ≤ S16384x128.size a)
theorem k0_mult125_dvd : ∀ (v1247 : BitVec 32) (k0_hw125 : k0_chk125 v1247), 8 ∣ (k0_mult125 v1247).toNat := fun v1247 k0_hw125 => k0_hw125.1
theorem k0_off250_inb : ∀ (v1247 : BitVec 32) (k0_hw125 : k0_chk125 v1247), ∀ a, (k0_off250 v1247) a + S8x128.size a ≤ S16384x128.size a := fun v1247 k0_hw125 => k0_hw125.2

def k0_off251 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c125_i32 : BitVec 32 := 125#32
  let v1254 : BitVec 32 := Scalar.addi v128 c125_i32
  let v1255 : Index := Scalar.indexCast v1254
  ![v1255.toNat]
def k0_mult126 (v1256 : BitVec 32) : BitVec 32 :=
  v1256

def k0_off252 (v1256 : BitVec 32) : Fin 2 → Nat :=
  let v1257 : BitVec 32 := v1256
  let v1258 : Index := Scalar.indexCast v1257
  let c0_359 : Index := 0#32
  ![v1258.toNat, 0]

def k0_chk126 (v1256 : BitVec 32) : Prop :=
  (8 ∣ (k0_mult126 v1256).toNat) ∧
  (∀ a, (k0_off252 v1256) a + S8x128.size a ≤ S16384x128.size a)
theorem k0_mult126_dvd : ∀ (v1256 : BitVec 32) (k0_hw126 : k0_chk126 v1256), 8 ∣ (k0_mult126 v1256).toNat := fun v1256 k0_hw126 => k0_hw126.1
theorem k0_off252_inb : ∀ (v1256 : BitVec 32) (k0_hw126 : k0_chk126 v1256), ∀ a, (k0_off252 v1256) a + S8x128.size a ≤ S16384x128.size a := fun v1256 k0_hw126 => k0_hw126.2

def k0_off253 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c126_i32 : BitVec 32 := 126#32
  let v1263 : BitVec 32 := Scalar.addi v128 c126_i32
  let v1264 : Index := Scalar.indexCast v1263
  ![v1264.toNat]
def k0_mult127 (v1265 : BitVec 32) : BitVec 32 :=
  v1265

def k0_off254 (v1265 : BitVec 32) : Fin 2 → Nat :=
  let v1266 : BitVec 32 := v1265
  let v1267 : Index := Scalar.indexCast v1266
  let c0_361 : Index := 0#32
  ![v1267.toNat, 0]

def k0_chk127 (v1265 : BitVec 32) : Prop :=
  (8 ∣ (k0_mult127 v1265).toNat) ∧
  (∀ a, (k0_off254 v1265) a + S8x128.size a ≤ S16384x128.size a)
theorem k0_mult127_dvd : ∀ (v1265 : BitVec 32) (k0_hw127 : k0_chk127 v1265), 8 ∣ (k0_mult127 v1265).toNat := fun v1265 k0_hw127 => k0_hw127.1
theorem k0_off254_inb : ∀ (v1265 : BitVec 32) (k0_hw127 : k0_chk127 v1265), ∀ a, (k0_off254 v1265) a + S8x128.size a ≤ S16384x128.size a := fun v1265 k0_hw127 => k0_hw127.2

def k0_off255 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c127_i32 : BitVec 32 := 127#32
  let v1272 : BitVec 32 := Scalar.addi v128 c127_i32
  let v1273 : Index := Scalar.indexCast v1272
  ![v1273.toNat]
def k0_mult128 (v1274 : BitVec 32) : BitVec 32 :=
  v1274

def k0_off256 (v1274 : BitVec 32) : Fin 2 → Nat :=
  let v1275 : BitVec 32 := v1274
  let v1276 : Index := Scalar.indexCast v1275
  let c0_363 : Index := 0#32
  ![v1276.toNat, 0]

def k0_chk128 (v1274 : BitVec 32) : Prop :=
  (8 ∣ (k0_mult128 v1274).toNat) ∧
  (∀ a, (k0_off256 v1274) a + S8x128.size a ≤ S16384x128.size a)
theorem k0_mult128_dvd : ∀ (v1274 : BitVec 32) (k0_hw128 : k0_chk128 v1274), 8 ∣ (k0_mult128 v1274).toNat := fun v1274 k0_hw128 => k0_hw128.1
theorem k0_off256_inb : ∀ (v1274 : BitVec 32) (k0_hw128 : k0_chk128 v1274), ∀ a, (k0_off256 v1274) a + S8x128.size a ≤ S16384x128.size a := fun v1274 k0_hw128 => k0_hw128.2

def k0_off257 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c128_i32 : BitVec 32 := 128#32
  let v1281 : BitVec 32 := Scalar.addi v128 c128_i32
  let v1282 : Index := Scalar.indexCast v1281
  ![v1282.toNat]
def k0_mult129 (v1283 : BitVec 32) : BitVec 32 :=
  v1283

def k0_off258 (v1283 : BitVec 32) : Fin 2 → Nat :=
  let v1284 : BitVec 32 := v1283
  let v1285 : Index := Scalar.indexCast v1284
  let c0_365 : Index := 0#32
  ![v1285.toNat, 0]

def k0_chk129 (v1283 : BitVec 32) : Prop :=
  (8 ∣ (k0_mult129 v1283).toNat) ∧
  (∀ a, (k0_off258 v1283) a + S8x128.size a ≤ S16384x128.size a)
theorem k0_mult129_dvd : ∀ (v1283 : BitVec 32) (k0_hw129 : k0_chk129 v1283), 8 ∣ (k0_mult129 v1283).toNat := fun v1283 k0_hw129 => k0_hw129.1
theorem k0_off258_inb : ∀ (v1283 : BitVec 32) (k0_hw129 : k0_chk129 v1283), ∀ a, (k0_off258 v1283) a + S8x128.size a ≤ S16384x128.size a := fun v1283 k0_hw129 => k0_hw129.2

def k0_off259 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c129_i32 : BitVec 32 := 129#32
  let v1290 : BitVec 32 := Scalar.addi v128 c129_i32
  let v1291 : Index := Scalar.indexCast v1290
  ![v1291.toNat]
def k0_mult130 (v1292 : BitVec 32) : BitVec 32 :=
  v1292

def k0_off260 (v1292 : BitVec 32) : Fin 2 → Nat :=
  let v1293 : BitVec 32 := v1292
  let v1294 : Index := Scalar.indexCast v1293
  let c0_368 : Index := 0#32
  ![v1294.toNat, 0]

def k0_chk130 (v1292 : BitVec 32) : Prop :=
  (8 ∣ (k0_mult130 v1292).toNat) ∧
  (∀ a, (k0_off260 v1292) a + S8x128.size a ≤ S16384x128.size a)
theorem k0_mult130_dvd : ∀ (v1292 : BitVec 32) (k0_hw130 : k0_chk130 v1292), 8 ∣ (k0_mult130 v1292).toNat := fun v1292 k0_hw130 => k0_hw130.1
theorem k0_off260_inb : ∀ (v1292 : BitVec 32) (k0_hw130 : k0_chk130 v1292), ∀ a, (k0_off260 v1292) a + S8x128.size a ≤ S16384x128.size a := fun v1292 k0_hw130 => k0_hw130.2

def k0_off261 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c130_i32 : BitVec 32 := 130#32
  let v1299 : BitVec 32 := Scalar.addi v128 c130_i32
  let v1300 : Index := Scalar.indexCast v1299
  ![v1300.toNat]
def k0_mult131 (v1301 : BitVec 32) : BitVec 32 :=
  v1301

def k0_off262 (v1301 : BitVec 32) : Fin 2 → Nat :=
  let v1302 : BitVec 32 := v1301
  let v1303 : Index := Scalar.indexCast v1302
  let c0_370 : Index := 0#32
  ![v1303.toNat, 0]

def k0_chk131 (v1301 : BitVec 32) : Prop :=
  (8 ∣ (k0_mult131 v1301).toNat) ∧
  (∀ a, (k0_off262 v1301) a + S8x128.size a ≤ S16384x128.size a)
theorem k0_mult131_dvd : ∀ (v1301 : BitVec 32) (k0_hw131 : k0_chk131 v1301), 8 ∣ (k0_mult131 v1301).toNat := fun v1301 k0_hw131 => k0_hw131.1
theorem k0_off262_inb : ∀ (v1301 : BitVec 32) (k0_hw131 : k0_chk131 v1301), ∀ a, (k0_off262 v1301) a + S8x128.size a ≤ S16384x128.size a := fun v1301 k0_hw131 => k0_hw131.2

def k0_off263 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c131_i32 : BitVec 32 := 131#32
  let v1308 : BitVec 32 := Scalar.addi v128 c131_i32
  let v1309 : Index := Scalar.indexCast v1308
  ![v1309.toNat]
def k0_mult132 (v1310 : BitVec 32) : BitVec 32 :=
  v1310

def k0_off264 (v1310 : BitVec 32) : Fin 2 → Nat :=
  let v1311 : BitVec 32 := v1310
  let v1312 : Index := Scalar.indexCast v1311
  let c0_372 : Index := 0#32
  ![v1312.toNat, 0]

def k0_chk132 (v1310 : BitVec 32) : Prop :=
  (8 ∣ (k0_mult132 v1310).toNat) ∧
  (∀ a, (k0_off264 v1310) a + S8x128.size a ≤ S16384x128.size a)
theorem k0_mult132_dvd : ∀ (v1310 : BitVec 32) (k0_hw132 : k0_chk132 v1310), 8 ∣ (k0_mult132 v1310).toNat := fun v1310 k0_hw132 => k0_hw132.1
theorem k0_off264_inb : ∀ (v1310 : BitVec 32) (k0_hw132 : k0_chk132 v1310), ∀ a, (k0_off264 v1310) a + S8x128.size a ≤ S16384x128.size a := fun v1310 k0_hw132 => k0_hw132.2

def k0_off265 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c132_i32 : BitVec 32 := 132#32
  let v1317 : BitVec 32 := Scalar.addi v128 c132_i32
  let v1318 : Index := Scalar.indexCast v1317
  ![v1318.toNat]
def k0_mult133 (v1319 : BitVec 32) : BitVec 32 :=
  v1319

def k0_off266 (v1319 : BitVec 32) : Fin 2 → Nat :=
  let v1320 : BitVec 32 := v1319
  let v1321 : Index := Scalar.indexCast v1320
  let c0_374 : Index := 0#32
  ![v1321.toNat, 0]

def k0_chk133 (v1319 : BitVec 32) : Prop :=
  (8 ∣ (k0_mult133 v1319).toNat) ∧
  (∀ a, (k0_off266 v1319) a + S8x128.size a ≤ S16384x128.size a)
theorem k0_mult133_dvd : ∀ (v1319 : BitVec 32) (k0_hw133 : k0_chk133 v1319), 8 ∣ (k0_mult133 v1319).toNat := fun v1319 k0_hw133 => k0_hw133.1
theorem k0_off266_inb : ∀ (v1319 : BitVec 32) (k0_hw133 : k0_chk133 v1319), ∀ a, (k0_off266 v1319) a + S8x128.size a ≤ S16384x128.size a := fun v1319 k0_hw133 => k0_hw133.2

def k0_off267 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c133_i32 : BitVec 32 := 133#32
  let v1326 : BitVec 32 := Scalar.addi v128 c133_i32
  let v1327 : Index := Scalar.indexCast v1326
  ![v1327.toNat]
def k0_mult134 (v1328 : BitVec 32) : BitVec 32 :=
  v1328

def k0_off268 (v1328 : BitVec 32) : Fin 2 → Nat :=
  let v1329 : BitVec 32 := v1328
  let v1330 : Index := Scalar.indexCast v1329
  let c0_376 : Index := 0#32
  ![v1330.toNat, 0]

def k0_chk134 (v1328 : BitVec 32) : Prop :=
  (8 ∣ (k0_mult134 v1328).toNat) ∧
  (∀ a, (k0_off268 v1328) a + S8x128.size a ≤ S16384x128.size a)
theorem k0_mult134_dvd : ∀ (v1328 : BitVec 32) (k0_hw134 : k0_chk134 v1328), 8 ∣ (k0_mult134 v1328).toNat := fun v1328 k0_hw134 => k0_hw134.1
theorem k0_off268_inb : ∀ (v1328 : BitVec 32) (k0_hw134 : k0_chk134 v1328), ∀ a, (k0_off268 v1328) a + S8x128.size a ≤ S16384x128.size a := fun v1328 k0_hw134 => k0_hw134.2

def k0_off269 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c134_i32 : BitVec 32 := 134#32
  let v1335 : BitVec 32 := Scalar.addi v128 c134_i32
  let v1336 : Index := Scalar.indexCast v1335
  ![v1336.toNat]
def k0_mult135 (v1337 : BitVec 32) : BitVec 32 :=
  v1337

def k0_off270 (v1337 : BitVec 32) : Fin 2 → Nat :=
  let v1338 : BitVec 32 := v1337
  let v1339 : Index := Scalar.indexCast v1338
  let c0_378 : Index := 0#32
  ![v1339.toNat, 0]

def k0_chk135 (v1337 : BitVec 32) : Prop :=
  (8 ∣ (k0_mult135 v1337).toNat) ∧
  (∀ a, (k0_off270 v1337) a + S8x128.size a ≤ S16384x128.size a)
theorem k0_mult135_dvd : ∀ (v1337 : BitVec 32) (k0_hw135 : k0_chk135 v1337), 8 ∣ (k0_mult135 v1337).toNat := fun v1337 k0_hw135 => k0_hw135.1
theorem k0_off270_inb : ∀ (v1337 : BitVec 32) (k0_hw135 : k0_chk135 v1337), ∀ a, (k0_off270 v1337) a + S8x128.size a ≤ S16384x128.size a := fun v1337 k0_hw135 => k0_hw135.2

def k0_off271 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c135_i32 : BitVec 32 := 135#32
  let v1344 : BitVec 32 := Scalar.addi v128 c135_i32
  let v1345 : Index := Scalar.indexCast v1344
  ![v1345.toNat]
def k0_mult136 (v1346 : BitVec 32) : BitVec 32 :=
  v1346

def k0_off272 (v1346 : BitVec 32) : Fin 2 → Nat :=
  let v1347 : BitVec 32 := v1346
  let v1348 : Index := Scalar.indexCast v1347
  let c0_380 : Index := 0#32
  ![v1348.toNat, 0]

def k0_chk136 (v1346 : BitVec 32) : Prop :=
  (8 ∣ (k0_mult136 v1346).toNat) ∧
  (∀ a, (k0_off272 v1346) a + S8x128.size a ≤ S16384x128.size a)
theorem k0_mult136_dvd : ∀ (v1346 : BitVec 32) (k0_hw136 : k0_chk136 v1346), 8 ∣ (k0_mult136 v1346).toNat := fun v1346 k0_hw136 => k0_hw136.1
theorem k0_off272_inb : ∀ (v1346 : BitVec 32) (k0_hw136 : k0_chk136 v1346), ∀ a, (k0_off272 v1346) a + S8x128.size a ≤ S16384x128.size a := fun v1346 k0_hw136 => k0_hw136.2

def k0_off273 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c136_i32 : BitVec 32 := 136#32
  let v1353 : BitVec 32 := Scalar.addi v128 c136_i32
  let v1354 : Index := Scalar.indexCast v1353
  ![v1354.toNat]
def k0_mult137 (v1355 : BitVec 32) : BitVec 32 :=
  v1355

def k0_off274 (v1355 : BitVec 32) : Fin 2 → Nat :=
  let v1356 : BitVec 32 := v1355
  let v1357 : Index := Scalar.indexCast v1356
  let c0_382 : Index := 0#32
  ![v1357.toNat, 0]

def k0_chk137 (v1355 : BitVec 32) : Prop :=
  (8 ∣ (k0_mult137 v1355).toNat) ∧
  (∀ a, (k0_off274 v1355) a + S8x128.size a ≤ S16384x128.size a)
theorem k0_mult137_dvd : ∀ (v1355 : BitVec 32) (k0_hw137 : k0_chk137 v1355), 8 ∣ (k0_mult137 v1355).toNat := fun v1355 k0_hw137 => k0_hw137.1
theorem k0_off274_inb : ∀ (v1355 : BitVec 32) (k0_hw137 : k0_chk137 v1355), ∀ a, (k0_off274 v1355) a + S8x128.size a ≤ S16384x128.size a := fun v1355 k0_hw137 => k0_hw137.2

def k0_off275 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c137_i32 : BitVec 32 := 137#32
  let v1362 : BitVec 32 := Scalar.addi v128 c137_i32
  let v1363 : Index := Scalar.indexCast v1362
  ![v1363.toNat]
def k0_mult138 (v1364 : BitVec 32) : BitVec 32 :=
  v1364

def k0_off276 (v1364 : BitVec 32) : Fin 2 → Nat :=
  let v1365 : BitVec 32 := v1364
  let v1366 : Index := Scalar.indexCast v1365
  let c0_384 : Index := 0#32
  ![v1366.toNat, 0]

def k0_chk138 (v1364 : BitVec 32) : Prop :=
  (8 ∣ (k0_mult138 v1364).toNat) ∧
  (∀ a, (k0_off276 v1364) a + S8x128.size a ≤ S16384x128.size a)
theorem k0_mult138_dvd : ∀ (v1364 : BitVec 32) (k0_hw138 : k0_chk138 v1364), 8 ∣ (k0_mult138 v1364).toNat := fun v1364 k0_hw138 => k0_hw138.1
theorem k0_off276_inb : ∀ (v1364 : BitVec 32) (k0_hw138 : k0_chk138 v1364), ∀ a, (k0_off276 v1364) a + S8x128.size a ≤ S16384x128.size a := fun v1364 k0_hw138 => k0_hw138.2

def k0_off277 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c138_i32 : BitVec 32 := 138#32
  let v1371 : BitVec 32 := Scalar.addi v128 c138_i32
  let v1372 : Index := Scalar.indexCast v1371
  ![v1372.toNat]
def k0_mult139 (v1373 : BitVec 32) : BitVec 32 :=
  v1373

def k0_off278 (v1373 : BitVec 32) : Fin 2 → Nat :=
  let v1374 : BitVec 32 := v1373
  let v1375 : Index := Scalar.indexCast v1374
  let c0_386 : Index := 0#32
  ![v1375.toNat, 0]

def k0_chk139 (v1373 : BitVec 32) : Prop :=
  (8 ∣ (k0_mult139 v1373).toNat) ∧
  (∀ a, (k0_off278 v1373) a + S8x128.size a ≤ S16384x128.size a)
theorem k0_mult139_dvd : ∀ (v1373 : BitVec 32) (k0_hw139 : k0_chk139 v1373), 8 ∣ (k0_mult139 v1373).toNat := fun v1373 k0_hw139 => k0_hw139.1
theorem k0_off278_inb : ∀ (v1373 : BitVec 32) (k0_hw139 : k0_chk139 v1373), ∀ a, (k0_off278 v1373) a + S8x128.size a ≤ S16384x128.size a := fun v1373 k0_hw139 => k0_hw139.2

def k0_off279 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c139_i32 : BitVec 32 := 139#32
  let v1380 : BitVec 32 := Scalar.addi v128 c139_i32
  let v1381 : Index := Scalar.indexCast v1380
  ![v1381.toNat]
def k0_mult140 (v1382 : BitVec 32) : BitVec 32 :=
  v1382

def k0_off280 (v1382 : BitVec 32) : Fin 2 → Nat :=
  let v1383 : BitVec 32 := v1382
  let v1384 : Index := Scalar.indexCast v1383
  let c0_388 : Index := 0#32
  ![v1384.toNat, 0]

def k0_chk140 (v1382 : BitVec 32) : Prop :=
  (8 ∣ (k0_mult140 v1382).toNat) ∧
  (∀ a, (k0_off280 v1382) a + S8x128.size a ≤ S16384x128.size a)
theorem k0_mult140_dvd : ∀ (v1382 : BitVec 32) (k0_hw140 : k0_chk140 v1382), 8 ∣ (k0_mult140 v1382).toNat := fun v1382 k0_hw140 => k0_hw140.1
theorem k0_off280_inb : ∀ (v1382 : BitVec 32) (k0_hw140 : k0_chk140 v1382), ∀ a, (k0_off280 v1382) a + S8x128.size a ≤ S16384x128.size a := fun v1382 k0_hw140 => k0_hw140.2

def k0_off281 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c140_i32 : BitVec 32 := 140#32
  let v1389 : BitVec 32 := Scalar.addi v128 c140_i32
  let v1390 : Index := Scalar.indexCast v1389
  ![v1390.toNat]
def k0_mult141 (v1391 : BitVec 32) : BitVec 32 :=
  v1391

def k0_off282 (v1391 : BitVec 32) : Fin 2 → Nat :=
  let v1392 : BitVec 32 := v1391
  let v1393 : Index := Scalar.indexCast v1392
  let c0_390 : Index := 0#32
  ![v1393.toNat, 0]

def k0_chk141 (v1391 : BitVec 32) : Prop :=
  (8 ∣ (k0_mult141 v1391).toNat) ∧
  (∀ a, (k0_off282 v1391) a + S8x128.size a ≤ S16384x128.size a)
theorem k0_mult141_dvd : ∀ (v1391 : BitVec 32) (k0_hw141 : k0_chk141 v1391), 8 ∣ (k0_mult141 v1391).toNat := fun v1391 k0_hw141 => k0_hw141.1
theorem k0_off282_inb : ∀ (v1391 : BitVec 32) (k0_hw141 : k0_chk141 v1391), ∀ a, (k0_off282 v1391) a + S8x128.size a ≤ S16384x128.size a := fun v1391 k0_hw141 => k0_hw141.2

def k0_off283 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c141_i32 : BitVec 32 := 141#32
  let v1398 : BitVec 32 := Scalar.addi v128 c141_i32
  let v1399 : Index := Scalar.indexCast v1398
  ![v1399.toNat]
def k0_mult142 (v1400 : BitVec 32) : BitVec 32 :=
  v1400

def k0_off284 (v1400 : BitVec 32) : Fin 2 → Nat :=
  let v1401 : BitVec 32 := v1400
  let v1402 : Index := Scalar.indexCast v1401
  let c0_392 : Index := 0#32
  ![v1402.toNat, 0]

def k0_chk142 (v1400 : BitVec 32) : Prop :=
  (8 ∣ (k0_mult142 v1400).toNat) ∧
  (∀ a, (k0_off284 v1400) a + S8x128.size a ≤ S16384x128.size a)
theorem k0_mult142_dvd : ∀ (v1400 : BitVec 32) (k0_hw142 : k0_chk142 v1400), 8 ∣ (k0_mult142 v1400).toNat := fun v1400 k0_hw142 => k0_hw142.1
theorem k0_off284_inb : ∀ (v1400 : BitVec 32) (k0_hw142 : k0_chk142 v1400), ∀ a, (k0_off284 v1400) a + S8x128.size a ≤ S16384x128.size a := fun v1400 k0_hw142 => k0_hw142.2

def k0_off285 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c142_i32 : BitVec 32 := 142#32
  let v1407 : BitVec 32 := Scalar.addi v128 c142_i32
  let v1408 : Index := Scalar.indexCast v1407
  ![v1408.toNat]
def k0_mult143 (v1409 : BitVec 32) : BitVec 32 :=
  v1409

def k0_off286 (v1409 : BitVec 32) : Fin 2 → Nat :=
  let v1410 : BitVec 32 := v1409
  let v1411 : Index := Scalar.indexCast v1410
  let c0_394 : Index := 0#32
  ![v1411.toNat, 0]

def k0_chk143 (v1409 : BitVec 32) : Prop :=
  (8 ∣ (k0_mult143 v1409).toNat) ∧
  (∀ a, (k0_off286 v1409) a + S8x128.size a ≤ S16384x128.size a)
theorem k0_mult143_dvd : ∀ (v1409 : BitVec 32) (k0_hw143 : k0_chk143 v1409), 8 ∣ (k0_mult143 v1409).toNat := fun v1409 k0_hw143 => k0_hw143.1
theorem k0_off286_inb : ∀ (v1409 : BitVec 32) (k0_hw143 : k0_chk143 v1409), ∀ a, (k0_off286 v1409) a + S8x128.size a ≤ S16384x128.size a := fun v1409 k0_hw143 => k0_hw143.2

def k0_off287 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c143_i32 : BitVec 32 := 143#32
  let v1416 : BitVec 32 := Scalar.addi v128 c143_i32
  let v1417 : Index := Scalar.indexCast v1416
  ![v1417.toNat]
def k0_mult144 (v1418 : BitVec 32) : BitVec 32 :=
  v1418

def k0_off288 (v1418 : BitVec 32) : Fin 2 → Nat :=
  let v1419 : BitVec 32 := v1418
  let v1420 : Index := Scalar.indexCast v1419
  let c0_396 : Index := 0#32
  ![v1420.toNat, 0]

def k0_chk144 (v1418 : BitVec 32) : Prop :=
  (8 ∣ (k0_mult144 v1418).toNat) ∧
  (∀ a, (k0_off288 v1418) a + S8x128.size a ≤ S16384x128.size a)
theorem k0_mult144_dvd : ∀ (v1418 : BitVec 32) (k0_hw144 : k0_chk144 v1418), 8 ∣ (k0_mult144 v1418).toNat := fun v1418 k0_hw144 => k0_hw144.1
theorem k0_off288_inb : ∀ (v1418 : BitVec 32) (k0_hw144 : k0_chk144 v1418), ∀ a, (k0_off288 v1418) a + S8x128.size a ≤ S16384x128.size a := fun v1418 k0_hw144 => k0_hw144.2

def k0_off289 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c144_i32 : BitVec 32 := 144#32
  let v1425 : BitVec 32 := Scalar.addi v128 c144_i32
  let v1426 : Index := Scalar.indexCast v1425
  ![v1426.toNat]
def k0_mult145 (v1427 : BitVec 32) : BitVec 32 :=
  v1427

def k0_off290 (v1427 : BitVec 32) : Fin 2 → Nat :=
  let v1428 : BitVec 32 := v1427
  let v1429 : Index := Scalar.indexCast v1428
  let c0_398 : Index := 0#32
  ![v1429.toNat, 0]

def k0_chk145 (v1427 : BitVec 32) : Prop :=
  (8 ∣ (k0_mult145 v1427).toNat) ∧
  (∀ a, (k0_off290 v1427) a + S8x128.size a ≤ S16384x128.size a)
theorem k0_mult145_dvd : ∀ (v1427 : BitVec 32) (k0_hw145 : k0_chk145 v1427), 8 ∣ (k0_mult145 v1427).toNat := fun v1427 k0_hw145 => k0_hw145.1
theorem k0_off290_inb : ∀ (v1427 : BitVec 32) (k0_hw145 : k0_chk145 v1427), ∀ a, (k0_off290 v1427) a + S8x128.size a ≤ S16384x128.size a := fun v1427 k0_hw145 => k0_hw145.2

def k0_off291 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c145_i32 : BitVec 32 := 145#32
  let v1434 : BitVec 32 := Scalar.addi v128 c145_i32
  let v1435 : Index := Scalar.indexCast v1434
  ![v1435.toNat]
def k0_mult146 (v1436 : BitVec 32) : BitVec 32 :=
  v1436

def k0_off292 (v1436 : BitVec 32) : Fin 2 → Nat :=
  let v1437 : BitVec 32 := v1436
  let v1438 : Index := Scalar.indexCast v1437
  let c0_400 : Index := 0#32
  ![v1438.toNat, 0]

def k0_chk146 (v1436 : BitVec 32) : Prop :=
  (8 ∣ (k0_mult146 v1436).toNat) ∧
  (∀ a, (k0_off292 v1436) a + S8x128.size a ≤ S16384x128.size a)
theorem k0_mult146_dvd : ∀ (v1436 : BitVec 32) (k0_hw146 : k0_chk146 v1436), 8 ∣ (k0_mult146 v1436).toNat := fun v1436 k0_hw146 => k0_hw146.1
theorem k0_off292_inb : ∀ (v1436 : BitVec 32) (k0_hw146 : k0_chk146 v1436), ∀ a, (k0_off292 v1436) a + S8x128.size a ≤ S16384x128.size a := fun v1436 k0_hw146 => k0_hw146.2

def k0_off293 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c146_i32 : BitVec 32 := 146#32
  let v1443 : BitVec 32 := Scalar.addi v128 c146_i32
  let v1444 : Index := Scalar.indexCast v1443
  ![v1444.toNat]
def k0_mult147 (v1445 : BitVec 32) : BitVec 32 :=
  v1445

def k0_off294 (v1445 : BitVec 32) : Fin 2 → Nat :=
  let v1446 : BitVec 32 := v1445
  let v1447 : Index := Scalar.indexCast v1446
  let c0_402 : Index := 0#32
  ![v1447.toNat, 0]

def k0_chk147 (v1445 : BitVec 32) : Prop :=
  (8 ∣ (k0_mult147 v1445).toNat) ∧
  (∀ a, (k0_off294 v1445) a + S8x128.size a ≤ S16384x128.size a)
theorem k0_mult147_dvd : ∀ (v1445 : BitVec 32) (k0_hw147 : k0_chk147 v1445), 8 ∣ (k0_mult147 v1445).toNat := fun v1445 k0_hw147 => k0_hw147.1
theorem k0_off294_inb : ∀ (v1445 : BitVec 32) (k0_hw147 : k0_chk147 v1445), ∀ a, (k0_off294 v1445) a + S8x128.size a ≤ S16384x128.size a := fun v1445 k0_hw147 => k0_hw147.2

def k0_off295 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c147_i32 : BitVec 32 := 147#32
  let v1452 : BitVec 32 := Scalar.addi v128 c147_i32
  let v1453 : Index := Scalar.indexCast v1452
  ![v1453.toNat]
def k0_mult148 (v1454 : BitVec 32) : BitVec 32 :=
  v1454

def k0_off296 (v1454 : BitVec 32) : Fin 2 → Nat :=
  let v1455 : BitVec 32 := v1454
  let v1456 : Index := Scalar.indexCast v1455
  let c0_404 : Index := 0#32
  ![v1456.toNat, 0]

def k0_chk148 (v1454 : BitVec 32) : Prop :=
  (8 ∣ (k0_mult148 v1454).toNat) ∧
  (∀ a, (k0_off296 v1454) a + S8x128.size a ≤ S16384x128.size a)
theorem k0_mult148_dvd : ∀ (v1454 : BitVec 32) (k0_hw148 : k0_chk148 v1454), 8 ∣ (k0_mult148 v1454).toNat := fun v1454 k0_hw148 => k0_hw148.1
theorem k0_off296_inb : ∀ (v1454 : BitVec 32) (k0_hw148 : k0_chk148 v1454), ∀ a, (k0_off296 v1454) a + S8x128.size a ≤ S16384x128.size a := fun v1454 k0_hw148 => k0_hw148.2

def k0_off297 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c148_i32 : BitVec 32 := 148#32
  let v1461 : BitVec 32 := Scalar.addi v128 c148_i32
  let v1462 : Index := Scalar.indexCast v1461
  ![v1462.toNat]
def k0_mult149 (v1463 : BitVec 32) : BitVec 32 :=
  v1463

def k0_off298 (v1463 : BitVec 32) : Fin 2 → Nat :=
  let v1464 : BitVec 32 := v1463
  let v1465 : Index := Scalar.indexCast v1464
  let c0_406 : Index := 0#32
  ![v1465.toNat, 0]

def k0_chk149 (v1463 : BitVec 32) : Prop :=
  (8 ∣ (k0_mult149 v1463).toNat) ∧
  (∀ a, (k0_off298 v1463) a + S8x128.size a ≤ S16384x128.size a)
theorem k0_mult149_dvd : ∀ (v1463 : BitVec 32) (k0_hw149 : k0_chk149 v1463), 8 ∣ (k0_mult149 v1463).toNat := fun v1463 k0_hw149 => k0_hw149.1
theorem k0_off298_inb : ∀ (v1463 : BitVec 32) (k0_hw149 : k0_chk149 v1463), ∀ a, (k0_off298 v1463) a + S8x128.size a ≤ S16384x128.size a := fun v1463 k0_hw149 => k0_hw149.2

def k0_off299 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c149_i32 : BitVec 32 := 149#32
  let v1470 : BitVec 32 := Scalar.addi v128 c149_i32
  let v1471 : Index := Scalar.indexCast v1470
  ![v1471.toNat]
def k0_mult150 (v1472 : BitVec 32) : BitVec 32 :=
  v1472

def k0_off300 (v1472 : BitVec 32) : Fin 2 → Nat :=
  let v1473 : BitVec 32 := v1472
  let v1474 : Index := Scalar.indexCast v1473
  let c0_408 : Index := 0#32
  ![v1474.toNat, 0]

def k0_chk150 (v1472 : BitVec 32) : Prop :=
  (8 ∣ (k0_mult150 v1472).toNat) ∧
  (∀ a, (k0_off300 v1472) a + S8x128.size a ≤ S16384x128.size a)
theorem k0_mult150_dvd : ∀ (v1472 : BitVec 32) (k0_hw150 : k0_chk150 v1472), 8 ∣ (k0_mult150 v1472).toNat := fun v1472 k0_hw150 => k0_hw150.1
theorem k0_off300_inb : ∀ (v1472 : BitVec 32) (k0_hw150 : k0_chk150 v1472), ∀ a, (k0_off300 v1472) a + S8x128.size a ≤ S16384x128.size a := fun v1472 k0_hw150 => k0_hw150.2

def k0_off301 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c150_i32 : BitVec 32 := 150#32
  let v1479 : BitVec 32 := Scalar.addi v128 c150_i32
  let v1480 : Index := Scalar.indexCast v1479
  ![v1480.toNat]
def k0_mult151 (v1481 : BitVec 32) : BitVec 32 :=
  v1481

def k0_off302 (v1481 : BitVec 32) : Fin 2 → Nat :=
  let v1482 : BitVec 32 := v1481
  let v1483 : Index := Scalar.indexCast v1482
  let c0_410 : Index := 0#32
  ![v1483.toNat, 0]

def k0_chk151 (v1481 : BitVec 32) : Prop :=
  (8 ∣ (k0_mult151 v1481).toNat) ∧
  (∀ a, (k0_off302 v1481) a + S8x128.size a ≤ S16384x128.size a)
theorem k0_mult151_dvd : ∀ (v1481 : BitVec 32) (k0_hw151 : k0_chk151 v1481), 8 ∣ (k0_mult151 v1481).toNat := fun v1481 k0_hw151 => k0_hw151.1
theorem k0_off302_inb : ∀ (v1481 : BitVec 32) (k0_hw151 : k0_chk151 v1481), ∀ a, (k0_off302 v1481) a + S8x128.size a ≤ S16384x128.size a := fun v1481 k0_hw151 => k0_hw151.2

def k0_off303 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c151_i32 : BitVec 32 := 151#32
  let v1488 : BitVec 32 := Scalar.addi v128 c151_i32
  let v1489 : Index := Scalar.indexCast v1488
  ![v1489.toNat]
def k0_mult152 (v1490 : BitVec 32) : BitVec 32 :=
  v1490

def k0_off304 (v1490 : BitVec 32) : Fin 2 → Nat :=
  let v1491 : BitVec 32 := v1490
  let v1492 : Index := Scalar.indexCast v1491
  let c0_412 : Index := 0#32
  ![v1492.toNat, 0]

def k0_chk152 (v1490 : BitVec 32) : Prop :=
  (8 ∣ (k0_mult152 v1490).toNat) ∧
  (∀ a, (k0_off304 v1490) a + S8x128.size a ≤ S16384x128.size a)
theorem k0_mult152_dvd : ∀ (v1490 : BitVec 32) (k0_hw152 : k0_chk152 v1490), 8 ∣ (k0_mult152 v1490).toNat := fun v1490 k0_hw152 => k0_hw152.1
theorem k0_off304_inb : ∀ (v1490 : BitVec 32) (k0_hw152 : k0_chk152 v1490), ∀ a, (k0_off304 v1490) a + S8x128.size a ≤ S16384x128.size a := fun v1490 k0_hw152 => k0_hw152.2

def k0_off305 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c152_i32 : BitVec 32 := 152#32
  let v1497 : BitVec 32 := Scalar.addi v128 c152_i32
  let v1498 : Index := Scalar.indexCast v1497
  ![v1498.toNat]
def k0_mult153 (v1499 : BitVec 32) : BitVec 32 :=
  v1499

def k0_off306 (v1499 : BitVec 32) : Fin 2 → Nat :=
  let v1500 : BitVec 32 := v1499
  let v1501 : Index := Scalar.indexCast v1500
  let c0_414 : Index := 0#32
  ![v1501.toNat, 0]

def k0_chk153 (v1499 : BitVec 32) : Prop :=
  (8 ∣ (k0_mult153 v1499).toNat) ∧
  (∀ a, (k0_off306 v1499) a + S8x128.size a ≤ S16384x128.size a)
theorem k0_mult153_dvd : ∀ (v1499 : BitVec 32) (k0_hw153 : k0_chk153 v1499), 8 ∣ (k0_mult153 v1499).toNat := fun v1499 k0_hw153 => k0_hw153.1
theorem k0_off306_inb : ∀ (v1499 : BitVec 32) (k0_hw153 : k0_chk153 v1499), ∀ a, (k0_off306 v1499) a + S8x128.size a ≤ S16384x128.size a := fun v1499 k0_hw153 => k0_hw153.2

def k0_off307 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c153_i32 : BitVec 32 := 153#32
  let v1506 : BitVec 32 := Scalar.addi v128 c153_i32
  let v1507 : Index := Scalar.indexCast v1506
  ![v1507.toNat]
def k0_mult154 (v1508 : BitVec 32) : BitVec 32 :=
  v1508

def k0_off308 (v1508 : BitVec 32) : Fin 2 → Nat :=
  let v1509 : BitVec 32 := v1508
  let v1510 : Index := Scalar.indexCast v1509
  let c0_416 : Index := 0#32
  ![v1510.toNat, 0]

def k0_chk154 (v1508 : BitVec 32) : Prop :=
  (8 ∣ (k0_mult154 v1508).toNat) ∧
  (∀ a, (k0_off308 v1508) a + S8x128.size a ≤ S16384x128.size a)
theorem k0_mult154_dvd : ∀ (v1508 : BitVec 32) (k0_hw154 : k0_chk154 v1508), 8 ∣ (k0_mult154 v1508).toNat := fun v1508 k0_hw154 => k0_hw154.1
theorem k0_off308_inb : ∀ (v1508 : BitVec 32) (k0_hw154 : k0_chk154 v1508), ∀ a, (k0_off308 v1508) a + S8x128.size a ≤ S16384x128.size a := fun v1508 k0_hw154 => k0_hw154.2

def k0_off309 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c154_i32 : BitVec 32 := 154#32
  let v1515 : BitVec 32 := Scalar.addi v128 c154_i32
  let v1516 : Index := Scalar.indexCast v1515
  ![v1516.toNat]
def k0_mult155 (v1517 : BitVec 32) : BitVec 32 :=
  v1517

def k0_off310 (v1517 : BitVec 32) : Fin 2 → Nat :=
  let v1518 : BitVec 32 := v1517
  let v1519 : Index := Scalar.indexCast v1518
  let c0_418 : Index := 0#32
  ![v1519.toNat, 0]

def k0_chk155 (v1517 : BitVec 32) : Prop :=
  (8 ∣ (k0_mult155 v1517).toNat) ∧
  (∀ a, (k0_off310 v1517) a + S8x128.size a ≤ S16384x128.size a)
theorem k0_mult155_dvd : ∀ (v1517 : BitVec 32) (k0_hw155 : k0_chk155 v1517), 8 ∣ (k0_mult155 v1517).toNat := fun v1517 k0_hw155 => k0_hw155.1
theorem k0_off310_inb : ∀ (v1517 : BitVec 32) (k0_hw155 : k0_chk155 v1517), ∀ a, (k0_off310 v1517) a + S8x128.size a ≤ S16384x128.size a := fun v1517 k0_hw155 => k0_hw155.2

def k0_off311 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c155_i32 : BitVec 32 := 155#32
  let v1524 : BitVec 32 := Scalar.addi v128 c155_i32
  let v1525 : Index := Scalar.indexCast v1524
  ![v1525.toNat]
def k0_mult156 (v1526 : BitVec 32) : BitVec 32 :=
  v1526

def k0_off312 (v1526 : BitVec 32) : Fin 2 → Nat :=
  let v1527 : BitVec 32 := v1526
  let v1528 : Index := Scalar.indexCast v1527
  let c0_420 : Index := 0#32
  ![v1528.toNat, 0]

def k0_chk156 (v1526 : BitVec 32) : Prop :=
  (8 ∣ (k0_mult156 v1526).toNat) ∧
  (∀ a, (k0_off312 v1526) a + S8x128.size a ≤ S16384x128.size a)
theorem k0_mult156_dvd : ∀ (v1526 : BitVec 32) (k0_hw156 : k0_chk156 v1526), 8 ∣ (k0_mult156 v1526).toNat := fun v1526 k0_hw156 => k0_hw156.1
theorem k0_off312_inb : ∀ (v1526 : BitVec 32) (k0_hw156 : k0_chk156 v1526), ∀ a, (k0_off312 v1526) a + S8x128.size a ≤ S16384x128.size a := fun v1526 k0_hw156 => k0_hw156.2

def k0_off313 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c156_i32 : BitVec 32 := 156#32
  let v1533 : BitVec 32 := Scalar.addi v128 c156_i32
  let v1534 : Index := Scalar.indexCast v1533
  ![v1534.toNat]
def k0_mult157 (v1535 : BitVec 32) : BitVec 32 :=
  v1535

def k0_off314 (v1535 : BitVec 32) : Fin 2 → Nat :=
  let v1536 : BitVec 32 := v1535
  let v1537 : Index := Scalar.indexCast v1536
  let c0_422 : Index := 0#32
  ![v1537.toNat, 0]

def k0_chk157 (v1535 : BitVec 32) : Prop :=
  (8 ∣ (k0_mult157 v1535).toNat) ∧
  (∀ a, (k0_off314 v1535) a + S8x128.size a ≤ S16384x128.size a)
theorem k0_mult157_dvd : ∀ (v1535 : BitVec 32) (k0_hw157 : k0_chk157 v1535), 8 ∣ (k0_mult157 v1535).toNat := fun v1535 k0_hw157 => k0_hw157.1
theorem k0_off314_inb : ∀ (v1535 : BitVec 32) (k0_hw157 : k0_chk157 v1535), ∀ a, (k0_off314 v1535) a + S8x128.size a ≤ S16384x128.size a := fun v1535 k0_hw157 => k0_hw157.2

def k0_off315 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c157_i32 : BitVec 32 := 157#32
  let v1542 : BitVec 32 := Scalar.addi v128 c157_i32
  let v1543 : Index := Scalar.indexCast v1542
  ![v1543.toNat]
def k0_mult158 (v1544 : BitVec 32) : BitVec 32 :=
  v1544

def k0_off316 (v1544 : BitVec 32) : Fin 2 → Nat :=
  let v1545 : BitVec 32 := v1544
  let v1546 : Index := Scalar.indexCast v1545
  let c0_424 : Index := 0#32
  ![v1546.toNat, 0]

def k0_chk158 (v1544 : BitVec 32) : Prop :=
  (8 ∣ (k0_mult158 v1544).toNat) ∧
  (∀ a, (k0_off316 v1544) a + S8x128.size a ≤ S16384x128.size a)
theorem k0_mult158_dvd : ∀ (v1544 : BitVec 32) (k0_hw158 : k0_chk158 v1544), 8 ∣ (k0_mult158 v1544).toNat := fun v1544 k0_hw158 => k0_hw158.1
theorem k0_off316_inb : ∀ (v1544 : BitVec 32) (k0_hw158 : k0_chk158 v1544), ∀ a, (k0_off316 v1544) a + S8x128.size a ≤ S16384x128.size a := fun v1544 k0_hw158 => k0_hw158.2

def k0_off317 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c158_i32 : BitVec 32 := 158#32
  let v1551 : BitVec 32 := Scalar.addi v128 c158_i32
  let v1552 : Index := Scalar.indexCast v1551
  ![v1552.toNat]
def k0_mult159 (v1553 : BitVec 32) : BitVec 32 :=
  v1553

def k0_off318 (v1553 : BitVec 32) : Fin 2 → Nat :=
  let v1554 : BitVec 32 := v1553
  let v1555 : Index := Scalar.indexCast v1554
  let c0_426 : Index := 0#32
  ![v1555.toNat, 0]

def k0_chk159 (v1553 : BitVec 32) : Prop :=
  (8 ∣ (k0_mult159 v1553).toNat) ∧
  (∀ a, (k0_off318 v1553) a + S8x128.size a ≤ S16384x128.size a)
theorem k0_mult159_dvd : ∀ (v1553 : BitVec 32) (k0_hw159 : k0_chk159 v1553), 8 ∣ (k0_mult159 v1553).toNat := fun v1553 k0_hw159 => k0_hw159.1
theorem k0_off318_inb : ∀ (v1553 : BitVec 32) (k0_hw159 : k0_chk159 v1553), ∀ a, (k0_off318 v1553) a + S8x128.size a ≤ S16384x128.size a := fun v1553 k0_hw159 => k0_hw159.2

def k0_off319 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c159_i32 : BitVec 32 := 159#32
  let v1560 : BitVec 32 := Scalar.addi v128 c159_i32
  let v1561 : Index := Scalar.indexCast v1560
  ![v1561.toNat]
def k0_mult160 (v1562 : BitVec 32) : BitVec 32 :=
  v1562

def k0_off320 (v1562 : BitVec 32) : Fin 2 → Nat :=
  let v1563 : BitVec 32 := v1562
  let v1564 : Index := Scalar.indexCast v1563
  let c0_428 : Index := 0#32
  ![v1564.toNat, 0]

def k0_chk160 (v1562 : BitVec 32) : Prop :=
  (8 ∣ (k0_mult160 v1562).toNat) ∧
  (∀ a, (k0_off320 v1562) a + S8x128.size a ≤ S16384x128.size a)
theorem k0_mult160_dvd : ∀ (v1562 : BitVec 32) (k0_hw160 : k0_chk160 v1562), 8 ∣ (k0_mult160 v1562).toNat := fun v1562 k0_hw160 => k0_hw160.1
theorem k0_off320_inb : ∀ (v1562 : BitVec 32) (k0_hw160 : k0_chk160 v1562), ∀ a, (k0_off320 v1562) a + S8x128.size a ≤ S16384x128.size a := fun v1562 k0_hw160 => k0_hw160.2

def k0_off321 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c160_i32 : BitVec 32 := 160#32
  let v1569 : BitVec 32 := Scalar.addi v128 c160_i32
  let v1570 : Index := Scalar.indexCast v1569
  ![v1570.toNat]
def k0_mult161 (v1571 : BitVec 32) : BitVec 32 :=
  v1571

def k0_off322 (v1571 : BitVec 32) : Fin 2 → Nat :=
  let v1572 : BitVec 32 := v1571
  let v1573 : Index := Scalar.indexCast v1572
  let c0_430 : Index := 0#32
  ![v1573.toNat, 0]

def k0_chk161 (v1571 : BitVec 32) : Prop :=
  (8 ∣ (k0_mult161 v1571).toNat) ∧
  (∀ a, (k0_off322 v1571) a + S8x128.size a ≤ S16384x128.size a)
theorem k0_mult161_dvd : ∀ (v1571 : BitVec 32) (k0_hw161 : k0_chk161 v1571), 8 ∣ (k0_mult161 v1571).toNat := fun v1571 k0_hw161 => k0_hw161.1
theorem k0_off322_inb : ∀ (v1571 : BitVec 32) (k0_hw161 : k0_chk161 v1571), ∀ a, (k0_off322 v1571) a + S8x128.size a ≤ S16384x128.size a := fun v1571 k0_hw161 => k0_hw161.2

def k0_off323 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c161_i32 : BitVec 32 := 161#32
  let v1578 : BitVec 32 := Scalar.addi v128 c161_i32
  let v1579 : Index := Scalar.indexCast v1578
  ![v1579.toNat]
def k0_mult162 (v1580 : BitVec 32) : BitVec 32 :=
  v1580

def k0_off324 (v1580 : BitVec 32) : Fin 2 → Nat :=
  let v1581 : BitVec 32 := v1580
  let v1582 : Index := Scalar.indexCast v1581
  let c0_432 : Index := 0#32
  ![v1582.toNat, 0]

def k0_chk162 (v1580 : BitVec 32) : Prop :=
  (8 ∣ (k0_mult162 v1580).toNat) ∧
  (∀ a, (k0_off324 v1580) a + S8x128.size a ≤ S16384x128.size a)
theorem k0_mult162_dvd : ∀ (v1580 : BitVec 32) (k0_hw162 : k0_chk162 v1580), 8 ∣ (k0_mult162 v1580).toNat := fun v1580 k0_hw162 => k0_hw162.1
theorem k0_off324_inb : ∀ (v1580 : BitVec 32) (k0_hw162 : k0_chk162 v1580), ∀ a, (k0_off324 v1580) a + S8x128.size a ≤ S16384x128.size a := fun v1580 k0_hw162 => k0_hw162.2

def k0_off325 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c162_i32 : BitVec 32 := 162#32
  let v1587 : BitVec 32 := Scalar.addi v128 c162_i32
  let v1588 : Index := Scalar.indexCast v1587
  ![v1588.toNat]
def k0_mult163 (v1589 : BitVec 32) : BitVec 32 :=
  v1589

def k0_off326 (v1589 : BitVec 32) : Fin 2 → Nat :=
  let v1590 : BitVec 32 := v1589
  let v1591 : Index := Scalar.indexCast v1590
  let c0_434 : Index := 0#32
  ![v1591.toNat, 0]

def k0_chk163 (v1589 : BitVec 32) : Prop :=
  (8 ∣ (k0_mult163 v1589).toNat) ∧
  (∀ a, (k0_off326 v1589) a + S8x128.size a ≤ S16384x128.size a)
theorem k0_mult163_dvd : ∀ (v1589 : BitVec 32) (k0_hw163 : k0_chk163 v1589), 8 ∣ (k0_mult163 v1589).toNat := fun v1589 k0_hw163 => k0_hw163.1
theorem k0_off326_inb : ∀ (v1589 : BitVec 32) (k0_hw163 : k0_chk163 v1589), ∀ a, (k0_off326 v1589) a + S8x128.size a ≤ S16384x128.size a := fun v1589 k0_hw163 => k0_hw163.2

def k0_off327 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c163_i32 : BitVec 32 := 163#32
  let v1596 : BitVec 32 := Scalar.addi v128 c163_i32
  let v1597 : Index := Scalar.indexCast v1596
  ![v1597.toNat]
def k0_mult164 (v1598 : BitVec 32) : BitVec 32 :=
  v1598

def k0_off328 (v1598 : BitVec 32) : Fin 2 → Nat :=
  let v1599 : BitVec 32 := v1598
  let v1600 : Index := Scalar.indexCast v1599
  let c0_436 : Index := 0#32
  ![v1600.toNat, 0]

def k0_chk164 (v1598 : BitVec 32) : Prop :=
  (8 ∣ (k0_mult164 v1598).toNat) ∧
  (∀ a, (k0_off328 v1598) a + S8x128.size a ≤ S16384x128.size a)
theorem k0_mult164_dvd : ∀ (v1598 : BitVec 32) (k0_hw164 : k0_chk164 v1598), 8 ∣ (k0_mult164 v1598).toNat := fun v1598 k0_hw164 => k0_hw164.1
theorem k0_off328_inb : ∀ (v1598 : BitVec 32) (k0_hw164 : k0_chk164 v1598), ∀ a, (k0_off328 v1598) a + S8x128.size a ≤ S16384x128.size a := fun v1598 k0_hw164 => k0_hw164.2

def k0_off329 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c164_i32 : BitVec 32 := 164#32
  let v1605 : BitVec 32 := Scalar.addi v128 c164_i32
  let v1606 : Index := Scalar.indexCast v1605
  ![v1606.toNat]
def k0_mult165 (v1607 : BitVec 32) : BitVec 32 :=
  v1607

def k0_off330 (v1607 : BitVec 32) : Fin 2 → Nat :=
  let v1608 : BitVec 32 := v1607
  let v1609 : Index := Scalar.indexCast v1608
  let c0_438 : Index := 0#32
  ![v1609.toNat, 0]

def k0_chk165 (v1607 : BitVec 32) : Prop :=
  (8 ∣ (k0_mult165 v1607).toNat) ∧
  (∀ a, (k0_off330 v1607) a + S8x128.size a ≤ S16384x128.size a)
theorem k0_mult165_dvd : ∀ (v1607 : BitVec 32) (k0_hw165 : k0_chk165 v1607), 8 ∣ (k0_mult165 v1607).toNat := fun v1607 k0_hw165 => k0_hw165.1
theorem k0_off330_inb : ∀ (v1607 : BitVec 32) (k0_hw165 : k0_chk165 v1607), ∀ a, (k0_off330 v1607) a + S8x128.size a ≤ S16384x128.size a := fun v1607 k0_hw165 => k0_hw165.2

def k0_off331 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c165_i32 : BitVec 32 := 165#32
  let v1614 : BitVec 32 := Scalar.addi v128 c165_i32
  let v1615 : Index := Scalar.indexCast v1614
  ![v1615.toNat]
def k0_mult166 (v1616 : BitVec 32) : BitVec 32 :=
  v1616

def k0_off332 (v1616 : BitVec 32) : Fin 2 → Nat :=
  let v1617 : BitVec 32 := v1616
  let v1618 : Index := Scalar.indexCast v1617
  let c0_440 : Index := 0#32
  ![v1618.toNat, 0]

def k0_chk166 (v1616 : BitVec 32) : Prop :=
  (8 ∣ (k0_mult166 v1616).toNat) ∧
  (∀ a, (k0_off332 v1616) a + S8x128.size a ≤ S16384x128.size a)
theorem k0_mult166_dvd : ∀ (v1616 : BitVec 32) (k0_hw166 : k0_chk166 v1616), 8 ∣ (k0_mult166 v1616).toNat := fun v1616 k0_hw166 => k0_hw166.1
theorem k0_off332_inb : ∀ (v1616 : BitVec 32) (k0_hw166 : k0_chk166 v1616), ∀ a, (k0_off332 v1616) a + S8x128.size a ≤ S16384x128.size a := fun v1616 k0_hw166 => k0_hw166.2

def k0_off333 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c166_i32 : BitVec 32 := 166#32
  let v1623 : BitVec 32 := Scalar.addi v128 c166_i32
  let v1624 : Index := Scalar.indexCast v1623
  ![v1624.toNat]
def k0_mult167 (v1625 : BitVec 32) : BitVec 32 :=
  v1625

def k0_off334 (v1625 : BitVec 32) : Fin 2 → Nat :=
  let v1626 : BitVec 32 := v1625
  let v1627 : Index := Scalar.indexCast v1626
  let c0_442 : Index := 0#32
  ![v1627.toNat, 0]

def k0_chk167 (v1625 : BitVec 32) : Prop :=
  (8 ∣ (k0_mult167 v1625).toNat) ∧
  (∀ a, (k0_off334 v1625) a + S8x128.size a ≤ S16384x128.size a)
theorem k0_mult167_dvd : ∀ (v1625 : BitVec 32) (k0_hw167 : k0_chk167 v1625), 8 ∣ (k0_mult167 v1625).toNat := fun v1625 k0_hw167 => k0_hw167.1
theorem k0_off334_inb : ∀ (v1625 : BitVec 32) (k0_hw167 : k0_chk167 v1625), ∀ a, (k0_off334 v1625) a + S8x128.size a ≤ S16384x128.size a := fun v1625 k0_hw167 => k0_hw167.2

def k0_off335 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c167_i32 : BitVec 32 := 167#32
  let v1632 : BitVec 32 := Scalar.addi v128 c167_i32
  let v1633 : Index := Scalar.indexCast v1632
  ![v1633.toNat]
def k0_mult168 (v1634 : BitVec 32) : BitVec 32 :=
  v1634

def k0_off336 (v1634 : BitVec 32) : Fin 2 → Nat :=
  let v1635 : BitVec 32 := v1634
  let v1636 : Index := Scalar.indexCast v1635
  let c0_444 : Index := 0#32
  ![v1636.toNat, 0]

def k0_chk168 (v1634 : BitVec 32) : Prop :=
  (8 ∣ (k0_mult168 v1634).toNat) ∧
  (∀ a, (k0_off336 v1634) a + S8x128.size a ≤ S16384x128.size a)
theorem k0_mult168_dvd : ∀ (v1634 : BitVec 32) (k0_hw168 : k0_chk168 v1634), 8 ∣ (k0_mult168 v1634).toNat := fun v1634 k0_hw168 => k0_hw168.1
theorem k0_off336_inb : ∀ (v1634 : BitVec 32) (k0_hw168 : k0_chk168 v1634), ∀ a, (k0_off336 v1634) a + S8x128.size a ≤ S16384x128.size a := fun v1634 k0_hw168 => k0_hw168.2

def k0_off337 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c168_i32 : BitVec 32 := 168#32
  let v1641 : BitVec 32 := Scalar.addi v128 c168_i32
  let v1642 : Index := Scalar.indexCast v1641
  ![v1642.toNat]
def k0_mult169 (v1643 : BitVec 32) : BitVec 32 :=
  v1643

def k0_off338 (v1643 : BitVec 32) : Fin 2 → Nat :=
  let v1644 : BitVec 32 := v1643
  let v1645 : Index := Scalar.indexCast v1644
  let c0_446 : Index := 0#32
  ![v1645.toNat, 0]

def k0_chk169 (v1643 : BitVec 32) : Prop :=
  (8 ∣ (k0_mult169 v1643).toNat) ∧
  (∀ a, (k0_off338 v1643) a + S8x128.size a ≤ S16384x128.size a)
theorem k0_mult169_dvd : ∀ (v1643 : BitVec 32) (k0_hw169 : k0_chk169 v1643), 8 ∣ (k0_mult169 v1643).toNat := fun v1643 k0_hw169 => k0_hw169.1
theorem k0_off338_inb : ∀ (v1643 : BitVec 32) (k0_hw169 : k0_chk169 v1643), ∀ a, (k0_off338 v1643) a + S8x128.size a ≤ S16384x128.size a := fun v1643 k0_hw169 => k0_hw169.2

def k0_off339 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c169_i32 : BitVec 32 := 169#32
  let v1650 : BitVec 32 := Scalar.addi v128 c169_i32
  let v1651 : Index := Scalar.indexCast v1650
  ![v1651.toNat]
def k0_mult170 (v1652 : BitVec 32) : BitVec 32 :=
  v1652

def k0_off340 (v1652 : BitVec 32) : Fin 2 → Nat :=
  let v1653 : BitVec 32 := v1652
  let v1654 : Index := Scalar.indexCast v1653
  let c0_448 : Index := 0#32
  ![v1654.toNat, 0]

def k0_chk170 (v1652 : BitVec 32) : Prop :=
  (8 ∣ (k0_mult170 v1652).toNat) ∧
  (∀ a, (k0_off340 v1652) a + S8x128.size a ≤ S16384x128.size a)
theorem k0_mult170_dvd : ∀ (v1652 : BitVec 32) (k0_hw170 : k0_chk170 v1652), 8 ∣ (k0_mult170 v1652).toNat := fun v1652 k0_hw170 => k0_hw170.1
theorem k0_off340_inb : ∀ (v1652 : BitVec 32) (k0_hw170 : k0_chk170 v1652), ∀ a, (k0_off340 v1652) a + S8x128.size a ≤ S16384x128.size a := fun v1652 k0_hw170 => k0_hw170.2

def k0_off341 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c170_i32 : BitVec 32 := 170#32
  let v1659 : BitVec 32 := Scalar.addi v128 c170_i32
  let v1660 : Index := Scalar.indexCast v1659
  ![v1660.toNat]
def k0_mult171 (v1661 : BitVec 32) : BitVec 32 :=
  v1661

def k0_off342 (v1661 : BitVec 32) : Fin 2 → Nat :=
  let v1662 : BitVec 32 := v1661
  let v1663 : Index := Scalar.indexCast v1662
  let c0_450 : Index := 0#32
  ![v1663.toNat, 0]

def k0_chk171 (v1661 : BitVec 32) : Prop :=
  (8 ∣ (k0_mult171 v1661).toNat) ∧
  (∀ a, (k0_off342 v1661) a + S8x128.size a ≤ S16384x128.size a)
theorem k0_mult171_dvd : ∀ (v1661 : BitVec 32) (k0_hw171 : k0_chk171 v1661), 8 ∣ (k0_mult171 v1661).toNat := fun v1661 k0_hw171 => k0_hw171.1
theorem k0_off342_inb : ∀ (v1661 : BitVec 32) (k0_hw171 : k0_chk171 v1661), ∀ a, (k0_off342 v1661) a + S8x128.size a ≤ S16384x128.size a := fun v1661 k0_hw171 => k0_hw171.2

def k0_off343 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c171_i32 : BitVec 32 := 171#32
  let v1668 : BitVec 32 := Scalar.addi v128 c171_i32
  let v1669 : Index := Scalar.indexCast v1668
  ![v1669.toNat]
def k0_mult172 (v1670 : BitVec 32) : BitVec 32 :=
  v1670

def k0_off344 (v1670 : BitVec 32) : Fin 2 → Nat :=
  let v1671 : BitVec 32 := v1670
  let v1672 : Index := Scalar.indexCast v1671
  let c0_452 : Index := 0#32
  ![v1672.toNat, 0]

def k0_chk172 (v1670 : BitVec 32) : Prop :=
  (8 ∣ (k0_mult172 v1670).toNat) ∧
  (∀ a, (k0_off344 v1670) a + S8x128.size a ≤ S16384x128.size a)
theorem k0_mult172_dvd : ∀ (v1670 : BitVec 32) (k0_hw172 : k0_chk172 v1670), 8 ∣ (k0_mult172 v1670).toNat := fun v1670 k0_hw172 => k0_hw172.1
theorem k0_off344_inb : ∀ (v1670 : BitVec 32) (k0_hw172 : k0_chk172 v1670), ∀ a, (k0_off344 v1670) a + S8x128.size a ≤ S16384x128.size a := fun v1670 k0_hw172 => k0_hw172.2

def k0_off345 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c172_i32 : BitVec 32 := 172#32
  let v1677 : BitVec 32 := Scalar.addi v128 c172_i32
  let v1678 : Index := Scalar.indexCast v1677
  ![v1678.toNat]
def k0_mult173 (v1679 : BitVec 32) : BitVec 32 :=
  v1679

def k0_off346 (v1679 : BitVec 32) : Fin 2 → Nat :=
  let v1680 : BitVec 32 := v1679
  let v1681 : Index := Scalar.indexCast v1680
  let c0_454 : Index := 0#32
  ![v1681.toNat, 0]

def k0_chk173 (v1679 : BitVec 32) : Prop :=
  (8 ∣ (k0_mult173 v1679).toNat) ∧
  (∀ a, (k0_off346 v1679) a + S8x128.size a ≤ S16384x128.size a)
theorem k0_mult173_dvd : ∀ (v1679 : BitVec 32) (k0_hw173 : k0_chk173 v1679), 8 ∣ (k0_mult173 v1679).toNat := fun v1679 k0_hw173 => k0_hw173.1
theorem k0_off346_inb : ∀ (v1679 : BitVec 32) (k0_hw173 : k0_chk173 v1679), ∀ a, (k0_off346 v1679) a + S8x128.size a ≤ S16384x128.size a := fun v1679 k0_hw173 => k0_hw173.2

def k0_off347 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c173_i32 : BitVec 32 := 173#32
  let v1686 : BitVec 32 := Scalar.addi v128 c173_i32
  let v1687 : Index := Scalar.indexCast v1686
  ![v1687.toNat]
def k0_mult174 (v1688 : BitVec 32) : BitVec 32 :=
  v1688

def k0_off348 (v1688 : BitVec 32) : Fin 2 → Nat :=
  let v1689 : BitVec 32 := v1688
  let v1690 : Index := Scalar.indexCast v1689
  let c0_456 : Index := 0#32
  ![v1690.toNat, 0]

def k0_chk174 (v1688 : BitVec 32) : Prop :=
  (8 ∣ (k0_mult174 v1688).toNat) ∧
  (∀ a, (k0_off348 v1688) a + S8x128.size a ≤ S16384x128.size a)
theorem k0_mult174_dvd : ∀ (v1688 : BitVec 32) (k0_hw174 : k0_chk174 v1688), 8 ∣ (k0_mult174 v1688).toNat := fun v1688 k0_hw174 => k0_hw174.1
theorem k0_off348_inb : ∀ (v1688 : BitVec 32) (k0_hw174 : k0_chk174 v1688), ∀ a, (k0_off348 v1688) a + S8x128.size a ≤ S16384x128.size a := fun v1688 k0_hw174 => k0_hw174.2

def k0_off349 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c174_i32 : BitVec 32 := 174#32
  let v1695 : BitVec 32 := Scalar.addi v128 c174_i32
  let v1696 : Index := Scalar.indexCast v1695
  ![v1696.toNat]
def k0_mult175 (v1697 : BitVec 32) : BitVec 32 :=
  v1697

def k0_off350 (v1697 : BitVec 32) : Fin 2 → Nat :=
  let v1698 : BitVec 32 := v1697
  let v1699 : Index := Scalar.indexCast v1698
  let c0_458 : Index := 0#32
  ![v1699.toNat, 0]

def k0_chk175 (v1697 : BitVec 32) : Prop :=
  (8 ∣ (k0_mult175 v1697).toNat) ∧
  (∀ a, (k0_off350 v1697) a + S8x128.size a ≤ S16384x128.size a)
theorem k0_mult175_dvd : ∀ (v1697 : BitVec 32) (k0_hw175 : k0_chk175 v1697), 8 ∣ (k0_mult175 v1697).toNat := fun v1697 k0_hw175 => k0_hw175.1
theorem k0_off350_inb : ∀ (v1697 : BitVec 32) (k0_hw175 : k0_chk175 v1697), ∀ a, (k0_off350 v1697) a + S8x128.size a ≤ S16384x128.size a := fun v1697 k0_hw175 => k0_hw175.2

def k0_off351 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c175_i32 : BitVec 32 := 175#32
  let v1704 : BitVec 32 := Scalar.addi v128 c175_i32
  let v1705 : Index := Scalar.indexCast v1704
  ![v1705.toNat]
def k0_mult176 (v1706 : BitVec 32) : BitVec 32 :=
  v1706

def k0_off352 (v1706 : BitVec 32) : Fin 2 → Nat :=
  let v1707 : BitVec 32 := v1706
  let v1708 : Index := Scalar.indexCast v1707
  let c0_460 : Index := 0#32
  ![v1708.toNat, 0]

def k0_chk176 (v1706 : BitVec 32) : Prop :=
  (8 ∣ (k0_mult176 v1706).toNat) ∧
  (∀ a, (k0_off352 v1706) a + S8x128.size a ≤ S16384x128.size a)
theorem k0_mult176_dvd : ∀ (v1706 : BitVec 32) (k0_hw176 : k0_chk176 v1706), 8 ∣ (k0_mult176 v1706).toNat := fun v1706 k0_hw176 => k0_hw176.1
theorem k0_off352_inb : ∀ (v1706 : BitVec 32) (k0_hw176 : k0_chk176 v1706), ∀ a, (k0_off352 v1706) a + S8x128.size a ≤ S16384x128.size a := fun v1706 k0_hw176 => k0_hw176.2

def k0_off353 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c176_i32 : BitVec 32 := 176#32
  let v1713 : BitVec 32 := Scalar.addi v128 c176_i32
  let v1714 : Index := Scalar.indexCast v1713
  ![v1714.toNat]
def k0_mult177 (v1715 : BitVec 32) : BitVec 32 :=
  v1715

def k0_off354 (v1715 : BitVec 32) : Fin 2 → Nat :=
  let v1716 : BitVec 32 := v1715
  let v1717 : Index := Scalar.indexCast v1716
  let c0_462 : Index := 0#32
  ![v1717.toNat, 0]

def k0_chk177 (v1715 : BitVec 32) : Prop :=
  (8 ∣ (k0_mult177 v1715).toNat) ∧
  (∀ a, (k0_off354 v1715) a + S8x128.size a ≤ S16384x128.size a)
theorem k0_mult177_dvd : ∀ (v1715 : BitVec 32) (k0_hw177 : k0_chk177 v1715), 8 ∣ (k0_mult177 v1715).toNat := fun v1715 k0_hw177 => k0_hw177.1
theorem k0_off354_inb : ∀ (v1715 : BitVec 32) (k0_hw177 : k0_chk177 v1715), ∀ a, (k0_off354 v1715) a + S8x128.size a ≤ S16384x128.size a := fun v1715 k0_hw177 => k0_hw177.2

def k0_off355 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c177_i32 : BitVec 32 := 177#32
  let v1722 : BitVec 32 := Scalar.addi v128 c177_i32
  let v1723 : Index := Scalar.indexCast v1722
  ![v1723.toNat]
def k0_mult178 (v1724 : BitVec 32) : BitVec 32 :=
  v1724

def k0_off356 (v1724 : BitVec 32) : Fin 2 → Nat :=
  let v1725 : BitVec 32 := v1724
  let v1726 : Index := Scalar.indexCast v1725
  let c0_464 : Index := 0#32
  ![v1726.toNat, 0]

def k0_chk178 (v1724 : BitVec 32) : Prop :=
  (8 ∣ (k0_mult178 v1724).toNat) ∧
  (∀ a, (k0_off356 v1724) a + S8x128.size a ≤ S16384x128.size a)
theorem k0_mult178_dvd : ∀ (v1724 : BitVec 32) (k0_hw178 : k0_chk178 v1724), 8 ∣ (k0_mult178 v1724).toNat := fun v1724 k0_hw178 => k0_hw178.1
theorem k0_off356_inb : ∀ (v1724 : BitVec 32) (k0_hw178 : k0_chk178 v1724), ∀ a, (k0_off356 v1724) a + S8x128.size a ≤ S16384x128.size a := fun v1724 k0_hw178 => k0_hw178.2

def k0_off357 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c178_i32 : BitVec 32 := 178#32
  let v1731 : BitVec 32 := Scalar.addi v128 c178_i32
  let v1732 : Index := Scalar.indexCast v1731
  ![v1732.toNat]
def k0_mult179 (v1733 : BitVec 32) : BitVec 32 :=
  v1733

def k0_off358 (v1733 : BitVec 32) : Fin 2 → Nat :=
  let v1734 : BitVec 32 := v1733
  let v1735 : Index := Scalar.indexCast v1734
  let c0_466 : Index := 0#32
  ![v1735.toNat, 0]

def k0_chk179 (v1733 : BitVec 32) : Prop :=
  (8 ∣ (k0_mult179 v1733).toNat) ∧
  (∀ a, (k0_off358 v1733) a + S8x128.size a ≤ S16384x128.size a)
theorem k0_mult179_dvd : ∀ (v1733 : BitVec 32) (k0_hw179 : k0_chk179 v1733), 8 ∣ (k0_mult179 v1733).toNat := fun v1733 k0_hw179 => k0_hw179.1
theorem k0_off358_inb : ∀ (v1733 : BitVec 32) (k0_hw179 : k0_chk179 v1733), ∀ a, (k0_off358 v1733) a + S8x128.size a ≤ S16384x128.size a := fun v1733 k0_hw179 => k0_hw179.2

def k0_off359 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c179_i32 : BitVec 32 := 179#32
  let v1740 : BitVec 32 := Scalar.addi v128 c179_i32
  let v1741 : Index := Scalar.indexCast v1740
  ![v1741.toNat]
def k0_mult180 (v1742 : BitVec 32) : BitVec 32 :=
  v1742

def k0_off360 (v1742 : BitVec 32) : Fin 2 → Nat :=
  let v1743 : BitVec 32 := v1742
  let v1744 : Index := Scalar.indexCast v1743
  let c0_468 : Index := 0#32
  ![v1744.toNat, 0]

def k0_chk180 (v1742 : BitVec 32) : Prop :=
  (8 ∣ (k0_mult180 v1742).toNat) ∧
  (∀ a, (k0_off360 v1742) a + S8x128.size a ≤ S16384x128.size a)
theorem k0_mult180_dvd : ∀ (v1742 : BitVec 32) (k0_hw180 : k0_chk180 v1742), 8 ∣ (k0_mult180 v1742).toNat := fun v1742 k0_hw180 => k0_hw180.1
theorem k0_off360_inb : ∀ (v1742 : BitVec 32) (k0_hw180 : k0_chk180 v1742), ∀ a, (k0_off360 v1742) a + S8x128.size a ≤ S16384x128.size a := fun v1742 k0_hw180 => k0_hw180.2

def k0_off361 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c180_i32 : BitVec 32 := 180#32
  let v1749 : BitVec 32 := Scalar.addi v128 c180_i32
  let v1750 : Index := Scalar.indexCast v1749
  ![v1750.toNat]
def k0_mult181 (v1751 : BitVec 32) : BitVec 32 :=
  v1751

def k0_off362 (v1751 : BitVec 32) : Fin 2 → Nat :=
  let v1752 : BitVec 32 := v1751
  let v1753 : Index := Scalar.indexCast v1752
  let c0_470 : Index := 0#32
  ![v1753.toNat, 0]

def k0_chk181 (v1751 : BitVec 32) : Prop :=
  (8 ∣ (k0_mult181 v1751).toNat) ∧
  (∀ a, (k0_off362 v1751) a + S8x128.size a ≤ S16384x128.size a)
theorem k0_mult181_dvd : ∀ (v1751 : BitVec 32) (k0_hw181 : k0_chk181 v1751), 8 ∣ (k0_mult181 v1751).toNat := fun v1751 k0_hw181 => k0_hw181.1
theorem k0_off362_inb : ∀ (v1751 : BitVec 32) (k0_hw181 : k0_chk181 v1751), ∀ a, (k0_off362 v1751) a + S8x128.size a ≤ S16384x128.size a := fun v1751 k0_hw181 => k0_hw181.2

def k0_off363 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c181_i32 : BitVec 32 := 181#32
  let v1758 : BitVec 32 := Scalar.addi v128 c181_i32
  let v1759 : Index := Scalar.indexCast v1758
  ![v1759.toNat]
def k0_mult182 (v1760 : BitVec 32) : BitVec 32 :=
  v1760

def k0_off364 (v1760 : BitVec 32) : Fin 2 → Nat :=
  let v1761 : BitVec 32 := v1760
  let v1762 : Index := Scalar.indexCast v1761
  let c0_472 : Index := 0#32
  ![v1762.toNat, 0]

def k0_chk182 (v1760 : BitVec 32) : Prop :=
  (8 ∣ (k0_mult182 v1760).toNat) ∧
  (∀ a, (k0_off364 v1760) a + S8x128.size a ≤ S16384x128.size a)
theorem k0_mult182_dvd : ∀ (v1760 : BitVec 32) (k0_hw182 : k0_chk182 v1760), 8 ∣ (k0_mult182 v1760).toNat := fun v1760 k0_hw182 => k0_hw182.1
theorem k0_off364_inb : ∀ (v1760 : BitVec 32) (k0_hw182 : k0_chk182 v1760), ∀ a, (k0_off364 v1760) a + S8x128.size a ≤ S16384x128.size a := fun v1760 k0_hw182 => k0_hw182.2

def k0_off365 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c182_i32 : BitVec 32 := 182#32
  let v1767 : BitVec 32 := Scalar.addi v128 c182_i32
  let v1768 : Index := Scalar.indexCast v1767
  ![v1768.toNat]
def k0_mult183 (v1769 : BitVec 32) : BitVec 32 :=
  v1769

def k0_off366 (v1769 : BitVec 32) : Fin 2 → Nat :=
  let v1770 : BitVec 32 := v1769
  let v1771 : Index := Scalar.indexCast v1770
  let c0_474 : Index := 0#32
  ![v1771.toNat, 0]

def k0_chk183 (v1769 : BitVec 32) : Prop :=
  (8 ∣ (k0_mult183 v1769).toNat) ∧
  (∀ a, (k0_off366 v1769) a + S8x128.size a ≤ S16384x128.size a)
theorem k0_mult183_dvd : ∀ (v1769 : BitVec 32) (k0_hw183 : k0_chk183 v1769), 8 ∣ (k0_mult183 v1769).toNat := fun v1769 k0_hw183 => k0_hw183.1
theorem k0_off366_inb : ∀ (v1769 : BitVec 32) (k0_hw183 : k0_chk183 v1769), ∀ a, (k0_off366 v1769) a + S8x128.size a ≤ S16384x128.size a := fun v1769 k0_hw183 => k0_hw183.2

def k0_off367 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c183_i32 : BitVec 32 := 183#32
  let v1776 : BitVec 32 := Scalar.addi v128 c183_i32
  let v1777 : Index := Scalar.indexCast v1776
  ![v1777.toNat]
def k0_mult184 (v1778 : BitVec 32) : BitVec 32 :=
  v1778

def k0_off368 (v1778 : BitVec 32) : Fin 2 → Nat :=
  let v1779 : BitVec 32 := v1778
  let v1780 : Index := Scalar.indexCast v1779
  let c0_476 : Index := 0#32
  ![v1780.toNat, 0]

def k0_chk184 (v1778 : BitVec 32) : Prop :=
  (8 ∣ (k0_mult184 v1778).toNat) ∧
  (∀ a, (k0_off368 v1778) a + S8x128.size a ≤ S16384x128.size a)
theorem k0_mult184_dvd : ∀ (v1778 : BitVec 32) (k0_hw184 : k0_chk184 v1778), 8 ∣ (k0_mult184 v1778).toNat := fun v1778 k0_hw184 => k0_hw184.1
theorem k0_off368_inb : ∀ (v1778 : BitVec 32) (k0_hw184 : k0_chk184 v1778), ∀ a, (k0_off368 v1778) a + S8x128.size a ≤ S16384x128.size a := fun v1778 k0_hw184 => k0_hw184.2

def k0_off369 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c184_i32 : BitVec 32 := 184#32
  let v1785 : BitVec 32 := Scalar.addi v128 c184_i32
  let v1786 : Index := Scalar.indexCast v1785
  ![v1786.toNat]
def k0_mult185 (v1787 : BitVec 32) : BitVec 32 :=
  v1787

def k0_off370 (v1787 : BitVec 32) : Fin 2 → Nat :=
  let v1788 : BitVec 32 := v1787
  let v1789 : Index := Scalar.indexCast v1788
  let c0_478 : Index := 0#32
  ![v1789.toNat, 0]

def k0_chk185 (v1787 : BitVec 32) : Prop :=
  (8 ∣ (k0_mult185 v1787).toNat) ∧
  (∀ a, (k0_off370 v1787) a + S8x128.size a ≤ S16384x128.size a)
theorem k0_mult185_dvd : ∀ (v1787 : BitVec 32) (k0_hw185 : k0_chk185 v1787), 8 ∣ (k0_mult185 v1787).toNat := fun v1787 k0_hw185 => k0_hw185.1
theorem k0_off370_inb : ∀ (v1787 : BitVec 32) (k0_hw185 : k0_chk185 v1787), ∀ a, (k0_off370 v1787) a + S8x128.size a ≤ S16384x128.size a := fun v1787 k0_hw185 => k0_hw185.2

def k0_off371 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c185_i32 : BitVec 32 := 185#32
  let v1794 : BitVec 32 := Scalar.addi v128 c185_i32
  let v1795 : Index := Scalar.indexCast v1794
  ![v1795.toNat]
def k0_mult186 (v1796 : BitVec 32) : BitVec 32 :=
  v1796

def k0_off372 (v1796 : BitVec 32) : Fin 2 → Nat :=
  let v1797 : BitVec 32 := v1796
  let v1798 : Index := Scalar.indexCast v1797
  let c0_480 : Index := 0#32
  ![v1798.toNat, 0]

def k0_chk186 (v1796 : BitVec 32) : Prop :=
  (8 ∣ (k0_mult186 v1796).toNat) ∧
  (∀ a, (k0_off372 v1796) a + S8x128.size a ≤ S16384x128.size a)
theorem k0_mult186_dvd : ∀ (v1796 : BitVec 32) (k0_hw186 : k0_chk186 v1796), 8 ∣ (k0_mult186 v1796).toNat := fun v1796 k0_hw186 => k0_hw186.1
theorem k0_off372_inb : ∀ (v1796 : BitVec 32) (k0_hw186 : k0_chk186 v1796), ∀ a, (k0_off372 v1796) a + S8x128.size a ≤ S16384x128.size a := fun v1796 k0_hw186 => k0_hw186.2

def k0_off373 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c186_i32 : BitVec 32 := 186#32
  let v1803 : BitVec 32 := Scalar.addi v128 c186_i32
  let v1804 : Index := Scalar.indexCast v1803
  ![v1804.toNat]
def k0_mult187 (v1805 : BitVec 32) : BitVec 32 :=
  v1805

def k0_off374 (v1805 : BitVec 32) : Fin 2 → Nat :=
  let v1806 : BitVec 32 := v1805
  let v1807 : Index := Scalar.indexCast v1806
  let c0_482 : Index := 0#32
  ![v1807.toNat, 0]

def k0_chk187 (v1805 : BitVec 32) : Prop :=
  (8 ∣ (k0_mult187 v1805).toNat) ∧
  (∀ a, (k0_off374 v1805) a + S8x128.size a ≤ S16384x128.size a)
theorem k0_mult187_dvd : ∀ (v1805 : BitVec 32) (k0_hw187 : k0_chk187 v1805), 8 ∣ (k0_mult187 v1805).toNat := fun v1805 k0_hw187 => k0_hw187.1
theorem k0_off374_inb : ∀ (v1805 : BitVec 32) (k0_hw187 : k0_chk187 v1805), ∀ a, (k0_off374 v1805) a + S8x128.size a ≤ S16384x128.size a := fun v1805 k0_hw187 => k0_hw187.2

def k0_off375 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c187_i32 : BitVec 32 := 187#32
  let v1812 : BitVec 32 := Scalar.addi v128 c187_i32
  let v1813 : Index := Scalar.indexCast v1812
  ![v1813.toNat]
def k0_mult188 (v1814 : BitVec 32) : BitVec 32 :=
  v1814

def k0_off376 (v1814 : BitVec 32) : Fin 2 → Nat :=
  let v1815 : BitVec 32 := v1814
  let v1816 : Index := Scalar.indexCast v1815
  let c0_484 : Index := 0#32
  ![v1816.toNat, 0]

def k0_chk188 (v1814 : BitVec 32) : Prop :=
  (8 ∣ (k0_mult188 v1814).toNat) ∧
  (∀ a, (k0_off376 v1814) a + S8x128.size a ≤ S16384x128.size a)
theorem k0_mult188_dvd : ∀ (v1814 : BitVec 32) (k0_hw188 : k0_chk188 v1814), 8 ∣ (k0_mult188 v1814).toNat := fun v1814 k0_hw188 => k0_hw188.1
theorem k0_off376_inb : ∀ (v1814 : BitVec 32) (k0_hw188 : k0_chk188 v1814), ∀ a, (k0_off376 v1814) a + S8x128.size a ≤ S16384x128.size a := fun v1814 k0_hw188 => k0_hw188.2

def k0_off377 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c188_i32 : BitVec 32 := 188#32
  let v1821 : BitVec 32 := Scalar.addi v128 c188_i32
  let v1822 : Index := Scalar.indexCast v1821
  ![v1822.toNat]
def k0_mult189 (v1823 : BitVec 32) : BitVec 32 :=
  v1823

def k0_off378 (v1823 : BitVec 32) : Fin 2 → Nat :=
  let v1824 : BitVec 32 := v1823
  let v1825 : Index := Scalar.indexCast v1824
  let c0_486 : Index := 0#32
  ![v1825.toNat, 0]

def k0_chk189 (v1823 : BitVec 32) : Prop :=
  (8 ∣ (k0_mult189 v1823).toNat) ∧
  (∀ a, (k0_off378 v1823) a + S8x128.size a ≤ S16384x128.size a)
theorem k0_mult189_dvd : ∀ (v1823 : BitVec 32) (k0_hw189 : k0_chk189 v1823), 8 ∣ (k0_mult189 v1823).toNat := fun v1823 k0_hw189 => k0_hw189.1
theorem k0_off378_inb : ∀ (v1823 : BitVec 32) (k0_hw189 : k0_chk189 v1823), ∀ a, (k0_off378 v1823) a + S8x128.size a ≤ S16384x128.size a := fun v1823 k0_hw189 => k0_hw189.2

def k0_off379 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c189_i32 : BitVec 32 := 189#32
  let v1830 : BitVec 32 := Scalar.addi v128 c189_i32
  let v1831 : Index := Scalar.indexCast v1830
  ![v1831.toNat]
def k0_mult190 (v1832 : BitVec 32) : BitVec 32 :=
  v1832

def k0_off380 (v1832 : BitVec 32) : Fin 2 → Nat :=
  let v1833 : BitVec 32 := v1832
  let v1834 : Index := Scalar.indexCast v1833
  let c0_488 : Index := 0#32
  ![v1834.toNat, 0]

def k0_chk190 (v1832 : BitVec 32) : Prop :=
  (8 ∣ (k0_mult190 v1832).toNat) ∧
  (∀ a, (k0_off380 v1832) a + S8x128.size a ≤ S16384x128.size a)
theorem k0_mult190_dvd : ∀ (v1832 : BitVec 32) (k0_hw190 : k0_chk190 v1832), 8 ∣ (k0_mult190 v1832).toNat := fun v1832 k0_hw190 => k0_hw190.1
theorem k0_off380_inb : ∀ (v1832 : BitVec 32) (k0_hw190 : k0_chk190 v1832), ∀ a, (k0_off380 v1832) a + S8x128.size a ≤ S16384x128.size a := fun v1832 k0_hw190 => k0_hw190.2

def k0_off381 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c190_i32 : BitVec 32 := 190#32
  let v1839 : BitVec 32 := Scalar.addi v128 c190_i32
  let v1840 : Index := Scalar.indexCast v1839
  ![v1840.toNat]
def k0_mult191 (v1841 : BitVec 32) : BitVec 32 :=
  v1841

def k0_off382 (v1841 : BitVec 32) : Fin 2 → Nat :=
  let v1842 : BitVec 32 := v1841
  let v1843 : Index := Scalar.indexCast v1842
  let c0_490 : Index := 0#32
  ![v1843.toNat, 0]

def k0_chk191 (v1841 : BitVec 32) : Prop :=
  (8 ∣ (k0_mult191 v1841).toNat) ∧
  (∀ a, (k0_off382 v1841) a + S8x128.size a ≤ S16384x128.size a)
theorem k0_mult191_dvd : ∀ (v1841 : BitVec 32) (k0_hw191 : k0_chk191 v1841), 8 ∣ (k0_mult191 v1841).toNat := fun v1841 k0_hw191 => k0_hw191.1
theorem k0_off382_inb : ∀ (v1841 : BitVec 32) (k0_hw191 : k0_chk191 v1841), ∀ a, (k0_off382 v1841) a + S8x128.size a ≤ S16384x128.size a := fun v1841 k0_hw191 => k0_hw191.2

def k0_off383 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c191_i32 : BitVec 32 := 191#32
  let v1848 : BitVec 32 := Scalar.addi v128 c191_i32
  let v1849 : Index := Scalar.indexCast v1848
  ![v1849.toNat]
def k0_mult192 (v1850 : BitVec 32) : BitVec 32 :=
  v1850

def k0_off384 (v1850 : BitVec 32) : Fin 2 → Nat :=
  let v1851 : BitVec 32 := v1850
  let v1852 : Index := Scalar.indexCast v1851
  let c0_492 : Index := 0#32
  ![v1852.toNat, 0]

def k0_chk192 (v1850 : BitVec 32) : Prop :=
  (8 ∣ (k0_mult192 v1850).toNat) ∧
  (∀ a, (k0_off384 v1850) a + S8x128.size a ≤ S16384x128.size a)
theorem k0_mult192_dvd : ∀ (v1850 : BitVec 32) (k0_hw192 : k0_chk192 v1850), 8 ∣ (k0_mult192 v1850).toNat := fun v1850 k0_hw192 => k0_hw192.1
theorem k0_off384_inb : ∀ (v1850 : BitVec 32) (k0_hw192 : k0_chk192 v1850), ∀ a, (k0_off384 v1850) a + S8x128.size a ≤ S16384x128.size a := fun v1850 k0_hw192 => k0_hw192.2

def k0_off385 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c192_i32 : BitVec 32 := 192#32
  let v1857 : BitVec 32 := Scalar.addi v128 c192_i32
  let v1858 : Index := Scalar.indexCast v1857
  ![v1858.toNat]
def k0_mult193 (v1859 : BitVec 32) : BitVec 32 :=
  v1859

def k0_off386 (v1859 : BitVec 32) : Fin 2 → Nat :=
  let v1860 : BitVec 32 := v1859
  let v1861 : Index := Scalar.indexCast v1860
  let c0_494 : Index := 0#32
  ![v1861.toNat, 0]

def k0_chk193 (v1859 : BitVec 32) : Prop :=
  (8 ∣ (k0_mult193 v1859).toNat) ∧
  (∀ a, (k0_off386 v1859) a + S8x128.size a ≤ S16384x128.size a)
theorem k0_mult193_dvd : ∀ (v1859 : BitVec 32) (k0_hw193 : k0_chk193 v1859), 8 ∣ (k0_mult193 v1859).toNat := fun v1859 k0_hw193 => k0_hw193.1
theorem k0_off386_inb : ∀ (v1859 : BitVec 32) (k0_hw193 : k0_chk193 v1859), ∀ a, (k0_off386 v1859) a + S8x128.size a ≤ S16384x128.size a := fun v1859 k0_hw193 => k0_hw193.2

def k0_off387 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c193_i32 : BitVec 32 := 193#32
  let v1866 : BitVec 32 := Scalar.addi v128 c193_i32
  let v1867 : Index := Scalar.indexCast v1866
  ![v1867.toNat]
def k0_mult194 (v1868 : BitVec 32) : BitVec 32 :=
  v1868

def k0_off388 (v1868 : BitVec 32) : Fin 2 → Nat :=
  let v1869 : BitVec 32 := v1868
  let v1870 : Index := Scalar.indexCast v1869
  let c0_496 : Index := 0#32
  ![v1870.toNat, 0]

def k0_chk194 (v1868 : BitVec 32) : Prop :=
  (8 ∣ (k0_mult194 v1868).toNat) ∧
  (∀ a, (k0_off388 v1868) a + S8x128.size a ≤ S16384x128.size a)
theorem k0_mult194_dvd : ∀ (v1868 : BitVec 32) (k0_hw194 : k0_chk194 v1868), 8 ∣ (k0_mult194 v1868).toNat := fun v1868 k0_hw194 => k0_hw194.1
theorem k0_off388_inb : ∀ (v1868 : BitVec 32) (k0_hw194 : k0_chk194 v1868), ∀ a, (k0_off388 v1868) a + S8x128.size a ≤ S16384x128.size a := fun v1868 k0_hw194 => k0_hw194.2

def k0_off389 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c194_i32 : BitVec 32 := 194#32
  let v1875 : BitVec 32 := Scalar.addi v128 c194_i32
  let v1876 : Index := Scalar.indexCast v1875
  ![v1876.toNat]
def k0_mult195 (v1877 : BitVec 32) : BitVec 32 :=
  v1877

def k0_off390 (v1877 : BitVec 32) : Fin 2 → Nat :=
  let v1878 : BitVec 32 := v1877
  let v1879 : Index := Scalar.indexCast v1878
  let c0_498 : Index := 0#32
  ![v1879.toNat, 0]

def k0_chk195 (v1877 : BitVec 32) : Prop :=
  (8 ∣ (k0_mult195 v1877).toNat) ∧
  (∀ a, (k0_off390 v1877) a + S8x128.size a ≤ S16384x128.size a)
theorem k0_mult195_dvd : ∀ (v1877 : BitVec 32) (k0_hw195 : k0_chk195 v1877), 8 ∣ (k0_mult195 v1877).toNat := fun v1877 k0_hw195 => k0_hw195.1
theorem k0_off390_inb : ∀ (v1877 : BitVec 32) (k0_hw195 : k0_chk195 v1877), ∀ a, (k0_off390 v1877) a + S8x128.size a ≤ S16384x128.size a := fun v1877 k0_hw195 => k0_hw195.2

def k0_off391 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c195_i32 : BitVec 32 := 195#32
  let v1884 : BitVec 32 := Scalar.addi v128 c195_i32
  let v1885 : Index := Scalar.indexCast v1884
  ![v1885.toNat]
def k0_mult196 (v1886 : BitVec 32) : BitVec 32 :=
  v1886

def k0_off392 (v1886 : BitVec 32) : Fin 2 → Nat :=
  let v1887 : BitVec 32 := v1886
  let v1888 : Index := Scalar.indexCast v1887
  let c0_500 : Index := 0#32
  ![v1888.toNat, 0]

def k0_chk196 (v1886 : BitVec 32) : Prop :=
  (8 ∣ (k0_mult196 v1886).toNat) ∧
  (∀ a, (k0_off392 v1886) a + S8x128.size a ≤ S16384x128.size a)
theorem k0_mult196_dvd : ∀ (v1886 : BitVec 32) (k0_hw196 : k0_chk196 v1886), 8 ∣ (k0_mult196 v1886).toNat := fun v1886 k0_hw196 => k0_hw196.1
theorem k0_off392_inb : ∀ (v1886 : BitVec 32) (k0_hw196 : k0_chk196 v1886), ∀ a, (k0_off392 v1886) a + S8x128.size a ≤ S16384x128.size a := fun v1886 k0_hw196 => k0_hw196.2

def k0_off393 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c196_i32 : BitVec 32 := 196#32
  let v1893 : BitVec 32 := Scalar.addi v128 c196_i32
  let v1894 : Index := Scalar.indexCast v1893
  ![v1894.toNat]
def k0_mult197 (v1895 : BitVec 32) : BitVec 32 :=
  v1895

def k0_off394 (v1895 : BitVec 32) : Fin 2 → Nat :=
  let v1896 : BitVec 32 := v1895
  let v1897 : Index := Scalar.indexCast v1896
  let c0_502 : Index := 0#32
  ![v1897.toNat, 0]

def k0_chk197 (v1895 : BitVec 32) : Prop :=
  (8 ∣ (k0_mult197 v1895).toNat) ∧
  (∀ a, (k0_off394 v1895) a + S8x128.size a ≤ S16384x128.size a)
theorem k0_mult197_dvd : ∀ (v1895 : BitVec 32) (k0_hw197 : k0_chk197 v1895), 8 ∣ (k0_mult197 v1895).toNat := fun v1895 k0_hw197 => k0_hw197.1
theorem k0_off394_inb : ∀ (v1895 : BitVec 32) (k0_hw197 : k0_chk197 v1895), ∀ a, (k0_off394 v1895) a + S8x128.size a ≤ S16384x128.size a := fun v1895 k0_hw197 => k0_hw197.2

def k0_off395 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c197_i32 : BitVec 32 := 197#32
  let v1902 : BitVec 32 := Scalar.addi v128 c197_i32
  let v1903 : Index := Scalar.indexCast v1902
  ![v1903.toNat]
def k0_mult198 (v1904 : BitVec 32) : BitVec 32 :=
  v1904

def k0_off396 (v1904 : BitVec 32) : Fin 2 → Nat :=
  let v1905 : BitVec 32 := v1904
  let v1906 : Index := Scalar.indexCast v1905
  let c0_504 : Index := 0#32
  ![v1906.toNat, 0]

def k0_chk198 (v1904 : BitVec 32) : Prop :=
  (8 ∣ (k0_mult198 v1904).toNat) ∧
  (∀ a, (k0_off396 v1904) a + S8x128.size a ≤ S16384x128.size a)
theorem k0_mult198_dvd : ∀ (v1904 : BitVec 32) (k0_hw198 : k0_chk198 v1904), 8 ∣ (k0_mult198 v1904).toNat := fun v1904 k0_hw198 => k0_hw198.1
theorem k0_off396_inb : ∀ (v1904 : BitVec 32) (k0_hw198 : k0_chk198 v1904), ∀ a, (k0_off396 v1904) a + S8x128.size a ≤ S16384x128.size a := fun v1904 k0_hw198 => k0_hw198.2

def k0_off397 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c198_i32 : BitVec 32 := 198#32
  let v1911 : BitVec 32 := Scalar.addi v128 c198_i32
  let v1912 : Index := Scalar.indexCast v1911
  ![v1912.toNat]
def k0_mult199 (v1913 : BitVec 32) : BitVec 32 :=
  v1913

def k0_off398 (v1913 : BitVec 32) : Fin 2 → Nat :=
  let v1914 : BitVec 32 := v1913
  let v1915 : Index := Scalar.indexCast v1914
  let c0_506 : Index := 0#32
  ![v1915.toNat, 0]

def k0_chk199 (v1913 : BitVec 32) : Prop :=
  (8 ∣ (k0_mult199 v1913).toNat) ∧
  (∀ a, (k0_off398 v1913) a + S8x128.size a ≤ S16384x128.size a)
theorem k0_mult199_dvd : ∀ (v1913 : BitVec 32) (k0_hw199 : k0_chk199 v1913), 8 ∣ (k0_mult199 v1913).toNat := fun v1913 k0_hw199 => k0_hw199.1
theorem k0_off398_inb : ∀ (v1913 : BitVec 32) (k0_hw199 : k0_chk199 v1913), ∀ a, (k0_off398 v1913) a + S8x128.size a ≤ S16384x128.size a := fun v1913 k0_hw199 => k0_hw199.2

def k0_off399 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c199_i32 : BitVec 32 := 199#32
  let v1920 : BitVec 32 := Scalar.addi v128 c199_i32
  let v1921 : Index := Scalar.indexCast v1920
  ![v1921.toNat]
def k0_mult200 (v1922 : BitVec 32) : BitVec 32 :=
  v1922

def k0_off400 (v1922 : BitVec 32) : Fin 2 → Nat :=
  let v1923 : BitVec 32 := v1922
  let v1924 : Index := Scalar.indexCast v1923
  let c0_508 : Index := 0#32
  ![v1924.toNat, 0]

def k0_chk200 (v1922 : BitVec 32) : Prop :=
  (8 ∣ (k0_mult200 v1922).toNat) ∧
  (∀ a, (k0_off400 v1922) a + S8x128.size a ≤ S16384x128.size a)
theorem k0_mult200_dvd : ∀ (v1922 : BitVec 32) (k0_hw200 : k0_chk200 v1922), 8 ∣ (k0_mult200 v1922).toNat := fun v1922 k0_hw200 => k0_hw200.1
theorem k0_off400_inb : ∀ (v1922 : BitVec 32) (k0_hw200 : k0_chk200 v1922), ∀ a, (k0_off400 v1922) a + S8x128.size a ≤ S16384x128.size a := fun v1922 k0_hw200 => k0_hw200.2

def k0_off401 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c200_i32 : BitVec 32 := 200#32
  let v1929 : BitVec 32 := Scalar.addi v128 c200_i32
  let v1930 : Index := Scalar.indexCast v1929
  ![v1930.toNat]
def k0_mult201 (v1931 : BitVec 32) : BitVec 32 :=
  v1931

def k0_off402 (v1931 : BitVec 32) : Fin 2 → Nat :=
  let v1932 : BitVec 32 := v1931
  let v1933 : Index := Scalar.indexCast v1932
  let c0_510 : Index := 0#32
  ![v1933.toNat, 0]

def k0_chk201 (v1931 : BitVec 32) : Prop :=
  (8 ∣ (k0_mult201 v1931).toNat) ∧
  (∀ a, (k0_off402 v1931) a + S8x128.size a ≤ S16384x128.size a)
theorem k0_mult201_dvd : ∀ (v1931 : BitVec 32) (k0_hw201 : k0_chk201 v1931), 8 ∣ (k0_mult201 v1931).toNat := fun v1931 k0_hw201 => k0_hw201.1
theorem k0_off402_inb : ∀ (v1931 : BitVec 32) (k0_hw201 : k0_chk201 v1931), ∀ a, (k0_off402 v1931) a + S8x128.size a ≤ S16384x128.size a := fun v1931 k0_hw201 => k0_hw201.2

def k0_off403 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c201_i32 : BitVec 32 := 201#32
  let v1938 : BitVec 32 := Scalar.addi v128 c201_i32
  let v1939 : Index := Scalar.indexCast v1938
  ![v1939.toNat]
def k0_mult202 (v1940 : BitVec 32) : BitVec 32 :=
  v1940

def k0_off404 (v1940 : BitVec 32) : Fin 2 → Nat :=
  let v1941 : BitVec 32 := v1940
  let v1942 : Index := Scalar.indexCast v1941
  let c0_512 : Index := 0#32
  ![v1942.toNat, 0]

def k0_chk202 (v1940 : BitVec 32) : Prop :=
  (8 ∣ (k0_mult202 v1940).toNat) ∧
  (∀ a, (k0_off404 v1940) a + S8x128.size a ≤ S16384x128.size a)
theorem k0_mult202_dvd : ∀ (v1940 : BitVec 32) (k0_hw202 : k0_chk202 v1940), 8 ∣ (k0_mult202 v1940).toNat := fun v1940 k0_hw202 => k0_hw202.1
theorem k0_off404_inb : ∀ (v1940 : BitVec 32) (k0_hw202 : k0_chk202 v1940), ∀ a, (k0_off404 v1940) a + S8x128.size a ≤ S16384x128.size a := fun v1940 k0_hw202 => k0_hw202.2

def k0_off405 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c202_i32 : BitVec 32 := 202#32
  let v1947 : BitVec 32 := Scalar.addi v128 c202_i32
  let v1948 : Index := Scalar.indexCast v1947
  ![v1948.toNat]
def k0_mult203 (v1949 : BitVec 32) : BitVec 32 :=
  v1949

def k0_off406 (v1949 : BitVec 32) : Fin 2 → Nat :=
  let v1950 : BitVec 32 := v1949
  let v1951 : Index := Scalar.indexCast v1950
  let c0_514 : Index := 0#32
  ![v1951.toNat, 0]

def k0_chk203 (v1949 : BitVec 32) : Prop :=
  (8 ∣ (k0_mult203 v1949).toNat) ∧
  (∀ a, (k0_off406 v1949) a + S8x128.size a ≤ S16384x128.size a)
theorem k0_mult203_dvd : ∀ (v1949 : BitVec 32) (k0_hw203 : k0_chk203 v1949), 8 ∣ (k0_mult203 v1949).toNat := fun v1949 k0_hw203 => k0_hw203.1
theorem k0_off406_inb : ∀ (v1949 : BitVec 32) (k0_hw203 : k0_chk203 v1949), ∀ a, (k0_off406 v1949) a + S8x128.size a ≤ S16384x128.size a := fun v1949 k0_hw203 => k0_hw203.2

def k0_off407 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c203_i32 : BitVec 32 := 203#32
  let v1956 : BitVec 32 := Scalar.addi v128 c203_i32
  let v1957 : Index := Scalar.indexCast v1956
  ![v1957.toNat]
def k0_mult204 (v1958 : BitVec 32) : BitVec 32 :=
  v1958

def k0_off408 (v1958 : BitVec 32) : Fin 2 → Nat :=
  let v1959 : BitVec 32 := v1958
  let v1960 : Index := Scalar.indexCast v1959
  let c0_516 : Index := 0#32
  ![v1960.toNat, 0]

def k0_chk204 (v1958 : BitVec 32) : Prop :=
  (8 ∣ (k0_mult204 v1958).toNat) ∧
  (∀ a, (k0_off408 v1958) a + S8x128.size a ≤ S16384x128.size a)
theorem k0_mult204_dvd : ∀ (v1958 : BitVec 32) (k0_hw204 : k0_chk204 v1958), 8 ∣ (k0_mult204 v1958).toNat := fun v1958 k0_hw204 => k0_hw204.1
theorem k0_off408_inb : ∀ (v1958 : BitVec 32) (k0_hw204 : k0_chk204 v1958), ∀ a, (k0_off408 v1958) a + S8x128.size a ≤ S16384x128.size a := fun v1958 k0_hw204 => k0_hw204.2

def k0_off409 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c204_i32 : BitVec 32 := 204#32
  let v1965 : BitVec 32 := Scalar.addi v128 c204_i32
  let v1966 : Index := Scalar.indexCast v1965
  ![v1966.toNat]
def k0_mult205 (v1967 : BitVec 32) : BitVec 32 :=
  v1967

def k0_off410 (v1967 : BitVec 32) : Fin 2 → Nat :=
  let v1968 : BitVec 32 := v1967
  let v1969 : Index := Scalar.indexCast v1968
  let c0_518 : Index := 0#32
  ![v1969.toNat, 0]

def k0_chk205 (v1967 : BitVec 32) : Prop :=
  (8 ∣ (k0_mult205 v1967).toNat) ∧
  (∀ a, (k0_off410 v1967) a + S8x128.size a ≤ S16384x128.size a)
theorem k0_mult205_dvd : ∀ (v1967 : BitVec 32) (k0_hw205 : k0_chk205 v1967), 8 ∣ (k0_mult205 v1967).toNat := fun v1967 k0_hw205 => k0_hw205.1
theorem k0_off410_inb : ∀ (v1967 : BitVec 32) (k0_hw205 : k0_chk205 v1967), ∀ a, (k0_off410 v1967) a + S8x128.size a ≤ S16384x128.size a := fun v1967 k0_hw205 => k0_hw205.2

def k0_off411 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c205_i32 : BitVec 32 := 205#32
  let v1974 : BitVec 32 := Scalar.addi v128 c205_i32
  let v1975 : Index := Scalar.indexCast v1974
  ![v1975.toNat]
def k0_mult206 (v1976 : BitVec 32) : BitVec 32 :=
  v1976

def k0_off412 (v1976 : BitVec 32) : Fin 2 → Nat :=
  let v1977 : BitVec 32 := v1976
  let v1978 : Index := Scalar.indexCast v1977
  let c0_520 : Index := 0#32
  ![v1978.toNat, 0]

def k0_chk206 (v1976 : BitVec 32) : Prop :=
  (8 ∣ (k0_mult206 v1976).toNat) ∧
  (∀ a, (k0_off412 v1976) a + S8x128.size a ≤ S16384x128.size a)
theorem k0_mult206_dvd : ∀ (v1976 : BitVec 32) (k0_hw206 : k0_chk206 v1976), 8 ∣ (k0_mult206 v1976).toNat := fun v1976 k0_hw206 => k0_hw206.1
theorem k0_off412_inb : ∀ (v1976 : BitVec 32) (k0_hw206 : k0_chk206 v1976), ∀ a, (k0_off412 v1976) a + S8x128.size a ≤ S16384x128.size a := fun v1976 k0_hw206 => k0_hw206.2

def k0_off413 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c206_i32 : BitVec 32 := 206#32
  let v1983 : BitVec 32 := Scalar.addi v128 c206_i32
  let v1984 : Index := Scalar.indexCast v1983
  ![v1984.toNat]
def k0_mult207 (v1985 : BitVec 32) : BitVec 32 :=
  v1985

def k0_off414 (v1985 : BitVec 32) : Fin 2 → Nat :=
  let v1986 : BitVec 32 := v1985
  let v1987 : Index := Scalar.indexCast v1986
  let c0_522 : Index := 0#32
  ![v1987.toNat, 0]

def k0_chk207 (v1985 : BitVec 32) : Prop :=
  (8 ∣ (k0_mult207 v1985).toNat) ∧
  (∀ a, (k0_off414 v1985) a + S8x128.size a ≤ S16384x128.size a)
theorem k0_mult207_dvd : ∀ (v1985 : BitVec 32) (k0_hw207 : k0_chk207 v1985), 8 ∣ (k0_mult207 v1985).toNat := fun v1985 k0_hw207 => k0_hw207.1
theorem k0_off414_inb : ∀ (v1985 : BitVec 32) (k0_hw207 : k0_chk207 v1985), ∀ a, (k0_off414 v1985) a + S8x128.size a ≤ S16384x128.size a := fun v1985 k0_hw207 => k0_hw207.2

def k0_off415 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c207_i32 : BitVec 32 := 207#32
  let v1992 : BitVec 32 := Scalar.addi v128 c207_i32
  let v1993 : Index := Scalar.indexCast v1992
  ![v1993.toNat]
def k0_mult208 (v1994 : BitVec 32) : BitVec 32 :=
  v1994

def k0_off416 (v1994 : BitVec 32) : Fin 2 → Nat :=
  let v1995 : BitVec 32 := v1994
  let v1996 : Index := Scalar.indexCast v1995
  let c0_524 : Index := 0#32
  ![v1996.toNat, 0]

def k0_chk208 (v1994 : BitVec 32) : Prop :=
  (8 ∣ (k0_mult208 v1994).toNat) ∧
  (∀ a, (k0_off416 v1994) a + S8x128.size a ≤ S16384x128.size a)
theorem k0_mult208_dvd : ∀ (v1994 : BitVec 32) (k0_hw208 : k0_chk208 v1994), 8 ∣ (k0_mult208 v1994).toNat := fun v1994 k0_hw208 => k0_hw208.1
theorem k0_off416_inb : ∀ (v1994 : BitVec 32) (k0_hw208 : k0_chk208 v1994), ∀ a, (k0_off416 v1994) a + S8x128.size a ≤ S16384x128.size a := fun v1994 k0_hw208 => k0_hw208.2

def k0_off417 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c208_i32 : BitVec 32 := 208#32
  let v2001 : BitVec 32 := Scalar.addi v128 c208_i32
  let v2002 : Index := Scalar.indexCast v2001
  ![v2002.toNat]
def k0_mult209 (v2003 : BitVec 32) : BitVec 32 :=
  v2003

def k0_off418 (v2003 : BitVec 32) : Fin 2 → Nat :=
  let v2004 : BitVec 32 := v2003
  let v2005 : Index := Scalar.indexCast v2004
  let c0_526 : Index := 0#32
  ![v2005.toNat, 0]

def k0_chk209 (v2003 : BitVec 32) : Prop :=
  (8 ∣ (k0_mult209 v2003).toNat) ∧
  (∀ a, (k0_off418 v2003) a + S8x128.size a ≤ S16384x128.size a)
theorem k0_mult209_dvd : ∀ (v2003 : BitVec 32) (k0_hw209 : k0_chk209 v2003), 8 ∣ (k0_mult209 v2003).toNat := fun v2003 k0_hw209 => k0_hw209.1
theorem k0_off418_inb : ∀ (v2003 : BitVec 32) (k0_hw209 : k0_chk209 v2003), ∀ a, (k0_off418 v2003) a + S8x128.size a ≤ S16384x128.size a := fun v2003 k0_hw209 => k0_hw209.2

def k0_off419 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c209_i32 : BitVec 32 := 209#32
  let v2010 : BitVec 32 := Scalar.addi v128 c209_i32
  let v2011 : Index := Scalar.indexCast v2010
  ![v2011.toNat]
def k0_mult210 (v2012 : BitVec 32) : BitVec 32 :=
  v2012

def k0_off420 (v2012 : BitVec 32) : Fin 2 → Nat :=
  let v2013 : BitVec 32 := v2012
  let v2014 : Index := Scalar.indexCast v2013
  let c0_528 : Index := 0#32
  ![v2014.toNat, 0]

def k0_chk210 (v2012 : BitVec 32) : Prop :=
  (8 ∣ (k0_mult210 v2012).toNat) ∧
  (∀ a, (k0_off420 v2012) a + S8x128.size a ≤ S16384x128.size a)
theorem k0_mult210_dvd : ∀ (v2012 : BitVec 32) (k0_hw210 : k0_chk210 v2012), 8 ∣ (k0_mult210 v2012).toNat := fun v2012 k0_hw210 => k0_hw210.1
theorem k0_off420_inb : ∀ (v2012 : BitVec 32) (k0_hw210 : k0_chk210 v2012), ∀ a, (k0_off420 v2012) a + S8x128.size a ≤ S16384x128.size a := fun v2012 k0_hw210 => k0_hw210.2

def k0_off421 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c210_i32 : BitVec 32 := 210#32
  let v2019 : BitVec 32 := Scalar.addi v128 c210_i32
  let v2020 : Index := Scalar.indexCast v2019
  ![v2020.toNat]
def k0_mult211 (v2021 : BitVec 32) : BitVec 32 :=
  v2021

def k0_off422 (v2021 : BitVec 32) : Fin 2 → Nat :=
  let v2022 : BitVec 32 := v2021
  let v2023 : Index := Scalar.indexCast v2022
  let c0_530 : Index := 0#32
  ![v2023.toNat, 0]

def k0_chk211 (v2021 : BitVec 32) : Prop :=
  (8 ∣ (k0_mult211 v2021).toNat) ∧
  (∀ a, (k0_off422 v2021) a + S8x128.size a ≤ S16384x128.size a)
theorem k0_mult211_dvd : ∀ (v2021 : BitVec 32) (k0_hw211 : k0_chk211 v2021), 8 ∣ (k0_mult211 v2021).toNat := fun v2021 k0_hw211 => k0_hw211.1
theorem k0_off422_inb : ∀ (v2021 : BitVec 32) (k0_hw211 : k0_chk211 v2021), ∀ a, (k0_off422 v2021) a + S8x128.size a ≤ S16384x128.size a := fun v2021 k0_hw211 => k0_hw211.2

def k0_off423 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c211_i32 : BitVec 32 := 211#32
  let v2028 : BitVec 32 := Scalar.addi v128 c211_i32
  let v2029 : Index := Scalar.indexCast v2028
  ![v2029.toNat]
def k0_mult212 (v2030 : BitVec 32) : BitVec 32 :=
  v2030

def k0_off424 (v2030 : BitVec 32) : Fin 2 → Nat :=
  let v2031 : BitVec 32 := v2030
  let v2032 : Index := Scalar.indexCast v2031
  let c0_532 : Index := 0#32
  ![v2032.toNat, 0]

def k0_chk212 (v2030 : BitVec 32) : Prop :=
  (8 ∣ (k0_mult212 v2030).toNat) ∧
  (∀ a, (k0_off424 v2030) a + S8x128.size a ≤ S16384x128.size a)
theorem k0_mult212_dvd : ∀ (v2030 : BitVec 32) (k0_hw212 : k0_chk212 v2030), 8 ∣ (k0_mult212 v2030).toNat := fun v2030 k0_hw212 => k0_hw212.1
theorem k0_off424_inb : ∀ (v2030 : BitVec 32) (k0_hw212 : k0_chk212 v2030), ∀ a, (k0_off424 v2030) a + S8x128.size a ≤ S16384x128.size a := fun v2030 k0_hw212 => k0_hw212.2

def k0_off425 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c212_i32 : BitVec 32 := 212#32
  let v2037 : BitVec 32 := Scalar.addi v128 c212_i32
  let v2038 : Index := Scalar.indexCast v2037
  ![v2038.toNat]
def k0_mult213 (v2039 : BitVec 32) : BitVec 32 :=
  v2039

def k0_off426 (v2039 : BitVec 32) : Fin 2 → Nat :=
  let v2040 : BitVec 32 := v2039
  let v2041 : Index := Scalar.indexCast v2040
  let c0_534 : Index := 0#32
  ![v2041.toNat, 0]

def k0_chk213 (v2039 : BitVec 32) : Prop :=
  (8 ∣ (k0_mult213 v2039).toNat) ∧
  (∀ a, (k0_off426 v2039) a + S8x128.size a ≤ S16384x128.size a)
theorem k0_mult213_dvd : ∀ (v2039 : BitVec 32) (k0_hw213 : k0_chk213 v2039), 8 ∣ (k0_mult213 v2039).toNat := fun v2039 k0_hw213 => k0_hw213.1
theorem k0_off426_inb : ∀ (v2039 : BitVec 32) (k0_hw213 : k0_chk213 v2039), ∀ a, (k0_off426 v2039) a + S8x128.size a ≤ S16384x128.size a := fun v2039 k0_hw213 => k0_hw213.2

def k0_off427 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c213_i32 : BitVec 32 := 213#32
  let v2046 : BitVec 32 := Scalar.addi v128 c213_i32
  let v2047 : Index := Scalar.indexCast v2046
  ![v2047.toNat]
def k0_mult214 (v2048 : BitVec 32) : BitVec 32 :=
  v2048

def k0_off428 (v2048 : BitVec 32) : Fin 2 → Nat :=
  let v2049 : BitVec 32 := v2048
  let v2050 : Index := Scalar.indexCast v2049
  let c0_536 : Index := 0#32
  ![v2050.toNat, 0]

def k0_chk214 (v2048 : BitVec 32) : Prop :=
  (8 ∣ (k0_mult214 v2048).toNat) ∧
  (∀ a, (k0_off428 v2048) a + S8x128.size a ≤ S16384x128.size a)
theorem k0_mult214_dvd : ∀ (v2048 : BitVec 32) (k0_hw214 : k0_chk214 v2048), 8 ∣ (k0_mult214 v2048).toNat := fun v2048 k0_hw214 => k0_hw214.1
theorem k0_off428_inb : ∀ (v2048 : BitVec 32) (k0_hw214 : k0_chk214 v2048), ∀ a, (k0_off428 v2048) a + S8x128.size a ≤ S16384x128.size a := fun v2048 k0_hw214 => k0_hw214.2

def k0_off429 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c214_i32 : BitVec 32 := 214#32
  let v2055 : BitVec 32 := Scalar.addi v128 c214_i32
  let v2056 : Index := Scalar.indexCast v2055
  ![v2056.toNat]
def k0_mult215 (v2057 : BitVec 32) : BitVec 32 :=
  v2057

def k0_off430 (v2057 : BitVec 32) : Fin 2 → Nat :=
  let v2058 : BitVec 32 := v2057
  let v2059 : Index := Scalar.indexCast v2058
  let c0_538 : Index := 0#32
  ![v2059.toNat, 0]

def k0_chk215 (v2057 : BitVec 32) : Prop :=
  (8 ∣ (k0_mult215 v2057).toNat) ∧
  (∀ a, (k0_off430 v2057) a + S8x128.size a ≤ S16384x128.size a)
theorem k0_mult215_dvd : ∀ (v2057 : BitVec 32) (k0_hw215 : k0_chk215 v2057), 8 ∣ (k0_mult215 v2057).toNat := fun v2057 k0_hw215 => k0_hw215.1
theorem k0_off430_inb : ∀ (v2057 : BitVec 32) (k0_hw215 : k0_chk215 v2057), ∀ a, (k0_off430 v2057) a + S8x128.size a ≤ S16384x128.size a := fun v2057 k0_hw215 => k0_hw215.2

def k0_off431 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c215_i32 : BitVec 32 := 215#32
  let v2064 : BitVec 32 := Scalar.addi v128 c215_i32
  let v2065 : Index := Scalar.indexCast v2064
  ![v2065.toNat]
def k0_mult216 (v2066 : BitVec 32) : BitVec 32 :=
  v2066

def k0_off432 (v2066 : BitVec 32) : Fin 2 → Nat :=
  let v2067 : BitVec 32 := v2066
  let v2068 : Index := Scalar.indexCast v2067
  let c0_540 : Index := 0#32
  ![v2068.toNat, 0]

def k0_chk216 (v2066 : BitVec 32) : Prop :=
  (8 ∣ (k0_mult216 v2066).toNat) ∧
  (∀ a, (k0_off432 v2066) a + S8x128.size a ≤ S16384x128.size a)
theorem k0_mult216_dvd : ∀ (v2066 : BitVec 32) (k0_hw216 : k0_chk216 v2066), 8 ∣ (k0_mult216 v2066).toNat := fun v2066 k0_hw216 => k0_hw216.1
theorem k0_off432_inb : ∀ (v2066 : BitVec 32) (k0_hw216 : k0_chk216 v2066), ∀ a, (k0_off432 v2066) a + S8x128.size a ≤ S16384x128.size a := fun v2066 k0_hw216 => k0_hw216.2

def k0_off433 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c216_i32 : BitVec 32 := 216#32
  let v2073 : BitVec 32 := Scalar.addi v128 c216_i32
  let v2074 : Index := Scalar.indexCast v2073
  ![v2074.toNat]
def k0_mult217 (v2075 : BitVec 32) : BitVec 32 :=
  v2075

def k0_off434 (v2075 : BitVec 32) : Fin 2 → Nat :=
  let v2076 : BitVec 32 := v2075
  let v2077 : Index := Scalar.indexCast v2076
  let c0_542 : Index := 0#32
  ![v2077.toNat, 0]

def k0_chk217 (v2075 : BitVec 32) : Prop :=
  (8 ∣ (k0_mult217 v2075).toNat) ∧
  (∀ a, (k0_off434 v2075) a + S8x128.size a ≤ S16384x128.size a)
theorem k0_mult217_dvd : ∀ (v2075 : BitVec 32) (k0_hw217 : k0_chk217 v2075), 8 ∣ (k0_mult217 v2075).toNat := fun v2075 k0_hw217 => k0_hw217.1
theorem k0_off434_inb : ∀ (v2075 : BitVec 32) (k0_hw217 : k0_chk217 v2075), ∀ a, (k0_off434 v2075) a + S8x128.size a ≤ S16384x128.size a := fun v2075 k0_hw217 => k0_hw217.2

def k0_off435 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c217_i32 : BitVec 32 := 217#32
  let v2082 : BitVec 32 := Scalar.addi v128 c217_i32
  let v2083 : Index := Scalar.indexCast v2082
  ![v2083.toNat]
def k0_mult218 (v2084 : BitVec 32) : BitVec 32 :=
  v2084

def k0_off436 (v2084 : BitVec 32) : Fin 2 → Nat :=
  let v2085 : BitVec 32 := v2084
  let v2086 : Index := Scalar.indexCast v2085
  let c0_544 : Index := 0#32
  ![v2086.toNat, 0]

def k0_chk218 (v2084 : BitVec 32) : Prop :=
  (8 ∣ (k0_mult218 v2084).toNat) ∧
  (∀ a, (k0_off436 v2084) a + S8x128.size a ≤ S16384x128.size a)
theorem k0_mult218_dvd : ∀ (v2084 : BitVec 32) (k0_hw218 : k0_chk218 v2084), 8 ∣ (k0_mult218 v2084).toNat := fun v2084 k0_hw218 => k0_hw218.1
theorem k0_off436_inb : ∀ (v2084 : BitVec 32) (k0_hw218 : k0_chk218 v2084), ∀ a, (k0_off436 v2084) a + S8x128.size a ≤ S16384x128.size a := fun v2084 k0_hw218 => k0_hw218.2

def k0_off437 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c218_i32 : BitVec 32 := 218#32
  let v2091 : BitVec 32 := Scalar.addi v128 c218_i32
  let v2092 : Index := Scalar.indexCast v2091
  ![v2092.toNat]
def k0_mult219 (v2093 : BitVec 32) : BitVec 32 :=
  v2093

def k0_off438 (v2093 : BitVec 32) : Fin 2 → Nat :=
  let v2094 : BitVec 32 := v2093
  let v2095 : Index := Scalar.indexCast v2094
  let c0_546 : Index := 0#32
  ![v2095.toNat, 0]

def k0_chk219 (v2093 : BitVec 32) : Prop :=
  (8 ∣ (k0_mult219 v2093).toNat) ∧
  (∀ a, (k0_off438 v2093) a + S8x128.size a ≤ S16384x128.size a)
theorem k0_mult219_dvd : ∀ (v2093 : BitVec 32) (k0_hw219 : k0_chk219 v2093), 8 ∣ (k0_mult219 v2093).toNat := fun v2093 k0_hw219 => k0_hw219.1
theorem k0_off438_inb : ∀ (v2093 : BitVec 32) (k0_hw219 : k0_chk219 v2093), ∀ a, (k0_off438 v2093) a + S8x128.size a ≤ S16384x128.size a := fun v2093 k0_hw219 => k0_hw219.2

def k0_off439 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c219_i32 : BitVec 32 := 219#32
  let v2100 : BitVec 32 := Scalar.addi v128 c219_i32
  let v2101 : Index := Scalar.indexCast v2100
  ![v2101.toNat]
def k0_mult220 (v2102 : BitVec 32) : BitVec 32 :=
  v2102

def k0_off440 (v2102 : BitVec 32) : Fin 2 → Nat :=
  let v2103 : BitVec 32 := v2102
  let v2104 : Index := Scalar.indexCast v2103
  let c0_548 : Index := 0#32
  ![v2104.toNat, 0]

def k0_chk220 (v2102 : BitVec 32) : Prop :=
  (8 ∣ (k0_mult220 v2102).toNat) ∧
  (∀ a, (k0_off440 v2102) a + S8x128.size a ≤ S16384x128.size a)
theorem k0_mult220_dvd : ∀ (v2102 : BitVec 32) (k0_hw220 : k0_chk220 v2102), 8 ∣ (k0_mult220 v2102).toNat := fun v2102 k0_hw220 => k0_hw220.1
theorem k0_off440_inb : ∀ (v2102 : BitVec 32) (k0_hw220 : k0_chk220 v2102), ∀ a, (k0_off440 v2102) a + S8x128.size a ≤ S16384x128.size a := fun v2102 k0_hw220 => k0_hw220.2

def k0_off441 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c220_i32 : BitVec 32 := 220#32
  let v2109 : BitVec 32 := Scalar.addi v128 c220_i32
  let v2110 : Index := Scalar.indexCast v2109
  ![v2110.toNat]
def k0_mult221 (v2111 : BitVec 32) : BitVec 32 :=
  v2111

def k0_off442 (v2111 : BitVec 32) : Fin 2 → Nat :=
  let v2112 : BitVec 32 := v2111
  let v2113 : Index := Scalar.indexCast v2112
  let c0_550 : Index := 0#32
  ![v2113.toNat, 0]

def k0_chk221 (v2111 : BitVec 32) : Prop :=
  (8 ∣ (k0_mult221 v2111).toNat) ∧
  (∀ a, (k0_off442 v2111) a + S8x128.size a ≤ S16384x128.size a)
theorem k0_mult221_dvd : ∀ (v2111 : BitVec 32) (k0_hw221 : k0_chk221 v2111), 8 ∣ (k0_mult221 v2111).toNat := fun v2111 k0_hw221 => k0_hw221.1
theorem k0_off442_inb : ∀ (v2111 : BitVec 32) (k0_hw221 : k0_chk221 v2111), ∀ a, (k0_off442 v2111) a + S8x128.size a ≤ S16384x128.size a := fun v2111 k0_hw221 => k0_hw221.2

def k0_off443 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c221_i32 : BitVec 32 := 221#32
  let v2118 : BitVec 32 := Scalar.addi v128 c221_i32
  let v2119 : Index := Scalar.indexCast v2118
  ![v2119.toNat]
def k0_mult222 (v2120 : BitVec 32) : BitVec 32 :=
  v2120

def k0_off444 (v2120 : BitVec 32) : Fin 2 → Nat :=
  let v2121 : BitVec 32 := v2120
  let v2122 : Index := Scalar.indexCast v2121
  let c0_552 : Index := 0#32
  ![v2122.toNat, 0]

def k0_chk222 (v2120 : BitVec 32) : Prop :=
  (8 ∣ (k0_mult222 v2120).toNat) ∧
  (∀ a, (k0_off444 v2120) a + S8x128.size a ≤ S16384x128.size a)
theorem k0_mult222_dvd : ∀ (v2120 : BitVec 32) (k0_hw222 : k0_chk222 v2120), 8 ∣ (k0_mult222 v2120).toNat := fun v2120 k0_hw222 => k0_hw222.1
theorem k0_off444_inb : ∀ (v2120 : BitVec 32) (k0_hw222 : k0_chk222 v2120), ∀ a, (k0_off444 v2120) a + S8x128.size a ≤ S16384x128.size a := fun v2120 k0_hw222 => k0_hw222.2

def k0_off445 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c222_i32 : BitVec 32 := 222#32
  let v2127 : BitVec 32 := Scalar.addi v128 c222_i32
  let v2128 : Index := Scalar.indexCast v2127
  ![v2128.toNat]
def k0_mult223 (v2129 : BitVec 32) : BitVec 32 :=
  v2129

def k0_off446 (v2129 : BitVec 32) : Fin 2 → Nat :=
  let v2130 : BitVec 32 := v2129
  let v2131 : Index := Scalar.indexCast v2130
  let c0_554 : Index := 0#32
  ![v2131.toNat, 0]

def k0_chk223 (v2129 : BitVec 32) : Prop :=
  (8 ∣ (k0_mult223 v2129).toNat) ∧
  (∀ a, (k0_off446 v2129) a + S8x128.size a ≤ S16384x128.size a)
theorem k0_mult223_dvd : ∀ (v2129 : BitVec 32) (k0_hw223 : k0_chk223 v2129), 8 ∣ (k0_mult223 v2129).toNat := fun v2129 k0_hw223 => k0_hw223.1
theorem k0_off446_inb : ∀ (v2129 : BitVec 32) (k0_hw223 : k0_chk223 v2129), ∀ a, (k0_off446 v2129) a + S8x128.size a ≤ S16384x128.size a := fun v2129 k0_hw223 => k0_hw223.2

def k0_off447 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c223_i32 : BitVec 32 := 223#32
  let v2136 : BitVec 32 := Scalar.addi v128 c223_i32
  let v2137 : Index := Scalar.indexCast v2136
  ![v2137.toNat]
def k0_mult224 (v2138 : BitVec 32) : BitVec 32 :=
  v2138

def k0_off448 (v2138 : BitVec 32) : Fin 2 → Nat :=
  let v2139 : BitVec 32 := v2138
  let v2140 : Index := Scalar.indexCast v2139
  let c0_556 : Index := 0#32
  ![v2140.toNat, 0]

def k0_chk224 (v2138 : BitVec 32) : Prop :=
  (8 ∣ (k0_mult224 v2138).toNat) ∧
  (∀ a, (k0_off448 v2138) a + S8x128.size a ≤ S16384x128.size a)
theorem k0_mult224_dvd : ∀ (v2138 : BitVec 32) (k0_hw224 : k0_chk224 v2138), 8 ∣ (k0_mult224 v2138).toNat := fun v2138 k0_hw224 => k0_hw224.1
theorem k0_off448_inb : ∀ (v2138 : BitVec 32) (k0_hw224 : k0_chk224 v2138), ∀ a, (k0_off448 v2138) a + S8x128.size a ≤ S16384x128.size a := fun v2138 k0_hw224 => k0_hw224.2

def k0_off449 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c224_i32 : BitVec 32 := 224#32
  let v2145 : BitVec 32 := Scalar.addi v128 c224_i32
  let v2146 : Index := Scalar.indexCast v2145
  ![v2146.toNat]
def k0_mult225 (v2147 : BitVec 32) : BitVec 32 :=
  v2147

def k0_off450 (v2147 : BitVec 32) : Fin 2 → Nat :=
  let v2148 : BitVec 32 := v2147
  let v2149 : Index := Scalar.indexCast v2148
  let c0_558 : Index := 0#32
  ![v2149.toNat, 0]

def k0_chk225 (v2147 : BitVec 32) : Prop :=
  (8 ∣ (k0_mult225 v2147).toNat) ∧
  (∀ a, (k0_off450 v2147) a + S8x128.size a ≤ S16384x128.size a)
theorem k0_mult225_dvd : ∀ (v2147 : BitVec 32) (k0_hw225 : k0_chk225 v2147), 8 ∣ (k0_mult225 v2147).toNat := fun v2147 k0_hw225 => k0_hw225.1
theorem k0_off450_inb : ∀ (v2147 : BitVec 32) (k0_hw225 : k0_chk225 v2147), ∀ a, (k0_off450 v2147) a + S8x128.size a ≤ S16384x128.size a := fun v2147 k0_hw225 => k0_hw225.2

def k0_off451 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c225_i32 : BitVec 32 := 225#32
  let v2154 : BitVec 32 := Scalar.addi v128 c225_i32
  let v2155 : Index := Scalar.indexCast v2154
  ![v2155.toNat]
def k0_mult226 (v2156 : BitVec 32) : BitVec 32 :=
  v2156

def k0_off452 (v2156 : BitVec 32) : Fin 2 → Nat :=
  let v2157 : BitVec 32 := v2156
  let v2158 : Index := Scalar.indexCast v2157
  let c0_560 : Index := 0#32
  ![v2158.toNat, 0]

def k0_chk226 (v2156 : BitVec 32) : Prop :=
  (8 ∣ (k0_mult226 v2156).toNat) ∧
  (∀ a, (k0_off452 v2156) a + S8x128.size a ≤ S16384x128.size a)
theorem k0_mult226_dvd : ∀ (v2156 : BitVec 32) (k0_hw226 : k0_chk226 v2156), 8 ∣ (k0_mult226 v2156).toNat := fun v2156 k0_hw226 => k0_hw226.1
theorem k0_off452_inb : ∀ (v2156 : BitVec 32) (k0_hw226 : k0_chk226 v2156), ∀ a, (k0_off452 v2156) a + S8x128.size a ≤ S16384x128.size a := fun v2156 k0_hw226 => k0_hw226.2

def k0_off453 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c226_i32 : BitVec 32 := 226#32
  let v2163 : BitVec 32 := Scalar.addi v128 c226_i32
  let v2164 : Index := Scalar.indexCast v2163
  ![v2164.toNat]
def k0_mult227 (v2165 : BitVec 32) : BitVec 32 :=
  v2165

def k0_off454 (v2165 : BitVec 32) : Fin 2 → Nat :=
  let v2166 : BitVec 32 := v2165
  let v2167 : Index := Scalar.indexCast v2166
  let c0_562 : Index := 0#32
  ![v2167.toNat, 0]

def k0_chk227 (v2165 : BitVec 32) : Prop :=
  (8 ∣ (k0_mult227 v2165).toNat) ∧
  (∀ a, (k0_off454 v2165) a + S8x128.size a ≤ S16384x128.size a)
theorem k0_mult227_dvd : ∀ (v2165 : BitVec 32) (k0_hw227 : k0_chk227 v2165), 8 ∣ (k0_mult227 v2165).toNat := fun v2165 k0_hw227 => k0_hw227.1
theorem k0_off454_inb : ∀ (v2165 : BitVec 32) (k0_hw227 : k0_chk227 v2165), ∀ a, (k0_off454 v2165) a + S8x128.size a ≤ S16384x128.size a := fun v2165 k0_hw227 => k0_hw227.2

def k0_off455 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c227_i32 : BitVec 32 := 227#32
  let v2172 : BitVec 32 := Scalar.addi v128 c227_i32
  let v2173 : Index := Scalar.indexCast v2172
  ![v2173.toNat]
def k0_mult228 (v2174 : BitVec 32) : BitVec 32 :=
  v2174

def k0_off456 (v2174 : BitVec 32) : Fin 2 → Nat :=
  let v2175 : BitVec 32 := v2174
  let v2176 : Index := Scalar.indexCast v2175
  let c0_564 : Index := 0#32
  ![v2176.toNat, 0]

def k0_chk228 (v2174 : BitVec 32) : Prop :=
  (8 ∣ (k0_mult228 v2174).toNat) ∧
  (∀ a, (k0_off456 v2174) a + S8x128.size a ≤ S16384x128.size a)
theorem k0_mult228_dvd : ∀ (v2174 : BitVec 32) (k0_hw228 : k0_chk228 v2174), 8 ∣ (k0_mult228 v2174).toNat := fun v2174 k0_hw228 => k0_hw228.1
theorem k0_off456_inb : ∀ (v2174 : BitVec 32) (k0_hw228 : k0_chk228 v2174), ∀ a, (k0_off456 v2174) a + S8x128.size a ≤ S16384x128.size a := fun v2174 k0_hw228 => k0_hw228.2

def k0_off457 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c228_i32 : BitVec 32 := 228#32
  let v2181 : BitVec 32 := Scalar.addi v128 c228_i32
  let v2182 : Index := Scalar.indexCast v2181
  ![v2182.toNat]
def k0_mult229 (v2183 : BitVec 32) : BitVec 32 :=
  v2183

def k0_off458 (v2183 : BitVec 32) : Fin 2 → Nat :=
  let v2184 : BitVec 32 := v2183
  let v2185 : Index := Scalar.indexCast v2184
  let c0_566 : Index := 0#32
  ![v2185.toNat, 0]

def k0_chk229 (v2183 : BitVec 32) : Prop :=
  (8 ∣ (k0_mult229 v2183).toNat) ∧
  (∀ a, (k0_off458 v2183) a + S8x128.size a ≤ S16384x128.size a)
theorem k0_mult229_dvd : ∀ (v2183 : BitVec 32) (k0_hw229 : k0_chk229 v2183), 8 ∣ (k0_mult229 v2183).toNat := fun v2183 k0_hw229 => k0_hw229.1
theorem k0_off458_inb : ∀ (v2183 : BitVec 32) (k0_hw229 : k0_chk229 v2183), ∀ a, (k0_off458 v2183) a + S8x128.size a ≤ S16384x128.size a := fun v2183 k0_hw229 => k0_hw229.2

def k0_off459 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c229_i32 : BitVec 32 := 229#32
  let v2190 : BitVec 32 := Scalar.addi v128 c229_i32
  let v2191 : Index := Scalar.indexCast v2190
  ![v2191.toNat]
def k0_mult230 (v2192 : BitVec 32) : BitVec 32 :=
  v2192

def k0_off460 (v2192 : BitVec 32) : Fin 2 → Nat :=
  let v2193 : BitVec 32 := v2192
  let v2194 : Index := Scalar.indexCast v2193
  let c0_568 : Index := 0#32
  ![v2194.toNat, 0]

def k0_chk230 (v2192 : BitVec 32) : Prop :=
  (8 ∣ (k0_mult230 v2192).toNat) ∧
  (∀ a, (k0_off460 v2192) a + S8x128.size a ≤ S16384x128.size a)
theorem k0_mult230_dvd : ∀ (v2192 : BitVec 32) (k0_hw230 : k0_chk230 v2192), 8 ∣ (k0_mult230 v2192).toNat := fun v2192 k0_hw230 => k0_hw230.1
theorem k0_off460_inb : ∀ (v2192 : BitVec 32) (k0_hw230 : k0_chk230 v2192), ∀ a, (k0_off460 v2192) a + S8x128.size a ≤ S16384x128.size a := fun v2192 k0_hw230 => k0_hw230.2

def k0_off461 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c230_i32 : BitVec 32 := 230#32
  let v2199 : BitVec 32 := Scalar.addi v128 c230_i32
  let v2200 : Index := Scalar.indexCast v2199
  ![v2200.toNat]
def k0_mult231 (v2201 : BitVec 32) : BitVec 32 :=
  v2201

def k0_off462 (v2201 : BitVec 32) : Fin 2 → Nat :=
  let v2202 : BitVec 32 := v2201
  let v2203 : Index := Scalar.indexCast v2202
  let c0_570 : Index := 0#32
  ![v2203.toNat, 0]

def k0_chk231 (v2201 : BitVec 32) : Prop :=
  (8 ∣ (k0_mult231 v2201).toNat) ∧
  (∀ a, (k0_off462 v2201) a + S8x128.size a ≤ S16384x128.size a)
theorem k0_mult231_dvd : ∀ (v2201 : BitVec 32) (k0_hw231 : k0_chk231 v2201), 8 ∣ (k0_mult231 v2201).toNat := fun v2201 k0_hw231 => k0_hw231.1
theorem k0_off462_inb : ∀ (v2201 : BitVec 32) (k0_hw231 : k0_chk231 v2201), ∀ a, (k0_off462 v2201) a + S8x128.size a ≤ S16384x128.size a := fun v2201 k0_hw231 => k0_hw231.2

def k0_off463 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c231_i32 : BitVec 32 := 231#32
  let v2208 : BitVec 32 := Scalar.addi v128 c231_i32
  let v2209 : Index := Scalar.indexCast v2208
  ![v2209.toNat]
def k0_mult232 (v2210 : BitVec 32) : BitVec 32 :=
  v2210

def k0_off464 (v2210 : BitVec 32) : Fin 2 → Nat :=
  let v2211 : BitVec 32 := v2210
  let v2212 : Index := Scalar.indexCast v2211
  let c0_572 : Index := 0#32
  ![v2212.toNat, 0]

def k0_chk232 (v2210 : BitVec 32) : Prop :=
  (8 ∣ (k0_mult232 v2210).toNat) ∧
  (∀ a, (k0_off464 v2210) a + S8x128.size a ≤ S16384x128.size a)
theorem k0_mult232_dvd : ∀ (v2210 : BitVec 32) (k0_hw232 : k0_chk232 v2210), 8 ∣ (k0_mult232 v2210).toNat := fun v2210 k0_hw232 => k0_hw232.1
theorem k0_off464_inb : ∀ (v2210 : BitVec 32) (k0_hw232 : k0_chk232 v2210), ∀ a, (k0_off464 v2210) a + S8x128.size a ≤ S16384x128.size a := fun v2210 k0_hw232 => k0_hw232.2

def k0_off465 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c232_i32 : BitVec 32 := 232#32
  let v2217 : BitVec 32 := Scalar.addi v128 c232_i32
  let v2218 : Index := Scalar.indexCast v2217
  ![v2218.toNat]
def k0_mult233 (v2219 : BitVec 32) : BitVec 32 :=
  v2219

def k0_off466 (v2219 : BitVec 32) : Fin 2 → Nat :=
  let v2220 : BitVec 32 := v2219
  let v2221 : Index := Scalar.indexCast v2220
  let c0_574 : Index := 0#32
  ![v2221.toNat, 0]

def k0_chk233 (v2219 : BitVec 32) : Prop :=
  (8 ∣ (k0_mult233 v2219).toNat) ∧
  (∀ a, (k0_off466 v2219) a + S8x128.size a ≤ S16384x128.size a)
theorem k0_mult233_dvd : ∀ (v2219 : BitVec 32) (k0_hw233 : k0_chk233 v2219), 8 ∣ (k0_mult233 v2219).toNat := fun v2219 k0_hw233 => k0_hw233.1
theorem k0_off466_inb : ∀ (v2219 : BitVec 32) (k0_hw233 : k0_chk233 v2219), ∀ a, (k0_off466 v2219) a + S8x128.size a ≤ S16384x128.size a := fun v2219 k0_hw233 => k0_hw233.2

def k0_off467 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c233_i32 : BitVec 32 := 233#32
  let v2226 : BitVec 32 := Scalar.addi v128 c233_i32
  let v2227 : Index := Scalar.indexCast v2226
  ![v2227.toNat]
def k0_mult234 (v2228 : BitVec 32) : BitVec 32 :=
  v2228

def k0_off468 (v2228 : BitVec 32) : Fin 2 → Nat :=
  let v2229 : BitVec 32 := v2228
  let v2230 : Index := Scalar.indexCast v2229
  let c0_576 : Index := 0#32
  ![v2230.toNat, 0]

def k0_chk234 (v2228 : BitVec 32) : Prop :=
  (8 ∣ (k0_mult234 v2228).toNat) ∧
  (∀ a, (k0_off468 v2228) a + S8x128.size a ≤ S16384x128.size a)
theorem k0_mult234_dvd : ∀ (v2228 : BitVec 32) (k0_hw234 : k0_chk234 v2228), 8 ∣ (k0_mult234 v2228).toNat := fun v2228 k0_hw234 => k0_hw234.1
theorem k0_off468_inb : ∀ (v2228 : BitVec 32) (k0_hw234 : k0_chk234 v2228), ∀ a, (k0_off468 v2228) a + S8x128.size a ≤ S16384x128.size a := fun v2228 k0_hw234 => k0_hw234.2

def k0_off469 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c234_i32 : BitVec 32 := 234#32
  let v2235 : BitVec 32 := Scalar.addi v128 c234_i32
  let v2236 : Index := Scalar.indexCast v2235
  ![v2236.toNat]
def k0_mult235 (v2237 : BitVec 32) : BitVec 32 :=
  v2237

def k0_off470 (v2237 : BitVec 32) : Fin 2 → Nat :=
  let v2238 : BitVec 32 := v2237
  let v2239 : Index := Scalar.indexCast v2238
  let c0_578 : Index := 0#32
  ![v2239.toNat, 0]

def k0_chk235 (v2237 : BitVec 32) : Prop :=
  (8 ∣ (k0_mult235 v2237).toNat) ∧
  (∀ a, (k0_off470 v2237) a + S8x128.size a ≤ S16384x128.size a)
theorem k0_mult235_dvd : ∀ (v2237 : BitVec 32) (k0_hw235 : k0_chk235 v2237), 8 ∣ (k0_mult235 v2237).toNat := fun v2237 k0_hw235 => k0_hw235.1
theorem k0_off470_inb : ∀ (v2237 : BitVec 32) (k0_hw235 : k0_chk235 v2237), ∀ a, (k0_off470 v2237) a + S8x128.size a ≤ S16384x128.size a := fun v2237 k0_hw235 => k0_hw235.2

def k0_off471 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c235_i32 : BitVec 32 := 235#32
  let v2244 : BitVec 32 := Scalar.addi v128 c235_i32
  let v2245 : Index := Scalar.indexCast v2244
  ![v2245.toNat]
def k0_mult236 (v2246 : BitVec 32) : BitVec 32 :=
  v2246

def k0_off472 (v2246 : BitVec 32) : Fin 2 → Nat :=
  let v2247 : BitVec 32 := v2246
  let v2248 : Index := Scalar.indexCast v2247
  let c0_580 : Index := 0#32
  ![v2248.toNat, 0]

def k0_chk236 (v2246 : BitVec 32) : Prop :=
  (8 ∣ (k0_mult236 v2246).toNat) ∧
  (∀ a, (k0_off472 v2246) a + S8x128.size a ≤ S16384x128.size a)
theorem k0_mult236_dvd : ∀ (v2246 : BitVec 32) (k0_hw236 : k0_chk236 v2246), 8 ∣ (k0_mult236 v2246).toNat := fun v2246 k0_hw236 => k0_hw236.1
theorem k0_off472_inb : ∀ (v2246 : BitVec 32) (k0_hw236 : k0_chk236 v2246), ∀ a, (k0_off472 v2246) a + S8x128.size a ≤ S16384x128.size a := fun v2246 k0_hw236 => k0_hw236.2

def k0_off473 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c236_i32 : BitVec 32 := 236#32
  let v2253 : BitVec 32 := Scalar.addi v128 c236_i32
  let v2254 : Index := Scalar.indexCast v2253
  ![v2254.toNat]
def k0_mult237 (v2255 : BitVec 32) : BitVec 32 :=
  v2255

def k0_off474 (v2255 : BitVec 32) : Fin 2 → Nat :=
  let v2256 : BitVec 32 := v2255
  let v2257 : Index := Scalar.indexCast v2256
  let c0_582 : Index := 0#32
  ![v2257.toNat, 0]

def k0_chk237 (v2255 : BitVec 32) : Prop :=
  (8 ∣ (k0_mult237 v2255).toNat) ∧
  (∀ a, (k0_off474 v2255) a + S8x128.size a ≤ S16384x128.size a)
theorem k0_mult237_dvd : ∀ (v2255 : BitVec 32) (k0_hw237 : k0_chk237 v2255), 8 ∣ (k0_mult237 v2255).toNat := fun v2255 k0_hw237 => k0_hw237.1
theorem k0_off474_inb : ∀ (v2255 : BitVec 32) (k0_hw237 : k0_chk237 v2255), ∀ a, (k0_off474 v2255) a + S8x128.size a ≤ S16384x128.size a := fun v2255 k0_hw237 => k0_hw237.2

def k0_off475 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c237_i32 : BitVec 32 := 237#32
  let v2262 : BitVec 32 := Scalar.addi v128 c237_i32
  let v2263 : Index := Scalar.indexCast v2262
  ![v2263.toNat]
def k0_mult238 (v2264 : BitVec 32) : BitVec 32 :=
  v2264

def k0_off476 (v2264 : BitVec 32) : Fin 2 → Nat :=
  let v2265 : BitVec 32 := v2264
  let v2266 : Index := Scalar.indexCast v2265
  let c0_584 : Index := 0#32
  ![v2266.toNat, 0]

def k0_chk238 (v2264 : BitVec 32) : Prop :=
  (8 ∣ (k0_mult238 v2264).toNat) ∧
  (∀ a, (k0_off476 v2264) a + S8x128.size a ≤ S16384x128.size a)
theorem k0_mult238_dvd : ∀ (v2264 : BitVec 32) (k0_hw238 : k0_chk238 v2264), 8 ∣ (k0_mult238 v2264).toNat := fun v2264 k0_hw238 => k0_hw238.1
theorem k0_off476_inb : ∀ (v2264 : BitVec 32) (k0_hw238 : k0_chk238 v2264), ∀ a, (k0_off476 v2264) a + S8x128.size a ≤ S16384x128.size a := fun v2264 k0_hw238 => k0_hw238.2

def k0_off477 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c238_i32 : BitVec 32 := 238#32
  let v2271 : BitVec 32 := Scalar.addi v128 c238_i32
  let v2272 : Index := Scalar.indexCast v2271
  ![v2272.toNat]
def k0_mult239 (v2273 : BitVec 32) : BitVec 32 :=
  v2273

def k0_off478 (v2273 : BitVec 32) : Fin 2 → Nat :=
  let v2274 : BitVec 32 := v2273
  let v2275 : Index := Scalar.indexCast v2274
  let c0_586 : Index := 0#32
  ![v2275.toNat, 0]

def k0_chk239 (v2273 : BitVec 32) : Prop :=
  (8 ∣ (k0_mult239 v2273).toNat) ∧
  (∀ a, (k0_off478 v2273) a + S8x128.size a ≤ S16384x128.size a)
theorem k0_mult239_dvd : ∀ (v2273 : BitVec 32) (k0_hw239 : k0_chk239 v2273), 8 ∣ (k0_mult239 v2273).toNat := fun v2273 k0_hw239 => k0_hw239.1
theorem k0_off478_inb : ∀ (v2273 : BitVec 32) (k0_hw239 : k0_chk239 v2273), ∀ a, (k0_off478 v2273) a + S8x128.size a ≤ S16384x128.size a := fun v2273 k0_hw239 => k0_hw239.2

def k0_off479 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c239_i32 : BitVec 32 := 239#32
  let v2280 : BitVec 32 := Scalar.addi v128 c239_i32
  let v2281 : Index := Scalar.indexCast v2280
  ![v2281.toNat]
def k0_mult240 (v2282 : BitVec 32) : BitVec 32 :=
  v2282

def k0_off480 (v2282 : BitVec 32) : Fin 2 → Nat :=
  let v2283 : BitVec 32 := v2282
  let v2284 : Index := Scalar.indexCast v2283
  let c0_588 : Index := 0#32
  ![v2284.toNat, 0]

def k0_chk240 (v2282 : BitVec 32) : Prop :=
  (8 ∣ (k0_mult240 v2282).toNat) ∧
  (∀ a, (k0_off480 v2282) a + S8x128.size a ≤ S16384x128.size a)
theorem k0_mult240_dvd : ∀ (v2282 : BitVec 32) (k0_hw240 : k0_chk240 v2282), 8 ∣ (k0_mult240 v2282).toNat := fun v2282 k0_hw240 => k0_hw240.1
theorem k0_off480_inb : ∀ (v2282 : BitVec 32) (k0_hw240 : k0_chk240 v2282), ∀ a, (k0_off480 v2282) a + S8x128.size a ≤ S16384x128.size a := fun v2282 k0_hw240 => k0_hw240.2

def k0_off481 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c240_i32 : BitVec 32 := 240#32
  let v2289 : BitVec 32 := Scalar.addi v128 c240_i32
  let v2290 : Index := Scalar.indexCast v2289
  ![v2290.toNat]
def k0_mult241 (v2291 : BitVec 32) : BitVec 32 :=
  v2291

def k0_off482 (v2291 : BitVec 32) : Fin 2 → Nat :=
  let v2292 : BitVec 32 := v2291
  let v2293 : Index := Scalar.indexCast v2292
  let c0_590 : Index := 0#32
  ![v2293.toNat, 0]

def k0_chk241 (v2291 : BitVec 32) : Prop :=
  (8 ∣ (k0_mult241 v2291).toNat) ∧
  (∀ a, (k0_off482 v2291) a + S8x128.size a ≤ S16384x128.size a)
theorem k0_mult241_dvd : ∀ (v2291 : BitVec 32) (k0_hw241 : k0_chk241 v2291), 8 ∣ (k0_mult241 v2291).toNat := fun v2291 k0_hw241 => k0_hw241.1
theorem k0_off482_inb : ∀ (v2291 : BitVec 32) (k0_hw241 : k0_chk241 v2291), ∀ a, (k0_off482 v2291) a + S8x128.size a ≤ S16384x128.size a := fun v2291 k0_hw241 => k0_hw241.2

def k0_off483 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c241_i32 : BitVec 32 := 241#32
  let v2298 : BitVec 32 := Scalar.addi v128 c241_i32
  let v2299 : Index := Scalar.indexCast v2298
  ![v2299.toNat]
def k0_mult242 (v2300 : BitVec 32) : BitVec 32 :=
  v2300

def k0_off484 (v2300 : BitVec 32) : Fin 2 → Nat :=
  let v2301 : BitVec 32 := v2300
  let v2302 : Index := Scalar.indexCast v2301
  let c0_592 : Index := 0#32
  ![v2302.toNat, 0]

def k0_chk242 (v2300 : BitVec 32) : Prop :=
  (8 ∣ (k0_mult242 v2300).toNat) ∧
  (∀ a, (k0_off484 v2300) a + S8x128.size a ≤ S16384x128.size a)
theorem k0_mult242_dvd : ∀ (v2300 : BitVec 32) (k0_hw242 : k0_chk242 v2300), 8 ∣ (k0_mult242 v2300).toNat := fun v2300 k0_hw242 => k0_hw242.1
theorem k0_off484_inb : ∀ (v2300 : BitVec 32) (k0_hw242 : k0_chk242 v2300), ∀ a, (k0_off484 v2300) a + S8x128.size a ≤ S16384x128.size a := fun v2300 k0_hw242 => k0_hw242.2

def k0_off485 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c242_i32 : BitVec 32 := 242#32
  let v2307 : BitVec 32 := Scalar.addi v128 c242_i32
  let v2308 : Index := Scalar.indexCast v2307
  ![v2308.toNat]
def k0_mult243 (v2309 : BitVec 32) : BitVec 32 :=
  v2309

def k0_off486 (v2309 : BitVec 32) : Fin 2 → Nat :=
  let v2310 : BitVec 32 := v2309
  let v2311 : Index := Scalar.indexCast v2310
  let c0_594 : Index := 0#32
  ![v2311.toNat, 0]

def k0_chk243 (v2309 : BitVec 32) : Prop :=
  (8 ∣ (k0_mult243 v2309).toNat) ∧
  (∀ a, (k0_off486 v2309) a + S8x128.size a ≤ S16384x128.size a)
theorem k0_mult243_dvd : ∀ (v2309 : BitVec 32) (k0_hw243 : k0_chk243 v2309), 8 ∣ (k0_mult243 v2309).toNat := fun v2309 k0_hw243 => k0_hw243.1
theorem k0_off486_inb : ∀ (v2309 : BitVec 32) (k0_hw243 : k0_chk243 v2309), ∀ a, (k0_off486 v2309) a + S8x128.size a ≤ S16384x128.size a := fun v2309 k0_hw243 => k0_hw243.2

def k0_off487 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c243_i32 : BitVec 32 := 243#32
  let v2316 : BitVec 32 := Scalar.addi v128 c243_i32
  let v2317 : Index := Scalar.indexCast v2316
  ![v2317.toNat]
def k0_mult244 (v2318 : BitVec 32) : BitVec 32 :=
  v2318

def k0_off488 (v2318 : BitVec 32) : Fin 2 → Nat :=
  let v2319 : BitVec 32 := v2318
  let v2320 : Index := Scalar.indexCast v2319
  let c0_596 : Index := 0#32
  ![v2320.toNat, 0]

def k0_chk244 (v2318 : BitVec 32) : Prop :=
  (8 ∣ (k0_mult244 v2318).toNat) ∧
  (∀ a, (k0_off488 v2318) a + S8x128.size a ≤ S16384x128.size a)
theorem k0_mult244_dvd : ∀ (v2318 : BitVec 32) (k0_hw244 : k0_chk244 v2318), 8 ∣ (k0_mult244 v2318).toNat := fun v2318 k0_hw244 => k0_hw244.1
theorem k0_off488_inb : ∀ (v2318 : BitVec 32) (k0_hw244 : k0_chk244 v2318), ∀ a, (k0_off488 v2318) a + S8x128.size a ≤ S16384x128.size a := fun v2318 k0_hw244 => k0_hw244.2

def k0_off489 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c244_i32 : BitVec 32 := 244#32
  let v2325 : BitVec 32 := Scalar.addi v128 c244_i32
  let v2326 : Index := Scalar.indexCast v2325
  ![v2326.toNat]
def k0_mult245 (v2327 : BitVec 32) : BitVec 32 :=
  v2327

def k0_off490 (v2327 : BitVec 32) : Fin 2 → Nat :=
  let v2328 : BitVec 32 := v2327
  let v2329 : Index := Scalar.indexCast v2328
  let c0_598 : Index := 0#32
  ![v2329.toNat, 0]

def k0_chk245 (v2327 : BitVec 32) : Prop :=
  (8 ∣ (k0_mult245 v2327).toNat) ∧
  (∀ a, (k0_off490 v2327) a + S8x128.size a ≤ S16384x128.size a)
theorem k0_mult245_dvd : ∀ (v2327 : BitVec 32) (k0_hw245 : k0_chk245 v2327), 8 ∣ (k0_mult245 v2327).toNat := fun v2327 k0_hw245 => k0_hw245.1
theorem k0_off490_inb : ∀ (v2327 : BitVec 32) (k0_hw245 : k0_chk245 v2327), ∀ a, (k0_off490 v2327) a + S8x128.size a ≤ S16384x128.size a := fun v2327 k0_hw245 => k0_hw245.2

def k0_off491 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c245_i32 : BitVec 32 := 245#32
  let v2334 : BitVec 32 := Scalar.addi v128 c245_i32
  let v2335 : Index := Scalar.indexCast v2334
  ![v2335.toNat]
def k0_mult246 (v2336 : BitVec 32) : BitVec 32 :=
  v2336

def k0_off492 (v2336 : BitVec 32) : Fin 2 → Nat :=
  let v2337 : BitVec 32 := v2336
  let v2338 : Index := Scalar.indexCast v2337
  let c0_600 : Index := 0#32
  ![v2338.toNat, 0]

def k0_chk246 (v2336 : BitVec 32) : Prop :=
  (8 ∣ (k0_mult246 v2336).toNat) ∧
  (∀ a, (k0_off492 v2336) a + S8x128.size a ≤ S16384x128.size a)
theorem k0_mult246_dvd : ∀ (v2336 : BitVec 32) (k0_hw246 : k0_chk246 v2336), 8 ∣ (k0_mult246 v2336).toNat := fun v2336 k0_hw246 => k0_hw246.1
theorem k0_off492_inb : ∀ (v2336 : BitVec 32) (k0_hw246 : k0_chk246 v2336), ∀ a, (k0_off492 v2336) a + S8x128.size a ≤ S16384x128.size a := fun v2336 k0_hw246 => k0_hw246.2

def k0_off493 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c246_i32 : BitVec 32 := 246#32
  let v2343 : BitVec 32 := Scalar.addi v128 c246_i32
  let v2344 : Index := Scalar.indexCast v2343
  ![v2344.toNat]
def k0_mult247 (v2345 : BitVec 32) : BitVec 32 :=
  v2345

def k0_off494 (v2345 : BitVec 32) : Fin 2 → Nat :=
  let v2346 : BitVec 32 := v2345
  let v2347 : Index := Scalar.indexCast v2346
  let c0_602 : Index := 0#32
  ![v2347.toNat, 0]

def k0_chk247 (v2345 : BitVec 32) : Prop :=
  (8 ∣ (k0_mult247 v2345).toNat) ∧
  (∀ a, (k0_off494 v2345) a + S8x128.size a ≤ S16384x128.size a)
theorem k0_mult247_dvd : ∀ (v2345 : BitVec 32) (k0_hw247 : k0_chk247 v2345), 8 ∣ (k0_mult247 v2345).toNat := fun v2345 k0_hw247 => k0_hw247.1
theorem k0_off494_inb : ∀ (v2345 : BitVec 32) (k0_hw247 : k0_chk247 v2345), ∀ a, (k0_off494 v2345) a + S8x128.size a ≤ S16384x128.size a := fun v2345 k0_hw247 => k0_hw247.2

def k0_off495 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c247_i32 : BitVec 32 := 247#32
  let v2352 : BitVec 32 := Scalar.addi v128 c247_i32
  let v2353 : Index := Scalar.indexCast v2352
  ![v2353.toNat]
def k0_mult248 (v2354 : BitVec 32) : BitVec 32 :=
  v2354

def k0_off496 (v2354 : BitVec 32) : Fin 2 → Nat :=
  let v2355 : BitVec 32 := v2354
  let v2356 : Index := Scalar.indexCast v2355
  let c0_604 : Index := 0#32
  ![v2356.toNat, 0]

def k0_chk248 (v2354 : BitVec 32) : Prop :=
  (8 ∣ (k0_mult248 v2354).toNat) ∧
  (∀ a, (k0_off496 v2354) a + S8x128.size a ≤ S16384x128.size a)
theorem k0_mult248_dvd : ∀ (v2354 : BitVec 32) (k0_hw248 : k0_chk248 v2354), 8 ∣ (k0_mult248 v2354).toNat := fun v2354 k0_hw248 => k0_hw248.1
theorem k0_off496_inb : ∀ (v2354 : BitVec 32) (k0_hw248 : k0_chk248 v2354), ∀ a, (k0_off496 v2354) a + S8x128.size a ≤ S16384x128.size a := fun v2354 k0_hw248 => k0_hw248.2

def k0_off497 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c248_i32 : BitVec 32 := 248#32
  let v2361 : BitVec 32 := Scalar.addi v128 c248_i32
  let v2362 : Index := Scalar.indexCast v2361
  ![v2362.toNat]
def k0_mult249 (v2363 : BitVec 32) : BitVec 32 :=
  v2363

def k0_off498 (v2363 : BitVec 32) : Fin 2 → Nat :=
  let v2364 : BitVec 32 := v2363
  let v2365 : Index := Scalar.indexCast v2364
  let c0_606 : Index := 0#32
  ![v2365.toNat, 0]

def k0_chk249 (v2363 : BitVec 32) : Prop :=
  (8 ∣ (k0_mult249 v2363).toNat) ∧
  (∀ a, (k0_off498 v2363) a + S8x128.size a ≤ S16384x128.size a)
theorem k0_mult249_dvd : ∀ (v2363 : BitVec 32) (k0_hw249 : k0_chk249 v2363), 8 ∣ (k0_mult249 v2363).toNat := fun v2363 k0_hw249 => k0_hw249.1
theorem k0_off498_inb : ∀ (v2363 : BitVec 32) (k0_hw249 : k0_chk249 v2363), ∀ a, (k0_off498 v2363) a + S8x128.size a ≤ S16384x128.size a := fun v2363 k0_hw249 => k0_hw249.2

def k0_off499 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c249_i32 : BitVec 32 := 249#32
  let v2370 : BitVec 32 := Scalar.addi v128 c249_i32
  let v2371 : Index := Scalar.indexCast v2370
  ![v2371.toNat]
def k0_mult250 (v2372 : BitVec 32) : BitVec 32 :=
  v2372

def k0_off500 (v2372 : BitVec 32) : Fin 2 → Nat :=
  let v2373 : BitVec 32 := v2372
  let v2374 : Index := Scalar.indexCast v2373
  let c0_608 : Index := 0#32
  ![v2374.toNat, 0]

def k0_chk250 (v2372 : BitVec 32) : Prop :=
  (8 ∣ (k0_mult250 v2372).toNat) ∧
  (∀ a, (k0_off500 v2372) a + S8x128.size a ≤ S16384x128.size a)
theorem k0_mult250_dvd : ∀ (v2372 : BitVec 32) (k0_hw250 : k0_chk250 v2372), 8 ∣ (k0_mult250 v2372).toNat := fun v2372 k0_hw250 => k0_hw250.1
theorem k0_off500_inb : ∀ (v2372 : BitVec 32) (k0_hw250 : k0_chk250 v2372), ∀ a, (k0_off500 v2372) a + S8x128.size a ≤ S16384x128.size a := fun v2372 k0_hw250 => k0_hw250.2

def k0_off501 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c250_i32 : BitVec 32 := 250#32
  let v2379 : BitVec 32 := Scalar.addi v128 c250_i32
  let v2380 : Index := Scalar.indexCast v2379
  ![v2380.toNat]
def k0_mult251 (v2381 : BitVec 32) : BitVec 32 :=
  v2381

def k0_off502 (v2381 : BitVec 32) : Fin 2 → Nat :=
  let v2382 : BitVec 32 := v2381
  let v2383 : Index := Scalar.indexCast v2382
  let c0_610 : Index := 0#32
  ![v2383.toNat, 0]

def k0_chk251 (v2381 : BitVec 32) : Prop :=
  (8 ∣ (k0_mult251 v2381).toNat) ∧
  (∀ a, (k0_off502 v2381) a + S8x128.size a ≤ S16384x128.size a)
theorem k0_mult251_dvd : ∀ (v2381 : BitVec 32) (k0_hw251 : k0_chk251 v2381), 8 ∣ (k0_mult251 v2381).toNat := fun v2381 k0_hw251 => k0_hw251.1
theorem k0_off502_inb : ∀ (v2381 : BitVec 32) (k0_hw251 : k0_chk251 v2381), ∀ a, (k0_off502 v2381) a + S8x128.size a ≤ S16384x128.size a := fun v2381 k0_hw251 => k0_hw251.2

def k0_off503 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c251_i32 : BitVec 32 := 251#32
  let v2388 : BitVec 32 := Scalar.addi v128 c251_i32
  let v2389 : Index := Scalar.indexCast v2388
  ![v2389.toNat]
def k0_mult252 (v2390 : BitVec 32) : BitVec 32 :=
  v2390

def k0_off504 (v2390 : BitVec 32) : Fin 2 → Nat :=
  let v2391 : BitVec 32 := v2390
  let v2392 : Index := Scalar.indexCast v2391
  let c0_612 : Index := 0#32
  ![v2392.toNat, 0]

def k0_chk252 (v2390 : BitVec 32) : Prop :=
  (8 ∣ (k0_mult252 v2390).toNat) ∧
  (∀ a, (k0_off504 v2390) a + S8x128.size a ≤ S16384x128.size a)
theorem k0_mult252_dvd : ∀ (v2390 : BitVec 32) (k0_hw252 : k0_chk252 v2390), 8 ∣ (k0_mult252 v2390).toNat := fun v2390 k0_hw252 => k0_hw252.1
theorem k0_off504_inb : ∀ (v2390 : BitVec 32) (k0_hw252 : k0_chk252 v2390), ∀ a, (k0_off504 v2390) a + S8x128.size a ≤ S16384x128.size a := fun v2390 k0_hw252 => k0_hw252.2

def k0_off505 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c252_i32 : BitVec 32 := 252#32
  let v2397 : BitVec 32 := Scalar.addi v128 c252_i32
  let v2398 : Index := Scalar.indexCast v2397
  ![v2398.toNat]
def k0_mult253 (v2399 : BitVec 32) : BitVec 32 :=
  v2399

def k0_off506 (v2399 : BitVec 32) : Fin 2 → Nat :=
  let v2400 : BitVec 32 := v2399
  let v2401 : Index := Scalar.indexCast v2400
  let c0_614 : Index := 0#32
  ![v2401.toNat, 0]

def k0_chk253 (v2399 : BitVec 32) : Prop :=
  (8 ∣ (k0_mult253 v2399).toNat) ∧
  (∀ a, (k0_off506 v2399) a + S8x128.size a ≤ S16384x128.size a)
theorem k0_mult253_dvd : ∀ (v2399 : BitVec 32) (k0_hw253 : k0_chk253 v2399), 8 ∣ (k0_mult253 v2399).toNat := fun v2399 k0_hw253 => k0_hw253.1
theorem k0_off506_inb : ∀ (v2399 : BitVec 32) (k0_hw253 : k0_chk253 v2399), ∀ a, (k0_off506 v2399) a + S8x128.size a ≤ S16384x128.size a := fun v2399 k0_hw253 => k0_hw253.2

def k0_off507 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c253_i32 : BitVec 32 := 253#32
  let v2406 : BitVec 32 := Scalar.addi v128 c253_i32
  let v2407 : Index := Scalar.indexCast v2406
  ![v2407.toNat]
def k0_mult254 (v2408 : BitVec 32) : BitVec 32 :=
  v2408

def k0_off508 (v2408 : BitVec 32) : Fin 2 → Nat :=
  let v2409 : BitVec 32 := v2408
  let v2410 : Index := Scalar.indexCast v2409
  let c0_616 : Index := 0#32
  ![v2410.toNat, 0]

def k0_chk254 (v2408 : BitVec 32) : Prop :=
  (8 ∣ (k0_mult254 v2408).toNat) ∧
  (∀ a, (k0_off508 v2408) a + S8x128.size a ≤ S16384x128.size a)
theorem k0_mult254_dvd : ∀ (v2408 : BitVec 32) (k0_hw254 : k0_chk254 v2408), 8 ∣ (k0_mult254 v2408).toNat := fun v2408 k0_hw254 => k0_hw254.1
theorem k0_off508_inb : ∀ (v2408 : BitVec 32) (k0_hw254 : k0_chk254 v2408), ∀ a, (k0_off508 v2408) a + S8x128.size a ≤ S16384x128.size a := fun v2408 k0_hw254 => k0_hw254.2

def k0_off509 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c254_i32 : BitVec 32 := 254#32
  let v2415 : BitVec 32 := Scalar.addi v128 c254_i32
  let v2416 : Index := Scalar.indexCast v2415
  ![v2416.toNat]
def k0_mult255 (v2417 : BitVec 32) : BitVec 32 :=
  v2417

def k0_off510 (v2417 : BitVec 32) : Fin 2 → Nat :=
  let v2418 : BitVec 32 := v2417
  let v2419 : Index := Scalar.indexCast v2418
  let c0_618 : Index := 0#32
  ![v2419.toNat, 0]

def k0_chk255 (v2417 : BitVec 32) : Prop :=
  (8 ∣ (k0_mult255 v2417).toNat) ∧
  (∀ a, (k0_off510 v2417) a + S8x128.size a ≤ S16384x128.size a)
theorem k0_mult255_dvd : ∀ (v2417 : BitVec 32) (k0_hw255 : k0_chk255 v2417), 8 ∣ (k0_mult255 v2417).toNat := fun v2417 k0_hw255 => k0_hw255.1
theorem k0_off510_inb : ∀ (v2417 : BitVec 32) (k0_hw255 : k0_chk255 v2417), ∀ a, (k0_off510 v2417) a + S8x128.size a ≤ S16384x128.size a := fun v2417 k0_hw255 => k0_hw255.2

def k0_off511 (k0_t1 : Fin k0_t1_loop.trips) : Fin 1 → Nat :=
  let c72_i32_99 : BitVec 32 := 72#32
  let c0_i32_28 : BitVec 32 := 0#32
  let c1_i32 : BitVec 32 := 1#32
  let arg16 : BitVec 32 := Scf.iv c0_i32_28 c1_i32 k0_t1
  let c256_i32 : BitVec 32 := 256#32
  let v127 : BitVec 32 := Scalar.muli arg16 c256_i32
  let v128 : BitVec 32 := Scalar.addi c72_i32_99 v127
  let c255_i32 : BitVec 32 := 255#32
  let v2424 : BitVec 32 := Scalar.addi v128 c255_i32
  let v2425 : Index := Scalar.indexCast v2424
  ![v2425.toNat]
def k0_mult256 (v2426 : BitVec 32) : BitVec 32 :=
  v2426

def k0_off512 (v2426 : BitVec 32) : Fin 2 → Nat :=
  let v2427 : BitVec 32 := v2426
  let v2428 : Index := Scalar.indexCast v2427
  let c0_620 : Index := 0#32
  ![v2428.toNat, 0]

def k0_chk256 (v2426 : BitVec 32) : Prop :=
  (8 ∣ (k0_mult256 v2426).toNat) ∧
  (∀ a, (k0_off512 v2426) a + S8x128.size a ≤ S16384x128.size a)
theorem k0_mult256_dvd : ∀ (v2426 : BitVec 32) (k0_hw256 : k0_chk256 v2426), 8 ∣ (k0_mult256 v2426).toNat := fun v2426 k0_hw256 => k0_hw256.1
theorem k0_off512_inb : ∀ (v2426 : BitVec 32) (k0_hw256 : k0_chk256 v2426), ∀ a, (k0_off512 v2426) a + S8x128.size a ≤ S16384x128.size a := fun v2426 k0_hw256 => k0_hw256.2

def k0_off513 (k0_t1 : Fin k0_t1_loop.trips) : Fin 4 → Nat :=
  let c0_622 : Index := 0#32
  let c0_i32_28 : BitVec 32 := 0#32
  let c1_i32 : BitVec 32 := 1#32
  let arg16 : BitVec 32 := Scf.iv c0_i32_28 c1_i32 k0_t1
  let v2433 : Index := Scalar.indexCast arg16
  let c0_623 : Index := 0#32
  let c0_624 : Index := 0#32
  ![0, v2433.toNat, 0, 0]
def k0_off514 (k0_t1 : Fin k0_t1_loop.trips) : Fin 1 → Nat :=
  let c0_i32_28 : BitVec 32 := 0#32
  let c1_i32 : BitVec 32 := 1#32
  let arg16 : BitVec 32 := Scf.iv c0_i32_28 c1_i32 k0_t1
  let v2450 : Index := Scalar.indexCast arg16
  ![v2450.toNat]
def k0_mult257 (v2451 : BitVec 32) : BitVec 32 :=
  v2451

def k0_off515 (v2451 : BitVec 32) : Fin 2 → Nat :=
  let v2452 : BitVec 32 := v2451
  let v2453 : Index := Scalar.indexCast v2452
  let c0_633 : Index := 0#32
  ![v2453.toNat, 0]

def k0_chk257 (v2451 : BitVec 32) : Prop :=
  (256 ∣ (k0_mult257 v2451).toNat) ∧
  (∀ a, (k0_off515 v2451) a + S256x768.size a ≤ S2048x768.size a)
theorem k0_mult257_dvd : ∀ (v2451 : BitVec 32) (k0_hw257 : k0_chk257 v2451), 256 ∣ (k0_mult257 v2451).toNat := fun v2451 k0_hw257 => k0_hw257.1
theorem k0_off515_inb : ∀ (v2451 : BitVec 32) (k0_hw257 : k0_chk257 v2451), ∀ a, (k0_off515 v2451) a + S256x768.size a ≤ S2048x768.size a := fun v2451 k0_hw257 => k0_hw257.2

@[reducible] def k0_t2_loop : Scf.Loop 32 :=
  let c0_i32_70 : BitVec 32 := 0#32
  let c72_i32_71 : BitVec 32 := 72#32
  let v89 : BitVec 32 := Scalar.addi c0_i32_70 c72_i32_71
  let c1_i32_72 : BitVec 32 := 1#32
  ⟨c0_i32_70, v89, c1_i32_72⟩
def k0_off516 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c0_i32_100 : BitVec 32 := 0#32
  let v129 : BitVec 32 := Scalar.addi v128 c0_i32_100
  let v130 : Index := Scalar.indexCast v129
  ![v130.toNat]
def k0_mult258 (v131 : BitVec 32) : BitVec 32 :=
  v131

def k0_off517 (v131 : BitVec 32) : Fin 2 → Nat :=
  let v132 : BitVec 32 := v131
  let v133 : Index := Scalar.indexCast v132
  let c0_101 : Index := 0#32
  ![v133.toNat, 0]

def k0_chk258 (v131 : BitVec 32) : Prop :=
  (8 ∣ (k0_mult258 v131).toNat) ∧
  (∀ a, (k0_off517 v131) a + S8x128.size a ≤ S16384x128.size a)
theorem k0_mult258_dvd : ∀ (v131 : BitVec 32) (k0_hw258 : k0_chk258 v131), 8 ∣ (k0_mult258 v131).toNat := fun v131 k0_hw258 => k0_hw258.1
theorem k0_off517_inb : ∀ (v131 : BitVec 32) (k0_hw258 : k0_chk258 v131), ∀ a, (k0_off517 v131) a + S8x128.size a ≤ S16384x128.size a := fun v131 k0_hw258 => k0_hw258.2

def k0_off518 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c1_i32_104 : BitVec 32 := 1#32
  let v138 : BitVec 32 := Scalar.addi v128 c1_i32_104
  let v139 : Index := Scalar.indexCast v138
  ![v139.toNat]
def k0_mult259 (v140 : BitVec 32) : BitVec 32 :=
  v140

def k0_off519 (v140 : BitVec 32) : Fin 2 → Nat :=
  let v141 : BitVec 32 := v140
  let v142 : Index := Scalar.indexCast v141
  let c0_105 : Index := 0#32
  ![v142.toNat, 0]

def k0_chk259 (v140 : BitVec 32) : Prop :=
  (8 ∣ (k0_mult259 v140).toNat) ∧
  (∀ a, (k0_off519 v140) a + S8x128.size a ≤ S16384x128.size a)
theorem k0_mult259_dvd : ∀ (v140 : BitVec 32) (k0_hw259 : k0_chk259 v140), 8 ∣ (k0_mult259 v140).toNat := fun v140 k0_hw259 => k0_hw259.1
theorem k0_off519_inb : ∀ (v140 : BitVec 32) (k0_hw259 : k0_chk259 v140), ∀ a, (k0_off519 v140) a + S8x128.size a ≤ S16384x128.size a := fun v140 k0_hw259 => k0_hw259.2

def k0_off520 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c2_i32 : BitVec 32 := 2#32
  let v147 : BitVec 32 := Scalar.addi v128 c2_i32
  let v148 : Index := Scalar.indexCast v147
  ![v148.toNat]
def k0_mult260 (v149 : BitVec 32) : BitVec 32 :=
  v149

def k0_off521 (v149 : BitVec 32) : Fin 2 → Nat :=
  let v150 : BitVec 32 := v149
  let v151 : Index := Scalar.indexCast v150
  let c0_108 : Index := 0#32
  ![v151.toNat, 0]

def k0_chk260 (v149 : BitVec 32) : Prop :=
  (8 ∣ (k0_mult260 v149).toNat) ∧
  (∀ a, (k0_off521 v149) a + S8x128.size a ≤ S16384x128.size a)
theorem k0_mult260_dvd : ∀ (v149 : BitVec 32) (k0_hw260 : k0_chk260 v149), 8 ∣ (k0_mult260 v149).toNat := fun v149 k0_hw260 => k0_hw260.1
theorem k0_off521_inb : ∀ (v149 : BitVec 32) (k0_hw260 : k0_chk260 v149), ∀ a, (k0_off521 v149) a + S8x128.size a ≤ S16384x128.size a := fun v149 k0_hw260 => k0_hw260.2

def k0_off522 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c3_i32 : BitVec 32 := 3#32
  let v156 : BitVec 32 := Scalar.addi v128 c3_i32
  let v157 : Index := Scalar.indexCast v156
  ![v157.toNat]
def k0_mult261 (v158 : BitVec 32) : BitVec 32 :=
  v158

def k0_off523 (v158 : BitVec 32) : Fin 2 → Nat :=
  let v159 : BitVec 32 := v158
  let v160 : Index := Scalar.indexCast v159
  let c0_111 : Index := 0#32
  ![v160.toNat, 0]

def k0_chk261 (v158 : BitVec 32) : Prop :=
  (8 ∣ (k0_mult261 v158).toNat) ∧
  (∀ a, (k0_off523 v158) a + S8x128.size a ≤ S16384x128.size a)
theorem k0_mult261_dvd : ∀ (v158 : BitVec 32) (k0_hw261 : k0_chk261 v158), 8 ∣ (k0_mult261 v158).toNat := fun v158 k0_hw261 => k0_hw261.1
theorem k0_off523_inb : ∀ (v158 : BitVec 32) (k0_hw261 : k0_chk261 v158), ∀ a, (k0_off523 v158) a + S8x128.size a ≤ S16384x128.size a := fun v158 k0_hw261 => k0_hw261.2

def k0_off524 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c4_i32 : BitVec 32 := 4#32
  let v165 : BitVec 32 := Scalar.addi v128 c4_i32
  let v166 : Index := Scalar.indexCast v165
  ![v166.toNat]
def k0_mult262 (v167 : BitVec 32) : BitVec 32 :=
  v167

def k0_off525 (v167 : BitVec 32) : Fin 2 → Nat :=
  let v168 : BitVec 32 := v167
  let v169 : Index := Scalar.indexCast v168
  let c0_114 : Index := 0#32
  ![v169.toNat, 0]

def k0_chk262 (v167 : BitVec 32) : Prop :=
  (8 ∣ (k0_mult262 v167).toNat) ∧
  (∀ a, (k0_off525 v167) a + S8x128.size a ≤ S16384x128.size a)
theorem k0_mult262_dvd : ∀ (v167 : BitVec 32) (k0_hw262 : k0_chk262 v167), 8 ∣ (k0_mult262 v167).toNat := fun v167 k0_hw262 => k0_hw262.1
theorem k0_off525_inb : ∀ (v167 : BitVec 32) (k0_hw262 : k0_chk262 v167), ∀ a, (k0_off525 v167) a + S8x128.size a ≤ S16384x128.size a := fun v167 k0_hw262 => k0_hw262.2

def k0_off526 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c5_i32 : BitVec 32 := 5#32
  let v174 : BitVec 32 := Scalar.addi v128 c5_i32
  let v175 : Index := Scalar.indexCast v174
  ![v175.toNat]
def k0_mult263 (v176 : BitVec 32) : BitVec 32 :=
  v176

def k0_off527 (v176 : BitVec 32) : Fin 2 → Nat :=
  let v177 : BitVec 32 := v176
  let v178 : Index := Scalar.indexCast v177
  let c0_117 : Index := 0#32
  ![v178.toNat, 0]

def k0_chk263 (v176 : BitVec 32) : Prop :=
  (8 ∣ (k0_mult263 v176).toNat) ∧
  (∀ a, (k0_off527 v176) a + S8x128.size a ≤ S16384x128.size a)
theorem k0_mult263_dvd : ∀ (v176 : BitVec 32) (k0_hw263 : k0_chk263 v176), 8 ∣ (k0_mult263 v176).toNat := fun v176 k0_hw263 => k0_hw263.1
theorem k0_off527_inb : ∀ (v176 : BitVec 32) (k0_hw263 : k0_chk263 v176), ∀ a, (k0_off527 v176) a + S8x128.size a ≤ S16384x128.size a := fun v176 k0_hw263 => k0_hw263.2

def k0_off528 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c6_i32 : BitVec 32 := 6#32
  let v183 : BitVec 32 := Scalar.addi v128 c6_i32
  let v184 : Index := Scalar.indexCast v183
  ![v184.toNat]
def k0_mult264 (v185 : BitVec 32) : BitVec 32 :=
  v185

def k0_off529 (v185 : BitVec 32) : Fin 2 → Nat :=
  let v186 : BitVec 32 := v185
  let v187 : Index := Scalar.indexCast v186
  let c0_120 : Index := 0#32
  ![v187.toNat, 0]

def k0_chk264 (v185 : BitVec 32) : Prop :=
  (8 ∣ (k0_mult264 v185).toNat) ∧
  (∀ a, (k0_off529 v185) a + S8x128.size a ≤ S16384x128.size a)
theorem k0_mult264_dvd : ∀ (v185 : BitVec 32) (k0_hw264 : k0_chk264 v185), 8 ∣ (k0_mult264 v185).toNat := fun v185 k0_hw264 => k0_hw264.1
theorem k0_off529_inb : ∀ (v185 : BitVec 32) (k0_hw264 : k0_chk264 v185), ∀ a, (k0_off529 v185) a + S8x128.size a ≤ S16384x128.size a := fun v185 k0_hw264 => k0_hw264.2

def k0_off530 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c7_i32 : BitVec 32 := 7#32
  let v192 : BitVec 32 := Scalar.addi v128 c7_i32
  let v193 : Index := Scalar.indexCast v192
  ![v193.toNat]
def k0_mult265 (v194 : BitVec 32) : BitVec 32 :=
  v194

def k0_off531 (v194 : BitVec 32) : Fin 2 → Nat :=
  let v195 : BitVec 32 := v194
  let v196 : Index := Scalar.indexCast v195
  let c0_122 : Index := 0#32
  ![v196.toNat, 0]

def k0_chk265 (v194 : BitVec 32) : Prop :=
  (8 ∣ (k0_mult265 v194).toNat) ∧
  (∀ a, (k0_off531 v194) a + S8x128.size a ≤ S16384x128.size a)
theorem k0_mult265_dvd : ∀ (v194 : BitVec 32) (k0_hw265 : k0_chk265 v194), 8 ∣ (k0_mult265 v194).toNat := fun v194 k0_hw265 => k0_hw265.1
theorem k0_off531_inb : ∀ (v194 : BitVec 32) (k0_hw265 : k0_chk265 v194), ∀ a, (k0_off531 v194) a + S8x128.size a ≤ S16384x128.size a := fun v194 k0_hw265 => k0_hw265.2

def k0_off532 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c8_i32 : BitVec 32 := 8#32
  let v201 : BitVec 32 := Scalar.addi v128 c8_i32
  let v202 : Index := Scalar.indexCast v201
  ![v202.toNat]
def k0_mult266 (v203 : BitVec 32) : BitVec 32 :=
  v203

def k0_off533 (v203 : BitVec 32) : Fin 2 → Nat :=
  let v204 : BitVec 32 := v203
  let v205 : Index := Scalar.indexCast v204
  let c0_124 : Index := 0#32
  ![v205.toNat, 0]

def k0_chk266 (v203 : BitVec 32) : Prop :=
  (8 ∣ (k0_mult266 v203).toNat) ∧
  (∀ a, (k0_off533 v203) a + S8x128.size a ≤ S16384x128.size a)
theorem k0_mult266_dvd : ∀ (v203 : BitVec 32) (k0_hw266 : k0_chk266 v203), 8 ∣ (k0_mult266 v203).toNat := fun v203 k0_hw266 => k0_hw266.1
theorem k0_off533_inb : ∀ (v203 : BitVec 32) (k0_hw266 : k0_chk266 v203), ∀ a, (k0_off533 v203) a + S8x128.size a ≤ S16384x128.size a := fun v203 k0_hw266 => k0_hw266.2

def k0_off534 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c9_i32 : BitVec 32 := 9#32
  let v210 : BitVec 32 := Scalar.addi v128 c9_i32
  let v211 : Index := Scalar.indexCast v210
  ![v211.toNat]
def k0_mult267 (v212 : BitVec 32) : BitVec 32 :=
  v212

def k0_off535 (v212 : BitVec 32) : Fin 2 → Nat :=
  let v213 : BitVec 32 := v212
  let v214 : Index := Scalar.indexCast v213
  let c0_126 : Index := 0#32
  ![v214.toNat, 0]

def k0_chk267 (v212 : BitVec 32) : Prop :=
  (8 ∣ (k0_mult267 v212).toNat) ∧
  (∀ a, (k0_off535 v212) a + S8x128.size a ≤ S16384x128.size a)
theorem k0_mult267_dvd : ∀ (v212 : BitVec 32) (k0_hw267 : k0_chk267 v212), 8 ∣ (k0_mult267 v212).toNat := fun v212 k0_hw267 => k0_hw267.1
theorem k0_off535_inb : ∀ (v212 : BitVec 32) (k0_hw267 : k0_chk267 v212), ∀ a, (k0_off535 v212) a + S8x128.size a ≤ S16384x128.size a := fun v212 k0_hw267 => k0_hw267.2

def k0_off536 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c10_i32 : BitVec 32 := 10#32
  let v219 : BitVec 32 := Scalar.addi v128 c10_i32
  let v220 : Index := Scalar.indexCast v219
  ![v220.toNat]
def k0_mult268 (v221 : BitVec 32) : BitVec 32 :=
  v221

def k0_off537 (v221 : BitVec 32) : Fin 2 → Nat :=
  let v222 : BitVec 32 := v221
  let v223 : Index := Scalar.indexCast v222
  let c0_128 : Index := 0#32
  ![v223.toNat, 0]

def k0_chk268 (v221 : BitVec 32) : Prop :=
  (8 ∣ (k0_mult268 v221).toNat) ∧
  (∀ a, (k0_off537 v221) a + S8x128.size a ≤ S16384x128.size a)
theorem k0_mult268_dvd : ∀ (v221 : BitVec 32) (k0_hw268 : k0_chk268 v221), 8 ∣ (k0_mult268 v221).toNat := fun v221 k0_hw268 => k0_hw268.1
theorem k0_off537_inb : ∀ (v221 : BitVec 32) (k0_hw268 : k0_chk268 v221), ∀ a, (k0_off537 v221) a + S8x128.size a ≤ S16384x128.size a := fun v221 k0_hw268 => k0_hw268.2

def k0_off538 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c11_i32 : BitVec 32 := 11#32
  let v228 : BitVec 32 := Scalar.addi v128 c11_i32
  let v229 : Index := Scalar.indexCast v228
  ![v229.toNat]
def k0_mult269 (v230 : BitVec 32) : BitVec 32 :=
  v230

def k0_off539 (v230 : BitVec 32) : Fin 2 → Nat :=
  let v231 : BitVec 32 := v230
  let v232 : Index := Scalar.indexCast v231
  let c0_130 : Index := 0#32
  ![v232.toNat, 0]

def k0_chk269 (v230 : BitVec 32) : Prop :=
  (8 ∣ (k0_mult269 v230).toNat) ∧
  (∀ a, (k0_off539 v230) a + S8x128.size a ≤ S16384x128.size a)
theorem k0_mult269_dvd : ∀ (v230 : BitVec 32) (k0_hw269 : k0_chk269 v230), 8 ∣ (k0_mult269 v230).toNat := fun v230 k0_hw269 => k0_hw269.1
theorem k0_off539_inb : ∀ (v230 : BitVec 32) (k0_hw269 : k0_chk269 v230), ∀ a, (k0_off539 v230) a + S8x128.size a ≤ S16384x128.size a := fun v230 k0_hw269 => k0_hw269.2

def k0_off540 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c12_i32 : BitVec 32 := 12#32
  let v237 : BitVec 32 := Scalar.addi v128 c12_i32
  let v238 : Index := Scalar.indexCast v237
  ![v238.toNat]
def k0_mult270 (v239 : BitVec 32) : BitVec 32 :=
  v239

def k0_off541 (v239 : BitVec 32) : Fin 2 → Nat :=
  let v240 : BitVec 32 := v239
  let v241 : Index := Scalar.indexCast v240
  let c0_132 : Index := 0#32
  ![v241.toNat, 0]

def k0_chk270 (v239 : BitVec 32) : Prop :=
  (8 ∣ (k0_mult270 v239).toNat) ∧
  (∀ a, (k0_off541 v239) a + S8x128.size a ≤ S16384x128.size a)
theorem k0_mult270_dvd : ∀ (v239 : BitVec 32) (k0_hw270 : k0_chk270 v239), 8 ∣ (k0_mult270 v239).toNat := fun v239 k0_hw270 => k0_hw270.1
theorem k0_off541_inb : ∀ (v239 : BitVec 32) (k0_hw270 : k0_chk270 v239), ∀ a, (k0_off541 v239) a + S8x128.size a ≤ S16384x128.size a := fun v239 k0_hw270 => k0_hw270.2

def k0_off542 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c13_i32 : BitVec 32 := 13#32
  let v246 : BitVec 32 := Scalar.addi v128 c13_i32
  let v247 : Index := Scalar.indexCast v246
  ![v247.toNat]
def k0_mult271 (v248 : BitVec 32) : BitVec 32 :=
  v248

def k0_off543 (v248 : BitVec 32) : Fin 2 → Nat :=
  let v249 : BitVec 32 := v248
  let v250 : Index := Scalar.indexCast v249
  let c0_134 : Index := 0#32
  ![v250.toNat, 0]

def k0_chk271 (v248 : BitVec 32) : Prop :=
  (8 ∣ (k0_mult271 v248).toNat) ∧
  (∀ a, (k0_off543 v248) a + S8x128.size a ≤ S16384x128.size a)
theorem k0_mult271_dvd : ∀ (v248 : BitVec 32) (k0_hw271 : k0_chk271 v248), 8 ∣ (k0_mult271 v248).toNat := fun v248 k0_hw271 => k0_hw271.1
theorem k0_off543_inb : ∀ (v248 : BitVec 32) (k0_hw271 : k0_chk271 v248), ∀ a, (k0_off543 v248) a + S8x128.size a ≤ S16384x128.size a := fun v248 k0_hw271 => k0_hw271.2

def k0_off544 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c14_i32 : BitVec 32 := 14#32
  let v255 : BitVec 32 := Scalar.addi v128 c14_i32
  let v256 : Index := Scalar.indexCast v255
  ![v256.toNat]
def k0_mult272 (v257 : BitVec 32) : BitVec 32 :=
  v257

def k0_off545 (v257 : BitVec 32) : Fin 2 → Nat :=
  let v258 : BitVec 32 := v257
  let v259 : Index := Scalar.indexCast v258
  let c0_136 : Index := 0#32
  ![v259.toNat, 0]

def k0_chk272 (v257 : BitVec 32) : Prop :=
  (8 ∣ (k0_mult272 v257).toNat) ∧
  (∀ a, (k0_off545 v257) a + S8x128.size a ≤ S16384x128.size a)
theorem k0_mult272_dvd : ∀ (v257 : BitVec 32) (k0_hw272 : k0_chk272 v257), 8 ∣ (k0_mult272 v257).toNat := fun v257 k0_hw272 => k0_hw272.1
theorem k0_off545_inb : ∀ (v257 : BitVec 32) (k0_hw272 : k0_chk272 v257), ∀ a, (k0_off545 v257) a + S8x128.size a ≤ S16384x128.size a := fun v257 k0_hw272 => k0_hw272.2

def k0_off546 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c15_i32 : BitVec 32 := 15#32
  let v264 : BitVec 32 := Scalar.addi v128 c15_i32
  let v265 : Index := Scalar.indexCast v264
  ![v265.toNat]
def k0_mult273 (v266 : BitVec 32) : BitVec 32 :=
  v266

def k0_off547 (v266 : BitVec 32) : Fin 2 → Nat :=
  let v267 : BitVec 32 := v266
  let v268 : Index := Scalar.indexCast v267
  let c0_138 : Index := 0#32
  ![v268.toNat, 0]

def k0_chk273 (v266 : BitVec 32) : Prop :=
  (8 ∣ (k0_mult273 v266).toNat) ∧
  (∀ a, (k0_off547 v266) a + S8x128.size a ≤ S16384x128.size a)
theorem k0_mult273_dvd : ∀ (v266 : BitVec 32) (k0_hw273 : k0_chk273 v266), 8 ∣ (k0_mult273 v266).toNat := fun v266 k0_hw273 => k0_hw273.1
theorem k0_off547_inb : ∀ (v266 : BitVec 32) (k0_hw273 : k0_chk273 v266), ∀ a, (k0_off547 v266) a + S8x128.size a ≤ S16384x128.size a := fun v266 k0_hw273 => k0_hw273.2

def k0_off548 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c16_i32 : BitVec 32 := 16#32
  let v273 : BitVec 32 := Scalar.addi v128 c16_i32
  let v274 : Index := Scalar.indexCast v273
  ![v274.toNat]
def k0_mult274 (v275 : BitVec 32) : BitVec 32 :=
  v275

def k0_off549 (v275 : BitVec 32) : Fin 2 → Nat :=
  let v276 : BitVec 32 := v275
  let v277 : Index := Scalar.indexCast v276
  let c0_140 : Index := 0#32
  ![v277.toNat, 0]

def k0_chk274 (v275 : BitVec 32) : Prop :=
  (8 ∣ (k0_mult274 v275).toNat) ∧
  (∀ a, (k0_off549 v275) a + S8x128.size a ≤ S16384x128.size a)
theorem k0_mult274_dvd : ∀ (v275 : BitVec 32) (k0_hw274 : k0_chk274 v275), 8 ∣ (k0_mult274 v275).toNat := fun v275 k0_hw274 => k0_hw274.1
theorem k0_off549_inb : ∀ (v275 : BitVec 32) (k0_hw274 : k0_chk274 v275), ∀ a, (k0_off549 v275) a + S8x128.size a ≤ S16384x128.size a := fun v275 k0_hw274 => k0_hw274.2

def k0_off550 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c17_i32 : BitVec 32 := 17#32
  let v282 : BitVec 32 := Scalar.addi v128 c17_i32
  let v283 : Index := Scalar.indexCast v282
  ![v283.toNat]
def k0_mult275 (v284 : BitVec 32) : BitVec 32 :=
  v284

def k0_off551 (v284 : BitVec 32) : Fin 2 → Nat :=
  let v285 : BitVec 32 := v284
  let v286 : Index := Scalar.indexCast v285
  let c0_142 : Index := 0#32
  ![v286.toNat, 0]

def k0_chk275 (v284 : BitVec 32) : Prop :=
  (8 ∣ (k0_mult275 v284).toNat) ∧
  (∀ a, (k0_off551 v284) a + S8x128.size a ≤ S16384x128.size a)
theorem k0_mult275_dvd : ∀ (v284 : BitVec 32) (k0_hw275 : k0_chk275 v284), 8 ∣ (k0_mult275 v284).toNat := fun v284 k0_hw275 => k0_hw275.1
theorem k0_off551_inb : ∀ (v284 : BitVec 32) (k0_hw275 : k0_chk275 v284), ∀ a, (k0_off551 v284) a + S8x128.size a ≤ S16384x128.size a := fun v284 k0_hw275 => k0_hw275.2

def k0_off552 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c18_i32 : BitVec 32 := 18#32
  let v291 : BitVec 32 := Scalar.addi v128 c18_i32
  let v292 : Index := Scalar.indexCast v291
  ![v292.toNat]
def k0_mult276 (v293 : BitVec 32) : BitVec 32 :=
  v293

def k0_off553 (v293 : BitVec 32) : Fin 2 → Nat :=
  let v294 : BitVec 32 := v293
  let v295 : Index := Scalar.indexCast v294
  let c0_144 : Index := 0#32
  ![v295.toNat, 0]

def k0_chk276 (v293 : BitVec 32) : Prop :=
  (8 ∣ (k0_mult276 v293).toNat) ∧
  (∀ a, (k0_off553 v293) a + S8x128.size a ≤ S16384x128.size a)
theorem k0_mult276_dvd : ∀ (v293 : BitVec 32) (k0_hw276 : k0_chk276 v293), 8 ∣ (k0_mult276 v293).toNat := fun v293 k0_hw276 => k0_hw276.1
theorem k0_off553_inb : ∀ (v293 : BitVec 32) (k0_hw276 : k0_chk276 v293), ∀ a, (k0_off553 v293) a + S8x128.size a ≤ S16384x128.size a := fun v293 k0_hw276 => k0_hw276.2

def k0_off554 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c19_i32 : BitVec 32 := 19#32
  let v300 : BitVec 32 := Scalar.addi v128 c19_i32
  let v301 : Index := Scalar.indexCast v300
  ![v301.toNat]
def k0_mult277 (v302 : BitVec 32) : BitVec 32 :=
  v302

def k0_off555 (v302 : BitVec 32) : Fin 2 → Nat :=
  let v303 : BitVec 32 := v302
  let v304 : Index := Scalar.indexCast v303
  let c0_146 : Index := 0#32
  ![v304.toNat, 0]

def k0_chk277 (v302 : BitVec 32) : Prop :=
  (8 ∣ (k0_mult277 v302).toNat) ∧
  (∀ a, (k0_off555 v302) a + S8x128.size a ≤ S16384x128.size a)
theorem k0_mult277_dvd : ∀ (v302 : BitVec 32) (k0_hw277 : k0_chk277 v302), 8 ∣ (k0_mult277 v302).toNat := fun v302 k0_hw277 => k0_hw277.1
theorem k0_off555_inb : ∀ (v302 : BitVec 32) (k0_hw277 : k0_chk277 v302), ∀ a, (k0_off555 v302) a + S8x128.size a ≤ S16384x128.size a := fun v302 k0_hw277 => k0_hw277.2

def k0_off556 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c20_i32 : BitVec 32 := 20#32
  let v309 : BitVec 32 := Scalar.addi v128 c20_i32
  let v310 : Index := Scalar.indexCast v309
  ![v310.toNat]
def k0_mult278 (v311 : BitVec 32) : BitVec 32 :=
  v311

def k0_off557 (v311 : BitVec 32) : Fin 2 → Nat :=
  let v312 : BitVec 32 := v311
  let v313 : Index := Scalar.indexCast v312
  let c0_148 : Index := 0#32
  ![v313.toNat, 0]

def k0_chk278 (v311 : BitVec 32) : Prop :=
  (8 ∣ (k0_mult278 v311).toNat) ∧
  (∀ a, (k0_off557 v311) a + S8x128.size a ≤ S16384x128.size a)
theorem k0_mult278_dvd : ∀ (v311 : BitVec 32) (k0_hw278 : k0_chk278 v311), 8 ∣ (k0_mult278 v311).toNat := fun v311 k0_hw278 => k0_hw278.1
theorem k0_off557_inb : ∀ (v311 : BitVec 32) (k0_hw278 : k0_chk278 v311), ∀ a, (k0_off557 v311) a + S8x128.size a ≤ S16384x128.size a := fun v311 k0_hw278 => k0_hw278.2

def k0_off558 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c21_i32 : BitVec 32 := 21#32
  let v318 : BitVec 32 := Scalar.addi v128 c21_i32
  let v319 : Index := Scalar.indexCast v318
  ![v319.toNat]
def k0_mult279 (v320 : BitVec 32) : BitVec 32 :=
  v320

def k0_off559 (v320 : BitVec 32) : Fin 2 → Nat :=
  let v321 : BitVec 32 := v320
  let v322 : Index := Scalar.indexCast v321
  let c0_150 : Index := 0#32
  ![v322.toNat, 0]

def k0_chk279 (v320 : BitVec 32) : Prop :=
  (8 ∣ (k0_mult279 v320).toNat) ∧
  (∀ a, (k0_off559 v320) a + S8x128.size a ≤ S16384x128.size a)
theorem k0_mult279_dvd : ∀ (v320 : BitVec 32) (k0_hw279 : k0_chk279 v320), 8 ∣ (k0_mult279 v320).toNat := fun v320 k0_hw279 => k0_hw279.1
theorem k0_off559_inb : ∀ (v320 : BitVec 32) (k0_hw279 : k0_chk279 v320), ∀ a, (k0_off559 v320) a + S8x128.size a ≤ S16384x128.size a := fun v320 k0_hw279 => k0_hw279.2

def k0_off560 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c22_i32 : BitVec 32 := 22#32
  let v327 : BitVec 32 := Scalar.addi v128 c22_i32
  let v328 : Index := Scalar.indexCast v327
  ![v328.toNat]
def k0_mult280 (v329 : BitVec 32) : BitVec 32 :=
  v329

def k0_off561 (v329 : BitVec 32) : Fin 2 → Nat :=
  let v330 : BitVec 32 := v329
  let v331 : Index := Scalar.indexCast v330
  let c0_152 : Index := 0#32
  ![v331.toNat, 0]

def k0_chk280 (v329 : BitVec 32) : Prop :=
  (8 ∣ (k0_mult280 v329).toNat) ∧
  (∀ a, (k0_off561 v329) a + S8x128.size a ≤ S16384x128.size a)
theorem k0_mult280_dvd : ∀ (v329 : BitVec 32) (k0_hw280 : k0_chk280 v329), 8 ∣ (k0_mult280 v329).toNat := fun v329 k0_hw280 => k0_hw280.1
theorem k0_off561_inb : ∀ (v329 : BitVec 32) (k0_hw280 : k0_chk280 v329), ∀ a, (k0_off561 v329) a + S8x128.size a ≤ S16384x128.size a := fun v329 k0_hw280 => k0_hw280.2

def k0_off562 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c23_i32 : BitVec 32 := 23#32
  let v336 : BitVec 32 := Scalar.addi v128 c23_i32
  let v337 : Index := Scalar.indexCast v336
  ![v337.toNat]
def k0_mult281 (v338 : BitVec 32) : BitVec 32 :=
  v338

def k0_off563 (v338 : BitVec 32) : Fin 2 → Nat :=
  let v339 : BitVec 32 := v338
  let v340 : Index := Scalar.indexCast v339
  let c0_154 : Index := 0#32
  ![v340.toNat, 0]

def k0_chk281 (v338 : BitVec 32) : Prop :=
  (8 ∣ (k0_mult281 v338).toNat) ∧
  (∀ a, (k0_off563 v338) a + S8x128.size a ≤ S16384x128.size a)
theorem k0_mult281_dvd : ∀ (v338 : BitVec 32) (k0_hw281 : k0_chk281 v338), 8 ∣ (k0_mult281 v338).toNat := fun v338 k0_hw281 => k0_hw281.1
theorem k0_off563_inb : ∀ (v338 : BitVec 32) (k0_hw281 : k0_chk281 v338), ∀ a, (k0_off563 v338) a + S8x128.size a ≤ S16384x128.size a := fun v338 k0_hw281 => k0_hw281.2

def k0_off564 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c24_i32 : BitVec 32 := 24#32
  let v345 : BitVec 32 := Scalar.addi v128 c24_i32
  let v346 : Index := Scalar.indexCast v345
  ![v346.toNat]
def k0_mult282 (v347 : BitVec 32) : BitVec 32 :=
  v347

def k0_off565 (v347 : BitVec 32) : Fin 2 → Nat :=
  let v348 : BitVec 32 := v347
  let v349 : Index := Scalar.indexCast v348
  let c0_156 : Index := 0#32
  ![v349.toNat, 0]

def k0_chk282 (v347 : BitVec 32) : Prop :=
  (8 ∣ (k0_mult282 v347).toNat) ∧
  (∀ a, (k0_off565 v347) a + S8x128.size a ≤ S16384x128.size a)
theorem k0_mult282_dvd : ∀ (v347 : BitVec 32) (k0_hw282 : k0_chk282 v347), 8 ∣ (k0_mult282 v347).toNat := fun v347 k0_hw282 => k0_hw282.1
theorem k0_off565_inb : ∀ (v347 : BitVec 32) (k0_hw282 : k0_chk282 v347), ∀ a, (k0_off565 v347) a + S8x128.size a ≤ S16384x128.size a := fun v347 k0_hw282 => k0_hw282.2

def k0_off566 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c25_i32 : BitVec 32 := 25#32
  let v354 : BitVec 32 := Scalar.addi v128 c25_i32
  let v355 : Index := Scalar.indexCast v354
  ![v355.toNat]
def k0_mult283 (v356 : BitVec 32) : BitVec 32 :=
  v356

def k0_off567 (v356 : BitVec 32) : Fin 2 → Nat :=
  let v357 : BitVec 32 := v356
  let v358 : Index := Scalar.indexCast v357
  let c0_158 : Index := 0#32
  ![v358.toNat, 0]

def k0_chk283 (v356 : BitVec 32) : Prop :=
  (8 ∣ (k0_mult283 v356).toNat) ∧
  (∀ a, (k0_off567 v356) a + S8x128.size a ≤ S16384x128.size a)
theorem k0_mult283_dvd : ∀ (v356 : BitVec 32) (k0_hw283 : k0_chk283 v356), 8 ∣ (k0_mult283 v356).toNat := fun v356 k0_hw283 => k0_hw283.1
theorem k0_off567_inb : ∀ (v356 : BitVec 32) (k0_hw283 : k0_chk283 v356), ∀ a, (k0_off567 v356) a + S8x128.size a ≤ S16384x128.size a := fun v356 k0_hw283 => k0_hw283.2

def k0_off568 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c26_i32 : BitVec 32 := 26#32
  let v363 : BitVec 32 := Scalar.addi v128 c26_i32
  let v364 : Index := Scalar.indexCast v363
  ![v364.toNat]
def k0_mult284 (v365 : BitVec 32) : BitVec 32 :=
  v365

def k0_off569 (v365 : BitVec 32) : Fin 2 → Nat :=
  let v366 : BitVec 32 := v365
  let v367 : Index := Scalar.indexCast v366
  let c0_160 : Index := 0#32
  ![v367.toNat, 0]

def k0_chk284 (v365 : BitVec 32) : Prop :=
  (8 ∣ (k0_mult284 v365).toNat) ∧
  (∀ a, (k0_off569 v365) a + S8x128.size a ≤ S16384x128.size a)
theorem k0_mult284_dvd : ∀ (v365 : BitVec 32) (k0_hw284 : k0_chk284 v365), 8 ∣ (k0_mult284 v365).toNat := fun v365 k0_hw284 => k0_hw284.1
theorem k0_off569_inb : ∀ (v365 : BitVec 32) (k0_hw284 : k0_chk284 v365), ∀ a, (k0_off569 v365) a + S8x128.size a ≤ S16384x128.size a := fun v365 k0_hw284 => k0_hw284.2

def k0_off570 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c27_i32 : BitVec 32 := 27#32
  let v372 : BitVec 32 := Scalar.addi v128 c27_i32
  let v373 : Index := Scalar.indexCast v372
  ![v373.toNat]
def k0_mult285 (v374 : BitVec 32) : BitVec 32 :=
  v374

def k0_off571 (v374 : BitVec 32) : Fin 2 → Nat :=
  let v375 : BitVec 32 := v374
  let v376 : Index := Scalar.indexCast v375
  let c0_162 : Index := 0#32
  ![v376.toNat, 0]

def k0_chk285 (v374 : BitVec 32) : Prop :=
  (8 ∣ (k0_mult285 v374).toNat) ∧
  (∀ a, (k0_off571 v374) a + S8x128.size a ≤ S16384x128.size a)
theorem k0_mult285_dvd : ∀ (v374 : BitVec 32) (k0_hw285 : k0_chk285 v374), 8 ∣ (k0_mult285 v374).toNat := fun v374 k0_hw285 => k0_hw285.1
theorem k0_off571_inb : ∀ (v374 : BitVec 32) (k0_hw285 : k0_chk285 v374), ∀ a, (k0_off571 v374) a + S8x128.size a ≤ S16384x128.size a := fun v374 k0_hw285 => k0_hw285.2

def k0_off572 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c28_i32 : BitVec 32 := 28#32
  let v381 : BitVec 32 := Scalar.addi v128 c28_i32
  let v382 : Index := Scalar.indexCast v381
  ![v382.toNat]
def k0_mult286 (v383 : BitVec 32) : BitVec 32 :=
  v383

def k0_off573 (v383 : BitVec 32) : Fin 2 → Nat :=
  let v384 : BitVec 32 := v383
  let v385 : Index := Scalar.indexCast v384
  let c0_164 : Index := 0#32
  ![v385.toNat, 0]

def k0_chk286 (v383 : BitVec 32) : Prop :=
  (8 ∣ (k0_mult286 v383).toNat) ∧
  (∀ a, (k0_off573 v383) a + S8x128.size a ≤ S16384x128.size a)
theorem k0_mult286_dvd : ∀ (v383 : BitVec 32) (k0_hw286 : k0_chk286 v383), 8 ∣ (k0_mult286 v383).toNat := fun v383 k0_hw286 => k0_hw286.1
theorem k0_off573_inb : ∀ (v383 : BitVec 32) (k0_hw286 : k0_chk286 v383), ∀ a, (k0_off573 v383) a + S8x128.size a ≤ S16384x128.size a := fun v383 k0_hw286 => k0_hw286.2

def k0_off574 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c29_i32 : BitVec 32 := 29#32
  let v390 : BitVec 32 := Scalar.addi v128 c29_i32
  let v391 : Index := Scalar.indexCast v390
  ![v391.toNat]
def k0_mult287 (v392 : BitVec 32) : BitVec 32 :=
  v392

def k0_off575 (v392 : BitVec 32) : Fin 2 → Nat :=
  let v393 : BitVec 32 := v392
  let v394 : Index := Scalar.indexCast v393
  let c0_166 : Index := 0#32
  ![v394.toNat, 0]

def k0_chk287 (v392 : BitVec 32) : Prop :=
  (8 ∣ (k0_mult287 v392).toNat) ∧
  (∀ a, (k0_off575 v392) a + S8x128.size a ≤ S16384x128.size a)
theorem k0_mult287_dvd : ∀ (v392 : BitVec 32) (k0_hw287 : k0_chk287 v392), 8 ∣ (k0_mult287 v392).toNat := fun v392 k0_hw287 => k0_hw287.1
theorem k0_off575_inb : ∀ (v392 : BitVec 32) (k0_hw287 : k0_chk287 v392), ∀ a, (k0_off575 v392) a + S8x128.size a ≤ S16384x128.size a := fun v392 k0_hw287 => k0_hw287.2

def k0_off576 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c30_i32 : BitVec 32 := 30#32
  let v399 : BitVec 32 := Scalar.addi v128 c30_i32
  let v400 : Index := Scalar.indexCast v399
  ![v400.toNat]
def k0_mult288 (v401 : BitVec 32) : BitVec 32 :=
  v401

def k0_off577 (v401 : BitVec 32) : Fin 2 → Nat :=
  let v402 : BitVec 32 := v401
  let v403 : Index := Scalar.indexCast v402
  let c0_168 : Index := 0#32
  ![v403.toNat, 0]

def k0_chk288 (v401 : BitVec 32) : Prop :=
  (8 ∣ (k0_mult288 v401).toNat) ∧
  (∀ a, (k0_off577 v401) a + S8x128.size a ≤ S16384x128.size a)
theorem k0_mult288_dvd : ∀ (v401 : BitVec 32) (k0_hw288 : k0_chk288 v401), 8 ∣ (k0_mult288 v401).toNat := fun v401 k0_hw288 => k0_hw288.1
theorem k0_off577_inb : ∀ (v401 : BitVec 32) (k0_hw288 : k0_chk288 v401), ∀ a, (k0_off577 v401) a + S8x128.size a ≤ S16384x128.size a := fun v401 k0_hw288 => k0_hw288.2

def k0_off578 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c31_i32 : BitVec 32 := 31#32
  let v408 : BitVec 32 := Scalar.addi v128 c31_i32
  let v409 : Index := Scalar.indexCast v408
  ![v409.toNat]
def k0_mult289 (v410 : BitVec 32) : BitVec 32 :=
  v410

def k0_off579 (v410 : BitVec 32) : Fin 2 → Nat :=
  let v411 : BitVec 32 := v410
  let v412 : Index := Scalar.indexCast v411
  let c0_170 : Index := 0#32
  ![v412.toNat, 0]

def k0_chk289 (v410 : BitVec 32) : Prop :=
  (8 ∣ (k0_mult289 v410).toNat) ∧
  (∀ a, (k0_off579 v410) a + S8x128.size a ≤ S16384x128.size a)
theorem k0_mult289_dvd : ∀ (v410 : BitVec 32) (k0_hw289 : k0_chk289 v410), 8 ∣ (k0_mult289 v410).toNat := fun v410 k0_hw289 => k0_hw289.1
theorem k0_off579_inb : ∀ (v410 : BitVec 32) (k0_hw289 : k0_chk289 v410), ∀ a, (k0_off579 v410) a + S8x128.size a ≤ S16384x128.size a := fun v410 k0_hw289 => k0_hw289.2

def k0_off580 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c32_i32 : BitVec 32 := 32#32
  let v417 : BitVec 32 := Scalar.addi v128 c32_i32
  let v418 : Index := Scalar.indexCast v417
  ![v418.toNat]
def k0_mult290 (v419 : BitVec 32) : BitVec 32 :=
  v419

def k0_off581 (v419 : BitVec 32) : Fin 2 → Nat :=
  let v420 : BitVec 32 := v419
  let v421 : Index := Scalar.indexCast v420
  let c0_172 : Index := 0#32
  ![v421.toNat, 0]

def k0_chk290 (v419 : BitVec 32) : Prop :=
  (8 ∣ (k0_mult290 v419).toNat) ∧
  (∀ a, (k0_off581 v419) a + S8x128.size a ≤ S16384x128.size a)
theorem k0_mult290_dvd : ∀ (v419 : BitVec 32) (k0_hw290 : k0_chk290 v419), 8 ∣ (k0_mult290 v419).toNat := fun v419 k0_hw290 => k0_hw290.1
theorem k0_off581_inb : ∀ (v419 : BitVec 32) (k0_hw290 : k0_chk290 v419), ∀ a, (k0_off581 v419) a + S8x128.size a ≤ S16384x128.size a := fun v419 k0_hw290 => k0_hw290.2

def k0_off582 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c33_i32 : BitVec 32 := 33#32
  let v426 : BitVec 32 := Scalar.addi v128 c33_i32
  let v427 : Index := Scalar.indexCast v426
  ![v427.toNat]
def k0_mult291 (v428 : BitVec 32) : BitVec 32 :=
  v428

def k0_off583 (v428 : BitVec 32) : Fin 2 → Nat :=
  let v429 : BitVec 32 := v428
  let v430 : Index := Scalar.indexCast v429
  let c0_174 : Index := 0#32
  ![v430.toNat, 0]

def k0_chk291 (v428 : BitVec 32) : Prop :=
  (8 ∣ (k0_mult291 v428).toNat) ∧
  (∀ a, (k0_off583 v428) a + S8x128.size a ≤ S16384x128.size a)
theorem k0_mult291_dvd : ∀ (v428 : BitVec 32) (k0_hw291 : k0_chk291 v428), 8 ∣ (k0_mult291 v428).toNat := fun v428 k0_hw291 => k0_hw291.1
theorem k0_off583_inb : ∀ (v428 : BitVec 32) (k0_hw291 : k0_chk291 v428), ∀ a, (k0_off583 v428) a + S8x128.size a ≤ S16384x128.size a := fun v428 k0_hw291 => k0_hw291.2

def k0_off584 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c34_i32 : BitVec 32 := 34#32
  let v435 : BitVec 32 := Scalar.addi v128 c34_i32
  let v436 : Index := Scalar.indexCast v435
  ![v436.toNat]
def k0_mult292 (v437 : BitVec 32) : BitVec 32 :=
  v437

def k0_off585 (v437 : BitVec 32) : Fin 2 → Nat :=
  let v438 : BitVec 32 := v437
  let v439 : Index := Scalar.indexCast v438
  let c0_176 : Index := 0#32
  ![v439.toNat, 0]

def k0_chk292 (v437 : BitVec 32) : Prop :=
  (8 ∣ (k0_mult292 v437).toNat) ∧
  (∀ a, (k0_off585 v437) a + S8x128.size a ≤ S16384x128.size a)
theorem k0_mult292_dvd : ∀ (v437 : BitVec 32) (k0_hw292 : k0_chk292 v437), 8 ∣ (k0_mult292 v437).toNat := fun v437 k0_hw292 => k0_hw292.1
theorem k0_off585_inb : ∀ (v437 : BitVec 32) (k0_hw292 : k0_chk292 v437), ∀ a, (k0_off585 v437) a + S8x128.size a ≤ S16384x128.size a := fun v437 k0_hw292 => k0_hw292.2

def k0_off586 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c35_i32 : BitVec 32 := 35#32
  let v444 : BitVec 32 := Scalar.addi v128 c35_i32
  let v445 : Index := Scalar.indexCast v444
  ![v445.toNat]
def k0_mult293 (v446 : BitVec 32) : BitVec 32 :=
  v446

def k0_off587 (v446 : BitVec 32) : Fin 2 → Nat :=
  let v447 : BitVec 32 := v446
  let v448 : Index := Scalar.indexCast v447
  let c0_178 : Index := 0#32
  ![v448.toNat, 0]

def k0_chk293 (v446 : BitVec 32) : Prop :=
  (8 ∣ (k0_mult293 v446).toNat) ∧
  (∀ a, (k0_off587 v446) a + S8x128.size a ≤ S16384x128.size a)
theorem k0_mult293_dvd : ∀ (v446 : BitVec 32) (k0_hw293 : k0_chk293 v446), 8 ∣ (k0_mult293 v446).toNat := fun v446 k0_hw293 => k0_hw293.1
theorem k0_off587_inb : ∀ (v446 : BitVec 32) (k0_hw293 : k0_chk293 v446), ∀ a, (k0_off587 v446) a + S8x128.size a ≤ S16384x128.size a := fun v446 k0_hw293 => k0_hw293.2

def k0_off588 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c36_i32 : BitVec 32 := 36#32
  let v453 : BitVec 32 := Scalar.addi v128 c36_i32
  let v454 : Index := Scalar.indexCast v453
  ![v454.toNat]
def k0_mult294 (v455 : BitVec 32) : BitVec 32 :=
  v455

def k0_off589 (v455 : BitVec 32) : Fin 2 → Nat :=
  let v456 : BitVec 32 := v455
  let v457 : Index := Scalar.indexCast v456
  let c0_180 : Index := 0#32
  ![v457.toNat, 0]

def k0_chk294 (v455 : BitVec 32) : Prop :=
  (8 ∣ (k0_mult294 v455).toNat) ∧
  (∀ a, (k0_off589 v455) a + S8x128.size a ≤ S16384x128.size a)
theorem k0_mult294_dvd : ∀ (v455 : BitVec 32) (k0_hw294 : k0_chk294 v455), 8 ∣ (k0_mult294 v455).toNat := fun v455 k0_hw294 => k0_hw294.1
theorem k0_off589_inb : ∀ (v455 : BitVec 32) (k0_hw294 : k0_chk294 v455), ∀ a, (k0_off589 v455) a + S8x128.size a ≤ S16384x128.size a := fun v455 k0_hw294 => k0_hw294.2

def k0_off590 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c37_i32 : BitVec 32 := 37#32
  let v462 : BitVec 32 := Scalar.addi v128 c37_i32
  let v463 : Index := Scalar.indexCast v462
  ![v463.toNat]
def k0_mult295 (v464 : BitVec 32) : BitVec 32 :=
  v464

def k0_off591 (v464 : BitVec 32) : Fin 2 → Nat :=
  let v465 : BitVec 32 := v464
  let v466 : Index := Scalar.indexCast v465
  let c0_182 : Index := 0#32
  ![v466.toNat, 0]

def k0_chk295 (v464 : BitVec 32) : Prop :=
  (8 ∣ (k0_mult295 v464).toNat) ∧
  (∀ a, (k0_off591 v464) a + S8x128.size a ≤ S16384x128.size a)
theorem k0_mult295_dvd : ∀ (v464 : BitVec 32) (k0_hw295 : k0_chk295 v464), 8 ∣ (k0_mult295 v464).toNat := fun v464 k0_hw295 => k0_hw295.1
theorem k0_off591_inb : ∀ (v464 : BitVec 32) (k0_hw295 : k0_chk295 v464), ∀ a, (k0_off591 v464) a + S8x128.size a ≤ S16384x128.size a := fun v464 k0_hw295 => k0_hw295.2

def k0_off592 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c38_i32 : BitVec 32 := 38#32
  let v471 : BitVec 32 := Scalar.addi v128 c38_i32
  let v472 : Index := Scalar.indexCast v471
  ![v472.toNat]
def k0_mult296 (v473 : BitVec 32) : BitVec 32 :=
  v473

def k0_off593 (v473 : BitVec 32) : Fin 2 → Nat :=
  let v474 : BitVec 32 := v473
  let v475 : Index := Scalar.indexCast v474
  let c0_184 : Index := 0#32
  ![v475.toNat, 0]

def k0_chk296 (v473 : BitVec 32) : Prop :=
  (8 ∣ (k0_mult296 v473).toNat) ∧
  (∀ a, (k0_off593 v473) a + S8x128.size a ≤ S16384x128.size a)
theorem k0_mult296_dvd : ∀ (v473 : BitVec 32) (k0_hw296 : k0_chk296 v473), 8 ∣ (k0_mult296 v473).toNat := fun v473 k0_hw296 => k0_hw296.1
theorem k0_off593_inb : ∀ (v473 : BitVec 32) (k0_hw296 : k0_chk296 v473), ∀ a, (k0_off593 v473) a + S8x128.size a ≤ S16384x128.size a := fun v473 k0_hw296 => k0_hw296.2

def k0_off594 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c39_i32 : BitVec 32 := 39#32
  let v480 : BitVec 32 := Scalar.addi v128 c39_i32
  let v481 : Index := Scalar.indexCast v480
  ![v481.toNat]
def k0_mult297 (v482 : BitVec 32) : BitVec 32 :=
  v482

def k0_off595 (v482 : BitVec 32) : Fin 2 → Nat :=
  let v483 : BitVec 32 := v482
  let v484 : Index := Scalar.indexCast v483
  let c0_186 : Index := 0#32
  ![v484.toNat, 0]

def k0_chk297 (v482 : BitVec 32) : Prop :=
  (8 ∣ (k0_mult297 v482).toNat) ∧
  (∀ a, (k0_off595 v482) a + S8x128.size a ≤ S16384x128.size a)
theorem k0_mult297_dvd : ∀ (v482 : BitVec 32) (k0_hw297 : k0_chk297 v482), 8 ∣ (k0_mult297 v482).toNat := fun v482 k0_hw297 => k0_hw297.1
theorem k0_off595_inb : ∀ (v482 : BitVec 32) (k0_hw297 : k0_chk297 v482), ∀ a, (k0_off595 v482) a + S8x128.size a ≤ S16384x128.size a := fun v482 k0_hw297 => k0_hw297.2

def k0_off596 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c40_i32 : BitVec 32 := 40#32
  let v489 : BitVec 32 := Scalar.addi v128 c40_i32
  let v490 : Index := Scalar.indexCast v489
  ![v490.toNat]
def k0_mult298 (v491 : BitVec 32) : BitVec 32 :=
  v491

def k0_off597 (v491 : BitVec 32) : Fin 2 → Nat :=
  let v492 : BitVec 32 := v491
  let v493 : Index := Scalar.indexCast v492
  let c0_188 : Index := 0#32
  ![v493.toNat, 0]

def k0_chk298 (v491 : BitVec 32) : Prop :=
  (8 ∣ (k0_mult298 v491).toNat) ∧
  (∀ a, (k0_off597 v491) a + S8x128.size a ≤ S16384x128.size a)
theorem k0_mult298_dvd : ∀ (v491 : BitVec 32) (k0_hw298 : k0_chk298 v491), 8 ∣ (k0_mult298 v491).toNat := fun v491 k0_hw298 => k0_hw298.1
theorem k0_off597_inb : ∀ (v491 : BitVec 32) (k0_hw298 : k0_chk298 v491), ∀ a, (k0_off597 v491) a + S8x128.size a ≤ S16384x128.size a := fun v491 k0_hw298 => k0_hw298.2

def k0_off598 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c41_i32 : BitVec 32 := 41#32
  let v498 : BitVec 32 := Scalar.addi v128 c41_i32
  let v499 : Index := Scalar.indexCast v498
  ![v499.toNat]
def k0_mult299 (v500 : BitVec 32) : BitVec 32 :=
  v500

def k0_off599 (v500 : BitVec 32) : Fin 2 → Nat :=
  let v501 : BitVec 32 := v500
  let v502 : Index := Scalar.indexCast v501
  let c0_190 : Index := 0#32
  ![v502.toNat, 0]

def k0_chk299 (v500 : BitVec 32) : Prop :=
  (8 ∣ (k0_mult299 v500).toNat) ∧
  (∀ a, (k0_off599 v500) a + S8x128.size a ≤ S16384x128.size a)
theorem k0_mult299_dvd : ∀ (v500 : BitVec 32) (k0_hw299 : k0_chk299 v500), 8 ∣ (k0_mult299 v500).toNat := fun v500 k0_hw299 => k0_hw299.1
theorem k0_off599_inb : ∀ (v500 : BitVec 32) (k0_hw299 : k0_chk299 v500), ∀ a, (k0_off599 v500) a + S8x128.size a ≤ S16384x128.size a := fun v500 k0_hw299 => k0_hw299.2

def k0_off600 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c42_i32 : BitVec 32 := 42#32
  let v507 : BitVec 32 := Scalar.addi v128 c42_i32
  let v508 : Index := Scalar.indexCast v507
  ![v508.toNat]
def k0_mult300 (v509 : BitVec 32) : BitVec 32 :=
  v509

def k0_off601 (v509 : BitVec 32) : Fin 2 → Nat :=
  let v510 : BitVec 32 := v509
  let v511 : Index := Scalar.indexCast v510
  let c0_192 : Index := 0#32
  ![v511.toNat, 0]

def k0_chk300 (v509 : BitVec 32) : Prop :=
  (8 ∣ (k0_mult300 v509).toNat) ∧
  (∀ a, (k0_off601 v509) a + S8x128.size a ≤ S16384x128.size a)
theorem k0_mult300_dvd : ∀ (v509 : BitVec 32) (k0_hw300 : k0_chk300 v509), 8 ∣ (k0_mult300 v509).toNat := fun v509 k0_hw300 => k0_hw300.1
theorem k0_off601_inb : ∀ (v509 : BitVec 32) (k0_hw300 : k0_chk300 v509), ∀ a, (k0_off601 v509) a + S8x128.size a ≤ S16384x128.size a := fun v509 k0_hw300 => k0_hw300.2

def k0_off602 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c43_i32 : BitVec 32 := 43#32
  let v516 : BitVec 32 := Scalar.addi v128 c43_i32
  let v517 : Index := Scalar.indexCast v516
  ![v517.toNat]
def k0_mult301 (v518 : BitVec 32) : BitVec 32 :=
  v518

def k0_off603 (v518 : BitVec 32) : Fin 2 → Nat :=
  let v519 : BitVec 32 := v518
  let v520 : Index := Scalar.indexCast v519
  let c0_194 : Index := 0#32
  ![v520.toNat, 0]

def k0_chk301 (v518 : BitVec 32) : Prop :=
  (8 ∣ (k0_mult301 v518).toNat) ∧
  (∀ a, (k0_off603 v518) a + S8x128.size a ≤ S16384x128.size a)
theorem k0_mult301_dvd : ∀ (v518 : BitVec 32) (k0_hw301 : k0_chk301 v518), 8 ∣ (k0_mult301 v518).toNat := fun v518 k0_hw301 => k0_hw301.1
theorem k0_off603_inb : ∀ (v518 : BitVec 32) (k0_hw301 : k0_chk301 v518), ∀ a, (k0_off603 v518) a + S8x128.size a ≤ S16384x128.size a := fun v518 k0_hw301 => k0_hw301.2

def k0_off604 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c44_i32 : BitVec 32 := 44#32
  let v525 : BitVec 32 := Scalar.addi v128 c44_i32
  let v526 : Index := Scalar.indexCast v525
  ![v526.toNat]
def k0_mult302 (v527 : BitVec 32) : BitVec 32 :=
  v527

def k0_off605 (v527 : BitVec 32) : Fin 2 → Nat :=
  let v528 : BitVec 32 := v527
  let v529 : Index := Scalar.indexCast v528
  let c0_196 : Index := 0#32
  ![v529.toNat, 0]

def k0_chk302 (v527 : BitVec 32) : Prop :=
  (8 ∣ (k0_mult302 v527).toNat) ∧
  (∀ a, (k0_off605 v527) a + S8x128.size a ≤ S16384x128.size a)
theorem k0_mult302_dvd : ∀ (v527 : BitVec 32) (k0_hw302 : k0_chk302 v527), 8 ∣ (k0_mult302 v527).toNat := fun v527 k0_hw302 => k0_hw302.1
theorem k0_off605_inb : ∀ (v527 : BitVec 32) (k0_hw302 : k0_chk302 v527), ∀ a, (k0_off605 v527) a + S8x128.size a ≤ S16384x128.size a := fun v527 k0_hw302 => k0_hw302.2

def k0_off606 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c45_i32 : BitVec 32 := 45#32
  let v534 : BitVec 32 := Scalar.addi v128 c45_i32
  let v535 : Index := Scalar.indexCast v534
  ![v535.toNat]
def k0_mult303 (v536 : BitVec 32) : BitVec 32 :=
  v536

def k0_off607 (v536 : BitVec 32) : Fin 2 → Nat :=
  let v537 : BitVec 32 := v536
  let v538 : Index := Scalar.indexCast v537
  let c0_198 : Index := 0#32
  ![v538.toNat, 0]

def k0_chk303 (v536 : BitVec 32) : Prop :=
  (8 ∣ (k0_mult303 v536).toNat) ∧
  (∀ a, (k0_off607 v536) a + S8x128.size a ≤ S16384x128.size a)
theorem k0_mult303_dvd : ∀ (v536 : BitVec 32) (k0_hw303 : k0_chk303 v536), 8 ∣ (k0_mult303 v536).toNat := fun v536 k0_hw303 => k0_hw303.1
theorem k0_off607_inb : ∀ (v536 : BitVec 32) (k0_hw303 : k0_chk303 v536), ∀ a, (k0_off607 v536) a + S8x128.size a ≤ S16384x128.size a := fun v536 k0_hw303 => k0_hw303.2

def k0_off608 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c46_i32 : BitVec 32 := 46#32
  let v543 : BitVec 32 := Scalar.addi v128 c46_i32
  let v544 : Index := Scalar.indexCast v543
  ![v544.toNat]
def k0_mult304 (v545 : BitVec 32) : BitVec 32 :=
  v545

def k0_off609 (v545 : BitVec 32) : Fin 2 → Nat :=
  let v546 : BitVec 32 := v545
  let v547 : Index := Scalar.indexCast v546
  let c0_200 : Index := 0#32
  ![v547.toNat, 0]

def k0_chk304 (v545 : BitVec 32) : Prop :=
  (8 ∣ (k0_mult304 v545).toNat) ∧
  (∀ a, (k0_off609 v545) a + S8x128.size a ≤ S16384x128.size a)
theorem k0_mult304_dvd : ∀ (v545 : BitVec 32) (k0_hw304 : k0_chk304 v545), 8 ∣ (k0_mult304 v545).toNat := fun v545 k0_hw304 => k0_hw304.1
theorem k0_off609_inb : ∀ (v545 : BitVec 32) (k0_hw304 : k0_chk304 v545), ∀ a, (k0_off609 v545) a + S8x128.size a ≤ S16384x128.size a := fun v545 k0_hw304 => k0_hw304.2

def k0_off610 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c47_i32 : BitVec 32 := 47#32
  let v552 : BitVec 32 := Scalar.addi v128 c47_i32
  let v553 : Index := Scalar.indexCast v552
  ![v553.toNat]
def k0_mult305 (v554 : BitVec 32) : BitVec 32 :=
  v554

def k0_off611 (v554 : BitVec 32) : Fin 2 → Nat :=
  let v555 : BitVec 32 := v554
  let v556 : Index := Scalar.indexCast v555
  let c0_202 : Index := 0#32
  ![v556.toNat, 0]

def k0_chk305 (v554 : BitVec 32) : Prop :=
  (8 ∣ (k0_mult305 v554).toNat) ∧
  (∀ a, (k0_off611 v554) a + S8x128.size a ≤ S16384x128.size a)
theorem k0_mult305_dvd : ∀ (v554 : BitVec 32) (k0_hw305 : k0_chk305 v554), 8 ∣ (k0_mult305 v554).toNat := fun v554 k0_hw305 => k0_hw305.1
theorem k0_off611_inb : ∀ (v554 : BitVec 32) (k0_hw305 : k0_chk305 v554), ∀ a, (k0_off611 v554) a + S8x128.size a ≤ S16384x128.size a := fun v554 k0_hw305 => k0_hw305.2

def k0_off612 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c48_i32 : BitVec 32 := 48#32
  let v561 : BitVec 32 := Scalar.addi v128 c48_i32
  let v562 : Index := Scalar.indexCast v561
  ![v562.toNat]
def k0_mult306 (v563 : BitVec 32) : BitVec 32 :=
  v563

def k0_off613 (v563 : BitVec 32) : Fin 2 → Nat :=
  let v564 : BitVec 32 := v563
  let v565 : Index := Scalar.indexCast v564
  let c0_204 : Index := 0#32
  ![v565.toNat, 0]

def k0_chk306 (v563 : BitVec 32) : Prop :=
  (8 ∣ (k0_mult306 v563).toNat) ∧
  (∀ a, (k0_off613 v563) a + S8x128.size a ≤ S16384x128.size a)
theorem k0_mult306_dvd : ∀ (v563 : BitVec 32) (k0_hw306 : k0_chk306 v563), 8 ∣ (k0_mult306 v563).toNat := fun v563 k0_hw306 => k0_hw306.1
theorem k0_off613_inb : ∀ (v563 : BitVec 32) (k0_hw306 : k0_chk306 v563), ∀ a, (k0_off613 v563) a + S8x128.size a ≤ S16384x128.size a := fun v563 k0_hw306 => k0_hw306.2

def k0_off614 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c49_i32 : BitVec 32 := 49#32
  let v570 : BitVec 32 := Scalar.addi v128 c49_i32
  let v571 : Index := Scalar.indexCast v570
  ![v571.toNat]
def k0_mult307 (v572 : BitVec 32) : BitVec 32 :=
  v572

def k0_off615 (v572 : BitVec 32) : Fin 2 → Nat :=
  let v573 : BitVec 32 := v572
  let v574 : Index := Scalar.indexCast v573
  let c0_206 : Index := 0#32
  ![v574.toNat, 0]

def k0_chk307 (v572 : BitVec 32) : Prop :=
  (8 ∣ (k0_mult307 v572).toNat) ∧
  (∀ a, (k0_off615 v572) a + S8x128.size a ≤ S16384x128.size a)
theorem k0_mult307_dvd : ∀ (v572 : BitVec 32) (k0_hw307 : k0_chk307 v572), 8 ∣ (k0_mult307 v572).toNat := fun v572 k0_hw307 => k0_hw307.1
theorem k0_off615_inb : ∀ (v572 : BitVec 32) (k0_hw307 : k0_chk307 v572), ∀ a, (k0_off615 v572) a + S8x128.size a ≤ S16384x128.size a := fun v572 k0_hw307 => k0_hw307.2

def k0_off616 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c50_i32 : BitVec 32 := 50#32
  let v579 : BitVec 32 := Scalar.addi v128 c50_i32
  let v580 : Index := Scalar.indexCast v579
  ![v580.toNat]
def k0_mult308 (v581 : BitVec 32) : BitVec 32 :=
  v581

def k0_off617 (v581 : BitVec 32) : Fin 2 → Nat :=
  let v582 : BitVec 32 := v581
  let v583 : Index := Scalar.indexCast v582
  let c0_208 : Index := 0#32
  ![v583.toNat, 0]

def k0_chk308 (v581 : BitVec 32) : Prop :=
  (8 ∣ (k0_mult308 v581).toNat) ∧
  (∀ a, (k0_off617 v581) a + S8x128.size a ≤ S16384x128.size a)
theorem k0_mult308_dvd : ∀ (v581 : BitVec 32) (k0_hw308 : k0_chk308 v581), 8 ∣ (k0_mult308 v581).toNat := fun v581 k0_hw308 => k0_hw308.1
theorem k0_off617_inb : ∀ (v581 : BitVec 32) (k0_hw308 : k0_chk308 v581), ∀ a, (k0_off617 v581) a + S8x128.size a ≤ S16384x128.size a := fun v581 k0_hw308 => k0_hw308.2

def k0_off618 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c51_i32 : BitVec 32 := 51#32
  let v588 : BitVec 32 := Scalar.addi v128 c51_i32
  let v589 : Index := Scalar.indexCast v588
  ![v589.toNat]
def k0_mult309 (v590 : BitVec 32) : BitVec 32 :=
  v590

def k0_off619 (v590 : BitVec 32) : Fin 2 → Nat :=
  let v591 : BitVec 32 := v590
  let v592 : Index := Scalar.indexCast v591
  let c0_210 : Index := 0#32
  ![v592.toNat, 0]

def k0_chk309 (v590 : BitVec 32) : Prop :=
  (8 ∣ (k0_mult309 v590).toNat) ∧
  (∀ a, (k0_off619 v590) a + S8x128.size a ≤ S16384x128.size a)
theorem k0_mult309_dvd : ∀ (v590 : BitVec 32) (k0_hw309 : k0_chk309 v590), 8 ∣ (k0_mult309 v590).toNat := fun v590 k0_hw309 => k0_hw309.1
theorem k0_off619_inb : ∀ (v590 : BitVec 32) (k0_hw309 : k0_chk309 v590), ∀ a, (k0_off619 v590) a + S8x128.size a ≤ S16384x128.size a := fun v590 k0_hw309 => k0_hw309.2

def k0_off620 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c52_i32 : BitVec 32 := 52#32
  let v597 : BitVec 32 := Scalar.addi v128 c52_i32
  let v598 : Index := Scalar.indexCast v597
  ![v598.toNat]
def k0_mult310 (v599 : BitVec 32) : BitVec 32 :=
  v599

def k0_off621 (v599 : BitVec 32) : Fin 2 → Nat :=
  let v600 : BitVec 32 := v599
  let v601 : Index := Scalar.indexCast v600
  let c0_212 : Index := 0#32
  ![v601.toNat, 0]

def k0_chk310 (v599 : BitVec 32) : Prop :=
  (8 ∣ (k0_mult310 v599).toNat) ∧
  (∀ a, (k0_off621 v599) a + S8x128.size a ≤ S16384x128.size a)
theorem k0_mult310_dvd : ∀ (v599 : BitVec 32) (k0_hw310 : k0_chk310 v599), 8 ∣ (k0_mult310 v599).toNat := fun v599 k0_hw310 => k0_hw310.1
theorem k0_off621_inb : ∀ (v599 : BitVec 32) (k0_hw310 : k0_chk310 v599), ∀ a, (k0_off621 v599) a + S8x128.size a ≤ S16384x128.size a := fun v599 k0_hw310 => k0_hw310.2

def k0_off622 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c53_i32 : BitVec 32 := 53#32
  let v606 : BitVec 32 := Scalar.addi v128 c53_i32
  let v607 : Index := Scalar.indexCast v606
  ![v607.toNat]
def k0_mult311 (v608 : BitVec 32) : BitVec 32 :=
  v608

def k0_off623 (v608 : BitVec 32) : Fin 2 → Nat :=
  let v609 : BitVec 32 := v608
  let v610 : Index := Scalar.indexCast v609
  let c0_214 : Index := 0#32
  ![v610.toNat, 0]

def k0_chk311 (v608 : BitVec 32) : Prop :=
  (8 ∣ (k0_mult311 v608).toNat) ∧
  (∀ a, (k0_off623 v608) a + S8x128.size a ≤ S16384x128.size a)
theorem k0_mult311_dvd : ∀ (v608 : BitVec 32) (k0_hw311 : k0_chk311 v608), 8 ∣ (k0_mult311 v608).toNat := fun v608 k0_hw311 => k0_hw311.1
theorem k0_off623_inb : ∀ (v608 : BitVec 32) (k0_hw311 : k0_chk311 v608), ∀ a, (k0_off623 v608) a + S8x128.size a ≤ S16384x128.size a := fun v608 k0_hw311 => k0_hw311.2

def k0_off624 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c54_i32 : BitVec 32 := 54#32
  let v615 : BitVec 32 := Scalar.addi v128 c54_i32
  let v616 : Index := Scalar.indexCast v615
  ![v616.toNat]
def k0_mult312 (v617 : BitVec 32) : BitVec 32 :=
  v617

def k0_off625 (v617 : BitVec 32) : Fin 2 → Nat :=
  let v618 : BitVec 32 := v617
  let v619 : Index := Scalar.indexCast v618
  let c0_216 : Index := 0#32
  ![v619.toNat, 0]

def k0_chk312 (v617 : BitVec 32) : Prop :=
  (8 ∣ (k0_mult312 v617).toNat) ∧
  (∀ a, (k0_off625 v617) a + S8x128.size a ≤ S16384x128.size a)
theorem k0_mult312_dvd : ∀ (v617 : BitVec 32) (k0_hw312 : k0_chk312 v617), 8 ∣ (k0_mult312 v617).toNat := fun v617 k0_hw312 => k0_hw312.1
theorem k0_off625_inb : ∀ (v617 : BitVec 32) (k0_hw312 : k0_chk312 v617), ∀ a, (k0_off625 v617) a + S8x128.size a ≤ S16384x128.size a := fun v617 k0_hw312 => k0_hw312.2

def k0_off626 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c55_i32 : BitVec 32 := 55#32
  let v624 : BitVec 32 := Scalar.addi v128 c55_i32
  let v625 : Index := Scalar.indexCast v624
  ![v625.toNat]
def k0_mult313 (v626 : BitVec 32) : BitVec 32 :=
  v626

def k0_off627 (v626 : BitVec 32) : Fin 2 → Nat :=
  let v627 : BitVec 32 := v626
  let v628 : Index := Scalar.indexCast v627
  let c0_218 : Index := 0#32
  ![v628.toNat, 0]

def k0_chk313 (v626 : BitVec 32) : Prop :=
  (8 ∣ (k0_mult313 v626).toNat) ∧
  (∀ a, (k0_off627 v626) a + S8x128.size a ≤ S16384x128.size a)
theorem k0_mult313_dvd : ∀ (v626 : BitVec 32) (k0_hw313 : k0_chk313 v626), 8 ∣ (k0_mult313 v626).toNat := fun v626 k0_hw313 => k0_hw313.1
theorem k0_off627_inb : ∀ (v626 : BitVec 32) (k0_hw313 : k0_chk313 v626), ∀ a, (k0_off627 v626) a + S8x128.size a ≤ S16384x128.size a := fun v626 k0_hw313 => k0_hw313.2

def k0_off628 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c56_i32 : BitVec 32 := 56#32
  let v633 : BitVec 32 := Scalar.addi v128 c56_i32
  let v634 : Index := Scalar.indexCast v633
  ![v634.toNat]
def k0_mult314 (v635 : BitVec 32) : BitVec 32 :=
  v635

def k0_off629 (v635 : BitVec 32) : Fin 2 → Nat :=
  let v636 : BitVec 32 := v635
  let v637 : Index := Scalar.indexCast v636
  let c0_220 : Index := 0#32
  ![v637.toNat, 0]

def k0_chk314 (v635 : BitVec 32) : Prop :=
  (8 ∣ (k0_mult314 v635).toNat) ∧
  (∀ a, (k0_off629 v635) a + S8x128.size a ≤ S16384x128.size a)
theorem k0_mult314_dvd : ∀ (v635 : BitVec 32) (k0_hw314 : k0_chk314 v635), 8 ∣ (k0_mult314 v635).toNat := fun v635 k0_hw314 => k0_hw314.1
theorem k0_off629_inb : ∀ (v635 : BitVec 32) (k0_hw314 : k0_chk314 v635), ∀ a, (k0_off629 v635) a + S8x128.size a ≤ S16384x128.size a := fun v635 k0_hw314 => k0_hw314.2

def k0_off630 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c57_i32 : BitVec 32 := 57#32
  let v642 : BitVec 32 := Scalar.addi v128 c57_i32
  let v643 : Index := Scalar.indexCast v642
  ![v643.toNat]
def k0_mult315 (v644 : BitVec 32) : BitVec 32 :=
  v644

def k0_off631 (v644 : BitVec 32) : Fin 2 → Nat :=
  let v645 : BitVec 32 := v644
  let v646 : Index := Scalar.indexCast v645
  let c0_222 : Index := 0#32
  ![v646.toNat, 0]

def k0_chk315 (v644 : BitVec 32) : Prop :=
  (8 ∣ (k0_mult315 v644).toNat) ∧
  (∀ a, (k0_off631 v644) a + S8x128.size a ≤ S16384x128.size a)
theorem k0_mult315_dvd : ∀ (v644 : BitVec 32) (k0_hw315 : k0_chk315 v644), 8 ∣ (k0_mult315 v644).toNat := fun v644 k0_hw315 => k0_hw315.1
theorem k0_off631_inb : ∀ (v644 : BitVec 32) (k0_hw315 : k0_chk315 v644), ∀ a, (k0_off631 v644) a + S8x128.size a ≤ S16384x128.size a := fun v644 k0_hw315 => k0_hw315.2

def k0_off632 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c58_i32 : BitVec 32 := 58#32
  let v651 : BitVec 32 := Scalar.addi v128 c58_i32
  let v652 : Index := Scalar.indexCast v651
  ![v652.toNat]
def k0_mult316 (v653 : BitVec 32) : BitVec 32 :=
  v653

def k0_off633 (v653 : BitVec 32) : Fin 2 → Nat :=
  let v654 : BitVec 32 := v653
  let v655 : Index := Scalar.indexCast v654
  let c0_224 : Index := 0#32
  ![v655.toNat, 0]

def k0_chk316 (v653 : BitVec 32) : Prop :=
  (8 ∣ (k0_mult316 v653).toNat) ∧
  (∀ a, (k0_off633 v653) a + S8x128.size a ≤ S16384x128.size a)
theorem k0_mult316_dvd : ∀ (v653 : BitVec 32) (k0_hw316 : k0_chk316 v653), 8 ∣ (k0_mult316 v653).toNat := fun v653 k0_hw316 => k0_hw316.1
theorem k0_off633_inb : ∀ (v653 : BitVec 32) (k0_hw316 : k0_chk316 v653), ∀ a, (k0_off633 v653) a + S8x128.size a ≤ S16384x128.size a := fun v653 k0_hw316 => k0_hw316.2

def k0_off634 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c59_i32 : BitVec 32 := 59#32
  let v660 : BitVec 32 := Scalar.addi v128 c59_i32
  let v661 : Index := Scalar.indexCast v660
  ![v661.toNat]
def k0_mult317 (v662 : BitVec 32) : BitVec 32 :=
  v662

def k0_off635 (v662 : BitVec 32) : Fin 2 → Nat :=
  let v663 : BitVec 32 := v662
  let v664 : Index := Scalar.indexCast v663
  let c0_226 : Index := 0#32
  ![v664.toNat, 0]

def k0_chk317 (v662 : BitVec 32) : Prop :=
  (8 ∣ (k0_mult317 v662).toNat) ∧
  (∀ a, (k0_off635 v662) a + S8x128.size a ≤ S16384x128.size a)
theorem k0_mult317_dvd : ∀ (v662 : BitVec 32) (k0_hw317 : k0_chk317 v662), 8 ∣ (k0_mult317 v662).toNat := fun v662 k0_hw317 => k0_hw317.1
theorem k0_off635_inb : ∀ (v662 : BitVec 32) (k0_hw317 : k0_chk317 v662), ∀ a, (k0_off635 v662) a + S8x128.size a ≤ S16384x128.size a := fun v662 k0_hw317 => k0_hw317.2

def k0_off636 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c60_i32 : BitVec 32 := 60#32
  let v669 : BitVec 32 := Scalar.addi v128 c60_i32
  let v670 : Index := Scalar.indexCast v669
  ![v670.toNat]
def k0_mult318 (v671 : BitVec 32) : BitVec 32 :=
  v671

def k0_off637 (v671 : BitVec 32) : Fin 2 → Nat :=
  let v672 : BitVec 32 := v671
  let v673 : Index := Scalar.indexCast v672
  let c0_228 : Index := 0#32
  ![v673.toNat, 0]

def k0_chk318 (v671 : BitVec 32) : Prop :=
  (8 ∣ (k0_mult318 v671).toNat) ∧
  (∀ a, (k0_off637 v671) a + S8x128.size a ≤ S16384x128.size a)
theorem k0_mult318_dvd : ∀ (v671 : BitVec 32) (k0_hw318 : k0_chk318 v671), 8 ∣ (k0_mult318 v671).toNat := fun v671 k0_hw318 => k0_hw318.1
theorem k0_off637_inb : ∀ (v671 : BitVec 32) (k0_hw318 : k0_chk318 v671), ∀ a, (k0_off637 v671) a + S8x128.size a ≤ S16384x128.size a := fun v671 k0_hw318 => k0_hw318.2

def k0_off638 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c61_i32 : BitVec 32 := 61#32
  let v678 : BitVec 32 := Scalar.addi v128 c61_i32
  let v679 : Index := Scalar.indexCast v678
  ![v679.toNat]
def k0_mult319 (v680 : BitVec 32) : BitVec 32 :=
  v680

def k0_off639 (v680 : BitVec 32) : Fin 2 → Nat :=
  let v681 : BitVec 32 := v680
  let v682 : Index := Scalar.indexCast v681
  let c0_230 : Index := 0#32
  ![v682.toNat, 0]

def k0_chk319 (v680 : BitVec 32) : Prop :=
  (8 ∣ (k0_mult319 v680).toNat) ∧
  (∀ a, (k0_off639 v680) a + S8x128.size a ≤ S16384x128.size a)
theorem k0_mult319_dvd : ∀ (v680 : BitVec 32) (k0_hw319 : k0_chk319 v680), 8 ∣ (k0_mult319 v680).toNat := fun v680 k0_hw319 => k0_hw319.1
theorem k0_off639_inb : ∀ (v680 : BitVec 32) (k0_hw319 : k0_chk319 v680), ∀ a, (k0_off639 v680) a + S8x128.size a ≤ S16384x128.size a := fun v680 k0_hw319 => k0_hw319.2

def k0_off640 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c62_i32 : BitVec 32 := 62#32
  let v687 : BitVec 32 := Scalar.addi v128 c62_i32
  let v688 : Index := Scalar.indexCast v687
  ![v688.toNat]
def k0_mult320 (v689 : BitVec 32) : BitVec 32 :=
  v689

def k0_off641 (v689 : BitVec 32) : Fin 2 → Nat :=
  let v690 : BitVec 32 := v689
  let v691 : Index := Scalar.indexCast v690
  let c0_232 : Index := 0#32
  ![v691.toNat, 0]

def k0_chk320 (v689 : BitVec 32) : Prop :=
  (8 ∣ (k0_mult320 v689).toNat) ∧
  (∀ a, (k0_off641 v689) a + S8x128.size a ≤ S16384x128.size a)
theorem k0_mult320_dvd : ∀ (v689 : BitVec 32) (k0_hw320 : k0_chk320 v689), 8 ∣ (k0_mult320 v689).toNat := fun v689 k0_hw320 => k0_hw320.1
theorem k0_off641_inb : ∀ (v689 : BitVec 32) (k0_hw320 : k0_chk320 v689), ∀ a, (k0_off641 v689) a + S8x128.size a ≤ S16384x128.size a := fun v689 k0_hw320 => k0_hw320.2

def k0_off642 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c63_i32 : BitVec 32 := 63#32
  let v696 : BitVec 32 := Scalar.addi v128 c63_i32
  let v697 : Index := Scalar.indexCast v696
  ![v697.toNat]
def k0_mult321 (v698 : BitVec 32) : BitVec 32 :=
  v698

def k0_off643 (v698 : BitVec 32) : Fin 2 → Nat :=
  let v699 : BitVec 32 := v698
  let v700 : Index := Scalar.indexCast v699
  let c0_234 : Index := 0#32
  ![v700.toNat, 0]

def k0_chk321 (v698 : BitVec 32) : Prop :=
  (8 ∣ (k0_mult321 v698).toNat) ∧
  (∀ a, (k0_off643 v698) a + S8x128.size a ≤ S16384x128.size a)
theorem k0_mult321_dvd : ∀ (v698 : BitVec 32) (k0_hw321 : k0_chk321 v698), 8 ∣ (k0_mult321 v698).toNat := fun v698 k0_hw321 => k0_hw321.1
theorem k0_off643_inb : ∀ (v698 : BitVec 32) (k0_hw321 : k0_chk321 v698), ∀ a, (k0_off643 v698) a + S8x128.size a ≤ S16384x128.size a := fun v698 k0_hw321 => k0_hw321.2

def k0_off644 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c64_i32 : BitVec 32 := 64#32
  let v705 : BitVec 32 := Scalar.addi v128 c64_i32
  let v706 : Index := Scalar.indexCast v705
  ![v706.toNat]
def k0_mult322 (v707 : BitVec 32) : BitVec 32 :=
  v707

def k0_off645 (v707 : BitVec 32) : Fin 2 → Nat :=
  let v708 : BitVec 32 := v707
  let v709 : Index := Scalar.indexCast v708
  let c0_236 : Index := 0#32
  ![v709.toNat, 0]

def k0_chk322 (v707 : BitVec 32) : Prop :=
  (8 ∣ (k0_mult322 v707).toNat) ∧
  (∀ a, (k0_off645 v707) a + S8x128.size a ≤ S16384x128.size a)
theorem k0_mult322_dvd : ∀ (v707 : BitVec 32) (k0_hw322 : k0_chk322 v707), 8 ∣ (k0_mult322 v707).toNat := fun v707 k0_hw322 => k0_hw322.1
theorem k0_off645_inb : ∀ (v707 : BitVec 32) (k0_hw322 : k0_chk322 v707), ∀ a, (k0_off645 v707) a + S8x128.size a ≤ S16384x128.size a := fun v707 k0_hw322 => k0_hw322.2

def k0_off646 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c65_i32 : BitVec 32 := 65#32
  let v714 : BitVec 32 := Scalar.addi v128 c65_i32
  let v715 : Index := Scalar.indexCast v714
  ![v715.toNat]
def k0_mult323 (v716 : BitVec 32) : BitVec 32 :=
  v716

def k0_off647 (v716 : BitVec 32) : Fin 2 → Nat :=
  let v717 : BitVec 32 := v716
  let v718 : Index := Scalar.indexCast v717
  let c0_238 : Index := 0#32
  ![v718.toNat, 0]

def k0_chk323 (v716 : BitVec 32) : Prop :=
  (8 ∣ (k0_mult323 v716).toNat) ∧
  (∀ a, (k0_off647 v716) a + S8x128.size a ≤ S16384x128.size a)
theorem k0_mult323_dvd : ∀ (v716 : BitVec 32) (k0_hw323 : k0_chk323 v716), 8 ∣ (k0_mult323 v716).toNat := fun v716 k0_hw323 => k0_hw323.1
theorem k0_off647_inb : ∀ (v716 : BitVec 32) (k0_hw323 : k0_chk323 v716), ∀ a, (k0_off647 v716) a + S8x128.size a ≤ S16384x128.size a := fun v716 k0_hw323 => k0_hw323.2

def k0_off648 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c66_i32 : BitVec 32 := 66#32
  let v723 : BitVec 32 := Scalar.addi v128 c66_i32
  let v724 : Index := Scalar.indexCast v723
  ![v724.toNat]
def k0_mult324 (v725 : BitVec 32) : BitVec 32 :=
  v725

def k0_off649 (v725 : BitVec 32) : Fin 2 → Nat :=
  let v726 : BitVec 32 := v725
  let v727 : Index := Scalar.indexCast v726
  let c0_240 : Index := 0#32
  ![v727.toNat, 0]

def k0_chk324 (v725 : BitVec 32) : Prop :=
  (8 ∣ (k0_mult324 v725).toNat) ∧
  (∀ a, (k0_off649 v725) a + S8x128.size a ≤ S16384x128.size a)
theorem k0_mult324_dvd : ∀ (v725 : BitVec 32) (k0_hw324 : k0_chk324 v725), 8 ∣ (k0_mult324 v725).toNat := fun v725 k0_hw324 => k0_hw324.1
theorem k0_off649_inb : ∀ (v725 : BitVec 32) (k0_hw324 : k0_chk324 v725), ∀ a, (k0_off649 v725) a + S8x128.size a ≤ S16384x128.size a := fun v725 k0_hw324 => k0_hw324.2

def k0_off650 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c67_i32 : BitVec 32 := 67#32
  let v732 : BitVec 32 := Scalar.addi v128 c67_i32
  let v733 : Index := Scalar.indexCast v732
  ![v733.toNat]
def k0_mult325 (v734 : BitVec 32) : BitVec 32 :=
  v734

def k0_off651 (v734 : BitVec 32) : Fin 2 → Nat :=
  let v735 : BitVec 32 := v734
  let v736 : Index := Scalar.indexCast v735
  let c0_242 : Index := 0#32
  ![v736.toNat, 0]

def k0_chk325 (v734 : BitVec 32) : Prop :=
  (8 ∣ (k0_mult325 v734).toNat) ∧
  (∀ a, (k0_off651 v734) a + S8x128.size a ≤ S16384x128.size a)
theorem k0_mult325_dvd : ∀ (v734 : BitVec 32) (k0_hw325 : k0_chk325 v734), 8 ∣ (k0_mult325 v734).toNat := fun v734 k0_hw325 => k0_hw325.1
theorem k0_off651_inb : ∀ (v734 : BitVec 32) (k0_hw325 : k0_chk325 v734), ∀ a, (k0_off651 v734) a + S8x128.size a ≤ S16384x128.size a := fun v734 k0_hw325 => k0_hw325.2

def k0_off652 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c68_i32 : BitVec 32 := 68#32
  let v741 : BitVec 32 := Scalar.addi v128 c68_i32
  let v742 : Index := Scalar.indexCast v741
  ![v742.toNat]
def k0_mult326 (v743 : BitVec 32) : BitVec 32 :=
  v743

def k0_off653 (v743 : BitVec 32) : Fin 2 → Nat :=
  let v744 : BitVec 32 := v743
  let v745 : Index := Scalar.indexCast v744
  let c0_244 : Index := 0#32
  ![v745.toNat, 0]

def k0_chk326 (v743 : BitVec 32) : Prop :=
  (8 ∣ (k0_mult326 v743).toNat) ∧
  (∀ a, (k0_off653 v743) a + S8x128.size a ≤ S16384x128.size a)
theorem k0_mult326_dvd : ∀ (v743 : BitVec 32) (k0_hw326 : k0_chk326 v743), 8 ∣ (k0_mult326 v743).toNat := fun v743 k0_hw326 => k0_hw326.1
theorem k0_off653_inb : ∀ (v743 : BitVec 32) (k0_hw326 : k0_chk326 v743), ∀ a, (k0_off653 v743) a + S8x128.size a ≤ S16384x128.size a := fun v743 k0_hw326 => k0_hw326.2

def k0_off654 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c69_i32 : BitVec 32 := 69#32
  let v750 : BitVec 32 := Scalar.addi v128 c69_i32
  let v751 : Index := Scalar.indexCast v750
  ![v751.toNat]
def k0_mult327 (v752 : BitVec 32) : BitVec 32 :=
  v752

def k0_off655 (v752 : BitVec 32) : Fin 2 → Nat :=
  let v753 : BitVec 32 := v752
  let v754 : Index := Scalar.indexCast v753
  let c0_246 : Index := 0#32
  ![v754.toNat, 0]

def k0_chk327 (v752 : BitVec 32) : Prop :=
  (8 ∣ (k0_mult327 v752).toNat) ∧
  (∀ a, (k0_off655 v752) a + S8x128.size a ≤ S16384x128.size a)
theorem k0_mult327_dvd : ∀ (v752 : BitVec 32) (k0_hw327 : k0_chk327 v752), 8 ∣ (k0_mult327 v752).toNat := fun v752 k0_hw327 => k0_hw327.1
theorem k0_off655_inb : ∀ (v752 : BitVec 32) (k0_hw327 : k0_chk327 v752), ∀ a, (k0_off655 v752) a + S8x128.size a ≤ S16384x128.size a := fun v752 k0_hw327 => k0_hw327.2

def k0_off656 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c70_i32 : BitVec 32 := 70#32
  let v759 : BitVec 32 := Scalar.addi v128 c70_i32
  let v760 : Index := Scalar.indexCast v759
  ![v760.toNat]
def k0_mult328 (v761 : BitVec 32) : BitVec 32 :=
  v761

def k0_off657 (v761 : BitVec 32) : Fin 2 → Nat :=
  let v762 : BitVec 32 := v761
  let v763 : Index := Scalar.indexCast v762
  let c0_248 : Index := 0#32
  ![v763.toNat, 0]

def k0_chk328 (v761 : BitVec 32) : Prop :=
  (8 ∣ (k0_mult328 v761).toNat) ∧
  (∀ a, (k0_off657 v761) a + S8x128.size a ≤ S16384x128.size a)
theorem k0_mult328_dvd : ∀ (v761 : BitVec 32) (k0_hw328 : k0_chk328 v761), 8 ∣ (k0_mult328 v761).toNat := fun v761 k0_hw328 => k0_hw328.1
theorem k0_off657_inb : ∀ (v761 : BitVec 32) (k0_hw328 : k0_chk328 v761), ∀ a, (k0_off657 v761) a + S8x128.size a ≤ S16384x128.size a := fun v761 k0_hw328 => k0_hw328.2

def k0_off658 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c71_i32 : BitVec 32 := 71#32
  let v768 : BitVec 32 := Scalar.addi v128 c71_i32
  let v769 : Index := Scalar.indexCast v768
  ![v769.toNat]
def k0_mult329 (v770 : BitVec 32) : BitVec 32 :=
  v770

def k0_off659 (v770 : BitVec 32) : Fin 2 → Nat :=
  let v771 : BitVec 32 := v770
  let v772 : Index := Scalar.indexCast v771
  let c0_250 : Index := 0#32
  ![v772.toNat, 0]

def k0_chk329 (v770 : BitVec 32) : Prop :=
  (8 ∣ (k0_mult329 v770).toNat) ∧
  (∀ a, (k0_off659 v770) a + S8x128.size a ≤ S16384x128.size a)
theorem k0_mult329_dvd : ∀ (v770 : BitVec 32) (k0_hw329 : k0_chk329 v770), 8 ∣ (k0_mult329 v770).toNat := fun v770 k0_hw329 => k0_hw329.1
theorem k0_off659_inb : ∀ (v770 : BitVec 32) (k0_hw329 : k0_chk329 v770), ∀ a, (k0_off659 v770) a + S8x128.size a ≤ S16384x128.size a := fun v770 k0_hw329 => k0_hw329.2

def k0_off660 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c72_i32_252 : BitVec 32 := 72#32
  let v777 : BitVec 32 := Scalar.addi v128 c72_i32_252
  let v778 : Index := Scalar.indexCast v777
  ![v778.toNat]
def k0_mult330 (v779 : BitVec 32) : BitVec 32 :=
  v779

def k0_off661 (v779 : BitVec 32) : Fin 2 → Nat :=
  let v780 : BitVec 32 := v779
  let v781 : Index := Scalar.indexCast v780
  let c0_253 : Index := 0#32
  ![v781.toNat, 0]

def k0_chk330 (v779 : BitVec 32) : Prop :=
  (8 ∣ (k0_mult330 v779).toNat) ∧
  (∀ a, (k0_off661 v779) a + S8x128.size a ≤ S16384x128.size a)
theorem k0_mult330_dvd : ∀ (v779 : BitVec 32) (k0_hw330 : k0_chk330 v779), 8 ∣ (k0_mult330 v779).toNat := fun v779 k0_hw330 => k0_hw330.1
theorem k0_off661_inb : ∀ (v779 : BitVec 32) (k0_hw330 : k0_chk330 v779), ∀ a, (k0_off661 v779) a + S8x128.size a ≤ S16384x128.size a := fun v779 k0_hw330 => k0_hw330.2

def k0_off662 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c73_i32 : BitVec 32 := 73#32
  let v786 : BitVec 32 := Scalar.addi v128 c73_i32
  let v787 : Index := Scalar.indexCast v786
  ![v787.toNat]
def k0_mult331 (v788 : BitVec 32) : BitVec 32 :=
  v788

def k0_off663 (v788 : BitVec 32) : Fin 2 → Nat :=
  let v789 : BitVec 32 := v788
  let v790 : Index := Scalar.indexCast v789
  let c0_255 : Index := 0#32
  ![v790.toNat, 0]

def k0_chk331 (v788 : BitVec 32) : Prop :=
  (8 ∣ (k0_mult331 v788).toNat) ∧
  (∀ a, (k0_off663 v788) a + S8x128.size a ≤ S16384x128.size a)
theorem k0_mult331_dvd : ∀ (v788 : BitVec 32) (k0_hw331 : k0_chk331 v788), 8 ∣ (k0_mult331 v788).toNat := fun v788 k0_hw331 => k0_hw331.1
theorem k0_off663_inb : ∀ (v788 : BitVec 32) (k0_hw331 : k0_chk331 v788), ∀ a, (k0_off663 v788) a + S8x128.size a ≤ S16384x128.size a := fun v788 k0_hw331 => k0_hw331.2

def k0_off664 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c74_i32 : BitVec 32 := 74#32
  let v795 : BitVec 32 := Scalar.addi v128 c74_i32
  let v796 : Index := Scalar.indexCast v795
  ![v796.toNat]
def k0_mult332 (v797 : BitVec 32) : BitVec 32 :=
  v797

def k0_off665 (v797 : BitVec 32) : Fin 2 → Nat :=
  let v798 : BitVec 32 := v797
  let v799 : Index := Scalar.indexCast v798
  let c0_257 : Index := 0#32
  ![v799.toNat, 0]

def k0_chk332 (v797 : BitVec 32) : Prop :=
  (8 ∣ (k0_mult332 v797).toNat) ∧
  (∀ a, (k0_off665 v797) a + S8x128.size a ≤ S16384x128.size a)
theorem k0_mult332_dvd : ∀ (v797 : BitVec 32) (k0_hw332 : k0_chk332 v797), 8 ∣ (k0_mult332 v797).toNat := fun v797 k0_hw332 => k0_hw332.1
theorem k0_off665_inb : ∀ (v797 : BitVec 32) (k0_hw332 : k0_chk332 v797), ∀ a, (k0_off665 v797) a + S8x128.size a ≤ S16384x128.size a := fun v797 k0_hw332 => k0_hw332.2

def k0_off666 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c75_i32 : BitVec 32 := 75#32
  let v804 : BitVec 32 := Scalar.addi v128 c75_i32
  let v805 : Index := Scalar.indexCast v804
  ![v805.toNat]
def k0_mult333 (v806 : BitVec 32) : BitVec 32 :=
  v806

def k0_off667 (v806 : BitVec 32) : Fin 2 → Nat :=
  let v807 : BitVec 32 := v806
  let v808 : Index := Scalar.indexCast v807
  let c0_259 : Index := 0#32
  ![v808.toNat, 0]

def k0_chk333 (v806 : BitVec 32) : Prop :=
  (8 ∣ (k0_mult333 v806).toNat) ∧
  (∀ a, (k0_off667 v806) a + S8x128.size a ≤ S16384x128.size a)
theorem k0_mult333_dvd : ∀ (v806 : BitVec 32) (k0_hw333 : k0_chk333 v806), 8 ∣ (k0_mult333 v806).toNat := fun v806 k0_hw333 => k0_hw333.1
theorem k0_off667_inb : ∀ (v806 : BitVec 32) (k0_hw333 : k0_chk333 v806), ∀ a, (k0_off667 v806) a + S8x128.size a ≤ S16384x128.size a := fun v806 k0_hw333 => k0_hw333.2

def k0_off668 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c76_i32 : BitVec 32 := 76#32
  let v813 : BitVec 32 := Scalar.addi v128 c76_i32
  let v814 : Index := Scalar.indexCast v813
  ![v814.toNat]
def k0_mult334 (v815 : BitVec 32) : BitVec 32 :=
  v815

def k0_off669 (v815 : BitVec 32) : Fin 2 → Nat :=
  let v816 : BitVec 32 := v815
  let v817 : Index := Scalar.indexCast v816
  let c0_261 : Index := 0#32
  ![v817.toNat, 0]

def k0_chk334 (v815 : BitVec 32) : Prop :=
  (8 ∣ (k0_mult334 v815).toNat) ∧
  (∀ a, (k0_off669 v815) a + S8x128.size a ≤ S16384x128.size a)
theorem k0_mult334_dvd : ∀ (v815 : BitVec 32) (k0_hw334 : k0_chk334 v815), 8 ∣ (k0_mult334 v815).toNat := fun v815 k0_hw334 => k0_hw334.1
theorem k0_off669_inb : ∀ (v815 : BitVec 32) (k0_hw334 : k0_chk334 v815), ∀ a, (k0_off669 v815) a + S8x128.size a ≤ S16384x128.size a := fun v815 k0_hw334 => k0_hw334.2

def k0_off670 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c77_i32 : BitVec 32 := 77#32
  let v822 : BitVec 32 := Scalar.addi v128 c77_i32
  let v823 : Index := Scalar.indexCast v822
  ![v823.toNat]
def k0_mult335 (v824 : BitVec 32) : BitVec 32 :=
  v824

def k0_off671 (v824 : BitVec 32) : Fin 2 → Nat :=
  let v825 : BitVec 32 := v824
  let v826 : Index := Scalar.indexCast v825
  let c0_263 : Index := 0#32
  ![v826.toNat, 0]

def k0_chk335 (v824 : BitVec 32) : Prop :=
  (8 ∣ (k0_mult335 v824).toNat) ∧
  (∀ a, (k0_off671 v824) a + S8x128.size a ≤ S16384x128.size a)
theorem k0_mult335_dvd : ∀ (v824 : BitVec 32) (k0_hw335 : k0_chk335 v824), 8 ∣ (k0_mult335 v824).toNat := fun v824 k0_hw335 => k0_hw335.1
theorem k0_off671_inb : ∀ (v824 : BitVec 32) (k0_hw335 : k0_chk335 v824), ∀ a, (k0_off671 v824) a + S8x128.size a ≤ S16384x128.size a := fun v824 k0_hw335 => k0_hw335.2

def k0_off672 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c78_i32 : BitVec 32 := 78#32
  let v831 : BitVec 32 := Scalar.addi v128 c78_i32
  let v832 : Index := Scalar.indexCast v831
  ![v832.toNat]
def k0_mult336 (v833 : BitVec 32) : BitVec 32 :=
  v833

def k0_off673 (v833 : BitVec 32) : Fin 2 → Nat :=
  let v834 : BitVec 32 := v833
  let v835 : Index := Scalar.indexCast v834
  let c0_265 : Index := 0#32
  ![v835.toNat, 0]

def k0_chk336 (v833 : BitVec 32) : Prop :=
  (8 ∣ (k0_mult336 v833).toNat) ∧
  (∀ a, (k0_off673 v833) a + S8x128.size a ≤ S16384x128.size a)
theorem k0_mult336_dvd : ∀ (v833 : BitVec 32) (k0_hw336 : k0_chk336 v833), 8 ∣ (k0_mult336 v833).toNat := fun v833 k0_hw336 => k0_hw336.1
theorem k0_off673_inb : ∀ (v833 : BitVec 32) (k0_hw336 : k0_chk336 v833), ∀ a, (k0_off673 v833) a + S8x128.size a ≤ S16384x128.size a := fun v833 k0_hw336 => k0_hw336.2

def k0_off674 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c79_i32 : BitVec 32 := 79#32
  let v840 : BitVec 32 := Scalar.addi v128 c79_i32
  let v841 : Index := Scalar.indexCast v840
  ![v841.toNat]
def k0_mult337 (v842 : BitVec 32) : BitVec 32 :=
  v842

def k0_off675 (v842 : BitVec 32) : Fin 2 → Nat :=
  let v843 : BitVec 32 := v842
  let v844 : Index := Scalar.indexCast v843
  let c0_267 : Index := 0#32
  ![v844.toNat, 0]

def k0_chk337 (v842 : BitVec 32) : Prop :=
  (8 ∣ (k0_mult337 v842).toNat) ∧
  (∀ a, (k0_off675 v842) a + S8x128.size a ≤ S16384x128.size a)
theorem k0_mult337_dvd : ∀ (v842 : BitVec 32) (k0_hw337 : k0_chk337 v842), 8 ∣ (k0_mult337 v842).toNat := fun v842 k0_hw337 => k0_hw337.1
theorem k0_off675_inb : ∀ (v842 : BitVec 32) (k0_hw337 : k0_chk337 v842), ∀ a, (k0_off675 v842) a + S8x128.size a ≤ S16384x128.size a := fun v842 k0_hw337 => k0_hw337.2

def k0_off676 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c80_i32 : BitVec 32 := 80#32
  let v849 : BitVec 32 := Scalar.addi v128 c80_i32
  let v850 : Index := Scalar.indexCast v849
  ![v850.toNat]
def k0_mult338 (v851 : BitVec 32) : BitVec 32 :=
  v851

def k0_off677 (v851 : BitVec 32) : Fin 2 → Nat :=
  let v852 : BitVec 32 := v851
  let v853 : Index := Scalar.indexCast v852
  let c0_269 : Index := 0#32
  ![v853.toNat, 0]

def k0_chk338 (v851 : BitVec 32) : Prop :=
  (8 ∣ (k0_mult338 v851).toNat) ∧
  (∀ a, (k0_off677 v851) a + S8x128.size a ≤ S16384x128.size a)
theorem k0_mult338_dvd : ∀ (v851 : BitVec 32) (k0_hw338 : k0_chk338 v851), 8 ∣ (k0_mult338 v851).toNat := fun v851 k0_hw338 => k0_hw338.1
theorem k0_off677_inb : ∀ (v851 : BitVec 32) (k0_hw338 : k0_chk338 v851), ∀ a, (k0_off677 v851) a + S8x128.size a ≤ S16384x128.size a := fun v851 k0_hw338 => k0_hw338.2

def k0_off678 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c81_i32 : BitVec 32 := 81#32
  let v858 : BitVec 32 := Scalar.addi v128 c81_i32
  let v859 : Index := Scalar.indexCast v858
  ![v859.toNat]
def k0_mult339 (v860 : BitVec 32) : BitVec 32 :=
  v860

def k0_off679 (v860 : BitVec 32) : Fin 2 → Nat :=
  let v861 : BitVec 32 := v860
  let v862 : Index := Scalar.indexCast v861
  let c0_271 : Index := 0#32
  ![v862.toNat, 0]

def k0_chk339 (v860 : BitVec 32) : Prop :=
  (8 ∣ (k0_mult339 v860).toNat) ∧
  (∀ a, (k0_off679 v860) a + S8x128.size a ≤ S16384x128.size a)
theorem k0_mult339_dvd : ∀ (v860 : BitVec 32) (k0_hw339 : k0_chk339 v860), 8 ∣ (k0_mult339 v860).toNat := fun v860 k0_hw339 => k0_hw339.1
theorem k0_off679_inb : ∀ (v860 : BitVec 32) (k0_hw339 : k0_chk339 v860), ∀ a, (k0_off679 v860) a + S8x128.size a ≤ S16384x128.size a := fun v860 k0_hw339 => k0_hw339.2

def k0_off680 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c82_i32 : BitVec 32 := 82#32
  let v867 : BitVec 32 := Scalar.addi v128 c82_i32
  let v868 : Index := Scalar.indexCast v867
  ![v868.toNat]
def k0_mult340 (v869 : BitVec 32) : BitVec 32 :=
  v869

def k0_off681 (v869 : BitVec 32) : Fin 2 → Nat :=
  let v870 : BitVec 32 := v869
  let v871 : Index := Scalar.indexCast v870
  let c0_273 : Index := 0#32
  ![v871.toNat, 0]

def k0_chk340 (v869 : BitVec 32) : Prop :=
  (8 ∣ (k0_mult340 v869).toNat) ∧
  (∀ a, (k0_off681 v869) a + S8x128.size a ≤ S16384x128.size a)
theorem k0_mult340_dvd : ∀ (v869 : BitVec 32) (k0_hw340 : k0_chk340 v869), 8 ∣ (k0_mult340 v869).toNat := fun v869 k0_hw340 => k0_hw340.1
theorem k0_off681_inb : ∀ (v869 : BitVec 32) (k0_hw340 : k0_chk340 v869), ∀ a, (k0_off681 v869) a + S8x128.size a ≤ S16384x128.size a := fun v869 k0_hw340 => k0_hw340.2

def k0_off682 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c83_i32 : BitVec 32 := 83#32
  let v876 : BitVec 32 := Scalar.addi v128 c83_i32
  let v877 : Index := Scalar.indexCast v876
  ![v877.toNat]
def k0_mult341 (v878 : BitVec 32) : BitVec 32 :=
  v878

def k0_off683 (v878 : BitVec 32) : Fin 2 → Nat :=
  let v879 : BitVec 32 := v878
  let v880 : Index := Scalar.indexCast v879
  let c0_275 : Index := 0#32
  ![v880.toNat, 0]

def k0_chk341 (v878 : BitVec 32) : Prop :=
  (8 ∣ (k0_mult341 v878).toNat) ∧
  (∀ a, (k0_off683 v878) a + S8x128.size a ≤ S16384x128.size a)
theorem k0_mult341_dvd : ∀ (v878 : BitVec 32) (k0_hw341 : k0_chk341 v878), 8 ∣ (k0_mult341 v878).toNat := fun v878 k0_hw341 => k0_hw341.1
theorem k0_off683_inb : ∀ (v878 : BitVec 32) (k0_hw341 : k0_chk341 v878), ∀ a, (k0_off683 v878) a + S8x128.size a ≤ S16384x128.size a := fun v878 k0_hw341 => k0_hw341.2

def k0_off684 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c84_i32 : BitVec 32 := 84#32
  let v885 : BitVec 32 := Scalar.addi v128 c84_i32
  let v886 : Index := Scalar.indexCast v885
  ![v886.toNat]
def k0_mult342 (v887 : BitVec 32) : BitVec 32 :=
  v887

def k0_off685 (v887 : BitVec 32) : Fin 2 → Nat :=
  let v888 : BitVec 32 := v887
  let v889 : Index := Scalar.indexCast v888
  let c0_277 : Index := 0#32
  ![v889.toNat, 0]

def k0_chk342 (v887 : BitVec 32) : Prop :=
  (8 ∣ (k0_mult342 v887).toNat) ∧
  (∀ a, (k0_off685 v887) a + S8x128.size a ≤ S16384x128.size a)
theorem k0_mult342_dvd : ∀ (v887 : BitVec 32) (k0_hw342 : k0_chk342 v887), 8 ∣ (k0_mult342 v887).toNat := fun v887 k0_hw342 => k0_hw342.1
theorem k0_off685_inb : ∀ (v887 : BitVec 32) (k0_hw342 : k0_chk342 v887), ∀ a, (k0_off685 v887) a + S8x128.size a ≤ S16384x128.size a := fun v887 k0_hw342 => k0_hw342.2

def k0_off686 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c85_i32 : BitVec 32 := 85#32
  let v894 : BitVec 32 := Scalar.addi v128 c85_i32
  let v895 : Index := Scalar.indexCast v894
  ![v895.toNat]
def k0_mult343 (v896 : BitVec 32) : BitVec 32 :=
  v896

def k0_off687 (v896 : BitVec 32) : Fin 2 → Nat :=
  let v897 : BitVec 32 := v896
  let v898 : Index := Scalar.indexCast v897
  let c0_279 : Index := 0#32
  ![v898.toNat, 0]

def k0_chk343 (v896 : BitVec 32) : Prop :=
  (8 ∣ (k0_mult343 v896).toNat) ∧
  (∀ a, (k0_off687 v896) a + S8x128.size a ≤ S16384x128.size a)
theorem k0_mult343_dvd : ∀ (v896 : BitVec 32) (k0_hw343 : k0_chk343 v896), 8 ∣ (k0_mult343 v896).toNat := fun v896 k0_hw343 => k0_hw343.1
theorem k0_off687_inb : ∀ (v896 : BitVec 32) (k0_hw343 : k0_chk343 v896), ∀ a, (k0_off687 v896) a + S8x128.size a ≤ S16384x128.size a := fun v896 k0_hw343 => k0_hw343.2

def k0_off688 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c86_i32 : BitVec 32 := 86#32
  let v903 : BitVec 32 := Scalar.addi v128 c86_i32
  let v904 : Index := Scalar.indexCast v903
  ![v904.toNat]
def k0_mult344 (v905 : BitVec 32) : BitVec 32 :=
  v905

def k0_off689 (v905 : BitVec 32) : Fin 2 → Nat :=
  let v906 : BitVec 32 := v905
  let v907 : Index := Scalar.indexCast v906
  let c0_281 : Index := 0#32
  ![v907.toNat, 0]

def k0_chk344 (v905 : BitVec 32) : Prop :=
  (8 ∣ (k0_mult344 v905).toNat) ∧
  (∀ a, (k0_off689 v905) a + S8x128.size a ≤ S16384x128.size a)
theorem k0_mult344_dvd : ∀ (v905 : BitVec 32) (k0_hw344 : k0_chk344 v905), 8 ∣ (k0_mult344 v905).toNat := fun v905 k0_hw344 => k0_hw344.1
theorem k0_off689_inb : ∀ (v905 : BitVec 32) (k0_hw344 : k0_chk344 v905), ∀ a, (k0_off689 v905) a + S8x128.size a ≤ S16384x128.size a := fun v905 k0_hw344 => k0_hw344.2

def k0_off690 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c87_i32 : BitVec 32 := 87#32
  let v912 : BitVec 32 := Scalar.addi v128 c87_i32
  let v913 : Index := Scalar.indexCast v912
  ![v913.toNat]
def k0_mult345 (v914 : BitVec 32) : BitVec 32 :=
  v914

def k0_off691 (v914 : BitVec 32) : Fin 2 → Nat :=
  let v915 : BitVec 32 := v914
  let v916 : Index := Scalar.indexCast v915
  let c0_283 : Index := 0#32
  ![v916.toNat, 0]

def k0_chk345 (v914 : BitVec 32) : Prop :=
  (8 ∣ (k0_mult345 v914).toNat) ∧
  (∀ a, (k0_off691 v914) a + S8x128.size a ≤ S16384x128.size a)
theorem k0_mult345_dvd : ∀ (v914 : BitVec 32) (k0_hw345 : k0_chk345 v914), 8 ∣ (k0_mult345 v914).toNat := fun v914 k0_hw345 => k0_hw345.1
theorem k0_off691_inb : ∀ (v914 : BitVec 32) (k0_hw345 : k0_chk345 v914), ∀ a, (k0_off691 v914) a + S8x128.size a ≤ S16384x128.size a := fun v914 k0_hw345 => k0_hw345.2

def k0_off692 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c88_i32 : BitVec 32 := 88#32
  let v921 : BitVec 32 := Scalar.addi v128 c88_i32
  let v922 : Index := Scalar.indexCast v921
  ![v922.toNat]
def k0_mult346 (v923 : BitVec 32) : BitVec 32 :=
  v923

def k0_off693 (v923 : BitVec 32) : Fin 2 → Nat :=
  let v924 : BitVec 32 := v923
  let v925 : Index := Scalar.indexCast v924
  let c0_285 : Index := 0#32
  ![v925.toNat, 0]

def k0_chk346 (v923 : BitVec 32) : Prop :=
  (8 ∣ (k0_mult346 v923).toNat) ∧
  (∀ a, (k0_off693 v923) a + S8x128.size a ≤ S16384x128.size a)
theorem k0_mult346_dvd : ∀ (v923 : BitVec 32) (k0_hw346 : k0_chk346 v923), 8 ∣ (k0_mult346 v923).toNat := fun v923 k0_hw346 => k0_hw346.1
theorem k0_off693_inb : ∀ (v923 : BitVec 32) (k0_hw346 : k0_chk346 v923), ∀ a, (k0_off693 v923) a + S8x128.size a ≤ S16384x128.size a := fun v923 k0_hw346 => k0_hw346.2

def k0_off694 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c89_i32 : BitVec 32 := 89#32
  let v930 : BitVec 32 := Scalar.addi v128 c89_i32
  let v931 : Index := Scalar.indexCast v930
  ![v931.toNat]
def k0_mult347 (v932 : BitVec 32) : BitVec 32 :=
  v932

def k0_off695 (v932 : BitVec 32) : Fin 2 → Nat :=
  let v933 : BitVec 32 := v932
  let v934 : Index := Scalar.indexCast v933
  let c0_287 : Index := 0#32
  ![v934.toNat, 0]

def k0_chk347 (v932 : BitVec 32) : Prop :=
  (8 ∣ (k0_mult347 v932).toNat) ∧
  (∀ a, (k0_off695 v932) a + S8x128.size a ≤ S16384x128.size a)
theorem k0_mult347_dvd : ∀ (v932 : BitVec 32) (k0_hw347 : k0_chk347 v932), 8 ∣ (k0_mult347 v932).toNat := fun v932 k0_hw347 => k0_hw347.1
theorem k0_off695_inb : ∀ (v932 : BitVec 32) (k0_hw347 : k0_chk347 v932), ∀ a, (k0_off695 v932) a + S8x128.size a ≤ S16384x128.size a := fun v932 k0_hw347 => k0_hw347.2

def k0_off696 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c90_i32 : BitVec 32 := 90#32
  let v939 : BitVec 32 := Scalar.addi v128 c90_i32
  let v940 : Index := Scalar.indexCast v939
  ![v940.toNat]
def k0_mult348 (v941 : BitVec 32) : BitVec 32 :=
  v941

def k0_off697 (v941 : BitVec 32) : Fin 2 → Nat :=
  let v942 : BitVec 32 := v941
  let v943 : Index := Scalar.indexCast v942
  let c0_289 : Index := 0#32
  ![v943.toNat, 0]

def k0_chk348 (v941 : BitVec 32) : Prop :=
  (8 ∣ (k0_mult348 v941).toNat) ∧
  (∀ a, (k0_off697 v941) a + S8x128.size a ≤ S16384x128.size a)
theorem k0_mult348_dvd : ∀ (v941 : BitVec 32) (k0_hw348 : k0_chk348 v941), 8 ∣ (k0_mult348 v941).toNat := fun v941 k0_hw348 => k0_hw348.1
theorem k0_off697_inb : ∀ (v941 : BitVec 32) (k0_hw348 : k0_chk348 v941), ∀ a, (k0_off697 v941) a + S8x128.size a ≤ S16384x128.size a := fun v941 k0_hw348 => k0_hw348.2

def k0_off698 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c91_i32 : BitVec 32 := 91#32
  let v948 : BitVec 32 := Scalar.addi v128 c91_i32
  let v949 : Index := Scalar.indexCast v948
  ![v949.toNat]
def k0_mult349 (v950 : BitVec 32) : BitVec 32 :=
  v950

def k0_off699 (v950 : BitVec 32) : Fin 2 → Nat :=
  let v951 : BitVec 32 := v950
  let v952 : Index := Scalar.indexCast v951
  let c0_291 : Index := 0#32
  ![v952.toNat, 0]

def k0_chk349 (v950 : BitVec 32) : Prop :=
  (8 ∣ (k0_mult349 v950).toNat) ∧
  (∀ a, (k0_off699 v950) a + S8x128.size a ≤ S16384x128.size a)
theorem k0_mult349_dvd : ∀ (v950 : BitVec 32) (k0_hw349 : k0_chk349 v950), 8 ∣ (k0_mult349 v950).toNat := fun v950 k0_hw349 => k0_hw349.1
theorem k0_off699_inb : ∀ (v950 : BitVec 32) (k0_hw349 : k0_chk349 v950), ∀ a, (k0_off699 v950) a + S8x128.size a ≤ S16384x128.size a := fun v950 k0_hw349 => k0_hw349.2

def k0_off700 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c92_i32 : BitVec 32 := 92#32
  let v957 : BitVec 32 := Scalar.addi v128 c92_i32
  let v958 : Index := Scalar.indexCast v957
  ![v958.toNat]
def k0_mult350 (v959 : BitVec 32) : BitVec 32 :=
  v959

def k0_off701 (v959 : BitVec 32) : Fin 2 → Nat :=
  let v960 : BitVec 32 := v959
  let v961 : Index := Scalar.indexCast v960
  let c0_293 : Index := 0#32
  ![v961.toNat, 0]

def k0_chk350 (v959 : BitVec 32) : Prop :=
  (8 ∣ (k0_mult350 v959).toNat) ∧
  (∀ a, (k0_off701 v959) a + S8x128.size a ≤ S16384x128.size a)
theorem k0_mult350_dvd : ∀ (v959 : BitVec 32) (k0_hw350 : k0_chk350 v959), 8 ∣ (k0_mult350 v959).toNat := fun v959 k0_hw350 => k0_hw350.1
theorem k0_off701_inb : ∀ (v959 : BitVec 32) (k0_hw350 : k0_chk350 v959), ∀ a, (k0_off701 v959) a + S8x128.size a ≤ S16384x128.size a := fun v959 k0_hw350 => k0_hw350.2

def k0_off702 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c93_i32 : BitVec 32 := 93#32
  let v966 : BitVec 32 := Scalar.addi v128 c93_i32
  let v967 : Index := Scalar.indexCast v966
  ![v967.toNat]
def k0_mult351 (v968 : BitVec 32) : BitVec 32 :=
  v968

def k0_off703 (v968 : BitVec 32) : Fin 2 → Nat :=
  let v969 : BitVec 32 := v968
  let v970 : Index := Scalar.indexCast v969
  let c0_295 : Index := 0#32
  ![v970.toNat, 0]

def k0_chk351 (v968 : BitVec 32) : Prop :=
  (8 ∣ (k0_mult351 v968).toNat) ∧
  (∀ a, (k0_off703 v968) a + S8x128.size a ≤ S16384x128.size a)
theorem k0_mult351_dvd : ∀ (v968 : BitVec 32) (k0_hw351 : k0_chk351 v968), 8 ∣ (k0_mult351 v968).toNat := fun v968 k0_hw351 => k0_hw351.1
theorem k0_off703_inb : ∀ (v968 : BitVec 32) (k0_hw351 : k0_chk351 v968), ∀ a, (k0_off703 v968) a + S8x128.size a ≤ S16384x128.size a := fun v968 k0_hw351 => k0_hw351.2

def k0_off704 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c94_i32 : BitVec 32 := 94#32
  let v975 : BitVec 32 := Scalar.addi v128 c94_i32
  let v976 : Index := Scalar.indexCast v975
  ![v976.toNat]
def k0_mult352 (v977 : BitVec 32) : BitVec 32 :=
  v977

def k0_off705 (v977 : BitVec 32) : Fin 2 → Nat :=
  let v978 : BitVec 32 := v977
  let v979 : Index := Scalar.indexCast v978
  let c0_297 : Index := 0#32
  ![v979.toNat, 0]

def k0_chk352 (v977 : BitVec 32) : Prop :=
  (8 ∣ (k0_mult352 v977).toNat) ∧
  (∀ a, (k0_off705 v977) a + S8x128.size a ≤ S16384x128.size a)
theorem k0_mult352_dvd : ∀ (v977 : BitVec 32) (k0_hw352 : k0_chk352 v977), 8 ∣ (k0_mult352 v977).toNat := fun v977 k0_hw352 => k0_hw352.1
theorem k0_off705_inb : ∀ (v977 : BitVec 32) (k0_hw352 : k0_chk352 v977), ∀ a, (k0_off705 v977) a + S8x128.size a ≤ S16384x128.size a := fun v977 k0_hw352 => k0_hw352.2

def k0_off706 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c95_i32 : BitVec 32 := 95#32
  let v984 : BitVec 32 := Scalar.addi v128 c95_i32
  let v985 : Index := Scalar.indexCast v984
  ![v985.toNat]
def k0_mult353 (v986 : BitVec 32) : BitVec 32 :=
  v986

def k0_off707 (v986 : BitVec 32) : Fin 2 → Nat :=
  let v987 : BitVec 32 := v986
  let v988 : Index := Scalar.indexCast v987
  let c0_299 : Index := 0#32
  ![v988.toNat, 0]

def k0_chk353 (v986 : BitVec 32) : Prop :=
  (8 ∣ (k0_mult353 v986).toNat) ∧
  (∀ a, (k0_off707 v986) a + S8x128.size a ≤ S16384x128.size a)
theorem k0_mult353_dvd : ∀ (v986 : BitVec 32) (k0_hw353 : k0_chk353 v986), 8 ∣ (k0_mult353 v986).toNat := fun v986 k0_hw353 => k0_hw353.1
theorem k0_off707_inb : ∀ (v986 : BitVec 32) (k0_hw353 : k0_chk353 v986), ∀ a, (k0_off707 v986) a + S8x128.size a ≤ S16384x128.size a := fun v986 k0_hw353 => k0_hw353.2

def k0_off708 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c96_i32 : BitVec 32 := 96#32
  let v993 : BitVec 32 := Scalar.addi v128 c96_i32
  let v994 : Index := Scalar.indexCast v993
  ![v994.toNat]
def k0_mult354 (v995 : BitVec 32) : BitVec 32 :=
  v995

def k0_off709 (v995 : BitVec 32) : Fin 2 → Nat :=
  let v996 : BitVec 32 := v995
  let v997 : Index := Scalar.indexCast v996
  let c0_301 : Index := 0#32
  ![v997.toNat, 0]

def k0_chk354 (v995 : BitVec 32) : Prop :=
  (8 ∣ (k0_mult354 v995).toNat) ∧
  (∀ a, (k0_off709 v995) a + S8x128.size a ≤ S16384x128.size a)
theorem k0_mult354_dvd : ∀ (v995 : BitVec 32) (k0_hw354 : k0_chk354 v995), 8 ∣ (k0_mult354 v995).toNat := fun v995 k0_hw354 => k0_hw354.1
theorem k0_off709_inb : ∀ (v995 : BitVec 32) (k0_hw354 : k0_chk354 v995), ∀ a, (k0_off709 v995) a + S8x128.size a ≤ S16384x128.size a := fun v995 k0_hw354 => k0_hw354.2

def k0_off710 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c97_i32 : BitVec 32 := 97#32
  let v1002 : BitVec 32 := Scalar.addi v128 c97_i32
  let v1003 : Index := Scalar.indexCast v1002
  ![v1003.toNat]
def k0_mult355 (v1004 : BitVec 32) : BitVec 32 :=
  v1004

def k0_off711 (v1004 : BitVec 32) : Fin 2 → Nat :=
  let v1005 : BitVec 32 := v1004
  let v1006 : Index := Scalar.indexCast v1005
  let c0_303 : Index := 0#32
  ![v1006.toNat, 0]

def k0_chk355 (v1004 : BitVec 32) : Prop :=
  (8 ∣ (k0_mult355 v1004).toNat) ∧
  (∀ a, (k0_off711 v1004) a + S8x128.size a ≤ S16384x128.size a)
theorem k0_mult355_dvd : ∀ (v1004 : BitVec 32) (k0_hw355 : k0_chk355 v1004), 8 ∣ (k0_mult355 v1004).toNat := fun v1004 k0_hw355 => k0_hw355.1
theorem k0_off711_inb : ∀ (v1004 : BitVec 32) (k0_hw355 : k0_chk355 v1004), ∀ a, (k0_off711 v1004) a + S8x128.size a ≤ S16384x128.size a := fun v1004 k0_hw355 => k0_hw355.2

def k0_off712 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c98_i32 : BitVec 32 := 98#32
  let v1011 : BitVec 32 := Scalar.addi v128 c98_i32
  let v1012 : Index := Scalar.indexCast v1011
  ![v1012.toNat]
def k0_mult356 (v1013 : BitVec 32) : BitVec 32 :=
  v1013

def k0_off713 (v1013 : BitVec 32) : Fin 2 → Nat :=
  let v1014 : BitVec 32 := v1013
  let v1015 : Index := Scalar.indexCast v1014
  let c0_305 : Index := 0#32
  ![v1015.toNat, 0]

def k0_chk356 (v1013 : BitVec 32) : Prop :=
  (8 ∣ (k0_mult356 v1013).toNat) ∧
  (∀ a, (k0_off713 v1013) a + S8x128.size a ≤ S16384x128.size a)
theorem k0_mult356_dvd : ∀ (v1013 : BitVec 32) (k0_hw356 : k0_chk356 v1013), 8 ∣ (k0_mult356 v1013).toNat := fun v1013 k0_hw356 => k0_hw356.1
theorem k0_off713_inb : ∀ (v1013 : BitVec 32) (k0_hw356 : k0_chk356 v1013), ∀ a, (k0_off713 v1013) a + S8x128.size a ≤ S16384x128.size a := fun v1013 k0_hw356 => k0_hw356.2

def k0_off714 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c99_i32 : BitVec 32 := 99#32
  let v1020 : BitVec 32 := Scalar.addi v128 c99_i32
  let v1021 : Index := Scalar.indexCast v1020
  ![v1021.toNat]
def k0_mult357 (v1022 : BitVec 32) : BitVec 32 :=
  v1022

def k0_off715 (v1022 : BitVec 32) : Fin 2 → Nat :=
  let v1023 : BitVec 32 := v1022
  let v1024 : Index := Scalar.indexCast v1023
  let c0_307 : Index := 0#32
  ![v1024.toNat, 0]

def k0_chk357 (v1022 : BitVec 32) : Prop :=
  (8 ∣ (k0_mult357 v1022).toNat) ∧
  (∀ a, (k0_off715 v1022) a + S8x128.size a ≤ S16384x128.size a)
theorem k0_mult357_dvd : ∀ (v1022 : BitVec 32) (k0_hw357 : k0_chk357 v1022), 8 ∣ (k0_mult357 v1022).toNat := fun v1022 k0_hw357 => k0_hw357.1
theorem k0_off715_inb : ∀ (v1022 : BitVec 32) (k0_hw357 : k0_chk357 v1022), ∀ a, (k0_off715 v1022) a + S8x128.size a ≤ S16384x128.size a := fun v1022 k0_hw357 => k0_hw357.2

def k0_off716 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c100_i32 : BitVec 32 := 100#32
  let v1029 : BitVec 32 := Scalar.addi v128 c100_i32
  let v1030 : Index := Scalar.indexCast v1029
  ![v1030.toNat]
def k0_mult358 (v1031 : BitVec 32) : BitVec 32 :=
  v1031

def k0_off717 (v1031 : BitVec 32) : Fin 2 → Nat :=
  let v1032 : BitVec 32 := v1031
  let v1033 : Index := Scalar.indexCast v1032
  let c0_309 : Index := 0#32
  ![v1033.toNat, 0]

def k0_chk358 (v1031 : BitVec 32) : Prop :=
  (8 ∣ (k0_mult358 v1031).toNat) ∧
  (∀ a, (k0_off717 v1031) a + S8x128.size a ≤ S16384x128.size a)
theorem k0_mult358_dvd : ∀ (v1031 : BitVec 32) (k0_hw358 : k0_chk358 v1031), 8 ∣ (k0_mult358 v1031).toNat := fun v1031 k0_hw358 => k0_hw358.1
theorem k0_off717_inb : ∀ (v1031 : BitVec 32) (k0_hw358 : k0_chk358 v1031), ∀ a, (k0_off717 v1031) a + S8x128.size a ≤ S16384x128.size a := fun v1031 k0_hw358 => k0_hw358.2

def k0_off718 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c101_i32 : BitVec 32 := 101#32
  let v1038 : BitVec 32 := Scalar.addi v128 c101_i32
  let v1039 : Index := Scalar.indexCast v1038
  ![v1039.toNat]
def k0_mult359 (v1040 : BitVec 32) : BitVec 32 :=
  v1040

def k0_off719 (v1040 : BitVec 32) : Fin 2 → Nat :=
  let v1041 : BitVec 32 := v1040
  let v1042 : Index := Scalar.indexCast v1041
  let c0_311 : Index := 0#32
  ![v1042.toNat, 0]

def k0_chk359 (v1040 : BitVec 32) : Prop :=
  (8 ∣ (k0_mult359 v1040).toNat) ∧
  (∀ a, (k0_off719 v1040) a + S8x128.size a ≤ S16384x128.size a)
theorem k0_mult359_dvd : ∀ (v1040 : BitVec 32) (k0_hw359 : k0_chk359 v1040), 8 ∣ (k0_mult359 v1040).toNat := fun v1040 k0_hw359 => k0_hw359.1
theorem k0_off719_inb : ∀ (v1040 : BitVec 32) (k0_hw359 : k0_chk359 v1040), ∀ a, (k0_off719 v1040) a + S8x128.size a ≤ S16384x128.size a := fun v1040 k0_hw359 => k0_hw359.2

def k0_off720 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c102_i32 : BitVec 32 := 102#32
  let v1047 : BitVec 32 := Scalar.addi v128 c102_i32
  let v1048 : Index := Scalar.indexCast v1047
  ![v1048.toNat]
def k0_mult360 (v1049 : BitVec 32) : BitVec 32 :=
  v1049

def k0_off721 (v1049 : BitVec 32) : Fin 2 → Nat :=
  let v1050 : BitVec 32 := v1049
  let v1051 : Index := Scalar.indexCast v1050
  let c0_313 : Index := 0#32
  ![v1051.toNat, 0]

def k0_chk360 (v1049 : BitVec 32) : Prop :=
  (8 ∣ (k0_mult360 v1049).toNat) ∧
  (∀ a, (k0_off721 v1049) a + S8x128.size a ≤ S16384x128.size a)
theorem k0_mult360_dvd : ∀ (v1049 : BitVec 32) (k0_hw360 : k0_chk360 v1049), 8 ∣ (k0_mult360 v1049).toNat := fun v1049 k0_hw360 => k0_hw360.1
theorem k0_off721_inb : ∀ (v1049 : BitVec 32) (k0_hw360 : k0_chk360 v1049), ∀ a, (k0_off721 v1049) a + S8x128.size a ≤ S16384x128.size a := fun v1049 k0_hw360 => k0_hw360.2

def k0_off722 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c103_i32 : BitVec 32 := 103#32
  let v1056 : BitVec 32 := Scalar.addi v128 c103_i32
  let v1057 : Index := Scalar.indexCast v1056
  ![v1057.toNat]
def k0_mult361 (v1058 : BitVec 32) : BitVec 32 :=
  v1058

def k0_off723 (v1058 : BitVec 32) : Fin 2 → Nat :=
  let v1059 : BitVec 32 := v1058
  let v1060 : Index := Scalar.indexCast v1059
  let c0_315 : Index := 0#32
  ![v1060.toNat, 0]

def k0_chk361 (v1058 : BitVec 32) : Prop :=
  (8 ∣ (k0_mult361 v1058).toNat) ∧
  (∀ a, (k0_off723 v1058) a + S8x128.size a ≤ S16384x128.size a)
theorem k0_mult361_dvd : ∀ (v1058 : BitVec 32) (k0_hw361 : k0_chk361 v1058), 8 ∣ (k0_mult361 v1058).toNat := fun v1058 k0_hw361 => k0_hw361.1
theorem k0_off723_inb : ∀ (v1058 : BitVec 32) (k0_hw361 : k0_chk361 v1058), ∀ a, (k0_off723 v1058) a + S8x128.size a ≤ S16384x128.size a := fun v1058 k0_hw361 => k0_hw361.2

def k0_off724 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c104_i32 : BitVec 32 := 104#32
  let v1065 : BitVec 32 := Scalar.addi v128 c104_i32
  let v1066 : Index := Scalar.indexCast v1065
  ![v1066.toNat]
def k0_mult362 (v1067 : BitVec 32) : BitVec 32 :=
  v1067

def k0_off725 (v1067 : BitVec 32) : Fin 2 → Nat :=
  let v1068 : BitVec 32 := v1067
  let v1069 : Index := Scalar.indexCast v1068
  let c0_317 : Index := 0#32
  ![v1069.toNat, 0]

def k0_chk362 (v1067 : BitVec 32) : Prop :=
  (8 ∣ (k0_mult362 v1067).toNat) ∧
  (∀ a, (k0_off725 v1067) a + S8x128.size a ≤ S16384x128.size a)
theorem k0_mult362_dvd : ∀ (v1067 : BitVec 32) (k0_hw362 : k0_chk362 v1067), 8 ∣ (k0_mult362 v1067).toNat := fun v1067 k0_hw362 => k0_hw362.1
theorem k0_off725_inb : ∀ (v1067 : BitVec 32) (k0_hw362 : k0_chk362 v1067), ∀ a, (k0_off725 v1067) a + S8x128.size a ≤ S16384x128.size a := fun v1067 k0_hw362 => k0_hw362.2

def k0_off726 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c105_i32 : BitVec 32 := 105#32
  let v1074 : BitVec 32 := Scalar.addi v128 c105_i32
  let v1075 : Index := Scalar.indexCast v1074
  ![v1075.toNat]
def k0_mult363 (v1076 : BitVec 32) : BitVec 32 :=
  v1076

def k0_off727 (v1076 : BitVec 32) : Fin 2 → Nat :=
  let v1077 : BitVec 32 := v1076
  let v1078 : Index := Scalar.indexCast v1077
  let c0_319 : Index := 0#32
  ![v1078.toNat, 0]

def k0_chk363 (v1076 : BitVec 32) : Prop :=
  (8 ∣ (k0_mult363 v1076).toNat) ∧
  (∀ a, (k0_off727 v1076) a + S8x128.size a ≤ S16384x128.size a)
theorem k0_mult363_dvd : ∀ (v1076 : BitVec 32) (k0_hw363 : k0_chk363 v1076), 8 ∣ (k0_mult363 v1076).toNat := fun v1076 k0_hw363 => k0_hw363.1
theorem k0_off727_inb : ∀ (v1076 : BitVec 32) (k0_hw363 : k0_chk363 v1076), ∀ a, (k0_off727 v1076) a + S8x128.size a ≤ S16384x128.size a := fun v1076 k0_hw363 => k0_hw363.2

def k0_off728 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c106_i32 : BitVec 32 := 106#32
  let v1083 : BitVec 32 := Scalar.addi v128 c106_i32
  let v1084 : Index := Scalar.indexCast v1083
  ![v1084.toNat]
def k0_mult364 (v1085 : BitVec 32) : BitVec 32 :=
  v1085

def k0_off729 (v1085 : BitVec 32) : Fin 2 → Nat :=
  let v1086 : BitVec 32 := v1085
  let v1087 : Index := Scalar.indexCast v1086
  let c0_321 : Index := 0#32
  ![v1087.toNat, 0]

def k0_chk364 (v1085 : BitVec 32) : Prop :=
  (8 ∣ (k0_mult364 v1085).toNat) ∧
  (∀ a, (k0_off729 v1085) a + S8x128.size a ≤ S16384x128.size a)
theorem k0_mult364_dvd : ∀ (v1085 : BitVec 32) (k0_hw364 : k0_chk364 v1085), 8 ∣ (k0_mult364 v1085).toNat := fun v1085 k0_hw364 => k0_hw364.1
theorem k0_off729_inb : ∀ (v1085 : BitVec 32) (k0_hw364 : k0_chk364 v1085), ∀ a, (k0_off729 v1085) a + S8x128.size a ≤ S16384x128.size a := fun v1085 k0_hw364 => k0_hw364.2

def k0_off730 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c107_i32 : BitVec 32 := 107#32
  let v1092 : BitVec 32 := Scalar.addi v128 c107_i32
  let v1093 : Index := Scalar.indexCast v1092
  ![v1093.toNat]
def k0_mult365 (v1094 : BitVec 32) : BitVec 32 :=
  v1094

def k0_off731 (v1094 : BitVec 32) : Fin 2 → Nat :=
  let v1095 : BitVec 32 := v1094
  let v1096 : Index := Scalar.indexCast v1095
  let c0_323 : Index := 0#32
  ![v1096.toNat, 0]

def k0_chk365 (v1094 : BitVec 32) : Prop :=
  (8 ∣ (k0_mult365 v1094).toNat) ∧
  (∀ a, (k0_off731 v1094) a + S8x128.size a ≤ S16384x128.size a)
theorem k0_mult365_dvd : ∀ (v1094 : BitVec 32) (k0_hw365 : k0_chk365 v1094), 8 ∣ (k0_mult365 v1094).toNat := fun v1094 k0_hw365 => k0_hw365.1
theorem k0_off731_inb : ∀ (v1094 : BitVec 32) (k0_hw365 : k0_chk365 v1094), ∀ a, (k0_off731 v1094) a + S8x128.size a ≤ S16384x128.size a := fun v1094 k0_hw365 => k0_hw365.2

def k0_off732 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c108_i32 : BitVec 32 := 108#32
  let v1101 : BitVec 32 := Scalar.addi v128 c108_i32
  let v1102 : Index := Scalar.indexCast v1101
  ![v1102.toNat]
def k0_mult366 (v1103 : BitVec 32) : BitVec 32 :=
  v1103

def k0_off733 (v1103 : BitVec 32) : Fin 2 → Nat :=
  let v1104 : BitVec 32 := v1103
  let v1105 : Index := Scalar.indexCast v1104
  let c0_325 : Index := 0#32
  ![v1105.toNat, 0]

def k0_chk366 (v1103 : BitVec 32) : Prop :=
  (8 ∣ (k0_mult366 v1103).toNat) ∧
  (∀ a, (k0_off733 v1103) a + S8x128.size a ≤ S16384x128.size a)
theorem k0_mult366_dvd : ∀ (v1103 : BitVec 32) (k0_hw366 : k0_chk366 v1103), 8 ∣ (k0_mult366 v1103).toNat := fun v1103 k0_hw366 => k0_hw366.1
theorem k0_off733_inb : ∀ (v1103 : BitVec 32) (k0_hw366 : k0_chk366 v1103), ∀ a, (k0_off733 v1103) a + S8x128.size a ≤ S16384x128.size a := fun v1103 k0_hw366 => k0_hw366.2

def k0_off734 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c109_i32 : BitVec 32 := 109#32
  let v1110 : BitVec 32 := Scalar.addi v128 c109_i32
  let v1111 : Index := Scalar.indexCast v1110
  ![v1111.toNat]
def k0_mult367 (v1112 : BitVec 32) : BitVec 32 :=
  v1112

def k0_off735 (v1112 : BitVec 32) : Fin 2 → Nat :=
  let v1113 : BitVec 32 := v1112
  let v1114 : Index := Scalar.indexCast v1113
  let c0_327 : Index := 0#32
  ![v1114.toNat, 0]

def k0_chk367 (v1112 : BitVec 32) : Prop :=
  (8 ∣ (k0_mult367 v1112).toNat) ∧
  (∀ a, (k0_off735 v1112) a + S8x128.size a ≤ S16384x128.size a)
theorem k0_mult367_dvd : ∀ (v1112 : BitVec 32) (k0_hw367 : k0_chk367 v1112), 8 ∣ (k0_mult367 v1112).toNat := fun v1112 k0_hw367 => k0_hw367.1
theorem k0_off735_inb : ∀ (v1112 : BitVec 32) (k0_hw367 : k0_chk367 v1112), ∀ a, (k0_off735 v1112) a + S8x128.size a ≤ S16384x128.size a := fun v1112 k0_hw367 => k0_hw367.2

def k0_off736 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c110_i32 : BitVec 32 := 110#32
  let v1119 : BitVec 32 := Scalar.addi v128 c110_i32
  let v1120 : Index := Scalar.indexCast v1119
  ![v1120.toNat]
def k0_mult368 (v1121 : BitVec 32) : BitVec 32 :=
  v1121

def k0_off737 (v1121 : BitVec 32) : Fin 2 → Nat :=
  let v1122 : BitVec 32 := v1121
  let v1123 : Index := Scalar.indexCast v1122
  let c0_329 : Index := 0#32
  ![v1123.toNat, 0]

def k0_chk368 (v1121 : BitVec 32) : Prop :=
  (8 ∣ (k0_mult368 v1121).toNat) ∧
  (∀ a, (k0_off737 v1121) a + S8x128.size a ≤ S16384x128.size a)
theorem k0_mult368_dvd : ∀ (v1121 : BitVec 32) (k0_hw368 : k0_chk368 v1121), 8 ∣ (k0_mult368 v1121).toNat := fun v1121 k0_hw368 => k0_hw368.1
theorem k0_off737_inb : ∀ (v1121 : BitVec 32) (k0_hw368 : k0_chk368 v1121), ∀ a, (k0_off737 v1121) a + S8x128.size a ≤ S16384x128.size a := fun v1121 k0_hw368 => k0_hw368.2

def k0_off738 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c111_i32 : BitVec 32 := 111#32
  let v1128 : BitVec 32 := Scalar.addi v128 c111_i32
  let v1129 : Index := Scalar.indexCast v1128
  ![v1129.toNat]
def k0_mult369 (v1130 : BitVec 32) : BitVec 32 :=
  v1130

def k0_off739 (v1130 : BitVec 32) : Fin 2 → Nat :=
  let v1131 : BitVec 32 := v1130
  let v1132 : Index := Scalar.indexCast v1131
  let c0_331 : Index := 0#32
  ![v1132.toNat, 0]

def k0_chk369 (v1130 : BitVec 32) : Prop :=
  (8 ∣ (k0_mult369 v1130).toNat) ∧
  (∀ a, (k0_off739 v1130) a + S8x128.size a ≤ S16384x128.size a)
theorem k0_mult369_dvd : ∀ (v1130 : BitVec 32) (k0_hw369 : k0_chk369 v1130), 8 ∣ (k0_mult369 v1130).toNat := fun v1130 k0_hw369 => k0_hw369.1
theorem k0_off739_inb : ∀ (v1130 : BitVec 32) (k0_hw369 : k0_chk369 v1130), ∀ a, (k0_off739 v1130) a + S8x128.size a ≤ S16384x128.size a := fun v1130 k0_hw369 => k0_hw369.2

def k0_off740 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c112_i32 : BitVec 32 := 112#32
  let v1137 : BitVec 32 := Scalar.addi v128 c112_i32
  let v1138 : Index := Scalar.indexCast v1137
  ![v1138.toNat]
def k0_mult370 (v1139 : BitVec 32) : BitVec 32 :=
  v1139

def k0_off741 (v1139 : BitVec 32) : Fin 2 → Nat :=
  let v1140 : BitVec 32 := v1139
  let v1141 : Index := Scalar.indexCast v1140
  let c0_333 : Index := 0#32
  ![v1141.toNat, 0]

def k0_chk370 (v1139 : BitVec 32) : Prop :=
  (8 ∣ (k0_mult370 v1139).toNat) ∧
  (∀ a, (k0_off741 v1139) a + S8x128.size a ≤ S16384x128.size a)
theorem k0_mult370_dvd : ∀ (v1139 : BitVec 32) (k0_hw370 : k0_chk370 v1139), 8 ∣ (k0_mult370 v1139).toNat := fun v1139 k0_hw370 => k0_hw370.1
theorem k0_off741_inb : ∀ (v1139 : BitVec 32) (k0_hw370 : k0_chk370 v1139), ∀ a, (k0_off741 v1139) a + S8x128.size a ≤ S16384x128.size a := fun v1139 k0_hw370 => k0_hw370.2

def k0_off742 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c113_i32 : BitVec 32 := 113#32
  let v1146 : BitVec 32 := Scalar.addi v128 c113_i32
  let v1147 : Index := Scalar.indexCast v1146
  ![v1147.toNat]
def k0_mult371 (v1148 : BitVec 32) : BitVec 32 :=
  v1148

def k0_off743 (v1148 : BitVec 32) : Fin 2 → Nat :=
  let v1149 : BitVec 32 := v1148
  let v1150 : Index := Scalar.indexCast v1149
  let c0_335 : Index := 0#32
  ![v1150.toNat, 0]

def k0_chk371 (v1148 : BitVec 32) : Prop :=
  (8 ∣ (k0_mult371 v1148).toNat) ∧
  (∀ a, (k0_off743 v1148) a + S8x128.size a ≤ S16384x128.size a)
theorem k0_mult371_dvd : ∀ (v1148 : BitVec 32) (k0_hw371 : k0_chk371 v1148), 8 ∣ (k0_mult371 v1148).toNat := fun v1148 k0_hw371 => k0_hw371.1
theorem k0_off743_inb : ∀ (v1148 : BitVec 32) (k0_hw371 : k0_chk371 v1148), ∀ a, (k0_off743 v1148) a + S8x128.size a ≤ S16384x128.size a := fun v1148 k0_hw371 => k0_hw371.2

def k0_off744 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c114_i32 : BitVec 32 := 114#32
  let v1155 : BitVec 32 := Scalar.addi v128 c114_i32
  let v1156 : Index := Scalar.indexCast v1155
  ![v1156.toNat]
def k0_mult372 (v1157 : BitVec 32) : BitVec 32 :=
  v1157

def k0_off745 (v1157 : BitVec 32) : Fin 2 → Nat :=
  let v1158 : BitVec 32 := v1157
  let v1159 : Index := Scalar.indexCast v1158
  let c0_337 : Index := 0#32
  ![v1159.toNat, 0]

def k0_chk372 (v1157 : BitVec 32) : Prop :=
  (8 ∣ (k0_mult372 v1157).toNat) ∧
  (∀ a, (k0_off745 v1157) a + S8x128.size a ≤ S16384x128.size a)
theorem k0_mult372_dvd : ∀ (v1157 : BitVec 32) (k0_hw372 : k0_chk372 v1157), 8 ∣ (k0_mult372 v1157).toNat := fun v1157 k0_hw372 => k0_hw372.1
theorem k0_off745_inb : ∀ (v1157 : BitVec 32) (k0_hw372 : k0_chk372 v1157), ∀ a, (k0_off745 v1157) a + S8x128.size a ≤ S16384x128.size a := fun v1157 k0_hw372 => k0_hw372.2

def k0_off746 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c115_i32 : BitVec 32 := 115#32
  let v1164 : BitVec 32 := Scalar.addi v128 c115_i32
  let v1165 : Index := Scalar.indexCast v1164
  ![v1165.toNat]
def k0_mult373 (v1166 : BitVec 32) : BitVec 32 :=
  v1166

def k0_off747 (v1166 : BitVec 32) : Fin 2 → Nat :=
  let v1167 : BitVec 32 := v1166
  let v1168 : Index := Scalar.indexCast v1167
  let c0_339 : Index := 0#32
  ![v1168.toNat, 0]

def k0_chk373 (v1166 : BitVec 32) : Prop :=
  (8 ∣ (k0_mult373 v1166).toNat) ∧
  (∀ a, (k0_off747 v1166) a + S8x128.size a ≤ S16384x128.size a)
theorem k0_mult373_dvd : ∀ (v1166 : BitVec 32) (k0_hw373 : k0_chk373 v1166), 8 ∣ (k0_mult373 v1166).toNat := fun v1166 k0_hw373 => k0_hw373.1
theorem k0_off747_inb : ∀ (v1166 : BitVec 32) (k0_hw373 : k0_chk373 v1166), ∀ a, (k0_off747 v1166) a + S8x128.size a ≤ S16384x128.size a := fun v1166 k0_hw373 => k0_hw373.2

def k0_off748 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c116_i32 : BitVec 32 := 116#32
  let v1173 : BitVec 32 := Scalar.addi v128 c116_i32
  let v1174 : Index := Scalar.indexCast v1173
  ![v1174.toNat]
def k0_mult374 (v1175 : BitVec 32) : BitVec 32 :=
  v1175

def k0_off749 (v1175 : BitVec 32) : Fin 2 → Nat :=
  let v1176 : BitVec 32 := v1175
  let v1177 : Index := Scalar.indexCast v1176
  let c0_341 : Index := 0#32
  ![v1177.toNat, 0]

def k0_chk374 (v1175 : BitVec 32) : Prop :=
  (8 ∣ (k0_mult374 v1175).toNat) ∧
  (∀ a, (k0_off749 v1175) a + S8x128.size a ≤ S16384x128.size a)
theorem k0_mult374_dvd : ∀ (v1175 : BitVec 32) (k0_hw374 : k0_chk374 v1175), 8 ∣ (k0_mult374 v1175).toNat := fun v1175 k0_hw374 => k0_hw374.1
theorem k0_off749_inb : ∀ (v1175 : BitVec 32) (k0_hw374 : k0_chk374 v1175), ∀ a, (k0_off749 v1175) a + S8x128.size a ≤ S16384x128.size a := fun v1175 k0_hw374 => k0_hw374.2

def k0_off750 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c117_i32 : BitVec 32 := 117#32
  let v1182 : BitVec 32 := Scalar.addi v128 c117_i32
  let v1183 : Index := Scalar.indexCast v1182
  ![v1183.toNat]
def k0_mult375 (v1184 : BitVec 32) : BitVec 32 :=
  v1184

def k0_off751 (v1184 : BitVec 32) : Fin 2 → Nat :=
  let v1185 : BitVec 32 := v1184
  let v1186 : Index := Scalar.indexCast v1185
  let c0_343 : Index := 0#32
  ![v1186.toNat, 0]

def k0_chk375 (v1184 : BitVec 32) : Prop :=
  (8 ∣ (k0_mult375 v1184).toNat) ∧
  (∀ a, (k0_off751 v1184) a + S8x128.size a ≤ S16384x128.size a)
theorem k0_mult375_dvd : ∀ (v1184 : BitVec 32) (k0_hw375 : k0_chk375 v1184), 8 ∣ (k0_mult375 v1184).toNat := fun v1184 k0_hw375 => k0_hw375.1
theorem k0_off751_inb : ∀ (v1184 : BitVec 32) (k0_hw375 : k0_chk375 v1184), ∀ a, (k0_off751 v1184) a + S8x128.size a ≤ S16384x128.size a := fun v1184 k0_hw375 => k0_hw375.2

def k0_off752 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c118_i32 : BitVec 32 := 118#32
  let v1191 : BitVec 32 := Scalar.addi v128 c118_i32
  let v1192 : Index := Scalar.indexCast v1191
  ![v1192.toNat]
def k0_mult376 (v1193 : BitVec 32) : BitVec 32 :=
  v1193

def k0_off753 (v1193 : BitVec 32) : Fin 2 → Nat :=
  let v1194 : BitVec 32 := v1193
  let v1195 : Index := Scalar.indexCast v1194
  let c0_345 : Index := 0#32
  ![v1195.toNat, 0]

def k0_chk376 (v1193 : BitVec 32) : Prop :=
  (8 ∣ (k0_mult376 v1193).toNat) ∧
  (∀ a, (k0_off753 v1193) a + S8x128.size a ≤ S16384x128.size a)
theorem k0_mult376_dvd : ∀ (v1193 : BitVec 32) (k0_hw376 : k0_chk376 v1193), 8 ∣ (k0_mult376 v1193).toNat := fun v1193 k0_hw376 => k0_hw376.1
theorem k0_off753_inb : ∀ (v1193 : BitVec 32) (k0_hw376 : k0_chk376 v1193), ∀ a, (k0_off753 v1193) a + S8x128.size a ≤ S16384x128.size a := fun v1193 k0_hw376 => k0_hw376.2

def k0_off754 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c119_i32 : BitVec 32 := 119#32
  let v1200 : BitVec 32 := Scalar.addi v128 c119_i32
  let v1201 : Index := Scalar.indexCast v1200
  ![v1201.toNat]
def k0_mult377 (v1202 : BitVec 32) : BitVec 32 :=
  v1202

def k0_off755 (v1202 : BitVec 32) : Fin 2 → Nat :=
  let v1203 : BitVec 32 := v1202
  let v1204 : Index := Scalar.indexCast v1203
  let c0_347 : Index := 0#32
  ![v1204.toNat, 0]

def k0_chk377 (v1202 : BitVec 32) : Prop :=
  (8 ∣ (k0_mult377 v1202).toNat) ∧
  (∀ a, (k0_off755 v1202) a + S8x128.size a ≤ S16384x128.size a)
theorem k0_mult377_dvd : ∀ (v1202 : BitVec 32) (k0_hw377 : k0_chk377 v1202), 8 ∣ (k0_mult377 v1202).toNat := fun v1202 k0_hw377 => k0_hw377.1
theorem k0_off755_inb : ∀ (v1202 : BitVec 32) (k0_hw377 : k0_chk377 v1202), ∀ a, (k0_off755 v1202) a + S8x128.size a ≤ S16384x128.size a := fun v1202 k0_hw377 => k0_hw377.2

def k0_off756 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c120_i32 : BitVec 32 := 120#32
  let v1209 : BitVec 32 := Scalar.addi v128 c120_i32
  let v1210 : Index := Scalar.indexCast v1209
  ![v1210.toNat]
def k0_mult378 (v1211 : BitVec 32) : BitVec 32 :=
  v1211

def k0_off757 (v1211 : BitVec 32) : Fin 2 → Nat :=
  let v1212 : BitVec 32 := v1211
  let v1213 : Index := Scalar.indexCast v1212
  let c0_349 : Index := 0#32
  ![v1213.toNat, 0]

def k0_chk378 (v1211 : BitVec 32) : Prop :=
  (8 ∣ (k0_mult378 v1211).toNat) ∧
  (∀ a, (k0_off757 v1211) a + S8x128.size a ≤ S16384x128.size a)
theorem k0_mult378_dvd : ∀ (v1211 : BitVec 32) (k0_hw378 : k0_chk378 v1211), 8 ∣ (k0_mult378 v1211).toNat := fun v1211 k0_hw378 => k0_hw378.1
theorem k0_off757_inb : ∀ (v1211 : BitVec 32) (k0_hw378 : k0_chk378 v1211), ∀ a, (k0_off757 v1211) a + S8x128.size a ≤ S16384x128.size a := fun v1211 k0_hw378 => k0_hw378.2

def k0_off758 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c121_i32 : BitVec 32 := 121#32
  let v1218 : BitVec 32 := Scalar.addi v128 c121_i32
  let v1219 : Index := Scalar.indexCast v1218
  ![v1219.toNat]
def k0_mult379 (v1220 : BitVec 32) : BitVec 32 :=
  v1220

def k0_off759 (v1220 : BitVec 32) : Fin 2 → Nat :=
  let v1221 : BitVec 32 := v1220
  let v1222 : Index := Scalar.indexCast v1221
  let c0_351 : Index := 0#32
  ![v1222.toNat, 0]

def k0_chk379 (v1220 : BitVec 32) : Prop :=
  (8 ∣ (k0_mult379 v1220).toNat) ∧
  (∀ a, (k0_off759 v1220) a + S8x128.size a ≤ S16384x128.size a)
theorem k0_mult379_dvd : ∀ (v1220 : BitVec 32) (k0_hw379 : k0_chk379 v1220), 8 ∣ (k0_mult379 v1220).toNat := fun v1220 k0_hw379 => k0_hw379.1
theorem k0_off759_inb : ∀ (v1220 : BitVec 32) (k0_hw379 : k0_chk379 v1220), ∀ a, (k0_off759 v1220) a + S8x128.size a ≤ S16384x128.size a := fun v1220 k0_hw379 => k0_hw379.2

def k0_off760 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c122_i32 : BitVec 32 := 122#32
  let v1227 : BitVec 32 := Scalar.addi v128 c122_i32
  let v1228 : Index := Scalar.indexCast v1227
  ![v1228.toNat]
def k0_mult380 (v1229 : BitVec 32) : BitVec 32 :=
  v1229

def k0_off761 (v1229 : BitVec 32) : Fin 2 → Nat :=
  let v1230 : BitVec 32 := v1229
  let v1231 : Index := Scalar.indexCast v1230
  let c0_353 : Index := 0#32
  ![v1231.toNat, 0]

def k0_chk380 (v1229 : BitVec 32) : Prop :=
  (8 ∣ (k0_mult380 v1229).toNat) ∧
  (∀ a, (k0_off761 v1229) a + S8x128.size a ≤ S16384x128.size a)
theorem k0_mult380_dvd : ∀ (v1229 : BitVec 32) (k0_hw380 : k0_chk380 v1229), 8 ∣ (k0_mult380 v1229).toNat := fun v1229 k0_hw380 => k0_hw380.1
theorem k0_off761_inb : ∀ (v1229 : BitVec 32) (k0_hw380 : k0_chk380 v1229), ∀ a, (k0_off761 v1229) a + S8x128.size a ≤ S16384x128.size a := fun v1229 k0_hw380 => k0_hw380.2

def k0_off762 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c123_i32 : BitVec 32 := 123#32
  let v1236 : BitVec 32 := Scalar.addi v128 c123_i32
  let v1237 : Index := Scalar.indexCast v1236
  ![v1237.toNat]
def k0_mult381 (v1238 : BitVec 32) : BitVec 32 :=
  v1238

def k0_off763 (v1238 : BitVec 32) : Fin 2 → Nat :=
  let v1239 : BitVec 32 := v1238
  let v1240 : Index := Scalar.indexCast v1239
  let c0_355 : Index := 0#32
  ![v1240.toNat, 0]

def k0_chk381 (v1238 : BitVec 32) : Prop :=
  (8 ∣ (k0_mult381 v1238).toNat) ∧
  (∀ a, (k0_off763 v1238) a + S8x128.size a ≤ S16384x128.size a)
theorem k0_mult381_dvd : ∀ (v1238 : BitVec 32) (k0_hw381 : k0_chk381 v1238), 8 ∣ (k0_mult381 v1238).toNat := fun v1238 k0_hw381 => k0_hw381.1
theorem k0_off763_inb : ∀ (v1238 : BitVec 32) (k0_hw381 : k0_chk381 v1238), ∀ a, (k0_off763 v1238) a + S8x128.size a ≤ S16384x128.size a := fun v1238 k0_hw381 => k0_hw381.2

def k0_off764 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c124_i32 : BitVec 32 := 124#32
  let v1245 : BitVec 32 := Scalar.addi v128 c124_i32
  let v1246 : Index := Scalar.indexCast v1245
  ![v1246.toNat]
def k0_mult382 (v1247 : BitVec 32) : BitVec 32 :=
  v1247

def k0_off765 (v1247 : BitVec 32) : Fin 2 → Nat :=
  let v1248 : BitVec 32 := v1247
  let v1249 : Index := Scalar.indexCast v1248
  let c0_357 : Index := 0#32
  ![v1249.toNat, 0]

def k0_chk382 (v1247 : BitVec 32) : Prop :=
  (8 ∣ (k0_mult382 v1247).toNat) ∧
  (∀ a, (k0_off765 v1247) a + S8x128.size a ≤ S16384x128.size a)
theorem k0_mult382_dvd : ∀ (v1247 : BitVec 32) (k0_hw382 : k0_chk382 v1247), 8 ∣ (k0_mult382 v1247).toNat := fun v1247 k0_hw382 => k0_hw382.1
theorem k0_off765_inb : ∀ (v1247 : BitVec 32) (k0_hw382 : k0_chk382 v1247), ∀ a, (k0_off765 v1247) a + S8x128.size a ≤ S16384x128.size a := fun v1247 k0_hw382 => k0_hw382.2

def k0_off766 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c125_i32 : BitVec 32 := 125#32
  let v1254 : BitVec 32 := Scalar.addi v128 c125_i32
  let v1255 : Index := Scalar.indexCast v1254
  ![v1255.toNat]
def k0_mult383 (v1256 : BitVec 32) : BitVec 32 :=
  v1256

def k0_off767 (v1256 : BitVec 32) : Fin 2 → Nat :=
  let v1257 : BitVec 32 := v1256
  let v1258 : Index := Scalar.indexCast v1257
  let c0_359 : Index := 0#32
  ![v1258.toNat, 0]

def k0_chk383 (v1256 : BitVec 32) : Prop :=
  (8 ∣ (k0_mult383 v1256).toNat) ∧
  (∀ a, (k0_off767 v1256) a + S8x128.size a ≤ S16384x128.size a)
theorem k0_mult383_dvd : ∀ (v1256 : BitVec 32) (k0_hw383 : k0_chk383 v1256), 8 ∣ (k0_mult383 v1256).toNat := fun v1256 k0_hw383 => k0_hw383.1
theorem k0_off767_inb : ∀ (v1256 : BitVec 32) (k0_hw383 : k0_chk383 v1256), ∀ a, (k0_off767 v1256) a + S8x128.size a ≤ S16384x128.size a := fun v1256 k0_hw383 => k0_hw383.2

def k0_off768 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c126_i32 : BitVec 32 := 126#32
  let v1263 : BitVec 32 := Scalar.addi v128 c126_i32
  let v1264 : Index := Scalar.indexCast v1263
  ![v1264.toNat]
def k0_mult384 (v1265 : BitVec 32) : BitVec 32 :=
  v1265

def k0_off769 (v1265 : BitVec 32) : Fin 2 → Nat :=
  let v1266 : BitVec 32 := v1265
  let v1267 : Index := Scalar.indexCast v1266
  let c0_361 : Index := 0#32
  ![v1267.toNat, 0]

def k0_chk384 (v1265 : BitVec 32) : Prop :=
  (8 ∣ (k0_mult384 v1265).toNat) ∧
  (∀ a, (k0_off769 v1265) a + S8x128.size a ≤ S16384x128.size a)
theorem k0_mult384_dvd : ∀ (v1265 : BitVec 32) (k0_hw384 : k0_chk384 v1265), 8 ∣ (k0_mult384 v1265).toNat := fun v1265 k0_hw384 => k0_hw384.1
theorem k0_off769_inb : ∀ (v1265 : BitVec 32) (k0_hw384 : k0_chk384 v1265), ∀ a, (k0_off769 v1265) a + S8x128.size a ≤ S16384x128.size a := fun v1265 k0_hw384 => k0_hw384.2

def k0_off770 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c127_i32 : BitVec 32 := 127#32
  let v1272 : BitVec 32 := Scalar.addi v128 c127_i32
  let v1273 : Index := Scalar.indexCast v1272
  ![v1273.toNat]
def k0_mult385 (v1274 : BitVec 32) : BitVec 32 :=
  v1274

def k0_off771 (v1274 : BitVec 32) : Fin 2 → Nat :=
  let v1275 : BitVec 32 := v1274
  let v1276 : Index := Scalar.indexCast v1275
  let c0_363 : Index := 0#32
  ![v1276.toNat, 0]

def k0_chk385 (v1274 : BitVec 32) : Prop :=
  (8 ∣ (k0_mult385 v1274).toNat) ∧
  (∀ a, (k0_off771 v1274) a + S8x128.size a ≤ S16384x128.size a)
theorem k0_mult385_dvd : ∀ (v1274 : BitVec 32) (k0_hw385 : k0_chk385 v1274), 8 ∣ (k0_mult385 v1274).toNat := fun v1274 k0_hw385 => k0_hw385.1
theorem k0_off771_inb : ∀ (v1274 : BitVec 32) (k0_hw385 : k0_chk385 v1274), ∀ a, (k0_off771 v1274) a + S8x128.size a ≤ S16384x128.size a := fun v1274 k0_hw385 => k0_hw385.2

def k0_off772 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c128_i32 : BitVec 32 := 128#32
  let v1281 : BitVec 32 := Scalar.addi v128 c128_i32
  let v1282 : Index := Scalar.indexCast v1281
  ![v1282.toNat]
def k0_mult386 (v1283 : BitVec 32) : BitVec 32 :=
  v1283

def k0_off773 (v1283 : BitVec 32) : Fin 2 → Nat :=
  let v1284 : BitVec 32 := v1283
  let v1285 : Index := Scalar.indexCast v1284
  let c0_365 : Index := 0#32
  ![v1285.toNat, 0]

def k0_chk386 (v1283 : BitVec 32) : Prop :=
  (8 ∣ (k0_mult386 v1283).toNat) ∧
  (∀ a, (k0_off773 v1283) a + S8x128.size a ≤ S16384x128.size a)
theorem k0_mult386_dvd : ∀ (v1283 : BitVec 32) (k0_hw386 : k0_chk386 v1283), 8 ∣ (k0_mult386 v1283).toNat := fun v1283 k0_hw386 => k0_hw386.1
theorem k0_off773_inb : ∀ (v1283 : BitVec 32) (k0_hw386 : k0_chk386 v1283), ∀ a, (k0_off773 v1283) a + S8x128.size a ≤ S16384x128.size a := fun v1283 k0_hw386 => k0_hw386.2

def k0_off774 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c129_i32 : BitVec 32 := 129#32
  let v1290 : BitVec 32 := Scalar.addi v128 c129_i32
  let v1291 : Index := Scalar.indexCast v1290
  ![v1291.toNat]
def k0_mult387 (v1292 : BitVec 32) : BitVec 32 :=
  v1292

def k0_off775 (v1292 : BitVec 32) : Fin 2 → Nat :=
  let v1293 : BitVec 32 := v1292
  let v1294 : Index := Scalar.indexCast v1293
  let c0_368 : Index := 0#32
  ![v1294.toNat, 0]

def k0_chk387 (v1292 : BitVec 32) : Prop :=
  (8 ∣ (k0_mult387 v1292).toNat) ∧
  (∀ a, (k0_off775 v1292) a + S8x128.size a ≤ S16384x128.size a)
theorem k0_mult387_dvd : ∀ (v1292 : BitVec 32) (k0_hw387 : k0_chk387 v1292), 8 ∣ (k0_mult387 v1292).toNat := fun v1292 k0_hw387 => k0_hw387.1
theorem k0_off775_inb : ∀ (v1292 : BitVec 32) (k0_hw387 : k0_chk387 v1292), ∀ a, (k0_off775 v1292) a + S8x128.size a ≤ S16384x128.size a := fun v1292 k0_hw387 => k0_hw387.2

def k0_off776 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c130_i32 : BitVec 32 := 130#32
  let v1299 : BitVec 32 := Scalar.addi v128 c130_i32
  let v1300 : Index := Scalar.indexCast v1299
  ![v1300.toNat]
def k0_mult388 (v1301 : BitVec 32) : BitVec 32 :=
  v1301

def k0_off777 (v1301 : BitVec 32) : Fin 2 → Nat :=
  let v1302 : BitVec 32 := v1301
  let v1303 : Index := Scalar.indexCast v1302
  let c0_370 : Index := 0#32
  ![v1303.toNat, 0]

def k0_chk388 (v1301 : BitVec 32) : Prop :=
  (8 ∣ (k0_mult388 v1301).toNat) ∧
  (∀ a, (k0_off777 v1301) a + S8x128.size a ≤ S16384x128.size a)
theorem k0_mult388_dvd : ∀ (v1301 : BitVec 32) (k0_hw388 : k0_chk388 v1301), 8 ∣ (k0_mult388 v1301).toNat := fun v1301 k0_hw388 => k0_hw388.1
theorem k0_off777_inb : ∀ (v1301 : BitVec 32) (k0_hw388 : k0_chk388 v1301), ∀ a, (k0_off777 v1301) a + S8x128.size a ≤ S16384x128.size a := fun v1301 k0_hw388 => k0_hw388.2

def k0_off778 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c131_i32 : BitVec 32 := 131#32
  let v1308 : BitVec 32 := Scalar.addi v128 c131_i32
  let v1309 : Index := Scalar.indexCast v1308
  ![v1309.toNat]
def k0_mult389 (v1310 : BitVec 32) : BitVec 32 :=
  v1310

def k0_off779 (v1310 : BitVec 32) : Fin 2 → Nat :=
  let v1311 : BitVec 32 := v1310
  let v1312 : Index := Scalar.indexCast v1311
  let c0_372 : Index := 0#32
  ![v1312.toNat, 0]

def k0_chk389 (v1310 : BitVec 32) : Prop :=
  (8 ∣ (k0_mult389 v1310).toNat) ∧
  (∀ a, (k0_off779 v1310) a + S8x128.size a ≤ S16384x128.size a)
theorem k0_mult389_dvd : ∀ (v1310 : BitVec 32) (k0_hw389 : k0_chk389 v1310), 8 ∣ (k0_mult389 v1310).toNat := fun v1310 k0_hw389 => k0_hw389.1
theorem k0_off779_inb : ∀ (v1310 : BitVec 32) (k0_hw389 : k0_chk389 v1310), ∀ a, (k0_off779 v1310) a + S8x128.size a ≤ S16384x128.size a := fun v1310 k0_hw389 => k0_hw389.2

def k0_off780 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c132_i32 : BitVec 32 := 132#32
  let v1317 : BitVec 32 := Scalar.addi v128 c132_i32
  let v1318 : Index := Scalar.indexCast v1317
  ![v1318.toNat]
def k0_mult390 (v1319 : BitVec 32) : BitVec 32 :=
  v1319

def k0_off781 (v1319 : BitVec 32) : Fin 2 → Nat :=
  let v1320 : BitVec 32 := v1319
  let v1321 : Index := Scalar.indexCast v1320
  let c0_374 : Index := 0#32
  ![v1321.toNat, 0]

def k0_chk390 (v1319 : BitVec 32) : Prop :=
  (8 ∣ (k0_mult390 v1319).toNat) ∧
  (∀ a, (k0_off781 v1319) a + S8x128.size a ≤ S16384x128.size a)
theorem k0_mult390_dvd : ∀ (v1319 : BitVec 32) (k0_hw390 : k0_chk390 v1319), 8 ∣ (k0_mult390 v1319).toNat := fun v1319 k0_hw390 => k0_hw390.1
theorem k0_off781_inb : ∀ (v1319 : BitVec 32) (k0_hw390 : k0_chk390 v1319), ∀ a, (k0_off781 v1319) a + S8x128.size a ≤ S16384x128.size a := fun v1319 k0_hw390 => k0_hw390.2

def k0_off782 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c133_i32 : BitVec 32 := 133#32
  let v1326 : BitVec 32 := Scalar.addi v128 c133_i32
  let v1327 : Index := Scalar.indexCast v1326
  ![v1327.toNat]
def k0_mult391 (v1328 : BitVec 32) : BitVec 32 :=
  v1328

def k0_off783 (v1328 : BitVec 32) : Fin 2 → Nat :=
  let v1329 : BitVec 32 := v1328
  let v1330 : Index := Scalar.indexCast v1329
  let c0_376 : Index := 0#32
  ![v1330.toNat, 0]

def k0_chk391 (v1328 : BitVec 32) : Prop :=
  (8 ∣ (k0_mult391 v1328).toNat) ∧
  (∀ a, (k0_off783 v1328) a + S8x128.size a ≤ S16384x128.size a)
theorem k0_mult391_dvd : ∀ (v1328 : BitVec 32) (k0_hw391 : k0_chk391 v1328), 8 ∣ (k0_mult391 v1328).toNat := fun v1328 k0_hw391 => k0_hw391.1
theorem k0_off783_inb : ∀ (v1328 : BitVec 32) (k0_hw391 : k0_chk391 v1328), ∀ a, (k0_off783 v1328) a + S8x128.size a ≤ S16384x128.size a := fun v1328 k0_hw391 => k0_hw391.2

def k0_off784 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c134_i32 : BitVec 32 := 134#32
  let v1335 : BitVec 32 := Scalar.addi v128 c134_i32
  let v1336 : Index := Scalar.indexCast v1335
  ![v1336.toNat]
def k0_mult392 (v1337 : BitVec 32) : BitVec 32 :=
  v1337

def k0_off785 (v1337 : BitVec 32) : Fin 2 → Nat :=
  let v1338 : BitVec 32 := v1337
  let v1339 : Index := Scalar.indexCast v1338
  let c0_378 : Index := 0#32
  ![v1339.toNat, 0]

def k0_chk392 (v1337 : BitVec 32) : Prop :=
  (8 ∣ (k0_mult392 v1337).toNat) ∧
  (∀ a, (k0_off785 v1337) a + S8x128.size a ≤ S16384x128.size a)
theorem k0_mult392_dvd : ∀ (v1337 : BitVec 32) (k0_hw392 : k0_chk392 v1337), 8 ∣ (k0_mult392 v1337).toNat := fun v1337 k0_hw392 => k0_hw392.1
theorem k0_off785_inb : ∀ (v1337 : BitVec 32) (k0_hw392 : k0_chk392 v1337), ∀ a, (k0_off785 v1337) a + S8x128.size a ≤ S16384x128.size a := fun v1337 k0_hw392 => k0_hw392.2

def k0_off786 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c135_i32 : BitVec 32 := 135#32
  let v1344 : BitVec 32 := Scalar.addi v128 c135_i32
  let v1345 : Index := Scalar.indexCast v1344
  ![v1345.toNat]
def k0_mult393 (v1346 : BitVec 32) : BitVec 32 :=
  v1346

def k0_off787 (v1346 : BitVec 32) : Fin 2 → Nat :=
  let v1347 : BitVec 32 := v1346
  let v1348 : Index := Scalar.indexCast v1347
  let c0_380 : Index := 0#32
  ![v1348.toNat, 0]

def k0_chk393 (v1346 : BitVec 32) : Prop :=
  (8 ∣ (k0_mult393 v1346).toNat) ∧
  (∀ a, (k0_off787 v1346) a + S8x128.size a ≤ S16384x128.size a)
theorem k0_mult393_dvd : ∀ (v1346 : BitVec 32) (k0_hw393 : k0_chk393 v1346), 8 ∣ (k0_mult393 v1346).toNat := fun v1346 k0_hw393 => k0_hw393.1
theorem k0_off787_inb : ∀ (v1346 : BitVec 32) (k0_hw393 : k0_chk393 v1346), ∀ a, (k0_off787 v1346) a + S8x128.size a ≤ S16384x128.size a := fun v1346 k0_hw393 => k0_hw393.2

def k0_off788 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c136_i32 : BitVec 32 := 136#32
  let v1353 : BitVec 32 := Scalar.addi v128 c136_i32
  let v1354 : Index := Scalar.indexCast v1353
  ![v1354.toNat]
def k0_mult394 (v1355 : BitVec 32) : BitVec 32 :=
  v1355

def k0_off789 (v1355 : BitVec 32) : Fin 2 → Nat :=
  let v1356 : BitVec 32 := v1355
  let v1357 : Index := Scalar.indexCast v1356
  let c0_382 : Index := 0#32
  ![v1357.toNat, 0]

def k0_chk394 (v1355 : BitVec 32) : Prop :=
  (8 ∣ (k0_mult394 v1355).toNat) ∧
  (∀ a, (k0_off789 v1355) a + S8x128.size a ≤ S16384x128.size a)
theorem k0_mult394_dvd : ∀ (v1355 : BitVec 32) (k0_hw394 : k0_chk394 v1355), 8 ∣ (k0_mult394 v1355).toNat := fun v1355 k0_hw394 => k0_hw394.1
theorem k0_off789_inb : ∀ (v1355 : BitVec 32) (k0_hw394 : k0_chk394 v1355), ∀ a, (k0_off789 v1355) a + S8x128.size a ≤ S16384x128.size a := fun v1355 k0_hw394 => k0_hw394.2

def k0_off790 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c137_i32 : BitVec 32 := 137#32
  let v1362 : BitVec 32 := Scalar.addi v128 c137_i32
  let v1363 : Index := Scalar.indexCast v1362
  ![v1363.toNat]
def k0_mult395 (v1364 : BitVec 32) : BitVec 32 :=
  v1364

def k0_off791 (v1364 : BitVec 32) : Fin 2 → Nat :=
  let v1365 : BitVec 32 := v1364
  let v1366 : Index := Scalar.indexCast v1365
  let c0_384 : Index := 0#32
  ![v1366.toNat, 0]

def k0_chk395 (v1364 : BitVec 32) : Prop :=
  (8 ∣ (k0_mult395 v1364).toNat) ∧
  (∀ a, (k0_off791 v1364) a + S8x128.size a ≤ S16384x128.size a)
theorem k0_mult395_dvd : ∀ (v1364 : BitVec 32) (k0_hw395 : k0_chk395 v1364), 8 ∣ (k0_mult395 v1364).toNat := fun v1364 k0_hw395 => k0_hw395.1
theorem k0_off791_inb : ∀ (v1364 : BitVec 32) (k0_hw395 : k0_chk395 v1364), ∀ a, (k0_off791 v1364) a + S8x128.size a ≤ S16384x128.size a := fun v1364 k0_hw395 => k0_hw395.2

def k0_off792 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c138_i32 : BitVec 32 := 138#32
  let v1371 : BitVec 32 := Scalar.addi v128 c138_i32
  let v1372 : Index := Scalar.indexCast v1371
  ![v1372.toNat]
def k0_mult396 (v1373 : BitVec 32) : BitVec 32 :=
  v1373

def k0_off793 (v1373 : BitVec 32) : Fin 2 → Nat :=
  let v1374 : BitVec 32 := v1373
  let v1375 : Index := Scalar.indexCast v1374
  let c0_386 : Index := 0#32
  ![v1375.toNat, 0]

def k0_chk396 (v1373 : BitVec 32) : Prop :=
  (8 ∣ (k0_mult396 v1373).toNat) ∧
  (∀ a, (k0_off793 v1373) a + S8x128.size a ≤ S16384x128.size a)
theorem k0_mult396_dvd : ∀ (v1373 : BitVec 32) (k0_hw396 : k0_chk396 v1373), 8 ∣ (k0_mult396 v1373).toNat := fun v1373 k0_hw396 => k0_hw396.1
theorem k0_off793_inb : ∀ (v1373 : BitVec 32) (k0_hw396 : k0_chk396 v1373), ∀ a, (k0_off793 v1373) a + S8x128.size a ≤ S16384x128.size a := fun v1373 k0_hw396 => k0_hw396.2

def k0_off794 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c139_i32 : BitVec 32 := 139#32
  let v1380 : BitVec 32 := Scalar.addi v128 c139_i32
  let v1381 : Index := Scalar.indexCast v1380
  ![v1381.toNat]
def k0_mult397 (v1382 : BitVec 32) : BitVec 32 :=
  v1382

def k0_off795 (v1382 : BitVec 32) : Fin 2 → Nat :=
  let v1383 : BitVec 32 := v1382
  let v1384 : Index := Scalar.indexCast v1383
  let c0_388 : Index := 0#32
  ![v1384.toNat, 0]

def k0_chk397 (v1382 : BitVec 32) : Prop :=
  (8 ∣ (k0_mult397 v1382).toNat) ∧
  (∀ a, (k0_off795 v1382) a + S8x128.size a ≤ S16384x128.size a)
theorem k0_mult397_dvd : ∀ (v1382 : BitVec 32) (k0_hw397 : k0_chk397 v1382), 8 ∣ (k0_mult397 v1382).toNat := fun v1382 k0_hw397 => k0_hw397.1
theorem k0_off795_inb : ∀ (v1382 : BitVec 32) (k0_hw397 : k0_chk397 v1382), ∀ a, (k0_off795 v1382) a + S8x128.size a ≤ S16384x128.size a := fun v1382 k0_hw397 => k0_hw397.2

def k0_off796 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c140_i32 : BitVec 32 := 140#32
  let v1389 : BitVec 32 := Scalar.addi v128 c140_i32
  let v1390 : Index := Scalar.indexCast v1389
  ![v1390.toNat]
def k0_mult398 (v1391 : BitVec 32) : BitVec 32 :=
  v1391

def k0_off797 (v1391 : BitVec 32) : Fin 2 → Nat :=
  let v1392 : BitVec 32 := v1391
  let v1393 : Index := Scalar.indexCast v1392
  let c0_390 : Index := 0#32
  ![v1393.toNat, 0]

def k0_chk398 (v1391 : BitVec 32) : Prop :=
  (8 ∣ (k0_mult398 v1391).toNat) ∧
  (∀ a, (k0_off797 v1391) a + S8x128.size a ≤ S16384x128.size a)
theorem k0_mult398_dvd : ∀ (v1391 : BitVec 32) (k0_hw398 : k0_chk398 v1391), 8 ∣ (k0_mult398 v1391).toNat := fun v1391 k0_hw398 => k0_hw398.1
theorem k0_off797_inb : ∀ (v1391 : BitVec 32) (k0_hw398 : k0_chk398 v1391), ∀ a, (k0_off797 v1391) a + S8x128.size a ≤ S16384x128.size a := fun v1391 k0_hw398 => k0_hw398.2

def k0_off798 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c141_i32 : BitVec 32 := 141#32
  let v1398 : BitVec 32 := Scalar.addi v128 c141_i32
  let v1399 : Index := Scalar.indexCast v1398
  ![v1399.toNat]
def k0_mult399 (v1400 : BitVec 32) : BitVec 32 :=
  v1400

def k0_off799 (v1400 : BitVec 32) : Fin 2 → Nat :=
  let v1401 : BitVec 32 := v1400
  let v1402 : Index := Scalar.indexCast v1401
  let c0_392 : Index := 0#32
  ![v1402.toNat, 0]

def k0_chk399 (v1400 : BitVec 32) : Prop :=
  (8 ∣ (k0_mult399 v1400).toNat) ∧
  (∀ a, (k0_off799 v1400) a + S8x128.size a ≤ S16384x128.size a)
theorem k0_mult399_dvd : ∀ (v1400 : BitVec 32) (k0_hw399 : k0_chk399 v1400), 8 ∣ (k0_mult399 v1400).toNat := fun v1400 k0_hw399 => k0_hw399.1
theorem k0_off799_inb : ∀ (v1400 : BitVec 32) (k0_hw399 : k0_chk399 v1400), ∀ a, (k0_off799 v1400) a + S8x128.size a ≤ S16384x128.size a := fun v1400 k0_hw399 => k0_hw399.2

def k0_off800 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c142_i32 : BitVec 32 := 142#32
  let v1407 : BitVec 32 := Scalar.addi v128 c142_i32
  let v1408 : Index := Scalar.indexCast v1407
  ![v1408.toNat]
def k0_mult400 (v1409 : BitVec 32) : BitVec 32 :=
  v1409

def k0_off801 (v1409 : BitVec 32) : Fin 2 → Nat :=
  let v1410 : BitVec 32 := v1409
  let v1411 : Index := Scalar.indexCast v1410
  let c0_394 : Index := 0#32
  ![v1411.toNat, 0]

def k0_chk400 (v1409 : BitVec 32) : Prop :=
  (8 ∣ (k0_mult400 v1409).toNat) ∧
  (∀ a, (k0_off801 v1409) a + S8x128.size a ≤ S16384x128.size a)
theorem k0_mult400_dvd : ∀ (v1409 : BitVec 32) (k0_hw400 : k0_chk400 v1409), 8 ∣ (k0_mult400 v1409).toNat := fun v1409 k0_hw400 => k0_hw400.1
theorem k0_off801_inb : ∀ (v1409 : BitVec 32) (k0_hw400 : k0_chk400 v1409), ∀ a, (k0_off801 v1409) a + S8x128.size a ≤ S16384x128.size a := fun v1409 k0_hw400 => k0_hw400.2

def k0_off802 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c143_i32 : BitVec 32 := 143#32
  let v1416 : BitVec 32 := Scalar.addi v128 c143_i32
  let v1417 : Index := Scalar.indexCast v1416
  ![v1417.toNat]
def k0_mult401 (v1418 : BitVec 32) : BitVec 32 :=
  v1418

def k0_off803 (v1418 : BitVec 32) : Fin 2 → Nat :=
  let v1419 : BitVec 32 := v1418
  let v1420 : Index := Scalar.indexCast v1419
  let c0_396 : Index := 0#32
  ![v1420.toNat, 0]

def k0_chk401 (v1418 : BitVec 32) : Prop :=
  (8 ∣ (k0_mult401 v1418).toNat) ∧
  (∀ a, (k0_off803 v1418) a + S8x128.size a ≤ S16384x128.size a)
theorem k0_mult401_dvd : ∀ (v1418 : BitVec 32) (k0_hw401 : k0_chk401 v1418), 8 ∣ (k0_mult401 v1418).toNat := fun v1418 k0_hw401 => k0_hw401.1
theorem k0_off803_inb : ∀ (v1418 : BitVec 32) (k0_hw401 : k0_chk401 v1418), ∀ a, (k0_off803 v1418) a + S8x128.size a ≤ S16384x128.size a := fun v1418 k0_hw401 => k0_hw401.2

def k0_off804 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c144_i32 : BitVec 32 := 144#32
  let v1425 : BitVec 32 := Scalar.addi v128 c144_i32
  let v1426 : Index := Scalar.indexCast v1425
  ![v1426.toNat]
def k0_mult402 (v1427 : BitVec 32) : BitVec 32 :=
  v1427

def k0_off805 (v1427 : BitVec 32) : Fin 2 → Nat :=
  let v1428 : BitVec 32 := v1427
  let v1429 : Index := Scalar.indexCast v1428
  let c0_398 : Index := 0#32
  ![v1429.toNat, 0]

def k0_chk402 (v1427 : BitVec 32) : Prop :=
  (8 ∣ (k0_mult402 v1427).toNat) ∧
  (∀ a, (k0_off805 v1427) a + S8x128.size a ≤ S16384x128.size a)
theorem k0_mult402_dvd : ∀ (v1427 : BitVec 32) (k0_hw402 : k0_chk402 v1427), 8 ∣ (k0_mult402 v1427).toNat := fun v1427 k0_hw402 => k0_hw402.1
theorem k0_off805_inb : ∀ (v1427 : BitVec 32) (k0_hw402 : k0_chk402 v1427), ∀ a, (k0_off805 v1427) a + S8x128.size a ≤ S16384x128.size a := fun v1427 k0_hw402 => k0_hw402.2

def k0_off806 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c145_i32 : BitVec 32 := 145#32
  let v1434 : BitVec 32 := Scalar.addi v128 c145_i32
  let v1435 : Index := Scalar.indexCast v1434
  ![v1435.toNat]
def k0_mult403 (v1436 : BitVec 32) : BitVec 32 :=
  v1436

def k0_off807 (v1436 : BitVec 32) : Fin 2 → Nat :=
  let v1437 : BitVec 32 := v1436
  let v1438 : Index := Scalar.indexCast v1437
  let c0_400 : Index := 0#32
  ![v1438.toNat, 0]

def k0_chk403 (v1436 : BitVec 32) : Prop :=
  (8 ∣ (k0_mult403 v1436).toNat) ∧
  (∀ a, (k0_off807 v1436) a + S8x128.size a ≤ S16384x128.size a)
theorem k0_mult403_dvd : ∀ (v1436 : BitVec 32) (k0_hw403 : k0_chk403 v1436), 8 ∣ (k0_mult403 v1436).toNat := fun v1436 k0_hw403 => k0_hw403.1
theorem k0_off807_inb : ∀ (v1436 : BitVec 32) (k0_hw403 : k0_chk403 v1436), ∀ a, (k0_off807 v1436) a + S8x128.size a ≤ S16384x128.size a := fun v1436 k0_hw403 => k0_hw403.2

def k0_off808 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c146_i32 : BitVec 32 := 146#32
  let v1443 : BitVec 32 := Scalar.addi v128 c146_i32
  let v1444 : Index := Scalar.indexCast v1443
  ![v1444.toNat]
def k0_mult404 (v1445 : BitVec 32) : BitVec 32 :=
  v1445

def k0_off809 (v1445 : BitVec 32) : Fin 2 → Nat :=
  let v1446 : BitVec 32 := v1445
  let v1447 : Index := Scalar.indexCast v1446
  let c0_402 : Index := 0#32
  ![v1447.toNat, 0]

def k0_chk404 (v1445 : BitVec 32) : Prop :=
  (8 ∣ (k0_mult404 v1445).toNat) ∧
  (∀ a, (k0_off809 v1445) a + S8x128.size a ≤ S16384x128.size a)
theorem k0_mult404_dvd : ∀ (v1445 : BitVec 32) (k0_hw404 : k0_chk404 v1445), 8 ∣ (k0_mult404 v1445).toNat := fun v1445 k0_hw404 => k0_hw404.1
theorem k0_off809_inb : ∀ (v1445 : BitVec 32) (k0_hw404 : k0_chk404 v1445), ∀ a, (k0_off809 v1445) a + S8x128.size a ≤ S16384x128.size a := fun v1445 k0_hw404 => k0_hw404.2

def k0_off810 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c147_i32 : BitVec 32 := 147#32
  let v1452 : BitVec 32 := Scalar.addi v128 c147_i32
  let v1453 : Index := Scalar.indexCast v1452
  ![v1453.toNat]
def k0_mult405 (v1454 : BitVec 32) : BitVec 32 :=
  v1454

def k0_off811 (v1454 : BitVec 32) : Fin 2 → Nat :=
  let v1455 : BitVec 32 := v1454
  let v1456 : Index := Scalar.indexCast v1455
  let c0_404 : Index := 0#32
  ![v1456.toNat, 0]

def k0_chk405 (v1454 : BitVec 32) : Prop :=
  (8 ∣ (k0_mult405 v1454).toNat) ∧
  (∀ a, (k0_off811 v1454) a + S8x128.size a ≤ S16384x128.size a)
theorem k0_mult405_dvd : ∀ (v1454 : BitVec 32) (k0_hw405 : k0_chk405 v1454), 8 ∣ (k0_mult405 v1454).toNat := fun v1454 k0_hw405 => k0_hw405.1
theorem k0_off811_inb : ∀ (v1454 : BitVec 32) (k0_hw405 : k0_chk405 v1454), ∀ a, (k0_off811 v1454) a + S8x128.size a ≤ S16384x128.size a := fun v1454 k0_hw405 => k0_hw405.2

def k0_off812 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c148_i32 : BitVec 32 := 148#32
  let v1461 : BitVec 32 := Scalar.addi v128 c148_i32
  let v1462 : Index := Scalar.indexCast v1461
  ![v1462.toNat]
def k0_mult406 (v1463 : BitVec 32) : BitVec 32 :=
  v1463

def k0_off813 (v1463 : BitVec 32) : Fin 2 → Nat :=
  let v1464 : BitVec 32 := v1463
  let v1465 : Index := Scalar.indexCast v1464
  let c0_406 : Index := 0#32
  ![v1465.toNat, 0]

def k0_chk406 (v1463 : BitVec 32) : Prop :=
  (8 ∣ (k0_mult406 v1463).toNat) ∧
  (∀ a, (k0_off813 v1463) a + S8x128.size a ≤ S16384x128.size a)
theorem k0_mult406_dvd : ∀ (v1463 : BitVec 32) (k0_hw406 : k0_chk406 v1463), 8 ∣ (k0_mult406 v1463).toNat := fun v1463 k0_hw406 => k0_hw406.1
theorem k0_off813_inb : ∀ (v1463 : BitVec 32) (k0_hw406 : k0_chk406 v1463), ∀ a, (k0_off813 v1463) a + S8x128.size a ≤ S16384x128.size a := fun v1463 k0_hw406 => k0_hw406.2

def k0_off814 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c149_i32 : BitVec 32 := 149#32
  let v1470 : BitVec 32 := Scalar.addi v128 c149_i32
  let v1471 : Index := Scalar.indexCast v1470
  ![v1471.toNat]
def k0_mult407 (v1472 : BitVec 32) : BitVec 32 :=
  v1472

def k0_off815 (v1472 : BitVec 32) : Fin 2 → Nat :=
  let v1473 : BitVec 32 := v1472
  let v1474 : Index := Scalar.indexCast v1473
  let c0_408 : Index := 0#32
  ![v1474.toNat, 0]

def k0_chk407 (v1472 : BitVec 32) : Prop :=
  (8 ∣ (k0_mult407 v1472).toNat) ∧
  (∀ a, (k0_off815 v1472) a + S8x128.size a ≤ S16384x128.size a)
theorem k0_mult407_dvd : ∀ (v1472 : BitVec 32) (k0_hw407 : k0_chk407 v1472), 8 ∣ (k0_mult407 v1472).toNat := fun v1472 k0_hw407 => k0_hw407.1
theorem k0_off815_inb : ∀ (v1472 : BitVec 32) (k0_hw407 : k0_chk407 v1472), ∀ a, (k0_off815 v1472) a + S8x128.size a ≤ S16384x128.size a := fun v1472 k0_hw407 => k0_hw407.2

def k0_off816 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c150_i32 : BitVec 32 := 150#32
  let v1479 : BitVec 32 := Scalar.addi v128 c150_i32
  let v1480 : Index := Scalar.indexCast v1479
  ![v1480.toNat]
def k0_mult408 (v1481 : BitVec 32) : BitVec 32 :=
  v1481

def k0_off817 (v1481 : BitVec 32) : Fin 2 → Nat :=
  let v1482 : BitVec 32 := v1481
  let v1483 : Index := Scalar.indexCast v1482
  let c0_410 : Index := 0#32
  ![v1483.toNat, 0]

def k0_chk408 (v1481 : BitVec 32) : Prop :=
  (8 ∣ (k0_mult408 v1481).toNat) ∧
  (∀ a, (k0_off817 v1481) a + S8x128.size a ≤ S16384x128.size a)
theorem k0_mult408_dvd : ∀ (v1481 : BitVec 32) (k0_hw408 : k0_chk408 v1481), 8 ∣ (k0_mult408 v1481).toNat := fun v1481 k0_hw408 => k0_hw408.1
theorem k0_off817_inb : ∀ (v1481 : BitVec 32) (k0_hw408 : k0_chk408 v1481), ∀ a, (k0_off817 v1481) a + S8x128.size a ≤ S16384x128.size a := fun v1481 k0_hw408 => k0_hw408.2

def k0_off818 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c151_i32 : BitVec 32 := 151#32
  let v1488 : BitVec 32 := Scalar.addi v128 c151_i32
  let v1489 : Index := Scalar.indexCast v1488
  ![v1489.toNat]
def k0_mult409 (v1490 : BitVec 32) : BitVec 32 :=
  v1490

def k0_off819 (v1490 : BitVec 32) : Fin 2 → Nat :=
  let v1491 : BitVec 32 := v1490
  let v1492 : Index := Scalar.indexCast v1491
  let c0_412 : Index := 0#32
  ![v1492.toNat, 0]

def k0_chk409 (v1490 : BitVec 32) : Prop :=
  (8 ∣ (k0_mult409 v1490).toNat) ∧
  (∀ a, (k0_off819 v1490) a + S8x128.size a ≤ S16384x128.size a)
theorem k0_mult409_dvd : ∀ (v1490 : BitVec 32) (k0_hw409 : k0_chk409 v1490), 8 ∣ (k0_mult409 v1490).toNat := fun v1490 k0_hw409 => k0_hw409.1
theorem k0_off819_inb : ∀ (v1490 : BitVec 32) (k0_hw409 : k0_chk409 v1490), ∀ a, (k0_off819 v1490) a + S8x128.size a ≤ S16384x128.size a := fun v1490 k0_hw409 => k0_hw409.2

def k0_off820 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c152_i32 : BitVec 32 := 152#32
  let v1497 : BitVec 32 := Scalar.addi v128 c152_i32
  let v1498 : Index := Scalar.indexCast v1497
  ![v1498.toNat]
def k0_mult410 (v1499 : BitVec 32) : BitVec 32 :=
  v1499

def k0_off821 (v1499 : BitVec 32) : Fin 2 → Nat :=
  let v1500 : BitVec 32 := v1499
  let v1501 : Index := Scalar.indexCast v1500
  let c0_414 : Index := 0#32
  ![v1501.toNat, 0]

def k0_chk410 (v1499 : BitVec 32) : Prop :=
  (8 ∣ (k0_mult410 v1499).toNat) ∧
  (∀ a, (k0_off821 v1499) a + S8x128.size a ≤ S16384x128.size a)
theorem k0_mult410_dvd : ∀ (v1499 : BitVec 32) (k0_hw410 : k0_chk410 v1499), 8 ∣ (k0_mult410 v1499).toNat := fun v1499 k0_hw410 => k0_hw410.1
theorem k0_off821_inb : ∀ (v1499 : BitVec 32) (k0_hw410 : k0_chk410 v1499), ∀ a, (k0_off821 v1499) a + S8x128.size a ≤ S16384x128.size a := fun v1499 k0_hw410 => k0_hw410.2

def k0_off822 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c153_i32 : BitVec 32 := 153#32
  let v1506 : BitVec 32 := Scalar.addi v128 c153_i32
  let v1507 : Index := Scalar.indexCast v1506
  ![v1507.toNat]
def k0_mult411 (v1508 : BitVec 32) : BitVec 32 :=
  v1508

def k0_off823 (v1508 : BitVec 32) : Fin 2 → Nat :=
  let v1509 : BitVec 32 := v1508
  let v1510 : Index := Scalar.indexCast v1509
  let c0_416 : Index := 0#32
  ![v1510.toNat, 0]

def k0_chk411 (v1508 : BitVec 32) : Prop :=
  (8 ∣ (k0_mult411 v1508).toNat) ∧
  (∀ a, (k0_off823 v1508) a + S8x128.size a ≤ S16384x128.size a)
theorem k0_mult411_dvd : ∀ (v1508 : BitVec 32) (k0_hw411 : k0_chk411 v1508), 8 ∣ (k0_mult411 v1508).toNat := fun v1508 k0_hw411 => k0_hw411.1
theorem k0_off823_inb : ∀ (v1508 : BitVec 32) (k0_hw411 : k0_chk411 v1508), ∀ a, (k0_off823 v1508) a + S8x128.size a ≤ S16384x128.size a := fun v1508 k0_hw411 => k0_hw411.2

def k0_off824 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c154_i32 : BitVec 32 := 154#32
  let v1515 : BitVec 32 := Scalar.addi v128 c154_i32
  let v1516 : Index := Scalar.indexCast v1515
  ![v1516.toNat]
def k0_mult412 (v1517 : BitVec 32) : BitVec 32 :=
  v1517

def k0_off825 (v1517 : BitVec 32) : Fin 2 → Nat :=
  let v1518 : BitVec 32 := v1517
  let v1519 : Index := Scalar.indexCast v1518
  let c0_418 : Index := 0#32
  ![v1519.toNat, 0]

def k0_chk412 (v1517 : BitVec 32) : Prop :=
  (8 ∣ (k0_mult412 v1517).toNat) ∧
  (∀ a, (k0_off825 v1517) a + S8x128.size a ≤ S16384x128.size a)
theorem k0_mult412_dvd : ∀ (v1517 : BitVec 32) (k0_hw412 : k0_chk412 v1517), 8 ∣ (k0_mult412 v1517).toNat := fun v1517 k0_hw412 => k0_hw412.1
theorem k0_off825_inb : ∀ (v1517 : BitVec 32) (k0_hw412 : k0_chk412 v1517), ∀ a, (k0_off825 v1517) a + S8x128.size a ≤ S16384x128.size a := fun v1517 k0_hw412 => k0_hw412.2

def k0_off826 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c155_i32 : BitVec 32 := 155#32
  let v1524 : BitVec 32 := Scalar.addi v128 c155_i32
  let v1525 : Index := Scalar.indexCast v1524
  ![v1525.toNat]
def k0_mult413 (v1526 : BitVec 32) : BitVec 32 :=
  v1526

def k0_off827 (v1526 : BitVec 32) : Fin 2 → Nat :=
  let v1527 : BitVec 32 := v1526
  let v1528 : Index := Scalar.indexCast v1527
  let c0_420 : Index := 0#32
  ![v1528.toNat, 0]

def k0_chk413 (v1526 : BitVec 32) : Prop :=
  (8 ∣ (k0_mult413 v1526).toNat) ∧
  (∀ a, (k0_off827 v1526) a + S8x128.size a ≤ S16384x128.size a)
theorem k0_mult413_dvd : ∀ (v1526 : BitVec 32) (k0_hw413 : k0_chk413 v1526), 8 ∣ (k0_mult413 v1526).toNat := fun v1526 k0_hw413 => k0_hw413.1
theorem k0_off827_inb : ∀ (v1526 : BitVec 32) (k0_hw413 : k0_chk413 v1526), ∀ a, (k0_off827 v1526) a + S8x128.size a ≤ S16384x128.size a := fun v1526 k0_hw413 => k0_hw413.2

def k0_off828 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c156_i32 : BitVec 32 := 156#32
  let v1533 : BitVec 32 := Scalar.addi v128 c156_i32
  let v1534 : Index := Scalar.indexCast v1533
  ![v1534.toNat]
def k0_mult414 (v1535 : BitVec 32) : BitVec 32 :=
  v1535

def k0_off829 (v1535 : BitVec 32) : Fin 2 → Nat :=
  let v1536 : BitVec 32 := v1535
  let v1537 : Index := Scalar.indexCast v1536
  let c0_422 : Index := 0#32
  ![v1537.toNat, 0]

def k0_chk414 (v1535 : BitVec 32) : Prop :=
  (8 ∣ (k0_mult414 v1535).toNat) ∧
  (∀ a, (k0_off829 v1535) a + S8x128.size a ≤ S16384x128.size a)
theorem k0_mult414_dvd : ∀ (v1535 : BitVec 32) (k0_hw414 : k0_chk414 v1535), 8 ∣ (k0_mult414 v1535).toNat := fun v1535 k0_hw414 => k0_hw414.1
theorem k0_off829_inb : ∀ (v1535 : BitVec 32) (k0_hw414 : k0_chk414 v1535), ∀ a, (k0_off829 v1535) a + S8x128.size a ≤ S16384x128.size a := fun v1535 k0_hw414 => k0_hw414.2

def k0_off830 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c157_i32 : BitVec 32 := 157#32
  let v1542 : BitVec 32 := Scalar.addi v128 c157_i32
  let v1543 : Index := Scalar.indexCast v1542
  ![v1543.toNat]
def k0_mult415 (v1544 : BitVec 32) : BitVec 32 :=
  v1544

def k0_off831 (v1544 : BitVec 32) : Fin 2 → Nat :=
  let v1545 : BitVec 32 := v1544
  let v1546 : Index := Scalar.indexCast v1545
  let c0_424 : Index := 0#32
  ![v1546.toNat, 0]

def k0_chk415 (v1544 : BitVec 32) : Prop :=
  (8 ∣ (k0_mult415 v1544).toNat) ∧
  (∀ a, (k0_off831 v1544) a + S8x128.size a ≤ S16384x128.size a)
theorem k0_mult415_dvd : ∀ (v1544 : BitVec 32) (k0_hw415 : k0_chk415 v1544), 8 ∣ (k0_mult415 v1544).toNat := fun v1544 k0_hw415 => k0_hw415.1
theorem k0_off831_inb : ∀ (v1544 : BitVec 32) (k0_hw415 : k0_chk415 v1544), ∀ a, (k0_off831 v1544) a + S8x128.size a ≤ S16384x128.size a := fun v1544 k0_hw415 => k0_hw415.2

def k0_off832 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c158_i32 : BitVec 32 := 158#32
  let v1551 : BitVec 32 := Scalar.addi v128 c158_i32
  let v1552 : Index := Scalar.indexCast v1551
  ![v1552.toNat]
def k0_mult416 (v1553 : BitVec 32) : BitVec 32 :=
  v1553

def k0_off833 (v1553 : BitVec 32) : Fin 2 → Nat :=
  let v1554 : BitVec 32 := v1553
  let v1555 : Index := Scalar.indexCast v1554
  let c0_426 : Index := 0#32
  ![v1555.toNat, 0]

def k0_chk416 (v1553 : BitVec 32) : Prop :=
  (8 ∣ (k0_mult416 v1553).toNat) ∧
  (∀ a, (k0_off833 v1553) a + S8x128.size a ≤ S16384x128.size a)
theorem k0_mult416_dvd : ∀ (v1553 : BitVec 32) (k0_hw416 : k0_chk416 v1553), 8 ∣ (k0_mult416 v1553).toNat := fun v1553 k0_hw416 => k0_hw416.1
theorem k0_off833_inb : ∀ (v1553 : BitVec 32) (k0_hw416 : k0_chk416 v1553), ∀ a, (k0_off833 v1553) a + S8x128.size a ≤ S16384x128.size a := fun v1553 k0_hw416 => k0_hw416.2

def k0_off834 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c159_i32 : BitVec 32 := 159#32
  let v1560 : BitVec 32 := Scalar.addi v128 c159_i32
  let v1561 : Index := Scalar.indexCast v1560
  ![v1561.toNat]
def k0_mult417 (v1562 : BitVec 32) : BitVec 32 :=
  v1562

def k0_off835 (v1562 : BitVec 32) : Fin 2 → Nat :=
  let v1563 : BitVec 32 := v1562
  let v1564 : Index := Scalar.indexCast v1563
  let c0_428 : Index := 0#32
  ![v1564.toNat, 0]

def k0_chk417 (v1562 : BitVec 32) : Prop :=
  (8 ∣ (k0_mult417 v1562).toNat) ∧
  (∀ a, (k0_off835 v1562) a + S8x128.size a ≤ S16384x128.size a)
theorem k0_mult417_dvd : ∀ (v1562 : BitVec 32) (k0_hw417 : k0_chk417 v1562), 8 ∣ (k0_mult417 v1562).toNat := fun v1562 k0_hw417 => k0_hw417.1
theorem k0_off835_inb : ∀ (v1562 : BitVec 32) (k0_hw417 : k0_chk417 v1562), ∀ a, (k0_off835 v1562) a + S8x128.size a ≤ S16384x128.size a := fun v1562 k0_hw417 => k0_hw417.2

def k0_off836 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c160_i32 : BitVec 32 := 160#32
  let v1569 : BitVec 32 := Scalar.addi v128 c160_i32
  let v1570 : Index := Scalar.indexCast v1569
  ![v1570.toNat]
def k0_mult418 (v1571 : BitVec 32) : BitVec 32 :=
  v1571

def k0_off837 (v1571 : BitVec 32) : Fin 2 → Nat :=
  let v1572 : BitVec 32 := v1571
  let v1573 : Index := Scalar.indexCast v1572
  let c0_430 : Index := 0#32
  ![v1573.toNat, 0]

def k0_chk418 (v1571 : BitVec 32) : Prop :=
  (8 ∣ (k0_mult418 v1571).toNat) ∧
  (∀ a, (k0_off837 v1571) a + S8x128.size a ≤ S16384x128.size a)
theorem k0_mult418_dvd : ∀ (v1571 : BitVec 32) (k0_hw418 : k0_chk418 v1571), 8 ∣ (k0_mult418 v1571).toNat := fun v1571 k0_hw418 => k0_hw418.1
theorem k0_off837_inb : ∀ (v1571 : BitVec 32) (k0_hw418 : k0_chk418 v1571), ∀ a, (k0_off837 v1571) a + S8x128.size a ≤ S16384x128.size a := fun v1571 k0_hw418 => k0_hw418.2

def k0_off838 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c161_i32 : BitVec 32 := 161#32
  let v1578 : BitVec 32 := Scalar.addi v128 c161_i32
  let v1579 : Index := Scalar.indexCast v1578
  ![v1579.toNat]
def k0_mult419 (v1580 : BitVec 32) : BitVec 32 :=
  v1580

def k0_off839 (v1580 : BitVec 32) : Fin 2 → Nat :=
  let v1581 : BitVec 32 := v1580
  let v1582 : Index := Scalar.indexCast v1581
  let c0_432 : Index := 0#32
  ![v1582.toNat, 0]

def k0_chk419 (v1580 : BitVec 32) : Prop :=
  (8 ∣ (k0_mult419 v1580).toNat) ∧
  (∀ a, (k0_off839 v1580) a + S8x128.size a ≤ S16384x128.size a)
theorem k0_mult419_dvd : ∀ (v1580 : BitVec 32) (k0_hw419 : k0_chk419 v1580), 8 ∣ (k0_mult419 v1580).toNat := fun v1580 k0_hw419 => k0_hw419.1
theorem k0_off839_inb : ∀ (v1580 : BitVec 32) (k0_hw419 : k0_chk419 v1580), ∀ a, (k0_off839 v1580) a + S8x128.size a ≤ S16384x128.size a := fun v1580 k0_hw419 => k0_hw419.2

def k0_off840 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c162_i32 : BitVec 32 := 162#32
  let v1587 : BitVec 32 := Scalar.addi v128 c162_i32
  let v1588 : Index := Scalar.indexCast v1587
  ![v1588.toNat]
def k0_mult420 (v1589 : BitVec 32) : BitVec 32 :=
  v1589

def k0_off841 (v1589 : BitVec 32) : Fin 2 → Nat :=
  let v1590 : BitVec 32 := v1589
  let v1591 : Index := Scalar.indexCast v1590
  let c0_434 : Index := 0#32
  ![v1591.toNat, 0]

def k0_chk420 (v1589 : BitVec 32) : Prop :=
  (8 ∣ (k0_mult420 v1589).toNat) ∧
  (∀ a, (k0_off841 v1589) a + S8x128.size a ≤ S16384x128.size a)
theorem k0_mult420_dvd : ∀ (v1589 : BitVec 32) (k0_hw420 : k0_chk420 v1589), 8 ∣ (k0_mult420 v1589).toNat := fun v1589 k0_hw420 => k0_hw420.1
theorem k0_off841_inb : ∀ (v1589 : BitVec 32) (k0_hw420 : k0_chk420 v1589), ∀ a, (k0_off841 v1589) a + S8x128.size a ≤ S16384x128.size a := fun v1589 k0_hw420 => k0_hw420.2

def k0_off842 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c163_i32 : BitVec 32 := 163#32
  let v1596 : BitVec 32 := Scalar.addi v128 c163_i32
  let v1597 : Index := Scalar.indexCast v1596
  ![v1597.toNat]
def k0_mult421 (v1598 : BitVec 32) : BitVec 32 :=
  v1598

def k0_off843 (v1598 : BitVec 32) : Fin 2 → Nat :=
  let v1599 : BitVec 32 := v1598
  let v1600 : Index := Scalar.indexCast v1599
  let c0_436 : Index := 0#32
  ![v1600.toNat, 0]

def k0_chk421 (v1598 : BitVec 32) : Prop :=
  (8 ∣ (k0_mult421 v1598).toNat) ∧
  (∀ a, (k0_off843 v1598) a + S8x128.size a ≤ S16384x128.size a)
theorem k0_mult421_dvd : ∀ (v1598 : BitVec 32) (k0_hw421 : k0_chk421 v1598), 8 ∣ (k0_mult421 v1598).toNat := fun v1598 k0_hw421 => k0_hw421.1
theorem k0_off843_inb : ∀ (v1598 : BitVec 32) (k0_hw421 : k0_chk421 v1598), ∀ a, (k0_off843 v1598) a + S8x128.size a ≤ S16384x128.size a := fun v1598 k0_hw421 => k0_hw421.2

def k0_off844 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c164_i32 : BitVec 32 := 164#32
  let v1605 : BitVec 32 := Scalar.addi v128 c164_i32
  let v1606 : Index := Scalar.indexCast v1605
  ![v1606.toNat]
def k0_mult422 (v1607 : BitVec 32) : BitVec 32 :=
  v1607

def k0_off845 (v1607 : BitVec 32) : Fin 2 → Nat :=
  let v1608 : BitVec 32 := v1607
  let v1609 : Index := Scalar.indexCast v1608
  let c0_438 : Index := 0#32
  ![v1609.toNat, 0]

def k0_chk422 (v1607 : BitVec 32) : Prop :=
  (8 ∣ (k0_mult422 v1607).toNat) ∧
  (∀ a, (k0_off845 v1607) a + S8x128.size a ≤ S16384x128.size a)
theorem k0_mult422_dvd : ∀ (v1607 : BitVec 32) (k0_hw422 : k0_chk422 v1607), 8 ∣ (k0_mult422 v1607).toNat := fun v1607 k0_hw422 => k0_hw422.1
theorem k0_off845_inb : ∀ (v1607 : BitVec 32) (k0_hw422 : k0_chk422 v1607), ∀ a, (k0_off845 v1607) a + S8x128.size a ≤ S16384x128.size a := fun v1607 k0_hw422 => k0_hw422.2

def k0_off846 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c165_i32 : BitVec 32 := 165#32
  let v1614 : BitVec 32 := Scalar.addi v128 c165_i32
  let v1615 : Index := Scalar.indexCast v1614
  ![v1615.toNat]
def k0_mult423 (v1616 : BitVec 32) : BitVec 32 :=
  v1616

def k0_off847 (v1616 : BitVec 32) : Fin 2 → Nat :=
  let v1617 : BitVec 32 := v1616
  let v1618 : Index := Scalar.indexCast v1617
  let c0_440 : Index := 0#32
  ![v1618.toNat, 0]

def k0_chk423 (v1616 : BitVec 32) : Prop :=
  (8 ∣ (k0_mult423 v1616).toNat) ∧
  (∀ a, (k0_off847 v1616) a + S8x128.size a ≤ S16384x128.size a)
theorem k0_mult423_dvd : ∀ (v1616 : BitVec 32) (k0_hw423 : k0_chk423 v1616), 8 ∣ (k0_mult423 v1616).toNat := fun v1616 k0_hw423 => k0_hw423.1
theorem k0_off847_inb : ∀ (v1616 : BitVec 32) (k0_hw423 : k0_chk423 v1616), ∀ a, (k0_off847 v1616) a + S8x128.size a ≤ S16384x128.size a := fun v1616 k0_hw423 => k0_hw423.2

def k0_off848 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c166_i32 : BitVec 32 := 166#32
  let v1623 : BitVec 32 := Scalar.addi v128 c166_i32
  let v1624 : Index := Scalar.indexCast v1623
  ![v1624.toNat]
def k0_mult424 (v1625 : BitVec 32) : BitVec 32 :=
  v1625

def k0_off849 (v1625 : BitVec 32) : Fin 2 → Nat :=
  let v1626 : BitVec 32 := v1625
  let v1627 : Index := Scalar.indexCast v1626
  let c0_442 : Index := 0#32
  ![v1627.toNat, 0]

def k0_chk424 (v1625 : BitVec 32) : Prop :=
  (8 ∣ (k0_mult424 v1625).toNat) ∧
  (∀ a, (k0_off849 v1625) a + S8x128.size a ≤ S16384x128.size a)
theorem k0_mult424_dvd : ∀ (v1625 : BitVec 32) (k0_hw424 : k0_chk424 v1625), 8 ∣ (k0_mult424 v1625).toNat := fun v1625 k0_hw424 => k0_hw424.1
theorem k0_off849_inb : ∀ (v1625 : BitVec 32) (k0_hw424 : k0_chk424 v1625), ∀ a, (k0_off849 v1625) a + S8x128.size a ≤ S16384x128.size a := fun v1625 k0_hw424 => k0_hw424.2

def k0_off850 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c167_i32 : BitVec 32 := 167#32
  let v1632 : BitVec 32 := Scalar.addi v128 c167_i32
  let v1633 : Index := Scalar.indexCast v1632
  ![v1633.toNat]
def k0_mult425 (v1634 : BitVec 32) : BitVec 32 :=
  v1634

def k0_off851 (v1634 : BitVec 32) : Fin 2 → Nat :=
  let v1635 : BitVec 32 := v1634
  let v1636 : Index := Scalar.indexCast v1635
  let c0_444 : Index := 0#32
  ![v1636.toNat, 0]

def k0_chk425 (v1634 : BitVec 32) : Prop :=
  (8 ∣ (k0_mult425 v1634).toNat) ∧
  (∀ a, (k0_off851 v1634) a + S8x128.size a ≤ S16384x128.size a)
theorem k0_mult425_dvd : ∀ (v1634 : BitVec 32) (k0_hw425 : k0_chk425 v1634), 8 ∣ (k0_mult425 v1634).toNat := fun v1634 k0_hw425 => k0_hw425.1
theorem k0_off851_inb : ∀ (v1634 : BitVec 32) (k0_hw425 : k0_chk425 v1634), ∀ a, (k0_off851 v1634) a + S8x128.size a ≤ S16384x128.size a := fun v1634 k0_hw425 => k0_hw425.2

def k0_off852 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c168_i32 : BitVec 32 := 168#32
  let v1641 : BitVec 32 := Scalar.addi v128 c168_i32
  let v1642 : Index := Scalar.indexCast v1641
  ![v1642.toNat]
def k0_mult426 (v1643 : BitVec 32) : BitVec 32 :=
  v1643

def k0_off853 (v1643 : BitVec 32) : Fin 2 → Nat :=
  let v1644 : BitVec 32 := v1643
  let v1645 : Index := Scalar.indexCast v1644
  let c0_446 : Index := 0#32
  ![v1645.toNat, 0]

def k0_chk426 (v1643 : BitVec 32) : Prop :=
  (8 ∣ (k0_mult426 v1643).toNat) ∧
  (∀ a, (k0_off853 v1643) a + S8x128.size a ≤ S16384x128.size a)
theorem k0_mult426_dvd : ∀ (v1643 : BitVec 32) (k0_hw426 : k0_chk426 v1643), 8 ∣ (k0_mult426 v1643).toNat := fun v1643 k0_hw426 => k0_hw426.1
theorem k0_off853_inb : ∀ (v1643 : BitVec 32) (k0_hw426 : k0_chk426 v1643), ∀ a, (k0_off853 v1643) a + S8x128.size a ≤ S16384x128.size a := fun v1643 k0_hw426 => k0_hw426.2

def k0_off854 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c169_i32 : BitVec 32 := 169#32
  let v1650 : BitVec 32 := Scalar.addi v128 c169_i32
  let v1651 : Index := Scalar.indexCast v1650
  ![v1651.toNat]
def k0_mult427 (v1652 : BitVec 32) : BitVec 32 :=
  v1652

def k0_off855 (v1652 : BitVec 32) : Fin 2 → Nat :=
  let v1653 : BitVec 32 := v1652
  let v1654 : Index := Scalar.indexCast v1653
  let c0_448 : Index := 0#32
  ![v1654.toNat, 0]

def k0_chk427 (v1652 : BitVec 32) : Prop :=
  (8 ∣ (k0_mult427 v1652).toNat) ∧
  (∀ a, (k0_off855 v1652) a + S8x128.size a ≤ S16384x128.size a)
theorem k0_mult427_dvd : ∀ (v1652 : BitVec 32) (k0_hw427 : k0_chk427 v1652), 8 ∣ (k0_mult427 v1652).toNat := fun v1652 k0_hw427 => k0_hw427.1
theorem k0_off855_inb : ∀ (v1652 : BitVec 32) (k0_hw427 : k0_chk427 v1652), ∀ a, (k0_off855 v1652) a + S8x128.size a ≤ S16384x128.size a := fun v1652 k0_hw427 => k0_hw427.2

def k0_off856 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c170_i32 : BitVec 32 := 170#32
  let v1659 : BitVec 32 := Scalar.addi v128 c170_i32
  let v1660 : Index := Scalar.indexCast v1659
  ![v1660.toNat]
def k0_mult428 (v1661 : BitVec 32) : BitVec 32 :=
  v1661

def k0_off857 (v1661 : BitVec 32) : Fin 2 → Nat :=
  let v1662 : BitVec 32 := v1661
  let v1663 : Index := Scalar.indexCast v1662
  let c0_450 : Index := 0#32
  ![v1663.toNat, 0]

def k0_chk428 (v1661 : BitVec 32) : Prop :=
  (8 ∣ (k0_mult428 v1661).toNat) ∧
  (∀ a, (k0_off857 v1661) a + S8x128.size a ≤ S16384x128.size a)
theorem k0_mult428_dvd : ∀ (v1661 : BitVec 32) (k0_hw428 : k0_chk428 v1661), 8 ∣ (k0_mult428 v1661).toNat := fun v1661 k0_hw428 => k0_hw428.1
theorem k0_off857_inb : ∀ (v1661 : BitVec 32) (k0_hw428 : k0_chk428 v1661), ∀ a, (k0_off857 v1661) a + S8x128.size a ≤ S16384x128.size a := fun v1661 k0_hw428 => k0_hw428.2

def k0_off858 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c171_i32 : BitVec 32 := 171#32
  let v1668 : BitVec 32 := Scalar.addi v128 c171_i32
  let v1669 : Index := Scalar.indexCast v1668
  ![v1669.toNat]
def k0_mult429 (v1670 : BitVec 32) : BitVec 32 :=
  v1670

def k0_off859 (v1670 : BitVec 32) : Fin 2 → Nat :=
  let v1671 : BitVec 32 := v1670
  let v1672 : Index := Scalar.indexCast v1671
  let c0_452 : Index := 0#32
  ![v1672.toNat, 0]

def k0_chk429 (v1670 : BitVec 32) : Prop :=
  (8 ∣ (k0_mult429 v1670).toNat) ∧
  (∀ a, (k0_off859 v1670) a + S8x128.size a ≤ S16384x128.size a)
theorem k0_mult429_dvd : ∀ (v1670 : BitVec 32) (k0_hw429 : k0_chk429 v1670), 8 ∣ (k0_mult429 v1670).toNat := fun v1670 k0_hw429 => k0_hw429.1
theorem k0_off859_inb : ∀ (v1670 : BitVec 32) (k0_hw429 : k0_chk429 v1670), ∀ a, (k0_off859 v1670) a + S8x128.size a ≤ S16384x128.size a := fun v1670 k0_hw429 => k0_hw429.2

def k0_off860 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c172_i32 : BitVec 32 := 172#32
  let v1677 : BitVec 32 := Scalar.addi v128 c172_i32
  let v1678 : Index := Scalar.indexCast v1677
  ![v1678.toNat]
def k0_mult430 (v1679 : BitVec 32) : BitVec 32 :=
  v1679

def k0_off861 (v1679 : BitVec 32) : Fin 2 → Nat :=
  let v1680 : BitVec 32 := v1679
  let v1681 : Index := Scalar.indexCast v1680
  let c0_454 : Index := 0#32
  ![v1681.toNat, 0]

def k0_chk430 (v1679 : BitVec 32) : Prop :=
  (8 ∣ (k0_mult430 v1679).toNat) ∧
  (∀ a, (k0_off861 v1679) a + S8x128.size a ≤ S16384x128.size a)
theorem k0_mult430_dvd : ∀ (v1679 : BitVec 32) (k0_hw430 : k0_chk430 v1679), 8 ∣ (k0_mult430 v1679).toNat := fun v1679 k0_hw430 => k0_hw430.1
theorem k0_off861_inb : ∀ (v1679 : BitVec 32) (k0_hw430 : k0_chk430 v1679), ∀ a, (k0_off861 v1679) a + S8x128.size a ≤ S16384x128.size a := fun v1679 k0_hw430 => k0_hw430.2

def k0_off862 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c173_i32 : BitVec 32 := 173#32
  let v1686 : BitVec 32 := Scalar.addi v128 c173_i32
  let v1687 : Index := Scalar.indexCast v1686
  ![v1687.toNat]
def k0_mult431 (v1688 : BitVec 32) : BitVec 32 :=
  v1688

def k0_off863 (v1688 : BitVec 32) : Fin 2 → Nat :=
  let v1689 : BitVec 32 := v1688
  let v1690 : Index := Scalar.indexCast v1689
  let c0_456 : Index := 0#32
  ![v1690.toNat, 0]

def k0_chk431 (v1688 : BitVec 32) : Prop :=
  (8 ∣ (k0_mult431 v1688).toNat) ∧
  (∀ a, (k0_off863 v1688) a + S8x128.size a ≤ S16384x128.size a)
theorem k0_mult431_dvd : ∀ (v1688 : BitVec 32) (k0_hw431 : k0_chk431 v1688), 8 ∣ (k0_mult431 v1688).toNat := fun v1688 k0_hw431 => k0_hw431.1
theorem k0_off863_inb : ∀ (v1688 : BitVec 32) (k0_hw431 : k0_chk431 v1688), ∀ a, (k0_off863 v1688) a + S8x128.size a ≤ S16384x128.size a := fun v1688 k0_hw431 => k0_hw431.2

def k0_off864 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c174_i32 : BitVec 32 := 174#32
  let v1695 : BitVec 32 := Scalar.addi v128 c174_i32
  let v1696 : Index := Scalar.indexCast v1695
  ![v1696.toNat]
def k0_mult432 (v1697 : BitVec 32) : BitVec 32 :=
  v1697

def k0_off865 (v1697 : BitVec 32) : Fin 2 → Nat :=
  let v1698 : BitVec 32 := v1697
  let v1699 : Index := Scalar.indexCast v1698
  let c0_458 : Index := 0#32
  ![v1699.toNat, 0]

def k0_chk432 (v1697 : BitVec 32) : Prop :=
  (8 ∣ (k0_mult432 v1697).toNat) ∧
  (∀ a, (k0_off865 v1697) a + S8x128.size a ≤ S16384x128.size a)
theorem k0_mult432_dvd : ∀ (v1697 : BitVec 32) (k0_hw432 : k0_chk432 v1697), 8 ∣ (k0_mult432 v1697).toNat := fun v1697 k0_hw432 => k0_hw432.1
theorem k0_off865_inb : ∀ (v1697 : BitVec 32) (k0_hw432 : k0_chk432 v1697), ∀ a, (k0_off865 v1697) a + S8x128.size a ≤ S16384x128.size a := fun v1697 k0_hw432 => k0_hw432.2

def k0_off866 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c175_i32 : BitVec 32 := 175#32
  let v1704 : BitVec 32 := Scalar.addi v128 c175_i32
  let v1705 : Index := Scalar.indexCast v1704
  ![v1705.toNat]
def k0_mult433 (v1706 : BitVec 32) : BitVec 32 :=
  v1706

def k0_off867 (v1706 : BitVec 32) : Fin 2 → Nat :=
  let v1707 : BitVec 32 := v1706
  let v1708 : Index := Scalar.indexCast v1707
  let c0_460 : Index := 0#32
  ![v1708.toNat, 0]

def k0_chk433 (v1706 : BitVec 32) : Prop :=
  (8 ∣ (k0_mult433 v1706).toNat) ∧
  (∀ a, (k0_off867 v1706) a + S8x128.size a ≤ S16384x128.size a)
theorem k0_mult433_dvd : ∀ (v1706 : BitVec 32) (k0_hw433 : k0_chk433 v1706), 8 ∣ (k0_mult433 v1706).toNat := fun v1706 k0_hw433 => k0_hw433.1
theorem k0_off867_inb : ∀ (v1706 : BitVec 32) (k0_hw433 : k0_chk433 v1706), ∀ a, (k0_off867 v1706) a + S8x128.size a ≤ S16384x128.size a := fun v1706 k0_hw433 => k0_hw433.2

def k0_off868 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c176_i32 : BitVec 32 := 176#32
  let v1713 : BitVec 32 := Scalar.addi v128 c176_i32
  let v1714 : Index := Scalar.indexCast v1713
  ![v1714.toNat]
def k0_mult434 (v1715 : BitVec 32) : BitVec 32 :=
  v1715

def k0_off869 (v1715 : BitVec 32) : Fin 2 → Nat :=
  let v1716 : BitVec 32 := v1715
  let v1717 : Index := Scalar.indexCast v1716
  let c0_462 : Index := 0#32
  ![v1717.toNat, 0]

def k0_chk434 (v1715 : BitVec 32) : Prop :=
  (8 ∣ (k0_mult434 v1715).toNat) ∧
  (∀ a, (k0_off869 v1715) a + S8x128.size a ≤ S16384x128.size a)
theorem k0_mult434_dvd : ∀ (v1715 : BitVec 32) (k0_hw434 : k0_chk434 v1715), 8 ∣ (k0_mult434 v1715).toNat := fun v1715 k0_hw434 => k0_hw434.1
theorem k0_off869_inb : ∀ (v1715 : BitVec 32) (k0_hw434 : k0_chk434 v1715), ∀ a, (k0_off869 v1715) a + S8x128.size a ≤ S16384x128.size a := fun v1715 k0_hw434 => k0_hw434.2

def k0_off870 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c177_i32 : BitVec 32 := 177#32
  let v1722 : BitVec 32 := Scalar.addi v128 c177_i32
  let v1723 : Index := Scalar.indexCast v1722
  ![v1723.toNat]
def k0_mult435 (v1724 : BitVec 32) : BitVec 32 :=
  v1724

def k0_off871 (v1724 : BitVec 32) : Fin 2 → Nat :=
  let v1725 : BitVec 32 := v1724
  let v1726 : Index := Scalar.indexCast v1725
  let c0_464 : Index := 0#32
  ![v1726.toNat, 0]

def k0_chk435 (v1724 : BitVec 32) : Prop :=
  (8 ∣ (k0_mult435 v1724).toNat) ∧
  (∀ a, (k0_off871 v1724) a + S8x128.size a ≤ S16384x128.size a)
theorem k0_mult435_dvd : ∀ (v1724 : BitVec 32) (k0_hw435 : k0_chk435 v1724), 8 ∣ (k0_mult435 v1724).toNat := fun v1724 k0_hw435 => k0_hw435.1
theorem k0_off871_inb : ∀ (v1724 : BitVec 32) (k0_hw435 : k0_chk435 v1724), ∀ a, (k0_off871 v1724) a + S8x128.size a ≤ S16384x128.size a := fun v1724 k0_hw435 => k0_hw435.2

def k0_off872 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c178_i32 : BitVec 32 := 178#32
  let v1731 : BitVec 32 := Scalar.addi v128 c178_i32
  let v1732 : Index := Scalar.indexCast v1731
  ![v1732.toNat]
def k0_mult436 (v1733 : BitVec 32) : BitVec 32 :=
  v1733

def k0_off873 (v1733 : BitVec 32) : Fin 2 → Nat :=
  let v1734 : BitVec 32 := v1733
  let v1735 : Index := Scalar.indexCast v1734
  let c0_466 : Index := 0#32
  ![v1735.toNat, 0]

def k0_chk436 (v1733 : BitVec 32) : Prop :=
  (8 ∣ (k0_mult436 v1733).toNat) ∧
  (∀ a, (k0_off873 v1733) a + S8x128.size a ≤ S16384x128.size a)
theorem k0_mult436_dvd : ∀ (v1733 : BitVec 32) (k0_hw436 : k0_chk436 v1733), 8 ∣ (k0_mult436 v1733).toNat := fun v1733 k0_hw436 => k0_hw436.1
theorem k0_off873_inb : ∀ (v1733 : BitVec 32) (k0_hw436 : k0_chk436 v1733), ∀ a, (k0_off873 v1733) a + S8x128.size a ≤ S16384x128.size a := fun v1733 k0_hw436 => k0_hw436.2

def k0_off874 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c179_i32 : BitVec 32 := 179#32
  let v1740 : BitVec 32 := Scalar.addi v128 c179_i32
  let v1741 : Index := Scalar.indexCast v1740
  ![v1741.toNat]
def k0_mult437 (v1742 : BitVec 32) : BitVec 32 :=
  v1742

def k0_off875 (v1742 : BitVec 32) : Fin 2 → Nat :=
  let v1743 : BitVec 32 := v1742
  let v1744 : Index := Scalar.indexCast v1743
  let c0_468 : Index := 0#32
  ![v1744.toNat, 0]

def k0_chk437 (v1742 : BitVec 32) : Prop :=
  (8 ∣ (k0_mult437 v1742).toNat) ∧
  (∀ a, (k0_off875 v1742) a + S8x128.size a ≤ S16384x128.size a)
theorem k0_mult437_dvd : ∀ (v1742 : BitVec 32) (k0_hw437 : k0_chk437 v1742), 8 ∣ (k0_mult437 v1742).toNat := fun v1742 k0_hw437 => k0_hw437.1
theorem k0_off875_inb : ∀ (v1742 : BitVec 32) (k0_hw437 : k0_chk437 v1742), ∀ a, (k0_off875 v1742) a + S8x128.size a ≤ S16384x128.size a := fun v1742 k0_hw437 => k0_hw437.2

def k0_off876 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c180_i32 : BitVec 32 := 180#32
  let v1749 : BitVec 32 := Scalar.addi v128 c180_i32
  let v1750 : Index := Scalar.indexCast v1749
  ![v1750.toNat]
def k0_mult438 (v1751 : BitVec 32) : BitVec 32 :=
  v1751

def k0_off877 (v1751 : BitVec 32) : Fin 2 → Nat :=
  let v1752 : BitVec 32 := v1751
  let v1753 : Index := Scalar.indexCast v1752
  let c0_470 : Index := 0#32
  ![v1753.toNat, 0]

def k0_chk438 (v1751 : BitVec 32) : Prop :=
  (8 ∣ (k0_mult438 v1751).toNat) ∧
  (∀ a, (k0_off877 v1751) a + S8x128.size a ≤ S16384x128.size a)
theorem k0_mult438_dvd : ∀ (v1751 : BitVec 32) (k0_hw438 : k0_chk438 v1751), 8 ∣ (k0_mult438 v1751).toNat := fun v1751 k0_hw438 => k0_hw438.1
theorem k0_off877_inb : ∀ (v1751 : BitVec 32) (k0_hw438 : k0_chk438 v1751), ∀ a, (k0_off877 v1751) a + S8x128.size a ≤ S16384x128.size a := fun v1751 k0_hw438 => k0_hw438.2

def k0_off878 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c181_i32 : BitVec 32 := 181#32
  let v1758 : BitVec 32 := Scalar.addi v128 c181_i32
  let v1759 : Index := Scalar.indexCast v1758
  ![v1759.toNat]
def k0_mult439 (v1760 : BitVec 32) : BitVec 32 :=
  v1760

def k0_off879 (v1760 : BitVec 32) : Fin 2 → Nat :=
  let v1761 : BitVec 32 := v1760
  let v1762 : Index := Scalar.indexCast v1761
  let c0_472 : Index := 0#32
  ![v1762.toNat, 0]

def k0_chk439 (v1760 : BitVec 32) : Prop :=
  (8 ∣ (k0_mult439 v1760).toNat) ∧
  (∀ a, (k0_off879 v1760) a + S8x128.size a ≤ S16384x128.size a)
theorem k0_mult439_dvd : ∀ (v1760 : BitVec 32) (k0_hw439 : k0_chk439 v1760), 8 ∣ (k0_mult439 v1760).toNat := fun v1760 k0_hw439 => k0_hw439.1
theorem k0_off879_inb : ∀ (v1760 : BitVec 32) (k0_hw439 : k0_chk439 v1760), ∀ a, (k0_off879 v1760) a + S8x128.size a ≤ S16384x128.size a := fun v1760 k0_hw439 => k0_hw439.2

def k0_off880 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c182_i32 : BitVec 32 := 182#32
  let v1767 : BitVec 32 := Scalar.addi v128 c182_i32
  let v1768 : Index := Scalar.indexCast v1767
  ![v1768.toNat]
def k0_mult440 (v1769 : BitVec 32) : BitVec 32 :=
  v1769

def k0_off881 (v1769 : BitVec 32) : Fin 2 → Nat :=
  let v1770 : BitVec 32 := v1769
  let v1771 : Index := Scalar.indexCast v1770
  let c0_474 : Index := 0#32
  ![v1771.toNat, 0]

def k0_chk440 (v1769 : BitVec 32) : Prop :=
  (8 ∣ (k0_mult440 v1769).toNat) ∧
  (∀ a, (k0_off881 v1769) a + S8x128.size a ≤ S16384x128.size a)
theorem k0_mult440_dvd : ∀ (v1769 : BitVec 32) (k0_hw440 : k0_chk440 v1769), 8 ∣ (k0_mult440 v1769).toNat := fun v1769 k0_hw440 => k0_hw440.1
theorem k0_off881_inb : ∀ (v1769 : BitVec 32) (k0_hw440 : k0_chk440 v1769), ∀ a, (k0_off881 v1769) a + S8x128.size a ≤ S16384x128.size a := fun v1769 k0_hw440 => k0_hw440.2

def k0_off882 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c183_i32 : BitVec 32 := 183#32
  let v1776 : BitVec 32 := Scalar.addi v128 c183_i32
  let v1777 : Index := Scalar.indexCast v1776
  ![v1777.toNat]
def k0_mult441 (v1778 : BitVec 32) : BitVec 32 :=
  v1778

def k0_off883 (v1778 : BitVec 32) : Fin 2 → Nat :=
  let v1779 : BitVec 32 := v1778
  let v1780 : Index := Scalar.indexCast v1779
  let c0_476 : Index := 0#32
  ![v1780.toNat, 0]

def k0_chk441 (v1778 : BitVec 32) : Prop :=
  (8 ∣ (k0_mult441 v1778).toNat) ∧
  (∀ a, (k0_off883 v1778) a + S8x128.size a ≤ S16384x128.size a)
theorem k0_mult441_dvd : ∀ (v1778 : BitVec 32) (k0_hw441 : k0_chk441 v1778), 8 ∣ (k0_mult441 v1778).toNat := fun v1778 k0_hw441 => k0_hw441.1
theorem k0_off883_inb : ∀ (v1778 : BitVec 32) (k0_hw441 : k0_chk441 v1778), ∀ a, (k0_off883 v1778) a + S8x128.size a ≤ S16384x128.size a := fun v1778 k0_hw441 => k0_hw441.2

def k0_off884 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c184_i32 : BitVec 32 := 184#32
  let v1785 : BitVec 32 := Scalar.addi v128 c184_i32
  let v1786 : Index := Scalar.indexCast v1785
  ![v1786.toNat]
def k0_mult442 (v1787 : BitVec 32) : BitVec 32 :=
  v1787

def k0_off885 (v1787 : BitVec 32) : Fin 2 → Nat :=
  let v1788 : BitVec 32 := v1787
  let v1789 : Index := Scalar.indexCast v1788
  let c0_478 : Index := 0#32
  ![v1789.toNat, 0]

def k0_chk442 (v1787 : BitVec 32) : Prop :=
  (8 ∣ (k0_mult442 v1787).toNat) ∧
  (∀ a, (k0_off885 v1787) a + S8x128.size a ≤ S16384x128.size a)
theorem k0_mult442_dvd : ∀ (v1787 : BitVec 32) (k0_hw442 : k0_chk442 v1787), 8 ∣ (k0_mult442 v1787).toNat := fun v1787 k0_hw442 => k0_hw442.1
theorem k0_off885_inb : ∀ (v1787 : BitVec 32) (k0_hw442 : k0_chk442 v1787), ∀ a, (k0_off885 v1787) a + S8x128.size a ≤ S16384x128.size a := fun v1787 k0_hw442 => k0_hw442.2

def k0_off886 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c185_i32 : BitVec 32 := 185#32
  let v1794 : BitVec 32 := Scalar.addi v128 c185_i32
  let v1795 : Index := Scalar.indexCast v1794
  ![v1795.toNat]
def k0_mult443 (v1796 : BitVec 32) : BitVec 32 :=
  v1796

def k0_off887 (v1796 : BitVec 32) : Fin 2 → Nat :=
  let v1797 : BitVec 32 := v1796
  let v1798 : Index := Scalar.indexCast v1797
  let c0_480 : Index := 0#32
  ![v1798.toNat, 0]

def k0_chk443 (v1796 : BitVec 32) : Prop :=
  (8 ∣ (k0_mult443 v1796).toNat) ∧
  (∀ a, (k0_off887 v1796) a + S8x128.size a ≤ S16384x128.size a)
theorem k0_mult443_dvd : ∀ (v1796 : BitVec 32) (k0_hw443 : k0_chk443 v1796), 8 ∣ (k0_mult443 v1796).toNat := fun v1796 k0_hw443 => k0_hw443.1
theorem k0_off887_inb : ∀ (v1796 : BitVec 32) (k0_hw443 : k0_chk443 v1796), ∀ a, (k0_off887 v1796) a + S8x128.size a ≤ S16384x128.size a := fun v1796 k0_hw443 => k0_hw443.2

def k0_off888 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c186_i32 : BitVec 32 := 186#32
  let v1803 : BitVec 32 := Scalar.addi v128 c186_i32
  let v1804 : Index := Scalar.indexCast v1803
  ![v1804.toNat]
def k0_mult444 (v1805 : BitVec 32) : BitVec 32 :=
  v1805

def k0_off889 (v1805 : BitVec 32) : Fin 2 → Nat :=
  let v1806 : BitVec 32 := v1805
  let v1807 : Index := Scalar.indexCast v1806
  let c0_482 : Index := 0#32
  ![v1807.toNat, 0]

def k0_chk444 (v1805 : BitVec 32) : Prop :=
  (8 ∣ (k0_mult444 v1805).toNat) ∧
  (∀ a, (k0_off889 v1805) a + S8x128.size a ≤ S16384x128.size a)
theorem k0_mult444_dvd : ∀ (v1805 : BitVec 32) (k0_hw444 : k0_chk444 v1805), 8 ∣ (k0_mult444 v1805).toNat := fun v1805 k0_hw444 => k0_hw444.1
theorem k0_off889_inb : ∀ (v1805 : BitVec 32) (k0_hw444 : k0_chk444 v1805), ∀ a, (k0_off889 v1805) a + S8x128.size a ≤ S16384x128.size a := fun v1805 k0_hw444 => k0_hw444.2

def k0_off890 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c187_i32 : BitVec 32 := 187#32
  let v1812 : BitVec 32 := Scalar.addi v128 c187_i32
  let v1813 : Index := Scalar.indexCast v1812
  ![v1813.toNat]
def k0_mult445 (v1814 : BitVec 32) : BitVec 32 :=
  v1814

def k0_off891 (v1814 : BitVec 32) : Fin 2 → Nat :=
  let v1815 : BitVec 32 := v1814
  let v1816 : Index := Scalar.indexCast v1815
  let c0_484 : Index := 0#32
  ![v1816.toNat, 0]

def k0_chk445 (v1814 : BitVec 32) : Prop :=
  (8 ∣ (k0_mult445 v1814).toNat) ∧
  (∀ a, (k0_off891 v1814) a + S8x128.size a ≤ S16384x128.size a)
theorem k0_mult445_dvd : ∀ (v1814 : BitVec 32) (k0_hw445 : k0_chk445 v1814), 8 ∣ (k0_mult445 v1814).toNat := fun v1814 k0_hw445 => k0_hw445.1
theorem k0_off891_inb : ∀ (v1814 : BitVec 32) (k0_hw445 : k0_chk445 v1814), ∀ a, (k0_off891 v1814) a + S8x128.size a ≤ S16384x128.size a := fun v1814 k0_hw445 => k0_hw445.2

def k0_off892 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c188_i32 : BitVec 32 := 188#32
  let v1821 : BitVec 32 := Scalar.addi v128 c188_i32
  let v1822 : Index := Scalar.indexCast v1821
  ![v1822.toNat]
def k0_mult446 (v1823 : BitVec 32) : BitVec 32 :=
  v1823

def k0_off893 (v1823 : BitVec 32) : Fin 2 → Nat :=
  let v1824 : BitVec 32 := v1823
  let v1825 : Index := Scalar.indexCast v1824
  let c0_486 : Index := 0#32
  ![v1825.toNat, 0]

def k0_chk446 (v1823 : BitVec 32) : Prop :=
  (8 ∣ (k0_mult446 v1823).toNat) ∧
  (∀ a, (k0_off893 v1823) a + S8x128.size a ≤ S16384x128.size a)
theorem k0_mult446_dvd : ∀ (v1823 : BitVec 32) (k0_hw446 : k0_chk446 v1823), 8 ∣ (k0_mult446 v1823).toNat := fun v1823 k0_hw446 => k0_hw446.1
theorem k0_off893_inb : ∀ (v1823 : BitVec 32) (k0_hw446 : k0_chk446 v1823), ∀ a, (k0_off893 v1823) a + S8x128.size a ≤ S16384x128.size a := fun v1823 k0_hw446 => k0_hw446.2

def k0_off894 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c189_i32 : BitVec 32 := 189#32
  let v1830 : BitVec 32 := Scalar.addi v128 c189_i32
  let v1831 : Index := Scalar.indexCast v1830
  ![v1831.toNat]
def k0_mult447 (v1832 : BitVec 32) : BitVec 32 :=
  v1832

def k0_off895 (v1832 : BitVec 32) : Fin 2 → Nat :=
  let v1833 : BitVec 32 := v1832
  let v1834 : Index := Scalar.indexCast v1833
  let c0_488 : Index := 0#32
  ![v1834.toNat, 0]

def k0_chk447 (v1832 : BitVec 32) : Prop :=
  (8 ∣ (k0_mult447 v1832).toNat) ∧
  (∀ a, (k0_off895 v1832) a + S8x128.size a ≤ S16384x128.size a)
theorem k0_mult447_dvd : ∀ (v1832 : BitVec 32) (k0_hw447 : k0_chk447 v1832), 8 ∣ (k0_mult447 v1832).toNat := fun v1832 k0_hw447 => k0_hw447.1
theorem k0_off895_inb : ∀ (v1832 : BitVec 32) (k0_hw447 : k0_chk447 v1832), ∀ a, (k0_off895 v1832) a + S8x128.size a ≤ S16384x128.size a := fun v1832 k0_hw447 => k0_hw447.2

def k0_off896 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c190_i32 : BitVec 32 := 190#32
  let v1839 : BitVec 32 := Scalar.addi v128 c190_i32
  let v1840 : Index := Scalar.indexCast v1839
  ![v1840.toNat]
def k0_mult448 (v1841 : BitVec 32) : BitVec 32 :=
  v1841

def k0_off897 (v1841 : BitVec 32) : Fin 2 → Nat :=
  let v1842 : BitVec 32 := v1841
  let v1843 : Index := Scalar.indexCast v1842
  let c0_490 : Index := 0#32
  ![v1843.toNat, 0]

def k0_chk448 (v1841 : BitVec 32) : Prop :=
  (8 ∣ (k0_mult448 v1841).toNat) ∧
  (∀ a, (k0_off897 v1841) a + S8x128.size a ≤ S16384x128.size a)
theorem k0_mult448_dvd : ∀ (v1841 : BitVec 32) (k0_hw448 : k0_chk448 v1841), 8 ∣ (k0_mult448 v1841).toNat := fun v1841 k0_hw448 => k0_hw448.1
theorem k0_off897_inb : ∀ (v1841 : BitVec 32) (k0_hw448 : k0_chk448 v1841), ∀ a, (k0_off897 v1841) a + S8x128.size a ≤ S16384x128.size a := fun v1841 k0_hw448 => k0_hw448.2

def k0_off898 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c191_i32 : BitVec 32 := 191#32
  let v1848 : BitVec 32 := Scalar.addi v128 c191_i32
  let v1849 : Index := Scalar.indexCast v1848
  ![v1849.toNat]
def k0_mult449 (v1850 : BitVec 32) : BitVec 32 :=
  v1850

def k0_off899 (v1850 : BitVec 32) : Fin 2 → Nat :=
  let v1851 : BitVec 32 := v1850
  let v1852 : Index := Scalar.indexCast v1851
  let c0_492 : Index := 0#32
  ![v1852.toNat, 0]

def k0_chk449 (v1850 : BitVec 32) : Prop :=
  (8 ∣ (k0_mult449 v1850).toNat) ∧
  (∀ a, (k0_off899 v1850) a + S8x128.size a ≤ S16384x128.size a)
theorem k0_mult449_dvd : ∀ (v1850 : BitVec 32) (k0_hw449 : k0_chk449 v1850), 8 ∣ (k0_mult449 v1850).toNat := fun v1850 k0_hw449 => k0_hw449.1
theorem k0_off899_inb : ∀ (v1850 : BitVec 32) (k0_hw449 : k0_chk449 v1850), ∀ a, (k0_off899 v1850) a + S8x128.size a ≤ S16384x128.size a := fun v1850 k0_hw449 => k0_hw449.2

def k0_off900 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c192_i32 : BitVec 32 := 192#32
  let v1857 : BitVec 32 := Scalar.addi v128 c192_i32
  let v1858 : Index := Scalar.indexCast v1857
  ![v1858.toNat]
def k0_mult450 (v1859 : BitVec 32) : BitVec 32 :=
  v1859

def k0_off901 (v1859 : BitVec 32) : Fin 2 → Nat :=
  let v1860 : BitVec 32 := v1859
  let v1861 : Index := Scalar.indexCast v1860
  let c0_494 : Index := 0#32
  ![v1861.toNat, 0]

def k0_chk450 (v1859 : BitVec 32) : Prop :=
  (8 ∣ (k0_mult450 v1859).toNat) ∧
  (∀ a, (k0_off901 v1859) a + S8x128.size a ≤ S16384x128.size a)
theorem k0_mult450_dvd : ∀ (v1859 : BitVec 32) (k0_hw450 : k0_chk450 v1859), 8 ∣ (k0_mult450 v1859).toNat := fun v1859 k0_hw450 => k0_hw450.1
theorem k0_off901_inb : ∀ (v1859 : BitVec 32) (k0_hw450 : k0_chk450 v1859), ∀ a, (k0_off901 v1859) a + S8x128.size a ≤ S16384x128.size a := fun v1859 k0_hw450 => k0_hw450.2

def k0_off902 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c193_i32 : BitVec 32 := 193#32
  let v1866 : BitVec 32 := Scalar.addi v128 c193_i32
  let v1867 : Index := Scalar.indexCast v1866
  ![v1867.toNat]
def k0_mult451 (v1868 : BitVec 32) : BitVec 32 :=
  v1868

def k0_off903 (v1868 : BitVec 32) : Fin 2 → Nat :=
  let v1869 : BitVec 32 := v1868
  let v1870 : Index := Scalar.indexCast v1869
  let c0_496 : Index := 0#32
  ![v1870.toNat, 0]

def k0_chk451 (v1868 : BitVec 32) : Prop :=
  (8 ∣ (k0_mult451 v1868).toNat) ∧
  (∀ a, (k0_off903 v1868) a + S8x128.size a ≤ S16384x128.size a)
theorem k0_mult451_dvd : ∀ (v1868 : BitVec 32) (k0_hw451 : k0_chk451 v1868), 8 ∣ (k0_mult451 v1868).toNat := fun v1868 k0_hw451 => k0_hw451.1
theorem k0_off903_inb : ∀ (v1868 : BitVec 32) (k0_hw451 : k0_chk451 v1868), ∀ a, (k0_off903 v1868) a + S8x128.size a ≤ S16384x128.size a := fun v1868 k0_hw451 => k0_hw451.2

def k0_off904 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c194_i32 : BitVec 32 := 194#32
  let v1875 : BitVec 32 := Scalar.addi v128 c194_i32
  let v1876 : Index := Scalar.indexCast v1875
  ![v1876.toNat]
def k0_mult452 (v1877 : BitVec 32) : BitVec 32 :=
  v1877

def k0_off905 (v1877 : BitVec 32) : Fin 2 → Nat :=
  let v1878 : BitVec 32 := v1877
  let v1879 : Index := Scalar.indexCast v1878
  let c0_498 : Index := 0#32
  ![v1879.toNat, 0]

def k0_chk452 (v1877 : BitVec 32) : Prop :=
  (8 ∣ (k0_mult452 v1877).toNat) ∧
  (∀ a, (k0_off905 v1877) a + S8x128.size a ≤ S16384x128.size a)
theorem k0_mult452_dvd : ∀ (v1877 : BitVec 32) (k0_hw452 : k0_chk452 v1877), 8 ∣ (k0_mult452 v1877).toNat := fun v1877 k0_hw452 => k0_hw452.1
theorem k0_off905_inb : ∀ (v1877 : BitVec 32) (k0_hw452 : k0_chk452 v1877), ∀ a, (k0_off905 v1877) a + S8x128.size a ≤ S16384x128.size a := fun v1877 k0_hw452 => k0_hw452.2

def k0_off906 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c195_i32 : BitVec 32 := 195#32
  let v1884 : BitVec 32 := Scalar.addi v128 c195_i32
  let v1885 : Index := Scalar.indexCast v1884
  ![v1885.toNat]
def k0_mult453 (v1886 : BitVec 32) : BitVec 32 :=
  v1886

def k0_off907 (v1886 : BitVec 32) : Fin 2 → Nat :=
  let v1887 : BitVec 32 := v1886
  let v1888 : Index := Scalar.indexCast v1887
  let c0_500 : Index := 0#32
  ![v1888.toNat, 0]

def k0_chk453 (v1886 : BitVec 32) : Prop :=
  (8 ∣ (k0_mult453 v1886).toNat) ∧
  (∀ a, (k0_off907 v1886) a + S8x128.size a ≤ S16384x128.size a)
theorem k0_mult453_dvd : ∀ (v1886 : BitVec 32) (k0_hw453 : k0_chk453 v1886), 8 ∣ (k0_mult453 v1886).toNat := fun v1886 k0_hw453 => k0_hw453.1
theorem k0_off907_inb : ∀ (v1886 : BitVec 32) (k0_hw453 : k0_chk453 v1886), ∀ a, (k0_off907 v1886) a + S8x128.size a ≤ S16384x128.size a := fun v1886 k0_hw453 => k0_hw453.2

def k0_off908 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c196_i32 : BitVec 32 := 196#32
  let v1893 : BitVec 32 := Scalar.addi v128 c196_i32
  let v1894 : Index := Scalar.indexCast v1893
  ![v1894.toNat]
def k0_mult454 (v1895 : BitVec 32) : BitVec 32 :=
  v1895

def k0_off909 (v1895 : BitVec 32) : Fin 2 → Nat :=
  let v1896 : BitVec 32 := v1895
  let v1897 : Index := Scalar.indexCast v1896
  let c0_502 : Index := 0#32
  ![v1897.toNat, 0]

def k0_chk454 (v1895 : BitVec 32) : Prop :=
  (8 ∣ (k0_mult454 v1895).toNat) ∧
  (∀ a, (k0_off909 v1895) a + S8x128.size a ≤ S16384x128.size a)
theorem k0_mult454_dvd : ∀ (v1895 : BitVec 32) (k0_hw454 : k0_chk454 v1895), 8 ∣ (k0_mult454 v1895).toNat := fun v1895 k0_hw454 => k0_hw454.1
theorem k0_off909_inb : ∀ (v1895 : BitVec 32) (k0_hw454 : k0_chk454 v1895), ∀ a, (k0_off909 v1895) a + S8x128.size a ≤ S16384x128.size a := fun v1895 k0_hw454 => k0_hw454.2

def k0_off910 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c197_i32 : BitVec 32 := 197#32
  let v1902 : BitVec 32 := Scalar.addi v128 c197_i32
  let v1903 : Index := Scalar.indexCast v1902
  ![v1903.toNat]
def k0_mult455 (v1904 : BitVec 32) : BitVec 32 :=
  v1904

def k0_off911 (v1904 : BitVec 32) : Fin 2 → Nat :=
  let v1905 : BitVec 32 := v1904
  let v1906 : Index := Scalar.indexCast v1905
  let c0_504 : Index := 0#32
  ![v1906.toNat, 0]

def k0_chk455 (v1904 : BitVec 32) : Prop :=
  (8 ∣ (k0_mult455 v1904).toNat) ∧
  (∀ a, (k0_off911 v1904) a + S8x128.size a ≤ S16384x128.size a)
theorem k0_mult455_dvd : ∀ (v1904 : BitVec 32) (k0_hw455 : k0_chk455 v1904), 8 ∣ (k0_mult455 v1904).toNat := fun v1904 k0_hw455 => k0_hw455.1
theorem k0_off911_inb : ∀ (v1904 : BitVec 32) (k0_hw455 : k0_chk455 v1904), ∀ a, (k0_off911 v1904) a + S8x128.size a ≤ S16384x128.size a := fun v1904 k0_hw455 => k0_hw455.2

def k0_off912 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c198_i32 : BitVec 32 := 198#32
  let v1911 : BitVec 32 := Scalar.addi v128 c198_i32
  let v1912 : Index := Scalar.indexCast v1911
  ![v1912.toNat]
def k0_mult456 (v1913 : BitVec 32) : BitVec 32 :=
  v1913

def k0_off913 (v1913 : BitVec 32) : Fin 2 → Nat :=
  let v1914 : BitVec 32 := v1913
  let v1915 : Index := Scalar.indexCast v1914
  let c0_506 : Index := 0#32
  ![v1915.toNat, 0]

def k0_chk456 (v1913 : BitVec 32) : Prop :=
  (8 ∣ (k0_mult456 v1913).toNat) ∧
  (∀ a, (k0_off913 v1913) a + S8x128.size a ≤ S16384x128.size a)
theorem k0_mult456_dvd : ∀ (v1913 : BitVec 32) (k0_hw456 : k0_chk456 v1913), 8 ∣ (k0_mult456 v1913).toNat := fun v1913 k0_hw456 => k0_hw456.1
theorem k0_off913_inb : ∀ (v1913 : BitVec 32) (k0_hw456 : k0_chk456 v1913), ∀ a, (k0_off913 v1913) a + S8x128.size a ≤ S16384x128.size a := fun v1913 k0_hw456 => k0_hw456.2

def k0_off914 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c199_i32 : BitVec 32 := 199#32
  let v1920 : BitVec 32 := Scalar.addi v128 c199_i32
  let v1921 : Index := Scalar.indexCast v1920
  ![v1921.toNat]
def k0_mult457 (v1922 : BitVec 32) : BitVec 32 :=
  v1922

def k0_off915 (v1922 : BitVec 32) : Fin 2 → Nat :=
  let v1923 : BitVec 32 := v1922
  let v1924 : Index := Scalar.indexCast v1923
  let c0_508 : Index := 0#32
  ![v1924.toNat, 0]

def k0_chk457 (v1922 : BitVec 32) : Prop :=
  (8 ∣ (k0_mult457 v1922).toNat) ∧
  (∀ a, (k0_off915 v1922) a + S8x128.size a ≤ S16384x128.size a)
theorem k0_mult457_dvd : ∀ (v1922 : BitVec 32) (k0_hw457 : k0_chk457 v1922), 8 ∣ (k0_mult457 v1922).toNat := fun v1922 k0_hw457 => k0_hw457.1
theorem k0_off915_inb : ∀ (v1922 : BitVec 32) (k0_hw457 : k0_chk457 v1922), ∀ a, (k0_off915 v1922) a + S8x128.size a ≤ S16384x128.size a := fun v1922 k0_hw457 => k0_hw457.2

def k0_off916 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c200_i32 : BitVec 32 := 200#32
  let v1929 : BitVec 32 := Scalar.addi v128 c200_i32
  let v1930 : Index := Scalar.indexCast v1929
  ![v1930.toNat]
def k0_mult458 (v1931 : BitVec 32) : BitVec 32 :=
  v1931

def k0_off917 (v1931 : BitVec 32) : Fin 2 → Nat :=
  let v1932 : BitVec 32 := v1931
  let v1933 : Index := Scalar.indexCast v1932
  let c0_510 : Index := 0#32
  ![v1933.toNat, 0]

def k0_chk458 (v1931 : BitVec 32) : Prop :=
  (8 ∣ (k0_mult458 v1931).toNat) ∧
  (∀ a, (k0_off917 v1931) a + S8x128.size a ≤ S16384x128.size a)
theorem k0_mult458_dvd : ∀ (v1931 : BitVec 32) (k0_hw458 : k0_chk458 v1931), 8 ∣ (k0_mult458 v1931).toNat := fun v1931 k0_hw458 => k0_hw458.1
theorem k0_off917_inb : ∀ (v1931 : BitVec 32) (k0_hw458 : k0_chk458 v1931), ∀ a, (k0_off917 v1931) a + S8x128.size a ≤ S16384x128.size a := fun v1931 k0_hw458 => k0_hw458.2

def k0_off918 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c201_i32 : BitVec 32 := 201#32
  let v1938 : BitVec 32 := Scalar.addi v128 c201_i32
  let v1939 : Index := Scalar.indexCast v1938
  ![v1939.toNat]
def k0_mult459 (v1940 : BitVec 32) : BitVec 32 :=
  v1940

def k0_off919 (v1940 : BitVec 32) : Fin 2 → Nat :=
  let v1941 : BitVec 32 := v1940
  let v1942 : Index := Scalar.indexCast v1941
  let c0_512 : Index := 0#32
  ![v1942.toNat, 0]

def k0_chk459 (v1940 : BitVec 32) : Prop :=
  (8 ∣ (k0_mult459 v1940).toNat) ∧
  (∀ a, (k0_off919 v1940) a + S8x128.size a ≤ S16384x128.size a)
theorem k0_mult459_dvd : ∀ (v1940 : BitVec 32) (k0_hw459 : k0_chk459 v1940), 8 ∣ (k0_mult459 v1940).toNat := fun v1940 k0_hw459 => k0_hw459.1
theorem k0_off919_inb : ∀ (v1940 : BitVec 32) (k0_hw459 : k0_chk459 v1940), ∀ a, (k0_off919 v1940) a + S8x128.size a ≤ S16384x128.size a := fun v1940 k0_hw459 => k0_hw459.2

def k0_off920 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c202_i32 : BitVec 32 := 202#32
  let v1947 : BitVec 32 := Scalar.addi v128 c202_i32
  let v1948 : Index := Scalar.indexCast v1947
  ![v1948.toNat]
def k0_mult460 (v1949 : BitVec 32) : BitVec 32 :=
  v1949

def k0_off921 (v1949 : BitVec 32) : Fin 2 → Nat :=
  let v1950 : BitVec 32 := v1949
  let v1951 : Index := Scalar.indexCast v1950
  let c0_514 : Index := 0#32
  ![v1951.toNat, 0]

def k0_chk460 (v1949 : BitVec 32) : Prop :=
  (8 ∣ (k0_mult460 v1949).toNat) ∧
  (∀ a, (k0_off921 v1949) a + S8x128.size a ≤ S16384x128.size a)
theorem k0_mult460_dvd : ∀ (v1949 : BitVec 32) (k0_hw460 : k0_chk460 v1949), 8 ∣ (k0_mult460 v1949).toNat := fun v1949 k0_hw460 => k0_hw460.1
theorem k0_off921_inb : ∀ (v1949 : BitVec 32) (k0_hw460 : k0_chk460 v1949), ∀ a, (k0_off921 v1949) a + S8x128.size a ≤ S16384x128.size a := fun v1949 k0_hw460 => k0_hw460.2

def k0_off922 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c203_i32 : BitVec 32 := 203#32
  let v1956 : BitVec 32 := Scalar.addi v128 c203_i32
  let v1957 : Index := Scalar.indexCast v1956
  ![v1957.toNat]
def k0_mult461 (v1958 : BitVec 32) : BitVec 32 :=
  v1958

def k0_off923 (v1958 : BitVec 32) : Fin 2 → Nat :=
  let v1959 : BitVec 32 := v1958
  let v1960 : Index := Scalar.indexCast v1959
  let c0_516 : Index := 0#32
  ![v1960.toNat, 0]

def k0_chk461 (v1958 : BitVec 32) : Prop :=
  (8 ∣ (k0_mult461 v1958).toNat) ∧
  (∀ a, (k0_off923 v1958) a + S8x128.size a ≤ S16384x128.size a)
theorem k0_mult461_dvd : ∀ (v1958 : BitVec 32) (k0_hw461 : k0_chk461 v1958), 8 ∣ (k0_mult461 v1958).toNat := fun v1958 k0_hw461 => k0_hw461.1
theorem k0_off923_inb : ∀ (v1958 : BitVec 32) (k0_hw461 : k0_chk461 v1958), ∀ a, (k0_off923 v1958) a + S8x128.size a ≤ S16384x128.size a := fun v1958 k0_hw461 => k0_hw461.2

def k0_off924 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c204_i32 : BitVec 32 := 204#32
  let v1965 : BitVec 32 := Scalar.addi v128 c204_i32
  let v1966 : Index := Scalar.indexCast v1965
  ![v1966.toNat]
def k0_mult462 (v1967 : BitVec 32) : BitVec 32 :=
  v1967

def k0_off925 (v1967 : BitVec 32) : Fin 2 → Nat :=
  let v1968 : BitVec 32 := v1967
  let v1969 : Index := Scalar.indexCast v1968
  let c0_518 : Index := 0#32
  ![v1969.toNat, 0]

def k0_chk462 (v1967 : BitVec 32) : Prop :=
  (8 ∣ (k0_mult462 v1967).toNat) ∧
  (∀ a, (k0_off925 v1967) a + S8x128.size a ≤ S16384x128.size a)
theorem k0_mult462_dvd : ∀ (v1967 : BitVec 32) (k0_hw462 : k0_chk462 v1967), 8 ∣ (k0_mult462 v1967).toNat := fun v1967 k0_hw462 => k0_hw462.1
theorem k0_off925_inb : ∀ (v1967 : BitVec 32) (k0_hw462 : k0_chk462 v1967), ∀ a, (k0_off925 v1967) a + S8x128.size a ≤ S16384x128.size a := fun v1967 k0_hw462 => k0_hw462.2

def k0_off926 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c205_i32 : BitVec 32 := 205#32
  let v1974 : BitVec 32 := Scalar.addi v128 c205_i32
  let v1975 : Index := Scalar.indexCast v1974
  ![v1975.toNat]
def k0_mult463 (v1976 : BitVec 32) : BitVec 32 :=
  v1976

def k0_off927 (v1976 : BitVec 32) : Fin 2 → Nat :=
  let v1977 : BitVec 32 := v1976
  let v1978 : Index := Scalar.indexCast v1977
  let c0_520 : Index := 0#32
  ![v1978.toNat, 0]

def k0_chk463 (v1976 : BitVec 32) : Prop :=
  (8 ∣ (k0_mult463 v1976).toNat) ∧
  (∀ a, (k0_off927 v1976) a + S8x128.size a ≤ S16384x128.size a)
theorem k0_mult463_dvd : ∀ (v1976 : BitVec 32) (k0_hw463 : k0_chk463 v1976), 8 ∣ (k0_mult463 v1976).toNat := fun v1976 k0_hw463 => k0_hw463.1
theorem k0_off927_inb : ∀ (v1976 : BitVec 32) (k0_hw463 : k0_chk463 v1976), ∀ a, (k0_off927 v1976) a + S8x128.size a ≤ S16384x128.size a := fun v1976 k0_hw463 => k0_hw463.2

def k0_off928 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c206_i32 : BitVec 32 := 206#32
  let v1983 : BitVec 32 := Scalar.addi v128 c206_i32
  let v1984 : Index := Scalar.indexCast v1983
  ![v1984.toNat]
def k0_mult464 (v1985 : BitVec 32) : BitVec 32 :=
  v1985

def k0_off929 (v1985 : BitVec 32) : Fin 2 → Nat :=
  let v1986 : BitVec 32 := v1985
  let v1987 : Index := Scalar.indexCast v1986
  let c0_522 : Index := 0#32
  ![v1987.toNat, 0]

def k0_chk464 (v1985 : BitVec 32) : Prop :=
  (8 ∣ (k0_mult464 v1985).toNat) ∧
  (∀ a, (k0_off929 v1985) a + S8x128.size a ≤ S16384x128.size a)
theorem k0_mult464_dvd : ∀ (v1985 : BitVec 32) (k0_hw464 : k0_chk464 v1985), 8 ∣ (k0_mult464 v1985).toNat := fun v1985 k0_hw464 => k0_hw464.1
theorem k0_off929_inb : ∀ (v1985 : BitVec 32) (k0_hw464 : k0_chk464 v1985), ∀ a, (k0_off929 v1985) a + S8x128.size a ≤ S16384x128.size a := fun v1985 k0_hw464 => k0_hw464.2

def k0_off930 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c207_i32 : BitVec 32 := 207#32
  let v1992 : BitVec 32 := Scalar.addi v128 c207_i32
  let v1993 : Index := Scalar.indexCast v1992
  ![v1993.toNat]
def k0_mult465 (v1994 : BitVec 32) : BitVec 32 :=
  v1994

def k0_off931 (v1994 : BitVec 32) : Fin 2 → Nat :=
  let v1995 : BitVec 32 := v1994
  let v1996 : Index := Scalar.indexCast v1995
  let c0_524 : Index := 0#32
  ![v1996.toNat, 0]

def k0_chk465 (v1994 : BitVec 32) : Prop :=
  (8 ∣ (k0_mult465 v1994).toNat) ∧
  (∀ a, (k0_off931 v1994) a + S8x128.size a ≤ S16384x128.size a)
theorem k0_mult465_dvd : ∀ (v1994 : BitVec 32) (k0_hw465 : k0_chk465 v1994), 8 ∣ (k0_mult465 v1994).toNat := fun v1994 k0_hw465 => k0_hw465.1
theorem k0_off931_inb : ∀ (v1994 : BitVec 32) (k0_hw465 : k0_chk465 v1994), ∀ a, (k0_off931 v1994) a + S8x128.size a ≤ S16384x128.size a := fun v1994 k0_hw465 => k0_hw465.2

def k0_off932 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c208_i32 : BitVec 32 := 208#32
  let v2001 : BitVec 32 := Scalar.addi v128 c208_i32
  let v2002 : Index := Scalar.indexCast v2001
  ![v2002.toNat]
def k0_mult466 (v2003 : BitVec 32) : BitVec 32 :=
  v2003

def k0_off933 (v2003 : BitVec 32) : Fin 2 → Nat :=
  let v2004 : BitVec 32 := v2003
  let v2005 : Index := Scalar.indexCast v2004
  let c0_526 : Index := 0#32
  ![v2005.toNat, 0]

def k0_chk466 (v2003 : BitVec 32) : Prop :=
  (8 ∣ (k0_mult466 v2003).toNat) ∧
  (∀ a, (k0_off933 v2003) a + S8x128.size a ≤ S16384x128.size a)
theorem k0_mult466_dvd : ∀ (v2003 : BitVec 32) (k0_hw466 : k0_chk466 v2003), 8 ∣ (k0_mult466 v2003).toNat := fun v2003 k0_hw466 => k0_hw466.1
theorem k0_off933_inb : ∀ (v2003 : BitVec 32) (k0_hw466 : k0_chk466 v2003), ∀ a, (k0_off933 v2003) a + S8x128.size a ≤ S16384x128.size a := fun v2003 k0_hw466 => k0_hw466.2

def k0_off934 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c209_i32 : BitVec 32 := 209#32
  let v2010 : BitVec 32 := Scalar.addi v128 c209_i32
  let v2011 : Index := Scalar.indexCast v2010
  ![v2011.toNat]
def k0_mult467 (v2012 : BitVec 32) : BitVec 32 :=
  v2012

def k0_off935 (v2012 : BitVec 32) : Fin 2 → Nat :=
  let v2013 : BitVec 32 := v2012
  let v2014 : Index := Scalar.indexCast v2013
  let c0_528 : Index := 0#32
  ![v2014.toNat, 0]

def k0_chk467 (v2012 : BitVec 32) : Prop :=
  (8 ∣ (k0_mult467 v2012).toNat) ∧
  (∀ a, (k0_off935 v2012) a + S8x128.size a ≤ S16384x128.size a)
theorem k0_mult467_dvd : ∀ (v2012 : BitVec 32) (k0_hw467 : k0_chk467 v2012), 8 ∣ (k0_mult467 v2012).toNat := fun v2012 k0_hw467 => k0_hw467.1
theorem k0_off935_inb : ∀ (v2012 : BitVec 32) (k0_hw467 : k0_chk467 v2012), ∀ a, (k0_off935 v2012) a + S8x128.size a ≤ S16384x128.size a := fun v2012 k0_hw467 => k0_hw467.2

def k0_off936 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c210_i32 : BitVec 32 := 210#32
  let v2019 : BitVec 32 := Scalar.addi v128 c210_i32
  let v2020 : Index := Scalar.indexCast v2019
  ![v2020.toNat]
def k0_mult468 (v2021 : BitVec 32) : BitVec 32 :=
  v2021

def k0_off937 (v2021 : BitVec 32) : Fin 2 → Nat :=
  let v2022 : BitVec 32 := v2021
  let v2023 : Index := Scalar.indexCast v2022
  let c0_530 : Index := 0#32
  ![v2023.toNat, 0]

def k0_chk468 (v2021 : BitVec 32) : Prop :=
  (8 ∣ (k0_mult468 v2021).toNat) ∧
  (∀ a, (k0_off937 v2021) a + S8x128.size a ≤ S16384x128.size a)
theorem k0_mult468_dvd : ∀ (v2021 : BitVec 32) (k0_hw468 : k0_chk468 v2021), 8 ∣ (k0_mult468 v2021).toNat := fun v2021 k0_hw468 => k0_hw468.1
theorem k0_off937_inb : ∀ (v2021 : BitVec 32) (k0_hw468 : k0_chk468 v2021), ∀ a, (k0_off937 v2021) a + S8x128.size a ≤ S16384x128.size a := fun v2021 k0_hw468 => k0_hw468.2

def k0_off938 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c211_i32 : BitVec 32 := 211#32
  let v2028 : BitVec 32 := Scalar.addi v128 c211_i32
  let v2029 : Index := Scalar.indexCast v2028
  ![v2029.toNat]
def k0_mult469 (v2030 : BitVec 32) : BitVec 32 :=
  v2030

def k0_off939 (v2030 : BitVec 32) : Fin 2 → Nat :=
  let v2031 : BitVec 32 := v2030
  let v2032 : Index := Scalar.indexCast v2031
  let c0_532 : Index := 0#32
  ![v2032.toNat, 0]

def k0_chk469 (v2030 : BitVec 32) : Prop :=
  (8 ∣ (k0_mult469 v2030).toNat) ∧
  (∀ a, (k0_off939 v2030) a + S8x128.size a ≤ S16384x128.size a)
theorem k0_mult469_dvd : ∀ (v2030 : BitVec 32) (k0_hw469 : k0_chk469 v2030), 8 ∣ (k0_mult469 v2030).toNat := fun v2030 k0_hw469 => k0_hw469.1
theorem k0_off939_inb : ∀ (v2030 : BitVec 32) (k0_hw469 : k0_chk469 v2030), ∀ a, (k0_off939 v2030) a + S8x128.size a ≤ S16384x128.size a := fun v2030 k0_hw469 => k0_hw469.2

def k0_off940 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c212_i32 : BitVec 32 := 212#32
  let v2037 : BitVec 32 := Scalar.addi v128 c212_i32
  let v2038 : Index := Scalar.indexCast v2037
  ![v2038.toNat]
def k0_mult470 (v2039 : BitVec 32) : BitVec 32 :=
  v2039

def k0_off941 (v2039 : BitVec 32) : Fin 2 → Nat :=
  let v2040 : BitVec 32 := v2039
  let v2041 : Index := Scalar.indexCast v2040
  let c0_534 : Index := 0#32
  ![v2041.toNat, 0]

def k0_chk470 (v2039 : BitVec 32) : Prop :=
  (8 ∣ (k0_mult470 v2039).toNat) ∧
  (∀ a, (k0_off941 v2039) a + S8x128.size a ≤ S16384x128.size a)
theorem k0_mult470_dvd : ∀ (v2039 : BitVec 32) (k0_hw470 : k0_chk470 v2039), 8 ∣ (k0_mult470 v2039).toNat := fun v2039 k0_hw470 => k0_hw470.1
theorem k0_off941_inb : ∀ (v2039 : BitVec 32) (k0_hw470 : k0_chk470 v2039), ∀ a, (k0_off941 v2039) a + S8x128.size a ≤ S16384x128.size a := fun v2039 k0_hw470 => k0_hw470.2

def k0_off942 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c213_i32 : BitVec 32 := 213#32
  let v2046 : BitVec 32 := Scalar.addi v128 c213_i32
  let v2047 : Index := Scalar.indexCast v2046
  ![v2047.toNat]
def k0_mult471 (v2048 : BitVec 32) : BitVec 32 :=
  v2048

def k0_off943 (v2048 : BitVec 32) : Fin 2 → Nat :=
  let v2049 : BitVec 32 := v2048
  let v2050 : Index := Scalar.indexCast v2049
  let c0_536 : Index := 0#32
  ![v2050.toNat, 0]

def k0_chk471 (v2048 : BitVec 32) : Prop :=
  (8 ∣ (k0_mult471 v2048).toNat) ∧
  (∀ a, (k0_off943 v2048) a + S8x128.size a ≤ S16384x128.size a)
theorem k0_mult471_dvd : ∀ (v2048 : BitVec 32) (k0_hw471 : k0_chk471 v2048), 8 ∣ (k0_mult471 v2048).toNat := fun v2048 k0_hw471 => k0_hw471.1
theorem k0_off943_inb : ∀ (v2048 : BitVec 32) (k0_hw471 : k0_chk471 v2048), ∀ a, (k0_off943 v2048) a + S8x128.size a ≤ S16384x128.size a := fun v2048 k0_hw471 => k0_hw471.2

def k0_off944 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c214_i32 : BitVec 32 := 214#32
  let v2055 : BitVec 32 := Scalar.addi v128 c214_i32
  let v2056 : Index := Scalar.indexCast v2055
  ![v2056.toNat]
def k0_mult472 (v2057 : BitVec 32) : BitVec 32 :=
  v2057

def k0_off945 (v2057 : BitVec 32) : Fin 2 → Nat :=
  let v2058 : BitVec 32 := v2057
  let v2059 : Index := Scalar.indexCast v2058
  let c0_538 : Index := 0#32
  ![v2059.toNat, 0]

def k0_chk472 (v2057 : BitVec 32) : Prop :=
  (8 ∣ (k0_mult472 v2057).toNat) ∧
  (∀ a, (k0_off945 v2057) a + S8x128.size a ≤ S16384x128.size a)
theorem k0_mult472_dvd : ∀ (v2057 : BitVec 32) (k0_hw472 : k0_chk472 v2057), 8 ∣ (k0_mult472 v2057).toNat := fun v2057 k0_hw472 => k0_hw472.1
theorem k0_off945_inb : ∀ (v2057 : BitVec 32) (k0_hw472 : k0_chk472 v2057), ∀ a, (k0_off945 v2057) a + S8x128.size a ≤ S16384x128.size a := fun v2057 k0_hw472 => k0_hw472.2

def k0_off946 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c215_i32 : BitVec 32 := 215#32
  let v2064 : BitVec 32 := Scalar.addi v128 c215_i32
  let v2065 : Index := Scalar.indexCast v2064
  ![v2065.toNat]
def k0_mult473 (v2066 : BitVec 32) : BitVec 32 :=
  v2066

def k0_off947 (v2066 : BitVec 32) : Fin 2 → Nat :=
  let v2067 : BitVec 32 := v2066
  let v2068 : Index := Scalar.indexCast v2067
  let c0_540 : Index := 0#32
  ![v2068.toNat, 0]

def k0_chk473 (v2066 : BitVec 32) : Prop :=
  (8 ∣ (k0_mult473 v2066).toNat) ∧
  (∀ a, (k0_off947 v2066) a + S8x128.size a ≤ S16384x128.size a)
theorem k0_mult473_dvd : ∀ (v2066 : BitVec 32) (k0_hw473 : k0_chk473 v2066), 8 ∣ (k0_mult473 v2066).toNat := fun v2066 k0_hw473 => k0_hw473.1
theorem k0_off947_inb : ∀ (v2066 : BitVec 32) (k0_hw473 : k0_chk473 v2066), ∀ a, (k0_off947 v2066) a + S8x128.size a ≤ S16384x128.size a := fun v2066 k0_hw473 => k0_hw473.2

def k0_off948 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c216_i32 : BitVec 32 := 216#32
  let v2073 : BitVec 32 := Scalar.addi v128 c216_i32
  let v2074 : Index := Scalar.indexCast v2073
  ![v2074.toNat]
def k0_mult474 (v2075 : BitVec 32) : BitVec 32 :=
  v2075

def k0_off949 (v2075 : BitVec 32) : Fin 2 → Nat :=
  let v2076 : BitVec 32 := v2075
  let v2077 : Index := Scalar.indexCast v2076
  let c0_542 : Index := 0#32
  ![v2077.toNat, 0]

def k0_chk474 (v2075 : BitVec 32) : Prop :=
  (8 ∣ (k0_mult474 v2075).toNat) ∧
  (∀ a, (k0_off949 v2075) a + S8x128.size a ≤ S16384x128.size a)
theorem k0_mult474_dvd : ∀ (v2075 : BitVec 32) (k0_hw474 : k0_chk474 v2075), 8 ∣ (k0_mult474 v2075).toNat := fun v2075 k0_hw474 => k0_hw474.1
theorem k0_off949_inb : ∀ (v2075 : BitVec 32) (k0_hw474 : k0_chk474 v2075), ∀ a, (k0_off949 v2075) a + S8x128.size a ≤ S16384x128.size a := fun v2075 k0_hw474 => k0_hw474.2

def k0_off950 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c217_i32 : BitVec 32 := 217#32
  let v2082 : BitVec 32 := Scalar.addi v128 c217_i32
  let v2083 : Index := Scalar.indexCast v2082
  ![v2083.toNat]
def k0_mult475 (v2084 : BitVec 32) : BitVec 32 :=
  v2084

def k0_off951 (v2084 : BitVec 32) : Fin 2 → Nat :=
  let v2085 : BitVec 32 := v2084
  let v2086 : Index := Scalar.indexCast v2085
  let c0_544 : Index := 0#32
  ![v2086.toNat, 0]

def k0_chk475 (v2084 : BitVec 32) : Prop :=
  (8 ∣ (k0_mult475 v2084).toNat) ∧
  (∀ a, (k0_off951 v2084) a + S8x128.size a ≤ S16384x128.size a)
theorem k0_mult475_dvd : ∀ (v2084 : BitVec 32) (k0_hw475 : k0_chk475 v2084), 8 ∣ (k0_mult475 v2084).toNat := fun v2084 k0_hw475 => k0_hw475.1
theorem k0_off951_inb : ∀ (v2084 : BitVec 32) (k0_hw475 : k0_chk475 v2084), ∀ a, (k0_off951 v2084) a + S8x128.size a ≤ S16384x128.size a := fun v2084 k0_hw475 => k0_hw475.2

def k0_off952 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c218_i32 : BitVec 32 := 218#32
  let v2091 : BitVec 32 := Scalar.addi v128 c218_i32
  let v2092 : Index := Scalar.indexCast v2091
  ![v2092.toNat]
def k0_mult476 (v2093 : BitVec 32) : BitVec 32 :=
  v2093

def k0_off953 (v2093 : BitVec 32) : Fin 2 → Nat :=
  let v2094 : BitVec 32 := v2093
  let v2095 : Index := Scalar.indexCast v2094
  let c0_546 : Index := 0#32
  ![v2095.toNat, 0]

def k0_chk476 (v2093 : BitVec 32) : Prop :=
  (8 ∣ (k0_mult476 v2093).toNat) ∧
  (∀ a, (k0_off953 v2093) a + S8x128.size a ≤ S16384x128.size a)
theorem k0_mult476_dvd : ∀ (v2093 : BitVec 32) (k0_hw476 : k0_chk476 v2093), 8 ∣ (k0_mult476 v2093).toNat := fun v2093 k0_hw476 => k0_hw476.1
theorem k0_off953_inb : ∀ (v2093 : BitVec 32) (k0_hw476 : k0_chk476 v2093), ∀ a, (k0_off953 v2093) a + S8x128.size a ≤ S16384x128.size a := fun v2093 k0_hw476 => k0_hw476.2

def k0_off954 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c219_i32 : BitVec 32 := 219#32
  let v2100 : BitVec 32 := Scalar.addi v128 c219_i32
  let v2101 : Index := Scalar.indexCast v2100
  ![v2101.toNat]
def k0_mult477 (v2102 : BitVec 32) : BitVec 32 :=
  v2102

def k0_off955 (v2102 : BitVec 32) : Fin 2 → Nat :=
  let v2103 : BitVec 32 := v2102
  let v2104 : Index := Scalar.indexCast v2103
  let c0_548 : Index := 0#32
  ![v2104.toNat, 0]

def k0_chk477 (v2102 : BitVec 32) : Prop :=
  (8 ∣ (k0_mult477 v2102).toNat) ∧
  (∀ a, (k0_off955 v2102) a + S8x128.size a ≤ S16384x128.size a)
theorem k0_mult477_dvd : ∀ (v2102 : BitVec 32) (k0_hw477 : k0_chk477 v2102), 8 ∣ (k0_mult477 v2102).toNat := fun v2102 k0_hw477 => k0_hw477.1
theorem k0_off955_inb : ∀ (v2102 : BitVec 32) (k0_hw477 : k0_chk477 v2102), ∀ a, (k0_off955 v2102) a + S8x128.size a ≤ S16384x128.size a := fun v2102 k0_hw477 => k0_hw477.2

def k0_off956 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c220_i32 : BitVec 32 := 220#32
  let v2109 : BitVec 32 := Scalar.addi v128 c220_i32
  let v2110 : Index := Scalar.indexCast v2109
  ![v2110.toNat]
def k0_mult478 (v2111 : BitVec 32) : BitVec 32 :=
  v2111

def k0_off957 (v2111 : BitVec 32) : Fin 2 → Nat :=
  let v2112 : BitVec 32 := v2111
  let v2113 : Index := Scalar.indexCast v2112
  let c0_550 : Index := 0#32
  ![v2113.toNat, 0]

def k0_chk478 (v2111 : BitVec 32) : Prop :=
  (8 ∣ (k0_mult478 v2111).toNat) ∧
  (∀ a, (k0_off957 v2111) a + S8x128.size a ≤ S16384x128.size a)
theorem k0_mult478_dvd : ∀ (v2111 : BitVec 32) (k0_hw478 : k0_chk478 v2111), 8 ∣ (k0_mult478 v2111).toNat := fun v2111 k0_hw478 => k0_hw478.1
theorem k0_off957_inb : ∀ (v2111 : BitVec 32) (k0_hw478 : k0_chk478 v2111), ∀ a, (k0_off957 v2111) a + S8x128.size a ≤ S16384x128.size a := fun v2111 k0_hw478 => k0_hw478.2

def k0_off958 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c221_i32 : BitVec 32 := 221#32
  let v2118 : BitVec 32 := Scalar.addi v128 c221_i32
  let v2119 : Index := Scalar.indexCast v2118
  ![v2119.toNat]
def k0_mult479 (v2120 : BitVec 32) : BitVec 32 :=
  v2120

def k0_off959 (v2120 : BitVec 32) : Fin 2 → Nat :=
  let v2121 : BitVec 32 := v2120
  let v2122 : Index := Scalar.indexCast v2121
  let c0_552 : Index := 0#32
  ![v2122.toNat, 0]

def k0_chk479 (v2120 : BitVec 32) : Prop :=
  (8 ∣ (k0_mult479 v2120).toNat) ∧
  (∀ a, (k0_off959 v2120) a + S8x128.size a ≤ S16384x128.size a)
theorem k0_mult479_dvd : ∀ (v2120 : BitVec 32) (k0_hw479 : k0_chk479 v2120), 8 ∣ (k0_mult479 v2120).toNat := fun v2120 k0_hw479 => k0_hw479.1
theorem k0_off959_inb : ∀ (v2120 : BitVec 32) (k0_hw479 : k0_chk479 v2120), ∀ a, (k0_off959 v2120) a + S8x128.size a ≤ S16384x128.size a := fun v2120 k0_hw479 => k0_hw479.2

def k0_off960 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c222_i32 : BitVec 32 := 222#32
  let v2127 : BitVec 32 := Scalar.addi v128 c222_i32
  let v2128 : Index := Scalar.indexCast v2127
  ![v2128.toNat]
def k0_mult480 (v2129 : BitVec 32) : BitVec 32 :=
  v2129

def k0_off961 (v2129 : BitVec 32) : Fin 2 → Nat :=
  let v2130 : BitVec 32 := v2129
  let v2131 : Index := Scalar.indexCast v2130
  let c0_554 : Index := 0#32
  ![v2131.toNat, 0]

def k0_chk480 (v2129 : BitVec 32) : Prop :=
  (8 ∣ (k0_mult480 v2129).toNat) ∧
  (∀ a, (k0_off961 v2129) a + S8x128.size a ≤ S16384x128.size a)
theorem k0_mult480_dvd : ∀ (v2129 : BitVec 32) (k0_hw480 : k0_chk480 v2129), 8 ∣ (k0_mult480 v2129).toNat := fun v2129 k0_hw480 => k0_hw480.1
theorem k0_off961_inb : ∀ (v2129 : BitVec 32) (k0_hw480 : k0_chk480 v2129), ∀ a, (k0_off961 v2129) a + S8x128.size a ≤ S16384x128.size a := fun v2129 k0_hw480 => k0_hw480.2

def k0_off962 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c223_i32 : BitVec 32 := 223#32
  let v2136 : BitVec 32 := Scalar.addi v128 c223_i32
  let v2137 : Index := Scalar.indexCast v2136
  ![v2137.toNat]
def k0_mult481 (v2138 : BitVec 32) : BitVec 32 :=
  v2138

def k0_off963 (v2138 : BitVec 32) : Fin 2 → Nat :=
  let v2139 : BitVec 32 := v2138
  let v2140 : Index := Scalar.indexCast v2139
  let c0_556 : Index := 0#32
  ![v2140.toNat, 0]

def k0_chk481 (v2138 : BitVec 32) : Prop :=
  (8 ∣ (k0_mult481 v2138).toNat) ∧
  (∀ a, (k0_off963 v2138) a + S8x128.size a ≤ S16384x128.size a)
theorem k0_mult481_dvd : ∀ (v2138 : BitVec 32) (k0_hw481 : k0_chk481 v2138), 8 ∣ (k0_mult481 v2138).toNat := fun v2138 k0_hw481 => k0_hw481.1
theorem k0_off963_inb : ∀ (v2138 : BitVec 32) (k0_hw481 : k0_chk481 v2138), ∀ a, (k0_off963 v2138) a + S8x128.size a ≤ S16384x128.size a := fun v2138 k0_hw481 => k0_hw481.2

def k0_off964 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c224_i32 : BitVec 32 := 224#32
  let v2145 : BitVec 32 := Scalar.addi v128 c224_i32
  let v2146 : Index := Scalar.indexCast v2145
  ![v2146.toNat]
def k0_mult482 (v2147 : BitVec 32) : BitVec 32 :=
  v2147

def k0_off965 (v2147 : BitVec 32) : Fin 2 → Nat :=
  let v2148 : BitVec 32 := v2147
  let v2149 : Index := Scalar.indexCast v2148
  let c0_558 : Index := 0#32
  ![v2149.toNat, 0]

def k0_chk482 (v2147 : BitVec 32) : Prop :=
  (8 ∣ (k0_mult482 v2147).toNat) ∧
  (∀ a, (k0_off965 v2147) a + S8x128.size a ≤ S16384x128.size a)
theorem k0_mult482_dvd : ∀ (v2147 : BitVec 32) (k0_hw482 : k0_chk482 v2147), 8 ∣ (k0_mult482 v2147).toNat := fun v2147 k0_hw482 => k0_hw482.1
theorem k0_off965_inb : ∀ (v2147 : BitVec 32) (k0_hw482 : k0_chk482 v2147), ∀ a, (k0_off965 v2147) a + S8x128.size a ≤ S16384x128.size a := fun v2147 k0_hw482 => k0_hw482.2

def k0_off966 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c225_i32 : BitVec 32 := 225#32
  let v2154 : BitVec 32 := Scalar.addi v128 c225_i32
  let v2155 : Index := Scalar.indexCast v2154
  ![v2155.toNat]
def k0_mult483 (v2156 : BitVec 32) : BitVec 32 :=
  v2156

def k0_off967 (v2156 : BitVec 32) : Fin 2 → Nat :=
  let v2157 : BitVec 32 := v2156
  let v2158 : Index := Scalar.indexCast v2157
  let c0_560 : Index := 0#32
  ![v2158.toNat, 0]

def k0_chk483 (v2156 : BitVec 32) : Prop :=
  (8 ∣ (k0_mult483 v2156).toNat) ∧
  (∀ a, (k0_off967 v2156) a + S8x128.size a ≤ S16384x128.size a)
theorem k0_mult483_dvd : ∀ (v2156 : BitVec 32) (k0_hw483 : k0_chk483 v2156), 8 ∣ (k0_mult483 v2156).toNat := fun v2156 k0_hw483 => k0_hw483.1
theorem k0_off967_inb : ∀ (v2156 : BitVec 32) (k0_hw483 : k0_chk483 v2156), ∀ a, (k0_off967 v2156) a + S8x128.size a ≤ S16384x128.size a := fun v2156 k0_hw483 => k0_hw483.2

def k0_off968 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c226_i32 : BitVec 32 := 226#32
  let v2163 : BitVec 32 := Scalar.addi v128 c226_i32
  let v2164 : Index := Scalar.indexCast v2163
  ![v2164.toNat]
def k0_mult484 (v2165 : BitVec 32) : BitVec 32 :=
  v2165

def k0_off969 (v2165 : BitVec 32) : Fin 2 → Nat :=
  let v2166 : BitVec 32 := v2165
  let v2167 : Index := Scalar.indexCast v2166
  let c0_562 : Index := 0#32
  ![v2167.toNat, 0]

def k0_chk484 (v2165 : BitVec 32) : Prop :=
  (8 ∣ (k0_mult484 v2165).toNat) ∧
  (∀ a, (k0_off969 v2165) a + S8x128.size a ≤ S16384x128.size a)
theorem k0_mult484_dvd : ∀ (v2165 : BitVec 32) (k0_hw484 : k0_chk484 v2165), 8 ∣ (k0_mult484 v2165).toNat := fun v2165 k0_hw484 => k0_hw484.1
theorem k0_off969_inb : ∀ (v2165 : BitVec 32) (k0_hw484 : k0_chk484 v2165), ∀ a, (k0_off969 v2165) a + S8x128.size a ≤ S16384x128.size a := fun v2165 k0_hw484 => k0_hw484.2

def k0_off970 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c227_i32 : BitVec 32 := 227#32
  let v2172 : BitVec 32 := Scalar.addi v128 c227_i32
  let v2173 : Index := Scalar.indexCast v2172
  ![v2173.toNat]
def k0_mult485 (v2174 : BitVec 32) : BitVec 32 :=
  v2174

def k0_off971 (v2174 : BitVec 32) : Fin 2 → Nat :=
  let v2175 : BitVec 32 := v2174
  let v2176 : Index := Scalar.indexCast v2175
  let c0_564 : Index := 0#32
  ![v2176.toNat, 0]

def k0_chk485 (v2174 : BitVec 32) : Prop :=
  (8 ∣ (k0_mult485 v2174).toNat) ∧
  (∀ a, (k0_off971 v2174) a + S8x128.size a ≤ S16384x128.size a)
theorem k0_mult485_dvd : ∀ (v2174 : BitVec 32) (k0_hw485 : k0_chk485 v2174), 8 ∣ (k0_mult485 v2174).toNat := fun v2174 k0_hw485 => k0_hw485.1
theorem k0_off971_inb : ∀ (v2174 : BitVec 32) (k0_hw485 : k0_chk485 v2174), ∀ a, (k0_off971 v2174) a + S8x128.size a ≤ S16384x128.size a := fun v2174 k0_hw485 => k0_hw485.2

def k0_off972 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c228_i32 : BitVec 32 := 228#32
  let v2181 : BitVec 32 := Scalar.addi v128 c228_i32
  let v2182 : Index := Scalar.indexCast v2181
  ![v2182.toNat]
def k0_mult486 (v2183 : BitVec 32) : BitVec 32 :=
  v2183

def k0_off973 (v2183 : BitVec 32) : Fin 2 → Nat :=
  let v2184 : BitVec 32 := v2183
  let v2185 : Index := Scalar.indexCast v2184
  let c0_566 : Index := 0#32
  ![v2185.toNat, 0]

def k0_chk486 (v2183 : BitVec 32) : Prop :=
  (8 ∣ (k0_mult486 v2183).toNat) ∧
  (∀ a, (k0_off973 v2183) a + S8x128.size a ≤ S16384x128.size a)
theorem k0_mult486_dvd : ∀ (v2183 : BitVec 32) (k0_hw486 : k0_chk486 v2183), 8 ∣ (k0_mult486 v2183).toNat := fun v2183 k0_hw486 => k0_hw486.1
theorem k0_off973_inb : ∀ (v2183 : BitVec 32) (k0_hw486 : k0_chk486 v2183), ∀ a, (k0_off973 v2183) a + S8x128.size a ≤ S16384x128.size a := fun v2183 k0_hw486 => k0_hw486.2

def k0_off974 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c229_i32 : BitVec 32 := 229#32
  let v2190 : BitVec 32 := Scalar.addi v128 c229_i32
  let v2191 : Index := Scalar.indexCast v2190
  ![v2191.toNat]
def k0_mult487 (v2192 : BitVec 32) : BitVec 32 :=
  v2192

def k0_off975 (v2192 : BitVec 32) : Fin 2 → Nat :=
  let v2193 : BitVec 32 := v2192
  let v2194 : Index := Scalar.indexCast v2193
  let c0_568 : Index := 0#32
  ![v2194.toNat, 0]

def k0_chk487 (v2192 : BitVec 32) : Prop :=
  (8 ∣ (k0_mult487 v2192).toNat) ∧
  (∀ a, (k0_off975 v2192) a + S8x128.size a ≤ S16384x128.size a)
theorem k0_mult487_dvd : ∀ (v2192 : BitVec 32) (k0_hw487 : k0_chk487 v2192), 8 ∣ (k0_mult487 v2192).toNat := fun v2192 k0_hw487 => k0_hw487.1
theorem k0_off975_inb : ∀ (v2192 : BitVec 32) (k0_hw487 : k0_chk487 v2192), ∀ a, (k0_off975 v2192) a + S8x128.size a ≤ S16384x128.size a := fun v2192 k0_hw487 => k0_hw487.2

def k0_off976 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c230_i32 : BitVec 32 := 230#32
  let v2199 : BitVec 32 := Scalar.addi v128 c230_i32
  let v2200 : Index := Scalar.indexCast v2199
  ![v2200.toNat]
def k0_mult488 (v2201 : BitVec 32) : BitVec 32 :=
  v2201

def k0_off977 (v2201 : BitVec 32) : Fin 2 → Nat :=
  let v2202 : BitVec 32 := v2201
  let v2203 : Index := Scalar.indexCast v2202
  let c0_570 : Index := 0#32
  ![v2203.toNat, 0]

def k0_chk488 (v2201 : BitVec 32) : Prop :=
  (8 ∣ (k0_mult488 v2201).toNat) ∧
  (∀ a, (k0_off977 v2201) a + S8x128.size a ≤ S16384x128.size a)
theorem k0_mult488_dvd : ∀ (v2201 : BitVec 32) (k0_hw488 : k0_chk488 v2201), 8 ∣ (k0_mult488 v2201).toNat := fun v2201 k0_hw488 => k0_hw488.1
theorem k0_off977_inb : ∀ (v2201 : BitVec 32) (k0_hw488 : k0_chk488 v2201), ∀ a, (k0_off977 v2201) a + S8x128.size a ≤ S16384x128.size a := fun v2201 k0_hw488 => k0_hw488.2

def k0_off978 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c231_i32 : BitVec 32 := 231#32
  let v2208 : BitVec 32 := Scalar.addi v128 c231_i32
  let v2209 : Index := Scalar.indexCast v2208
  ![v2209.toNat]
def k0_mult489 (v2210 : BitVec 32) : BitVec 32 :=
  v2210

def k0_off979 (v2210 : BitVec 32) : Fin 2 → Nat :=
  let v2211 : BitVec 32 := v2210
  let v2212 : Index := Scalar.indexCast v2211
  let c0_572 : Index := 0#32
  ![v2212.toNat, 0]

def k0_chk489 (v2210 : BitVec 32) : Prop :=
  (8 ∣ (k0_mult489 v2210).toNat) ∧
  (∀ a, (k0_off979 v2210) a + S8x128.size a ≤ S16384x128.size a)
theorem k0_mult489_dvd : ∀ (v2210 : BitVec 32) (k0_hw489 : k0_chk489 v2210), 8 ∣ (k0_mult489 v2210).toNat := fun v2210 k0_hw489 => k0_hw489.1
theorem k0_off979_inb : ∀ (v2210 : BitVec 32) (k0_hw489 : k0_chk489 v2210), ∀ a, (k0_off979 v2210) a + S8x128.size a ≤ S16384x128.size a := fun v2210 k0_hw489 => k0_hw489.2

def k0_off980 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c232_i32 : BitVec 32 := 232#32
  let v2217 : BitVec 32 := Scalar.addi v128 c232_i32
  let v2218 : Index := Scalar.indexCast v2217
  ![v2218.toNat]
def k0_mult490 (v2219 : BitVec 32) : BitVec 32 :=
  v2219

def k0_off981 (v2219 : BitVec 32) : Fin 2 → Nat :=
  let v2220 : BitVec 32 := v2219
  let v2221 : Index := Scalar.indexCast v2220
  let c0_574 : Index := 0#32
  ![v2221.toNat, 0]

def k0_chk490 (v2219 : BitVec 32) : Prop :=
  (8 ∣ (k0_mult490 v2219).toNat) ∧
  (∀ a, (k0_off981 v2219) a + S8x128.size a ≤ S16384x128.size a)
theorem k0_mult490_dvd : ∀ (v2219 : BitVec 32) (k0_hw490 : k0_chk490 v2219), 8 ∣ (k0_mult490 v2219).toNat := fun v2219 k0_hw490 => k0_hw490.1
theorem k0_off981_inb : ∀ (v2219 : BitVec 32) (k0_hw490 : k0_chk490 v2219), ∀ a, (k0_off981 v2219) a + S8x128.size a ≤ S16384x128.size a := fun v2219 k0_hw490 => k0_hw490.2

def k0_off982 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c233_i32 : BitVec 32 := 233#32
  let v2226 : BitVec 32 := Scalar.addi v128 c233_i32
  let v2227 : Index := Scalar.indexCast v2226
  ![v2227.toNat]
def k0_mult491 (v2228 : BitVec 32) : BitVec 32 :=
  v2228

def k0_off983 (v2228 : BitVec 32) : Fin 2 → Nat :=
  let v2229 : BitVec 32 := v2228
  let v2230 : Index := Scalar.indexCast v2229
  let c0_576 : Index := 0#32
  ![v2230.toNat, 0]

def k0_chk491 (v2228 : BitVec 32) : Prop :=
  (8 ∣ (k0_mult491 v2228).toNat) ∧
  (∀ a, (k0_off983 v2228) a + S8x128.size a ≤ S16384x128.size a)
theorem k0_mult491_dvd : ∀ (v2228 : BitVec 32) (k0_hw491 : k0_chk491 v2228), 8 ∣ (k0_mult491 v2228).toNat := fun v2228 k0_hw491 => k0_hw491.1
theorem k0_off983_inb : ∀ (v2228 : BitVec 32) (k0_hw491 : k0_chk491 v2228), ∀ a, (k0_off983 v2228) a + S8x128.size a ≤ S16384x128.size a := fun v2228 k0_hw491 => k0_hw491.2

def k0_off984 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c234_i32 : BitVec 32 := 234#32
  let v2235 : BitVec 32 := Scalar.addi v128 c234_i32
  let v2236 : Index := Scalar.indexCast v2235
  ![v2236.toNat]
def k0_mult492 (v2237 : BitVec 32) : BitVec 32 :=
  v2237

def k0_off985 (v2237 : BitVec 32) : Fin 2 → Nat :=
  let v2238 : BitVec 32 := v2237
  let v2239 : Index := Scalar.indexCast v2238
  let c0_578 : Index := 0#32
  ![v2239.toNat, 0]

def k0_chk492 (v2237 : BitVec 32) : Prop :=
  (8 ∣ (k0_mult492 v2237).toNat) ∧
  (∀ a, (k0_off985 v2237) a + S8x128.size a ≤ S16384x128.size a)
theorem k0_mult492_dvd : ∀ (v2237 : BitVec 32) (k0_hw492 : k0_chk492 v2237), 8 ∣ (k0_mult492 v2237).toNat := fun v2237 k0_hw492 => k0_hw492.1
theorem k0_off985_inb : ∀ (v2237 : BitVec 32) (k0_hw492 : k0_chk492 v2237), ∀ a, (k0_off985 v2237) a + S8x128.size a ≤ S16384x128.size a := fun v2237 k0_hw492 => k0_hw492.2

def k0_off986 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c235_i32 : BitVec 32 := 235#32
  let v2244 : BitVec 32 := Scalar.addi v128 c235_i32
  let v2245 : Index := Scalar.indexCast v2244
  ![v2245.toNat]
def k0_mult493 (v2246 : BitVec 32) : BitVec 32 :=
  v2246

def k0_off987 (v2246 : BitVec 32) : Fin 2 → Nat :=
  let v2247 : BitVec 32 := v2246
  let v2248 : Index := Scalar.indexCast v2247
  let c0_580 : Index := 0#32
  ![v2248.toNat, 0]

def k0_chk493 (v2246 : BitVec 32) : Prop :=
  (8 ∣ (k0_mult493 v2246).toNat) ∧
  (∀ a, (k0_off987 v2246) a + S8x128.size a ≤ S16384x128.size a)
theorem k0_mult493_dvd : ∀ (v2246 : BitVec 32) (k0_hw493 : k0_chk493 v2246), 8 ∣ (k0_mult493 v2246).toNat := fun v2246 k0_hw493 => k0_hw493.1
theorem k0_off987_inb : ∀ (v2246 : BitVec 32) (k0_hw493 : k0_chk493 v2246), ∀ a, (k0_off987 v2246) a + S8x128.size a ≤ S16384x128.size a := fun v2246 k0_hw493 => k0_hw493.2

def k0_off988 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c236_i32 : BitVec 32 := 236#32
  let v2253 : BitVec 32 := Scalar.addi v128 c236_i32
  let v2254 : Index := Scalar.indexCast v2253
  ![v2254.toNat]
def k0_mult494 (v2255 : BitVec 32) : BitVec 32 :=
  v2255

def k0_off989 (v2255 : BitVec 32) : Fin 2 → Nat :=
  let v2256 : BitVec 32 := v2255
  let v2257 : Index := Scalar.indexCast v2256
  let c0_582 : Index := 0#32
  ![v2257.toNat, 0]

def k0_chk494 (v2255 : BitVec 32) : Prop :=
  (8 ∣ (k0_mult494 v2255).toNat) ∧
  (∀ a, (k0_off989 v2255) a + S8x128.size a ≤ S16384x128.size a)
theorem k0_mult494_dvd : ∀ (v2255 : BitVec 32) (k0_hw494 : k0_chk494 v2255), 8 ∣ (k0_mult494 v2255).toNat := fun v2255 k0_hw494 => k0_hw494.1
theorem k0_off989_inb : ∀ (v2255 : BitVec 32) (k0_hw494 : k0_chk494 v2255), ∀ a, (k0_off989 v2255) a + S8x128.size a ≤ S16384x128.size a := fun v2255 k0_hw494 => k0_hw494.2

def k0_off990 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c237_i32 : BitVec 32 := 237#32
  let v2262 : BitVec 32 := Scalar.addi v128 c237_i32
  let v2263 : Index := Scalar.indexCast v2262
  ![v2263.toNat]
def k0_mult495 (v2264 : BitVec 32) : BitVec 32 :=
  v2264

def k0_off991 (v2264 : BitVec 32) : Fin 2 → Nat :=
  let v2265 : BitVec 32 := v2264
  let v2266 : Index := Scalar.indexCast v2265
  let c0_584 : Index := 0#32
  ![v2266.toNat, 0]

def k0_chk495 (v2264 : BitVec 32) : Prop :=
  (8 ∣ (k0_mult495 v2264).toNat) ∧
  (∀ a, (k0_off991 v2264) a + S8x128.size a ≤ S16384x128.size a)
theorem k0_mult495_dvd : ∀ (v2264 : BitVec 32) (k0_hw495 : k0_chk495 v2264), 8 ∣ (k0_mult495 v2264).toNat := fun v2264 k0_hw495 => k0_hw495.1
theorem k0_off991_inb : ∀ (v2264 : BitVec 32) (k0_hw495 : k0_chk495 v2264), ∀ a, (k0_off991 v2264) a + S8x128.size a ≤ S16384x128.size a := fun v2264 k0_hw495 => k0_hw495.2

def k0_off992 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c238_i32 : BitVec 32 := 238#32
  let v2271 : BitVec 32 := Scalar.addi v128 c238_i32
  let v2272 : Index := Scalar.indexCast v2271
  ![v2272.toNat]
def k0_mult496 (v2273 : BitVec 32) : BitVec 32 :=
  v2273

def k0_off993 (v2273 : BitVec 32) : Fin 2 → Nat :=
  let v2274 : BitVec 32 := v2273
  let v2275 : Index := Scalar.indexCast v2274
  let c0_586 : Index := 0#32
  ![v2275.toNat, 0]

def k0_chk496 (v2273 : BitVec 32) : Prop :=
  (8 ∣ (k0_mult496 v2273).toNat) ∧
  (∀ a, (k0_off993 v2273) a + S8x128.size a ≤ S16384x128.size a)
theorem k0_mult496_dvd : ∀ (v2273 : BitVec 32) (k0_hw496 : k0_chk496 v2273), 8 ∣ (k0_mult496 v2273).toNat := fun v2273 k0_hw496 => k0_hw496.1
theorem k0_off993_inb : ∀ (v2273 : BitVec 32) (k0_hw496 : k0_chk496 v2273), ∀ a, (k0_off993 v2273) a + S8x128.size a ≤ S16384x128.size a := fun v2273 k0_hw496 => k0_hw496.2

def k0_off994 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c239_i32 : BitVec 32 := 239#32
  let v2280 : BitVec 32 := Scalar.addi v128 c239_i32
  let v2281 : Index := Scalar.indexCast v2280
  ![v2281.toNat]
def k0_mult497 (v2282 : BitVec 32) : BitVec 32 :=
  v2282

def k0_off995 (v2282 : BitVec 32) : Fin 2 → Nat :=
  let v2283 : BitVec 32 := v2282
  let v2284 : Index := Scalar.indexCast v2283
  let c0_588 : Index := 0#32
  ![v2284.toNat, 0]

def k0_chk497 (v2282 : BitVec 32) : Prop :=
  (8 ∣ (k0_mult497 v2282).toNat) ∧
  (∀ a, (k0_off995 v2282) a + S8x128.size a ≤ S16384x128.size a)
theorem k0_mult497_dvd : ∀ (v2282 : BitVec 32) (k0_hw497 : k0_chk497 v2282), 8 ∣ (k0_mult497 v2282).toNat := fun v2282 k0_hw497 => k0_hw497.1
theorem k0_off995_inb : ∀ (v2282 : BitVec 32) (k0_hw497 : k0_chk497 v2282), ∀ a, (k0_off995 v2282) a + S8x128.size a ≤ S16384x128.size a := fun v2282 k0_hw497 => k0_hw497.2

def k0_off996 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c240_i32 : BitVec 32 := 240#32
  let v2289 : BitVec 32 := Scalar.addi v128 c240_i32
  let v2290 : Index := Scalar.indexCast v2289
  ![v2290.toNat]
def k0_mult498 (v2291 : BitVec 32) : BitVec 32 :=
  v2291

def k0_off997 (v2291 : BitVec 32) : Fin 2 → Nat :=
  let v2292 : BitVec 32 := v2291
  let v2293 : Index := Scalar.indexCast v2292
  let c0_590 : Index := 0#32
  ![v2293.toNat, 0]

def k0_chk498 (v2291 : BitVec 32) : Prop :=
  (8 ∣ (k0_mult498 v2291).toNat) ∧
  (∀ a, (k0_off997 v2291) a + S8x128.size a ≤ S16384x128.size a)
theorem k0_mult498_dvd : ∀ (v2291 : BitVec 32) (k0_hw498 : k0_chk498 v2291), 8 ∣ (k0_mult498 v2291).toNat := fun v2291 k0_hw498 => k0_hw498.1
theorem k0_off997_inb : ∀ (v2291 : BitVec 32) (k0_hw498 : k0_chk498 v2291), ∀ a, (k0_off997 v2291) a + S8x128.size a ≤ S16384x128.size a := fun v2291 k0_hw498 => k0_hw498.2

def k0_off998 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c241_i32 : BitVec 32 := 241#32
  let v2298 : BitVec 32 := Scalar.addi v128 c241_i32
  let v2299 : Index := Scalar.indexCast v2298
  ![v2299.toNat]
def k0_mult499 (v2300 : BitVec 32) : BitVec 32 :=
  v2300

def k0_off999 (v2300 : BitVec 32) : Fin 2 → Nat :=
  let v2301 : BitVec 32 := v2300
  let v2302 : Index := Scalar.indexCast v2301
  let c0_592 : Index := 0#32
  ![v2302.toNat, 0]

def k0_chk499 (v2300 : BitVec 32) : Prop :=
  (8 ∣ (k0_mult499 v2300).toNat) ∧
  (∀ a, (k0_off999 v2300) a + S8x128.size a ≤ S16384x128.size a)
theorem k0_mult499_dvd : ∀ (v2300 : BitVec 32) (k0_hw499 : k0_chk499 v2300), 8 ∣ (k0_mult499 v2300).toNat := fun v2300 k0_hw499 => k0_hw499.1
theorem k0_off999_inb : ∀ (v2300 : BitVec 32) (k0_hw499 : k0_chk499 v2300), ∀ a, (k0_off999 v2300) a + S8x128.size a ≤ S16384x128.size a := fun v2300 k0_hw499 => k0_hw499.2

def k0_off1000 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c242_i32 : BitVec 32 := 242#32
  let v2307 : BitVec 32 := Scalar.addi v128 c242_i32
  let v2308 : Index := Scalar.indexCast v2307
  ![v2308.toNat]
def k0_mult500 (v2309 : BitVec 32) : BitVec 32 :=
  v2309

def k0_off1001 (v2309 : BitVec 32) : Fin 2 → Nat :=
  let v2310 : BitVec 32 := v2309
  let v2311 : Index := Scalar.indexCast v2310
  let c0_594 : Index := 0#32
  ![v2311.toNat, 0]

def k0_chk500 (v2309 : BitVec 32) : Prop :=
  (8 ∣ (k0_mult500 v2309).toNat) ∧
  (∀ a, (k0_off1001 v2309) a + S8x128.size a ≤ S16384x128.size a)
theorem k0_mult500_dvd : ∀ (v2309 : BitVec 32) (k0_hw500 : k0_chk500 v2309), 8 ∣ (k0_mult500 v2309).toNat := fun v2309 k0_hw500 => k0_hw500.1
theorem k0_off1001_inb : ∀ (v2309 : BitVec 32) (k0_hw500 : k0_chk500 v2309), ∀ a, (k0_off1001 v2309) a + S8x128.size a ≤ S16384x128.size a := fun v2309 k0_hw500 => k0_hw500.2

def k0_off1002 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c243_i32 : BitVec 32 := 243#32
  let v2316 : BitVec 32 := Scalar.addi v128 c243_i32
  let v2317 : Index := Scalar.indexCast v2316
  ![v2317.toNat]
def k0_mult501 (v2318 : BitVec 32) : BitVec 32 :=
  v2318

def k0_off1003 (v2318 : BitVec 32) : Fin 2 → Nat :=
  let v2319 : BitVec 32 := v2318
  let v2320 : Index := Scalar.indexCast v2319
  let c0_596 : Index := 0#32
  ![v2320.toNat, 0]

def k0_chk501 (v2318 : BitVec 32) : Prop :=
  (8 ∣ (k0_mult501 v2318).toNat) ∧
  (∀ a, (k0_off1003 v2318) a + S8x128.size a ≤ S16384x128.size a)
theorem k0_mult501_dvd : ∀ (v2318 : BitVec 32) (k0_hw501 : k0_chk501 v2318), 8 ∣ (k0_mult501 v2318).toNat := fun v2318 k0_hw501 => k0_hw501.1
theorem k0_off1003_inb : ∀ (v2318 : BitVec 32) (k0_hw501 : k0_chk501 v2318), ∀ a, (k0_off1003 v2318) a + S8x128.size a ≤ S16384x128.size a := fun v2318 k0_hw501 => k0_hw501.2

def k0_off1004 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c244_i32 : BitVec 32 := 244#32
  let v2325 : BitVec 32 := Scalar.addi v128 c244_i32
  let v2326 : Index := Scalar.indexCast v2325
  ![v2326.toNat]
def k0_mult502 (v2327 : BitVec 32) : BitVec 32 :=
  v2327

def k0_off1005 (v2327 : BitVec 32) : Fin 2 → Nat :=
  let v2328 : BitVec 32 := v2327
  let v2329 : Index := Scalar.indexCast v2328
  let c0_598 : Index := 0#32
  ![v2329.toNat, 0]

def k0_chk502 (v2327 : BitVec 32) : Prop :=
  (8 ∣ (k0_mult502 v2327).toNat) ∧
  (∀ a, (k0_off1005 v2327) a + S8x128.size a ≤ S16384x128.size a)
theorem k0_mult502_dvd : ∀ (v2327 : BitVec 32) (k0_hw502 : k0_chk502 v2327), 8 ∣ (k0_mult502 v2327).toNat := fun v2327 k0_hw502 => k0_hw502.1
theorem k0_off1005_inb : ∀ (v2327 : BitVec 32) (k0_hw502 : k0_chk502 v2327), ∀ a, (k0_off1005 v2327) a + S8x128.size a ≤ S16384x128.size a := fun v2327 k0_hw502 => k0_hw502.2

def k0_off1006 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c245_i32 : BitVec 32 := 245#32
  let v2334 : BitVec 32 := Scalar.addi v128 c245_i32
  let v2335 : Index := Scalar.indexCast v2334
  ![v2335.toNat]
def k0_mult503 (v2336 : BitVec 32) : BitVec 32 :=
  v2336

def k0_off1007 (v2336 : BitVec 32) : Fin 2 → Nat :=
  let v2337 : BitVec 32 := v2336
  let v2338 : Index := Scalar.indexCast v2337
  let c0_600 : Index := 0#32
  ![v2338.toNat, 0]

def k0_chk503 (v2336 : BitVec 32) : Prop :=
  (8 ∣ (k0_mult503 v2336).toNat) ∧
  (∀ a, (k0_off1007 v2336) a + S8x128.size a ≤ S16384x128.size a)
theorem k0_mult503_dvd : ∀ (v2336 : BitVec 32) (k0_hw503 : k0_chk503 v2336), 8 ∣ (k0_mult503 v2336).toNat := fun v2336 k0_hw503 => k0_hw503.1
theorem k0_off1007_inb : ∀ (v2336 : BitVec 32) (k0_hw503 : k0_chk503 v2336), ∀ a, (k0_off1007 v2336) a + S8x128.size a ≤ S16384x128.size a := fun v2336 k0_hw503 => k0_hw503.2

def k0_off1008 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c246_i32 : BitVec 32 := 246#32
  let v2343 : BitVec 32 := Scalar.addi v128 c246_i32
  let v2344 : Index := Scalar.indexCast v2343
  ![v2344.toNat]
def k0_mult504 (v2345 : BitVec 32) : BitVec 32 :=
  v2345

def k0_off1009 (v2345 : BitVec 32) : Fin 2 → Nat :=
  let v2346 : BitVec 32 := v2345
  let v2347 : Index := Scalar.indexCast v2346
  let c0_602 : Index := 0#32
  ![v2347.toNat, 0]

def k0_chk504 (v2345 : BitVec 32) : Prop :=
  (8 ∣ (k0_mult504 v2345).toNat) ∧
  (∀ a, (k0_off1009 v2345) a + S8x128.size a ≤ S16384x128.size a)
theorem k0_mult504_dvd : ∀ (v2345 : BitVec 32) (k0_hw504 : k0_chk504 v2345), 8 ∣ (k0_mult504 v2345).toNat := fun v2345 k0_hw504 => k0_hw504.1
theorem k0_off1009_inb : ∀ (v2345 : BitVec 32) (k0_hw504 : k0_chk504 v2345), ∀ a, (k0_off1009 v2345) a + S8x128.size a ≤ S16384x128.size a := fun v2345 k0_hw504 => k0_hw504.2

def k0_off1010 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c247_i32 : BitVec 32 := 247#32
  let v2352 : BitVec 32 := Scalar.addi v128 c247_i32
  let v2353 : Index := Scalar.indexCast v2352
  ![v2353.toNat]
def k0_mult505 (v2354 : BitVec 32) : BitVec 32 :=
  v2354

def k0_off1011 (v2354 : BitVec 32) : Fin 2 → Nat :=
  let v2355 : BitVec 32 := v2354
  let v2356 : Index := Scalar.indexCast v2355
  let c0_604 : Index := 0#32
  ![v2356.toNat, 0]

def k0_chk505 (v2354 : BitVec 32) : Prop :=
  (8 ∣ (k0_mult505 v2354).toNat) ∧
  (∀ a, (k0_off1011 v2354) a + S8x128.size a ≤ S16384x128.size a)
theorem k0_mult505_dvd : ∀ (v2354 : BitVec 32) (k0_hw505 : k0_chk505 v2354), 8 ∣ (k0_mult505 v2354).toNat := fun v2354 k0_hw505 => k0_hw505.1
theorem k0_off1011_inb : ∀ (v2354 : BitVec 32) (k0_hw505 : k0_chk505 v2354), ∀ a, (k0_off1011 v2354) a + S8x128.size a ≤ S16384x128.size a := fun v2354 k0_hw505 => k0_hw505.2

def k0_off1012 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c248_i32 : BitVec 32 := 248#32
  let v2361 : BitVec 32 := Scalar.addi v128 c248_i32
  let v2362 : Index := Scalar.indexCast v2361
  ![v2362.toNat]
def k0_mult506 (v2363 : BitVec 32) : BitVec 32 :=
  v2363

def k0_off1013 (v2363 : BitVec 32) : Fin 2 → Nat :=
  let v2364 : BitVec 32 := v2363
  let v2365 : Index := Scalar.indexCast v2364
  let c0_606 : Index := 0#32
  ![v2365.toNat, 0]

def k0_chk506 (v2363 : BitVec 32) : Prop :=
  (8 ∣ (k0_mult506 v2363).toNat) ∧
  (∀ a, (k0_off1013 v2363) a + S8x128.size a ≤ S16384x128.size a)
theorem k0_mult506_dvd : ∀ (v2363 : BitVec 32) (k0_hw506 : k0_chk506 v2363), 8 ∣ (k0_mult506 v2363).toNat := fun v2363 k0_hw506 => k0_hw506.1
theorem k0_off1013_inb : ∀ (v2363 : BitVec 32) (k0_hw506 : k0_chk506 v2363), ∀ a, (k0_off1013 v2363) a + S8x128.size a ≤ S16384x128.size a := fun v2363 k0_hw506 => k0_hw506.2

def k0_off1014 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c249_i32 : BitVec 32 := 249#32
  let v2370 : BitVec 32 := Scalar.addi v128 c249_i32
  let v2371 : Index := Scalar.indexCast v2370
  ![v2371.toNat]
def k0_mult507 (v2372 : BitVec 32) : BitVec 32 :=
  v2372

def k0_off1015 (v2372 : BitVec 32) : Fin 2 → Nat :=
  let v2373 : BitVec 32 := v2372
  let v2374 : Index := Scalar.indexCast v2373
  let c0_608 : Index := 0#32
  ![v2374.toNat, 0]

def k0_chk507 (v2372 : BitVec 32) : Prop :=
  (8 ∣ (k0_mult507 v2372).toNat) ∧
  (∀ a, (k0_off1015 v2372) a + S8x128.size a ≤ S16384x128.size a)
theorem k0_mult507_dvd : ∀ (v2372 : BitVec 32) (k0_hw507 : k0_chk507 v2372), 8 ∣ (k0_mult507 v2372).toNat := fun v2372 k0_hw507 => k0_hw507.1
theorem k0_off1015_inb : ∀ (v2372 : BitVec 32) (k0_hw507 : k0_chk507 v2372), ∀ a, (k0_off1015 v2372) a + S8x128.size a ≤ S16384x128.size a := fun v2372 k0_hw507 => k0_hw507.2

def k0_off1016 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c250_i32 : BitVec 32 := 250#32
  let v2379 : BitVec 32 := Scalar.addi v128 c250_i32
  let v2380 : Index := Scalar.indexCast v2379
  ![v2380.toNat]
def k0_mult508 (v2381 : BitVec 32) : BitVec 32 :=
  v2381

def k0_off1017 (v2381 : BitVec 32) : Fin 2 → Nat :=
  let v2382 : BitVec 32 := v2381
  let v2383 : Index := Scalar.indexCast v2382
  let c0_610 : Index := 0#32
  ![v2383.toNat, 0]

def k0_chk508 (v2381 : BitVec 32) : Prop :=
  (8 ∣ (k0_mult508 v2381).toNat) ∧
  (∀ a, (k0_off1017 v2381) a + S8x128.size a ≤ S16384x128.size a)
theorem k0_mult508_dvd : ∀ (v2381 : BitVec 32) (k0_hw508 : k0_chk508 v2381), 8 ∣ (k0_mult508 v2381).toNat := fun v2381 k0_hw508 => k0_hw508.1
theorem k0_off1017_inb : ∀ (v2381 : BitVec 32) (k0_hw508 : k0_chk508 v2381), ∀ a, (k0_off1017 v2381) a + S8x128.size a ≤ S16384x128.size a := fun v2381 k0_hw508 => k0_hw508.2

def k0_off1018 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c251_i32 : BitVec 32 := 251#32
  let v2388 : BitVec 32 := Scalar.addi v128 c251_i32
  let v2389 : Index := Scalar.indexCast v2388
  ![v2389.toNat]
def k0_mult509 (v2390 : BitVec 32) : BitVec 32 :=
  v2390

def k0_off1019 (v2390 : BitVec 32) : Fin 2 → Nat :=
  let v2391 : BitVec 32 := v2390
  let v2392 : Index := Scalar.indexCast v2391
  let c0_612 : Index := 0#32
  ![v2392.toNat, 0]

def k0_chk509 (v2390 : BitVec 32) : Prop :=
  (8 ∣ (k0_mult509 v2390).toNat) ∧
  (∀ a, (k0_off1019 v2390) a + S8x128.size a ≤ S16384x128.size a)
theorem k0_mult509_dvd : ∀ (v2390 : BitVec 32) (k0_hw509 : k0_chk509 v2390), 8 ∣ (k0_mult509 v2390).toNat := fun v2390 k0_hw509 => k0_hw509.1
theorem k0_off1019_inb : ∀ (v2390 : BitVec 32) (k0_hw509 : k0_chk509 v2390), ∀ a, (k0_off1019 v2390) a + S8x128.size a ≤ S16384x128.size a := fun v2390 k0_hw509 => k0_hw509.2

def k0_off1020 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c252_i32 : BitVec 32 := 252#32
  let v2397 : BitVec 32 := Scalar.addi v128 c252_i32
  let v2398 : Index := Scalar.indexCast v2397
  ![v2398.toNat]
def k0_mult510 (v2399 : BitVec 32) : BitVec 32 :=
  v2399

def k0_off1021 (v2399 : BitVec 32) : Fin 2 → Nat :=
  let v2400 : BitVec 32 := v2399
  let v2401 : Index := Scalar.indexCast v2400
  let c0_614 : Index := 0#32
  ![v2401.toNat, 0]

def k0_chk510 (v2399 : BitVec 32) : Prop :=
  (8 ∣ (k0_mult510 v2399).toNat) ∧
  (∀ a, (k0_off1021 v2399) a + S8x128.size a ≤ S16384x128.size a)
theorem k0_mult510_dvd : ∀ (v2399 : BitVec 32) (k0_hw510 : k0_chk510 v2399), 8 ∣ (k0_mult510 v2399).toNat := fun v2399 k0_hw510 => k0_hw510.1
theorem k0_off1021_inb : ∀ (v2399 : BitVec 32) (k0_hw510 : k0_chk510 v2399), ∀ a, (k0_off1021 v2399) a + S8x128.size a ≤ S16384x128.size a := fun v2399 k0_hw510 => k0_hw510.2

def k0_off1022 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c253_i32 : BitVec 32 := 253#32
  let v2406 : BitVec 32 := Scalar.addi v128 c253_i32
  let v2407 : Index := Scalar.indexCast v2406
  ![v2407.toNat]
def k0_mult511 (v2408 : BitVec 32) : BitVec 32 :=
  v2408

def k0_off1023 (v2408 : BitVec 32) : Fin 2 → Nat :=
  let v2409 : BitVec 32 := v2408
  let v2410 : Index := Scalar.indexCast v2409
  let c0_616 : Index := 0#32
  ![v2410.toNat, 0]

def k0_chk511 (v2408 : BitVec 32) : Prop :=
  (8 ∣ (k0_mult511 v2408).toNat) ∧
  (∀ a, (k0_off1023 v2408) a + S8x128.size a ≤ S16384x128.size a)
theorem k0_mult511_dvd : ∀ (v2408 : BitVec 32) (k0_hw511 : k0_chk511 v2408), 8 ∣ (k0_mult511 v2408).toNat := fun v2408 k0_hw511 => k0_hw511.1
theorem k0_off1023_inb : ∀ (v2408 : BitVec 32) (k0_hw511 : k0_chk511 v2408), ∀ a, (k0_off1023 v2408) a + S8x128.size a ≤ S16384x128.size a := fun v2408 k0_hw511 => k0_hw511.2

def k0_off1024 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c254_i32 : BitVec 32 := 254#32
  let v2415 : BitVec 32 := Scalar.addi v128 c254_i32
  let v2416 : Index := Scalar.indexCast v2415
  ![v2416.toNat]
def k0_mult512 (v2417 : BitVec 32) : BitVec 32 :=
  v2417

def k0_off1025 (v2417 : BitVec 32) : Fin 2 → Nat :=
  let v2418 : BitVec 32 := v2417
  let v2419 : Index := Scalar.indexCast v2418
  let c0_618 : Index := 0#32
  ![v2419.toNat, 0]

def k0_chk512 (v2417 : BitVec 32) : Prop :=
  (8 ∣ (k0_mult512 v2417).toNat) ∧
  (∀ a, (k0_off1025 v2417) a + S8x128.size a ≤ S16384x128.size a)
theorem k0_mult512_dvd : ∀ (v2417 : BitVec 32) (k0_hw512 : k0_chk512 v2417), 8 ∣ (k0_mult512 v2417).toNat := fun v2417 k0_hw512 => k0_hw512.1
theorem k0_off1025_inb : ∀ (v2417 : BitVec 32) (k0_hw512 : k0_chk512 v2417), ∀ a, (k0_off1025 v2417) a + S8x128.size a ≤ S16384x128.size a := fun v2417 k0_hw512 => k0_hw512.2

def k0_off1026 (k0_t2 : Fin k0_t2_loop.trips) : Fin 1 → Nat :=
  let c72_i32_99 : BitVec 32 := 72#32
  let c0_i32_70 : BitVec 32 := 0#32
  let c1_i32_72 : BitVec 32 := 1#32
  let arg16 : BitVec 32 := Scf.iv c0_i32_70 c1_i32_72 k0_t2
  let c256_i32 : BitVec 32 := 256#32
  let v127 : BitVec 32 := Scalar.muli arg16 c256_i32
  let v128 : BitVec 32 := Scalar.addi c72_i32_99 v127
  let c255_i32 : BitVec 32 := 255#32
  let v2424 : BitVec 32 := Scalar.addi v128 c255_i32
  let v2425 : Index := Scalar.indexCast v2424
  ![v2425.toNat]
def k0_mult513 (v2426 : BitVec 32) : BitVec 32 :=
  v2426

def k0_off1027 (v2426 : BitVec 32) : Fin 2 → Nat :=
  let v2427 : BitVec 32 := v2426
  let v2428 : Index := Scalar.indexCast v2427
  let c0_620 : Index := 0#32
  ![v2428.toNat, 0]

def k0_chk513 (v2426 : BitVec 32) : Prop :=
  (8 ∣ (k0_mult513 v2426).toNat) ∧
  (∀ a, (k0_off1027 v2426) a + S8x128.size a ≤ S16384x128.size a)
theorem k0_mult513_dvd : ∀ (v2426 : BitVec 32) (k0_hw513 : k0_chk513 v2426), 8 ∣ (k0_mult513 v2426).toNat := fun v2426 k0_hw513 => k0_hw513.1
theorem k0_off1027_inb : ∀ (v2426 : BitVec 32) (k0_hw513 : k0_chk513 v2426), ∀ a, (k0_off1027 v2426) a + S8x128.size a ≤ S16384x128.size a := fun v2426 k0_hw513 => k0_hw513.2

def k0_off1028 (k0_t2 : Fin k0_t2_loop.trips) : Fin 4 → Nat :=
  let c0_622 : Index := 0#32
  let c0_i32_70 : BitVec 32 := 0#32
  let c1_i32_72 : BitVec 32 := 1#32
  let arg16 : BitVec 32 := Scf.iv c0_i32_70 c1_i32_72 k0_t2
  let v2433 : Index := Scalar.indexCast arg16
  let c0_623 : Index := 0#32
  let c0_624 : Index := 0#32
  ![0, v2433.toNat, 0, 0]
def k0_off1029 (k0_t2 : Fin k0_t2_loop.trips) : Fin 1 → Nat :=
  let c0_i32_70 : BitVec 32 := 0#32
  let c1_i32_72 : BitVec 32 := 1#32
  let arg16 : BitVec 32 := Scf.iv c0_i32_70 c1_i32_72 k0_t2
  let v2450 : Index := Scalar.indexCast arg16
  ![v2450.toNat]
def k0_mult514 (v2451 : BitVec 32) : BitVec 32 :=
  v2451

def k0_off1030 (v2451 : BitVec 32) : Fin 2 → Nat :=
  let v2452 : BitVec 32 := v2451
  let v2453 : Index := Scalar.indexCast v2452
  let c0_633 : Index := 0#32
  ![v2453.toNat, 0]

def k0_chk514 (v2451 : BitVec 32) : Prop :=
  (256 ∣ (k0_mult514 v2451).toNat) ∧
  (∀ a, (k0_off1030 v2451) a + S256x768.size a ≤ S2048x768.size a)
theorem k0_mult514_dvd : ∀ (v2451 : BitVec 32) (k0_hw514 : k0_chk514 v2451), 256 ∣ (k0_mult514 v2451).toNat := fun v2451 k0_hw514 => k0_hw514.1
theorem k0_off1030_inb : ∀ (v2451 : BitVec 32) (k0_hw514 : k0_chk514 v2451), ∀ a, (k0_off1030 v2451) a + S256x768.size a ≤ S2048x768.size a := fun v2451 k0_hw514 => k0_hw514.2

def k0_cond1 (i : grid0.Coords) : BitVec 1 :=
  let arg1 : BitVec 32 := BitVec.ofNat 32 (i 1).val
  let c0_i32_95 : BitVec 32 := 0#32
  let v121 : BitVec 1 := Scalar.cmpi .eq arg1 c0_i32_95
  let v122 : BitVec 32 := Scalar.extui v121
  let c0_i32_96 : BitVec 32 := 0#32
  let v123 : BitVec 1 := Scalar.cmpi .ne v122 c0_i32_96
  v123

def k0_cond2 (i : grid0.Coords) : BitVec 1 :=
  let arg1 : BitVec 32 := BitVec.ofNat 32 (i 1).val
  let c1_i32_97 : BitVec 32 := 1#32
  let v124 : BitVec 1 := Scalar.cmpi .eq arg1 c1_i32_97
  let v125 : BitVec 32 := Scalar.extui v124
  let c0_i32_98 : BitVec 32 := 0#32
  let v126 : BitVec 1 := Scalar.cmpi .ne v125 c0_i32_98
  v126

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let v1 : BitVec 32 := Scalar.addi v0 arg0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x72x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x19456 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GnnRefIdeal.lean ====
abbrev S64x1x2048 : Shape := ⟨3, ![64, 1, 2048]⟩
abbrev S64x72x1x256 : Shape := ⟨4, ![64, 72, 1, 256]⟩
abbrev S64x1x19456 : Shape := ⟨3, ![64, 1, 19456]⟩
abbrev S128x768 : Shape := ⟨2, ![128, 768]⟩
abbrev S2x768x768 : Shape := ⟨3, ![2, 768, 768]⟩
abbrev S8x768 : Shape := ⟨2, ![8, 768]⟩
abbrev S64 : Shape := ⟨1, ![64]⟩
abbrev S64x1 : Shape := ⟨2, ![64, 1]⟩
abbrev S64x1x72 : Shape := ⟨3, ![64, 1, 72]⟩
abbrev S64x72 : Shape := ⟨2, ![64, 72]⟩
abbrev S64x1x18432 : Shape := ⟨3, ![64, 1, 18432]⟩
abbrev S64x18432 : Shape := ⟨2, ![64, 18432]⟩
abbrev S64x72x256 : Shape := ⟨3, ![64, 72, 256]⟩
abbrev S_ : Shape := ⟨0, ![]⟩
abbrev S64x72x1 : Shape := ⟨3, ![64, 72, 1]⟩
abbrev S64x2048 : Shape := ⟨2, ![64, 2048]⟩
abbrev S64x2048x1 : Shape := ⟨3, ![64, 2048, 1]⟩
abbrev S64x2048x768 : Shape := ⟨3, ![64, 2048, 768]⟩
abbrev S64x18432x1 : Shape := ⟨3, ![64, 18432, 1]⟩
abbrev S64x18432x2 : Shape := ⟨3, ![64, 18432, 2]⟩
abbrev S64x18432x768 : Shape := ⟨3, ![64, 18432, 768]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩
abbrev S1x1x768 : Shape := ⟨3, ![1, 1, 768]⟩
abbrev S64x32x768 : Shape := ⟨3, ![64, 32, 768]⟩
abbrev S64x2048x2 : Shape := ⟨3, ![64, 2048, 2]⟩
abbrev S64x32 : Shape := ⟨2, ![64, 32]⟩
abbrev S64x32x1 : Shape := ⟨3, ![64, 32, 1]⟩
abbrev S32x32x768 : Shape := ⟨3, ![32, 32, 768]⟩

abbrev nBuf : Space → Nat
  | .hbm => 201
  | .vmem => 0
  | .smem => 0
  | _ => 0

abbrev hbmTy0_0 (i : Nat) : BufTy := match i % 128 with
  | 0 => ⟨S64x1x2048, .i32⟩
  | 1 => ⟨S64x1x2048, .i32⟩
  | 2 => ⟨S64x72x1x256, .i32⟩
  | 3 => ⟨S64x1x19456, .i32⟩
  | 4 => ⟨S128x768, .f32⟩
  | 5 => ⟨S2x768x768, .f32⟩
  | 6 => ⟨S8x768, .f32⟩
  | 7 => ⟨S64, .i32⟩
  | 8 => ⟨S64x1, .i32⟩
  | 9 => ⟨S64x1x72, .i32⟩
  | 10 => ⟨S64x72, .i32⟩
  | 11 => ⟨S64x1x18432, .i32⟩
  | 12 => ⟨S64x18432, .i32⟩
  | 13 => ⟨S64x72x256, .i32⟩
  | 14 => ⟨S_, .i32⟩
  | 15 => ⟨S64x18432, .i32⟩
  | 16 => ⟨S64x18432, .i32⟩
  | 17 => ⟨S_, .i32⟩
  | 18 => ⟨S64x72x256, .i32⟩
  | 19 => ⟨S64x72x256, .i1⟩
  | 20 => ⟨S_, .i32⟩
  | 21 => ⟨S64x72x256, .i32⟩
  | 22 => ⟨S64x72x256, .i1⟩
  | 23 => ⟨S64x72x256, .i1⟩
  | 24 => ⟨S64x72x1, .i32⟩
  | 25 => ⟨S64x72x256, .i32⟩
  | 26 => ⟨S64x72x256, .i32⟩
  | 27 => ⟨S_, .i32⟩
  | 28 => ⟨S_, .i32⟩
  | 29 => ⟨S64x72x256, .i32⟩
  | 30 => ⟨S64x72x256, .i32⟩
  | 31 => ⟨S64x18432, .i32⟩
  | 32 => ⟨S64x2048, .i32⟩
  | 33 => ⟨S_, .i32⟩
  | 34 => ⟨S64x2048, .i32⟩
  | 35 => ⟨S64x2048, .i1⟩
  | 36 => ⟨S_, .i32⟩
  | 37 => ⟨S64x2048, .i32⟩
  | 38 => ⟨S64x2048, .i32⟩
  | 39 => ⟨S64x2048, .i32⟩
  | 40 => ⟨S64x2048x1, .i32⟩
  | 41 => ⟨S64x2048x768, .f32⟩
  | 42 => ⟨S_, .f32⟩
  | 43 => ⟨S64x2048x768, .f32⟩
  | 44 => ⟨S_, .i32⟩
  | 45 => ⟨S64x1, .i32⟩
  | 46 => ⟨S64x1, .i1⟩
  | 47 => ⟨S_, .i32⟩
  | 48 => ⟨S64x1, .i32⟩
  | 49 => ⟨S64x1, .i32⟩
  | 50 => ⟨S64x1, .i32⟩
  | 51 => ⟨S_, .i32⟩
  | 52 => ⟨S64x18432, .i32⟩
  | 53 => ⟨S64x18432, .i1⟩
  | 54 => ⟨S_, .i32⟩
  | 55 => ⟨S64x18432, .i32⟩
  | 56 => ⟨S64x18432, .i32⟩
  | 57 => ⟨S64x18432, .i32⟩
  | 58 => ⟨S64x18432, .i32⟩
  | 59 => ⟨S64x18432x1, .i32⟩
  | 60 => ⟨S64x18432x1, .i32⟩
  | 61 => ⟨S64x18432x2, .i32⟩
  | 62 => ⟨S64x18432x768, .f32⟩
  | 63 => ⟨S_, .i32⟩
  | 64 => ⟨S64x1, .i32⟩
  | 65 => ⟨S64x1, .i1⟩
  | 66 => ⟨S_, .i32⟩
  | 67 => ⟨S64x1, .i32⟩
  | 68 => ⟨S64x1, .i32⟩
  | 69 => ⟨S64x1, .i32⟩
  | 70 => ⟨S_, .i32⟩
  | 71 => ⟨S64x18432, .i32⟩
  | 72 => ⟨S64x18432, .i1⟩
  | 73 => ⟨S_, .i32⟩
  | 74 => ⟨S64x18432, .i32⟩
  | 75 => ⟨S64x18432, .i32⟩
  | 76 => ⟨S64x18432, .i32⟩
  | 77 => ⟨S64x18432, .i32⟩
  | 78 => ⟨S64x18432x1, .i32⟩
  | 79 => ⟨S64x18432x1, .i32⟩
  | 80 => ⟨S64x18432x2, .i32⟩
  | 81 => ⟨S64x2048x768, .f32⟩
  | 82 => ⟨S64x2048x768, .f32⟩
  | 83 => ⟨S1x768x768, .f32⟩
  | 84 => ⟨S768x768, .f32⟩
  | 85 => ⟨S64x2048x768, .f32⟩
  | 86 => ⟨S1x768, .f32⟩
  | 87 => ⟨S768, .f32⟩
  | 88 => ⟨S1x1x768, .f32⟩
  | 89 => ⟨S64x2048x768, .f32⟩
  | 90 => ⟨S64x2048x768, .f32⟩
  | 91 => ⟨S_, .f32⟩
  | 92 => ⟨S64x2048x768, .f32⟩
  | 93 => ⟨S64x2048x768, .f32⟩
  | 94 => ⟨S_, .f32⟩
  | 95 => ⟨S64x2048x768, .f32⟩
  | 96 => ⟨S_, .i32⟩
  | 97 => ⟨S64x1, .i32⟩
  | 98 => ⟨S64x1, .i1⟩
  | 99 => ⟨S_, .i32⟩
  | 100 => ⟨S64x1, .i32⟩
  | 101 => ⟨S64x1, .i32⟩
  | 102 => ⟨S64x1, .i32⟩
  | 103 => ⟨S_, .i32⟩
  | 104 => ⟨S64x18432, .i32⟩
  | 105 => ⟨S64x18432, .i1⟩
  | 106 => ⟨S_, .i32⟩
  | 107 => ⟨S64x18432, .i32⟩
  | 108 => ⟨S64x18432, .i32⟩
  | 109 => ⟨S64x18432, .i32⟩
  | 110 => ⟨S64x18432, .i32⟩
  | 111 => ⟨S64x18432x1, .i32⟩
  | 112 => ⟨S64x18432x1, .i32⟩
  | 113 => ⟨S64x18432x2, .i32⟩
  | 114 => ⟨S64x18432x768, .f32⟩
  | 115 => ⟨S_, .i32⟩
  | 116 => ⟨S64x1, .i32⟩
  | 117 => ⟨S64x1, .i1⟩
  | 118 => ⟨S_, .i32⟩
  | 119 => ⟨S64x1, .i32⟩
  | 120 => ⟨S64x1, .i32⟩
  | 121 => ⟨S64x1, .i32⟩
  | 122 => ⟨S_, .i32⟩
  | 123 => ⟨S64x18432, .i32⟩
  | 124 => ⟨S64x18432, .i1⟩
  | 125 => ⟨S_, .i32⟩
  | 126 => ⟨S64x18432, .i32⟩
  | 127 => ⟨S64x18432, .i32⟩
  | _ => ⟨S64x1x2048, .i32⟩

abbrev hbmTy0_1 (i : Nat) : BufTy := match i % 128 with
  | 0 => ⟨S64x18432, .i32⟩
  | 1 => ⟨S64x18432, .i32⟩
  | 2 => ⟨S64x18432x1, .i32⟩
  | 3 => ⟨S64x18432x1, .i32⟩
  | 4 => ⟨S64x18432x2, .i32⟩
  | 5 => ⟨S64x2048x768, .f32⟩
  | 6 => ⟨S64x2048x768, .f32⟩
  | 7 => ⟨S1x768x768, .f32⟩
  | 8 => ⟨S768x768, .f32⟩
  | 9 => ⟨S64x2048x768, .f32⟩
  | 10 => ⟨S1x768, .f32⟩
  | 11 => ⟨S768, .f32⟩
  | 12 => ⟨S1x1x768, .f32⟩
  | 13 => ⟨S64x2048x768, .f32⟩
  | 14 => ⟨S64x2048x768, .f32⟩
  | 15 => ⟨S_, .f32⟩
  | 16 => ⟨S64x2048x768, .f32⟩
  | 17 => ⟨S64x2048x768, .f32⟩
  | 18 => ⟨S_, .f32⟩
  | 19 => ⟨S64x32x768, .f32⟩
  | 20 => ⟨S64x2048, .i32⟩
  | 21 => ⟨S_, .i32⟩
  | 22 => ⟨S64x1, .i32⟩
  | 23 => ⟨S64x1, .i1⟩
  | 24 => ⟨S_, .i32⟩
  | 25 => ⟨S64x1, .i32⟩
  | 26 => ⟨S64x1, .i32⟩
  | 27 => ⟨S64x1, .i32⟩
  | 28 => ⟨S_, .i32⟩
  | 29 => ⟨S64x2048, .i32⟩
  | 30 => ⟨S64x2048, .i1⟩
  | 31 => ⟨S_, .i32⟩
  | 32 => ⟨S64x2048, .i32⟩
  | 33 => ⟨S64x2048, .i32⟩
  | 34 => ⟨S64x2048, .i32⟩
  | 35 => ⟨S64x2048, .i32⟩
  | 36 => ⟨S64x2048x1, .i32⟩
  | 37 => ⟨S64x2048x1, .i32⟩
  | 38 => ⟨S64x2048x2, .i32⟩
  | 39 => ⟨S64x32x768, .f32⟩
  | 40 => ⟨S_, .f32⟩
  | 41 => ⟨S64x32, .f32⟩
  | 42 => ⟨S64x2048, .i32⟩
  | 43 => ⟨S_, .i32⟩
  | 44 => ⟨S64x1, .i32⟩
  | 45 => ⟨S64x1, .i1⟩
  | 46 => ⟨S_, .i32⟩
  | 47 => ⟨S64x1, .i32⟩
  | 48 => ⟨S64x1, .i32⟩
  | 49 => ⟨S64x1, .i32⟩
  | 50 => ⟨S_, .i32⟩
  | 51 => ⟨S64x2048, .i32⟩
  | 52 => ⟨S64x2048, .i1⟩
  | 53 => ⟨S_, .i32⟩
  | 54 => ⟨S64x2048, .i32⟩
  | 55 => ⟨S64x2048, .i32⟩
  | 56 => ⟨S64x2048, .i32⟩
  | 57 => ⟨S64x2048, .i32⟩
  | 58 => ⟨S64x2048x1, .i32⟩
  | 59 => ⟨S64x2048x1, .i32⟩
  | 60 => ⟨S64x2048x2, .i32⟩
  | 61 => ⟨S_, .f32⟩
  | 62 => ⟨S64x2048, .f32⟩
  | 63 => ⟨S64x32, .f32⟩
  | 64 => ⟨S_, .f32⟩
  | 65 => ⟨S64x32, .f32⟩
  | 66 => ⟨S64x32, .f32⟩
  | 67 => ⟨S64x32x1, .f32⟩
  | 68 => ⟨S64x32x768, .f32⟩
  | 69 => ⟨S64x32x768, .f32⟩
  | 70 => ⟨S32x32x768, .f32⟩
  | 71 => ⟨S32x32x768, .f32⟩
  | 72 => ⟨S32x32x768, .f32⟩
  | _ => ⟨S64x1x2048, .i32⟩

abbrev hbmTy (i : Nat) : BufTy := match i / 128 with
  | 0 => hbmTy0_0 i
  | 1 => hbmTy0_1 i
  | _ => ⟨S64x1x2048, .i32⟩

abbrev bufTy : (tb : Table) → Fin (tcTables nBuf tb) → BufTy
  | .hbm, ⟨i, _⟩ => hbmTy i
  | _, _ => ⟨S64x1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_c_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_c_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call1_cst : Ref sig .tc := ⟨.hbm, 91, rfl⟩
abbrev main_call1_v0 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_c_15 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_c_17 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_18 : Ref sig .tc := ⟨.hbm, 115, rfl⟩
abbrev main_v84 : Ref sig .tc := ⟨.hbm, 116, rfl⟩
abbrev main_v85 : Ref sig .tc := ⟨.hbm, 117, rfl⟩
abbrev main_c_19 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_20 : Ref sig .tc := ⟨.hbm, 122, rfl⟩
abbrev main_v89 : Ref sig .tc := ⟨.hbm, 123, rfl⟩
abbrev main_v90 : Ref sig .tc := ⟨.hbm, 124, rfl⟩
abbrev main_c_21 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_call2_cst : Ref sig .tc := ⟨.hbm, 143, rfl⟩
abbrev main_call2_v0 : Ref sig .tc := ⟨.hbm, 144, rfl⟩
abbrev main_v108 : Ref sig .tc := ⟨.hbm, 145, rfl⟩
abbrev main_cst_22 : Ref sig .tc := ⟨.hbm, 146, rfl⟩
abbrev main_v109 : Ref sig .tc := ⟨.hbm, 147, rfl⟩
abbrev main_v110 : Ref sig .tc := ⟨.hbm, 148, rfl⟩
abbrev main_c_23 : Ref sig .tc := ⟨.hbm, 149, rfl⟩
abbrev main_v111 : Ref sig .tc := ⟨.hbm, 150, rfl⟩
abbrev main_v112 : Ref sig .tc := ⟨.hbm, 151, rfl⟩
abbrev main_c_24 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_c_25 : Ref sig .tc := ⟨.hbm, 156, rfl⟩
abbrev main_v116 : Ref sig .tc := ⟨.hbm, 157, rfl⟩
abbrev main_v117 : Ref sig .tc := ⟨.hbm, 158, rfl⟩
abbrev main_c_26 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_27 : Ref sig .tc := ⟨.hbm, 168, rfl⟩
abbrev main_v126 : Ref sig .tc := ⟨.hbm, 169, rfl⟩
abbrev main_v127 : Ref sig .tc := ⟨.hbm, 170, rfl⟩
abbrev main_c_28 : Ref sig .tc := ⟨.hbm, 171, rfl⟩
abbrev main_v128 : Ref sig .tc := ⟨.hbm, 172, rfl⟩
abbrev main_v129 : Ref sig .tc := ⟨.hbm, 173, rfl⟩
abbrev main_c_29 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_c_30 : Ref sig .tc := ⟨.hbm, 178, rfl⟩
abbrev main_v133 : Ref sig .tc := ⟨.hbm, 179, rfl⟩
abbrev main_v134 : Ref sig .tc := ⟨.hbm, 180, rfl⟩
abbrev main_c_31 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_32 : Ref sig .tc := ⟨.hbm, 189, rfl⟩
abbrev main_v142 : Ref sig .tc := ⟨.hbm, 190, rfl⟩
abbrev main_v143 : Ref sig .tc := ⟨.hbm, 191, rfl⟩
abbrev main_cst_33 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩

abbrev nD : Nat := 1
abbrev τ : Topo := Topo.v7x

variable {F : FTy → Type} [FloatOps F]
-- ==== Proof.TrRunB.lean ====
/- The transformer kernel's body run at a grid point of a layer after the first. -/
module

public import proofs.«01_k».proof.Proof.TrRunA

@[expose] public section

-- membership in a rectangle of production extents (`View.cover_of_tiled`): the elaborator's structural look
-- recurses once per coordinate of the long axes
set_option maxRecDepth 16384

noncomputable section

namespace Cert.Tr.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple IN CASE B (`scf.if` 0 not taken: points 1, 2, 3, 5, 6, 7): on whole staging memrefs — the inputs' at their contents,
    the FORGOTTEN outputs' (24) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S128x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768x768 .bf16) (harg10 : arg10.IsWhole) (arg11 : Memref sig .tc .vmem S1x1x768 .f32) (harg11 : arg11.IsWhole) (arg12 : Memref sig .tc .vmem S1x768x768 .bf16) (harg12 : arg12.IsWhole) (arg13 : Memref sig .tc .vmem S1x1x768 .f32) (harg13 : arg13.IsWhole) (arg14 : Memref sig .tc .vmem S1x768x768 .bf16) (harg14 : arg14.IsWhole) (arg15 : Memref sig .tc .vmem S1x1x768 .f32) (harg15 : arg15.IsWhole) (arg16 : Memref sig .tc .vmem S1x768x768 .bf16) (harg16 : arg16.IsWhole) (arg17 : Memref sig .tc .vmem S1x1x768 .f32) (harg17 : arg17.IsWhole) (arg18 : Memref sig .tc .vmem S1x1x768 .f32) (harg18 : arg18.IsWhole) (arg19 : Memref sig .tc .vmem S1x1x768 .f32) (harg19 : arg19.IsWhole) (arg20 : Memref sig .tc .vmem S1x768x3072 .bf16) (harg20 : arg20.IsWhole) (arg21 : Memref sig .tc .vmem S1x1x3072 .f32) (harg21 : arg21.IsWhole) (arg22 : Memref sig .tc .vmem S1x3072x768 .bf16) (harg22 : arg22.IsWhole) (arg23 : Memref sig .tc .vmem S1x1x768 .f32) (harg23 : arg23.IsWhole) (arg24 : Memref sig .tc .vmem S1x1x768 .f32) (harg24 : arg24.IsWhole) (arg25 : Memref sig .tc .vmem S1x1x768 .f32) (harg25 : arg25.IsWhole) (arg26 : Memref sig .tc .vmem S512x768 .f32) (harg26 : arg26.IsWhole) (hc0 : ¬cond0_0 i)
    (x0 : Vec F S512x768 .f32) (x1 : Vec F S512x768 .f32) (x2 : Vec F S1x512 .i32) (x3 : Vec F S1x512 .i32) (x4 : Vec F S1x512 .i32) (x5 : Vec F S128x768 .f32) (x6 : Vec F S1x768 .f32) (x7 : Vec F S1x768 .f32) (x8 : Vec F S1x768x768 .bf16) (x9 : Vec F S1x1x768 .f32) (x10 : Vec F S1x768x768 .bf16) (x11 : Vec F S1x1x768 .f32) (x12 : Vec F S1x768x768 .bf16) (x13 : Vec F S1x1x768 .f32) (x14 : Vec F S1x768x768 .bf16) (x15 : Vec F S1x1x768 .f32) (x16 : Vec F S1x1x768 .f32) (x17 : Vec F S1x1x768 .f32) (x18 : Vec F S1x768x3072 .bf16) (x19 : Vec F S1x1x3072 .f32) (x20 : Vec F S1x3072x768 .bf16) (x21 : Vec F S1x1x768 .f32) (x22 : Vec F S1x1x768 .f32) (x23 : Vec F S1x1x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ (∃ d, owns (c : Thread nD τ) arg26 fullShare d)) -∗ K ⟨⟩))
          ⊢ wp frame (wpE (defs₀ (F := F)) Variants.none c none) E (cc0__tr_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    intro E K
    simp only [cc0__tr_kernel_eq_skeleton]; unfold cc0__tr_kernel_skel
    simp only [k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    iexists _, _; isplitr; swap; · iexact H24
    ipureintro; rfl

end Cert.Tr.Gen

end
-- ==== Proof.TrFrame.lean ====
/- The frame of the transformer program: the pipeline's data over the body runs, and the run of the whole program. -/
module

public import proofs.«01_k».proof.Proof.TrRunB
public import Idealize.ShloMosaic.Lib.Claim

@[expose] public section

-- membership in a rectangle of production extents (`View.cover_of_tiled`): the elaborator's structural look
-- recurses once per coordinate of the long axes
set_option maxRecDepth 16384

noncomputable section

namespace Cert.Tr.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (24): nothing reads what the kernel leaves in them, so nothing
    of it is named (Lib/Pipeline/Dat.lean `Dat.toRForget`). -/
def forgets0 : Fin 25 → Bool := fun w => w.val == 24

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, h⟩ => Pipeline.Dat.unnamed (cfg := cfg0) ⟨24, h⟩ t
    | ⟨_ + 25, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ (∃ d, owns (c : Thread nD τ) (ms0_24 t) fullShare d))

set_option maxHeartbeats 4800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  have hN : t.val < 8 := lt_of_lt_of_eq t.isLt (show cfg0.N = 8 from N_0)
  by_cases h0 : t.val % 4 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexists _; iexact H24
    iintro ⟨H0, H1, H2, H3, H4, H5, H6, H7, H8, H9, H10, H11, H12, H13, H14, H15, H16, H17, H18, H19, H20, H21, H22, H23, H24⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexists _; iexact H24
    iintro ⟨H0, H1, H2, H3, H4, H5, H6, H7, H8, H9, H10, H11, H12, H13, H14, H15, H16, H17, H18, H19, H20, H21, H22, H23, H24⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 24) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c)⟩) (run_main m ρ)

/-- THE FRAME: `Cert.quiescent_Tr`'s statement (Defs.lean) at any `F` — Proof.lean cites it at `Bits`:
    `theorem Cert.Proof.claim : Cert.Claim := ⟨Cert.Tr.Gen.facts, fun m ρ _ => Cert.Tr.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25))
      ∧ r.2.sem = fun _ => 0) :=
  θ_run_and (unchanged m ρ) ((θ_run defs _ _).mono (fun _ h => h.2) (run_main_quiescent m ρ))

end Cert.Tr.Gen

end
-- ==== Proof.Spec.lean ====
/- The transformer encoder of ONE batch element, as plain functions of indices: 32 positions of 768 numbers.
   Both programs are read against these definitions. -/
module

public import Idealize.ShloMosaic.Lib.Pointwise

@[expose] public section

set_option maxRecDepth 16384

noncomputable section

namespace Cert.Spec

open Idealize.ShloMosaic

/-- The mean of a row of 768 numbers. -/
def mean (x : Fin 768 → EReal) : EReal := Ideal.div (∑ k, x k) (Ideal.ofBits .f32 0x44400000#32)

/-- Layer normalisation of a row, with scale `g` and shift `b`. -/
def ln (x g b : Fin 768 → EReal) (d : Fin 768) : EReal :=
  (x d - mean x) * Ideal.rsqrt (mean (fun k => (x k - mean x) * (x k - mean x)) + Ideal.ofBits .f32 0x2B8CBCCC#32)
    * g d + b d

/-- A row times a weight matrix plus a bias. -/
def lin {n p : ℕ} (x : Fin n → EReal) (w : Fin n → Fin p → EReal) (b : Fin p → EReal) (d : Fin p) : EReal :=
  (∑ k, x k * w k d) + b d

/-- Column `e` of head `a`. -/
def col (a : Fin 12) (e : Fin 64) : Fin 768 := ⟨a.val * 64 + e.val, by omega⟩

/-- The scaled product of query row `s` and key row `t` in head `a`. -/
def score (q k : Fin 32 → Fin 768 → EReal) (a : Fin 12) (s t : Fin 32) : EReal :=
  (∑ e, q s (col a e) * k t (col a e)) * Ideal.ofBits .f32 0x3E000000#32

/-- The exponential of a score less its row's largest. -/
def weight (q k : Fin 32 → Fin 768 → EReal) (a : Fin 12) (s t : Fin 32) : EReal :=
  Ideal.exp (score q k a s t
    - Finset.univ.fold max (Ideal.ofBits .f32 0xFF800000#32) (fun u => score q k a s u))

/-- The softmax of head `a`'s scores. -/
def prob (q k : Fin 32 → Fin 768 → EReal) (a : Fin 12) (s t : Fin 32) : EReal :=
  Ideal.div (weight q k a s t) (∑ u, weight q k a s u)

/-- Attention: column `d` belongs to head `d / 64`. -/
def ctx (q k v : Fin 32 → Fin 768 → EReal) (s : Fin 32) (d : Fin 768) : EReal :=
  ∑ t, prob q k ⟨d.val / 64, by omega⟩ s t * v t d

/-- The activation of the feed-forward part. -/
def gelu (u : EReal) : EReal :=
  u * (Ideal.ofBits .f32 0x3F000000#32 * (1
    + Ideal.tanh (Ideal.ofBits .f32 0x3F4C422A#32 * (u + Ideal.ofBits .f32 0x3D372713#32 * (u * (u * u))))))

/-- The weights of one layer. -/
structure Params where
  wq : Fin 768 → Fin 768 → EReal
  bq : Fin 768 → EReal
  wk : Fin 768 → Fin 768 → EReal
  bk : Fin 768 → EReal
  wv : Fin 768 → Fin 768 → EReal
  bv : Fin 768 → EReal
  wo : Fin 768 → Fin 768 → EReal
  bo : Fin 768 → EReal
  g1 : Fin 768 → EReal
  b1 : Fin 768 → EReal
  w1 : Fin 768 → Fin 3072 → EReal
  c1 : Fin 3072 → EReal
  w2 : Fin 3072 → Fin 768 → EReal
  c2 : Fin 768 → EReal
  g2 : Fin 768 → EReal
  b2 : Fin 768 → EReal

/-- The attention half of a layer before its normalisation. -/
def attn (P : Params) (h : Fin 32 → Fin 768 → EReal) (s : Fin 32) (d : Fin 768) : EReal :=
  h s d + lin (fun k => ctx (fun t => lin (h t) P.wq P.bq) (fun t => lin (h t) P.wk P.bk)
    (fun t => lin (h t) P.wv P.bv) s k) P.wo P.bo d

/-- The feed-forward half of a layer on one row, with its normalisation. -/
def ffn (P : Params) (x : Fin 768 → EReal) (d : Fin 768) : EReal :=
  ln (fun j => x j + lin (fun k => gelu (lin x P.w1 P.c1 k)) P.w2 P.c2 j) P.g2 P.b2 d

/-- One encoder layer. -/
def layer (P : Params) (h : Fin 32 → Fin 768 → EReal) (s : Fin 32) (d : Fin 768) : EReal :=
  ffn P (ln (attn P h s) P.g1 P.b1) d

/-- Layers `0 … n` one after another. -/
def layers (P : ℕ → Params) (h : Fin 32 → Fin 768 → EReal) : ℕ → Fin 32 → Fin 768 → EReal
  | 0 => layer (P 0) h
  | n + 1 => layer (P (n + 1)) (layers P h n)

end Cert.Spec

end
-- ==== Proof.RLayer.lean ====
/- One encoder layer of the reference, read at an index as the plain layer. -/
module

public import proofs.«01_k».proof.Proof.Spec
public import proofs.«01_k».proof.Proof.Gen.TrRefIdeal
public import Idealize.ShloMosaic.Lib.Pointwise

@[expose] public section

set_option maxRecDepth 16384

noncomputable section

namespace Cert.TrRefIdeal.Layer

open Idealize.ShloMosaic Idealize.ShloMosaic.TcCoe Idealize.SL.Sem
open Cert.TrRefIdeal Cert.TrRefIdeal.Gen

/-- Batch element `b`. -/
def rows (x : FVec Ideal S32x32x768 .f32) (b s : Fin 32) (d : Fin 768) : EReal := x (ix3 b s d)

/-- A row of 768 numbers repeated over all positions. -/
def rRow (g : FVec Ideal S768 .f32) : FVec Ideal S32x32x768 .f32 :=
  broadcastInDim S32x32x768 ![0, 1, 2] bcast_S1x1x768_S32x32x768_0_1_2 (broadcastInDim S1x1x768 ![2] bcast_S768_S1x1x768_2 g)

/-- The means of the rows. -/
def rMean (x : FVec Ideal S32x32x768 .f32) : FVec Ideal S32x32x1 .f32 :=
  Host.divf (broadcastInDim S32x32x1 ![0, 1] bcast_S32x32_S32x32x1_0_1 (Host.reduceAdd x (constant S_ .f32 0x00000000#32) reducesTo_S32x32x768_S32x32_d2 h_S_)) (broadcastInDim S32x32x1 ![] bcast_S_S32x32x1 (constant S_ .f32 0x44400000#32))

/-- The rows less their means. -/
def rCent (x : FVec Ideal S32x32x768 .f32) : FVec Ideal S32x32x768 .f32 :=
  subf x (broadcastInDim S32x32x768 ![0, 1, 2] bcast_S32x32x1_S32x32x768_0_1_2 (rMean x))

/-- Layer normalisation. -/
def rLn (x : FVec Ideal S32x32x768 .f32) (g b : FVec Ideal S768 .f32) : FVec Ideal S32x32x768 .f32 :=
  addf (mulf (mulf (rCent x) (broadcastInDim S32x32x768 ![0, 1, 2] bcast_S32x32x1_S32x32x768_0_1_2 (Host.rsqrt (addf (rMean (mulf (rCent x) (rCent x))) (broadcastInDim S32x32x1 ![] bcast_S_S32x32x1 (constant S_ .f32 0x2B8CBCCC#32)))))) (rRow g)) (rRow b)

/-- A projection of every row. -/
def rLin (h : FVec Ideal S32x32x768 .f32) (w : FVec Ideal S768x768 .f32) (b : FVec Ideal S768 .f32) : FVec Ideal S32x32x768 .f32 :=
  addf (Host.dotGeneral (φ₁ := .f32) (φ₂ := .f32) dot_S32x32x768_S768x768_S32x32x768_2_0_01_1_n_n none h w) (rRow b)

/-- The scaled scores of all heads. -/
def rScore (q k : FVec Ideal S32x32x768 .f32) : FVec Ideal S32x12x32x32 .f32 :=
  mulf (Host.dotGeneral (φ₁ := .f32) (φ₂ := .f32) dot_S32x32x12x64_S32x32x12x64_S32x12x32x32_3_3_1_1_02_02 none (shapeCast S32x32x12x64 q shapeCasts_S32x32x768_S32x32x12x64) (shapeCast S32x32x12x64 k shapeCasts_S32x32x768_S32x32x12x64)) (broadcastInDim S32x12x32x32 ![] bcast_S_S32x12x32x32 (constant S_ .f32 0x3E000000#32))

/-- The exponentials of the scores less their row's largest. -/
def rWeight (s : FVec Ideal S32x12x32x32 .f32) : FVec Ideal S32x12x32x32 .f32 :=
  Host.exp (subf s (broadcastInDim S32x12x32x32 ![0, 1, 2, 3] bcast_S32x12x32x1_S32x12x32x32_0_1_2_3 (broadcastInDim S32x12x32x1 ![0, 1, 2] bcast_S32x12x32_S32x12x32x1_0_1_2 (maximumf (broadcastInDim S32x12x32 ![] bcast_S_S32x12x32 (constant S_ .f32 0xFF800000#32)) (Host.reduce FloatOps.maximumf s (constant S_ .f32 0xFF800000#32) reducesTo_S32x12x32x32_S32x12x32_d3 h_S_)))))

/-- Attention. -/
def rCtx (e : FVec Ideal S32x12x32x32 .f32) (v : FVec Ideal S32x32x768 .f32) : FVec Ideal S32x32x768 .f32 :=
  shapeCast S32x32x768 (transpose S32x32x12x64 [0, 3, 1, 2] (Host.dotGeneral (φ₁ := .f32) (φ₂ := .f32) dot_S32x32x12x64_S32x12x32x32_S32x12x64x32_1_3_3_2_02_01 none (shapeCast S32x32x12x64 v shapeCasts_S32x32x768_S32x32x12x64) (Host.divf e (broadcastInDim S32x12x32x32 ![0, 1, 2, 3] bcast_S32x12x32x1_S32x12x32x32_0_1_2_3 (broadcastInDim S32x12x32x1 ![0, 1, 2] bcast_S32x12x32_S32x12x32x1_0_1_2 (Host.reduceAdd e (constant S_ .f32 0x00000000#32) reducesTo_S32x12x32x32_S32x12x32_d3 h_S_))))) transposes_S32x12x64x32_S32x32x12x64_0_3_1_2) shapeCasts_S32x32x12x64_S32x32x768

/-- The first product of the feed-forward part. -/
def rUp (x : FVec Ideal S32x32x768 .f32) (w : FVec Ideal S768x3072 .f32) (b : FVec Ideal S3072 .f32) : FVec Ideal S32x32x3072 .f32 :=
  addf (Host.dotGeneral (φ₁ := .f32) (φ₂ := .f32) dot_S32x32x768_S768x3072_S32x32x3072_2_0_01_1_n_n none x w) (broadcastInDim S32x32x3072 ![0, 1, 2] bcast_S1x1x3072_S32x32x3072_0_1_2 (broadcastInDim S1x1x3072 ![2] bcast_S3072_S1x1x3072_2 b))

/-- The activation. -/
def rGelu (u : FVec Ideal S32x32x3072 .f32) : FVec Ideal S32x32x3072 .f32 :=
  mulf u (mulf (broadcastInDim S32x32x3072 ![] bcast_S_S32x32x3072 (constant S_ .f32 0x3F000000#32)) (addf (broadcastInDim S32x32x3072 ![] bcast_S_S32x32x3072 (constant S_ .f32 0x3F800000#32)) (Host.tanh (mulf (broadcastInDim S32x32x3072 ![] bcast_S_S32x32x3072 (constant S_ .f32 0x3F4C422A#32)) (addf u (mulf (broadcastInDim S32x32x3072 ![] bcast_S_S32x32x3072 (constant S_ .f32 0x3D372713#32)) (mulf (mulf u u) u)))))))

/-- The second product of the feed-forward part. -/
def rDown (x : FVec Ideal S32x32x3072 .f32) (w : FVec Ideal S3072x768 .f32) (b : FVec Ideal S768 .f32) : FVec Ideal S32x32x768 .f32 :=
  addf (Host.dotGeneral (φ₁ := .f32) (φ₂ := .f32) dot_S32x32x3072_S3072x768_S32x32x768_2_0_01_1_n_n none x w) (rRow b)

theorem rRow_at (g : FVec Ideal S768 .f32) (b s : Fin 32) (d : Fin 768) : rRow g (ix3 b s d) = g (ix1 d) := by
  pointwise [rRow]

theorem rMean_at (x : FVec Ideal S32x32x768 .f32) (b s : Fin 32) (i : Fin 1) :
    rMean x (ix3 b s i) = Spec.mean (fun k => x (ix3 b s k)) := by
  pointwise [rMean, Spec.mean]

theorem rCent_at (x : FVec Ideal S32x32x768 .f32) (b s : Fin 32) (d : Fin 768) :
    rCent x (ix3 b s d) = x (ix3 b s d) - Spec.mean (fun k => x (ix3 b s k)) := by
  pointwise [rCent, rMean_at]

theorem rLn_at (x : FVec Ideal S32x32x768 .f32) (g c : FVec Ideal S768 .f32) (b s : Fin 32) (d : Fin 768) :
    rLn x g c (ix3 b s d) = Spec.ln (fun k => x (ix3 b s k)) (fun k => g (ix1 k)) (fun k => c (ix1 k)) d := by
  pointwise [rLn, rRow_at, rCent_at, rMean_at, Spec.ln]

theorem rLin_at (h : FVec Ideal S32x32x768 .f32) (w : FVec Ideal S768x768 .f32) (c : FVec Ideal S768 .f32)
    (b : Fin 32) : rows (rLin h w c) b
      = fun s => Spec.lin (rows h b s) (fun k d => w (ix2 k d)) (fun d => c (ix1 d)) := by
  funext s d
  pointwise [rows, rLin, rRow_at, Spec.lin]

theorem rScore_at (q k : FVec Ideal S32x32x768 .f32) (b : Fin 32) (a : Fin 12) (s t : Fin 32) :
    rScore q k (ix4 b a s t) = Spec.score (rows q b) (rows k b) a s t := by
  pointwise [rScore, Spec.score, rows, Spec.col]

/-- The largest of a fold that starts at `b` is not below `b`. -/
theorem max_fold {n : ℕ} (b : EReal) (f : Fin n → EReal) :
    max b (Finset.univ.fold max b f) = Finset.univ.fold max b f :=
  max_eq_right ((Finset.le_fold_max b).2 (.inl le_rfl))

theorem rWeight_at (q k : FVec Ideal S32x32x768 .f32) (b : Fin 32) (a : Fin 12) (s t : Fin 32) :
    rWeight (rScore q k) (ix4 b a s t) = Spec.weight (rows q b) (rows k b) a s t := by
  pointwise [rWeight, Spec.weight, rScore_at, max_fold]

theorem rCtx_at (q k v : FVec Ideal S32x32x768 .f32) (b s : Fin 32) (d : Fin 768) :
    rCtx (rWeight (rScore q k)) v (ix3 b s d) = Spec.ctx (rows q b) (rows k b) (rows v b) s d := by
  pointwise [rCtx, Spec.ctx, rWeight_at, Spec.prob, rows]
  exact Finset.sum_congr rfl fun t _ => mul_comm _ _

/-- A whole layer over its weights. -/
def rAttn (h : FVec Ideal S32x32x768 .f32) (wq : FVec Ideal S768x768 .f32) (bq : FVec Ideal S768 .f32)
    (wk : FVec Ideal S768x768 .f32) (bk : FVec Ideal S768 .f32) (wv : FVec Ideal S768x768 .f32)
    (bv : FVec Ideal S768 .f32) (wo : FVec Ideal S768x768 .f32) (bo : FVec Ideal S768 .f32) :
    FVec Ideal S32x32x768 .f32 :=
  addf (addf h (Host.dotGeneral (φ₁ := .f32) (φ₂ := .f32) dot_S32x32x768_S768x768_S32x32x768_2_0_01_1_n_n none
    (rCtx (rWeight (rScore (rLin h wq bq) (rLin h wk bk))) (rLin h wv bv)) wo)) (rRow bo)

/-- The feed-forward half. -/
def rFfn (x : FVec Ideal S32x32x768 .f32) (w1 : FVec Ideal S768x3072 .f32) (c1 : FVec Ideal S3072 .f32)
    (w2 : FVec Ideal S3072x768 .f32) (c2 g2 b2 : FVec Ideal S768 .f32) : FVec Ideal S32x32x768 .f32 :=
  rLn (addf x (rDown (rGelu (rUp x w1 c1)) w2 c2)) g2 b2

theorem rAttn_at (h : FVec Ideal S32x32x768 .f32) (wq : FVec Ideal S768x768 .f32) (bq : FVec Ideal S768 .f32)
    (wk : FVec Ideal S768x768 .f32) (bk : FVec Ideal S768 .f32) (wv : FVec Ideal S768x768 .f32)
    (bv : FVec Ideal S768 .f32) (wo : FVec Ideal S768x768 .f32) (bo : FVec Ideal S768 .f32) (P : Spec.Params)
    (hq : ∀ k d, wq (ix2 k d) = P.wq k d) (hbq : ∀ d, bq (ix1 d) = P.bq d)
    (hk : ∀ k d, wk (ix2 k d) = P.wk k d) (hbk : ∀ d, bk (ix1 d) = P.bk d)
    (hv : ∀ k d, wv (ix2 k d) = P.wv k d) (hbv : ∀ d, bv (ix1 d) = P.bv d)
    (ho : ∀ k d, wo (ix2 k d) = P.wo k d) (hbo : ∀ d, bo (ix1 d) = P.bo d)
    (b s : Fin 32) (d : Fin 768) :
    rAttn h wq bq wk bk wv bv wo bo (ix3 b s d) = Spec.attn P (rows h b) s d := by
  have hQ : rows (rLin h wq bq) b = fun t => Spec.lin (rows h b t) P.wq P.bq := by
    rw [rLin_at]; simp only [hq, hbq]
  have hK : rows (rLin h wk bk) b = fun t => Spec.lin (rows h b t) P.wk P.bk := by
    rw [rLin_at]; simp only [hk, hbk]
  have hV : rows (rLin h wv bv) b = fun t => Spec.lin (rows h b t) P.wv P.bv := by
    rw [rLin_at]; simp only [hv, hbv]
  rw [Spec.attn, ← hQ, ← hK, ← hV]
  pointwise [rAttn, rCtx_at, rRow_at, Spec.lin, ho, hbo]
  rw [add_assoc]
  rfl

theorem rFfn_at (x : FVec Ideal S32x32x768 .f32) (w1 : FVec Ideal S768x3072 .f32) (c1 : FVec Ideal S3072 .f32)
    (w2 : FVec Ideal S3072x768 .f32) (c2 g2 b2 : FVec Ideal S768 .f32) (P : Spec.Params)
    (hw1 : ∀ k d, w1 (ix2 k d) = P.w1 k d) (hc1 : ∀ d, c1 (ix1 d) = P.c1 d)
    (hw2 : ∀ k d, w2 (ix2 k d) = P.w2 k d) (hc2 : ∀ d, c2 (ix1 d) = P.c2 d)
    (hg2 : ∀ d, g2 (ix1 d) = P.g2 d) (hb2 : ∀ d, b2 (ix1 d) = P.b2 d)
    (b s : Fin 32) (d : Fin 768) :
    rFfn x w1 c1 w2 c2 g2 b2 (ix3 b s d) = Spec.ffn P (fun k => x (ix3 b s k)) d := by
  have hU : ∀ j, rGelu (rUp x w1 c1) (ix3 b s j) = Spec.gelu (Spec.lin (fun k => x (ix3 b s k)) P.w1 P.c1 j) := by
    intro j
    have hu : rUp x w1 c1 (ix3 b s j) = Spec.lin (fun k => x (ix3 b s k)) P.w1 P.c1 j := by
      pointwise [rUp, Spec.lin, hw1, hc1]
    rw [← hu]
    pointwise [rGelu, Spec.gelu]
    rw [mul_comm (rUp x w1 c1 (ix3 b s j) * _)]
  rw [rFfn, rLn_at]
  pointwise [rDown, rRow_at, hU, hw2, hc2, hg2, hb2]
  rfl

end Cert.TrRefIdeal.Layer

end
-- ==== Proof.RValue.lean ====
/- The reference's layers, each the plain layer of its own weights. -/
module

public import proofs.«01_k».proof.Proof.RLayer
public import proofs.«01_k».proof.Proof.Gen.TrRefIdeal.Run

@[expose] public section

set_option maxRecDepth 16384

noncomputable section

namespace Cert.TrRefIdeal.Layer

open Idealize.ShloMosaic Idealize.ShloMosaic.TcCoe Idealize.SL.Sem
open Cert.TrRefIdeal Cert.TrRefIdeal.Gen Cert.TrRefIdeal.Value

/-- A layer's matrix of a stack of four. -/
def wSq (l : ℕ) (h : S4x768x768.Slices ![l, 0, 0] S1x768x768) (w : FVec Ideal S4x768x768 .f32) : FVec Ideal S768x768 .f32 :=
  shapeCast S768x768 (extractStridedSlice S1x768x768 ![l, 0, 0] w h) shapeCasts_S1x768x768_S768x768

/-- A layer's row of a stack of four. -/
def wRow (l : ℕ) (h : S4x768.Slices ![l, 0] S1x768) (w : FVec Ideal S4x768 .f32) : FVec Ideal S768 .f32 :=
  shapeCast S768 (extractStridedSlice S1x768 ![l, 0] w h) shapeCasts_S1x768_S768

/-- A layer's first feed-forward matrix. -/
def wUp (l : ℕ) (h : S4x768x3072.Slices ![l, 0, 0] S1x768x3072) (w : FVec Ideal S4x768x3072 .f32) : FVec Ideal S768x3072 .f32 :=
  shapeCast S768x3072 (extractStridedSlice S1x768x3072 ![l, 0, 0] w h) shapeCasts_S1x768x3072_S768x3072

/-- A layer's first feed-forward row. -/
def wUpRow (l : ℕ) (h : S4x3072.Slices ![l, 0] S1x3072) (w : FVec Ideal S4x3072 .f32) : FVec Ideal S3072 .f32 :=
  shapeCast S3072 (extractStridedSlice S1x3072 ![l, 0] w h) shapeCasts_S1x3072_S3072

/-- A layer's second feed-forward matrix. -/
def wDown (l : ℕ) (h : S4x3072x768.Slices ![l, 0, 0] S1x3072x768) (w : FVec Ideal S4x3072x768 .f32) : FVec Ideal S3072x768 .f32 :=
  shapeCast S3072x768 (extractStridedSlice S1x3072x768 ![l, 0, 0] w h) shapeCasts_S1x3072x768_S3072x768

theorem wSq_at (l : Fin 4) (h) (w : FVec Ideal S4x768x768 .f32) (k d : Fin 768) : wSq l.val h w (ix2 k d) = w (ix3 l k d) := by
  fin_cases l <;> pointwise [wSq]

theorem wRow_at (l : Fin 4) (h) (w : FVec Ideal S4x768 .f32) (d : Fin 768) : wRow l.val h w (ix1 d) = w (ix2 l d) := by
  fin_cases l <;> pointwise [wRow]

theorem wUp_at (l : Fin 4) (h) (w : FVec Ideal S4x768x3072 .f32) (k : Fin 768) (d : Fin 3072) : wUp l.val h w (ix2 k d) = w (ix3 l k d) := by
  fin_cases l <;> pointwise [wUp]

theorem wUpRow_at (l : Fin 4) (h) (w : FVec Ideal S4x3072 .f32) (d : Fin 3072) : wUpRow l.val h w (ix1 d) = w (ix2 l d) := by
  fin_cases l <;> pointwise [wUpRow]

theorem wDown_at (l : Fin 4) (h) (w : FVec Ideal S4x3072x768 .f32) (k : Fin 3072) (d : Fin 768) : wDown l.val h w (ix2 k d) = w (ix3 l k d) := by
  fin_cases l <;> pointwise [wDown]

/-- Layer `l`'s weights, read off the reference's arguments. -/
def params (V : Valuation τ sig (Elt Ideal)) (l : Fin 4) : Spec.Params where
  wq k d := (V (Proc.devRef .tc main_arg10) : FVec Ideal S4x768x768 .f32) (ix3 l k d)
  bq d := (V (Proc.devRef .tc main_arg11) : FVec Ideal S4x768 .f32) (ix2 l d)
  wk k d := (V (Proc.devRef .tc main_arg12) : FVec Ideal S4x768x768 .f32) (ix3 l k d)
  bk d := (V (Proc.devRef .tc main_arg13) : FVec Ideal S4x768 .f32) (ix2 l d)
  wv k d := (V (Proc.devRef .tc main_arg14) : FVec Ideal S4x768x768 .f32) (ix3 l k d)
  bv d := (V (Proc.devRef .tc main_arg15) : FVec Ideal S4x768 .f32) (ix2 l d)
  wo k d := (V (Proc.devRef .tc main_arg16) : FVec Ideal S4x768x768 .f32) (ix3 l k d)
  bo d := (V (Proc.devRef .tc main_arg17) : FVec Ideal S4x768 .f32) (ix2 l d)
  g1 d := (V (Proc.devRef .tc main_arg18) : FVec Ideal S4x768 .f32) (ix2 l d)
  b1 d := (V (Proc.devRef .tc main_arg19) : FVec Ideal S4x768 .f32) (ix2 l d)
  w1 k d := (V (Proc.devRef .tc main_arg20) : FVec Ideal S4x768x3072 .f32) (ix3 l k d)
  c1 d := (V (Proc.devRef .tc main_arg21) : FVec Ideal S4x3072 .f32) (ix2 l d)
  w2 k d := (V (Proc.devRef .tc main_arg22) : FVec Ideal S4x3072x768 .f32) (ix3 l k d)
  c2 d := (V (Proc.devRef .tc main_arg23) : FVec Ideal S4x768 .f32) (ix2 l d)
  g2 d := (V (Proc.devRef .tc main_arg24) : FVec Ideal S4x768 .f32) (ix2 l d)
  b2 d := (V (Proc.devRef .tc main_arg25) : FVec Ideal S4x768 .f32) (ix2 l d)

/-- Layer `l` of the reference in its own operations, from the stacks' slices. -/
def rLayer (V : Valuation τ sig (Elt Ideal)) (l : ℕ) (sq : S4x768x768.Slices ![l, 0, 0] S1x768x768)
    (sr : S4x768.Slices ![l, 0] S1x768) (su : S4x768x3072.Slices ![l, 0, 0] S1x768x3072)
    (sur : S4x3072.Slices ![l, 0] S1x3072) (sd : S4x3072x768.Slices ![l, 0, 0] S1x3072x768)
    (h : FVec Ideal S32x32x768 .f32) : FVec Ideal S32x32x768 .f32 :=
  rFfn (rLn (rAttn h (wSq l sq (V (Proc.devRef .tc main_arg10))) (wRow l sr (V (Proc.devRef .tc main_arg11)))
      (wSq l sq (V (Proc.devRef .tc main_arg12))) (wRow l sr (V (Proc.devRef .tc main_arg13)))
      (wSq l sq (V (Proc.devRef .tc main_arg14))) (wRow l sr (V (Proc.devRef .tc main_arg15)))
      (wSq l sq (V (Proc.devRef .tc main_arg16))) (wRow l sr (V (Proc.devRef .tc main_arg17))))
      (wRow l sr (V (Proc.devRef .tc main_arg18))) (wRow l sr (V (Proc.devRef .tc main_arg19))))
    (wUp l su (V (Proc.devRef .tc main_arg20))) (wUpRow l sur (V (Proc.devRef .tc main_arg21)))
    (wDown l sd (V (Proc.devRef .tc main_arg22))) (wRow l sr (V (Proc.devRef .tc main_arg23)))
    (wRow l sr (V (Proc.devRef .tc main_arg24))) (wRow l sr (V (Proc.devRef .tc main_arg25)))

/-- Layer `l` of the reference is the plain layer of its weights, one batch element at a time. -/
theorem rLayer_at (V : Valuation τ sig (Elt Ideal)) (l : Fin 4) (sq sr su sur sd)
    (h : FVec Ideal S32x32x768 .f32) (b : Fin 32) :
    rows (rLayer V l.val sq sr su sur sd h) b = Spec.layer (params V l) (rows h b) := by
  funext s d
  have key : ∀ (x : FVec Ideal S32x32x768 .f32) (g c : FVec Ideal S768 .f32) (G C : Fin 768 → EReal)
      (A : Fin 768 → EReal), (∀ k, x (ix3 b s k) = A k) → (∀ k, g (ix1 k) = G k) → (∀ k, c (ix1 k) = C k) →
      (fun k => rLn x g c (ix3 b s k)) = Spec.ln A G C := by
    intro x g c G C A hx hg hc
    funext k
    rw [rLn_at]; simp only [hx, hg, hc]
  show rFfn _ _ _ _ _ _ _ (ix3 b s d) = _
  rw [rFfn_at _ _ _ _ _ _ _ (params V l) (wUp_at l su _) (wUpRow_at l sur _) (wDown_at l sd _) (wRow_at l sr _)
    (wRow_at l sr _) (wRow_at l sr _), Spec.layer,
    key _ _ _ _ _ (Spec.attn (params V l) (rows h b) s) (rAttn_at h _ _ _ _ _ _ _ _ (params V l) (wSq_at l sq _)
      (wRow_at l sr _) (wSq_at l sq _) (wRow_at l sr _) (wSq_at l sq _) (wRow_at l sr _) (wSq_at l sq _)
      (wRow_at l sr _) b s) (wRow_at l sr _) (wRow_at l sr _)]
  rfl

/-- The reference's embedding normalisation. -/
theorem emb_eq (V : Valuation τ sig (Elt Ideal)) : res_main_v49 V
    = rLn (res_main_v25 V) (V (Proc.devRef .tc main_arg8)) (V (Proc.devRef .tc main_arg9)) := rfl

theorem layer0 (V : Valuation τ sig (Elt Ideal)) (b : Fin 32) :
    rows (res_main_v188 V) b = Spec.layer (params V 0) (rows (res_main_v49 V) b) :=
  rLayer_at V 0 slices_S4x768x768_S1x768x768_0_0_0 slices_S4x768_S1x768_0_0 slices_S4x768x3072_S1x768x3072_0_0_0
    slices_S4x3072_S1x3072_0_0 slices_S4x3072x768_S1x3072x768_0_0_0 (res_main_v49 V) b

theorem layer1 (V : Valuation τ sig (Elt Ideal)) (b : Fin 32) :
    rows (res_main_v327 V) b = Spec.layer (params V 1) (rows (res_main_v188 V) b) :=
  rLayer_at V 1 slices_S4x768x768_S1x768x768_1_0_0 slices_S4x768_S1x768_1_0 slices_S4x768x3072_S1x768x3072_1_0_0
    slices_S4x3072_S1x3072_1_0 slices_S4x3072x768_S1x3072x768_1_0_0 (res_main_v188 V) b

theorem layer2 (V : Valuation τ sig (Elt Ideal)) (b : Fin 32) :
    rows (res_main_v466 V) b = Spec.layer (params V 2) (rows (res_main_v327 V) b) :=
  rLayer_at V 2 slices_S4x768x768_S1x768x768_2_0_0 slices_S4x768_S1x768_2_0 slices_S4x768x3072_S1x768x3072_2_0_0
    slices_S4x3072_S1x3072_2_0 slices_S4x3072x768_S1x3072x768_2_0_0 (res_main_v327 V) b

/-- The reference's last layer, before its rows are laid one after another. -/
def last (V : Valuation τ sig (Elt Ideal)) : FVec Ideal S32x32x768 .f32 :=
  rLayer V 3 slices_S4x768x768_S1x768x768_3_0_0 slices_S4x768_S1x768_3_0 slices_S4x768x3072_S1x768x3072_3_0_0
    slices_S4x3072_S1x3072_3_0 slices_S4x3072x768_S1x3072x768_3_0_0 (res_main_v466 V)

/-- The four layers over the normalised embeddings. -/
theorem last_at (V : Valuation τ sig (Elt Ideal)) (P : ℕ → Spec.Params) (hP : ∀ l : Fin 4, params V l = P l.val) (b : Fin 32) :
    rows (last V) b = Spec.layers P (rows (res_main_v49 V) b) 3 := by
  have e3 := rLayer_at V 3 slices_S4x768x768_S1x768x768_3_0_0 slices_S4x768_S1x768_3_0
    slices_S4x768x3072_S1x768x3072_3_0_0 slices_S4x3072_S1x3072_3_0 slices_S4x3072x768_S1x3072x768_3_0_0 (res_main_v466 V) b
  refine e3.trans ?_
  rw [layer2, layer1, layer0]
  simp only [Spec.layers, hP]
  rfl

end Cert.TrRefIdeal.Layer

end
-- ==== Proof.Sum.lean ====
/- A sum of five extended reals, associated as the encoder's input is. -/
module

public import proofs.«01_k».proof.Proof.Spec

@[expose] public section

noncomputable section

namespace Cert.Spec

/-- Five summands added from the left. -/
def sum5 (x y z u v : EReal) : EReal := x + y + z + u + v

end Cert.Spec

end
-- ==== Proof.REmb.lean ====
/- The reference's embedding: a table row picked by an identifier, and the sum the encoder starts from. -/
module

public import proofs.«01_k».proof.Proof.RValue
public import proofs.«01_k».proof.Proof.Sum

@[expose] public section

set_option maxRecDepth 16384

noncomputable section

namespace Cert.TrRefIdeal.Layer

open Idealize.ShloMosaic Idealize.ShloMosaic.TcCoe Idealize.SL.Sem
open Cert.TrRefIdeal Cert.TrRefIdeal.Gen Cert.TrRefIdeal.Value

/-- The dimension numbers of "row `idx[b, s]` of a table of `N` rows". -/
def pickDims (N : ℕ) (wf : GatherDims.WF ⟨2, ![N, 768]⟩ S32x32x1 S32x32x768 [2] [0] [] [0] [] 2 ![1, 768]) :
    GatherDims ⟨2, ![N, 768]⟩ S32x32x1 S32x32x768 where
  offsetDims := [2]
  collapsedSliceDims := [0]
  operandBatchingDims := []
  startIndicesBatchingDims := []
  startIndexMap := [0]
  indexVectorDim := 2
  sliceSizes := ![1, 768]
  wf := wf

/-- Such a gather at `(b, s, d)` is the table at row `a` and column `d`, where `a` is the identifier at `(b, s)`. -/
theorem pick_at {N : ℕ} (wf : GatherDims.WF ⟨2, ![N, 768]⟩ S32x32x1 S32x32x768 [2] [0] [] [0] [] 2 ![1, 768])
    (x : FVec Ideal ⟨2, ![N, 768]⟩ .f32) (idx : IVec S32x32x1 32) (b s : Fin 32) (d : Fin 768) (a : Fin N)
    (ha : (idx (ix3 b s 0)).toInt.toNat = a.val) :
    Host.gather (pickDims N wf) x idx (ix3 b s d) = x (ix2 a d) := by
  unfold Host.gather
  congr 1
  funext k
  refine Fin.ext ?_
  show (pickDims N wf).start (ix3 b s d) idx k + (pickDims N wf).batchCoord (ix3 b s d) k
      + (pickDims N wf).offCoord (ix3 b s d) k = _
  rw [GatherDims.batchCoord_eq_zero _ _ _ (fun h => by simp [pickDims] at h)]
  have hk : k = 0 ∨ k = 1 := by
    match k with
    | ⟨0, _⟩ => exact Or.inl rfl
    | ⟨1, _⟩ => exact Or.inr rfl
  rcases hk with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (pickDims N wf).startIndexMap from List.mem_singleton.mpr rfl)]
    have hsi : (pickDims N wf).siIdx (ix3 b s d) ⟨List.idxOf (0 : Fin 2) (pickDims N wf).startIndexMap,
        List.idxOf_lt_length_iff.2 (List.mem_singleton.mpr rfl)⟩ = ix3 b s 0 := by
      funext q; refine Fin.ext ?_
      match q with
      | ⟨0, _⟩ => rfl
      | ⟨1, _⟩ => rfl
      | ⟨2, _⟩ => rfl
    rw [hsi, ha]
    have := a.isLt
    show min a.val (N - 1) = a.val
    omega
  · have h0 : (pickDims N wf).start (ix3 b s d) idx 1 = 0 := by
      unfold GatherDims.start
      exact dif_neg (fun h => by simp [pickDims] at h)
    rw [h0]
    unfold GatherDims.offCoord
    rw [dif_pos ((GatherDims.mem_sKept _ _).mpr ⟨by simp [pickDims], by simp [pickDims]⟩)]
    simp only [Nat.zero_add]
    rfl

/-- The identifier the lookup reads: a negative one counted from the table's end, every other as it is. -/
def ident (n : BitVec 32) (x : IVec S32x32 32) : IVec S32x32x1 32 :=
  broadcastInDim S32x32x1 ![0, 1] bcast_S32x32_S32x32x1_0_1 (select (cmpi .slt x (broadcastInDim S32x32 ![] bcast_S_S32x32 (constantI S_ 32 0#32))) (addi x (broadcastInDim S32x32 ![] bcast_S_S32x32 (constantI S_ 32 n))) x)

/-- An identifier known to be a small natural number is read as that number. -/
theorem ident_at (n : BitVec 32) (x : IVec S32x32 32) (b s : Fin 32) (a : ℕ) (ha : a < 64)
    (hx : x (ix2 b s) = BitVec.ofNat 32 a) : (ident n x (ix3 b s 0)).toInt.toNat = a := by
  have e : ident n x (ix3 b s 0)
      = Scalar.select (IntOp.cmpi .slt (x (ix2 b s)) 0#32) (IntOp.addi (x (ix2 b s)) n) (x (ix2 b s)) := by
    pointwise [ident]
  rw [e, hx]
  have hs : (BitVec.ofNat 32 a).slt 0#32 = false := by
    simp only [BitVec.slt, decide_eq_false_iff_not, BitVec.toInt, BitVec.toNat_ofNat]
    omega
  simp only [IntOp.cmpi, hs]
  show (BitVec.ofNat 32 a).toInt.toNat = a
  simp only [BitVec.toInt, BitVec.toNat_ofNat]
  omega

/-- The sum the encoder starts from, at `(b, s, d)`. -/
theorem sum_at (V : Valuation τ sig (Elt Ideal)) (b s : Fin 32) (d : Fin 768) (r : Fin 2) (p : Fin 64) (h : Fin 16)
    (hr : (V (Proc.devRef .tc main_arg2) : IVec S32x32 32) (ix2 b s) = BitVec.ofNat 32 r.val)
    (hp : (V (Proc.devRef .tc main_arg3) : IVec S32x32 32) (ix2 b s) = BitVec.ofNat 32 p.val)
    (hh : (V (Proc.devRef .tc main_arg4) : IVec S32x32 32) (ix2 b s) = BitVec.ofNat 32 h.val) :
    (res_main_v25 V : FVec Ideal S32x32x768 .f32) (ix3 b s d)
      = Spec.sum5 ((V (Proc.devRef .tc main_arg0) : FVec Ideal S32x32x768 .f32) (ix3 b s d))
        ((V (Proc.devRef .tc main_arg1) : FVec Ideal S32x32x768 .f32) (ix3 s b d))
        ((V (Proc.devRef .tc main_arg5) : FVec Ideal S2x768 .f32) (ix2 r d))
        ((V (Proc.devRef .tc main_arg6) : FVec Ideal S64x768 .f32) (ix2 p d))
        ((V (Proc.devRef .tc main_arg7) : FVec Ideal S16x768 .f32) (ix2 h d)) := by
  have e1 := pick_at gather_S2x768_S32x32x1_S32x32x768_2_0_n_n_0_2_1768_wf (V (Proc.devRef .tc main_arg5))
    (ident 2#32 (V (Proc.devRef .tc main_arg2))) b s d r (ident_at _ _ b s r.val (by omega) hr)
  have e2 := pick_at gather_S64x768_S32x32x1_S32x32x768_2_0_n_n_0_2_1768_wf (V (Proc.devRef .tc main_arg6))
    (ident 64#32 (V (Proc.devRef .tc main_arg3))) b s d p (ident_at _ _ b s p.val (by omega) hp)
  have e3 := pick_at gather_S16x768_S32x32x1_S32x32x768_2_0_n_n_0_2_1768_wf (V (Proc.devRef .tc main_arg7))
    (ident 16#32 (V (Proc.devRef .tc main_arg4))) b s d h (ident_at _ _ b s h.val (by omega) hh)
  have e4 : transpose S32x32x768 [1, 0, 2] (V (Proc.devRef .tc main_arg1) : FVec Ideal S32x32x768 .f32) transposes_S32x32x768_S32x32x768_1_0_2 (ix3 b s d)
      = (V (Proc.devRef .tc main_arg1) : FVec Ideal S32x32x768 .f32) (ix3 s b d) := by pointwise
  rw [← e1, ← e2, ← e3, ← e4]
  rfl

/-- The normalised embedding the first layer takes, at `(b, s, d)`. -/
theorem emb_at (V : Valuation τ sig (Elt Ideal)) (b s : Fin 32) (d : Fin 768) :
    rows (res_main_v49 V) b s d
      = Spec.ln (fun k => (res_main_v25 V : FVec Ideal S32x32x768 .f32) (ix3 b s k))
          (fun k => (V (Proc.devRef .tc main_arg8) : FVec Ideal S768 .f32) (ix1 k))
          (fun k => (V (Proc.devRef .tc main_arg9) : FVec Ideal S768 .f32) (ix1 k)) d := by
  rw [emb_eq]
  exact rLn_at ..

/-- The result reads row `32·b + s` as position `s` of batch element `b`. -/
theorem flat_at (x : FVec Ideal S32x32x768 .f32) (h) (b s : Fin 32) (d : Fin 768) :
    shapeCast S1024x768 x h (ix2 (⟨b.val * 32 + s.val, by omega⟩ : Fin 1024) d) = rows x b s d := by
  pointwise [rows]

end Cert.TrRefIdeal.Layer

end
-- ==== Proof.KHead.lean ====
/- The kernel's attention payloads, read as the plain attention of one batch element. -/
module

public import proofs.«01_k».proof.Proof.Spec
public import proofs.«01_k».proof.Proof.Gen.TrIdeal.Skeleton
public import Idealize.ShloMosaic.Lib.Pointwise

@[expose] public section

set_option maxRecDepth 16384

noncomputable section

namespace Cert.TrIdeal.Layer

open Idealize.ShloMosaic Idealize.ShloMosaic.TcCoe Idealize.SL.Sem
open Cert.TrIdeal Cert.TrIdeal.Gen

/-- Batch element `b` of a stack of 16. -/
def rows3 (x : FVec Ideal S16x32x768 .f32) (b : Fin 16) (s : Fin 32) (d : Fin 768) : EReal := x (ix3 b s d)

/-- The scaled scores of the head whose columns begin at `o`. -/
def kScore (o : ℕ) (hs : S16x32x768.Slices ![0, 0, o] S16x32x64) (q k : FVec Ideal S16x32x768 .f32) :
    FVec Ideal S16x32x32 .f32 :=
  mulf (matmul dot_S16x32x64_S16x32x64_S16x32x32_2_2_1_1_0_0 none
      (extractStridedSlice S16x32x64 ![0, 0, o] q hs) (extractStridedSlice S16x32x64 ![0, 0, o] k hs)
      (constant S16x32x32 .f32 0x00000000#32))
    (broadcast S16x32x32 (Scalar.ofBits .f32 0x3E000000#32))

/-- The exponentials of the scores less their row's largest. -/
def kWeight (s : FVec Ideal S16x32x32 .f32) : FVec Ideal S16x32x32 .f32 :=
  exp (subf s (broadcastTo S16x32x32 (shapeCast S16x32x1
    (multiReduction .maximumf [2] S16x32 s 0xFF800000#32 reduces_S16x32x32_S16x32 (.inl rfl) rfl)
    shapeCasts_S16x32_S16x32x1) broadcasts_S16x32x1_S16x32x32))

/-- The softmax of the scores. -/
def kProb (e : FVec Ideal S16x32x32 .f32) : FVec Ideal S16x32x32 .f32 :=
  divf e (broadcastTo S16x32x32 (shapeCast S16x32x1
    (multiReduction .add [2] S16x32 e 0x00000000#32 reduces_S16x32x32_S16x32 (.inl rfl) rfl)
    shapeCasts_S16x32_S16x32x1) broadcasts_S16x32x1_S16x32x32)

/-- The attention of the head whose columns begin at `o`. -/
def kHead (o : ℕ) (hs : S16x32x768.Slices ![0, 0, o] S16x32x64) (q k v : FVec Ideal S16x32x768 .f32) :
    FVec Ideal S16x32x64 .f32 :=
  matmul dot_S16x32x32_S16x32x64_S16x32x64_2_1_1_2_0_0 none (kProb (kWeight (kScore o hs q k)))
    (extractStridedSlice S16x32x64 ![0, 0, o] v hs) (constant S16x32x64 .f32 0x00000000#32)

theorem kScore_at (a : Fin 12) (o : ℕ) (ho : o = a.val * 64) (hs : S16x32x768.Slices ![0, 0, o] S16x32x64)
    (q k : FVec Ideal S16x32x768 .f32) (b : Fin 16) (s t : Fin 32) :
    kScore o hs q k (ix3 b s t) = Spec.score (rows3 q b) (rows3 k b) a s t := by
  subst ho
  pointwise [kScore, Spec.score, rows3, Spec.col]

theorem kWeight_at (a : Fin 12) (o : ℕ) (ho : o = a.val * 64) (hs : S16x32x768.Slices ![0, 0, o] S16x32x64)
    (q k : FVec Ideal S16x32x768 .f32) (b : Fin 16) (s t : Fin 32) :
    kWeight (kScore o hs q k) (ix3 b s t) = Spec.weight (rows3 q b) (rows3 k b) a s t := by
  pointwise [kWeight, Spec.weight, kScore_at a o ho]

theorem kProb_at (a : Fin 12) (o : ℕ) (ho : o = a.val * 64) (hs : S16x32x768.Slices ![0, 0, o] S16x32x64)
    (q k : FVec Ideal S16x32x768 .f32) (b : Fin 16) (s t : Fin 32) :
    kProb (kWeight (kScore o hs q k)) (ix3 b s t) = Spec.prob (rows3 q b) (rows3 k b) a s t := by
  pointwise [kProb, Spec.prob, kWeight_at a o ho]

theorem kHead_at (a : Fin 12) (o : ℕ) (ho : o = a.val * 64) (hs : S16x32x768.Slices ![0, 0, o] S16x32x64)
    (q k v : FVec Ideal S16x32x768 .f32) (b : Fin 16) (s : Fin 32) (e : Fin 64) :
    kHead o hs q k v (ix3 b s e) = ∑ t, Spec.prob (rows3 q b) (rows3 k b) a s t * rows3 v b t (Spec.col a e) := by
  subst ho
  pointwise [kHead, rows3, Spec.col, kProb_at a _ rfl]

end Cert.TrIdeal.Layer

end
-- ==== Proof.KLayer.lean ====
/- One encoder layer of the kernel, read at a row and a column as the plain layer. -/
module

public import proofs.«01_k».proof.Proof.KHead

@[expose] public section

set_option maxRecDepth 16384

noncomputable section

namespace Cert.TrIdeal.Layer

open Idealize.ShloMosaic Idealize.ShloMosaic.TcCoe Idealize.SL.Sem
open Cert.TrIdeal Cert.TrIdeal.Gen

/-- Row `s` of batch element `b` among the 512 rows of a block. -/
def row (b : Fin 16) (s : Fin 32) : Fin 512 := ⟨b.val * 32 + s.val, by omega⟩

theorem row_div (b : Fin 16) (s : Fin 32) : (row b s).val / 32 = b.val := by simp only [row]; omega
theorem row_mod (b : Fin 16) (s : Fin 32) : (row b s).val % 32 = s.val := by simp only [row]; omega

/-- Batch element `b` of a block of 512 rows. -/
def rows (x : FVec Ideal S512x768 .f32) (b : Fin 16) (s : Fin 32) (d : Fin 768) : EReal := x (ix2 (row b s) d)

/-- Twelve heads side by side. -/
def heads (H : Fin 12 → FVec Ideal S16x32x64 .f32) : FVec Ideal S16x32x768 .f32 :=
  concatenate S16x32x768 2 [⟨S16x32x64, H 0⟩, ⟨S16x32x64, H 1⟩, ⟨S16x32x64, H 2⟩, ⟨S16x32x64, H 3⟩, ⟨S16x32x64, H 4⟩, ⟨S16x32x64, H 5⟩, ⟨S16x32x64, H 6⟩, ⟨S16x32x64, H 7⟩, ⟨S16x32x64, H 8⟩, ⟨S16x32x64, H 9⟩, ⟨S16x32x64, H 10⟩, ⟨S16x32x64, H 11⟩] concatenates_S16x32x64_S16x32x64_S16x32x64_S16x32x64_S16x32x64_S16x32x64_S16x32x64_S16x32x64_S16x32x64_S16x32x64_S16x32x64_S16x32x64_S16x32x768_d2

/-- Column `d` of the twelve heads side by side is column `d % 64` of head `d / 64`. -/
theorem heads_at (H : Fin 12 → FVec Ideal S16x32x64 .f32) (b : Fin 16) (s : Fin 32) (a : Fin 12) (e : Fin 64) :
    heads H (ix3 b s (Spec.col a e)) = H a (ix3 b s e) := by
  obtain ⟨a, ha⟩ := a
  pointwise [heads, Spec.col]
  interval_cases a
  all_goals
    repeat first | rw [dif_pos (by omega)] | rw [dif_neg (by omega)]
    exact congrArg (fun z => H _ (ix3 b s z)) (Fin.ext (by simp only [] ; omega))

/-- The query projection, regrouped into 16 batch elements. -/
theorem proj_at (x : FVec Ideal S512x768 .f32) (w : Vec Ideal S1x768x768 .bf16) (c : Vec Ideal S1x1x768 .f32)
    (b : Fin 16) : rows3 (k0_pay9 (F := Ideal) x w c) b
      = fun s => Spec.lin (rows x b s) (fun k d => w (ix3 0 k d)) (fun d => c (ix3 0 0 d)) := by
  funext s d
  pointwise [rows3, k0_pay9, k0_pay8, k0_pay7, Spec.lin, rows, row]

/-- Every head's 64 columns lie within the 768. -/
theorem slicesAt : ∀ a : Fin 12, S16x32x768.Slices ![0, 0, a.val * 64] S16x32x64 := by decide

/-- The twelve heads of a block of rows. -/
def kHeads (q k v : FVec Ideal S16x32x768 .f32) (a : Fin 12) : FVec Ideal S16x32x64 .f32 :=
  kHead (a.val * 64) (slicesAt a) q k v

/-- The attention of a block of rows is the plain attention of each batch element. -/
theorem kHeads_at (q k v : FVec Ideal S16x32x768 .f32) (b : Fin 16) (s : Fin 32) (d : Fin 768) :
    heads (kHeads q k v) (ix3 b s d) = Spec.ctx (rows3 q b) (rows3 k b) (rows3 v b) s d := by
  obtain ⟨a, e, rfl⟩ : ∃ (a : Fin 12) (e : Fin 64), d = Spec.col a e :=
    ⟨⟨d.val / 64, by omega⟩, ⟨d.val % 64, by omega⟩, Fin.ext (by simp only [Spec.col]; omega)⟩
  have h1 : (⟨(Spec.col a e).val / 64, by omega⟩ : Fin 12) = a := Fin.ext (by simp only [Spec.col]; omega)
  rw [heads_at, Spec.ctx, h1]
  exact kHead_at a _ rfl (slicesAt a) q k v b s e

/-- The kernel's layer before its first normalisation, over the block of rows and the layer's weights. -/
def kAttn (acc : FVec Ideal S512x768 .f32) (x8 : Vec Ideal S1x768x768 .bf16) (x9 : Vec Ideal S1x1x768 .f32)
    (x10 : Vec Ideal S1x768x768 .bf16) (x11 : Vec Ideal S1x1x768 .f32) (x12 : Vec Ideal S1x768x768 .bf16)
    (x13 : Vec Ideal S1x1x768 .f32) (x14 : Vec Ideal S1x768x768 .bf16) (x15 : Vec Ideal S1x1x768 .f32) :
    FVec Ideal S512x768 .f32 :=
  addf acc (addf (matmul (φ₁ := .bf16) (φ₂ := .bf16) dot_S512x768_S768x768_S512x768_1_0_0_1_n_n none
      (truncf .bf16 (shapeCast S512x768
        (heads (kHeads (k0_pay9 acc x8 x9) (k0_pay9 acc x10 x11) (k0_pay9 acc x12 x13)))
        shapeCasts_S16x32x768_S512x768) bitsLt_bf16_f32)
      (shapeCast S768x768 x14 shapeCasts_S1x768x768_S768x768) (constant S512x768 .f32 0x00000000#32))
    (broadcastTo S512x768 (shapeCast S1x768 x15 shapeCasts_S1x1x768_S1x768) broadcasts_S1x768_S512x768))

/-- The printed payload of that part is `kAttn`. -/
theorem pay35_eq (acc : FVec Ideal S512x768 .f32) (x8 : Vec Ideal S1x768x768 .bf16) (x9 : Vec Ideal S1x1x768 .f32)
    (x10 : Vec Ideal S1x768x768 .bf16) (x11 : Vec Ideal S1x1x768 .f32) (x12 : Vec Ideal S1x768x768 .bf16)
    (x13 : Vec Ideal S1x1x768 .f32) (x14 : Vec Ideal S1x768x768 .bf16) (x15 : Vec Ideal S1x1x768 .f32) :
    k0_pay35 (F := Ideal) (k0_pay7 acc) (k0_pay14 (k0_pay11 acc x12 x13) (k0_pay12 acc x8 x9) (k0_pay13 acc x10 x11)) (k0_pay15 (k0_pay9 acc x8 x9) (k0_pay10 acc x10 x11) (k0_pay11 acc x12 x13)) (k0_pay18 (k0_pay16 (k0_pay11 acc x12 x13)) (k0_pay17 (k0_pay9 acc x8 x9) (k0_pay10 acc x10 x11)) (constant S16x32x64 .f32 0x00000000#32)) (k0_pay19 (k0_pay9 acc x8 x9) (k0_pay10 acc x10 x11) (k0_pay11 acc x12 x13)) (k0_pay20 (k0_pay9 acc x8 x9) (k0_pay10 acc x10 x11) (k0_pay11 acc x12 x13)) (k0_pay24 (k0_pay21 (k0_pay11 acc x12 x13)) (k0_pay22 (k0_pay9 acc x8 x9) (k0_pay10 acc x10 x11)) (k0_pay23 (k0_pay9 acc x8 x9) (k0_pay10 acc x10 x11))) (k0_pay25 (k0_pay9 acc x8 x9) (k0_pay10 acc x10 x11) (k0_pay11 acc x12 x13)) (k0_pay26 (k0_pay9 acc x8 x9) (k0_pay10 acc x10 x11) (k0_pay11 acc x12 x13)) (k0_pay29 (k0_pay27 (k0_pay11 acc x12 x13)) (k0_pay28 (k0_pay9 acc x8 x9) (k0_pay10 acc x10 x11))) (k0_pay30 (k0_pay9 acc x8 x9) (k0_pay10 acc x10 x11) (k0_pay11 acc x12 x13)) (k0_pay31 (k0_pay9 acc x8 x9) (k0_pay10 acc x10 x11) (k0_pay11 acc x12 x13)) (k0_pay32 (k0_pay11 acc x12 x13)) (k0_pay33 (k0_pay9 acc x8 x9) (k0_pay10 acc x10 x11)) (k0_pay34 (k0_pay9 acc x8 x9) (k0_pay10 acc x10 x11)) x14 x15 = kAttn acc x8 x9 x10 x11 x12 x13 x14 x15 := by
  have h7 : k0_pay7 (F := Ideal) acc = acc := by simp only [k0_pay7, shapeCast_self]
  rw [h7, kAttn]
  rfl

theorem kAttn_at (acc : FVec Ideal S512x768 .f32) (x8 : Vec Ideal S1x768x768 .bf16) (x9 : Vec Ideal S1x1x768 .f32)
    (x10 : Vec Ideal S1x768x768 .bf16) (x11 : Vec Ideal S1x1x768 .f32) (x12 : Vec Ideal S1x768x768 .bf16)
    (x13 : Vec Ideal S1x1x768 .f32) (x14 : Vec Ideal S1x768x768 .bf16) (x15 : Vec Ideal S1x1x768 .f32) (P : Spec.Params)
    (hq : ∀ k d, x8 (ix3 0 k d) = P.wq k d) (hbq : ∀ d, x9 (ix3 0 0 d) = P.bq d)
    (hk : ∀ k d, x10 (ix3 0 k d) = P.wk k d) (hbk : ∀ d, x11 (ix3 0 0 d) = P.bk d)
    (hv : ∀ k d, x12 (ix3 0 k d) = P.wv k d) (hbv : ∀ d, x13 (ix3 0 0 d) = P.bv d)
    (ho : ∀ k d, x14 (ix3 0 k d) = P.wo k d) (hbo : ∀ d, x15 (ix3 0 0 d) = P.bo d)
    (b : Fin 16) (s : Fin 32) (d : Fin 768) :
    kAttn acc x8 x9 x10 x11 x12 x13 x14 x15 (ix2 (row b s) d) = Spec.attn P (rows acc b) s d := by
  have hQ : rows3 (k0_pay9 (F := Ideal) acc x8 x9) b = fun t => Spec.lin (rows acc b t) P.wq P.bq := by
    rw [proj_at]; simp only [hq, hbq]
  have hK : rows3 (k0_pay9 (F := Ideal) acc x10 x11) b = fun t => Spec.lin (rows acc b t) P.wk P.bk := by
    rw [proj_at]; simp only [hk, hbk]
  have hV : rows3 (k0_pay9 (F := Ideal) acc x12 x13) b = fun t => Spec.lin (rows acc b t) P.wv P.bv := by
    rw [proj_at]; simp only [hv, hbv]
  rw [Spec.attn, ← hQ, ← hK, ← hV]
  pointwise [kAttn, rows, ho, hbo, row_div, row_mod, kHeads_at, Spec.lin]

/-- A printed layer normalisation of a block of rows. -/
theorem pay1_at (x : FVec Ideal S512x768 .f32) (g : FVec Ideal S1x768 .f32) (c : Vec Ideal S1x1x768 .f32)
    (r : Fin 512) (d : Fin 768) : k0_pay1 (F := Ideal) x g c (ix2 r d)
      = Spec.ln (fun k => x (ix2 r k)) (fun k => g (ix2 0 k)) (fun k => c (ix3 0 0 k)) d := by
  pointwise [k0_pay1, Spec.ln, Spec.mean]

/-- The first normalisation's two factors, then the feed-forward part. -/
theorem pay39_at (acc : FVec Ideal S512x768 .f32) (x8 : Vec Ideal S1x768x768 .bf16) (x9 : Vec Ideal S1x1x768 .f32)
    (x10 : Vec Ideal S1x768x768 .bf16) (x11 : Vec Ideal S1x1x768 .f32) (x12 : Vec Ideal S1x768x768 .bf16)
    (x13 : Vec Ideal S1x1x768 .f32) (x14 : Vec Ideal S1x768x768 .bf16) (x15 : Vec Ideal S1x1x768 .f32) (r : Fin 512) (d : Fin 768) :
    k0_pay39 (F := Ideal) (k0_pay7 acc) (k0_pay14 (k0_pay11 acc x12 x13) (k0_pay12 acc x8 x9) (k0_pay13 acc x10 x11)) (k0_pay15 (k0_pay9 acc x8 x9) (k0_pay10 acc x10 x11) (k0_pay11 acc x12 x13)) (k0_pay18 (k0_pay16 (k0_pay11 acc x12 x13)) (k0_pay17 (k0_pay9 acc x8 x9) (k0_pay10 acc x10 x11)) (constant S16x32x64 .f32 0x00000000#32)) (k0_pay19 (k0_pay9 acc x8 x9) (k0_pay10 acc x10 x11) (k0_pay11 acc x12 x13)) (k0_pay20 (k0_pay9 acc x8 x9) (k0_pay10 acc x10 x11) (k0_pay11 acc x12 x13)) (k0_pay24 (k0_pay21 (k0_pay11 acc x12 x13)) (k0_pay22 (k0_pay9 acc x8 x9) (k0_pay10 acc x10 x11)) (k0_pay23 (k0_pay9 acc x8 x9) (k0_pay10 acc x10 x11))) (k0_pay25 (k0_pay9 acc x8 x9) (k0_pay10 acc x10 x11) (k0_pay11 acc x12 x13)) (k0_pay26 (k0_pay9 acc x8 x9) (k0_pay10 acc x10 x11) (k0_pay11 acc x12 x13)) (k0_pay29 (k0_pay27 (k0_pay11 acc x12 x13)) (k0_pay28 (k0_pay9 acc x8 x9) (k0_pay10 acc x10 x11))) (k0_pay30 (k0_pay9 acc x8 x9) (k0_pay10 acc x10 x11) (k0_pay11 acc x12 x13)) (k0_pay31 (k0_pay9 acc x8 x9) (k0_pay10 acc x10 x11) (k0_pay11 acc x12 x13)) (k0_pay32 (k0_pay11 acc x12 x13)) (k0_pay33 (k0_pay9 acc x8 x9) (k0_pay10 acc x10 x11)) (k0_pay34 (k0_pay9 acc x8 x9) (k0_pay10 acc x10 x11)) x14 x15 (ix2 r d)
      = kAttn acc x8 x9 x10 x11 x12 x13 x14 x15 (ix2 r d)
        - Spec.mean fun k => kAttn acc x8 x9 x10 x11 x12 x13 x14 x15 (ix2 r k) := by
  rw [k0_pay39, k0_pay38, pay35_eq]
  pointwise [Spec.mean]

theorem pay40_at (acc : FVec Ideal S512x768 .f32) (x8 : Vec Ideal S1x768x768 .bf16) (x9 : Vec Ideal S1x1x768 .f32)
    (x10 : Vec Ideal S1x768x768 .bf16) (x11 : Vec Ideal S1x1x768 .f32) (x12 : Vec Ideal S1x768x768 .bf16)
    (x13 : Vec Ideal S1x1x768 .f32) (x14 : Vec Ideal S1x768x768 .bf16) (x15 : Vec Ideal S1x1x768 .f32) (r : Fin 512) (d : Fin 768) :
    k0_pay40 (F := Ideal) (k0_pay7 acc) (k0_pay14 (k0_pay11 acc x12 x13) (k0_pay12 acc x8 x9) (k0_pay13 acc x10 x11)) (k0_pay15 (k0_pay9 acc x8 x9) (k0_pay10 acc x10 x11) (k0_pay11 acc x12 x13)) (k0_pay18 (k0_pay16 (k0_pay11 acc x12 x13)) (k0_pay17 (k0_pay9 acc x8 x9) (k0_pay10 acc x10 x11)) (constant S16x32x64 .f32 0x00000000#32)) (k0_pay19 (k0_pay9 acc x8 x9) (k0_pay10 acc x10 x11) (k0_pay11 acc x12 x13)) (k0_pay20 (k0_pay9 acc x8 x9) (k0_pay10 acc x10 x11) (k0_pay11 acc x12 x13)) (k0_pay24 (k0_pay21 (k0_pay11 acc x12 x13)) (k0_pay22 (k0_pay9 acc x8 x9) (k0_pay10 acc x10 x11)) (k0_pay23 (k0_pay9 acc x8 x9) (k0_pay10 acc x10 x11))) (k0_pay25 (k0_pay9 acc x8 x9) (k0_pay10 acc x10 x11) (k0_pay11 acc x12 x13)) (k0_pay26 (k0_pay9 acc x8 x9) (k0_pay10 acc x10 x11) (k0_pay11 acc x12 x13)) (k0_pay29 (k0_pay27 (k0_pay11 acc x12 x13)) (k0_pay28 (k0_pay9 acc x8 x9) (k0_pay10 acc x10 x11))) (k0_pay30 (k0_pay9 acc x8 x9) (k0_pay10 acc x10 x11) (k0_pay11 acc x12 x13)) (k0_pay31 (k0_pay9 acc x8 x9) (k0_pay10 acc x10 x11) (k0_pay11 acc x12 x13)) (k0_pay32 (k0_pay11 acc x12 x13)) (k0_pay33 (k0_pay9 acc x8 x9) (k0_pay10 acc x10 x11)) (k0_pay34 (k0_pay9 acc x8 x9) (k0_pay10 acc x10 x11)) x14 x15 (ix2 r d)
      = Ideal.rsqrt (Spec.mean (fun j =>
          (kAttn acc x8 x9 x10 x11 x12 x13 x14 x15 (ix2 r j)
            - Spec.mean fun k => kAttn acc x8 x9 x10 x11 x12 x13 x14 x15 (ix2 r k))
          * (kAttn acc x8 x9 x10 x11 x12 x13 x14 x15 (ix2 r j)
            - Spec.mean fun k => kAttn acc x8 x9 x10 x11 x12 x13 x14 x15 (ix2 r k)))
        + Ideal.ofBits .f32 0x2B8CBCCC#32) := by
  rw [k0_pay40, k0_pay38, pay35_eq]
  pointwise [Spec.mean]

theorem pay41_at (g c : FVec Ideal S1x768 .f32) (y z : FVec Ideal S512x768 .f32)
    (x18 : Vec Ideal S1x768x3072 .bf16) (x19 : Vec Ideal S1x1x3072 .f32) (x20 : Vec Ideal S1x3072x768 .bf16)
    (x21 : Vec Ideal S1x1x768 .f32) (r : Fin 512) (d : Fin 768) :
    k0_pay41 (F := Ideal) g c y z x18 x19 x20 x21 (ix2 r d)
      = (fun u : Fin 768 → EReal => u d + Spec.lin (fun k => Spec.gelu (Spec.lin u (fun k j => x18 (ix3 0 k j))
            (fun j => x19 (ix3 0 0 j)) k)) (fun k j => x20 (ix3 0 k j)) (fun j => x21 (ix3 0 0 j)) d)
          (fun j => y (ix2 r j) * z (ix2 r j) * g (ix2 0 j) + c (ix2 0 j)) := by
  pointwise [k0_pay41, Spec.lin, Spec.gelu]

/-- The kernel's whole layer, over the block of rows and the layer's weights. -/
def kLayer (acc : FVec Ideal S512x768 .f32) (x8 : Vec Ideal S1x768x768 .bf16) (x9 : Vec Ideal S1x1x768 .f32)
    (x10 : Vec Ideal S1x768x768 .bf16) (x11 : Vec Ideal S1x1x768 .f32) (x12 : Vec Ideal S1x768x768 .bf16)
    (x13 : Vec Ideal S1x1x768 .f32) (x14 : Vec Ideal S1x768x768 .bf16) (x15 : Vec Ideal S1x1x768 .f32)
    (x16 x17 : Vec Ideal S1x1x768 .f32)
    (x18 : Vec Ideal S1x768x3072 .bf16) (x19 : Vec Ideal S1x1x3072 .f32) (x20 : Vec Ideal S1x3072x768 .bf16)
    (x21 x22 x23 : Vec Ideal S1x1x768 .f32) : FVec Ideal S512x768 .f32 :=
  k0_pay1 (k0_pay41 (k0_pay36 x16) (k0_pay37 x17) (k0_pay39 (k0_pay7 acc) (k0_pay14 (k0_pay11 acc x12 x13) (k0_pay12 acc x8 x9) (k0_pay13 acc x10 x11)) (k0_pay15 (k0_pay9 acc x8 x9) (k0_pay10 acc x10 x11) (k0_pay11 acc x12 x13)) (k0_pay18 (k0_pay16 (k0_pay11 acc x12 x13)) (k0_pay17 (k0_pay9 acc x8 x9) (k0_pay10 acc x10 x11)) (constant S16x32x64 .f32 0x00000000#32)) (k0_pay19 (k0_pay9 acc x8 x9) (k0_pay10 acc x10 x11) (k0_pay11 acc x12 x13)) (k0_pay20 (k0_pay9 acc x8 x9) (k0_pay10 acc x10 x11) (k0_pay11 acc x12 x13)) (k0_pay24 (k0_pay21 (k0_pay11 acc x12 x13)) (k0_pay22 (k0_pay9 acc x8 x9) (k0_pay10 acc x10 x11)) (k0_pay23 (k0_pay9 acc x8 x9) (k0_pay10 acc x10 x11))) (k0_pay25 (k0_pay9 acc x8 x9) (k0_pay10 acc x10 x11) (k0_pay11 acc x12 x13)) (k0_pay26 (k0_pay9 acc x8 x9) (k0_pay10 acc x10 x11) (k0_pay11 acc x12 x13)) (k0_pay29 (k0_pay27 (k0_pay11 acc x12 x13)) (k0_pay28 (k0_pay9 acc x8 x9) (k0_pay10 acc x10 x11))) (k0_pay30 (k0_pay9 acc x8 x9) (k0_pay10 acc x10 x11) (k0_pay11 acc x12 x13)) (k0_pay31 (k0_pay9 acc x8 x9) (k0_pay10 acc x10 x11) (k0_pay11 acc x12 x13)) (k0_pay32 (k0_pay11 acc x12 x13)) (k0_pay33 (k0_pay9 acc x8 x9) (k0_pay10 acc x10 x11)) (k0_pay34 (k0_pay9 acc x8 x9) (k0_pay10 acc x10 x11)) x14 x15) (k0_pay40 (k0_pay7 acc) (k0_pay14 (k0_pay11 acc x12 x13) (k0_pay12 acc x8 x9) (k0_pay13 acc x10 x11)) (k0_pay15 (k0_pay9 acc x8 x9) (k0_pay10 acc x10 x11) (k0_pay11 acc x12 x13)) (k0_pay18 (k0_pay16 (k0_pay11 acc x12 x13)) (k0_pay17 (k0_pay9 acc x8 x9) (k0_pay10 acc x10 x11)) (constant S16x32x64 .f32 0x00000000#32)) (k0_pay19 (k0_pay9 acc x8 x9) (k0_pay10 acc x10 x11) (k0_pay11 acc x12 x13)) (k0_pay20 (k0_pay9 acc x8 x9) (k0_pay10 acc x10 x11) (k0_pay11 acc x12 x13)) (k0_pay24 (k0_pay21 (k0_pay11 acc x12 x13)) (k0_pay22 (k0_pay9 acc x8 x9) (k0_pay10 acc x10 x11)) (k0_pay23 (k0_pay9 acc x8 x9) (k0_pay10 acc x10 x11))) (k0_pay25 (k0_pay9 acc x8 x9) (k0_pay10 acc x10 x11) (k0_pay11 acc x12 x13)) (k0_pay26 (k0_pay9 acc x8 x9) (k0_pay10 acc x10 x11) (k0_pay11 acc x12 x13)) (k0_pay29 (k0_pay27 (k0_pay11 acc x12 x13)) (k0_pay28 (k0_pay9 acc x8 x9) (k0_pay10 acc x10 x11))) (k0_pay30 (k0_pay9 acc x8 x9) (k0_pay10 acc x10 x11) (k0_pay11 acc x12 x13)) (k0_pay31 (k0_pay9 acc x8 x9) (k0_pay10 acc x10 x11) (k0_pay11 acc x12 x13)) (k0_pay32 (k0_pay11 acc x12 x13)) (k0_pay33 (k0_pay9 acc x8 x9) (k0_pay10 acc x10 x11)) (k0_pay34 (k0_pay9 acc x8 x9) (k0_pay10 acc x10 x11)) x14 x15) x18 x19 x20 x21) (k0_pay42 x22) x23

/-- One layer of the kernel is the plain layer of each batch element. -/
theorem kLayer_at (acc : FVec Ideal S512x768 .f32) (x8 : Vec Ideal S1x768x768 .bf16) (x9 : Vec Ideal S1x1x768 .f32)
    (x10 : Vec Ideal S1x768x768 .bf16) (x11 : Vec Ideal S1x1x768 .f32) (x12 : Vec Ideal S1x768x768 .bf16)
    (x13 : Vec Ideal S1x1x768 .f32) (x14 : Vec Ideal S1x768x768 .bf16) (x15 : Vec Ideal S1x1x768 .f32)
    (x16 x17 : Vec Ideal S1x1x768 .f32)
    (x18 : Vec Ideal S1x768x3072 .bf16) (x19 : Vec Ideal S1x1x3072 .f32) (x20 : Vec Ideal S1x3072x768 .bf16)
    (x21 x22 x23 : Vec Ideal S1x1x768 .f32) (P : Spec.Params)
    (hq : ∀ k d, x8 (ix3 0 k d) = P.wq k d) (hbq : ∀ d, x9 (ix3 0 0 d) = P.bq d)
    (hk : ∀ k d, x10 (ix3 0 k d) = P.wk k d) (hbk : ∀ d, x11 (ix3 0 0 d) = P.bk d)
    (hv : ∀ k d, x12 (ix3 0 k d) = P.wv k d) (hbv : ∀ d, x13 (ix3 0 0 d) = P.bv d)
    (ho : ∀ k d, x14 (ix3 0 k d) = P.wo k d) (hbo : ∀ d, x15 (ix3 0 0 d) = P.bo d)
    (hg1 : ∀ d, x16 (ix3 0 0 d) = P.g1 d) (hb1 : ∀ d, x17 (ix3 0 0 d) = P.b1 d)
    (hw1 : ∀ k d, x18 (ix3 0 k d) = P.w1 k d) (hc1 : ∀ d, x19 (ix3 0 0 d) = P.c1 d)
    (hw2 : ∀ k d, x20 (ix3 0 k d) = P.w2 k d) (hc2 : ∀ d, x21 (ix3 0 0 d) = P.c2 d)
    (hg2 : ∀ d, x22 (ix3 0 0 d) = P.g2 d) (hb2 : ∀ d, x23 (ix3 0 0 d) = P.b2 d)
    (b : Fin 16) (s : Fin 32) (d : Fin 768) :
    kLayer acc x8 x9 x10 x11 x12 x13 x14 x15 x16 x17 x18 x19 x20 x21 x22 x23 (ix2 (row b s) d)
      = Spec.layer P (rows acc b) s d := by
  have h16 : ∀ d, k0_pay36 (F := Ideal) x16 (ix2 0 d) = P.g1 d := fun d => by
    rw [← hg1]; pointwise [k0_pay36]
  have h17 : ∀ d, k0_pay37 (F := Ideal) x17 (ix2 0 d) = P.b1 d := fun d => by
    rw [← hb1]; pointwise [k0_pay37]
  have h22 : ∀ d, k0_pay42 (F := Ideal) x22 (ix2 0 d) = P.g2 d := fun d => by
    rw [← hg2]; pointwise [k0_pay42]
  have hA := kAttn_at acc x8 x9 x10 x11 x12 x13 x14 x15 P hq hbq hk hbk hv hbv ho hbo b s
  rw [kLayer, pay1_at]
  simp only [pay41_at, pay39_at, pay40_at, h16, h17, h22, hw1, hc1, hw2, hc2, hb2, hA]
  rfl

end Cert.TrIdeal.Layer

end
-- ==== Proof.KEmb.lean ====
/- The kernel's embedding of a row: three rows of one table, picked by a product with a one-hot matrix. -/
module

public import proofs.«01_k».proof.Proof.KLayer
public import Idealize.ShloMosaic.Lib.Routing.OpsOne

@[expose] public section

set_option maxRecDepth 16384

noncomputable section

namespace Cert.TrIdeal.Layer

open Idealize.ShloMosaic Idealize.ShloMosaic.TcCoe Idealize.SL.Sem
open Cert.TrIdeal Cert.TrIdeal.Gen

/-- A comparison of two row numbers, widened and converted, is the indicator of their equality. -/
theorem oneHot (j a : Fin 128) (w : BitVec 32) (hw : w = BitVec.ofNat 32 a.val) :
    (FloatOps.sitofp (F := Ideal) FTy.f32 (BitVec.setWidth 32 (IntOp.cmpi CmpIPredicate.eq (BitVec.ofNat 32 j.val) w)) : EReal)
      = if j = a then 1 else 0 := by
  subst hw
  by_cases h : j = a
  · subst h
    rw [if_pos rfl, show IntOp.cmpi CmpIPredicate.eq (BitVec.ofNat 32 j.val) (BitVec.ofNat 32 j.val) = 1#1 from by simp [IntOp.cmpi]]
    show (((BitVec.setWidth 32 1#1).toInt : ℝ) : EReal) = 1
    rw [show (BitVec.setWidth 32 1#1).toInt = 1 from by decide]
    norm_num
  · have hne : (BitVec.ofNat 32 j.val == BitVec.ofNat 32 a.val) = false := by
      rw [beq_eq_false_iff_ne]
      intro e
      have := congrArg BitVec.toNat e
      simp only [BitVec.toNat_ofNat] at this
      exact h (Fin.ext (by omega))
    rw [if_neg h, show IntOp.cmpi CmpIPredicate.eq (BitVec.ofNat 32 j.val) (BitVec.ofNat 32 a.val) = 0#1 from by simp [IntOp.cmpi, hne]]
    show (((BitVec.setWidth 32 0#1).toInt : ℝ) : EReal) = 0
    rw [show (BitVec.setWidth 32 0#1).toInt = 0 from by decide]
    norm_num

/-- A product with a sum of three indicators picks three entries. -/
theorem pick3 (T : Fin 128 → EReal) (a b c : Fin 128) :
    ∑ x, ((if x = a then 1 else 0) + (if x = b then 1 else 0) + (if x = c then 1 else 0)) * T x = T a + T b + T c := by
  have e1 : ∀ x y : Fin 128, (0 : EReal) ≤ if x = y then 1 else 0 := fun x y => by split <;> norm_num
  have e : ∀ x, ((if x = a then 1 else 0) + (if x = b then 1 else 0) + (if x = c then 1 else 0)) * T x
      = (if x = a then T x else 0) + (if x = b then T x else 0) + (if x = c then T x else 0) := by
    intro x
    rw [EReal.right_distrib_of_nonneg (add_nonneg (e1 _ _) (e1 _ _)) (e1 _ _), EReal.right_distrib_of_nonneg (e1 _ _) (e1 _ _)]
    simp only [ite_mul, one_mul, zero_mul]
  simp only [e, Finset.sum_add_distrib, Finset.sum_ite_eq', Finset.mem_univ, if_true]

/-- The embedding of row `r` before its normalisation: the two feature rows and three table rows. -/
theorem pay2_at (x2 x3 x4 : Vec Ideal S1x512 .i32) (x5 : Vec Ideal S128x768 .f32) (x0 x1 : Vec Ideal S512x768 .f32)
    (r : Fin 512) (d : Fin 768) (a b c : Fin 128) (ha : x2 (ix2 0 r) = BitVec.ofNat 32 a.val)
    (hb : x3 (ix2 0 r) = BitVec.ofNat 32 b.val) (hc : x4 (ix2 0 r) = BitVec.ofNat 32 c.val) :
    k0_pay2 (F := Ideal) x2 x3 x4 x5 x0 x1 (ix2 r d)
      = x0 (ix2 r d) + x1 (ix2 r d) + (x5 (ix2 a d) + x5 (ix2 b d) + x5 (ix2 c d)) := by
  pointwise [k0_pay2]
  simp only [oneHot _ a _ ha, oneHot _ b _ hb, oneHot _ c _ hc]
  rw [pick3 fun j => x5 (ix2 j d)]

/-- The embedding of a row, normalised. -/
theorem pay6_at (x2 x3 x4 : Vec Ideal S1x512 .i32) (x5 : Vec Ideal S128x768 .f32) (x0 x1 : Vec Ideal S512x768 .f32)
    (x6 x7 : Vec Ideal S1x768 .f32) (r : Fin 512) (d : Fin 768) :
    k0_pay6 (F := Ideal) (k0_pay2 x2 x3 x4 x5 x0 x1) (k0_pay3 x6) (k0_pay4 x7) (k0_pay5 x2 x3 x4 x5 x0 x1) (ix2 r d)
      = Spec.ln (fun k => k0_pay2 (F := Ideal) x2 x3 x4 x5 x0 x1 (ix2 r k)) (fun k => x6 (ix2 0 k)) (fun k => x7 (ix2 0 k)) d := by
  have h5 : ∀ i, k0_pay5 (F := Ideal) x2 x3 x4 x5 x0 x1 (ix2 r i)
      = Spec.mean (fun k => k0_pay2 (F := Ideal) x2 x3 x4 x5 x0 x1 (ix2 r k)) := by
    intro i
    rw [k0_pay5]
    generalize k0_pay2 (F := Ideal) x2 x3 x4 x5 x0 x1 = y
    pointwise [Spec.mean]
  generalize k0_pay5 (F := Ideal) x2 x3 x4 x5 x0 x1 = m5 at h5 ⊢
  generalize k0_pay2 (F := Ideal) x2 x3 x4 x5 x0 x1 = y at h5 ⊢
  pointwise [k0_pay6, k0_pay3, k0_pay4, h5, Spec.ln, Spec.mean]

/-- Where an update of `U` whole rows at a fixed first row lands. -/
theorem slab_lands {U w : ℕ} (d : ScatterDims (Routing.shape2 128 768) (Routing.shape1 1) (Routing.shape2 U 768))
    (hu : d.updateWindowDims = [0, 1]) (hi : d.insertedWindowDims = []) (hs : d.scatterDimsToOperandDims = [0])
    (hv : d.indexVectorDim = 0) (idx : IVec (Routing.shape1 1) w) (k : Fin U) (j : Fin 768) (r : Fin 128) (c : Fin 768) :
    d.resultIdx? (ix2 k j) idx = some (ix2 r c) ↔ (idx (ix1 (0 : Fin 1))).toInt + (k.val : Int) = r.val ∧ j.val = c.val := by
  obtain ⟨u, i, s, v, wf⟩ := d
  simp only at hu hi hs hv
  subst hu hi hs hv
  refine (Routing.resultIdx?_ix2 _ _ _ r c).trans ?_
  have hw0 : ScatterDims.window ⟨[0, 1], [], [0], 0, wf⟩ (ix2 k j) 0 = k.val := rfl
  have hw1 : ScatterDims.window ⟨[0, 1], [], [0], 0, wf⟩ (ix2 k j) 1 = j.val := rfl
  have hs0 : ScatterDims.start ⟨[0, 1], [], [0], 0, wf⟩ (ix2 k j) idx 0 = (idx (ix1 (0 : Fin 1))).toInt := by
    show (idx _).toInt = _
    refine congrArg (fun t => (idx t).toInt) ?_
    funext b
    match b with
    | ⟨0, _⟩ => rfl
  have hs1 : ScatterDims.start ⟨[0, 1], [], [0], 0, wf⟩ (ix2 k j) idx 1 = 0 := rfl
  rw [hw0, hw1, hs0, hs1]
  omega

/-- `U` whole rows written at row `n`, read at a row: the written row where it lies among them, else the old one. -/
theorem slab_at {U : ℕ} (d : ScatterDims (Routing.shape2 128 768) (Routing.shape1 1) (Routing.shape2 U 768))
    (hu : d.updateWindowDims = [0, 1]) (hi : d.insertedWindowDims = []) (hs : d.scatterDimsToOperandDims = [0])
    (hv : d.indexVectorDim = 0) (x : (Routing.shape2 128 768).Idx → EReal) (idx : IVec (Routing.shape1 1) 32)
    (u : (Routing.shape2 U 768).Idx → EReal) (n : ℕ) (hn : (idx (ix1 (0 : Fin 1))).toInt = n) (r : Fin 128) (c : Fin 768) :
    Host.scatter d (fun _ b => b) x idx u (ix2 r c)
      = if h : n ≤ r.val ∧ r.val - n < U then u (ix2 ⟨r.val - n, h.2⟩ c) else x (ix2 r c) := by
  have lands := slab_lands d hu hi hs hv idx
  rw [hn] at lands
  split
  · rename_i h
    refine Routing.scatter_set_hit d x idx u _ _ (fun k' hk' => ?_) (ix2 ⟨r.val - n, h.2⟩ c) ((lands _ _ r c).2 ⟨by
      show (n : Int) + ((r.val - n : ℕ) : Int) = r.val
      omega, rfl⟩)
    rw [eq_ix2 k'] at hk' ⊢
    obtain ⟨e1, e2⟩ := (lands _ _ r c).1 hk'
    have q1 : k' 0 = ⟨r.val - n, h.2⟩ := Fin.ext (by show (k' 0).val = r.val - n; omega)
    have q2 : k' 1 = c := Fin.ext e2
    rw [q1, q2]
    rfl
  · rename_i h
    refine Routing.scatter_set_miss d x idx u _ fun k' hk' => h ?_
    rw [eq_ix2 k'] at hk'
    obtain ⟨e1, e2⟩ := (lands _ _ r c).1 hk'
    have := (k' 0).isLt
    have e3 : (k' 0).val < U := this
    omega

end Cert.TrIdeal.Layer

end
-- ==== Proof.KWeights.lean ====
/- The blocks the transformer kernel reads at a grid point, as entries of the program's arguments. -/
module

public import proofs.«01_k».proof.Proof.KEmb
public import proofs.«01_k».proof.Proof.Gen.TrIdeal.Frame.Runs
public import Idealize.ShloMosaic.Lib.Claim
public import Idealize.ShloMosaic.Lib.Pipeline.Value
public import Idealize.ShloMosaic.Lib.Pipeline.ValueKit

@[expose] public section

set_option maxRecDepth 16384

noncomputable section

namespace Cert.TrIdeal.Layer

open Idealize.ShloMosaic Idealize.ShloMosaic.TcCoe Idealize.SL.Sem
open Cert.TrIdeal Cert.TrIdeal.Gen

variable (m : (ℓ : Loc nD τ sig) → Buf (Elt Ideal) ℓ) (c : Dev nD)

/-- There are two halves of the batch. -/
theorem halves : ∀ t : Fin cfg0.N, t.val / 4 < 2 := (by decide +kernel : ∀ t : Fin grid0.N, _)

theorem idx0 : ∀ t : Fin cfg0.N, win0_0.index t = ![t.val / 4, 0] := (by decide +kernel : ∀ t : Fin grid0.N, _)

theorem idx1 : ∀ t : Fin cfg0.N, win0_1.index t = ![t.val / 4, 0] := (by decide +kernel : ∀ t : Fin grid0.N, _)

theorem idx2 : ∀ t : Fin cfg0.N, win0_2.index t = ![0, t.val / 4] := (by decide +kernel : ∀ t : Fin grid0.N, _)

theorem idx3 : ∀ t : Fin cfg0.N, win0_3.index t = ![0, t.val / 4] := (by decide +kernel : ∀ t : Fin grid0.N, _)

theorem idx4 : ∀ t : Fin cfg0.N, win0_4.index t = ![0, t.val / 4] := (by decide +kernel : ∀ t : Fin grid0.N, _)

theorem idx5 : ∀ t : Fin cfg0.N, win0_5.index t = ![0, 0] := (by decide +kernel : ∀ t : Fin grid0.N, _)

theorem idx6 : ∀ t : Fin cfg0.N, win0_6.index t = ![0, 0] := (by decide +kernel : ∀ t : Fin grid0.N, _)

theorem idx7 : ∀ t : Fin cfg0.N, win0_7.index t = ![0, 0] := (by decide +kernel : ∀ t : Fin grid0.N, _)

theorem idx8 : ∀ t : Fin cfg0.N, win0_8.index t = ![t.val % 4, 0, 0] := (by decide +kernel : ∀ t : Fin grid0.N, _)

theorem idx9 : ∀ t : Fin cfg0.N, win0_9.index t = ![t.val % 4, 0, 0] := (by decide +kernel : ∀ t : Fin grid0.N, _)

theorem idx10 : ∀ t : Fin cfg0.N, win0_10.index t = ![t.val % 4, 0, 0] := (by decide +kernel : ∀ t : Fin grid0.N, _)

theorem idx11 : ∀ t : Fin cfg0.N, win0_11.index t = ![t.val % 4, 0, 0] := (by decide +kernel : ∀ t : Fin grid0.N, _)

theorem idx12 : ∀ t : Fin cfg0.N, win0_12.index t = ![t.val % 4, 0, 0] := (by decide +kernel : ∀ t : Fin grid0.N, _)

theorem idx13 : ∀ t : Fin cfg0.N, win0_13.index t = ![t.val % 4, 0, 0] := (by decide +kernel : ∀ t : Fin grid0.N, _)

theorem idx14 : ∀ t : Fin cfg0.N, win0_14.index t = ![t.val % 4, 0, 0] := (by decide +kernel : ∀ t : Fin grid0.N, _)

theorem idx15 : ∀ t : Fin cfg0.N, win0_15.index t = ![t.val % 4, 0, 0] := (by decide +kernel : ∀ t : Fin grid0.N, _)

theorem idx16 : ∀ t : Fin cfg0.N, win0_16.index t = ![t.val % 4, 0, 0] := (by decide +kernel : ∀ t : Fin grid0.N, _)

theorem idx17 : ∀ t : Fin cfg0.N, win0_17.index t = ![t.val % 4, 0, 0] := (by decide +kernel : ∀ t : Fin grid0.N, _)

theorem idx18 : ∀ t : Fin cfg0.N, win0_18.index t = ![t.val % 4, 0, 0] := (by decide +kernel : ∀ t : Fin grid0.N, _)

theorem idx19 : ∀ t : Fin cfg0.N, win0_19.index t = ![t.val % 4, 0, 0] := (by decide +kernel : ∀ t : Fin grid0.N, _)

theorem idx20 : ∀ t : Fin cfg0.N, win0_20.index t = ![t.val % 4, 0, 0] := (by decide +kernel : ∀ t : Fin grid0.N, _)

theorem idx21 : ∀ t : Fin cfg0.N, win0_21.index t = ![t.val % 4, 0, 0] := (by decide +kernel : ∀ t : Fin grid0.N, _)

theorem idx22 : ∀ t : Fin cfg0.N, win0_22.index t = ![t.val % 4, 0, 0] := (by decide +kernel : ∀ t : Fin grid0.N, _)

theorem idx23 : ∀ t : Fin cfg0.N, win0_23.index t = ![t.val % 4, 0, 0] := (by decide +kernel : ∀ t : Fin grid0.N, _)

/-- The batch element of row group `g` at a grid point. -/
def bat (t : Fin cfg0.N) (g : Fin 16) : Fin 32 := ⟨t.val / 4 * 16 + g.val, by have := halves t; omega⟩

/-- The layer of a grid point. -/
def lay (t : Fin cfg0.N) : Fin 4 := ⟨t.val % 4, Nat.mod_lt _ (by decide)⟩

/-- Layer `l`'s weights, read off the program's arguments. -/
def params (l : Fin 4) : Spec.Params where
  wq k d := (m ((c : Thread nD τ).loc main_arg10) : FVec Ideal S4x768x768 .f32) (ix3 l k d)
  bq d := (m ((c : Thread nD τ).loc main_arg11) : FVec Ideal S4x768 .f32) (ix2 l d)
  wk k d := (m ((c : Thread nD τ).loc main_arg12) : FVec Ideal S4x768x768 .f32) (ix3 l k d)
  bk d := (m ((c : Thread nD τ).loc main_arg13) : FVec Ideal S4x768 .f32) (ix2 l d)
  wv k d := (m ((c : Thread nD τ).loc main_arg14) : FVec Ideal S4x768x768 .f32) (ix3 l k d)
  bv d := (m ((c : Thread nD τ).loc main_arg15) : FVec Ideal S4x768 .f32) (ix2 l d)
  wo k d := (m ((c : Thread nD τ).loc main_arg16) : FVec Ideal S4x768x768 .f32) (ix3 l k d)
  bo d := (m ((c : Thread nD τ).loc main_arg17) : FVec Ideal S4x768 .f32) (ix2 l d)
  g1 d := (m ((c : Thread nD τ).loc main_arg18) : FVec Ideal S4x768 .f32) (ix2 l d)
  b1 d := (m ((c : Thread nD τ).loc main_arg19) : FVec Ideal S4x768 .f32) (ix2 l d)
  w1 k d := (m ((c : Thread nD τ).loc main_arg20) : FVec Ideal S4x768x3072 .f32) (ix3 l k d)
  c1 d := (m ((c : Thread nD τ).loc main_arg21) : FVec Ideal S4x3072 .f32) (ix2 l d)
  w2 k d := (m ((c : Thread nD τ).loc main_arg22) : FVec Ideal S4x3072x768 .f32) (ix3 l k d)
  c2 d := (m ((c : Thread nD τ).loc main_arg23) : FVec Ideal S4x768 .f32) (ix2 l d)
  g2 d := (m ((c : Thread nD τ).loc main_arg24) : FVec Ideal S4x768 .f32) (ix2 l d)
  b2 d := (m ((c : Thread nD τ).loc main_arg25) : FVec Ideal S4x768 .f32) (ix2 l d)

theorem blk_wq (t : Fin cfg0.N) (k : Fin 768) (d : Fin 768) :
    iblk m c 8 t (ix3 (0 : Fin 1) k d) = (params m c (lay t)).wq k d := by
  have e : (V m c main_v21 : FVec Ideal S4x768x768 .bf16) (ix3 (lay t) k d) = (params m c (lay t)).wq k d := by
    entry_read
    pointwise [params]
  rw [← e]
  blk_ext [iblk, lay, idx8 t]

theorem blk_bq (t : Fin cfg0.N) (d : Fin 768) :
    iblk m c 9 t (ix3 (0 : Fin 1) (0 : Fin 1) d) = (params m c (lay t)).bq d := by
  have e : (V m c main_v22 : FVec Ideal S4x1x768 .f32) (ix3 (lay t) 0 d) = (params m c (lay t)).bq d := by
    entry_read
    pointwise [params]
  rw [← e]
  blk_ext [iblk, lay, idx9 t]

theorem blk_wk (t : Fin cfg0.N) (k : Fin 768) (d : Fin 768) :
    iblk m c 10 t (ix3 (0 : Fin 1) k d) = (params m c (lay t)).wk k d := by
  have e : (V m c main_v23 : FVec Ideal S4x768x768 .bf16) (ix3 (lay t) k d) = (params m c (lay t)).wk k d := by
    entry_read
    pointwise [params]
  rw [← e]
  blk_ext [iblk, lay, idx10 t]

theorem blk_bk (t : Fin cfg0.N) (d : Fin 768) :
    iblk m c 11 t (ix3 (0 : Fin 1) (0 : Fin 1) d) = (params m c (lay t)).bk d := by
  have e : (V m c main_v24 : FVec Ideal S4x1x768 .f32) (ix3 (lay t) 0 d) = (params m c (lay t)).bk d := by
    entry_read
    pointwise [params]
  rw [← e]
  blk_ext [iblk, lay, idx11 t]

theorem blk_wv (t : Fin cfg0.N) (k : Fin 768) (d : Fin 768) :
    iblk m c 12 t (ix3 (0 : Fin 1) k d) = (params m c (lay t)).wv k d := by
  have e : (V m c main_v25 : FVec Ideal S4x768x768 .bf16) (ix3 (lay t) k d) = (params m c (lay t)).wv k d := by
    entry_read
    pointwise [params]
  rw [← e]
  blk_ext [iblk, lay, idx12 t]

theorem blk_bv (t : Fin cfg0.N) (d : Fin 768) :
    iblk m c 13 t (ix3 (0 : Fin 1) (0 : Fin 1) d) = (params m c (lay t)).bv d := by
  have e : (V m c main_v26 : FVec Ideal S4x1x768 .f32) (ix3 (lay t) 0 d) = (params m c (lay t)).bv d := by
    entry_read
    pointwise [params]
  rw [← e]
  blk_ext [iblk, lay, idx13 t]

theorem blk_wo (t : Fin cfg0.N) (k : Fin 768) (d : Fin 768) :
    iblk m c 14 t (ix3 (0 : Fin 1) k d) = (params m c (lay t)).wo k d := by
  have e : (V m c main_v27 : FVec Ideal S4x768x768 .bf16) (ix3 (lay t) k d) = (params m c (lay t)).wo k d := by
    entry_read
    pointwise [params]
  rw [← e]
  blk_ext [iblk, lay, idx14 t]

theorem blk_bo (t : Fin cfg0.N) (d : Fin 768) :
    iblk m c 15 t (ix3 (0 : Fin 1) (0 : Fin 1) d) = (params m c (lay t)).bo d := by
  have e : (V m c main_v28 : FVec Ideal S4x1x768 .f32) (ix3 (lay t) 0 d) = (params m c (lay t)).bo d := by
    entry_read
    pointwise [params]
  rw [← e]
  blk_ext [iblk, lay, idx15 t]

theorem blk_g1 (t : Fin cfg0.N) (d : Fin 768) :
    iblk m c 16 t (ix3 (0 : Fin 1) (0 : Fin 1) d) = (params m c (lay t)).g1 d := by
  have e : (V m c main_v29 : FVec Ideal S4x1x768 .f32) (ix3 (lay t) 0 d) = (params m c (lay t)).g1 d := by
    entry_read
    pointwise [params]
  rw [← e]
  blk_ext [iblk, lay, idx16 t]

theorem blk_b1 (t : Fin cfg0.N) (d : Fin 768) :
    iblk m c 17 t (ix3 (0 : Fin 1) (0 : Fin 1) d) = (params m c (lay t)).b1 d := by
  have e : (V m c main_v30 : FVec Ideal S4x1x768 .f32) (ix3 (lay t) 0 d) = (params m c (lay t)).b1 d := by
    entry_read
    pointwise [params]
  rw [← e]
  blk_ext [iblk, lay, idx17 t]

theorem blk_w1 (t : Fin cfg0.N) (k : Fin 768) (d : Fin 3072) :
    iblk m c 18 t (ix3 (0 : Fin 1) k d) = (params m c (lay t)).w1 k d := by
  have e : (V m c main_v31 : FVec Ideal S4x768x3072 .bf16) (ix3 (lay t) k d) = (params m c (lay t)).w1 k d := by
    entry_read
    pointwise [params]
  rw [← e]
  blk_ext [iblk, lay, idx18 t]

theorem blk_c1 (t : Fin cfg0.N) (d : Fin 3072) :
    iblk m c 19 t (ix3 (0 : Fin 1) (0 : Fin 1) d) = (params m c (lay t)).c1 d := by
  have e : (V m c main_v32 : FVec Ideal S4x1x3072 .f32) (ix3 (lay t) 0 d) = (params m c (lay t)).c1 d := by
    entry_read
    pointwise [params]
  rw [← e]
  blk_ext [iblk, lay, idx19 t]

theorem blk_w2 (t : Fin cfg0.N) (k : Fin 3072) (d : Fin 768) :
    iblk m c 20 t (ix3 (0 : Fin 1) k d) = (params m c (lay t)).w2 k d := by
  have e : (V m c main_v33 : FVec Ideal S4x3072x768 .bf16) (ix3 (lay t) k d) = (params m c (lay t)).w2 k d := by
    entry_read
    pointwise [params]
  rw [← e]
  blk_ext [iblk, lay, idx20 t]

theorem blk_c2 (t : Fin cfg0.N) (d : Fin 768) :
    iblk m c 21 t (ix3 (0 : Fin 1) (0 : Fin 1) d) = (params m c (lay t)).c2 d := by
  have e : (V m c main_v34 : FVec Ideal S4x1x768 .f32) (ix3 (lay t) 0 d) = (params m c (lay t)).c2 d := by
    entry_read
    pointwise [params]
  rw [← e]
  blk_ext [iblk, lay, idx21 t]

theorem blk_g2 (t : Fin cfg0.N) (d : Fin 768) :
    iblk m c 22 t (ix3 (0 : Fin 1) (0 : Fin 1) d) = (params m c (lay t)).g2 d := by
  have e : (V m c main_v35 : FVec Ideal S4x1x768 .f32) (ix3 (lay t) 0 d) = (params m c (lay t)).g2 d := by
    entry_read
    pointwise [params]
  rw [← e]
  blk_ext [iblk, lay, idx22 t]

theorem blk_b2 (t : Fin cfg0.N) (d : Fin 768) :
    iblk m c 23 t (ix3 (0 : Fin 1) (0 : Fin 1) d) = (params m c (lay t)).b2 d := by
  have e : (V m c main_v36 : FVec Ideal S4x1x768 .f32) (ix3 (lay t) 0 d) = (params m c (lay t)).b2 d := by
    entry_read
    pointwise [params]
  rw [← e]
  blk_ext [iblk, lay, idx23 t]

end Cert.TrIdeal.Layer

end
-- ==== Proof.KBlocks.lean ====
/- The feature, id and table blocks the transformer kernel reads at a grid point, as entries of the program's arguments. -/
module

public import proofs.«01_k».proof.Proof.KWeights
public import proofs.«01_k».proof.Proof.Gen.TrIdeal.Frame.Runs
public import Idealize.ShloMosaic.Lib.Claim
public import Idealize.ShloMosaic.Lib.Pipeline.Value
public import Idealize.ShloMosaic.Lib.Pipeline.ValueKit

@[expose] public section

set_option maxRecDepth 16384

noncomputable section

namespace Cert.TrIdeal.Layer

open Idealize.ShloMosaic Idealize.ShloMosaic.TcCoe Idealize.SL.Sem
open Cert.TrIdeal Cert.TrIdeal.Gen

variable (m : (ℓ : Loc nD τ sig) → Buf (Elt Ideal) ℓ) (c : Dev nD)

/-- Row `512·half + 32·g + s` of all rows belongs to batch element `16·half + g`. -/
theorem bat_eq (n g s : ℕ) (hs : s < 32) (h : (n * 512 + (g * 32 + s)) / 32 < 32) (h' : n * 16 + g < 32) :
    (⟨(n * 512 + (g * 32 + s)) / 32, h⟩ : Fin 32) = ⟨n * 16 + g, h'⟩ := Fin.ext (by simp only; omega)

theorem blk_raw (t : Fin cfg0.N) (g : Fin 16) (s : Fin 32) (d : Fin 768) :
    iblk m c 0 t (ix2 (row g s) d) = (m ((c : Thread nD τ).loc main_arg0) : FVec Ideal S32x32x768 .f32) (ix3 (bat t g) s d) := by
  have e : (V m c main_v2 : FVec Ideal S1024x768 .f32) (ix2 (⟨t.val / 4 * 512 + (g.val * 32 + s.val), by have := halves t; omega⟩ : Fin 1024) d) = (m ((c : Thread nD τ).loc main_arg0) : FVec Ideal S32x32x768 .f32) (ix3 (bat t g) s d) := by
    entry_read
    pointwise [bat]
    exact congrArg (fun z : Fin 32 => (m ((c : Thread nD τ).loc main_arg0) : FVec Ideal S32x32x768 .f32) (ix3 z s d)) (bat_eq _ _ _ s.isLt _ _)
  rw [← e]
  blk_ext [iblk, bat, row, idx0 t]

theorem blk_pooled (t : Fin cfg0.N) (g : Fin 16) (s : Fin 32) (d : Fin 768) :
    iblk m c 1 t (ix2 (row g s) d) = (m ((c : Thread nD τ).loc main_arg1) : FVec Ideal S32x32x768 .f32) (ix3 s (bat t g) d) := by
  have e : (V m c main_v1 : FVec Ideal S1024x768 .f32) (ix2 (⟨t.val / 4 * 512 + (g.val * 32 + s.val), by have := halves t; omega⟩ : Fin 1024) d) = (m ((c : Thread nD τ).loc main_arg1) : FVec Ideal S32x32x768 .f32) (ix3 s (bat t g) d) := by
    entry_read
    pointwise [bat]
    exact congrArg (fun z : Fin 32 => (m ((c : Thread nD τ).loc main_arg1) : FVec Ideal S32x32x768 .f32) (ix3 s z d)) (bat_eq _ _ _ s.isLt _ _)
  rw [← e]
  blk_ext [iblk, bat, row, idx1 t]

theorem blk_role (t : Fin cfg0.N) (g : Fin 16) (s : Fin 32) :
    iblk m c 2 t (ix2 (0 : Fin 1) (row g s)) = (m ((c : Thread nD τ).loc main_arg2) : IVec S32x32 32) (ix2 (bat t g) s) := by
  have e : (V m c main_v3 : IVec S1x1024 32) (ix2 0 (⟨t.val / 4 * 512 + (g.val * 32 + s.val), by have := halves t; omega⟩ : Fin 1024)) = (m ((c : Thread nD τ).loc main_arg2) : IVec S32x32 32) (ix2 (bat t g) s) := by
    entry_read
    pointwise [bat]
    exact congrArg (fun z : Fin 32 => (m ((c : Thread nD τ).loc main_arg2) : IVec S32x32 32) (ix2 z s)) (bat_eq _ _ _ s.isLt _ _)
  rw [← e]
  blk_ext [iblk, bat, row, idx2 t]

theorem blk_position (t : Fin cfg0.N) (g : Fin 16) (s : Fin 32) :
    iblk m c 3 t (ix2 (0 : Fin 1) (row g s)) = IntOp.addi ((m ((c : Thread nD τ).loc main_arg3) : IVec S32x32 32) (ix2 (bat t g) s)) 2#32 := by
  have e : (V m c main_v6 : IVec S1x1024 32) (ix2 0 (⟨t.val / 4 * 512 + (g.val * 32 + s.val), by have := halves t; omega⟩ : Fin 1024)) = IntOp.addi ((m ((c : Thread nD τ).loc main_arg3) : IVec S32x32 32) (ix2 (bat t g) s)) 2#32 := by
    entry_read
    pointwise [bat]
    exact congrArg (fun z : Fin 32 => IntOp.addi ((m ((c : Thread nD τ).loc main_arg3) : IVec S32x32 32) (ix2 z s)) 2#32) (bat_eq _ _ _ s.isLt _ _)
  rw [← e]
  blk_ext [iblk, bat, row, idx3 t]

theorem blk_hop (t : Fin cfg0.N) (g : Fin 16) (s : Fin 32) :
    iblk m c 4 t (ix2 (0 : Fin 1) (row g s)) = IntOp.addi (IntOp.addi ((m ((c : Thread nD τ).loc main_arg4) : IVec S32x32 32) (ix2 (bat t g) s)) 2#32) 64#32 := by
  have e : (V m c main_v11 : IVec S1x1024 32) (ix2 0 (⟨t.val / 4 * 512 + (g.val * 32 + s.val), by have := halves t; omega⟩ : Fin 1024)) = IntOp.addi (IntOp.addi ((m ((c : Thread nD τ).loc main_arg4) : IVec S32x32 32) (ix2 (bat t g) s)) 2#32) 64#32 := by
    entry_read
    pointwise [bat]
    exact congrArg (fun z : Fin 32 => IntOp.addi (IntOp.addi ((m ((c : Thread nD τ).loc main_arg4) : IVec S32x32 32) (ix2 z s)) 2#32) 64#32) (bat_eq _ _ _ s.isLt _ _)
  rw [← e]
  blk_ext [iblk, bat, row, idx4 t]

theorem blk_scale (t : Fin cfg0.N) (d : Fin 768) :
    iblk m c 6 t (ix2 (0 : Fin 1) d) = (m ((c : Thread nD τ).loc main_arg8) : FVec Ideal S768 .f32) (ix1 d) := by
  blk_point [iblk, idx6 t]

theorem blk_shift (t : Fin cfg0.N) (d : Fin 768) :
    iblk m c 7 t (ix2 (0 : Fin 1) d) = (m ((c : Thread nD τ).loc main_arg9) : FVec Ideal S768 .f32) (ix1 d) := by
  blk_point [iblk, idx7 t]

/-- The table block is the whole table the program writes: three slabs of rows over zeros. -/
theorem blk_table (t : Fin cfg0.N) (r : Fin 128) (d : Fin 768) :
    iblk m c 5 t (ix2 r d) = (V m c main_v18 : FVec Ideal S128x768 .f32) (ix2 r d) := by
  blk_ext [iblk, idx5 t]

/-- The table's rows 0 to 1. -/
theorem table_role (a : Fin 2) (d : Fin 768) :
    (V m c main_v18 : FVec Ideal S128x768 .f32) (ix2 (⟨0 + a.val, by omega⟩ : Fin 128) d)
      = (m ((c : Thread nD τ).loc main_arg5) : FVec Ideal S2x768 .f32) (ix2 a d) := by
  entry_read
  refine (slab_at scatter_S128x768_S1_S16x768_01_n_0_0 rfl rfl rfl rfl _ _ _ 66 rfl _ d).trans ?_
  rw [dif_neg (by simp only; omega)]
  refine (slab_at scatter_S128x768_S1_S64x768_01_n_0_0 rfl rfl rfl rfl _ _ _ 2 rfl _ d).trans ?_
  rw [dif_neg (by simp only; omega)]
  refine (slab_at scatter_S128x768_S1_S2x768_01_n_0_0 rfl rfl rfl rfl _ _ _ 0 rfl _ d).trans ?_
  rw [dif_pos ⟨by omega, by simp only; omega⟩]
  exact congrArg (fun z : Fin 2 => (m ((c : Thread nD τ).loc main_arg5) : FVec Ideal S2x768 .f32) (ix2 z d)) (Fin.ext (by simp only; omega))

/-- The table's rows 2 to 65. -/
theorem table_position (a : Fin 64) (d : Fin 768) :
    (V m c main_v18 : FVec Ideal S128x768 .f32) (ix2 (⟨2 + a.val, by omega⟩ : Fin 128) d)
      = (m ((c : Thread nD τ).loc main_arg6) : FVec Ideal S64x768 .f32) (ix2 a d) := by
  entry_read
  refine (slab_at scatter_S128x768_S1_S16x768_01_n_0_0 rfl rfl rfl rfl _ _ _ 66 rfl _ d).trans ?_
  rw [dif_neg (by simp only; omega)]
  refine (slab_at scatter_S128x768_S1_S64x768_01_n_0_0 rfl rfl rfl rfl _ _ _ 2 rfl _ d).trans ?_
  rw [dif_pos ⟨by simp only; omega, by simp only; omega⟩]
  exact congrArg (fun z : Fin 64 => (m ((c : Thread nD τ).loc main_arg6) : FVec Ideal S64x768 .f32) (ix2 z d)) (Fin.ext (by simp only; omega))

/-- The table's rows 66 to 81. -/
theorem table_hop (a : Fin 16) (d : Fin 768) :
    (V m c main_v18 : FVec Ideal S128x768 .f32) (ix2 (⟨66 + a.val, by omega⟩ : Fin 128) d)
      = (m ((c : Thread nD τ).loc main_arg7) : FVec Ideal S16x768 .f32) (ix2 a d) := by
  entry_read
  refine (slab_at scatter_S128x768_S1_S16x768_01_n_0_0 rfl rfl rfl rfl _ _ _ 66 rfl _ d).trans ?_
  rw [dif_pos ⟨by simp only; omega, by simp only; omega⟩]
  exact congrArg (fun z : Fin 16 => (m ((c : Thread nD τ).loc main_arg7) : FVec Ideal S16x768 .f32) (ix2 z d)) (Fin.ext (by simp only; omega))

end Cert.TrIdeal.Layer

end
-- ==== Proof.TrIdealRunA.lean ====
/- The transformer kernel's body run at a grid point of layer 0 (the embedding is computed first), as its stores leave the output block. -/
module

public import proofs.«01_k».proof.Proof.Gen.TrIdeal.Frame.Runs

@[expose] public section

-- membership in a rectangle of production extents (`View.cover_of_tiled`): the elaborator's structural look
-- recurses once per coordinate of the long axes
set_option maxRecDepth 16384

noncomputable section

namespace Cert.TrIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — lifting nested proofs out — walks it past the default budget)
set_option maxHeartbeats 8000000 in
/-- What the body's stores leave in each output's staging memref, as pieces (last first) IN CASE A (`scf.if` 0 taken: points 0, 4), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S128x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768x768 .bf16) (harg10 : arg10.IsWhole) (arg11 : Memref sig .tc .vmem S1x1x768 .f32) (harg11 : arg11.IsWhole) (arg12 : Memref sig .tc .vmem S1x768x768 .bf16) (harg12 : arg12.IsWhole) (arg13 : Memref sig .tc .vmem S1x1x768 .f32) (harg13 : arg13.IsWhole) (arg14 : Memref sig .tc .vmem S1x768x768 .bf16) (harg14 : arg14.IsWhole) (arg15 : Memref sig .tc .vmem S1x1x768 .f32) (harg15 : arg15.IsWhole) (arg16 : Memref sig .tc .vmem S1x768x768 .bf16) (harg16 : arg16.IsWhole) (arg17 : Memref sig .tc .vmem S1x1x768 .f32) (harg17 : arg17.IsWhole) (arg18 : Memref sig .tc .vmem S1x1x768 .f32) (harg18 : arg18.IsWhole) (arg19 : Memref sig .tc .vmem S1x1x768 .f32) (harg19 : arg19.IsWhole) (arg20 : Memref sig .tc .vmem S1x768x3072 .bf16) (harg20 : arg20.IsWhole) (arg21 : Memref sig .tc .vmem S1x1x3072 .f32) (harg21 : arg21.IsWhole) (arg22 : Memref sig .tc .vmem S1x3072x768 .bf16) (harg22 : arg22.IsWhole) (arg23 : Memref sig .tc .vmem S1x1x768 .f32) (harg23 : arg23.IsWhole) (arg24 : Memref sig .tc .vmem S1x1x768 .f32) (harg24 : arg24.IsWhole) (arg25 : Memref sig .tc .vmem S1x1x768 .f32) (harg25 : arg25.IsWhole) (arg26 : Memref sig .tc .vmem S512x768 .f32) (harg26 : arg26.IsWhole) (hc0 : cond0_0 i)
    (x0 : Vec F S512x768 .f32) (x1 : Vec F S512x768 .f32) (x2 : Vec F S1x512 .i32) (x3 : Vec F S1x512 .i32) (x4 : Vec F S1x512 .i32) (x5 : Vec F S128x768 .f32) (x6 : Vec F S1x768 .f32) (x7 : Vec F S1x768 .f32) (x8 : Vec F S1x768x768 .bf16) (x9 : Vec F S1x1x768 .f32) (x10 : Vec F S1x768x768 .bf16) (x11 : Vec F S1x1x768 .f32) (x12 : Vec F S1x768x768 .bf16) (x13 : Vec F S1x1x768 .f32) (x14 : Vec F S1x768x768 .bf16) (x15 : Vec F S1x1x768 .f32) (x16 : Vec F S1x1x768 .f32) (x17 : Vec F S1x1x768 .f32) (x18 : Vec F S1x768x3072 .bf16) (x19 : Vec F S1x1x3072 .f32) (x20 : Vec F S1x3072x768 .bf16) (x21 : Vec F S1x1x768 .f32) (x22 : Vec F S1x1x768 .f32) (x23 : Vec F S1x1x768 .f32) :
    { L24 : List (View.Piece (Elt F) S512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ (∃ f, arg26.view.loc (c : Thread nD τ) ↦[arg26.view.set]{fullShare} arg26.view.writes (Elt F) f L24)) -∗ K ⟨⟩))
          ⊢ wp frame (wpE (defs₀ (F := F)) Variants.none c none) E (cc0__tr_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, fun E K => ?run⟩
  case run =>
    simp only [cc0__tr_kernel_eq_skeleton]; unfold cc0__tr_kernel_skel
    simp only [k0_part2_eq_skeleton, k0_part1_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    iexists _; iexact H24

end Cert.TrIdeal.Gen

end
-- ==== Proof.TrIdealRunB.lean ====
/- The transformer kernel's body run at a grid point of a layer after the first. -/
module

public import proofs.«01_k».proof.Proof.TrIdealRunA

@[expose] public section

-- membership in a rectangle of production extents (`View.cover_of_tiled`): the elaborator's structural look
-- recurses once per coordinate of the long axes
set_option maxRecDepth 16384

noncomputable section

namespace Cert.TrIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — lifting nested proofs out — walks it past the default budget)
set_option maxHeartbeats 8000000 in
/-- What the body's stores leave in each output's staging memref, as pieces (last first) IN CASE B (`scf.if` 0 not taken: points 1, 2, 3, 5, 6, 7), WITH the
    proof that on whole staging memrefs — the inputs' at their contents, the outputs it reads before covering (24) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S128x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768x768 .bf16) (harg10 : arg10.IsWhole) (arg11 : Memref sig .tc .vmem S1x1x768 .f32) (harg11 : arg11.IsWhole) (arg12 : Memref sig .tc .vmem S1x768x768 .bf16) (harg12 : arg12.IsWhole) (arg13 : Memref sig .tc .vmem S1x1x768 .f32) (harg13 : arg13.IsWhole) (arg14 : Memref sig .tc .vmem S1x768x768 .bf16) (harg14 : arg14.IsWhole) (arg15 : Memref sig .tc .vmem S1x1x768 .f32) (harg15 : arg15.IsWhole) (arg16 : Memref sig .tc .vmem S1x768x768 .bf16) (harg16 : arg16.IsWhole) (arg17 : Memref sig .tc .vmem S1x1x768 .f32) (harg17 : arg17.IsWhole) (arg18 : Memref sig .tc .vmem S1x1x768 .f32) (harg18 : arg18.IsWhole) (arg19 : Memref sig .tc .vmem S1x1x768 .f32) (harg19 : arg19.IsWhole) (arg20 : Memref sig .tc .vmem S1x768x3072 .bf16) (harg20 : arg20.IsWhole) (arg21 : Memref sig .tc .vmem S1x1x3072 .f32) (harg21 : arg21.IsWhole) (arg22 : Memref sig .tc .vmem S1x3072x768 .bf16) (harg22 : arg22.IsWhole) (arg23 : Memref sig .tc .vmem S1x1x768 .f32) (harg23 : arg23.IsWhole) (arg24 : Memref sig .tc .vmem S1x1x768 .f32) (harg24 : arg24.IsWhole) (arg25 : Memref sig .tc .vmem S1x1x768 .f32) (harg25 : arg25.IsWhole) (arg26 : Memref sig .tc .vmem S512x768 .f32) (harg26 : arg26.IsWhole) (hc0 : ¬cond0_0 i)
    (x0 : Vec F S512x768 .f32) (x1 : Vec F S512x768 .f32) (x2 : Vec F S1x512 .i32) (x3 : Vec F S1x512 .i32) (x4 : Vec F S1x512 .i32) (x5 : Vec F S128x768 .f32) (x6 : Vec F S1x768 .f32) (x7 : Vec F S1x768 .f32) (x8 : Vec F S1x768x768 .bf16) (x9 : Vec F S1x1x768 .f32) (x10 : Vec F S1x768x768 .bf16) (x11 : Vec F S1x1x768 .f32) (x12 : Vec F S1x768x768 .bf16) (x13 : Vec F S1x1x768 .f32) (x14 : Vec F S1x768x768 .bf16) (x15 : Vec F S1x1x768 .f32) (x16 : Vec F S1x1x768 .f32) (x17 : Vec F S1x1x768 .f32) (x18 : Vec F S1x768x3072 .bf16) (x19 : Vec F S1x1x3072 .f32) (x20 : Vec F S1x3072x768 .bf16) (x21 : Vec F S1x1x768 .f32) (x22 : Vec F S1x1x768 .f32) (x23 : Vec F S1x1x768 .f32) (xo24 : Vec F S512x768 .f32) :
    { L24 : List (View.Piece (Elt F) S512x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare xo24
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ (∃ f, arg26.view.loc (c : Thread nD τ) ↦[arg26.view.set]{fullShare} arg26.view.writes (Elt F) f L24)) -∗ K ⟨⟩))
          ⊢ wp frame (wpE (defs₀ (F := F)) Variants.none c none) E (cc0__tr_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, fun E K => ?run⟩
  case run =>
    simp only [cc0__tr_kernel_eq_skeleton]; unfold cc0__tr_kernel_skel
    simp only [k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    iexists _; iexact H24

end Cert.TrIdeal.Gen

end
-- ==== Proof.TrIdealFrame.lean ====
/- The frame of the transformer program: the pipeline's data over the body runs, and the run of the whole program. -/
module

public import proofs.«01_k».proof.Proof.TrIdealRunB
public import Idealize.ShloMosaic.Lib.Claim

@[expose] public section

-- membership in a rectangle of production extents (`View.cover_of_tiled`): the elaborator's structural look
-- recurses once per coordinate of the long axes
set_option maxRecDepth 16384

noncomputable section

namespace Cert.TrIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 24 tile its block (2 stores of `S512x768`, checked by the kernel's evaluation: Lib/Ring.lean `Piece.tiledL`, linear in the pieces, through a loop's `@[irreducible]` trip theorem too), so they cover it. -/
theorem cover0_A_24 (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S128x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768x768 .bf16) (harg10 : arg10.IsWhole) (arg11 : Memref sig .tc .vmem S1x1x768 .f32) (harg11 : arg11.IsWhole) (arg12 : Memref sig .tc .vmem S1x768x768 .bf16) (harg12 : arg12.IsWhole) (arg13 : Memref sig .tc .vmem S1x1x768 .f32) (harg13 : arg13.IsWhole) (arg14 : Memref sig .tc .vmem S1x768x768 .bf16) (harg14 : arg14.IsWhole) (arg15 : Memref sig .tc .vmem S1x1x768 .f32) (harg15 : arg15.IsWhole) (arg16 : Memref sig .tc .vmem S1x768x768 .bf16) (harg16 : arg16.IsWhole) (arg17 : Memref sig .tc .vmem S1x1x768 .f32) (harg17 : arg17.IsWhole) (arg18 : Memref sig .tc .vmem S1x1x768 .f32) (harg18 : arg18.IsWhole) (arg19 : Memref sig .tc .vmem S1x1x768 .f32) (harg19 : arg19.IsWhole) (arg20 : Memref sig .tc .vmem S1x768x3072 .bf16) (harg20 : arg20.IsWhole) (arg21 : Memref sig .tc .vmem S1x1x3072 .f32) (harg21 : arg21.IsWhole) (arg22 : Memref sig .tc .vmem S1x3072x768 .bf16) (harg22 : arg22.IsWhole) (arg23 : Memref sig .tc .vmem S1x1x768 .f32) (harg23 : arg23.IsWhole) (arg24 : Memref sig .tc .vmem S1x1x768 .f32) (harg24 : arg24.IsWhole) (arg25 : Memref sig .tc .vmem S1x1x768 .f32) (harg25 : arg25.IsWhole) (arg26 : Memref sig .tc .vmem S512x768 .f32) (harg26 : arg26.IsWhole) (hc0 : cond0_0 i)
    (x0 : Vec F S512x768 .f32) (x1 : Vec F S512x768 .f32) (x2 : Vec F S1x512 .i32) (x3 : Vec F S1x512 .i32) (x4 : Vec F S1x512 .i32) (x5 : Vec F S128x768 .f32) (x6 : Vec F S1x768 .f32) (x7 : Vec F S1x768 .f32) (x8 : Vec F S1x768x768 .bf16) (x9 : Vec F S1x1x768 .f32) (x10 : Vec F S1x768x768 .bf16) (x11 : Vec F S1x1x768 .f32) (x12 : Vec F S1x768x768 .bf16) (x13 : Vec F S1x1x768 .f32) (x14 : Vec F S1x768x768 .bf16) (x15 : Vec F S1x1x768 .f32) (x16 : Vec F S1x1x768 .f32) (x17 : Vec F S1x1x768 .f32) (x18 : Vec F S1x768x3072 .bf16) (x19 : Vec F S1x1x3072 .f32) (x20 : Vec F S1x3072x768 .bf16) (x21 : Vec F S1x1x768 .f32) (x22 : Vec F S1x1x768 .f32) (x23 : Vec F S1x1x768 .f32) (y : S512x768.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 x23).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 x23).1 S512x768.size (by sl_kernel_rfl) y

/-- What case A leaves in output 24's staging buffer: its pieces read back over junk. -/
def out0_A_24 (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S128x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768x768 .bf16) (harg10 : arg10.IsWhole) (arg11 : Memref sig .tc .vmem S1x1x768 .f32) (harg11 : arg11.IsWhole) (arg12 : Memref sig .tc .vmem S1x768x768 .bf16) (harg12 : arg12.IsWhole) (arg13 : Memref sig .tc .vmem S1x1x768 .f32) (harg13 : arg13.IsWhole) (arg14 : Memref sig .tc .vmem S1x768x768 .bf16) (harg14 : arg14.IsWhole) (arg15 : Memref sig .tc .vmem S1x1x768 .f32) (harg15 : arg15.IsWhole) (arg16 : Memref sig .tc .vmem S1x768x768 .bf16) (harg16 : arg16.IsWhole) (arg17 : Memref sig .tc .vmem S1x1x768 .f32) (harg17 : arg17.IsWhole) (arg18 : Memref sig .tc .vmem S1x1x768 .f32) (harg18 : arg18.IsWhole) (arg19 : Memref sig .tc .vmem S1x1x768 .f32) (harg19 : arg19.IsWhole) (arg20 : Memref sig .tc .vmem S1x768x3072 .bf16) (harg20 : arg20.IsWhole) (arg21 : Memref sig .tc .vmem S1x1x3072 .f32) (harg21 : arg21.IsWhole) (arg22 : Memref sig .tc .vmem S1x3072x768 .bf16) (harg22 : arg22.IsWhole) (arg23 : Memref sig .tc .vmem S1x1x768 .f32) (harg23 : arg23.IsWhole) (arg24 : Memref sig .tc .vmem S1x1x768 .f32) (harg24 : arg24.IsWhole) (arg25 : Memref sig .tc .vmem S1x1x768 .f32) (harg25 : arg25.IsWhole) (arg26 : Memref sig .tc .vmem S512x768 .f32) (harg26 : arg26.IsWhole) (hc0 : cond0_0 i)
    (x0 : Vec F S512x768 .f32) (x1 : Vec F S512x768 .f32) (x2 : Vec F S1x512 .i32) (x3 : Vec F S1x512 .i32) (x4 : Vec F S1x512 .i32) (x5 : Vec F S128x768 .f32) (x6 : Vec F S1x768 .f32) (x7 : Vec F S1x768 .f32) (x8 : Vec F S1x768x768 .bf16) (x9 : Vec F S1x1x768 .f32) (x10 : Vec F S1x768x768 .bf16) (x11 : Vec F S1x1x768 .f32) (x12 : Vec F S1x768x768 .bf16) (x13 : Vec F S1x1x768 .f32) (x14 : Vec F S1x768x768 .bf16) (x15 : Vec F S1x1x768 .f32) (x16 : Vec F S1x1x768 .f32) (x17 : Vec F S1x1x768 .f32) (x18 : Vec F S1x768x3072 .bf16) (x19 : Vec F S1x1x3072 .f32) (x20 : Vec F S1x3072x768 .bf16) (x21 : Vec F S1x1x768 .f32) (x22 : Vec F S1x1x768 .f32) (x23 : Vec F S1x1x768 .f32) : Vec F S512x768 .f32 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 x23).1)

/-- Case B's pieces for output 24 tile its block (1 store of `S512x768`, checked by the kernel's evaluation: Lib/Ring.lean `Piece.tiledL`, linear in the pieces, through a loop's `@[irreducible]` trip theorem too), so they cover it. -/
theorem cover0_B_24 (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S128x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768x768 .bf16) (harg10 : arg10.IsWhole) (arg11 : Memref sig .tc .vmem S1x1x768 .f32) (harg11 : arg11.IsWhole) (arg12 : Memref sig .tc .vmem S1x768x768 .bf16) (harg12 : arg12.IsWhole) (arg13 : Memref sig .tc .vmem S1x1x768 .f32) (harg13 : arg13.IsWhole) (arg14 : Memref sig .tc .vmem S1x768x768 .bf16) (harg14 : arg14.IsWhole) (arg15 : Memref sig .tc .vmem S1x1x768 .f32) (harg15 : arg15.IsWhole) (arg16 : Memref sig .tc .vmem S1x768x768 .bf16) (harg16 : arg16.IsWhole) (arg17 : Memref sig .tc .vmem S1x1x768 .f32) (harg17 : arg17.IsWhole) (arg18 : Memref sig .tc .vmem S1x1x768 .f32) (harg18 : arg18.IsWhole) (arg19 : Memref sig .tc .vmem S1x1x768 .f32) (harg19 : arg19.IsWhole) (arg20 : Memref sig .tc .vmem S1x768x3072 .bf16) (harg20 : arg20.IsWhole) (arg21 : Memref sig .tc .vmem S1x1x3072 .f32) (harg21 : arg21.IsWhole) (arg22 : Memref sig .tc .vmem S1x3072x768 .bf16) (harg22 : arg22.IsWhole) (arg23 : Memref sig .tc .vmem S1x1x768 .f32) (harg23 : arg23.IsWhole) (arg24 : Memref sig .tc .vmem S1x1x768 .f32) (harg24 : arg24.IsWhole) (arg25 : Memref sig .tc .vmem S1x1x768 .f32) (harg25 : arg25.IsWhole) (arg26 : Memref sig .tc .vmem S512x768 .f32) (harg26 : arg26.IsWhole) (hc0 : ¬cond0_0 i)
    (x0 : Vec F S512x768 .f32) (x1 : Vec F S512x768 .f32) (x2 : Vec F S1x512 .i32) (x3 : Vec F S1x512 .i32) (x4 : Vec F S1x512 .i32) (x5 : Vec F S128x768 .f32) (x6 : Vec F S1x768 .f32) (x7 : Vec F S1x768 .f32) (x8 : Vec F S1x768x768 .bf16) (x9 : Vec F S1x1x768 .f32) (x10 : Vec F S1x768x768 .bf16) (x11 : Vec F S1x1x768 .f32) (x12 : Vec F S1x768x768 .bf16) (x13 : Vec F S1x1x768 .f32) (x14 : Vec F S1x768x768 .bf16) (x15 : Vec F S1x1x768 .f32) (x16 : Vec F S1x1x768 .f32) (x17 : Vec F S1x1x768 .f32) (x18 : Vec F S1x768x3072 .bf16) (x19 : Vec F S1x1x3072 .f32) (x20 : Vec F S1x3072x768 .bf16) (x21 : Vec F S1x1x768 .f32) (x22 : Vec F S1x1x768 .f32) (x23 : Vec F S1x1x768 .f32) (xo24 : Vec F S512x768 .f32) (y : S512x768.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 x23 xo24).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 x23 xo24).1 S512x768.size (by sl_kernel_rfl) y

/-- What case B leaves in output 24's staging buffer: its pieces read back over junk. -/
def out0_B_24 (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S128x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768x768 .bf16) (harg10 : arg10.IsWhole) (arg11 : Memref sig .tc .vmem S1x1x768 .f32) (harg11 : arg11.IsWhole) (arg12 : Memref sig .tc .vmem S1x768x768 .bf16) (harg12 : arg12.IsWhole) (arg13 : Memref sig .tc .vmem S1x1x768 .f32) (harg13 : arg13.IsWhole) (arg14 : Memref sig .tc .vmem S1x768x768 .bf16) (harg14 : arg14.IsWhole) (arg15 : Memref sig .tc .vmem S1x1x768 .f32) (harg15 : arg15.IsWhole) (arg16 : Memref sig .tc .vmem S1x768x768 .bf16) (harg16 : arg16.IsWhole) (arg17 : Memref sig .tc .vmem S1x1x768 .f32) (harg17 : arg17.IsWhole) (arg18 : Memref sig .tc .vmem S1x1x768 .f32) (harg18 : arg18.IsWhole) (arg19 : Memref sig .tc .vmem S1x1x768 .f32) (harg19 : arg19.IsWhole) (arg20 : Memref sig .tc .vmem S1x768x3072 .bf16) (harg20 : arg20.IsWhole) (arg21 : Memref sig .tc .vmem S1x1x3072 .f32) (harg21 : arg21.IsWhole) (arg22 : Memref sig .tc .vmem S1x3072x768 .bf16) (harg22 : arg22.IsWhole) (arg23 : Memref sig .tc .vmem S1x1x768 .f32) (harg23 : arg23.IsWhole) (arg24 : Memref sig .tc .vmem S1x1x768 .f32) (harg24 : arg24.IsWhole) (arg25 : Memref sig .tc .vmem S1x1x768 .f32) (harg25 : arg25.IsWhole) (arg26 : Memref sig .tc .vmem S512x768 .f32) (harg26 : arg26.IsWhole) (hc0 : ¬cond0_0 i)
    (x0 : Vec F S512x768 .f32) (x1 : Vec F S512x768 .f32) (x2 : Vec F S1x512 .i32) (x3 : Vec F S1x512 .i32) (x4 : Vec F S1x512 .i32) (x5 : Vec F S128x768 .f32) (x6 : Vec F S1x768 .f32) (x7 : Vec F S1x768 .f32) (x8 : Vec F S1x768x768 .bf16) (x9 : Vec F S1x1x768 .f32) (x10 : Vec F S1x768x768 .bf16) (x11 : Vec F S1x1x768 .f32) (x12 : Vec F S1x768x768 .bf16) (x13 : Vec F S1x1x768 .f32) (x14 : Vec F S1x768x768 .bf16) (x15 : Vec F S1x1x768 .f32) (x16 : Vec F S1x1x768 .f32) (x17 : Vec F S1x1x768 .f32) (x18 : Vec F S1x768x3072 .bf16) (x19 : Vec F S1x1x3072 .f32) (x20 : Vec F S1x3072x768 .bf16) (x21 : Vec F S1x1x768 .f32) (x22 : Vec F S1x1x768 .f32) (x23 : Vec F S1x1x768 .f32) (xo24 : Vec F S512x768 .f32) : Vec F S512x768 .f32 :=
  VO0_24.read (Elt F) (VO0_24.writes (Elt F) VO0_24.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 x23 xo24).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x768 .f32
  | 0, hn => out0_A_24 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩)
  | n + 1, hn =>
    if h0 : (n + 1) % 4 = 0 then
      out0_A_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩)
    else
      out0_B_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (outsAt0 c n (Nat.lt_of_succ_lt hn))

/-- `outsAt0` at a point of case A: that case's contents. -/
theorem outsAt0_A (c : Dev nD) (t : Fin cfg0.N) (h0 : t.val % 4 = 0) :
    outsAt0 m c t.val t.isLt = out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outsAt0 m c t.val t.isLt)
    | ⟨_ + 25, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
/-- At a point of case B output 24's current staging buffer holds what the body left at the point before: the point is
    not the first, the buffer was not written back between (`flush0_24`), the window is live and uncut (Lib/Pipeline/Frame.lean
    `Dat.before_out_kept`). -/
theorem before0_24_B (c : Dev nD) (t : Fin cfg0.N) (h0 : ¬t.val % 4 = 0) (d) :
    (dats m 0 c).before 24 t d = (outsAt0 m c (t.val - 1) (Nat.lt_of_le_of_lt (Nat.sub_le _ _) t.isLt)) := by
  have hN : t.val < 8 := lt_of_lt_of_eq t.isLt (show cfg0.N = 8 from N_0)
  rw [Dat.before_out_kept _ 24 rfl t (by omega) (Bool.eq_false_iff.mpr fun h => by have := (flush0_24 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 4800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  have hN : t.val < 8 := lt_of_lt_of_eq t.isLt (show cfg0.N = 8 from N_0)
  by_cases h0 : t.val % 4 = 0
  · rw [outsAt0_A m c t h0]
    unfold out0_A_24
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexists _; iexact H24
    iintro ⟨H0, H1, H2, H3, H4, H5, H6, H7, H8, H9, H10, H11, H12, H13, H14, H15, H16, H17, H18, H19, H20, H21, H22, H23, ⟨%e24, H24⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · rw [outsAt0_B m c t h0]
    simp only [before0_24_B m c t h0]
    unfold out0_B_24
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iintro ⟨H0, H1, H2, H3, H4, H5, H6, H7, H8, H9, H10, H11, H12, H13, H14, H15, H16, H17, H18, H19, H20, H21, H22, H23, ⟨%e24, H24⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    unfold owns; iexists _; isplitr
    swap; · iexact H24
    ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_of m ρ (dats m) (A_eq m) (run_main m ρ)

/-- THE FRAME: `Cert.quiescent_TrIdeal`'s statement (Defs.lean) at any `F` — Proof.lean cites it at `Bits`:
    `theorem Cert.Proof.claim : Cert.Claim := ⟨Cert.TrIdeal.Gen.facts, fun m ρ _ => Cert.TrIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25))
      ∧ r.2.sem = fun _ => 0) :=
  θ_run_and (unchanged m ρ) ((θ_run defs _ _).mono (fun _ h => h.2) (run_main_quiescent m ρ))

end Cert.TrIdeal.Gen

end
-- ==== Proof.TrIdealValue.lean ====
/- The transformer program's result as a fold over the grid points of each half of the batch. -/
module

public import proofs.«01_k».proof.Proof.TrIdealFrame
public import Idealize.ShloMosaic.Lib.Pipeline.Value

@[expose] public section

noncomputable section

namespace Cert.TrIdeal.Value

open Cert.TrIdeal Cert.TrIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 24's array: the run's contents for that window after the body (`Gen.outsAt0`), read through the window's block. -/
theorem flushed24 (c : Dev nD) (t : Fin cfg0.N) :
    (dats m 0 c).flushed 24 t = (cfg0.win 24).cut (grid0.coords t) (outsAt0 m c t.val t.isLt) := by
  show (cfg0.win 24).cut (grid0.coords t) ((dats m 0 c).after 24 t) = _
  rw [after0_24]

/-- … so at a point where case A runs, what its write-back would write is that case's NAMED TERM for the window (`Gen.out0_A_24`: the pieces
    its run found, read back) at the point's memrefs and input blocks, and for an output the case reads back what the point before left (`Gen.outsAt0` at `t - 1`) — by the frame's rewriting lemma for the case. -/
theorem flushed24_A (c : Dev nD) (t : Fin cfg0.N) (h0 : t.val % 4 = 0) :
    (dats m 0 c).flushed 24 t = (cfg0.win 24).cut (grid0.coords t) (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) := by
  simp only [flushed24, outsAt0_A m c t h0]

/-- … so at a point where case B runs, what its write-back would write is that case's NAMED TERM for the window (`Gen.out0_B_24`: the pieces
    its run found, read back) at the point's memrefs and input blocks, and for an output the case reads back what the point before left (`Gen.outsAt0` at `t - 1`) — by the frame's rewriting lemma for the case. -/
theorem flushed24_B (c : Dev nD) (t : Fin cfg0.N) (h0 : ¬t.val % 4 = 0) :
    (dats m 0 c).flushed 24 t = (cfg0.win 24).cut (grid0.coords t) (out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (outsAt0 m c (t.val - 1) (Nat.lt_of_le_of_lt (Nat.sub_le _ _) t.isLt))) := by
  simp only [flushed24, outsAt0_B m c t h0]

-- no `blocks24`: window 24's index map revisits a block index, or its points could not be enumerated here;
-- the final array is still the frame's `arrAt`, to read with Lib/Pipeline/Value.lean's lemmas by hand

/-- An index that no flushing point's block covers keeps output window 24's array contents at region entry. -/
theorem entry24 (c : Dev nD) (i : S1024x768.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v37) = (dats m 0 c).arrAt 24 cfg0.N :=
  (h c).1 24

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- After the frame run, argument `main_arg21` is as launched: no window stages it, and the run leaves the region's other buffers as they were. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- After the frame run, argument `main_arg22` is as launched: no window stages it, and the run leaves the region's other buffers as they were. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_main_arg22 m c)

/-- After the frame run, argument `main_arg23` is as launched: no window stages it, and the run leaves the region's other buffers as they were. -/
theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).2 main_arg23 (Pipeline.mem_restRefs_of main_arg23 (by decide) (by decide))).trans (V_main_arg23 m c)

/-- After the frame run, argument `main_arg24` is as launched: no window stages it, and the run leaves the region's other buffers as they were. -/
theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).2 main_arg24 (Pipeline.mem_restRefs_of main_arg24 (by decide) (by decide))).trans (V_main_arg24 m c)

/-- After the frame run, argument `main_arg25` is as launched: no window stages it, and the run leaves the region's other buffers as they were. -/
theorem kept_main_arg25 (r : PUnit × MemSt nD τ sig (Elt F)) (h : Pipeline.FramePost cfgs (dats m) 0 (V m) r) (c : Dev nD) :
    r.2.mem ((c : Thread nD τ).loc main_arg25) = m ((c : Thread nD τ).loc main_arg25) :=
  ((h c).2 main_arg25 (Pipeline.mem_restRefs_of main_arg25 (by decide) (by decide))).trans (V_main_arg25 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v37) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c => ⟨post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c⟩)
    (run_main m ρ)

/-! ## Accumulated: each output over a run of consecutive points, as one function of the arguments -/

theorem hz2 : (![0, 0] : Fin 2 → Nat) = fun _ => 0 := funext fun a => by fin_cases a <;> rfl
theorem hz3 : (![0, 0, 0] : Fin 3 → Nat) = fun _ => 0 := funext fun a => by fin_cases a <;> rfl

/-! ## Output window 24 -/

/-- What case A leaves in output 24's staging buffer, as a term: its two stores (the second reading the first back) read back
    (the buffer's prior contents do not enter). -/
theorem out_A_24_eq (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S128x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768x768 .bf16) (harg10 : arg10.IsWhole) (arg11 : Memref sig .tc .vmem S1x1x768 .f32) (harg11 : arg11.IsWhole) (arg12 : Memref sig .tc .vmem S1x768x768 .bf16) (harg12 : arg12.IsWhole) (arg13 : Memref sig .tc .vmem S1x1x768 .f32) (harg13 : arg13.IsWhole) (arg14 : Memref sig .tc .vmem S1x768x768 .bf16) (harg14 : arg14.IsWhole) (arg15 : Memref sig .tc .vmem S1x1x768 .f32) (harg15 : arg15.IsWhole) (arg16 : Memref sig .tc .vmem S1x768x768 .bf16) (harg16 : arg16.IsWhole) (arg17 : Memref sig .tc .vmem S1x1x768 .f32) (harg17 : arg17.IsWhole) (arg18 : Memref sig .tc .vmem S1x1x768 .f32) (harg18 : arg18.IsWhole) (arg19 : Memref sig .tc .vmem S1x1x768 .f32) (harg19 : arg19.IsWhole) (arg20 : Memref sig .tc .vmem S1x768x3072 .bf16) (harg20 : arg20.IsWhole) (arg21 : Memref sig .tc .vmem S1x1x3072 .f32) (harg21 : arg21.IsWhole) (arg22 : Memref sig .tc .vmem S1x3072x768 .bf16) (harg22 : arg22.IsWhole) (arg23 : Memref sig .tc .vmem S1x1x768 .f32) (harg23 : arg23.IsWhole) (arg24 : Memref sig .tc .vmem S1x1x768 .f32) (harg24 : arg24.IsWhole) (arg25 : Memref sig .tc .vmem S1x1x768 .f32) (harg25 : arg25.IsWhole) (arg26 : Memref sig .tc .vmem S512x768 .f32) (harg26 : arg26.IsWhole) (hc0 : cond0_0 i)
    (x0 : Vec F S512x768 .f32) (x1 : Vec F S512x768 .f32) (x2 : Vec F S1x512 .i32) (x3 : Vec F S1x512 .i32) (x4 : Vec F S1x512 .i32) (x5 : Vec F S128x768 .f32) (x6 : Vec F S1x768 .f32) (x7 : Vec F S1x768 .f32) (x8 : Vec F S1x768x768 .bf16) (x9 : Vec F S1x1x768 .f32) (x10 : Vec F S1x768x768 .bf16) (x11 : Vec F S1x1x768 .f32) (x12 : Vec F S1x768x768 .bf16) (x13 : Vec F S1x1x768 .f32) (x14 : Vec F S1x768x768 .bf16) (x15 : Vec F S1x1x768 .f32) (x16 : Vec F S1x1x768 .f32) (x17 : Vec F S1x1x768 .f32) (x18 : Vec F S1x768x3072 .bf16) (x19 : Vec F S1x1x3072 .f32) (x20 : Vec F S1x3072x768 .bf16) (x21 : Vec F S1x1x768 .f32) (x22 : Vec F S1x1x768 .f32) (x23 : Vec F S1x1x768 .f32) :
    out0_A_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 x23 = k0_pay1 (k0_pay41 (k0_pay36 x16) (k0_pay37 x17) (k0_pay39 (k0_pay7 (k0_pay6 (k0_pay2 x2 x3 x4 x5 x0 x1) (k0_pay3 x6) (k0_pay4 x7) (k0_pay5 x2 x3 x4 x5 x0 x1))) (k0_pay14 (k0_pay11 (k0_pay6 (k0_pay2 x2 x3 x4 x5 x0 x1) (k0_pay3 x6) (k0_pay4 x7) (k0_pay5 x2 x3 x4 x5 x0 x1)) x12 x13) (k0_pay12 (k0_pay6 (k0_pay2 x2 x3 x4 x5 x0 x1) (k0_pay3 x6) (k0_pay4 x7) (k0_pay5 x2 x3 x4 x5 x0 x1)) x8 x9) (k0_pay13 (k0_pay6 (k0_pay2 x2 x3 x4 x5 x0 x1) (k0_pay3 x6) (k0_pay4 x7) (k0_pay5 x2 x3 x4 x5 x0 x1)) x10 x11)) (k0_pay15 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11) (k0_pay11 (k0_pay6 (k0_pay2 x2 x3 x4 x5 x0 x1) (k0_pay3 x6) (k0_pay4 x7) (k0_pay5 x2 x3 x4 x5 x0 x1)) x12 x13)) (k0_pay18 (k0_pay16 (k0_pay11 (k0_pay6 (k0_pay2 x2 x3 x4 x5 x0 x1) (k0_pay3 x6) (k0_pay4 x7) (k0_pay5 x2 x3 x4 x5 x0 x1)) x12 x13)) (k0_pay17 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11)) (constant S16x32x64 .f32 0x00000000#32)) (k0_pay19 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11) (k0_pay11 (k0_pay6 (k0_pay2 x2 x3 x4 x5 x0 x1) (k0_pay3 x6) (k0_pay4 x7) (k0_pay5 x2 x3 x4 x5 x0 x1)) x12 x13)) (k0_pay20 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11) (k0_pay11 (k0_pay6 (k0_pay2 x2 x3 x4 x5 x0 x1) (k0_pay3 x6) (k0_pay4 x7) (k0_pay5 x2 x3 x4 x5 x0 x1)) x12 x13)) (k0_pay24 (k0_pay21 (k0_pay11 (k0_pay6 (k0_pay2 x2 x3 x4 x5 x0 x1) (k0_pay3 x6) (k0_pay4 x7) (k0_pay5 x2 x3 x4 x5 x0 x1)) x12 x13)) (k0_pay22 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11)) (k0_pay23 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11))) (k0_pay25 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11) (k0_pay11 (k0_pay6 (k0_pay2 x2 x3 x4 x5 x0 x1) (k0_pay3 x6) (k0_pay4 x7) (k0_pay5 x2 x3 x4 x5 x0 x1)) x12 x13)) (k0_pay26 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11) (k0_pay11 (k0_pay6 (k0_pay2 x2 x3 x4 x5 x0 x1) (k0_pay3 x6) (k0_pay4 x7) (k0_pay5 x2 x3 x4 x5 x0 x1)) x12 x13)) (k0_pay29 (k0_pay27 (k0_pay11 (k0_pay6 (k0_pay2 x2 x3 x4 x5 x0 x1) (k0_pay3 x6) (k0_pay4 x7) (k0_pay5 x2 x3 x4 x5 x0 x1)) x12 x13)) (k0_pay28 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11))) (k0_pay30 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11) (k0_pay11 (k0_pay6 (k0_pay2 x2 x3 x4 x5 x0 x1) (k0_pay3 x6) (k0_pay4 x7) (k0_pay5 x2 x3 x4 x5 x0 x1)) x12 x13)) (k0_pay31 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11) (k0_pay11 (k0_pay6 (k0_pay2 x2 x3 x4 x5 x0 x1) (k0_pay3 x6) (k0_pay4 x7) (k0_pay5 x2 x3 x4 x5 x0 x1)) x12 x13)) (k0_pay32 (k0_pay11 (k0_pay6 (k0_pay2 x2 x3 x4 x5 x0 x1) (k0_pay3 x6) (k0_pay4 x7) (k0_pay5 x2 x3 x4 x5 x0 x1)) x12 x13)) (k0_pay33 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11)) (k0_pay34 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11)) x14 x15) (k0_pay40 (k0_pay7 (k0_pay6 (k0_pay2 x2 x3 x4 x5 x0 x1) (k0_pay3 x6) (k0_pay4 x7) (k0_pay5 x2 x3 x4 x5 x0 x1))) (k0_pay14 (k0_pay11 (k0_pay6 (k0_pay2 x2 x3 x4 x5 x0 x1) (k0_pay3 x6) (k0_pay4 x7) (k0_pay5 x2 x3 x4 x5 x0 x1)) x12 x13) (k0_pay12 (k0_pay6 (k0_pay2 x2 x3 x4 x5 x0 x1) (k0_pay3 x6) (k0_pay4 x7) (k0_pay5 x2 x3 x4 x5 x0 x1)) x8 x9) (k0_pay13 (k0_pay6 (k0_pay2 x2 x3 x4 x5 x0 x1) (k0_pay3 x6) (k0_pay4 x7) (k0_pay5 x2 x3 x4 x5 x0 x1)) x10 x11)) (k0_pay15 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11) (k0_pay11 (k0_pay6 (k0_pay2 x2 x3 x4 x5 x0 x1) (k0_pay3 x6) (k0_pay4 x7) (k0_pay5 x2 x3 x4 x5 x0 x1)) x12 x13)) (k0_pay18 (k0_pay16 (k0_pay11 (k0_pay6 (k0_pay2 x2 x3 x4 x5 x0 x1) (k0_pay3 x6) (k0_pay4 x7) (k0_pay5 x2 x3 x4 x5 x0 x1)) x12 x13)) (k0_pay17 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11)) (constant S16x32x64 .f32 0x00000000#32)) (k0_pay19 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11) (k0_pay11 (k0_pay6 (k0_pay2 x2 x3 x4 x5 x0 x1) (k0_pay3 x6) (k0_pay4 x7) (k0_pay5 x2 x3 x4 x5 x0 x1)) x12 x13)) (k0_pay20 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11) (k0_pay11 (k0_pay6 (k0_pay2 x2 x3 x4 x5 x0 x1) (k0_pay3 x6) (k0_pay4 x7) (k0_pay5 x2 x3 x4 x5 x0 x1)) x12 x13)) (k0_pay24 (k0_pay21 (k0_pay11 (k0_pay6 (k0_pay2 x2 x3 x4 x5 x0 x1) (k0_pay3 x6) (k0_pay4 x7) (k0_pay5 x2 x3 x4 x5 x0 x1)) x12 x13)) (k0_pay22 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11)) (k0_pay23 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11))) (k0_pay25 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11) (k0_pay11 (k0_pay6 (k0_pay2 x2 x3 x4 x5 x0 x1) (k0_pay3 x6) (k0_pay4 x7) (k0_pay5 x2 x3 x4 x5 x0 x1)) x12 x13)) (k0_pay26 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11) (k0_pay11 (k0_pay6 (k0_pay2 x2 x3 x4 x5 x0 x1) (k0_pay3 x6) (k0_pay4 x7) (k0_pay5 x2 x3 x4 x5 x0 x1)) x12 x13)) (k0_pay29 (k0_pay27 (k0_pay11 (k0_pay6 (k0_pay2 x2 x3 x4 x5 x0 x1) (k0_pay3 x6) (k0_pay4 x7) (k0_pay5 x2 x3 x4 x5 x0 x1)) x12 x13)) (k0_pay28 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11))) (k0_pay30 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11) (k0_pay11 (k0_pay6 (k0_pay2 x2 x3 x4 x5 x0 x1) (k0_pay3 x6) (k0_pay4 x7) (k0_pay5 x2 x3 x4 x5 x0 x1)) x12 x13)) (k0_pay31 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11) (k0_pay11 (k0_pay6 (k0_pay2 x2 x3 x4 x5 x0 x1) (k0_pay3 x6) (k0_pay4 x7) (k0_pay5 x2 x3 x4 x5 x0 x1)) x12 x13)) (k0_pay32 (k0_pay11 (k0_pay6 (k0_pay2 x2 x3 x4 x5 x0 x1) (k0_pay3 x6) (k0_pay4 x7) (k0_pay5 x2 x3 x4 x5 x0 x1)) x12 x13)) (k0_pay33 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11)) (k0_pay34 (k0_pay9 (k0_pay6 (k0_pay2 x2 x3 x4 x5 x0 x1) (k0_pay3 x6) (k0_pay4 x7) (k0_pay5 x2 x3 x4 x5 x0 x1)) x8 x9) (k0_pay10 (k0_pay6 (k0_pay2 x2 x3 x4 x5 x0 x1) (k0_pay3 x6) (k0_pay4 x7) (k0_pay5 x2 x3 x4 x5 x0 x1)) x10 x11)) x14 x15) x18 x19 x20 x21) (k0_pay42 x22) x23 := by
  unfold out0_A_24
  rw [View.read_writes_eq_canon _ _ _ (cover0_A_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 x23)]
  unfold kernelRun0_A
  dsimp only
  try sl_unfold_words
  rw [View.canon_cons_unit_zero (S := S512x768) hz2, View.readCov_unit_zero (S := S512x768) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S128x768) hz2, View.ld_unit_zero (S := S1x1x3072) hz3, View.ld_unit_zero (S := S1x1x768) hz3, View.ld_unit_zero (S := S1x3072x768) hz3, View.ld_unit_zero (S := S1x512) hz2, View.ld_unit_zero (S := S1x768) hz2, View.ld_unit_zero (S := S1x768x3072) hz3, View.ld_unit_zero (S := S1x768x768) hz3, View.ld_unit_zero (S := S512x768) hz2, shapeCast_self]

/-- What case B leaves in output 24's staging buffer, as a term: its store read back
    over the contents the point before left (`xo24`). -/
theorem out_B_24_eq (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .i32) (harg6 : arg6.IsWhole) (arg7 : Memref sig .tc .vmem S128x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768x768 .bf16) (harg10 : arg10.IsWhole) (arg11 : Memref sig .tc .vmem S1x1x768 .f32) (harg11 : arg11.IsWhole) (arg12 : Memref sig .tc .vmem S1x768x768 .bf16) (harg12 : arg12.IsWhole) (arg13 : Memref sig .tc .vmem S1x1x768 .f32) (harg13 : arg13.IsWhole) (arg14 : Memref sig .tc .vmem S1x768x768 .bf16) (harg14 : arg14.IsWhole) (arg15 : Memref sig .tc .vmem S1x1x768 .f32) (harg15 : arg15.IsWhole) (arg16 : Memref sig .tc .vmem S1x768x768 .bf16) (harg16 : arg16.IsWhole) (arg17 : Memref sig .tc .vmem S1x1x768 .f32) (harg17 : arg17.IsWhole) (arg18 : Memref sig .tc .vmem S1x1x768 .f32) (harg18 : arg18.IsWhole) (arg19 : Memref sig .tc .vmem S1x1x768 .f32) (harg19 : arg19.IsWhole) (arg20 : Memref sig .tc .vmem S1x768x3072 .bf16) (harg20 : arg20.IsWhole) (arg21 : Memref sig .tc .vmem S1x1x3072 .f32) (harg21 : arg21.IsWhole) (arg22 : Memref sig .tc .vmem S1x3072x768 .bf16) (harg22 : arg22.IsWhole) (arg23 : Memref sig .tc .vmem S1x1x768 .f32) (harg23 : arg23.IsWhole) (arg24 : Memref sig .tc .vmem S1x1x768 .f32) (harg24 : arg24.IsWhole) (arg25 : Memref sig .tc .vmem S1x1x768 .f32) (harg25 : arg25.IsWhole) (arg26 : Memref sig .tc .vmem S512x768 .f32) (harg26 : arg26.IsWhole) (hc0 : ¬cond0_0 i)
    (x0 : Vec F S512x768 .f32) (x1 : Vec F S512x768 .f32) (x2 : Vec F S1x512 .i32) (x3 : Vec F S1x512 .i32) (x4 : Vec F S1x512 .i32) (x5 : Vec F S128x768 .f32) (x6 : Vec F S1x768 .f32) (x7 : Vec F S1x768 .f32) (x8 : Vec F S1x768x768 .bf16) (x9 : Vec F S1x1x768 .f32) (x10 : Vec F S1x768x768 .bf16) (x11 : Vec F S1x1x768 .f32) (x12 : Vec F S1x768x768 .bf16) (x13 : Vec F S1x1x768 .f32) (x14 : Vec F S1x768x768 .bf16) (x15 : Vec F S1x1x768 .f32) (x16 : Vec F S1x1x768 .f32) (x17 : Vec F S1x1x768 .f32) (x18 : Vec F S1x768x3072 .bf16) (x19 : Vec F S1x1x3072 .f32) (x20 : Vec F S1x3072x768 .bf16) (x21 : Vec F S1x1x768 .f32) (x22 : Vec F S1x1x768 .f32) (x23 : Vec F S1x1x768 .f32) (xo24 : Vec F S512x768 .f32) :
    out0_B_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 x23 xo24 = k0_pay1 (k0_pay41 (k0_pay36 x16) (k0_pay37 x17) (k0_pay39 (k0_pay7 xo24) (k0_pay14 (k0_pay11 xo24 x12 x13) (k0_pay12 xo24 x8 x9) (k0_pay13 xo24 x10 x11)) (k0_pay15 (k0_pay9 xo24 x8 x9) (k0_pay10 xo24 x10 x11) (k0_pay11 xo24 x12 x13)) (k0_pay18 (k0_pay16 (k0_pay11 xo24 x12 x13)) (k0_pay17 (k0_pay9 xo24 x8 x9) (k0_pay10 xo24 x10 x11)) (constant S16x32x64 .f32 0x00000000#32)) (k0_pay19 (k0_pay9 xo24 x8 x9) (k0_pay10 xo24 x10 x11) (k0_pay11 xo24 x12 x13)) (k0_pay20 (k0_pay9 xo24 x8 x9) (k0_pay10 xo24 x10 x11) (k0_pay11 xo24 x12 x13)) (k0_pay24 (k0_pay21 (k0_pay11 xo24 x12 x13)) (k0_pay22 (k0_pay9 xo24 x8 x9) (k0_pay10 xo24 x10 x11)) (k0_pay23 (k0_pay9 xo24 x8 x9) (k0_pay10 xo24 x10 x11))) (k0_pay25 (k0_pay9 xo24 x8 x9) (k0_pay10 xo24 x10 x11) (k0_pay11 xo24 x12 x13)) (k0_pay26 (k0_pay9 xo24 x8 x9) (k0_pay10 xo24 x10 x11) (k0_pay11 xo24 x12 x13)) (k0_pay29 (k0_pay27 (k0_pay11 xo24 x12 x13)) (k0_pay28 (k0_pay9 xo24 x8 x9) (k0_pay10 xo24 x10 x11))) (k0_pay30 (k0_pay9 xo24 x8 x9) (k0_pay10 xo24 x10 x11) (k0_pay11 xo24 x12 x13)) (k0_pay31 (k0_pay9 xo24 x8 x9) (k0_pay10 xo24 x10 x11) (k0_pay11 xo24 x12 x13)) (k0_pay32 (k0_pay11 xo24 x12 x13)) (k0_pay33 (k0_pay9 xo24 x8 x9) (k0_pay10 xo24 x10 x11)) (k0_pay34 (k0_pay9 xo24 x8 x9) (k0_pay10 xo24 x10 x11)) x14 x15) (k0_pay40 (k0_pay7 xo24) (k0_pay14 (k0_pay11 xo24 x12 x13) (k0_pay12 xo24 x8 x9) (k0_pay13 xo24 x10 x11)) (k0_pay15 (k0_pay9 xo24 x8 x9) (k0_pay10 xo24 x10 x11) (k0_pay11 xo24 x12 x13)) (k0_pay18 (k0_pay16 (k0_pay11 xo24 x12 x13)) (k0_pay17 (k0_pay9 xo24 x8 x9) (k0_pay10 xo24 x10 x11)) (constant S16x32x64 .f32 0x00000000#32)) (k0_pay19 (k0_pay9 xo24 x8 x9) (k0_pay10 xo24 x10 x11) (k0_pay11 xo24 x12 x13)) (k0_pay20 (k0_pay9 xo24 x8 x9) (k0_pay10 xo24 x10 x11) (k0_pay11 xo24 x12 x13)) (k0_pay24 (k0_pay21 (k0_pay11 xo24 x12 x13)) (k0_pay22 (k0_pay9 xo24 x8 x9) (k0_pay10 xo24 x10 x11)) (k0_pay23 (k0_pay9 xo24 x8 x9) (k0_pay10 xo24 x10 x11))) (k0_pay25 (k0_pay9 xo24 x8 x9) (k0_pay10 xo24 x10 x11) (k0_pay11 xo24 x12 x13)) (k0_pay26 (k0_pay9 xo24 x8 x9) (k0_pay10 xo24 x10 x11) (k0_pay11 xo24 x12 x13)) (k0_pay29 (k0_pay27 (k0_pay11 xo24 x12 x13)) (k0_pay28 (k0_pay9 xo24 x8 x9) (k0_pay10 xo24 x10 x11))) (k0_pay30 (k0_pay9 xo24 x8 x9) (k0_pay10 xo24 x10 x11) (k0_pay11 xo24 x12 x13)) (k0_pay31 (k0_pay9 xo24 x8 x9) (k0_pay10 xo24 x10 x11) (k0_pay11 xo24 x12 x13)) (k0_pay32 (k0_pay11 xo24 x12 x13)) (k0_pay33 (k0_pay9 xo24 x8 x9) (k0_pay10 xo24 x10 x11)) (k0_pay34 (k0_pay9 xo24 x8 x9) (k0_pay10 xo24 x10 x11)) x14 x15) x18 x19 x20 x21) (k0_pay42 x22) x23 := by
  unfold out0_B_24
  rw [View.read_writes_eq_canon _ _ _ (cover0_B_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 x23 xo24)]
  unfold kernelRun0_B
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S128x768) hz2, View.ld_unit_zero (S := S1x1x3072) hz3, View.ld_unit_zero (S := S1x1x768) hz3, View.ld_unit_zero (S := S1x3072x768) hz3, View.ld_unit_zero (S := S1x512) hz2, View.ld_unit_zero (S := S1x768) hz2, View.ld_unit_zero (S := S1x768x3072) hz3, View.ld_unit_zero (S := S1x768x768) hz3, View.ld_unit_zero (S := S512x768) hz2, shapeCast_self]

/-- THE RESET: what the case at the points ≡ 0 (mod 4) leaves in output 24's buffer, over the point's input blocks. -/
def reset24 (c : Dev nD) (n : ℕ) (h : n < cfg0.N) : Vec F S512x768 .f32 :=
  k0_pay1 (k0_pay41 (k0_pay36 (iblk m c 16 ⟨n, h⟩)) (k0_pay37 (iblk m c 17 ⟨n, h⟩)) (k0_pay39 (k0_pay7 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩)))) (k0_pay14 (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩)) (k0_pay12 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay13 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩))) (k0_pay15 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)) (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay18 (k0_pay16 (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay17 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩))) (constant S16x32x64 .f32 0x00000000#32)) (k0_pay19 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)) (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay20 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)) (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay24 (k0_pay21 (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay22 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩))) (k0_pay23 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)))) (k0_pay25 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)) (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay26 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)) (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay29 (k0_pay27 (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay28 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)))) (k0_pay30 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)) (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay31 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)) (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay32 (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay33 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩))) (k0_pay34 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩))) (iblk m c 14 ⟨n, h⟩) (iblk m c 15 ⟨n, h⟩)) (k0_pay40 (k0_pay7 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩)))) (k0_pay14 (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩)) (k0_pay12 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay13 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩))) (k0_pay15 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)) (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay18 (k0_pay16 (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay17 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩))) (constant S16x32x64 .f32 0x00000000#32)) (k0_pay19 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)) (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay20 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)) (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay24 (k0_pay21 (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay22 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩))) (k0_pay23 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)))) (k0_pay25 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)) (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay26 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)) (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay29 (k0_pay27 (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay28 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)))) (k0_pay30 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)) (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay31 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩)) (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay32 (k0_pay11 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 12 ⟨n, h⟩) (iblk m c 13 ⟨n, h⟩))) (k0_pay33 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩))) (k0_pay34 (k0_pay9 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 8 ⟨n, h⟩) (iblk m c 9 ⟨n, h⟩)) (k0_pay10 (k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))) (iblk m c 10 ⟨n, h⟩) (iblk m c 11 ⟨n, h⟩))) (iblk m c 14 ⟨n, h⟩) (iblk m c 15 ⟨n, h⟩)) (iblk m c 18 ⟨n, h⟩) (iblk m c 19 ⟨n, h⟩) (iblk m c 20 ⟨n, h⟩) (iblk m c 21 ⟨n, h⟩)) (k0_pay42 (iblk m c 22 ⟨n, h⟩)) (iblk m c 23 ⟨n, h⟩)

/-- THE STEP: what the case reading output 24 back leaves in its buffer at point `n`, over the contents the point
    before left (`acc`) and the point's input blocks. -/
def step24 (c : Dev nD) (n : ℕ) (h : n < cfg0.N) (acc : Vec F S512x768 .f32) : Vec F S512x768 .f32 :=
  k0_pay1 (k0_pay41 (k0_pay36 (iblk m c 16 ⟨n, h⟩)) (k0_pay37 (iblk m c 17 ⟨n, h⟩)) (k0_pay39 (k0_pay7 acc) (k0_pay14 (k0_pay11 acc (iblk m c 12 ⟨n, h⟩) (iblk m c 13 ⟨n, h⟩)) (k0_pay12 acc (iblk m c 8 ⟨n, h⟩) (iblk m c 9 ⟨n, h⟩)) (k0_pay13 acc (iblk m c 10 ⟨n, h⟩) (iblk m c 11 ⟨n, h⟩))) (k0_pay15 (k0_pay9 acc (iblk m c 8 ⟨n, h⟩) (iblk m c 9 ⟨n, h⟩)) (k0_pay10 acc (iblk m c 10 ⟨n, h⟩) (iblk m c 11 ⟨n, h⟩)) (k0_pay11 acc (iblk m c 12 ⟨n, h⟩) (iblk m c 13 ⟨n, h⟩))) (k0_pay18 (k0_pay16 (k0_pay11 acc (iblk m c 12 ⟨n, h⟩) (iblk m c 13 ⟨n, h⟩))) (k0_pay17 (k0_pay9 acc (iblk m c 8 ⟨n, h⟩) (iblk m c 9 ⟨n, h⟩)) (k0_pay10 acc (iblk m c 10 ⟨n, h⟩) (iblk m c 11 ⟨n, h⟩))) (constant S16x32x64 .f32 0x00000000#32)) (k0_pay19 (k0_pay9 acc (iblk m c 8 ⟨n, h⟩) (iblk m c 9 ⟨n, h⟩)) (k0_pay10 acc (iblk m c 10 ⟨n, h⟩) (iblk m c 11 ⟨n, h⟩)) (k0_pay11 acc (iblk m c 12 ⟨n, h⟩) (iblk m c 13 ⟨n, h⟩))) (k0_pay20 (k0_pay9 acc (iblk m c 8 ⟨n, h⟩) (iblk m c 9 ⟨n, h⟩)) (k0_pay10 acc (iblk m c 10 ⟨n, h⟩) (iblk m c 11 ⟨n, h⟩)) (k0_pay11 acc (iblk m c 12 ⟨n, h⟩) (iblk m c 13 ⟨n, h⟩))) (k0_pay24 (k0_pay21 (k0_pay11 acc (iblk m c 12 ⟨n, h⟩) (iblk m c 13 ⟨n, h⟩))) (k0_pay22 (k0_pay9 acc (iblk m c 8 ⟨n, h⟩) (iblk m c 9 ⟨n, h⟩)) (k0_pay10 acc (iblk m c 10 ⟨n, h⟩) (iblk m c 11 ⟨n, h⟩))) (k0_pay23 (k0_pay9 acc (iblk m c 8 ⟨n, h⟩) (iblk m c 9 ⟨n, h⟩)) (k0_pay10 acc (iblk m c 10 ⟨n, h⟩) (iblk m c 11 ⟨n, h⟩)))) (k0_pay25 (k0_pay9 acc (iblk m c 8 ⟨n, h⟩) (iblk m c 9 ⟨n, h⟩)) (k0_pay10 acc (iblk m c 10 ⟨n, h⟩) (iblk m c 11 ⟨n, h⟩)) (k0_pay11 acc (iblk m c 12 ⟨n, h⟩) (iblk m c 13 ⟨n, h⟩))) (k0_pay26 (k0_pay9 acc (iblk m c 8 ⟨n, h⟩) (iblk m c 9 ⟨n, h⟩)) (k0_pay10 acc (iblk m c 10 ⟨n, h⟩) (iblk m c 11 ⟨n, h⟩)) (k0_pay11 acc (iblk m c 12 ⟨n, h⟩) (iblk m c 13 ⟨n, h⟩))) (k0_pay29 (k0_pay27 (k0_pay11 acc (iblk m c 12 ⟨n, h⟩) (iblk m c 13 ⟨n, h⟩))) (k0_pay28 (k0_pay9 acc (iblk m c 8 ⟨n, h⟩) (iblk m c 9 ⟨n, h⟩)) (k0_pay10 acc (iblk m c 10 ⟨n, h⟩) (iblk m c 11 ⟨n, h⟩)))) (k0_pay30 (k0_pay9 acc (iblk m c 8 ⟨n, h⟩) (iblk m c 9 ⟨n, h⟩)) (k0_pay10 acc (iblk m c 10 ⟨n, h⟩) (iblk m c 11 ⟨n, h⟩)) (k0_pay11 acc (iblk m c 12 ⟨n, h⟩) (iblk m c 13 ⟨n, h⟩))) (k0_pay31 (k0_pay9 acc (iblk m c 8 ⟨n, h⟩) (iblk m c 9 ⟨n, h⟩)) (k0_pay10 acc (iblk m c 10 ⟨n, h⟩) (iblk m c 11 ⟨n, h⟩)) (k0_pay11 acc (iblk m c 12 ⟨n, h⟩) (iblk m c 13 ⟨n, h⟩))) (k0_pay32 (k0_pay11 acc (iblk m c 12 ⟨n, h⟩) (iblk m c 13 ⟨n, h⟩))) (k0_pay33 (k0_pay9 acc (iblk m c 8 ⟨n, h⟩) (iblk m c 9 ⟨n, h⟩)) (k0_pay10 acc (iblk m c 10 ⟨n, h⟩) (iblk m c 11 ⟨n, h⟩))) (k0_pay34 (k0_pay9 acc (iblk m c 8 ⟨n, h⟩) (iblk m c 9 ⟨n, h⟩)) (k0_pay10 acc (iblk m c 10 ⟨n, h⟩) (iblk m c 11 ⟨n, h⟩))) (iblk m c 14 ⟨n, h⟩) (iblk m c 15 ⟨n, h⟩)) (k0_pay40 (k0_pay7 acc) (k0_pay14 (k0_pay11 acc (iblk m c 12 ⟨n, h⟩) (iblk m c 13 ⟨n, h⟩)) (k0_pay12 acc (iblk m c 8 ⟨n, h⟩) (iblk m c 9 ⟨n, h⟩)) (k0_pay13 acc (iblk m c 10 ⟨n, h⟩) (iblk m c 11 ⟨n, h⟩))) (k0_pay15 (k0_pay9 acc (iblk m c 8 ⟨n, h⟩) (iblk m c 9 ⟨n, h⟩)) (k0_pay10 acc (iblk m c 10 ⟨n, h⟩) (iblk m c 11 ⟨n, h⟩)) (k0_pay11 acc (iblk m c 12 ⟨n, h⟩) (iblk m c 13 ⟨n, h⟩))) (k0_pay18 (k0_pay16 (k0_pay11 acc (iblk m c 12 ⟨n, h⟩) (iblk m c 13 ⟨n, h⟩))) (k0_pay17 (k0_pay9 acc (iblk m c 8 ⟨n, h⟩) (iblk m c 9 ⟨n, h⟩)) (k0_pay10 acc (iblk m c 10 ⟨n, h⟩) (iblk m c 11 ⟨n, h⟩))) (constant S16x32x64 .f32 0x00000000#32)) (k0_pay19 (k0_pay9 acc (iblk m c 8 ⟨n, h⟩) (iblk m c 9 ⟨n, h⟩)) (k0_pay10 acc (iblk m c 10 ⟨n, h⟩) (iblk m c 11 ⟨n, h⟩)) (k0_pay11 acc (iblk m c 12 ⟨n, h⟩) (iblk m c 13 ⟨n, h⟩))) (k0_pay20 (k0_pay9 acc (iblk m c 8 ⟨n, h⟩) (iblk m c 9 ⟨n, h⟩)) (k0_pay10 acc (iblk m c 10 ⟨n, h⟩) (iblk m c 11 ⟨n, h⟩)) (k0_pay11 acc (iblk m c 12 ⟨n, h⟩) (iblk m c 13 ⟨n, h⟩))) (k0_pay24 (k0_pay21 (k0_pay11 acc (iblk m c 12 ⟨n, h⟩) (iblk m c 13 ⟨n, h⟩))) (k0_pay22 (k0_pay9 acc (iblk m c 8 ⟨n, h⟩) (iblk m c 9 ⟨n, h⟩)) (k0_pay10 acc (iblk m c 10 ⟨n, h⟩) (iblk m c 11 ⟨n, h⟩))) (k0_pay23 (k0_pay9 acc (iblk m c 8 ⟨n, h⟩) (iblk m c 9 ⟨n, h⟩)) (k0_pay10 acc (iblk m c 10 ⟨n, h⟩) (iblk m c 11 ⟨n, h⟩)))) (k0_pay25 (k0_pay9 acc (iblk m c 8 ⟨n, h⟩) (iblk m c 9 ⟨n, h⟩)) (k0_pay10 acc (iblk m c 10 ⟨n, h⟩) (iblk m c 11 ⟨n, h⟩)) (k0_pay11 acc (iblk m c 12 ⟨n, h⟩) (iblk m c 13 ⟨n, h⟩))) (k0_pay26 (k0_pay9 acc (iblk m c 8 ⟨n, h⟩) (iblk m c 9 ⟨n, h⟩)) (k0_pay10 acc (iblk m c 10 ⟨n, h⟩) (iblk m c 11 ⟨n, h⟩)) (k0_pay11 acc (iblk m c 12 ⟨n, h⟩) (iblk m c 13 ⟨n, h⟩))) (k0_pay29 (k0_pay27 (k0_pay11 acc (iblk m c 12 ⟨n, h⟩) (iblk m c 13 ⟨n, h⟩))) (k0_pay28 (k0_pay9 acc (iblk m c 8 ⟨n, h⟩) (iblk m c 9 ⟨n, h⟩)) (k0_pay10 acc (iblk m c 10 ⟨n, h⟩) (iblk m c 11 ⟨n, h⟩)))) (k0_pay30 (k0_pay9 acc (iblk m c 8 ⟨n, h⟩) (iblk m c 9 ⟨n, h⟩)) (k0_pay10 acc (iblk m c 10 ⟨n, h⟩) (iblk m c 11 ⟨n, h⟩)) (k0_pay11 acc (iblk m c 12 ⟨n, h⟩) (iblk m c 13 ⟨n, h⟩))) (k0_pay31 (k0_pay9 acc (iblk m c 8 ⟨n, h⟩) (iblk m c 9 ⟨n, h⟩)) (k0_pay10 acc (iblk m c 10 ⟨n, h⟩) (iblk m c 11 ⟨n, h⟩)) (k0_pay11 acc (iblk m c 12 ⟨n, h⟩) (iblk m c 13 ⟨n, h⟩))) (k0_pay32 (k0_pay11 acc (iblk m c 12 ⟨n, h⟩) (iblk m c 13 ⟨n, h⟩))) (k0_pay33 (k0_pay9 acc (iblk m c 8 ⟨n, h⟩) (iblk m c 9 ⟨n, h⟩)) (k0_pay10 acc (iblk m c 10 ⟨n, h⟩) (iblk m c 11 ⟨n, h⟩))) (k0_pay34 (k0_pay9 acc (iblk m c 8 ⟨n, h⟩) (iblk m c 9 ⟨n, h⟩)) (k0_pay10 acc (iblk m c 10 ⟨n, h⟩) (iblk m c 11 ⟨n, h⟩))) (iblk m c 14 ⟨n, h⟩) (iblk m c 15 ⟨n, h⟩)) (iblk m c 18 ⟨n, h⟩) (iblk m c 19 ⟨n, h⟩) (iblk m c 20 ⟨n, h⟩) (iblk m c 21 ⟨n, h⟩)) (k0_pay42 (iblk m c 22 ⟨n, h⟩)) (iblk m c 23 ⟨n, h⟩)

/-- WHAT OUTPUT 24'S BUFFER HOLDS after point `t`: the fold of its run up to `t` — the reset at the run's first point
    `4·(t / 4)`, the step at each later one (Lib/Pipeline/Value.lean `Pipeline.eq_accAt_of_mod`: by the frame's
    `outsAt0_κ` and `out_κ_24_eq`, never by the grid's size). -/
theorem outsAt_24_eq (c : Dev nD) (t : Fin cfg0.N) :
    (outsAt0 m c t.val t.isLt) = Pipeline.accAt (reset24 m c) (step24 m c) (4 * (t.val / 4)) (t.val % 4)
      (by have h1 := t.isLt; have h2 := Nat.div_add_mod t.val 4; omega) :=
  Pipeline.eq_accAt_of_mod (fun n h => (outsAt0 m c n h)) 4 (reset24 m c) (step24 m c)
    (fun n h hn => by have hN := lt_of_lt_of_eq h (show cfg0.N = 8 from N_0); rw [outsAt0_A m c ⟨n, h⟩ (by (try dsimp only); omega)]; exact out_A_24_eq ..)
    (fun n h hn => by have hN := lt_of_lt_of_eq h (show cfg0.N = 8 from N_0); rw [outsAt0_B m c ⟨n + 1, h⟩ (by (try dsimp only); omega)]; exact out_B_24_eq ..)
    (by decide) t.val t.isLt _

/-- The RUN whose flushing block holds array index `i` (the runs visit the box's blocks in row-major order), and `i`'s
    place in the block. -/
abbrev run24Of (i : S1024x768.Idx) : ℕ := 1 * ((i 0).val / 512 - 0) + 1 * ((i 1).val / 768 - 0)
set_option backward.proofsInPublic true in
abbrev loc24Of (i : S1024x768.Idx) : S512x768.Idx := fun a => match a with
  | ⟨0, _⟩ => ⟨(i 0).val % 512, Nat.mod_lt _ (by decide)⟩
  | ⟨1, _⟩ => ⟨(i 1).val % 768, Nat.mod_lt _ (by decide)⟩

/-- WHAT THE ARRAY ENDS HOLDING at index `i` inside the box the flushing blocks fill: the fold of the run whose flushing
    block holds `i`, at `i`'s place in the block. Only `final24` reads `G24`, and only inside the box; outside it
    this is not the array's contents. -/
def G24 (c : Dev nD) : Buf (Elt F) ((c : Thread nD τ).loc main_v37) := fun i =>
  if h : 4 * run24Of i + 3 < cfg0.N then
    (Pipeline.accAt (reset24 m c) (step24 m c) (4 * run24Of i) 3 h) (loc24Of i)
  else V m c (Pipeline.arrRef spec0 24) i

/-- The printed index map, decided over the grid: output window 24's block indices stay in the box, and the run number
    read off them is the point's (`t / 4`). -/
theorem idx_facts24 : ∀ t : Fin cfg0.N, 0 ≤ win0_24.index t (0 : Fin 2) ∧ win0_24.index t (0 : Fin 2) ≤ 1
    ∧ 0 ≤ win0_24.index t (1 : Fin 2) ∧ win0_24.index t (1 : Fin 2) ≤ 0
    ∧ 1 * (win0_24.index t (0 : Fin 2) - 0) + 1 * (win0_24.index t (1 : Fin 2) - 0) = t.val / 4 :=
  (by decide +kernel : ∀ t : Fin grid0.N, _)

/-- Every block of the box is SOME flushing point's. -/
theorem idx_onto24 : ∀ (q0 : Fin 2) (q1 : Fin 1), ∃ t : Fin cfg0.N, (cfg0.win 24).flush t = true ∧ win0_24.index t = ![q0.val + 0, q1.val + 0] :=
  (by decide +kernel : ∀ (q0 : Fin 2) (q1 : Fin 1), ∃ t : Fin grid0.N, win0_24.flush t = true ∧ win0_24.index t = ![q0.val + 0, q1.val + 0])

/-- WHAT A FLUSHING POINT `t` WRITES BACK is block `t` of `G24`: the whole run's fold. -/
theorem flushed24_eq (c : Dev nD) (t : Fin cfg0.N) (hf : (cfg0.win 24).flush t = true) :
    (dats m 0 c).flushed 24 t = ((cfg0.win 24).blk t).view.read (Elt F) (G24 m c) := by
  show (cfg0.win 24).cut (grid0.coords t) ((dats m 0 c).after 24 t) = _
  rw [after0_24, outsAt_24_eq]
  have hm : t.val % 4 = 3 := (flush0_24 t).mp hf
  obtain ⟨e0, e1, e2⟩ := idx_facts24 t
  funext y
  have hy0 : (y 0).val < 512 := (y 0).isLt
  have hy1 : (y 1).val < 768 := (y 1).isLt
  have hb0 : (((cfg0.win 24).blk t).view.emb y 0).val = win0_24.index t (0 : Fin 2) * 512 + 1 * (y 0).val := rfl
  have hb1 : (((cfg0.win 24).blk t).view.emb y 1).val = win0_24.index t (1 : Fin 2) * 768 + 1 * (y 1).val := rfl
  have hr : run24Of (((cfg0.win 24).blk t).view.emb y) = t.val / 4 := by
    show 1 * ((((cfg0.win 24).blk t).view.emb y 0).val / 512 - 0) + 1 * ((((cfg0.win 24).blk t).view.emb y 1).val / 768 - 0) = _
    rw [hb0, hb1]
    rw [show (win0_24.index t (0 : Fin 2) * 512 + 1 * (y 0).val) / 512 = win0_24.index t (0 : Fin 2) from by omega]; rw [show (win0_24.index t (1 : Fin 2) * 768 + 1 * (y 1).val) / 768 = win0_24.index t (1 : Fin 2) from by omega]
    omega
  have hl : loc24Of (((cfg0.win 24).blk t).view.emb y) = (cfg0.win 24).xinj (grid0.coords t) y := by
    funext a; apply Fin.ext
    match a with
    | ⟨0, _⟩ => show (((cfg0.win 24).blk t).view.emb y 0).val % 512 = (y 0).val; rw [hb0]; omega
    | ⟨1, _⟩ => show (((cfg0.win 24).blk t).view.emb y 1).val % 768 = (y 1).val; rw [hb1]; omega
  show (Pipeline.accAt (reset24 m c) (step24 m c) (4 * (t.val / 4)) (t.val % 4) _) ((cfg0.win 24).xinj (grid0.coords t) y) = G24 m c (((cfg0.win 24).blk t).view.emb y)
  unfold G24
  rw [dif_pos (by rw [hr]; have := t.isLt; have := Nat.div_add_mod t.val 4; omega), hl]
  have e : ∀ (b j : ℕ) (h : b + j < cfg0.N) (b' j' : ℕ) (h' : b' + j' < cfg0.N), b = b' → j = j' →
      Pipeline.accAt (reset24 m c) (step24 m c) b j h = Pipeline.accAt (reset24 m c) (step24 m c) b' j' h' := by
    intro b j h b' j' h' hb hj; subst hb; subst hj; rfl
  have hb : 4 * (t.val / 4) = 4 * run24Of (((cfg0.win 24).blk t).view.emb y) := by rw [hr]
  exact congrFun (e _ _ _ _ _ _ hb hm) _

/-- An index of the array is in point `t`'s block iff each coordinate is in the block's range on its axis. -/
theorem mem_blk24 (t : Fin cfg0.N) (i : S1024x768.Idx) :
    i ∈ ((cfg0.win 24).blk t).view.set ↔ ∀ a : Fin 2, win0_24.index t a * S512x768.size a ≤ (i a).val ∧ (i a).val < win0_24.index t a * S512x768.size a + S512x768.size a := by
  show i ∈ ((View.whole main_v37).slice (win0_24.rect t)).set ↔ _
  rw [View.set_slice_whole, Rect.mem_set_unit]
  exact Iff.rfl

/-- THE COVERED INDICES: in some flushing point's block iff inside the box those blocks fill. -/
theorem covered_iff24 (i : S1024x768.Idx) :
    (∃ t : Fin cfg0.N, (cfg0.win 24).flush t = true ∧ i ∈ ((cfg0.win 24).blk t).view.set) ↔ 0 ≤ (i 0).val ∧ (i 0).val < 1024 ∧ 0 ≤ (i 1).val ∧ (i 1).val < 768 := by
  constructor
  · rintro ⟨t, -, hi⟩
    rw [mem_blk24] at hi
    have b0 : win0_24.index t (0 : Fin 2) * 512 ≤ (i 0).val ∧ (i 0).val < win0_24.index t (0 : Fin 2) * 512 + 512 := hi 0
    have b1 : win0_24.index t (1 : Fin 2) * 768 ≤ (i 1).val ∧ (i 1).val < win0_24.index t (1 : Fin 2) * 768 + 768 := hi 1
    obtain ⟨e0, e1, e2⟩ := idx_facts24 t
    omega
  · intro h
    have hi0 : (i 0).val < 1024 := (i 0).isLt
    have hi1 : (i 1).val < 768 := (i 1).isLt
    obtain ⟨t, hft, ht⟩ := idx_onto24 ⟨(i 0).val / 512 - 0, by omega⟩ ⟨(i 1).val / 768 - 0, by omega⟩
    have q0 : win0_24.index t (0 : Fin 2) = (i 0).val / 512 - 0 + 0 := congrFun ht 0
    have q1 : win0_24.index t (1 : Fin 2) = (i 1).val / 768 - 0 + 0 := congrFun ht 1
    refine ⟨t, hft, ?_⟩
    rw [mem_blk24]
    intro a
    match a with
    | ⟨0, _⟩ => show win0_24.index t (0 : Fin 2) * 512 ≤ (i 0).val ∧ (i 0).val < win0_24.index t (0 : Fin 2) * 512 + 512; omega
    | ⟨1, _⟩ => show win0_24.index t (1 : Fin 2) * 768 ≤ (i 1).val ∧ (i 1).val < win0_24.index t (1 : Fin 2) * 768 + 768; omega

/-- THE ARRAY after the run: `G24` (the flushing blocks tile it). -/
theorem final24 (c : Dev nD) : (dats m 0 c).arrAt 24 cfg0.N = G24 m c :=
  (dats m 0 c).arrAt_eq_of_cover 24 _ (fun t hf => flushed24_eq m c t hf) (fun i => (covered_iff24 i).2 (by
    have h0 : (i 0).val < 1024 := (i 0).isLt; have h1 : (i 1).val < 768 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v37) = G24 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c => ⟨(post24 m r h c).trans (final24 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c⟩)
    (run_main m ρ)

end Cert.TrIdeal.Value

end
-- ==== Proof.KValue.lean ====
/- What the kernel writes: at every row, the plain encoder stack of the row's batch element. -/
module

public import proofs.«01_k».proof.Proof.KBlocks
public import proofs.«01_k».proof.Proof.TrIdealValue
public import proofs.«01_k».proof.Proof.Sum

@[expose] public section

set_option maxRecDepth 16384

noncomputable section

namespace Cert.TrIdeal.Layer

open Idealize.ShloMosaic Idealize.ShloMosaic.TcCoe Idealize.SL.Sem
open Cert.TrIdeal Cert.TrIdeal.Gen Cert.TrIdeal.Value

variable (m : (ℓ : Loc nD τ sig) → Buf (Elt Ideal) ℓ)

/-- The weights of layer `l` (the layers beyond the four repeat them). -/
def paramsN (c : Dev nD) (l : ℕ) : Spec.Params := params m c ⟨l % 4, Nat.mod_lt _ (by decide)⟩

/-- A later point of a run applies its layer to what the point before left. -/
theorem step24_at (c : Dev nD) (n : ℕ) (h : n < cfg0.N) (acc : FVec Ideal S512x768 .f32) (g : Fin 16) :
    rows (step24 m c n h acc) g = Spec.layer (paramsN m c n) (rows acc g) := by
  funext s d
  exact kLayer_at acc _ _ _ _ _ _ _ _ _ _ _ _ _ _ _ _ (params m c (lay ⟨n, h⟩))
    (blk_wq m c ⟨n, h⟩) (blk_bq m c ⟨n, h⟩) (blk_wk m c ⟨n, h⟩) (blk_bk m c ⟨n, h⟩) (blk_wv m c ⟨n, h⟩) (blk_bv m c ⟨n, h⟩)
    (blk_wo m c ⟨n, h⟩) (blk_bo m c ⟨n, h⟩) (blk_g1 m c ⟨n, h⟩) (blk_b1 m c ⟨n, h⟩) (blk_w1 m c ⟨n, h⟩) (blk_c1 m c ⟨n, h⟩)
    (blk_w2 m c ⟨n, h⟩) (blk_c2 m c ⟨n, h⟩) (blk_g2 m c ⟨n, h⟩) (blk_b2 m c ⟨n, h⟩) g s d

/-- The embedding a run starts from: the normalised sum, at the run's first point. -/
def start (c : Dev nD) (n : ℕ) (h : n < cfg0.N) : FVec Ideal S512x768 .f32 :=
  k0_pay6 (k0_pay2 (iblk m c 2 ⟨n, h⟩) (iblk m c 3 ⟨n, h⟩) (iblk m c 4 ⟨n, h⟩) (iblk m c 5 ⟨n, h⟩) (iblk m c 0 ⟨n, h⟩) (iblk m c 1 ⟨n, h⟩)) (k0_pay3 (iblk m c 6 ⟨n, h⟩)) (k0_pay4 (iblk m c 7 ⟨n, h⟩)) (k0_pay5 (iblk m c 2 ⟨n, h⟩) (iblk m c 3 ⟨n, h⟩) (iblk m c 4 ⟨n, h⟩) (iblk m c 5 ⟨n, h⟩) (iblk m c 0 ⟨n, h⟩) (iblk m c 1 ⟨n, h⟩))

/-- A run's first point is the step on the embedding. -/
theorem reset24_eq (c : Dev nD) (n : ℕ) (h : n < cfg0.N) : reset24 m c n h = step24 m c n h (start m c n h) := rfl

/-- What a run's buffer holds after its `j`-th further point: `j + 1` layers of the embedding. -/
theorem acc_at (c : Dev nD) (q : ℕ) (g : Fin 16) : ∀ (j : ℕ) (h : 4 * q + j < cfg0.N), j < 4 →
    rows (Pipeline.accAt (reset24 m c) (step24 m c) (4 * q) j h) g
      = Spec.layers (paramsN m c) (rows (start m c (4 * q) (by omega)) g) j
  | 0, h, _ => by
    rw [Pipeline.accAt_zero, reset24_eq, step24_at]
    have e : paramsN m c (4 * q) = paramsN m c 0 := by
      unfold paramsN; congr 1; exact Fin.ext (by simp)
    rw [e]; rfl
  | j + 1, h, hj => by
    rw [Pipeline.accAt_succ, step24_at, acc_at c q g j (by omega) (by omega)]
    have e : paramsN m c (4 * q + (j + 1)) = paramsN m c (j + 1) := by
      unfold paramsN; congr 1; exact Fin.ext (by simp [Nat.add_mod])
    rw [e]; rfl

/-- The sum the encoder starts from, as the kernel's arguments give it, at position `s` of batch element `b`. -/
def total (c : Dev nD) (b s : Fin 32) (r : Fin 2) (p : Fin 64) (h : Fin 16) (d : Fin 768) : EReal :=
  Spec.sum5 ((m ((c : Thread nD τ).loc main_arg0) : FVec Ideal S32x32x768 .f32) (ix3 b s d))
    ((m ((c : Thread nD τ).loc main_arg1) : FVec Ideal S32x32x768 .f32) (ix3 s b d))
    ((m ((c : Thread nD τ).loc main_arg5) : FVec Ideal S2x768 .f32) (ix2 r d))
    ((m ((c : Thread nD τ).loc main_arg6) : FVec Ideal S64x768 .f32) (ix2 p d))
    ((m ((c : Thread nD τ).loc main_arg7) : FVec Ideal S16x768 .f32) (ix2 h d))

/-- The run's starting embedding at position `s` of its batch element `g`, where the three identifiers there are in range. -/
theorem start_at (c : Dev nD) (t : Fin cfg0.N) (g : Fin 16) (s : Fin 32) (d : Fin 768) (r : Fin 2) (p : Fin 64) (h : Fin 16)
    (hr : (m ((c : Thread nD τ).loc main_arg2) : IVec S32x32 32) (ix2 (bat t g) s) = BitVec.ofNat 32 r.val)
    (hp : (m ((c : Thread nD τ).loc main_arg3) : IVec S32x32 32) (ix2 (bat t g) s) = BitVec.ofNat 32 p.val)
    (hh : (m ((c : Thread nD τ).loc main_arg4) : IVec S32x32 32) (ix2 (bat t g) s) = BitVec.ofNat 32 h.val) :
    rows (start m c t.val t.isLt) g s d
      = Spec.ln (total m c (bat t g) s r p h)
          (fun k => (m ((c : Thread nD τ).loc main_arg8) : FVec Ideal S768 .f32) (ix1 k))
          (fun k => (m ((c : Thread nD τ).loc main_arg9) : FVec Ideal S768 .f32) (ix1 k)) d := by
  have e : ∀ k, k0_pay2 (iblk m c 2 t) (iblk m c 3 t) (iblk m c 4 t) (iblk m c 5 t) (iblk m c 0 t) (iblk m c 1 t) (ix2 (row g s) k)
      = total m c (bat t g) s r p h k := fun k => by
    rw [pay2_at _ _ _ _ _ _ (row g s) k (⟨0 + r.val, by omega⟩ : Fin 128) (⟨2 + p.val, by omega⟩ : Fin 128) (⟨66 + h.val, by omega⟩ : Fin 128)
      ((blk_role m c t g s).trans (by rw [hr]; simp))
      ((blk_position m c t g s).trans (by rw [hp]; simp only [IntOp.addi]; apply BitVec.eq_of_toNat_eq; simp [BitVec.toNat_ofNat]; omega))
      ((blk_hop m c t g s).trans (by rw [hh]; simp only [IntOp.addi]; apply BitVec.eq_of_toNat_eq; simp [BitVec.toNat_ofNat]; omega)),
      blk_raw, blk_pooled, blk_table, blk_table, blk_table, table_role, table_position, table_hop]
    unfold total Spec.sum5
    simp only [add_assoc]
  refine (pay6_at _ _ _ _ _ _ _ _ _ _).trans ?_
  simp only [e, blk_scale, blk_shift]

/-- The kernel's result array at position `s` of batch element `b`: what the run of `b`'s half ends with, at its place. -/
theorem G24_at (c : Dev nD) (b s : Fin 32) (d : Fin 768) (hlt : 4 * (b.val / 16) + 3 < cfg0.N) :
    G24 m c (ix2 (⟨b.val * 32 + s.val, by omega⟩ : Fin 1024) d)
      = rows (Pipeline.accAt (reset24 m c) (step24 m c) (4 * (b.val / 16)) 3 hlt) (⟨b.val % 16, Nat.mod_lt _ (by decide)⟩ : Fin 16) s d := by
  have key : ∀ (i : S1024x768.Idx) (q : ℕ) (j : S512x768.Idx) (h : 4 * q + 3 < cfg0.N), run24Of i = q → loc24Of i = j →
      G24 m c i = Pipeline.accAt (reset24 m c) (step24 m c) (4 * q) 3 h j := by
    intro i q j h hq hj
    subst hq; subst hj
    unfold G24
    rw [dif_pos h]
  refine key _ _ _ hlt ?_ ?_
  · show 1 * ((b.val * 32 + s.val) / 512 - 0) + 1 * (d.val / 768 - 0) = _
    omega
  · funext a; refine Fin.ext ?_
    match a with
    | ⟨0, _⟩ => show (b.val * 32 + s.val) % 512 = b.val % 16 * 32 + s.val; omega
    | ⟨1, _⟩ => show d.val % 768 = d.val; omega

/-- THE KERNEL'S RESULT at position `s` of batch element `b`: four layers of the normalised sum. -/
theorem result_at (c : Dev nD) (r : Fin 32 → Fin 32 → Fin 2) (p : Fin 32 → Fin 32 → Fin 64) (h : Fin 32 → Fin 32 → Fin 16)
    (hr : ∀ b s, (m ((c : Thread nD τ).loc main_arg2) : IVec S32x32 32) (ix2 b s) = BitVec.ofNat 32 (r b s).val)
    (hp : ∀ b s, (m ((c : Thread nD τ).loc main_arg3) : IVec S32x32 32) (ix2 b s) = BitVec.ofNat 32 (p b s).val)
    (hh : ∀ b s, (m ((c : Thread nD τ).loc main_arg4) : IVec S32x32 32) (ix2 b s) = BitVec.ofNat 32 (h b s).val)
    (b s : Fin 32) (d : Fin 768) :
    G24 m c (ix2 (⟨b.val * 32 + s.val, by omega⟩ : Fin 1024) d)
      = Spec.layers (paramsN m c) (fun s' d' => Spec.ln (total m c b s' (r b s') (p b s') (h b s'))
          (fun k => (m ((c : Thread nD τ).loc main_arg8) : FVec Ideal S768 .f32) (ix1 k))
          (fun k => (m ((c : Thread nD τ).loc main_arg9) : FVec Ideal S768 .f32) (ix1 k)) d') 3 s d := by
  have hN : cfg0.N = 8 := N_0
  have hlt : 4 * (b.val / 16) + 3 < cfg0.N := by rw [hN]; omega
  have ht : 4 * (b.val / 16) < cfg0.N := by omega
  have hb : bat ⟨4 * (b.val / 16), ht⟩ ⟨b.val % 16, Nat.mod_lt _ (by decide)⟩ = b := by
    refine Fin.ext ?_
    show 4 * (b.val / 16) / 4 * 16 + b.val % 16 = b.val
    omega
  have e : rows (start m c (4 * (b.val / 16)) ht) (⟨b.val % 16, Nat.mod_lt _ (by decide)⟩ : Fin 16)
      = fun s' d' => Spec.ln (total m c b s' (r b s') (p b s') (h b s'))
          (fun k => (m ((c : Thread nD τ).loc main_arg8) : FVec Ideal S768 .f32) (ix1 k))
          (fun k => (m ((c : Thread nD τ).loc main_arg9) : FVec Ideal S768 .f32) (ix1 k)) d' := by
    funext s' d'
    have f := start_at m c ⟨4 * (b.val / 16), ht⟩ ⟨b.val % 16, Nat.mod_lt _ (by decide)⟩ s' d' (r b s') (p b s') (h b s')
    rw [hb] at f
    exact f (hr b s') (hp b s') (hh b s')
  rw [G24_at m c b s d hlt, acc_at m c (b.val / 16) _ 3 hlt (by decide), e]

end Cert.TrIdeal.Layer

end
-- ==== Proof.Tie.lean ====
/- Kernel and reference side by side: on equal arguments with identifiers in range their results are equal. -/
module

public import proofs.«01_k».proof.Proof.REmb
public import proofs.«01_k».proof.Proof.KValue

@[expose] public section

set_option maxRecDepth 16384

noncomputable section

namespace Cert.Tie

open Idealize.ShloMosaic Idealize.ShloMosaic.TcCoe Idealize.SL.Sem
open Cert.TrRefIdeal.Layer (last rows)

/-- A word is the word of its own number. -/
theorem word_eq (x : BitVec 32) : x = BitVec.ofNat 32 x.toNat := by simp

/-- The reference's arguments, as a valuation of its arrays, hold the kernel's. -/
structure Same (m : (ℓ : Loc TrIdeal.nD TrIdeal.τ TrIdeal.sig) → Buf (Elt Ideal) ℓ) (c : Dev TrIdeal.nD)
    (V : Valuation TrRefIdeal.τ TrRefIdeal.sig (Elt Ideal)) : Prop where
  a0 : V (Proc.devRef .tc TrRefIdeal.main_arg0) = m ((c.tc : Thread TrIdeal.nD TrIdeal.τ).loc TrIdeal.main_arg0)
  a1 : V (Proc.devRef .tc TrRefIdeal.main_arg1) = m ((c.tc : Thread TrIdeal.nD TrIdeal.τ).loc TrIdeal.main_arg1)
  a2 : V (Proc.devRef .tc TrRefIdeal.main_arg2) = m ((c.tc : Thread TrIdeal.nD TrIdeal.τ).loc TrIdeal.main_arg2)
  a3 : V (Proc.devRef .tc TrRefIdeal.main_arg3) = m ((c.tc : Thread TrIdeal.nD TrIdeal.τ).loc TrIdeal.main_arg3)
  a4 : V (Proc.devRef .tc TrRefIdeal.main_arg4) = m ((c.tc : Thread TrIdeal.nD TrIdeal.τ).loc TrIdeal.main_arg4)
  a5 : V (Proc.devRef .tc TrRefIdeal.main_arg5) = m ((c.tc : Thread TrIdeal.nD TrIdeal.τ).loc TrIdeal.main_arg5)
  a6 : V (Proc.devRef .tc TrRefIdeal.main_arg6) = m ((c.tc : Thread TrIdeal.nD TrIdeal.τ).loc TrIdeal.main_arg6)
  a7 : V (Proc.devRef .tc TrRefIdeal.main_arg7) = m ((c.tc : Thread TrIdeal.nD TrIdeal.τ).loc TrIdeal.main_arg7)
  a8 : V (Proc.devRef .tc TrRefIdeal.main_arg8) = m ((c.tc : Thread TrIdeal.nD TrIdeal.τ).loc TrIdeal.main_arg8)
  a9 : V (Proc.devRef .tc TrRefIdeal.main_arg9) = m ((c.tc : Thread TrIdeal.nD TrIdeal.τ).loc TrIdeal.main_arg9)
  a10 : V (Proc.devRef .tc TrRefIdeal.main_arg10) = m ((c.tc : Thread TrIdeal.nD TrIdeal.τ).loc TrIdeal.main_arg10)
  a11 : V (Proc.devRef .tc TrRefIdeal.main_arg11) = m ((c.tc : Thread TrIdeal.nD TrIdeal.τ).loc TrIdeal.main_arg11)
  a12 : V (Proc.devRef .tc TrRefIdeal.main_arg12) = m ((c.tc : Thread TrIdeal.nD TrIdeal.τ).loc TrIdeal.main_arg12)
  a13 : V (Proc.devRef .tc TrRefIdeal.main_arg13) = m ((c.tc : Thread TrIdeal.nD TrIdeal.τ).loc TrIdeal.main_arg13)
  a14 : V (Proc.devRef .tc TrRefIdeal.main_arg14) = m ((c.tc : Thread TrIdeal.nD TrIdeal.τ).loc TrIdeal.main_arg14)
  a15 : V (Proc.devRef .tc TrRefIdeal.main_arg15) = m ((c.tc : Thread TrIdeal.nD TrIdeal.τ).loc TrIdeal.main_arg15)
  a16 : V (Proc.devRef .tc TrRefIdeal.main_arg16) = m ((c.tc : Thread TrIdeal.nD TrIdeal.τ).loc TrIdeal.main_arg16)
  a17 : V (Proc.devRef .tc TrRefIdeal.main_arg17) = m ((c.tc : Thread TrIdeal.nD TrIdeal.τ).loc TrIdeal.main_arg17)
  a18 : V (Proc.devRef .tc TrRefIdeal.main_arg18) = m ((c.tc : Thread TrIdeal.nD TrIdeal.τ).loc TrIdeal.main_arg18)
  a19 : V (Proc.devRef .tc TrRefIdeal.main_arg19) = m ((c.tc : Thread TrIdeal.nD TrIdeal.τ).loc TrIdeal.main_arg19)
  a20 : V (Proc.devRef .tc TrRefIdeal.main_arg20) = m ((c.tc : Thread TrIdeal.nD TrIdeal.τ).loc TrIdeal.main_arg20)
  a21 : V (Proc.devRef .tc TrRefIdeal.main_arg21) = m ((c.tc : Thread TrIdeal.nD TrIdeal.τ).loc TrIdeal.main_arg21)
  a22 : V (Proc.devRef .tc TrRefIdeal.main_arg22) = m ((c.tc : Thread TrIdeal.nD TrIdeal.τ).loc TrIdeal.main_arg22)
  a23 : V (Proc.devRef .tc TrRefIdeal.main_arg23) = m ((c.tc : Thread TrIdeal.nD TrIdeal.τ).loc TrIdeal.main_arg23)
  a24 : V (Proc.devRef .tc TrRefIdeal.main_arg24) = m ((c.tc : Thread TrIdeal.nD TrIdeal.τ).loc TrIdeal.main_arg24)
  a25 : V (Proc.devRef .tc TrRefIdeal.main_arg25) = m ((c.tc : Thread TrIdeal.nD TrIdeal.τ).loc TrIdeal.main_arg25)

variable {m : (ℓ : Loc TrIdeal.nD TrIdeal.τ TrIdeal.sig) → Buf (Elt Ideal) ℓ} {c : Dev TrIdeal.nD}
  {V : Valuation TrRefIdeal.τ TrRefIdeal.sig (Elt Ideal)}

/-- Then the two read the same weights. -/
theorem Same.params (h : Same m c V) (l : Fin 4) : TrRefIdeal.Layer.params V l = TrIdeal.Layer.paramsN m c l.val := by
  have hl : (⟨l.val % 4, Nat.mod_lt _ (by decide)⟩ : Fin 4) = l := Fin.ext (Nat.mod_eq_of_lt l.isLt)
  unfold TrIdeal.Layer.paramsN TrRefIdeal.Layer.params TrIdeal.Layer.params
  rw [hl, h.a10, h.a11, h.a12, h.a13, h.a14, h.a15, h.a16, h.a17, h.a18, h.a19, h.a20, h.a21, h.a22, h.a23, h.a24, h.a25]

/-- The reference's flattened result is the kernel's result array. -/
theorem result_eq (h : Same m c V)
    (hr : ∀ y, (m ((c.tc : Thread TrIdeal.nD TrIdeal.τ).loc TrIdeal.main_arg2) y : BitVec 32).toNat < 2)
    (hp : ∀ y, (m ((c.tc : Thread TrIdeal.nD TrIdeal.τ).loc TrIdeal.main_arg3) y : BitVec 32).toNat < 64)
    (hh : ∀ y, (m ((c.tc : Thread TrIdeal.nD TrIdeal.τ).loc TrIdeal.main_arg4) y : BitVec 32).toNat < 16)
    (hs) : (shapeCast TrRefIdeal.S1024x768 (last V) hs : FVec Ideal TrRefIdeal.S1024x768 .f32) = TrIdeal.Value.G24 m c := by
  funext i
  obtain ⟨b, s, d, rfl⟩ : ∃ (b s : Fin 32) (d : Fin 768), i = ix2 (⟨b.val * 32 + s.val, by omega⟩ : Fin 1024) d := by
    have h0 : (i 0).val < 1024 := (i 0).isLt
    refine ⟨⟨(i 0).val / 32, by omega⟩, ⟨(i 0).val % 32, by omega⟩, i 1, ?_⟩
    refine (eq_ix2 i).trans ?_
    congr 1
    exact Fin.ext (by show (i 0).val = (i 0).val / 32 * 32 + (i 0).val % 32; omega)
  rw [TrRefIdeal.Layer.flat_at]
  refine Eq.trans ?_ (TrIdeal.Layer.result_at m c (fun b s => ⟨_, hr (ix2 b s)⟩) (fun b s => ⟨_, hp (ix2 b s)⟩) (fun b s => ⟨_, hh (ix2 b s)⟩)
    (fun _ _ => word_eq _) (fun _ _ => word_eq _) (fun _ _ => word_eq _) b s d).symm
  have hl := TrRefIdeal.Layer.last_at V (TrIdeal.Layer.paramsN m c) h.params b
  have he : rows (TrRefIdeal.Value.res_main_v49 V) b = fun s' d' => Spec.ln
      (TrIdeal.Layer.total m c b s' ⟨_, hr (ix2 b s')⟩ ⟨_, hp (ix2 b s')⟩ ⟨_, hh (ix2 b s')⟩)
          (fun k => (m ((c.tc : Thread TrIdeal.nD TrIdeal.τ).loc TrIdeal.main_arg8) : FVec Ideal TrIdeal.S768 .f32) (ix1 k))
          (fun k => (m ((c.tc : Thread TrIdeal.nD TrIdeal.τ).loc TrIdeal.main_arg9) : FVec Ideal TrIdeal.S768 .f32) (ix1 k)) d' := by
    funext s' d'
    rw [TrRefIdeal.Layer.emb_at, h.a8, h.a9]
    congr 1
    funext k
    rw [TrRefIdeal.Layer.sum_at V b s' k ⟨_, hr (ix2 b s')⟩ ⟨_, hp (ix2 b s')⟩ ⟨_, hh (ix2 b s')⟩
      (by rw [h.a2]; exact word_eq _) (by rw [h.a3]; exact word_eq _)
      (by rw [h.a4]; exact word_eq _), h.a0, h.a1, h.a5, h.a6, h.a7]
    rfl
  rw [hl, he]

end Cert.Tie

end
-- ==== Proof.Ids.lean ====
/- The identifiers' ranges, read off the precondition. -/
module

public import proofs.«01_k».proof.Proof.Sum
public import proofs.«01_k».proof.Proof.Gen.Pre_ids_in_range

@[expose] public section

set_option maxRecDepth 16384

noncomputable section

namespace Cert.Pre_ids_in_range

open Idealize.ShloMosaic Idealize.SL.Sem

theorem and_ofBool (p q : Bool) : IntOp.andi (BitVec.ofBool p) (BitVec.ofBool q) = BitVec.ofBool (p && q) := by
  cases p <;> cases q <;> decide

theorem ofBool_one (p : Bool) : (BitVec.ofBool p = 1#1) ↔ p = true := by cases p <;> decide

/-- A word that is at least zero and below `n`, both read signed, is below `n` as a natural number. -/
theorem toNat_lt {x : BitVec 32} {n : ℕ} (hn : n ≤ 64) (h0 : (0#32).sle x = true) (h1 : x.slt (BitVec.ofNat 32 n) = true) :
    x.toNat < n := by
  simp only [BitVec.sle, BitVec.slt, decide_eq_true_eq, BitVec.toInt, BitVec.toNat_ofNat] at h0 h1
  omega

/-- Under the precondition each role is below 2, each position below 64 and each hop below 16. -/
theorem bounds (x0 x1 : FVec Ideal S32x32x768 .f32) (x2 x3 x4 : IVec S32x32 32) (x5 x6 x7 x8 x9 x10 x11 x12 x13 x14 x15 x16 x17 x18 x19 x20 x21 x22 x23 x24 x25)
    (h : fn (F := Ideal) x0 x1 x2 x3 x4 x5 x6 x7 x8 x9 x10 x11 x12 x13 x14 x15 x16 x17 x18 x19 x20 x21 x22 x23 x24 x25 = fun _ => 1#1)
    (y : S32x32.Idx) : (x2 y).toNat < 2 ∧ (x3 y).toNat < 64 ∧ (x4 y).toNat < 16 := by
  have e := congrFun h y
  simp only [fn, andi, cmpi, broadcastInDim, constantI, IntOp.cmpi, and_ofBool, ofBool_one, Bool.and_eq_true] at e
  obtain ⟨⟨⟨⟨⟨h1, h2⟩, h3⟩, h4⟩, h5⟩, h6⟩ := e
  exact ⟨toNat_lt (by decide) h1 h2, toNat_lt (by decide) h3 h4, toNat_lt (by decide) h5 h6⟩

end Cert.Pre_ids_in_range

end
-- ==== Proof.GnnSteps.lean ====
/- The gathering loop of the graph kernel, written once for every unrolled step. -/
module

public import proofs.«01_k».proof.Proof.Gen.Gnn.Skeleton

@[expose] public section

noncomputable section

namespace Cert.Gnn.Gen

open Idealize.ShloMosaic Idealize.SL.Sem

variable {F : FTy → Type} [FloatOps F]

/-- The place of slot `mi` of chunk `k` in the bundle. -/
def slotOff (k : ℕ) (mi : ℕ) : Fin 1 → ℕ :=
  ![(Scalar.indexCast (Scalar.addi (Scalar.addi 72#32 (Scalar.muli (Scf.iv 0#32 1#32 k) 256#32)) (BitVec.ofNat 32 mi))).toNat]

theorem slotOff_eq (k mi : ℕ) (hk : k < 72) (hm : mi < 256) : slotOff k mi 0 = 72 + 256 * k + mi := by
  have h : slotOff k mi 0 = (Scalar.indexCast (Scalar.addi (Scalar.addi 72#32 (Scalar.muli (Scf.iv 0#32 1#32 k) 256#32)) (BitVec.ofNat 32 mi))).toNat := rfl
  rw [h]
  simp only [Scalar.indexCast, Scalar.addi, Scalar.muli, Scf.iv, IntOp.addi, IntOp.muli]
  simp only [BitVec.toNat_add, BitVec.toNat_mul, BitVec.toNat_ofNat]
  omega

theorem slotOff_inb (k mi : ℕ) (hk : k < 72) (hm : mi < 256) : ∀ a, slotOff k mi a + S1.size a ≤ S19456.size a := by
  intro a
  obtain rfl : a = 0 := Subsingleton.elim _ _
  rw [slotOff_eq k mi hk hm]
  show 72 + 256 * k + mi + 1 ≤ 19456
  omega

theorem strip_inb (mi : ℕ) (hm : mi < 256) :
    ∀ a, S8x128.size a = 0 ∨ (![mi, 0] : Fin 2 → Nat) a + (![257, 1] : Fin 2 → Nat) a * (S8x128.size a - 1) < S2056x128.size a := by
  intro a
  right
  match a with
  | ⟨0, _⟩ => show mi + 257 * (8 - 1) < 2056; omega
  | ⟨1, _⟩ => show 0 + 1 * (128 - 1) < 128; omega

section
variable (arg10 : Memref sig .tc .vmem S16384x128 .f32) (arg13 : Memref sig .tc .vmem S2056x128 .f32) (arg14 : Memref sig .tc .smem S19456 .i32)

/-- Read the word of slot `mi` and the slab of rows it names. -/
def fetch (k : ℕ) (hk : k < 72) (mi : ℕ) (hm : mi < 256) : Prog (TpuEff nD τ sig (Elt F) Λ₀ .tc) (Vec F S8x128 .f32) := do
  let w : Elt F .i32 ← smemLoad arg14 (Rect.unit (s := S19456) (slotOff k mi) S1.size (slotOff_inb k mi hk hm)) numel1_S1 rfl
  have hw : k0_chk1 w := (← Prog.lift (TpuEff.assume (k0_chk1 w) (k0_chk1.dec w))).down
  let v : Vec F S8x128 .f32 ← Prog.lift (.load arg10 (Rect.unit (s := S16384x128) (k0_off2 w) S8x128.size (k0_off2_inb w hw)).toLoadRect (View.loadsAt_vmem h_S8x128))
  pure v

/-- Put a slab into column `mi` of the tile. -/
def put (mi : ℕ) (hm : mi < 256) (v : Vec F S8x128 .f32) : Prog (TpuEff nD τ sig (Elt F) Λ₀ .tc) PUnit := do
  let _ : Vec F S8x128 .f32 ← Prog.lift (.load arg13 (⟨![mi, 0], S8x128.size, ![257, 1], strip_inb mi hm⟩ : LoadRect S2056x128) (View.loadsAt_vmem h_S8x128))
  Prog.lift (.store arg13 ⟨(⟨![mi, 0], S8x128.size, ![257, 1], strip_inb mi hm⟩ : LoadRect S2056x128), spos_257_1⟩ (k0_pay4 v) Finset.univ (View.stores_vmem_bits_univ h_S8x128 rfl) (.inl rfl))

/-- From slot `b`, whose slab is `v`, on: put it and fetch the next one, `n` times. -/
def walk (k : ℕ) (hk : k < 72) : (n b : ℕ) → b + n < 256 → Vec F S8x128 .f32 → Prog (TpuEff nD τ sig (Elt F) Λ₀ .tc) (Vec F S8x128 .f32)
  | 0, _, _, v => pure v
  | n + 1, b, h, v => do
    put arg13 b (by omega) v
    let v' ← fetch arg10 arg14 k hk (b + 1) (by omega)
    walk k hk n (b + 1) (by omega) v'
end

section
variable (i : grid0.Coords) (arg2 : Memref sig .tc .vmem S1x1x2048 .i32) (harg2 : arg2.IsWhole) (arg3 : Memref sig .tc .vmem S1x1x2048 .i32) (harg3 : arg3.IsWhole) (arg4 : Memref sig .tc .vmem S1x72x1x256 .i32) (harg4 : arg4.IsWhole) (arg5 : Memref sig .tc .vmem S1x1x19456 .i32) (harg5 : arg5.IsWhole) (arg6 : Memref sig .tc .vmem S128x768 .f32) (harg6 : arg6.IsWhole) (arg7 : Memref sig .tc .vmem S2x768x768 .f32) (harg7 : arg7.IsWhole) (arg8 : Memref sig .tc .vmem S8x768 .f32) (harg8 : arg8.IsWhole) (arg9 : Memref sig .tc .vmem S1x32x768 .f32) (harg9 : arg9.IsWhole) (arg10 : Memref sig .tc .vmem S16384x128 .f32) (harg10 : arg10.IsWhole) (arg11 : Memref sig .tc .vmem S2048x768 .f32) (harg11 : arg11.IsWhole) (arg12 : Memref sig .tc .vmem S2048x768 .f32) (harg12 : arg12.IsWhole) (arg13 : Memref sig .tc .vmem S2056x128 .f32) (harg13 : arg13.IsWhole) (arg14 : Memref sig .tc .smem S19456 .i32) (harg14 : arg14.IsWhole) (arg15 : DmaSems sig S_)

/-- What a trip does after its 256 slabs lie in the tile. -/
def close (t : Fin k0_t1_loop.trips) : Prog (TpuEff nD τ sig (Elt F) Λ₀ .tc) Unit := do
  let v2434 : Vec F S1x1x1x256 .i32 ← Prog.lift (.load arg4 (Rect.unit (s := S1x72x1x256) (k0_off513 t) S1x1x1x256.size (k0_off513_inb t)).toLoadRect (View.loadsAt_vmem h_S1x1x1x256))
  let v2442 : Vec F S256x128 .f32 ← Prog.lift (.load arg13 (Rect.unit (s := S2056x128) ![0, 0] S256x128.size inb_S2056x128_S256x128_0_0).toLoadRect (View.loadsAt_vmem h_S256x128))
  let v2443 : Vec F S256x128 .f32 ← Prog.lift (.load arg13 (Rect.unit (s := S2056x128) ![257, 0] S256x128.size inb_S2056x128_S256x128_257_0).toLoadRect (View.loadsAt_vmem h_S256x128))
  let v2444 : Vec F S256x128 .f32 ← Prog.lift (.load arg13 (Rect.unit (s := S2056x128) ![514, 0] S256x128.size inb_S2056x128_S256x128_514_0).toLoadRect (View.loadsAt_vmem h_S256x128))
  let v2445 : Vec F S256x128 .f32 ← Prog.lift (.load arg13 (Rect.unit (s := S2056x128) ![771, 0] S256x128.size inb_S2056x128_S256x128_771_0).toLoadRect (View.loadsAt_vmem h_S256x128))
  let v2446 : Vec F S256x128 .f32 ← Prog.lift (.load arg13 (Rect.unit (s := S2056x128) ![1028, 0] S256x128.size inb_S2056x128_S256x128_1028_0).toLoadRect (View.loadsAt_vmem h_S256x128))
  let v2447 : Vec F S256x128 .f32 ← Prog.lift (.load arg13 (Rect.unit (s := S2056x128) ![1285, 0] S256x128.size inb_S2056x128_S256x128_1285_0).toLoadRect (View.loadsAt_vmem h_S256x128))
  let v2451 : Elt F .i32 ← smemLoad arg14 (Rect.unit (s := S19456) (k0_off514 t) S1.size (k0_off514_inb t)) numel1_S1 rfl
  have k0_hw257 : k0_chk257 v2451 := (← Prog.lift (TpuEff.assume (k0_chk257 v2451) (k0_chk257.dec v2451))).down
  let v2454 : Vec F S256x768 .f32 ← Prog.lift (.load arg12 (Rect.unit (s := S2048x768) (k0_off515 v2451) S256x768.size (k0_off515_inb v2451 k0_hw257)).toLoadRect (View.loadsAt_vmem h_S256x768))
  let v2457 : Vec F S256x768 .f32 ← Prog.lift (.load arg12 (Rect.unit (s := S2048x768) (k0_off515 v2451) S256x768.size (k0_off515_inb v2451 k0_hw257)).toLoadRect (View.loadsAt_vmem h_S256x768))
  Prog.lift (.store arg12 (Rect.unit (s := S2048x768) (k0_off515 v2451) S256x768.size (k0_off515_inb v2451 k0_hw257)) (k0_pay523 v2434 v2442 v2443 v2444 v2445 v2446 v2447 v2454) Finset.univ (View.stores_vmem_bits_univ h_S256x768 rfl) (.inl rfl))
  pure ⟨⟩

/-- One trip of the loop over chunks. -/
def trip (t : Fin k0_t1_loop.trips) (ht : t.val < 72) : Prog (TpuEff nD τ sig (Elt F) Λ₀ .tc) Unit := do
  let v ← fetch arg10 arg14 t.val ht 0 (by omega)
  let v ← walk arg10 arg13 arg14 t.val ht 255 0 (by omega) v
  put arg13 255 (by omega) v
  close arg4 arg12 arg13 arg14 t

/-- Walk on in runs of four slots, then go on. -/
def quads {α : Type} (k : ℕ) (hk : k < 72) (f : Vec F S8x128 .f32 → Prog (TpuEff nD τ sig (Elt F) Λ₀ .tc) α) :
    (n b : ℕ) → b + 4 * n < 256 → Vec F S8x128 .f32 → Prog (TpuEff nD τ sig (Elt F) Λ₀ .tc) α
  | 0, _, _, v => f v
  | n + 1, b, h, v => do
    let v' ← walk arg10 arg13 arg14 k hk 4 b (by omega) v
    quads k hk f n (b + 4) (by omega) v'

theorem part1_eq (t : Fin k0_t1_loop.trips) (ht : t.val < 72) :
    k0_part1 (F := F) i arg2 harg2 arg3 harg3 arg4 harg4 arg5 harg5 arg6 harg6 arg7 harg7 arg8 harg8 arg9 harg9 arg10 harg10 arg11 harg11 arg12 harg12 arg13 harg13 arg14 harg14 arg15 0#32 1#32 t = (do
      let v ← fetch arg10 arg14 t.val ht 0 (by omega)
      let v ← walk arg10 arg13 arg14 t.val ht 3 0 (by omega) v
      pure ⟨Scf.iv 0#32 1#32 t, Scalar.addi 72#32 (Scalar.muli (Scf.iv 0#32 1#32 t) 256#32), v⟩) := rfl

set_option maxRecDepth 65536 in
set_option maxHeartbeats 20000000 in
theorem part65_eq (t : Fin k0_t1_loop.trips) (ht : t.val < 72) :
    k0_part65 (F := F) i arg2 harg2 arg3 harg3 arg4 harg4 arg5 harg5 arg6 harg6 arg7 harg7 arg8 harg8 arg9 harg9 arg10 harg10 arg11 harg11 arg12 harg12 arg13 harg13 arg14 harg14 arg15 0#32 1#32 t = (do
      let ⟨arg16, v128, v161⟩ : Σ' (arg16 : BitVec 32) (v128 : BitVec 32), Vec F S8x128 .f32 ← k0_part1 (F := F) i arg2 harg2 arg3 harg3 arg4 harg4 arg5 harg5 arg6 harg6 arg7 harg7 arg8 harg8 arg9 harg9 arg10 harg10 arg11 harg11 arg12 harg12 arg13 harg13 arg14 harg14 arg15 0#32 1#32 t
      quads arg10 arg13 arg14 t.val ht (fun v => pure ⟨arg16, v128, v⟩) 59 3 (by omega) v161) := rfl

theorem walk_add (k : ℕ) (hk : k < 72) (n n' : ℕ) : ∀ (b : ℕ) (h : b + (n + n') < 256) (v : Vec F S8x128 .f32),
    walk arg10 arg13 arg14 k hk (n + n') b h v = (do
      let v' ← walk arg10 arg13 arg14 k hk n b (by omega) v
      walk arg10 arg13 arg14 k hk n' (b + n) (by omega) v') := by
  induction n with
  | zero =>
    intro b h v
    simp only [walk, pure_bind, Nat.add_zero, Nat.zero_add]
  | succ n ih =>
    intro b h v
    have e : ∀ (a : ℕ) (ha : a = n + 1 + n') (hb : b + a < 256), walk (F := F) arg10 arg13 arg14 k hk a b hb v
        = walk arg10 arg13 arg14 k hk (n + n' + 1) b (by omega) v := by intro a ha hb; subst ha; congr 1; omega
    rw [e _ rfl]
    simp only [walk, bind_assoc]
    refine bind_congr fun _ => bind_congr fun v' => ?_
    rw [ih]
    refine bind_congr fun v'' => ?_
    congr 1
    omega

theorem quads_eq {α : Type} (k : ℕ) (hk : k < 72) (f : Vec F S8x128 .f32 → Prog (TpuEff nD τ sig (Elt F) Λ₀ .tc) α) (n : ℕ) :
    ∀ (b : ℕ) (h : b + 4 * n < 256) (v : Vec F S8x128 .f32),
      quads arg10 arg13 arg14 k hk f n b h v = walk arg10 arg13 arg14 k hk (4 * n) b h v >>= f := by
  induction n with
  | zero => intro b h v; simp only [quads, walk, Nat.mul_zero, pure_bind]
  | succ n ih =>
    intro b h v
    have e : ∀ (a : ℕ) (ha : a = 4 * (n + 1)) (hb : b + a < 256), walk (F := F) arg10 arg13 arg14 k hk a b hb v
        = walk arg10 arg13 arg14 k hk (4 + 4 * n) b (by omega) v := by intro a ha hb; subst ha; congr 1; omega
    rw [e _ rfl, walk_add]
    simp only [quads, bind_assoc, ih]

set_option maxRecDepth 65536 in
set_option maxHeartbeats 20000000 in
theorem body1_quads (v24 : Vec F S2048x128 .f32) (t : Fin k0_t1_loop.trips) (ht : t.val < 72) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 v24 t () = (do
      let ⟨arg16, v128, v⟩ : Σ' (arg16 : BitVec 32) (v128 : BitVec 32), Vec F S8x128 .f32 ← k0_part65 (F := F) i arg2 harg2 arg3 harg3 arg4 harg4 arg5 harg5 arg6 harg6 arg7 harg7 arg8 harg8 arg9 harg9 arg10 harg10 arg11 harg11 arg12 harg12 arg13 harg13 arg14 harg14 arg15 0#32 1#32 t
      quads arg10 arg13 arg14 t.val ht (fun v => do
        put arg13 255 (by omega) v
        close arg4 arg12 arg13 arg14 t) 4 239 (by omega) v) := rfl

/-- A trip of the first loop, whatever its unrolled text. -/
theorem body1_eq (v24 : Vec F S2048x128 .f32) (t : Fin k0_t1_loop.trips) (ht : t.val < 72) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 v24 t () = trip arg4 arg10 arg12 arg13 arg14 t ht := by
  rw [body1_quads (ht := ht), part65_eq (ht := ht), part1_eq (ht := ht)]
  simp only [quads_eq, bind_assoc, pure_bind, trip]
  refine bind_congr fun v => ?_
  rw [walk_add arg10 arg13 arg14 t.val ht 3 252 0 (by omega)]
  simp only [bind_assoc]
  refine bind_congr fun v => ?_
  rw [walk_add arg10 arg13 arg14 t.val ht 236 16 3 (by omega)]
  simp only [bind_assoc]

theorem part66_eq (t : Fin k0_t2_loop.trips) (ht : t.val < 72) :
    k0_part66 (F := F) i arg2 harg2 arg3 harg3 arg4 harg4 arg5 harg5 arg6 harg6 arg7 harg7 arg8 harg8 arg9 harg9 arg10 harg10 arg11 harg11 arg12 harg12 arg13 harg13 arg14 harg14 arg15 0#32 1#32 t = (do
      let v ← fetch arg10 arg14 t.val ht 0 (by omega)
      let v ← walk arg10 arg13 arg14 t.val ht 3 0 (by omega) v
      pure ⟨Scf.iv 0#32 1#32 t, Scalar.addi 72#32 (Scalar.muli (Scf.iv 0#32 1#32 t) 256#32), v⟩) := rfl

set_option maxRecDepth 65536 in
set_option maxHeartbeats 20000000 in
theorem part130_eq (t : Fin k0_t2_loop.trips) (ht : t.val < 72) :
    k0_part130 (F := F) i arg2 harg2 arg3 harg3 arg4 harg4 arg5 harg5 arg6 harg6 arg7 harg7 arg8 harg8 arg9 harg9 arg10 harg10 arg11 harg11 arg12 harg12 arg13 harg13 arg14 harg14 arg15 0#32 1#32 t = (do
      let ⟨arg16, v128, v161⟩ : Σ' (arg16 : BitVec 32) (v128 : BitVec 32), Vec F S8x128 .f32 ← k0_part66 (F := F) i arg2 harg2 arg3 harg3 arg4 harg4 arg5 harg5 arg6 harg6 arg7 harg7 arg8 harg8 arg9 harg9 arg10 harg10 arg11 harg11 arg12 harg12 arg13 harg13 arg14 harg14 arg15 0#32 1#32 t
      quads arg10 arg13 arg14 t.val ht (fun v => pure ⟨arg16, v128, v⟩) 59 3 (by omega) v161) := rfl

set_option maxRecDepth 65536 in
set_option maxHeartbeats 20000000 in
theorem body2_quads (t : Fin k0_t2_loop.trips) (ht : t.val < 72) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 t () = (do
      let ⟨arg16, v128, v⟩ : Σ' (arg16 : BitVec 32) (v128 : BitVec 32), Vec F S8x128 .f32 ← k0_part130 (F := F) i arg2 harg2 arg3 harg3 arg4 harg4 arg5 harg5 arg6 harg6 arg7 harg7 arg8 harg8 arg9 harg9 arg10 harg10 arg11 harg11 arg12 harg12 arg13 harg13 arg14 harg14 arg15 0#32 1#32 t
      quads arg10 arg13 arg14 t.val ht (fun v => do
        put arg13 255 (by omega) v
        close arg4 arg12 arg13 arg14 ⟨t.val, t.isLt⟩) 4 239 (by omega) v) := rfl

/-- A trip of the second loop is the same program. -/
theorem body2_eq (t : Fin k0_t2_loop.trips) (ht : t.val < 72) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 t () = trip arg4 arg10 arg12 arg13 arg14 ⟨t.val, t.isLt⟩ ht := by
  rw [body2_quads (ht := ht), part130_eq (ht := ht), part66_eq (ht := ht)]
  simp only [quads_eq, bind_assoc, pure_bind, trip]
  refine bind_congr fun v => ?_
  rw [walk_add arg10 arg13 arg14 t.val ht 3 252 0 (by omega)]
  simp only [bind_assoc]
  refine bind_congr fun v => ?_
  rw [walk_add arg10 arg13 arg14 t.val ht 236 16 3 (by omega)]
  simp only [bind_assoc]

end
end Cert.Gnn.Gen
end
-- ==== Proof.GnnOps.lean ====
/- Loads, stores and one gathered slab of the graph kernel, over buffers held at their contents. -/
module

public import proofs.«01_k».proof.Proof.GnnSteps
public import Idealize.ShloMosaic.Lib.Exec
public import proofs.«01_k».proof.Proof.Gen.Gnn.Frame

@[expose] public section

noncomputable section

namespace Cert.Gnn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Running a program of the body on core `c`. -/
abbrev run (c : Dev nD) {α : Type} (p : Prog (TpuEff nD τ sig (Elt F) Λ₀ .tc) α) (K : α → sProp 𝕄) : sProp 𝕄 :=
  wp frame (wpE (defs₀ (F := F)) Variants.none (c : Thread nD τ) none) Set.univ p K

section
variable (c : Dev nD) {cs : CoreSpace} {s : Shape} {e : EltTy} (m : Memref sig .tc cs s e)

theorem run_load {α : Type} {r : LoadRect s} {hl : m.view.LoadsAt r} {k : (r.shape.Idx → Elt F e) → Prog (TpuEff nD τ sig (Elt F) Λ₀ .tc) α}
    (X : s.Idx → Elt F e) {K : α → sProp 𝕄} :
    (owns (c : Thread nD τ) m fullShare X)
      ⊢ iprop(((owns (c : Thread nD τ) m fullShare X) -∗ run c (k (fun x => X (r.idx x))) K) -∗ run c (.op (.load m r hl) k) K) := by
  unfold owns
  iintro ⟨%f, %hf, H⟩ HK
  subst hf
  iapply (wp_load Variants.none (c : Thread nD τ) none Set.univ (m := m) (View.setOn_subset_set _ _)) $$ H; iintro H
  iapply HK
  iexists f; isplitr; · ipureintro; rfl
  iexact H

/-- The contents after a store through a rectangle: the rectangle's places hold the stored vector, the others what they held. -/
def Stored {r : Rect s} (X : s.Idx → Elt F e) (w : r.shape.Idx → Elt F e) (X' : s.Idx → Elt F e) : Prop :=
  (∀ y, X' (r.idx y) = w y) ∧ ∀ z, (∀ y, r.idx y ≠ z) → X' z = X z

theorem run_store {α : Type} {r : Rect s} {w : r.shape.Idx → Elt F e} {hx : (m.access r).Stores Finset.univ} {hm}
    {k : PUnit → Prog (TpuEff nD τ sig (Elt F) Λ₀ .tc) α} (X : s.Idx → Elt F e) {K : α → sProp 𝕄} :
    (owns (c : Thread nD τ) m fullShare X)
      ⊢ iprop((∀ X', ⌜Stored X w X'⌝ -∗ owns (c : Thread nD τ) m fullShare X' -∗ run c (k ⟨⟩) K) -∗ run c (.op (.store m r w Finset.univ hx hm) k) K) := by
  unfold owns
  iintro ⟨%f, %hf, H⟩ HK
  subst hf
  iapply (wp_store Variants.none (c : Thread nD τ) none Set.univ (m := m) (r := r) (Mk := Finset.univ)
    ((View.setOn_subset_set _ _).trans (View.set_slice_subset _ _))) $$ H; iintro H
  iapply HK $$ %(m.view.read (Elt F) ((m.access r).write (Elt F) f w Finset.univ))
  · ipureintro
    refine ⟨fun y => View.read_slice_write_emb r f w (Finset.mem_univ y), fun z hz => View.read_slice_write_of_not_mem r f w _ ?_⟩
    intro h
    obtain ⟨y, -, hy⟩ := Finset.mem_map.mp h
    exact hz y hy
  iexists _; isplitr; · ipureintro; rfl
  iexact H
end

theorem run_smem {α : Type} (c : Dev nD) (m : Memref sig .tc .smem S19456 .i32) {r : Rect S19456} {h1 : r.shape.numel = 1}
    {k : Elt F .i32 → Prog (TpuEff nD τ sig (Elt F) Λ₀ .tc) α} (X : S19456.Idx → Elt F .i32) {K : α → sProp 𝕄} :
    (owns (c : Thread nD τ) m fullShare X)
      ⊢ iprop(((owns (c : Thread nD τ) m fullShare X) -∗ run c (k (X (r.idx (Shape.Idx.first (h1.symm ▸ Nat.one_pos))))) K)
        -∗ run c ((smemLoad m r h1 rfl : Prog (TpuEff nD τ sig (Elt F) Λ₀ .tc) (Elt F .i32)) >>= k) K) := by
  exact run_load c m X (k := fun f => k (f (Shape.Idx.first (h1.symm ▸ Nat.one_pos))))

/-- Word `n` of the bundle. -/
def wordAt (g : S19456.Idx → BitVec 32) (n : ℕ) : BitVec 32 := g fun a => ⟨n % 19456, by
  obtain rfl : a = 0 := Subsingleton.elim _ _
  exact Nat.mod_lt _ (by decide)⟩

/-- The eight rows of the row buffer from the one a word names. -/
def slab (X : Vec F S16384x128 .f32) (w : BitVec 32) : Vec F S8x128 .f32 := fun y =>
  X (Shape.pair (d := S16384x128.size) ⟨(w.toNat + (y 0).val) % 16384, Nat.mod_lt _ (by decide)⟩ (y 1))

theorem slab_eq (X : Vec F S16384x128 .f32) (w : BitVec 32) (h : k0_chk1 w) :
    (fun y => X ((Rect.unit (s := S16384x128) (k0_off2 w) S8x128.size (k0_off2_inb w h)).idx y)) = slab X w := by
  funext y
  unfold slab
  congr 1
  have hb : w.toNat + 8 ≤ 16384 := h.2 0
  have hy : (y 0).val < 8 := (y 0).isLt
  funext a
  apply Fin.ext
  match a with
  | ⟨0, _⟩ =>
    show w.toNat + 1 * (y 0).val = (w.toNat + (y 0).val) % 16384
    omega
  | ⟨1, _⟩ =>
    show 0 + 1 * (y 1).val = (y 1).val
    omega

/-- The words of the bundle are places: the first 72 of tiles, the next 18432 of rows. -/
def Good (g : S19456.Idx → BitVec 32) : Prop :=
  (∀ k, k < 72 → k0_chk257 (wordAt g k)) ∧ ∀ n, n < 18432 → k0_chk1 (wordAt g (72 + n))

theorem fetch_spec (c : Dev nD) (arg10 : Memref sig .tc .vmem S16384x128 .f32) (arg14 : Memref sig .tc .smem S19456 .i32)
    (k : ℕ) (hk : k < 72) (mi : ℕ) (hm : mi < 256) (X : Vec F S16384x128 .f32) (g : S19456.Idx → BitVec 32) (hg : Good g)
    (K : Vec F S8x128 .f32 → sProp 𝕄) :
    iprop(owns (c : Thread nD τ) arg10 fullShare X ∗ owns (Val := Elt F) (c : Thread nD τ) arg14 fullShare g
      ∗ (owns (c : Thread nD τ) arg10 fullShare X -∗ owns (Val := Elt F) (c : Thread nD τ) arg14 fullShare g -∗ K (slab X (wordAt g (72 + 256 * k + mi)))))
      ⊢ run c (fetch arg10 arg14 k hk mi hm) K := by
  have hword : ∀ x, g ((Rect.unit (s := S19456) (slotOff k mi) S1.size (slotOff_inb k mi hk hm)).idx x) = wordAt g (72 + 256 * k + mi) := by
    intro x
    unfold wordAt
    congr 1
    funext a
    obtain rfl : a = 0 := Subsingleton.elim _ _
    apply Fin.ext
    have hx : (x 0).val < 1 := (x 0).isLt
    show slotOff k mi 0 + 1 * (x 0).val = _ % 19456
    rw [slotOff_eq k mi hk hm]
    omega
  have hchk : k0_chk1 (wordAt g (72 + 256 * k + mi)) := by
    have := hg.2 (256 * k + mi) (by omega)
    rwa [← Nat.add_assoc] at this
  iintro ⟨H10, H14, HK⟩
  unfold fetch
  iapply (run_smem c arg14 (F := F) g) $$ H14; iintro H14
  rw [hword]
  iapply (wp_assume Variants.none (c : Thread nD τ) none Set.univ hchk)
  iapply (run_load c arg10 X) $$ H10; iintro H10
  rw [slab_eq X _ hchk]
  unfold run
  rw [wp_ret]
  imodintro
  iapply HK $$ H10 H14

end Cert.Gnn.Gen
end
-- ==== Proof.GnnTrip.lean ====
/- One trip over a chunk of 256 edges: the gathered rows laid out in the tile, then added to their destinations. -/
module

public import proofs.«01_k».proof.Proof.GnnOps
public import Idealize.ShloMosaic.Lib.Pipeline.Value

@[expose] public section

noncomputable section

namespace Cert.Gnn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Slabs `0 … n-1` lie in the tile: row `j` of slab `s` at place `s + 257 j`. -/
def Filled (n : ℕ) (vs : ℕ → Vec F S8x128 .f32) (T : Vec F S2056x128 .f32) : Prop :=
  ∀ s (hs : s < 256), s < n → ∀ y : S8x128.Idx,
    T (Shape.pair (d := S2056x128.size) ⟨s + 257 * (y 0).val, by have h : (y 0).val < 8 := (y 0).isLt; show _ < 2056; omega⟩ (y 1)) = vs s y

theorem filled_succ (b : ℕ) (hb : b < 256) (vs : ℕ → Vec F S8x128 .f32) (T T' : Vec F S2056x128 .f32) (hT : Filled b vs T)
    (h : Stored (r := ⟨(⟨![b, 0], S8x128.size, ![257, 1], strip_inb b hb⟩ : LoadRect S2056x128), spos_257_1⟩) T (vs b) T') :
    Filled (b + 1) vs T' := by
  intro s hs hn y
  have hy : (y 0).val < 8 := (y 0).isLt
  by_cases hsb : s = b
  · subst hsb
    rw [← h.1 y]
    congr 1
    funext a
    apply Fin.ext
    match a with
    | ⟨0, _⟩ => show s + 257 * (y 0).val = s + 257 * (y 0).val; rfl
    | ⟨1, _⟩ => show (y 1).val = 0 + 1 * (y 1).val; omega
  · rw [h.2, hT s hs (by omega) y]
    intro x hx
    have hx8 : (x 0).val < 8 := (x 0).isLt
    have e : b + 257 * (x 0).val = s + 257 * (y 0).val := congrArg (fun i : S2056x128.Idx => (i 0).val) hx
    omega

theorem put_spec (c : Dev nD) (arg13 : Memref sig .tc .vmem S2056x128 .f32) (b : ℕ) (hb : b < 256)
    (vs : ℕ → Vec F S8x128 .f32) (T : Vec F S2056x128 .f32) (hT : Filled b vs T) (K : PUnit → sProp 𝕄) :
    iprop(owns (c : Thread nD τ) arg13 fullShare T
      ∗ (∀ T', ⌜Filled (b + 1) vs T'⌝ -∗ owns (c : Thread nD τ) arg13 fullShare T' -∗ K ⟨⟩))
      ⊢ run c (put arg13 b hb (vs b)) K := by
  have hp : k0_pay4 (vs b) = vs b := by unfold k0_pay4; exact shapeCast_self _ _
  iintro ⟨H, HK⟩
  unfold put
  rw [hp]
  iapply (run_load c arg13 T) $$ H; iintro H
  iapply (run_store c arg13 T) $$ H; iintro %T' %hT' H
  unfold run
  rw [wp_ret]
  imodintro
  iapply HK $$ %T' %(filled_succ b hb vs T T' hT hT') H

theorem walk_spec (c : Dev nD) (arg10 : Memref sig .tc .vmem S16384x128 .f32) (arg13 : Memref sig .tc .vmem S2056x128 .f32) (arg14 : Memref sig .tc .smem S19456 .i32)
    (k : ℕ) (hk : k < 72) (X : Vec F S16384x128 .f32) (g : S19456.Idx → BitVec 32) (hg : Good g) (n : ℕ) :
    ∀ (b : ℕ) (h : b + n < 256) (T : Vec F S2056x128 .f32) (hT : Filled b (fun s => slab X (wordAt g (72 + 256 * k + s))) T)
      (K : Vec F S8x128 .f32 → sProp 𝕄),
    iprop(owns (c : Thread nD τ) arg10 fullShare X ∗ owns (Val := Elt F) (c : Thread nD τ) arg14 fullShare g ∗ owns (c : Thread nD τ) arg13 fullShare T
      ∗ (∀ T', ⌜Filled (b + n) (fun s => slab X (wordAt g (72 + 256 * k + s))) T'⌝ -∗ owns (c : Thread nD τ) arg10 fullShare X
          -∗ owns (Val := Elt F) (c : Thread nD τ) arg14 fullShare g -∗ owns (c : Thread nD τ) arg13 fullShare T' -∗ K (slab X (wordAt g (72 + 256 * k + (b + n))))))
      ⊢ run c (walk arg10 arg13 arg14 k hk n b h (slab X (wordAt g (72 + 256 * k + b)))) K := by
  induction n with
  | zero =>
    intro b h T hT K
    iintro ⟨H10, H14, H13, HK⟩
    unfold walk run
    rw [wp_pure]
    imodintro
    iapply HK $$ %T %hT H10 H14 H13
  | succ n ih =>
    intro b h T hT K
    iintro ⟨H10, H14, H13, HK⟩
    unfold walk run
    rw [wp_bind]
    iapply (put_spec c arg13 b _ (fun s => slab X (wordAt g (72 + 256 * k + s))) T hT)
    isplitl [H13]; · iexact H13
    iintro %T' %hT' H13
    rw [wp_bind]
    iapply (fetch_spec c arg10 arg14 k hk (b + 1) _ X g hg)
    isplitl [H10]; · iexact H10
    isplitl [H14]; · iexact H14
    iintro H10 H14
    iapply (ih (b + 1) _ T' hT' K)
    isplitl [H10]; · iexact H10
    isplitl [H14]; · iexact H14
    isplitl [H13]; · iexact H13
    rw [show b + 1 + n = b + (n + 1) from by omega]
    iexact HK

/-- Row strip `j` of the tile after all 256 slabs: row `j` of each slab. -/
def strip (vs : ℕ → Vec F S8x128 .f32) (j : Fin 8) : Vec F S256x128 .f32 := fun y => vs (y 0).val (Shape.pair (d := S8x128.size) j (y 1))

theorem strip_eq (vs : ℕ → Vec F S8x128 .f32) (T : Vec F S2056x128 .f32) (hT : Filled 256 vs T) (j : Fin 8) (o : ℕ) (ho : o = 257 * j.val)
    (hb : ∀ a, (![o, 0] : Fin 2 → ℕ) a + S256x128.size a ≤ S2056x128.size a) :
    (fun y => T ((Rect.unit (s := S2056x128) ![o, 0] S256x128.size hb).idx y)) = strip vs j := by
  funext y
  subst ho
  have hy : (y 0).val < 256 := (y 0).isLt
  unfold strip
  rw [← hT (y 0).val hy hy]
  congr 1
  funext a
  apply Fin.ext
  match a with
  | ⟨0, _⟩ => show 257 * j.val + 1 * (y 0).val = (y 0).val + 257 * j.val; omega
  | ⟨1, _⟩ => show 0 + 1 * (y 1).val = (y 1).val; omega

/-- The 256 rows of the sums from row `o`. -/
def rows (A : Vec F S2048x768 .f32) (o : ℕ) : Vec F S256x768 .f32 := fun y =>
  A (Shape.pair (d := S2048x768.size) ⟨(o + (y 0).val) % 2048, Nat.mod_lt _ (by decide)⟩ (y 1))

/-- The destinations of chunk `k`. -/
def dstRow (D : Vec F S1x72x1x256 .i32) (k : Fin k0_t1_loop.trips) : Vec F S1x1x1x256 .i32 := fun y =>
  D ((Rect.unit (s := S1x72x1x256) (k0_off513 k) S1x1x1x256.size (k0_off513_inb k)).idx y)

/-- The sums after chunk `k`: the rows of its tile are replaced, the others stay. -/
def chunk (D : Vec F S1x72x1x256 .i32) (X : Vec F S16384x128 .f32) (g : S19456.Idx → BitVec 32) (k : Fin k0_t1_loop.trips) (A : Vec F S2048x768 .f32) : Vec F S2048x768 .f32 :=
  let vs := fun s => slab X (wordAt g (72 + 256 * k.val + s))
  let o := (wordAt g k.val).toNat
  fun z => if h : o ≤ (z 0).val ∧ (z 0).val < o + 256 then
      k0_pay523 (dstRow D k) (strip vs 0) (strip vs 1) (strip vs 2) (strip vs 3) (strip vs 4) (strip vs 5) (rows A o)
        (Shape.pair (d := S256x768.size) ⟨(z 0).val - o, by show _ < 256; omega⟩ (z 1))
    else A z

theorem close_spec (c : Dev nD) (arg4 : Memref sig .tc .vmem S1x72x1x256 .i32) (arg12 : Memref sig .tc .vmem S2048x768 .f32) (arg13 : Memref sig .tc .vmem S2056x128 .f32) (arg14 : Memref sig .tc .smem S19456 .i32)
    (t : Fin k0_t1_loop.trips) (ht : t.val < 72) (D : Vec F S1x72x1x256 .i32) (X : Vec F S16384x128 .f32) (g : S19456.Idx → BitVec 32) (hg : Good g)
    (A : Vec F S2048x768 .f32) (T : Vec F S2056x128 .f32) (hT : Filled 256 (fun s => slab X (wordAt g (72 + 256 * t.val + s))) T)
    (K : Unit → sProp 𝕄) :
    iprop(owns (c : Thread nD τ) arg4 fullShare D ∗ owns (c : Thread nD τ) arg12 fullShare A ∗ owns (c : Thread nD τ) arg13 fullShare T ∗ owns (Val := Elt F) (c : Thread nD τ) arg14 fullShare g
      ∗ (owns (c : Thread nD τ) arg4 fullShare D -∗ owns (c : Thread nD τ) arg12 fullShare (chunk D X g t A) -∗ owns (c : Thread nD τ) arg13 fullShare T
          -∗ owns (Val := Elt F) (c : Thread nD τ) arg14 fullShare g -∗ K ()))
      ⊢ run c (close arg4 arg12 arg13 arg14 t) K := by
  have hword : ∀ x, g ((Rect.unit (s := S19456) (k0_off514 t) S1.size (k0_off514_inb t)).idx x) = wordAt g t.val := by
    intro x
    unfold wordAt
    congr 1
    funext a
    obtain rfl : a = 0 := Subsingleton.elim _ _
    apply Fin.ext
    have hx : (x 0).val < 1 := (x 0).isLt
    have ho : k0_off514 t 0 = t.val := by
      have h : k0_off514 t 0 = (Scalar.indexCast (Scf.iv 0#32 1#32 t.val)).toNat := rfl
      rw [h]
      simp only [Scalar.indexCast, Scf.iv, BitVec.toNat_add, BitVec.toNat_mul, BitVec.toNat_ofNat]
      omega
    show k0_off514 t 0 + 1 * (x 0).val = _ % 19456
    omega
  have hchk := hg.1 t.val ht
  have ho : (wordAt g t.val).toNat + 256 ≤ 2048 := hchk.2 0
  have hrows : (fun y => A ((Rect.unit (s := S2048x768) (k0_off515 (wordAt g t.val)) S256x768.size (k0_off515_inb _ hchk)).idx y)) = rows A (wordAt g t.val).toNat := by
    funext y
    unfold rows
    congr 1
    have hy : (y 0).val < 256 := (y 0).isLt
    funext a
    apply Fin.ext
    match a with
    | ⟨0, _⟩ =>
      show (wordAt g t.val).toNat + 1 * (y 0).val = ((wordAt g t.val).toNat + (y 0).val) % 2048
      omega
    | ⟨1, _⟩ => show 0 + 1 * (y 1).val = (y 1).val; omega
  iintro ⟨H4, H12, H13, H14, HK⟩
  unfold close
  iapply (run_load c arg4 D) $$ H4; iintro H4
  iapply (run_load c arg13 T) $$ H13; iintro H13
  iapply (run_load c arg13 T) $$ H13; iintro H13
  iapply (run_load c arg13 T) $$ H13; iintro H13
  iapply (run_load c arg13 T) $$ H13; iintro H13
  iapply (run_load c arg13 T) $$ H13; iintro H13
  iapply (run_load c arg13 T) $$ H13; iintro H13
  iapply (run_smem c arg14 (F := F) (h1 := numel1_S1) g) $$ H14; iintro H14
  rw [hword]
  iapply (wp_assume Variants.none (c : Thread nD τ) none Set.univ hchk)
  iapply (run_load c arg12 A) $$ H12; iintro H12
  iapply (run_load c arg12 A) $$ H12; iintro H12
  iapply (run_store c arg12 A) $$ H12; iintro %A' %hA' H12
  have e : A' = chunk D X g t A := by
    rw [strip_eq _ T hT 0 0 rfl, strip_eq _ T hT 1 257 rfl, strip_eq _ T hT 2 514 rfl, strip_eq _ T hT 3 771 rfl, strip_eq _ T hT 4 1028 rfl,
      strip_eq _ T hT 5 1285 rfl, hrows] at hA'
    funext z
    unfold chunk
    dsimp only
    split
    · next h =>
      rw [show k0_pay523 (dstRow D t) _ _ _ _ _ _ _ _ = _ from (hA'.1 _).symm]
      congr 1
      funext a
      apply Fin.ext
      match a with
      | ⟨0, _⟩ =>
        show (z 0).val = (wordAt g t.val).toNat + 1 * ((z 0).val - (wordAt g t.val).toNat)
        omega
      | ⟨1, _⟩ => show (z 1).val = 0 + 1 * (z 1).val; omega
    · next h =>
      refine hA'.2 z fun y hy => h ?_
      have hy8 : (y 0).val < 256 := (y 0).isLt
      have e : (wordAt g t.val).toNat + 1 * (y 0).val = (z 0).val := congrArg (fun i : S2048x768.Idx => (i 0).val) hy
      omega
  subst e
  unfold run
  simp only [Prog.bind]
  rw [wp_pure]
  imodintro
  iapply HK $$ H4 H12 H13 H14

theorem trip_spec (c : Dev nD) (arg4 : Memref sig .tc .vmem S1x72x1x256 .i32) (arg10 : Memref sig .tc .vmem S16384x128 .f32) (arg12 : Memref sig .tc .vmem S2048x768 .f32) (arg13 : Memref sig .tc .vmem S2056x128 .f32) (arg14 : Memref sig .tc .smem S19456 .i32)
    (t : Fin k0_t1_loop.trips) (ht : t.val < 72) (D : Vec F S1x72x1x256 .i32) (X : Vec F S16384x128 .f32) (g : S19456.Idx → BitVec 32) (hg : Good g)
    (A : Vec F S2048x768 .f32) (K : Unit → sProp 𝕄) :
    iprop(owns (c : Thread nD τ) arg4 fullShare D ∗ owns (c : Thread nD τ) arg10 fullShare X ∗ owns (c : Thread nD τ) arg12 fullShare A
      ∗ (∃ T, owns (c : Thread nD τ) arg13 fullShare T) ∗ owns (Val := Elt F) (c : Thread nD τ) arg14 fullShare g
      ∗ (owns (c : Thread nD τ) arg4 fullShare D -∗ owns (c : Thread nD τ) arg10 fullShare X -∗ owns (c : Thread nD τ) arg12 fullShare (chunk D X g t A)
          -∗ (∃ T, owns (c : Thread nD τ) arg13 fullShare T) -∗ owns (Val := Elt F) (c : Thread nD τ) arg14 fullShare g -∗ K ()))
      ⊢ run c (trip arg4 arg10 arg12 arg13 arg14 t ht) K := by
  iintro ⟨H4, H10, H12, ⟨%T, H13⟩, H14, HK⟩
  unfold trip run
  rw [wp_bind]
  iapply (fetch_spec c arg10 arg14 t.val ht 0 _ X g hg)
  isplitl [H10]; · iexact H10
  isplitl [H14]; · iexact H14
  iintro H10 H14
  rw [wp_bind]
  iapply (walk_spec c arg10 arg13 arg14 t.val ht X g hg 255 0 _ T (fun s hs hn => absurd hn (by omega)))
  isplitl [H10]; · iexact H10
  isplitl [H14]; · iexact H14
  isplitl [H13]; · iexact H13
  iintro %T' %hT' H10 H14 H13
  rw [wp_bind]
  iapply (put_spec c arg13 255 _ (fun s => slab X (wordAt g (72 + 256 * t.val + s))) T' hT')
  isplitl [H13]; · iexact H13
  iintro %T2 %hT2 H13
  iapply (close_spec c arg4 arg12 arg13 arg14 t ht D X g hg A T2 hT2)
  isplitl [H4]; · iexact H4
  isplitl [H12]; · iexact H12
  isplitl [H13]; · iexact H13
  isplitl [H14]; · iexact H14
  iintro H4 H12 H13 H14
  iapply HK $$ H4 H10 H12 [H13] H14
  iexists T2; iexact H13

end Cert.Gnn.Gen
end
-- ==== Proof.GnnRound.lean ====
/- The rounds of the graph kernel: node features laid out by strips, the loop over 72 chunks, and the copy of the bundle. -/
module

public import proofs.«01_k».proof.Proof.GnnTrip
public import Idealize.ShloMosaic.Lib.VecWindow
public import Idealize.ShloMosaic.Lib.Transfers

@[expose] public section

noncomputable section

namespace Cert.Gnn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Strips -/

/-- Strips `0 … b-1` of the features lie in the row buffer: columns `128 j …` of node `n` are row `8 n + j`. -/
def Laid (b : ℕ) (X : Vec F S16384x128 .f32) (h : Vec F S2048x768 .f32) : Prop :=
  ∀ j, j < b → ∀ (i : S16384x128.Idx) (z : S2048x768.Idx), (i 0).val = 8 * (z 0).val + j → (z 1).val = 128 * j + (i 1).val → X i = h z

theorem laid_zero (X : Vec F S16384x128 .f32) (h : Vec F S2048x768 .f32) : Laid 0 X h := fun j hj => absurd hj (by omega)

theorem lay_inb (b : ℕ) (hb : b < 6) :
    ∀ a, S2048x128.size a = 0 ∨ (![b, 0] : Fin 2 → Nat) a + (![8, 1] : Fin 2 → Nat) a * (S2048x128.size a - 1) < S16384x128.size a := by
  intro a
  right
  match a with
  | ⟨0, _⟩ => show b + 8 * (2048 - 1) < 16384; omega
  | ⟨1, _⟩ => show 0 + 1 * (128 - 1) < 128; omega

theorem cols_inb (b : ℕ) (hb : b < 6) : ∀ a, (![0, 128 * b] : Fin 2 → Nat) a + S2048x128.size a ≤ S2048x768.size a := by
  intro a
  match a with
  | ⟨0, _⟩ => show 0 + 2048 ≤ 2048; omega
  | ⟨1, _⟩ => show 128 * b + 128 ≤ 768; omega

/-- Columns `128 b …` of the features. -/
abbrev cols (h : Vec F S2048x768 .f32) (b : ℕ) (hb : b < 6) : Vec F S2048x128 .f32 := fun y =>
  h ((Rect.unit (s := S2048x768) ![0, 128 * b] S2048x128.size (cols_inb b hb)).idx y)

theorem laid_succ (b : ℕ) (hb : b < 6) {X X' : Vec F S16384x128 .f32} {h : Vec F S2048x768 .f32} (hL : Laid b X h)
    {w : Vec F S2048x128 .f32} (hw : w = cols h b hb)
    (hS : Stored (r := ⟨(⟨![b, 0], S2048x128.size, ![8, 1], lay_inb b hb⟩ : LoadRect S16384x128), spos_8_1⟩) X w X') : Laid (b + 1) X' h := by
  subst hw
  intro j hj i z h0 h1
  have hz : (z 0).val < 2048 := (z 0).isLt
  have hi : (i 1).val < 128 := (i 1).isLt
  by_cases hjb : j = b
  · subst hjb
    have := hS.1 (Shape.pair (d := S2048x128.size) (z 0) (i 1))
    have e1 : (⟨(⟨![j, 0], S2048x128.size, ![8, 1], lay_inb j hb⟩ : LoadRect S16384x128), spos_8_1⟩ : Rect S16384x128).idx (Shape.pair (d := S2048x128.size) (z 0) (i 1)) = i := by
      funext a
      apply Fin.ext
      match a with
      | ⟨0, _⟩ => show j + 8 * (z 0).val = (i 0).val; omega
      | ⟨1, _⟩ => show 0 + 1 * (i 1).val = (i 1).val; omega
    have e2 : (Rect.unit (s := S2048x768) ![0, 128 * j] S2048x128.size (cols_inb j hb)).idx (Shape.pair (d := S2048x128.size) (z 0) (i 1)) = z := by
      funext a
      apply Fin.ext
      match a with
      | ⟨0, _⟩ => show 0 + 1 * (z 0).val = (z 0).val; omega
      | ⟨1, _⟩ => show 128 * j + 1 * (i 1).val = (z 1).val; omega
    rw [← e1, this]
    unfold cols
    rw [e2]
  · rw [hS.2 i, hL j (by omega) i z h0 h1]
    intro y hy
    have e : b + 8 * (y 0).val = (i 0).val := congrArg (fun i : S16384x128.Idx => (i 0).val) hy
    omega

/-! ## Whole buffers -/

theorem stored_full {s : Shape} {e : EltTy} (hin : ∀ a, (fun _ => 0 : Fin s.rank → ℕ) a + s.size a ≤ s.size a) {X X' w : s.Idx → Elt F e}
    (hS : Stored (r := Rect.unit (s := s) (fun _ => 0) s.size hin) X w X') : X' = w := by
  funext z
  have e : (Rect.unit (s := s) (fun _ => 0) s.size hin).idx z = z := by
    funext a
    apply Fin.ext
    show 0 + 1 * (z a).val = (z a).val
    omega
  rw [← hS.1 z, e]

theorem load_full {s : Shape} {e : EltTy} (hin : ∀ a, (fun _ => 0 : Fin s.rank → ℕ) a + s.size a ≤ s.size a) (X : s.Idx → Elt F e) :
    (fun y => X ((Rect.unit (s := s) (fun _ => 0) s.size hin).idx y)) = X := by
  funext z
  congr 1
  funext a
  apply Fin.ext
  show 0 + 1 * (z a).val = (z a).val
  omega

theorem off2 : (![0, 0] : Fin 2 → ℕ) = fun _ => 0 := by decide
theorem off3 : (![0, 0, 0] : Fin 3 → ℕ) = fun _ => 0 := by decide

/-! ## One round -/

/-- Rows of the features that chunk `k` names, columns `128 j …`. -/
def gath (h : Vec F S2048x768 .f32) (g : S19456.Idx → BitVec 32) (k : ℕ) (j : Fin 6) : Vec F S256x128 .f32 := fun y =>
  h (Shape.pair (d := S2048x768.size) ⟨((wordAt g (72 + 256 * k + (y 0).val)).toNat / 8) % 2048, Nat.mod_lt _ (by decide)⟩
    ⟨128 * j.val + (y 1).val, by have h1 : (y 1).val < 128 := (y 1).isLt; have := j.isLt; show _ < 768; omega⟩)

/-- The sums after chunk `k`, from the features themselves. -/
def chunkOf (D : Vec F S1x72x1x256 .i32) (h : Vec F S2048x768 .f32) (g : S19456.Idx → BitVec 32) (k : Fin k0_t1_loop.trips) (A : Vec F S2048x768 .f32) : Vec F S2048x768 .f32 :=
  let o := (wordAt g k.val).toNat
  fun z => if h' : o ≤ (z 0).val ∧ (z 0).val < o + 256 then
      k0_pay523 (dstRow D k) (gath h g k.val 0) (gath h g k.val 1) (gath h g k.val 2) (gath h g k.val 3) (gath h g k.val 4) (gath h g k.val 5) (rows A o)
        (Shape.pair (d := S256x768.size) ⟨(z 0).val - o, by show _ < 256; omega⟩ (z 1))
    else A z

theorem strip_gath (X : Vec F S16384x128 .f32) (h : Vec F S2048x768 .f32) (hX : Laid 6 X h) (g : S19456.Idx → BitVec 32) (hg : Good g) (k : ℕ) (hk : k < 72)
    (j : Fin 6) (j8 : Fin 8) (hj : j8.val = j.val) : strip (fun s => slab X (wordAt g (72 + 256 * k + s))) j8 = gath h g k j := by
  funext y
  have hy : (y 0).val < 256 := (y 0).isLt
  have hj6 := j.isLt
  have hc : k0_chk1 (wordAt g (72 + 256 * k + (y 0).val)) := by
    have := hg.2 (256 * k + (y 0).val) (by omega)
    rwa [← Nat.add_assoc] at this
  obtain ⟨w, hw⟩ : ∃ w, w = wordAt g (72 + 256 * k + (y 0).val) := ⟨_, rfl⟩
  rw [← hw] at hc
  have h8 : 8 ∣ w.toNat := hc.1
  have hb : w.toNat + 8 ≤ 16384 := hc.2 0
  unfold strip gath slab
  refine hX j.val hj6 _ _ ?_ ?_
  · show ((wordAt g (72 + 256 * k + (y 0).val)).toNat + j8.val) % 16384 = 8 * (((wordAt g (72 + 256 * k + (y 0).val)).toNat / 8) % 2048) + j.val
    rw [← hw]
    omega
  · rfl

theorem chunk_eq (D : Vec F S1x72x1x256 .i32) (X : Vec F S16384x128 .f32) (h : Vec F S2048x768 .f32) (hX : Laid 6 X h) (g : S19456.Idx → BitVec 32) (hg : Good g)
    (k : Fin k0_t1_loop.trips) (hk : k.val < 72) (A : Vec F S2048x768 .f32) : chunk D X g k A = chunkOf D h g k A := by
  unfold chunk chunkOf
  dsimp only
  rw [strip_gath X h hX g hg k.val hk 0 0 rfl, strip_gath X h hX g hg k.val hk 1 1 rfl, strip_gath X h hX g hg k.val hk 2 2 rfl,
    strip_gath X h hX g hg k.val hk 3 3 rfl, strip_gath X h hX g hg k.val hk 4 4 rfl, strip_gath X h hX g hg k.val hk 5 5 rfl]

theorem trips1 : k0_t1_loop.trips = 72 := by decide
theorem trips2 : k0_t2_loop.trips = 72 := by decide

/-- The sums after the first `n` chunks. -/
def aggTo (D : Vec F S1x72x1x256 .i32) (h : Vec F S2048x768 .f32) (g : S19456.Idx → BitVec 32) : ℕ → Vec F S2048x768 .f32
  | 0 => k0_pay521
  | n + 1 => if hn : n < k0_t1_loop.trips then chunkOf D h g ⟨n, hn⟩ (aggTo D h g n) else aggTo D h g n

/-- The sums over all chunks. -/
def agg (D : Vec F S1x72x1x256 .i32) (h : Vec F S2048x768 .f32) (g : S19456.Idx → BitVec 32) : Vec F S2048x768 .f32 := aggTo D h g 72

/-- A loop whose body at trip `t` is the trip of chunk `t`. -/
theorem loop_spec (c : Dev nD) (arg4 : Memref sig .tc .vmem S1x72x1x256 .i32) (arg10 : Memref sig .tc .vmem S16384x128 .f32) (arg12 : Memref sig .tc .vmem S2048x768 .f32) (arg13 : Memref sig .tc .vmem S2056x128 .f32) (arg14 : Memref sig .tc .smem S19456 .i32)
    {wl : ℕ} (l : Scf.Loop wl) (hl : l.trips = 72) (body : Fin l.trips → Unit → Prog (TpuEff nD τ sig (Elt F) Λ₀ .tc) Unit)
    (hbody : ∀ (t : Fin l.trips) (ht : t.val < 72), body t () = trip arg4 arg10 arg12 arg13 arg14 ⟨t.val, trips1 ▸ ht⟩ ht)
    (D : Vec F S1x72x1x256 .i32) (X : Vec F S16384x128 .f32) (h : Vec F S2048x768 .f32) (hX : Laid 6 X h) (g : S19456.Idx → BitVec 32) (hg : Good g) (hok : _)
    (K : Unit → sProp 𝕄) :
    iprop(owns (c : Thread nD τ) arg4 fullShare D ∗ owns (c : Thread nD τ) arg10 fullShare X ∗ owns (c : Thread nD τ) arg12 fullShare k0_pay521
      ∗ (∃ T, owns (c : Thread nD τ) arg13 fullShare T) ∗ owns (Val := Elt F) (c : Thread nD τ) arg14 fullShare g
      ∗ (owns (c : Thread nD τ) arg4 fullShare D -∗ owns (c : Thread nD τ) arg10 fullShare X -∗ owns (c : Thread nD τ) arg12 fullShare (agg D h g)
          -∗ (∃ T, owns (c : Thread nD τ) arg13 fullShare T) -∗ owns (Val := Elt F) (c : Thread nD τ) arg14 fullShare g -∗ K ()))
      ⊢ run c (Scf.Loop.for l hok () body) K := by
  have key := Scf.wp_for (M := 𝕄) Idealize.ShloMosaic.frame (wpE (defs₀ (F := F)) Variants.none (c : Thread nD τ) none) Set.univ l.lb l.ub l.st hok () body
    (fun n _ => iprop(owns (c : Thread nD τ) arg4 fullShare D ∗ owns (c : Thread nD τ) arg10 fullShare X ∗ owns (c : Thread nD τ) arg12 fullShare (aggTo D h g n)
      ∗ (∃ T, owns (c : Thread nD τ) arg13 fullShare T) ∗ owns (Val := Elt F) (c : Thread nD τ) arg14 fullShare g))
    (by
      intro t acc
      have ht : t.val < 72 := hl ▸ t.isLt
      rw [hbody t ht]
      iintro ⟨H4, H10, H12, H13, H14⟩
      iapply (trip_spec c arg4 arg10 arg12 arg13 arg14 ⟨t.val, trips1 ▸ ht⟩ ht D X g hg (aggTo D h g t.val))
      isplitl [H4]; · iexact H4
      isplitl [H10]; · iexact H10
      isplitl [H12]; · iexact H12
      isplitl [H13]; · iexact H13
      isplitl [H14]; · iexact H14
      iintro H4 H10 H12 H13 H14
      isplitl [H4]; · iexact H4
      isplitl [H10]; · iexact H10
      isplitl [H12]
      · have e : aggTo D h g (t.val + 1) = chunk D X g ⟨t.val, trips1 ▸ ht⟩ (aggTo D h g t.val) := by
          rw [chunk_eq D X h hX g hg _ ht]
          show (if hn : t.val < k0_t1_loop.trips then _ else _) = _
          rw [dif_pos (trips1 ▸ ht)]
        rw [e]
        iexact H12
      isplitl [H13]; · iexact H13
      iexact H14) (Q := K)
  rw [show Scf.trips l.lb l.ub l.st = 72 from hl] at key
  unfold agg
  iintro ⟨H4, H10, H12, H13, H14, HK⟩
  iapply key
  isplitl [H4 H10 H12 H13 H14]
  · isplitl [H4]; · iexact H4
    isplitl [H10]; · iexact H10
    isplitl [H12]; · iexact H12
    isplitl [H13]; · iexact H13
    iexact H14
  · iintro %acc ⟨H4, H10, H12, H13, H14⟩
    iapply HK $$ H4 H10 H12 H13 H14

/-! ## The copy of the bundle -/

/-- The bundle's block as one row of words. -/
def bundleOf (B : S1x1x19456.Idx → BitVec 32) : S19456.Idx → BitVec 32 := fun y => B (Shape.reshapeEquiv squeezes_S1x1x19456_S19456.numel_eq y)

/-- The copy under way: what it will hand back. -/
def Sent (c : Dev nD) (arg5 : Memref sig .tc .vmem S1x1x19456 .i32) (arg14 : Memref sig .tc .smem S19456 .i32) (sem : DmaSem sig) (B : S1x1x19456.Idx → BitVec 32) : sProp 𝕄 :=
  iprop(∃ (D R : sProp 𝕄), Transfers.Flight countersEmb (c : Thread nD τ) (.dma sem) () arg14.view.dmaCredit D ∗ R
    ∗ ⌜iprop(D ∗ R) ⊢ iprop(owns (Val := Elt F) (c : Thread nD τ) arg14 fullShare (bundleOf B) ∗ owns (Val := Elt F) (c : Thread nD τ) arg5 fullShare B)⌝)

/-- The bundle's block read as one row. -/
abbrev rowOf (arg5 : Memref sig .tc .vmem S1x1x19456 .i32) : Memref sig .tc .vmem S19456 .i32 :=
  (arg5.slice (Rect.unit (s := S1x1x19456) ![0, 0, 0] S1x1x19456.size inb_S1x1x19456_S1x1x19456_0_0_0) (fun _ => rfl)).squeeze S19456 squeezes_S1x1x19456_S19456

theorem rowOf_set (arg5 : Memref sig .tc .vmem S1x1x19456 .i32) : (rowOf arg5).view.set ⊆ arg5.view.set :=
  (le_of_eq (View.set_reshape _ _)).trans (View.set_slice_subset _ _)

theorem rowOf_read (arg5 : Memref sig .tc .vmem S1x1x19456 .i32) (f : arg5.view.ty.Contents (Elt F)) :
    (rowOf arg5).view.read (Elt F) f = bundleOf (arg5.view.read (Elt F) f) :=
  Memref.read_squeeze_full arg5 _ squeezes_S1x1x19456_S19456 f

theorem run_send {α : Type} (c : Dev nD) (arg5 : Memref sig .tc .vmem S1x1x19456 .i32) (arg14 : Memref sig .tc .smem S19456 .i32) (sem : DmaSem sig)
    (h0 : 0 < arg14.view.dmaCredit) (B : S1x1x19456.Idx → BitVec 32) {hsrc hdst hsem} {k : PUnit → Prog (TpuEff nD τ sig (Elt F) Λ₀ .tc) α} {K : α → sProp 𝕄} :
    iprop(owns (Val := Elt F) (c : Thread nD τ) arg5 fullShare B ∗ (∃ g, owns (Val := Elt F) (c : Thread nD τ) arg14 fullShare g) ∗ semVal ((c : Thread nD τ), SemLoc.dma sem) 0)
      ⊢ iprop((Sent (F := F) c arg5 arg14 sem B -∗ run c (k ⟨⟩) K)
        -∗ run c (.op (.enqueueDma (rowOf arg5) (.here arg14) (.dma sem) hsrc hdst hsem) k) K) := by
  iintro ⟨H5, ⟨%g, H14⟩, HS⟩ HK
  unfold owns
  icases H5 with ⟨%f5, %hf5, H5⟩
  icases H14 with ⟨%f14, %hf14, H14⟩
  ihave H5 := (pointsTo_split_subset (rowOf_set arg5)).1 $$ H5
  icases H5 with ⟨H5, HR⟩
  iapply (Transfers.wp_dmaLocal countersEmb Variants.none (c : Thread nD τ) none (src := rowOf arg5) () arg14.view.dmaCredit rfl h0 (le_refl _)) $$ [H5 H14 HS]
  · isplitl [H5]; · iexact H5
    isplitl [H14]; · iexact H14
    iexact HS
  iintro HF
  iapply HK
  unfold Sent
  iexists _, _
  isplitl [HF]; · iexact HF
  isplitl [HR]; · iexact HR
  ipureintro
  iintro ⟨⟨H14, H5⟩, HR⟩
  isplitl [H14]
  · unfold owns
    iexists _
    isplitr; swap; · iexact H14
    ipureintro
    rw [View.read_write_univ]
    exact (rowOf_read arg5 f5).trans (congrArg bundleOf hf5)
  · unfold owns
    iexists f5
    isplitr; · ipureintro; exact hf5
    iapply (pointsTo_split_subset (rowOf_set arg5)).2
    isplitl [H5]; · iexact H5
    iexact HR

theorem run_wait {α : Type} (c : Dev nD) (arg5 : Memref sig .tc .vmem S1x1x19456 .i32) (arg14 : Memref sig .tc .smem S19456 .i32) (sem : DmaSem sig)
    (B : S1x1x19456.Idx → BitVec 32) {srcw : Memref sig .tc .vmem S19456 .i32} {hsrc hdst} {k : PUnit → Prog (TpuEff nD τ sig (Elt F) Λ₀ .tc) α} {K : α → sProp 𝕄} (W : Waits sig Unit) :
    iprop(Sent (F := F) c arg5 arg14 sem B ∗ owes (c : Thread nD τ) 0 W)
      ⊢ iprop((owns (Val := Elt F) (c : Thread nD τ) arg5 fullShare B -∗ owns (Val := Elt F) (c : Thread nD τ) arg14 fullShare (bundleOf B)
          -∗ semVal ((c : Thread nD τ), SemLoc.dma sem) 0 -∗ owes (c : Thread nD τ) 0 (insert (SemLoc.dma sem, ()) W) -∗ run c (k ⟨⟩) K)
        -∗ run c (.op (.waitDma2 sem srcw arg14 hsrc hdst) k) K) := by
  unfold Sent
  iintro ⟨⟨%D, %R, HF, HR, %hD⟩, HW⟩ HK
  iapply (Transfers.wp_waitLocal countersEmb Variants.none (c : Thread nD τ) none () rfl) $$ [HF HW]
  · isplitl [HF]; · iexact HF
    iexact HW
  iintro ⟨HD, HS, HW⟩
  ihave H := hD $$ [HD HR]
  · isplitl [HD]; · iexact HD
    iexact HR
  icases H with ⟨H14, H5⟩
  iapply HK $$ H5 H14 HS HW

end Cert.Gnn.Gen
end
-- ==== Proof.GnnBody.lean ====
/- What the graph kernel's body computes, part by part: two rounds and the pooling, over buffers held at their contents. -/
module

public import proofs.«01_k».proof.Proof.GnnRound

@[expose] public section

noncomputable section

namespace Cert.Gnn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) {cs : CoreSpace} {s : Shape} {e : EltTy} (m : Memref sig .tc cs s e)

/-- A load of the whole buffer. -/
theorem run_loadf {α : Type} {off : Fin s.rank → ℕ} (h0 : off = fun _ => 0) {hin : ∀ a, off a + s.size a ≤ s.size a}
    {hl : m.view.LoadsAt (Rect.unit (s := s) off s.size hin).toLoadRect} {k : (s.Idx → Elt F e) → Prog (TpuEff nD τ sig (Elt F) Λ₀ .tc) α}
    (X : s.Idx → Elt F e) {K : α → sProp 𝕄} :
    (owns (c : Thread nD τ) m fullShare X)
      ⊢ iprop(((owns (c : Thread nD τ) m fullShare X) -∗ run c (k X) K) -∗ run c (.op (.load m (Rect.unit (s := s) off s.size hin).toLoadRect hl) k) K) := by
  subst h0
  have h := run_load c m (hl := hl) (k := k) X (K := K)
  rwa [load_full hin X] at h

/-- A store over the whole buffer. -/
theorem run_storef {α : Type} {off : Fin s.rank → ℕ} (h0 : off = fun _ => 0) {hin : ∀ a, off a + s.size a ≤ s.size a}
    {w : s.Idx → Elt F e} {hx : (m.access (Rect.unit (s := s) off s.size hin)).Stores Finset.univ} {hm}
    {k : PUnit → Prog (TpuEff nD τ sig (Elt F) Λ₀ .tc) α} (X : s.Idx → Elt F e) {K : α → sProp 𝕄} :
    (owns (c : Thread nD τ) m fullShare X)
      ⊢ iprop((owns (c : Thread nD τ) m fullShare w -∗ run c (k ⟨⟩) K) -∗ run c (.op (.store m (Rect.unit (s := s) off s.size hin) w Finset.univ hx hm) k) K) := by
  subst h0
  iintro H HK
  iapply (run_store c m X) $$ H; iintro %X' %hX' H
  obtain rfl := stored_full hin hX'
  iapply HK $$ H
end

/-- One strip laid down: its columns loaded, the buffer's old rows read for nothing, its rows stored. -/
theorem run_lay {α : Type} (c : Dev nD) (arg10 : Memref sig .tc .vmem S16384x128 .f32) (arg11 : Memref sig .tc .vmem S2048x768 .f32) (b : ℕ) (hb : b < 6)
    (P : Vec F S2048x128 .f32 → Vec F S2048x128 .f32) (hP : ∀ v, P v = v) {X : Vec F S16384x128 .f32} {h : Vec F S2048x768 .f32} (hL : Laid b X h)
    {hl1 hl2 hx hm} {k : PUnit → Prog (TpuEff nD τ sig (Elt F) Λ₀ .tc) α} {K : α → sProp 𝕄} :
    iprop(owns (c : Thread nD τ) arg11 fullShare h ∗ owns (c : Thread nD τ) arg10 fullShare X)
      ⊢ iprop((∀ X', ⌜Laid (b + 1) X' h⌝ -∗ owns (c : Thread nD τ) arg11 fullShare h -∗ owns (c : Thread nD τ) arg10 fullShare X' -∗ run c (k ⟨⟩) K)
        -∗ run c (.op (.load arg11 (Rect.unit (s := S2048x768) ![0, 128 * b] S2048x128.size (cols_inb b hb)).toLoadRect hl1) fun v =>
          .op (.load arg10 (⟨![b, 0], S2048x128.size, ![8, 1], lay_inb b hb⟩ : LoadRect S16384x128) hl2) fun _ =>
          .op (.store arg10 ⟨(⟨![b, 0], S2048x128.size, ![8, 1], lay_inb b hb⟩ : LoadRect S16384x128), spos_8_1⟩ (P v) Finset.univ hx hm) k) K) := by
  iintro ⟨H11, H10⟩ HK
  iapply (run_load c arg11 h) $$ H11; iintro H11
  iapply (run_load c arg10 X) $$ H10; iintro H10
  iapply (run_store c arg10 X) $$ H10; iintro %X' %hX' H10
  iapply HK $$ %X' %(laid_succ b hb hL (hP _) hX') H11 H10

/-- The store alone, its columns loaded before. -/
theorem run_laid {α : Type} (c : Dev nD) (arg10 : Memref sig .tc .vmem S16384x128 .f32) (b : ℕ) (hb : b < 6)
    {w : Vec F S2048x128 .f32} {X : Vec F S16384x128 .f32} {h : Vec F S2048x768 .f32} (hL : Laid b X h) (hw : w = cols h b hb)
    {hx hm} {k : PUnit → Prog (TpuEff nD τ sig (Elt F) Λ₀ .tc) α} {K : α → sProp 𝕄} :
    iprop(owns (c : Thread nD τ) arg10 fullShare X)
      ⊢ iprop((∀ X', ⌜Laid (b + 1) X' h⌝ -∗ owns (c : Thread nD τ) arg10 fullShare X' -∗ run c (k ⟨⟩) K)
        -∗ run c (.op (.store arg10 ⟨(⟨![b, 0], S2048x128.size, ![8, 1], lay_inb b hb⟩ : LoadRect S16384x128), spos_8_1⟩ w Finset.univ hx hm) k) K) := by
  iintro H10 HK
  iapply (run_store c arg10 X) $$ H10; iintro %X' %hX' H10
  iapply HK $$ %X' %(laid_succ b hb hL hw hX') H10

/-! ## The values -/

/-- Matrix `r` of the stacked weights. -/
def wRow0 (W : Vec F S2x768x768 .f32) : Vec F S1x768x768 .f32 := fun y =>
  W ((Rect.unit (s := S2x768x768) ![0, 0, 0] S1x768x768.size inb_S2x768x768_S1x768x768_0_0_0).idx y)
def wRow1 (W : Vec F S2x768x768 .f32) : Vec F S1x768x768 .f32 := fun y =>
  W ((Rect.unit (s := S2x768x768) ![1, 0, 0] S1x768x768.size inb_S2x768x768_S1x768x768_1_0_0).idx y)
/-- Row `r` of the biases. -/
def bRow0 (b : Vec F S8x768 .f32) : Vec F S1x768 .f32 := fun y => b ((Rect.unit (s := S8x768) ![0, 0] S1x768.size inb_S8x768_S1x768_0_0).idx y)
def bRow1 (b : Vec F S8x768 .f32) : Vec F S1x768 .f32 := fun y => b ((Rect.unit (s := S8x768) ![1, 0] S1x768.size inb_S8x768_S1x768_1_0).idx y)

theorem wRow0_eq (W : Vec F S2x768x768 .f32) : (fun y => W ((Rect.unit (s := S2x768x768) ![0, 0, 0] S1x768x768.size inb_S2x768x768_S1x768x768_0_0_0).idx y)) = wRow0 W := rfl
theorem wRow1_eq (W : Vec F S2x768x768 .f32) : (fun y => W ((Rect.unit (s := S2x768x768) ![1, 0, 0] S1x768x768.size inb_S2x768x768_S1x768x768_1_0_0).idx y)) = wRow1 W := rfl
theorem bRow0_eq (b : Vec F S8x768 .f32) : (fun y => b ((Rect.unit (s := S8x768) ![0, 0] S1x768.size inb_S8x768_S1x768_0_0).idx y)) = bRow0 b := rfl
theorem bRow1_eq (b : Vec F S8x768 .f32) : (fun y => b ((Rect.unit (s := S8x768) ![1, 0] S1x768.size inb_S8x768_S1x768_1_0).idx y)) = bRow1 b := rfl

/-- Features before the rounds, after one, after two. -/
def feat0 (x : Vec F S1x1x2048 .i32) (am : Vec F S128x768 .f32) : Vec F S2048x768 .f32 := k0_pay514 x am
def feat1 (h : Vec F S2048x768 .f32) (D : Vec F S1x72x1x256 .i32) (g : S19456.Idx → BitVec 32) (W : Vec F S2x768x768 .f32) (b : Vec F S8x768 .f32) : Vec F S2048x768 .f32 :=
  k0_pay525 (k0_pay524 h (agg D h g) (wRow0 W)) (bRow0 b)
def feat2 (h : Vec F S2048x768 .f32) (D : Vec F S1x72x1x256 .i32) (g : S19456.Idx → BitVec 32) (W : Vec F S2x768x768 .f32) (b : Vec F S8x768 .f32) : Vec F S2048x768 .f32 :=
  k0_pay535 h (agg D h g) (wRow1 W) (bRow1 b)

section
variable (i : grid0.Coords) (arg2 : Memref sig .tc .vmem S1x1x2048 .i32) (harg2 : arg2.IsWhole) (arg3 : Memref sig .tc .vmem S1x1x2048 .i32) (harg3 : arg3.IsWhole) (arg4 : Memref sig .tc .vmem S1x72x1x256 .i32) (harg4 : arg4.IsWhole) (arg5 : Memref sig .tc .vmem S1x1x19456 .i32) (harg5 : arg5.IsWhole) (arg6 : Memref sig .tc .vmem S128x768 .f32) (harg6 : arg6.IsWhole) (arg7 : Memref sig .tc .vmem S2x768x768 .f32) (harg7 : arg7.IsWhole) (arg8 : Memref sig .tc .vmem S8x768 .f32) (harg8 : arg8.IsWhole) (arg9 : Memref sig .tc .vmem S1x32x768 .f32) (harg9 : arg9.IsWhole) (arg10 : Memref sig .tc .vmem S16384x128 .f32) (harg10 : arg10.IsWhole) (arg11 : Memref sig .tc .vmem S2048x768 .f32) (harg11 : arg11.IsWhole) (arg12 : Memref sig .tc .vmem S2048x768 .f32) (harg12 : arg12.IsWhole) (arg13 : Memref sig .tc .vmem S2056x128 .f32) (harg13 : arg13.IsWhole) (arg14 : Memref sig .tc .smem S19456 .i32) (harg14 : arg14.IsWhole) (arg15 : DmaSems sig S_)
variable (c : Dev nD)

theorem part131_spec (x : Vec F S1x1x2048 .i32) (B : S1x1x19456.Idx → BitVec 32) (am : Vec F S128x768 .f32) (hc : 0 < arg14.view.dmaCredit) (W : Waits sig Unit)
    (K : (Σ' (arg1 : BitVec 32), Vec F S2048x128 .f32) → sProp 𝕄) :
    iprop(owns (Val := Elt F) (c : Thread nD τ) arg2 fullShare x ∗ owns (Val := Elt F) (c : Thread nD τ) arg5 fullShare B ∗ owns (c : Thread nD τ) arg6 fullShare am
      ∗ (∃ X, owns (c : Thread nD τ) arg10 fullShare X) ∗ (∃ h, owns (c : Thread nD τ) arg11 fullShare h) ∗ (∃ g, owns (Val := Elt F) (c : Thread nD τ) arg14 fullShare g)
      ∗ semVal ((c : Thread nD τ), SemLoc.dma arg15.sem) 0 ∗ owes (c : Thread nD τ) 0 W
      ∗ (∀ X, ⌜Laid 2 X (feat0 x am)⌝ -∗ owns (Val := Elt F) (c : Thread nD τ) arg2 fullShare x -∗ owns (Val := Elt F) (c : Thread nD τ) arg5 fullShare B -∗ owns (c : Thread nD τ) arg6 fullShare am
        -∗ owns (c : Thread nD τ) arg10 fullShare X -∗ owns (c : Thread nD τ) arg11 fullShare (feat0 x am) -∗ owns (Val := Elt F) (c : Thread nD τ) arg14 fullShare (bundleOf B)
        -∗ semVal ((c : Thread nD τ), SemLoc.dma arg15.sem) 0 -∗ (∃ W', owes (c : Thread nD τ) 0 W') -∗ ∀ a v, ⌜v = cols (feat0 x am) 2 (by decide)⌝ -∗ K ⟨a, v⟩))
      ⊢ run c (k0_part131 (F := F) i arg2 harg2 arg3 harg3 arg4 harg4 arg5 harg5 arg6 harg6 arg7 harg7 arg8 harg8 arg9 harg9 arg10 harg10 arg11 harg11 arg12 harg12 arg13 harg13 arg14 harg14 arg15) K := by
  rw [k0_part131_eq_skeleton]
  unfold k0_part131_skel
  iintro ⟨H2, H5, H6, ⟨%X, H10⟩, ⟨%h, H11⟩, H14, HS, HW, HK⟩
  iapply (run_send c arg5 arg14 arg15.sem hc B) $$ [H5 H14 HS]
  · isplitl [H5]; · iexact H5
    isplitl [H14]; · iexact H14
    iexact HS
  iintro HF
  iapply (run_loadf c arg2 off3 x) $$ H2; iintro H2
  iapply (run_loadf c arg6 off2 am) $$ H6; iintro H6
  iapply (run_loadf c arg11 off2 h) $$ H11; iintro H11
  iapply (run_storef c arg11 off2 h) $$ H11; iintro H11
  iapply (run_wait c arg5 arg14 arg15.sem B W) $$ [HF HW]
  · isplitl [HF]; · iexact HF
    iexact HW
  iintro H5 H14 HS HW
  iapply (run_lay c arg10 arg11 0 (by decide) k0_pay515 (fun v => by unfold k0_pay515; exact shapeCast_self _ _) (laid_zero X (feat0 x am))) $$ [H11 H10]
  · isplitl [H11]; · iexact H11
    iexact H10
  iintro %X1 %hX1 H11 H10
  iapply (run_lay c arg10 arg11 1 (by decide) k0_pay516 (fun v => by unfold k0_pay516; exact shapeCast_self _ _) hX1) $$ [H11 H10]
  · isplitl [H11]; · iexact H11
    iexact H10
  iintro %X2 %hX2 H11 H10
  iapply (run_load c arg11 (feat0 x am)) $$ H11; iintro H11
  iapply (run_load c arg10 X2) $$ H10; iintro H10
  unfold run
  simp only [Prog.bind]
  rw [wp_pure]
  imodintro
  iapply HK $$ %X2 %hX2 H2 H5 H6 H10 H11 H14 HS [HW] %_ %_ %_
  · iexists _; iexact HW
  · rfl

theorem part132_spec (v24 : Vec F S2048x128 .f32) (D : Vec F S1x72x1x256 .i32) (h : Vec F S2048x768 .f32) (X : Vec F S16384x128 .f32) (hX : Laid 2 X h)
    (hv : v24 = cols h 2 (by decide)) (g : S19456.Idx → BitVec 32) (hg : Good g) (W : Vec F S2x768x768 .f32) (b : Vec F S8x768 .f32)
    (K : (Σ' (v50 : FVec F S2048x768 .f32), Vec F S1x768 .f32) → sProp 𝕄) :
    iprop(owns (c : Thread nD τ) arg4 fullShare D ∗ owns (c : Thread nD τ) arg7 fullShare W ∗ owns (c : Thread nD τ) arg8 fullShare b ∗ owns (c : Thread nD τ) arg10 fullShare X ∗ owns (c : Thread nD τ) arg11 fullShare h ∗ (∃ A, owns (c : Thread nD τ) arg12 fullShare A) ∗ (∃ T, owns (c : Thread nD τ) arg13 fullShare T) ∗ owns (Val := Elt F) (c : Thread nD τ) arg14 fullShare g
      ∗ (owns (c : Thread nD τ) arg4 fullShare D -∗ owns (c : Thread nD τ) arg7 fullShare W -∗ owns (c : Thread nD τ) arg8 fullShare b -∗ (∃ X, owns (c : Thread nD τ) arg10 fullShare X) -∗ owns (c : Thread nD τ) arg11 fullShare h -∗ (∃ A, owns (c : Thread nD τ) arg12 fullShare A) -∗ (∃ T, owns (c : Thread nD τ) arg13 fullShare T) -∗ owns (Val := Elt F) (c : Thread nD τ) arg14 fullShare g
        -∗ K ⟨k0_pay524 h (agg D h g) (wRow0 W), bRow0 b⟩))
      ⊢ run c (k0_part132 (F := F) i arg2 harg2 arg3 harg3 arg4 harg4 arg5 harg5 arg6 harg6 arg7 harg7 arg8 harg8 arg9 harg9 arg10 harg10 arg11 harg11 arg12 harg12 arg13 harg13 arg14 harg14 arg15 v24) K := by
  rw [k0_part132_eq_skeleton]
  unfold k0_part132_skel
  iintro ⟨H4, H7, H8, H10, H11, ⟨%A, H12⟩, H13, H14, HK⟩
  iapply (run_laid c arg10 2 (by decide) hX ((by unfold k0_pay517; exact shapeCast_self _ _ : k0_pay517 v24 = v24).trans hv)) $$ H10; iintro %X3 %hX3 H10
  iapply (run_lay c arg10 arg11 3 (by decide) k0_pay518 (fun v => by unfold k0_pay518; exact shapeCast_self _ _) hX3) $$ [H11 H10]
  · isplitl [H11]; · iexact H11
    iexact H10
  iintro %X4 %hX4 H11 H10
  iapply (run_lay c arg10 arg11 4 (by decide) k0_pay519 (fun v => by unfold k0_pay519; exact shapeCast_self _ _) hX4) $$ [H11 H10]
  · isplitl [H11]; · iexact H11
    iexact H10
  iintro %X5 %hX5 H11 H10
  iapply (run_lay c arg10 arg11 5 (by decide) k0_pay520 (fun v => by unfold k0_pay520; exact shapeCast_self _ _) hX5) $$ [H11 H10]
  · isplitl [H11]; · iexact H11
    iexact H10
  iintro %XL %hXL H11 H10
  iapply (run_loadf c arg12 off2 A) $$ H12; iintro H12
  iapply (run_storef c arg12 off2 A) $$ H12; iintro H12
  unfold run
  simp only [Prog.bind]
  rw [wp_bind]
  iapply (loop_spec c arg4 arg10 arg12 arg13 arg14 k0_t1_loop trips1 _ (fun t ht => body1_eq i arg2 harg2 arg3 harg3 arg4 harg4 arg5 harg5 arg6 harg6 arg7 harg7 arg8 harg8 arg9 harg9 arg10 harg10 arg11 harg11 arg12 harg12 arg13 harg13 arg14 harg14 arg15 v24 t ht) D XL h hXL g hg k0_t1_ok)
  isplitl [H4]; · iexact H4
  isplitl [H10]; · iexact H10
  isplitl [H12]; · iexact H12
  isplitl [H13]; · iexact H13
  isplitl [H14]; · iexact H14
  iintro H4 H10 H12 H13 H14
  iapply (run_loadf c arg11 off2 h) $$ H11; iintro H11
  iapply (run_loadf c arg12 off2 (agg D h g)) $$ H12; iintro H12
  iapply (run_load c arg7 W) $$ H7; iintro H7
  rw [wRow0_eq]
  iapply (run_load c arg8 b) $$ H8; iintro H8
  rw [bRow0_eq]
  unfold run
  simp only [Prog.bind]
  rw [wp_pure]
  imodintro
  iapply HK $$ H4 H7 H8 [H10] H11 [H12] H13 H14
  · iexists _; iexact H10
  · iexists _; iexact H12

theorem part133_spec (v50 : FVec F S2048x768 .f32) (v51 : Vec F S1x768 .f32) (K : PUnit → sProp 𝕄) :
    iprop((∃ X, owns (c : Thread nD τ) arg10 fullShare X) ∗ (∃ h, owns (c : Thread nD τ) arg11 fullShare h)
      ∗ (∀ X, ⌜Laid 5 X (k0_pay525 v50 v51)⌝ -∗ owns (c : Thread nD τ) arg10 fullShare X -∗ owns (c : Thread nD τ) arg11 fullShare (k0_pay525 v50 v51) -∗ K ⟨⟩))
      ⊢ run c (k0_part133 (F := F) i arg2 harg2 arg3 harg3 arg4 harg4 arg5 harg5 arg6 harg6 arg7 harg7 arg8 harg8 arg9 harg9 arg10 harg10 arg11 harg11 arg12 harg12 arg13 harg13 arg14 harg14 arg15 v50 v51) K := by
  rw [k0_part133_eq_skeleton]
  unfold k0_part133_skel
  iintro ⟨⟨%X, H10⟩, ⟨%h, H11⟩, HK⟩
  iapply (run_loadf c arg11 off2 h) $$ H11; iintro H11
  iapply (run_storef c arg11 off2 h) $$ H11; iintro H11
  iapply (run_lay c arg10 arg11 0 (by decide) k0_pay526 (fun v => by unfold k0_pay526; exact shapeCast_self _ _) (laid_zero X (k0_pay525 v50 v51))) $$ [H11 H10]
  · isplitl [H11]; · iexact H11
    iexact H10
  iintro %X1 %hX1 H11 H10
  iapply (run_lay c arg10 arg11 1 (by decide) k0_pay527 (fun v => by unfold k0_pay527; exact shapeCast_self _ _) hX1) $$ [H11 H10]
  · isplitl [H11]; · iexact H11
    iexact H10
  iintro %X2 %hX2 H11 H10
  iapply (run_lay c arg10 arg11 2 (by decide) k0_pay528 (fun v => by unfold k0_pay528; exact shapeCast_self _ _) hX2) $$ [H11 H10]
  · isplitl [H11]; · iexact H11
    iexact H10
  iintro %X3 %hX3 H11 H10
  iapply (run_lay c arg10 arg11 3 (by decide) k0_pay529 (fun v => by unfold k0_pay529; exact shapeCast_self _ _) hX3) $$ [H11 H10]
  · isplitl [H11]; · iexact H11
    iexact H10
  iintro %X4 %hX4 H11 H10
  iapply (run_lay c arg10 arg11 4 (by decide) k0_pay530 (fun v => by unfold k0_pay530; exact shapeCast_self _ _) hX4) $$ [H11 H10]
  · isplitl [H11]; · iexact H11
    iexact H10
  iintro %X5 %hX5 H11 H10
  unfold run
  simp only [Prog.bind]
  rw [wp_pure]
  imodintro
  iapply HK $$ %X5 %hX5 H10 H11

theorem part134_spec (bs : Vec F S1x1x2048 .i32) (D : Vec F S1x72x1x256 .i32) (h : Vec F S2048x768 .f32) (X : Vec F S16384x128 .f32) (hX : Laid 5 X h)
    (g : S19456.Idx → BitVec 32) (hg : Good g) (W : Vec F S2x768x768 .f32) (b : Vec F S8x768 .f32) (K : IVec S32x2048 32 → sProp 𝕄) :
    iprop(owns (Val := Elt F) (c : Thread nD τ) arg3 fullShare bs ∗ owns (c : Thread nD τ) arg4 fullShare D ∗ owns (c : Thread nD τ) arg7 fullShare W ∗ owns (c : Thread nD τ) arg8 fullShare b ∗ owns (c : Thread nD τ) arg10 fullShare X ∗ owns (c : Thread nD τ) arg11 fullShare h ∗ (∃ A, owns (c : Thread nD τ) arg12 fullShare A) ∗ (∃ T, owns (c : Thread nD τ) arg13 fullShare T) ∗ owns (Val := Elt F) (c : Thread nD τ) arg14 fullShare g
      ∗ (owns (Val := Elt F) (c : Thread nD τ) arg3 fullShare bs -∗ owns (c : Thread nD τ) arg4 fullShare D -∗ owns (c : Thread nD τ) arg7 fullShare W -∗ owns (c : Thread nD τ) arg8 fullShare b -∗ (∃ X, owns (c : Thread nD τ) arg10 fullShare X) -∗ owns (c : Thread nD τ) arg11 fullShare (feat2 h D g W b) -∗ (∃ A, owns (c : Thread nD τ) arg12 fullShare A) -∗ (∃ T, owns (c : Thread nD τ) arg13 fullShare T) -∗ owns (Val := Elt F) (c : Thread nD τ) arg14 fullShare g
        -∗ K (k0_pay536 bs)))
      ⊢ run c (k0_part134 (F := F) i arg2 harg2 arg3 harg3 arg4 harg4 arg5 harg5 arg6 harg6 arg7 harg7 arg8 harg8 arg9 harg9 arg10 harg10 arg11 harg11 arg12 harg12 arg13 harg13 arg14 harg14 arg15) K := by
  rw [k0_part134_eq_skeleton]
  unfold k0_part134_skel feat2
  iintro ⟨H3, H4, H7, H8, H10, H11, ⟨%A, H12⟩, H13, H14, HK⟩
  iapply (run_lay c arg10 arg11 5 (by decide) k0_pay531 (fun v => by unfold k0_pay531; exact shapeCast_self _ _) hX) $$ [H11 H10]
  · isplitl [H11]; · iexact H11
    iexact H10
  iintro %XL %hXL H11 H10
  iapply (run_loadf c arg12 off2 A) $$ H12; iintro H12
  iapply (run_storef c arg12 off2 A) $$ H12; iintro H12
  unfold run
  simp only [Prog.bind]
  rw [wp_bind]
  iapply (loop_spec c arg4 arg10 arg12 arg13 arg14 k0_t2_loop trips2 _ (fun t ht => body2_eq i arg2 harg2 arg3 harg3 arg4 harg4 arg5 harg5 arg6 harg6 arg7 harg7 arg8 harg8 arg9 harg9 arg10 harg10 arg11 harg11 arg12 harg12 arg13 harg13 arg14 harg14 arg15 t ht) D XL h hXL g hg k0_t2_ok)
  isplitl [H4]; · iexact H4
  isplitl [H10]; · iexact H10
  isplitl [H12]; · iexact H12
  isplitl [H13]; · iexact H13
  isplitl [H14]; · iexact H14
  iintro H4 H10 H12 H13 H14
  iapply (run_loadf c arg11 off2 h) $$ H11; iintro H11
  iapply (run_loadf c arg12 off2 (agg D h g)) $$ H12; iintro H12
  iapply (run_load c arg7 W) $$ H7; iintro H7
  rw [wRow1_eq]
  iapply (run_load c arg8 b) $$ H8; iintro H8
  rw [bRow1_eq]
  iapply (run_loadf c arg11 off2 h) $$ H11; iintro H11
  iapply (run_storef c arg11 off2 h) $$ H11; iintro H11
  iapply (run_loadf c arg3 off3 bs) $$ H3; iintro H3
  unfold run
  simp only [Prog.bind]
  rw [wp_pure]
  imodintro
  iapply HK $$ H3 H4 H7 H8 [H10] H11 [H12] H13 H14
  · iexists _; iexact H10
  · iexists _; iexact H12

/-- The features after both rounds, from the blocks. -/
def feats (x : Vec F S1x1x2048 .i32) (D : Vec F S1x72x1x256 .i32) (B : S1x1x19456.Idx → BitVec 32) (am : Vec F S128x768 .f32) (W : Vec F S2x768x768 .f32) (b : Vec F S8x768 .f32) : Vec F S2048x768 .f32 :=
  feat2 (feat1 (feat0 x am) D (bundleOf B) W b) D (bundleOf B) W b

/-- The output block after a point: pooled features, alone at the first point of a sum and added to what is there at the second. -/
def pooled (i : grid0.Coords) (bs : Vec F S1x1x2048 .i32) (h : Vec F S2048x768 .f32) (prev : Vec F S1x32x768 .f32) : Vec F S1x32x768 .f32 :=
  let first := if k0_cond1 i = 1#1 then k0_pay2 (k0_pay536 bs) h else prev
  if k0_cond2 i = 1#1 then k0_pay3 (k0_pay536 bs) h first else first

/-- The last step: the block read and overwritten, or left. -/
theorem last_spec (P : Prop) [Decidable P] (w : Vec F S1x32x768 .f32 → Vec F S1x32x768 .f32) (o : Vec F S1x32x768 .f32) (K : PUnit → sProp 𝕄) {hl hl' hx} {hm} :
    iprop(owns (c : Thread nD τ) arg9 fullShare o ∗ (owns (c : Thread nD τ) arg9 fullShare (if P then w o else o) -∗ K ⟨⟩))
      ⊢ run c (if h : P then
          (.op (.load arg9 (Rect.unit (s := S1x32x768) ![0, 0, 0] S1x32x768.size inb_S1x32x768_S1x32x768_0_0_0).toLoadRect hl) fun v =>
            .op (.load arg9 (Rect.unit (s := S1x32x768) ![0, 0, 0] S1x32x768.size inb_S1x32x768_S1x32x768_0_0_0).toLoadRect hl') fun _ =>
            .op (.store arg9 (Rect.unit (s := S1x32x768) ![0, 0, 0] S1x32x768.size inb_S1x32x768_S1x32x768_0_0_0) (w v) Finset.univ hx hm) fun _ => Prog.ret ⟨⟩)
        else Prog.ret ⟨⟩) K := by
  by_cases h : P
  · simp only [h, ↓reduceDIte, ↓reduceIte]
    iintro ⟨H9, HK⟩
    iapply (run_loadf c arg9 off3 o) $$ H9; iintro H9
    iapply (run_loadf c arg9 off3 o) $$ H9; iintro H9
    iapply (run_storef c arg9 off3 o) $$ H9; iintro H9
    unfold run
    rw [wp_ret]
    imodintro
    iapply HK $$ H9
  · simp only [h, ↓reduceDIte, ↓reduceIte]
    iintro ⟨H9, HK⟩
    unfold run
    rw [wp_ret]
    imodintro
    iapply HK $$ H9

theorem body_spec (x : Vec F S1x1x2048 .i32) (bs : Vec F S1x1x2048 .i32) (D : Vec F S1x72x1x256 .i32) (B : S1x1x19456.Idx → BitVec 32) (hg : Good (bundleOf B))
    (am : Vec F S128x768 .f32) (W : Vec F S2x768x768 .f32) (b : Vec F S8x768 .f32) (o : Vec F S1x32x768 .f32) (hc : 0 < arg14.view.dmaCredit) (Ws : Waits sig Unit)
    (K : PUnit → sProp 𝕄) :
    iprop(owns (Val := Elt F) (c : Thread nD τ) arg2 fullShare x ∗ owns (Val := Elt F) (c : Thread nD τ) arg3 fullShare bs ∗ owns (c : Thread nD τ) arg4 fullShare D ∗ owns (Val := Elt F) (c : Thread nD τ) arg5 fullShare B ∗ owns (c : Thread nD τ) arg6 fullShare am ∗ owns (c : Thread nD τ) arg7 fullShare W ∗ owns (c : Thread nD τ) arg8 fullShare b ∗ owns (c : Thread nD τ) arg9 fullShare o
      ∗ (∃ X, owns (c : Thread nD τ) arg10 fullShare X) ∗ (∃ h, owns (c : Thread nD τ) arg11 fullShare h) ∗ (∃ A, owns (c : Thread nD τ) arg12 fullShare A) ∗ (∃ T, owns (c : Thread nD τ) arg13 fullShare T) ∗ (∃ g, owns (Val := Elt F) (c : Thread nD τ) arg14 fullShare g)
      ∗ semVal ((c : Thread nD τ), SemLoc.dma arg15.sem) 0 ∗ owes (c : Thread nD τ) 0 Ws
      ∗ (owns (Val := Elt F) (c : Thread nD τ) arg2 fullShare x -∗ owns (Val := Elt F) (c : Thread nD τ) arg3 fullShare bs -∗ owns (c : Thread nD τ) arg4 fullShare D -∗ owns (Val := Elt F) (c : Thread nD τ) arg5 fullShare B -∗ owns (c : Thread nD τ) arg6 fullShare am -∗ owns (c : Thread nD τ) arg7 fullShare W -∗ owns (c : Thread nD τ) arg8 fullShare b -∗ owns (c : Thread nD τ) arg9 fullShare (pooled i bs (feats x D B am W b) o)
        -∗ (∃ X, owns (c : Thread nD τ) arg10 fullShare X) -∗ (∃ h, owns (c : Thread nD τ) arg11 fullShare h) -∗ (∃ A, owns (c : Thread nD τ) arg12 fullShare A) -∗ (∃ T, owns (c : Thread nD τ) arg13 fullShare T) -∗ (∃ g, owns (Val := Elt F) (c : Thread nD τ) arg14 fullShare g)
        -∗ semVal ((c : Thread nD τ), SemLoc.dma arg15.sem) 0 -∗ (∃ W', owes (c : Thread nD τ) 0 W') -∗ K ⟨⟩))
      ⊢ run c (cc0__gnn_kernel (F := F) i arg2 harg2 arg3 harg3 arg4 harg4 arg5 harg5 arg6 harg6 arg7 harg7 arg8 harg8 arg9 harg9 arg10 harg10 arg11 harg11 arg12 harg12 arg13 harg13 arg14 harg14 arg15) K := by
  rw [cc0__gnn_kernel_eq_skeleton]
  unfold cc0__gnn_kernel_skel feats
  iintro ⟨H2, H3, H4, H5, H6, H7, H8, H9, H10, H11, H12, H13, H14, HS, HW, HK⟩
  unfold run
  rw [wp_bind]
  iapply (part131_spec i arg2 harg2 arg3 harg3 arg4 harg4 arg5 harg5 arg6 harg6 arg7 harg7 arg8 harg8 arg9 harg9 arg10 harg10 arg11 harg11 arg12 harg12 arg13 harg13 arg14 harg14 arg15 c x B am hc Ws)
  isplitl [H2]; · iexact H2
  isplitl [H5]; · iexact H5
  isplitl [H6]; · iexact H6
  isplitl [H10]; · iexact H10
  isplitl [H11]; · iexact H11
  isplitl [H14]; · iexact H14
  isplitl [HS]; · iexact HS
  isplitl [HW]; · iexact HW
  iintro %X %hX H2 H5 H6 H10 H11 H14 HS HW %a %v %hv
  dsimp only
  rw [wp_bind]
  iapply (part132_spec i arg2 harg2 arg3 harg3 arg4 harg4 arg5 harg5 arg6 harg6 arg7 harg7 arg8 harg8 arg9 harg9 arg10 harg10 arg11 harg11 arg12 harg12 arg13 harg13 arg14 harg14 arg15 c v D (feat0 x am) X hX hv (bundleOf B) hg W b)
  isplitl [H4]; · iexact H4
  isplitl [H7]; · iexact H7
  isplitl [H8]; · iexact H8
  isplitl [H10]; · iexact H10
  isplitl [H11]; · iexact H11
  isplitl [H12]; · iexact H12
  isplitl [H13]; · iexact H13
  isplitl [H14]; · iexact H14
  iintro H4 H7 H8 H10 H11 H12 H13 H14
  dsimp only
  rw [wp_bind]
  iapply (part133_spec i arg2 harg2 arg3 harg3 arg4 harg4 arg5 harg5 arg6 harg6 arg7 harg7 arg8 harg8 arg9 harg9 arg10 harg10 arg11 harg11 arg12 harg12 arg13 harg13 arg14 harg14 arg15 c)
  isplitl [H10]; · iexact H10
  isplitl [H11]; · iexists _; iexact H11
  iintro %X5 %hX5 H10 H11
  rw [wp_bind]
  iapply (part134_spec i arg2 harg2 arg3 harg3 arg4 harg4 arg5 harg5 arg6 harg6 arg7 harg7 arg8 harg8 arg9 harg9 arg10 harg10 arg11 harg11 arg12 harg12 arg13 harg13 arg14 harg14 arg15 c bs D (feat1 (feat0 x am) D (bundleOf B) W b) X5 hX5 (bundleOf B) hg W b)
  isplitl [H3]; · iexact H3
  isplitl [H4]; · iexact H4
  isplitl [H7]; · iexact H7
  isplitl [H8]; · iexact H8
  isplitl [H10]; · iexact H10
  isplitl [H11]; · iexact H11
  isplitl [H12]; · iexact H12
  isplitl [H13]; · iexact H13
  isplitl [H14]; · iexact H14
  iintro H3 H4 H7 H8 H10 H11 H12 H13 H14
  iapply (run_loadf c arg11 off2 (feat2 (feat1 (feat0 x am) D (bundleOf B) W b) D (bundleOf B) W b)) $$ H11; iintro H11
  unfold pooled
  by_cases h1 : k0_cond1 i = 1#1
  · simp only [h1, ↓reduceDIte, ↓reduceIte]
    iapply (run_loadf c arg9 off3 o) $$ H9; iintro H9
    iapply (run_storef c arg9 off3 o) $$ H9; iintro H9
    iapply (last_spec arg9 c (k0_cond2 i = 1#1) (k0_pay3 (k0_pay536 bs) (feat2 (feat1 (feat0 x am) D (bundleOf B) W b) D (bundleOf B) W b)))
    isplitl [H9]; · iexact H9
    iintro H9
    iapply HK $$ H2 H3 H4 H5 H6 H7 H8 H9 H10 [H11] H12 H13 [H14] HS HW
    · iexists _; iexact H11
    · iexists _; iexact H14
  · simp only [h1, ↓reduceDIte, ↓reduceIte]
    iapply (last_spec arg9 c (k0_cond2 i = 1#1) (k0_pay3 (k0_pay536 bs) (feat2 (feat1 (feat0 x am) D (bundleOf B) W b) D (bundleOf B) W b)))
    isplitl [H9]; · iexact H9
    iintro H9
    iapply HK $$ H2 H3 H4 H5 H6 H7 H8 H9 H10 [H11] H12 H13 [H14] HS HW
    · iexists _; iexact H11
    · iexists _; iexact H14
end

end Cert.Gnn.Gen
end
-- ==== Proof.GnnFrame.lean ====
/- The graph kernel's launch: what every block of the result holds at the end, and the frame. -/
module

public import proofs.«01_k».proof.Proof.GnnBody
public import proofs.«01_k».proof.Proof.Gen.Gnn.Frame
public import proofs.«01_k».proof.Proof.Gen.Gnn.Launch
public import proofs.«01_k».proof.Proof.Gen.Gnn.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Gnn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The points of the grid -/

theorem hcond_1 (t : Fin cfg0.N) : k0_cond1 (grid0.coords t) = 1#1 ↔ t.val % 2 = 0 := by
  have e1 : (grid0.coords t 1).val = t.val / 1 % 2 := Pipeline.Grid.coords_val t 1 (by decide) rfl
  simp only [k0_cond1, e1]; word_cmp

theorem hcond_2 (t : Fin cfg0.N) : k0_cond2 (grid0.coords t) = 1#1 ↔ t.val % 2 = 1 := by
  have e1 : (grid0.coords t 1).val = t.val / 1 % 2 := Pipeline.Grid.coords_val t 1 (by decide) rfl
  simp only [k0_cond2, e1]; word_cmp

/-- The result's window is written at every point. -/
theorem busy7 (t : Fin cfg0.N) : cfg0.idle 7 (cfg0.grid.coords t) = false := by
  show (!(k0_cond1 (grid0.coords t) == 1#1) && !(k0_cond2 (grid0.coords t) == 1#1)) = false
  rcases Nat.mod_two_eq_zero_or_one t.val with h | h
  · rw [(hcond_1 t).mpr h]; rfl
  · rw [(hcond_2 t).mpr h]; cases (k0_cond1 (grid0.coords t) == 1#1) <;> rfl

/-! ## What the points leave -/

/-- The node features after both rounds, of the graph of point `t`. -/
def featsAt (c : Dev nD) (t : Fin cfg0.N) : Vec F S2048x768 .f32 :=
  feats (iblk m c 0 t) (iblk m c 2 t) (iblk m c 3 t) (iblk m c 4 t) (iblk m c 5 t) (iblk m c 6 t)

/-- The point before. -/
def prevPt (t : Fin cfg0.N) : Fin cfg0.N := ⟨t.val - 1, Nat.lt_of_le_of_lt (Nat.sub_le _ _) t.isLt⟩

/-- What a first point leaves in the result's block: its graph's means. -/
def outFst (c : Dev nD) (t : Fin cfg0.N) : Vec F S1x32x768 .f32 := k0_pay2 (k0_pay536 (iblk m c 1 t)) (featsAt m c t)

/-- What point `t` leaves there: a first point its graph's means, a second one the sum with them. -/
def outAt (c : Dev nD) (t : Fin cfg0.N) : Vec F S1x32x768 .f32 :=
  if t.val % 2 = 0 then outFst m c t else k0_pay3 (k0_pay536 (iblk m c 1 t)) (featsAt m c t) (outFst m c (prevPt t))

/-- What the body leaves at a first point, whatever it found. -/
theorem pooled_fst (c : Dev nD) (t : Fin cfg0.N) (h : t.val % 2 = 0) (X : Vec F S1x32x768 .f32) :
    pooled (grid0.coords t) (iblk m c 1 t) (featsAt m c t) X = outAt m c t := by
  unfold pooled outAt outFst
  rw [if_pos h, if_pos ((hcond_1 t).mpr h), if_neg (fun h' => by have := (hcond_2 t).mp h'; omega)]

/-- What it leaves at a second point, over what the first left. -/
theorem pooled_snd (c : Dev nD) (t : Fin cfg0.N) (h : t.val % 2 = 1) :
    pooled (grid0.coords t) (iblk m c 1 t) (featsAt m c t) (outAt m c (prevPt t)) = outAt m c t := by
  have h' : ¬ t.val % 2 = 0 := by omega
  have hp : (prevPt t).val % 2 = 0 := by show (t.val - 1) % 2 = 0; omega
  unfold pooled
  rw [show outAt m c (prevPt t) = outFst m c (prevPt t) from by unfold outAt; rw [if_pos hp]]
  unfold outAt
  rw [if_neg h', if_pos ((hcond_2 t).mpr h), if_neg (fun h'' => h' ((hcond_1 t).mp h''))]

/-! ## The proof data -/

abbrev osem0 : Fin 1 → SemLoc sig := ![SemLoc.dma 13]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0) := by
  rw [Pipeline.ownSems0_eq_of_list c osem0 [0] (by decide) (by decide)]; rfl
abbrev H0 : Finset (Ref sig .tc) := ∅
theorem H0_sub : H0 ⊆ Pipeline.restRefs sig spec0 := by decide

theorem PhiD0_eq (c : Dev nD) :
    (Pipeline.ΦD osem0 spec0 H0 (V m) c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (Val := Elt F) (c : Thread nD τ) (Memref.whole cc0_scratch4) fullShare d))
          ∗ (∃ r, prngReg c r) ∗ semVal ((c : Thread nD τ), SemLoc.dma 13) 0 ∗ bigSep H0 fun b => ((c.tc : Thread nD τ).loc b) ↦{fullShare} V m c b) := by
  rw [Pipeline.ΦD_eq, scopedRest0_eq, ownSems00_eq]
  simp only [owns_whole]
  try rfl

/-- The proof data: every array as launched, each input's buffer at its block, the result's at `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; rfl) t d).trans rfl
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; rfl) t d).trans rfl
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; rfl) t d).trans rfl

/-- A second point finds in the result's buffer what the first left. -/
theorem before0_7 (c : Dev nD) (t : Fin cfg0.N) (h : t.val % 2 = 1) (d) : (dats m 0 c).before 7 t d = outAt m c (prevPt t) := by
  have hf : (cfg0.win 7).fetch t = false := rfl
  have hfl : (cfg0.win 7).flush (prevPt t) = false := by
    rw [Bool.eq_false_iff]; intro h'; have := (flush0_7 _).mp h'
    have : (t.val - 1) % 2 = 1 := this
    omega
  rw [Dat.before_of_pos _ 7 t (by omega) hf d]
  rw [show (⟨t.val - 1, _⟩ : Fin cfg0.N) = prevPt t from rfl, hfl]
  show (dats m 0 c).left 7 (prevPt t) d = _
  unfold Dat.left
  rw [busy7 (prevPt t)]
  show (dats m 0 c).kept 7 (prevPt t) d = _
  exact after0_7 m c (prevPt t)

/-! ## The body, at a point -/

section
variable (hg : ∀ c t, Good (bundleOf (iblk m c 3 t)))
include hg

/-- The buffers the body is called with, and what it gives back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  rw [show (dats m 0 c).leavesExact 0 t = owns (c : Thread nD τ) (st0_0 t) fullShare (iblk m c 0 t) from by
    rw [← after0_0]]
  rw [show (dats m 0 c).leavesExact 1 t = owns (c : Thread nD τ) (st0_1 t) fullShare (iblk m c 1 t) from by
    rw [← after0_1]]
  rw [show (dats m 0 c).leavesExact 2 t = owns (c : Thread nD τ) (st0_2 t) fullShare (iblk m c 2 t) from by
    rw [← after0_2]]
  rw [show (dats m 0 c).leavesExact 3 t = owns (c : Thread nD τ) (st0_3 t) fullShare (iblk m c 3 t) from by
    rw [← after0_3]]
  rw [show (dats m 0 c).leavesExact 4 t = owns (c : Thread nD τ) (st0_4 t) fullShare (iblk m c 4 t) from by
    rw [← after0_4]]
  rw [show (dats m 0 c).leavesExact 5 t = owns (c : Thread nD τ) (st0_5 t) fullShare (iblk m c 5 t) from by
    rw [← after0_5]]
  rw [show (dats m 0 c).leavesExact 6 t = owns (c : Thread nD τ) (st0_6 t) fullShare (iblk m c 6 t) from by
    rw [← after0_6]]
  rw [show (dats m 0 c).leavesExact 7 t = owns (c : Thread nD τ) (st0_7 t) fullShare (outAt m c t) from by
    unfold Dat.leavesExact; rw [busy7 t, after0_7]]
  have hout : ∀ d, pooled (grid0.coords t) (iblk m c 1 t) (featsAt m c t) ((dats m 0 c).before 7 t d) = outAt m c t := fun d => by
    rcases Nat.mod_two_eq_zero_or_one t.val with h | h
    · exact pooled_fst m c t h _
    · rw [before0_7 m c t h d]; exact pooled_snd m c t h
  iintro ⟨⟨⟨HS0, HS1, HS2, HS3, HS4⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  have hs := body_spec (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) cc0_scratch5 c
    (iblk m c 0 t) (iblk m c 1 t) (iblk m c 2 t) (iblk m c 3 t) (hg c t) (iblk m c 4 t) (iblk m c 5 t) (iblk m c 6 t) ((dats m 0 c).before 7 t d7) (by decide) W
  rw [show feats (iblk m c 0 t) (iblk m c 2 t) (iblk m c 3 t) (iblk m c 4 t) (iblk m c 5 t) (iblk m c 6 t) = featsAt m c t from rfl, hout d7] at hs
  iapply (hs _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [Hq]; · iexact Hq
  isplitl [HW]; · iexact HW
  iintro H0 H1 H2 H3 H4 H5 H6 H7 HS0 HS1 HS2 HS3 HS4 Hq ⟨%W', HW⟩
  isplitl [HS0 HS1 HS2 HS3 HS4 Hg Hq Hh]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]; · iexact Hg
    isplitl [Hq]; · iexact Hq
    iexact Hh
  isplitl [HW]
  · iexists W'
    isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

omit hg in
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m hg c t) rfl .rfl fun _ => .rfl

/-! ## The run and the frame -/

omit hg in
theorem hmainD : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
set_option maxHeartbeats 1600000 in
/-- Every execution ends, every semaphore at zero, each array as the proof data says. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) (hQ' := fun _ h => h) cfgs (dats m) (0 : Fin 1) launch0 osem0 defs₀ Variants.none ownSemFacts0 H0 H0_sub m ρ main
    (hbody := fun c => (body_obligation m hg c).loose) (hshare := fun c => (dats m 0 c).share_full fun _ => rfl)
    (howed := fun _ _ => rfl) (V := V m) (hmain := hmainD m) (hA := A_eq m) (hin := fun _ => .rfl) (hout := fun _ => .rfl)

omit hg in
/-- The argument arrays end as they were. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c)))⟩

/-- The frame: every execution ends, the argument arrays as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => kept m r h.1 c, h.2⟩) (run_main_quiescent m ρ hg)

end

end Cert.Gnn.Gen

end
-- ==== Proof.GnnBlocks.lean ====
/- The blocks the graph kernel reads at a grid point, as entries of the program's arguments. -/
module

public import proofs.«01_k».proof.Proof.GnnFrame
public import Idealize.ShloMosaic.Lib.Claim
public import Idealize.ShloMosaic.Lib.Pipeline.Value
public import Idealize.ShloMosaic.Lib.Pipeline.ValueKit
public import Idealize.ShloMosaic.Lib.Pointwise

@[expose] public section

set_option maxRecDepth 16384

noncomputable section

namespace Cert.Gnn.Gen

open Idealize.ShloMosaic Idealize.ShloMosaic.TcCoe Idealize.SL.Sem
open Idealize.ShloMosaic.Pointwise

variable {F : FTy → Type} [FloatOps F] (m : (ℓ : Loc nD τ sig) → Buf (Elt F) ℓ) (c : Dev nD)

theorem points (t : Fin cfg0.N) : t.val < 64 := t.isLt

/-- The graph of grid point `t`: the points of slot `k` are `2·k` and `2·k + 1`, their graphs `k` and `32 + k`. -/
def graphOf (t : Fin cfg0.N) : Fin 64 := ⟨t.val % 2 * 32 + t.val / 2, by have := points t; omega⟩

theorem idx0 : ∀ t : Fin cfg0.N, win0_0.index t = ![t.val % 2 * 32 + t.val / 2, 0, 0] := (by decide +kernel : ∀ t : Fin grid0.N, _)
theorem idx1 : ∀ t : Fin cfg0.N, win0_1.index t = ![t.val % 2 * 32 + t.val / 2, 0, 0] := (by decide +kernel : ∀ t : Fin grid0.N, _)
theorem idx2 : ∀ t : Fin cfg0.N, win0_2.index t = ![t.val % 2 * 32 + t.val / 2, 0, 0, 0] := (by decide +kernel : ∀ t : Fin grid0.N, _)
theorem idx3 : ∀ t : Fin cfg0.N, win0_3.index t = ![t.val % 2 * 32 + t.val / 2, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val / 2, 0, 0] := (by decide +kernel : ∀ t : Fin grid0.N, _)

theorem blk_ids (t : Fin cfg0.N) (v : Fin 2048) :
    iblk m c 0 t (ix3 (0 : Fin 1) (0 : Fin 1) v) = (m ((c : Thread nD τ).loc main_arg0) : IVec S64x1x2048 32) (ix3 (graphOf t) 0 v) := by
  blk_point [iblk, graphOf, idx0 t]

theorem blk_batch (t : Fin cfg0.N) (v : Fin 2048) :
    iblk m c 1 t (ix3 (0 : Fin 1) (0 : Fin 1) v) = (m ((c : Thread nD τ).loc main_arg1) : IVec S64x1x2048 32) (ix3 (graphOf t) 0 v) := by
  blk_point [iblk, graphOf, idx1 t]

theorem blk_bundle (t : Fin cfg0.N) (n : Fin 19456) :
    iblk m c 3 t (ix3 (0 : Fin 1) (0 : Fin 1) n) = (m ((c : Thread nD τ).loc main_arg3) : IVec S64x1x19456 32) (ix3 (graphOf t) 0 n) := by
  blk_point [iblk, graphOf, idx3 t]

theorem blk_table (t : Fin cfg0.N) (i : Fin 128) (d : Fin 768) :
    iblk m c 4 t (ix2 i d) = (m ((c : Thread nD τ).loc main_arg4) : FVec F S128x768 .f32) (ix2 i d) := by
  blk_point [iblk, idx4 t]

theorem blk_weight (t : Fin cfg0.N) (l : Fin 2) (i d : Fin 768) :
    iblk m c 5 t (ix3 l i d) = (m ((c : Thread nD τ).loc main_arg5) : FVec F S2x768x768 .f32) (ix3 l i d) := by
  blk_point [iblk, idx5 t]

theorem blk_bias (t : Fin cfg0.N) (i : Fin 8) (d : Fin 768) :
    iblk m c 6 t (ix2 i d) = (m ((c : Thread nD τ).loc main_arg6) : FVec F S8x768 .f32) (ix2 i d) := by
  blk_point [iblk, idx6 t]

theorem blk_slots (t : Fin cfg0.N) (k : Fin 72) (j : Fin 256) :
    iblk m c 2 t (ix4 (0 : Fin 1) k (0 : Fin 1) j) = (m ((c : Thread nD τ).loc main_arg2) : IVec S64x72x1x256 32) (ix4 (graphOf t) k 0 j) := by
  blk_point [iblk, graphOf, idx2 t]

theorem bundleOf_at (B : S1x1x19456.Idx → BitVec 32) (n : Fin 19456) : bundleOf B (ix1 n) = B (ix3 0 0 n) := by
  show shapeCast S19456 B squeezes_S1x1x19456_S19456.numel_eq (ix1 n) = _
  pointwise

/-- Word `n` of the bundle at grid point `t`. -/
theorem word_at (t : Fin cfg0.N) (n : ℕ) (h : n < 19456) :
    wordAt (bundleOf (iblk m c 3 t)) n = (m ((c : Thread nD τ).loc main_arg3) : IVec S64x1x19456 32) (ix3 (graphOf t) 0 ⟨n, h⟩) := by
  rw [← blk_bundle m c t ⟨n, h⟩]
  refine Eq.trans ?_ (bundleOf_at (iblk m c 3 t) ⟨n, h⟩)
  unfold wordAt
  refine congrArg (bundleOf (iblk m c 3 t)) (funext fun a => ?_)
  obtain rfl : a = 0 := Subsingleton.elim _ _
  exact Fin.ext (Nat.mod_eq_of_lt h)

end Cert.Gnn.Gen

end
-- ==== Proof.GnnIds.lean ====
/- The ranges of the bundle's words, read off the precondition. -/
module

public import proofs.«01_k».proof.Proof.Ids
public import proofs.«01_k».proof.Proof.GnnBlocks
public import proofs.«01_k».proof.Proof.Gen.Pre_bundle_in_range
public import Idealize.ShloMosaic.Lib.ReduceAll
public import Idealize.ShloMosaic.Lib.Pointwise

@[expose] public section

set_option maxRecDepth 16384

noncomputable section

namespace Cert.Pre_bundle_in_range

open Idealize.ShloMosaic Idealize.SL.Sem Idealize.ShloMosaic.Pointwise
open Cert.Pre_ids_in_range (and_ofBool ofBool_one)
open Facts

variable {F : FTy → Type} [FloatOps F]

theorem and_one (p q : BitVec 1) : IntOp.andi p q = 1#1 ↔ p = 1#1 ∧ q = 1#1 := by
  revert p q; decide

/-- The chunks' first rows, as the precondition slices them off the bundle. -/
theorem tile_at (x : IVec S64x1x19456 32) (g : Fin 64) (k : Fin 72) :
    shapeCast S64x72 (extractStridedSlice S64x1x72 ![0, 0, 0] x slices_S64x1x19456_S64x1x72_0_0_0) shapeCasts_S64x1x72_S64x72 (ix2 g k)
      = x (ix3 g 0 ⟨k.val, by omega⟩) := by
  pointwise

/-- The edges' words, as the precondition slices them off the bundle. -/
theorem edge_at (x : IVec S64x1x19456 32) (g : Fin 64) (n : Fin 18432) :
    shapeCast S64x18432 (extractStridedSlice S64x1x18432 ![0, 0, 72] x slices_S64x1x19456_S64x1x18432_0_0_72) shapeCasts_S64x1x18432_S64x18432 (ix2 g n)
      = x (ix3 g 0 ⟨72 + n.val, by omega⟩) := by
  pointwise

/-- A word between zero and `n`, both read signed, whose low `k` bits are zero, is a multiple of `2 ^ k` below `n`. -/
theorem low_bits {x : BitVec 32} {n k : ℕ} (hn : n < 2 ^ 31) (hk : k ≤ 31) (h0 : (0#32).sle x = true) (h1 : x.slt (BitVec.ofNat 32 n) = true)
    (h2 : (x &&& BitVec.ofNat 32 (2 ^ k - 1)) = 0#32) : x.toNat < n ∧ 2 ^ k ∣ x.toNat := by
  constructor
  · simp only [BitVec.sle, BitVec.slt, decide_eq_true_eq, BitVec.toInt, BitVec.toNat_ofNat] at h0 h1
    omega
  · have e := congrArg BitVec.toNat h2
    have hp : 2 ^ k ≤ 2 ^ 31 := Nat.pow_le_pow_right (by decide) hk
    rw [BitVec.toNat_and, BitVec.toNat_ofNat, Nat.mod_eq_of_lt (by omega), Nat.and_two_pow_sub_one_eq_mod] at e
    exact Nat.dvd_of_mod_eq_zero e

theorem tile_good {w : BitVec 32} (h : w.toNat < 2048 ∧ 2 ^ 8 ∣ w.toNat) : Cert.Gnn.k0_chk257 w := by
  refine ⟨h.2, fun a => ?_⟩
  fin_cases a
  · show w.toNat + 256 ≤ 2048
    omega
  · exact le_refl 768

theorem edge_good {w : BitVec 32} (h : w.toNat < 16384 ∧ 2 ^ 3 ∣ w.toNat) : Cert.Gnn.k0_chk1 w := by
  refine ⟨h.2, fun a => ?_⟩
  fin_cases a
  · show w.toNat + 8 ≤ 16384
    omega
  · exact le_refl 128

set_option maxHeartbeats 4000000 in
/-- Under the precondition the bundle of every graph names row tiles and rows that are there. -/
theorem words (x0 x1 : IVec S64x1x2048 32) (x2 : IVec S64x72x1x256 32) (x3 : IVec S64x1x19456 32) (x4 : FVec F S128x768 .f32) (x5 : FVec F S2x768x768 .f32) (x6 : FVec F S8x768 .f32)
    (h : fn (F := F) x0 x1 x2 x3 x4 x5 x6 = fun _ => 1#1) (g : Fin 64) :
    (∀ k : Fin 72, (x3 (ix3 g 0 ⟨k.val, by omega⟩)).toNat < 2048 ∧ 2 ^ 8 ∣ (x3 (ix3 g 0 ⟨k.val, by omega⟩)).toNat)
      ∧ ∀ n : Fin 18432, (x3 (ix3 g 0 ⟨72 + n.val, by omega⟩)).toNat < 16384 ∧ 2 ^ 3 ∣ (x3 (ix3 g 0 ⟨72 + n.val, by omega⟩)).toNat := by
  have e := congrFun h ix0
  dsimp only [fn, fn_part1] at e
  rw [andi, and_one] at e
  constructor
  · intro k
    have e1 := Host.reduce_andi_all _ _ _ _ _ e.1 (ix2 g k)
    simp only [andi, cmpi, broadcastInDim, constantI, IntOp.cmpi, and_ofBool, ofBool_one, Bool.and_eq_true, tile_at] at e1
    obtain ⟨⟨h1, h2⟩, h3⟩ := e1
    exact low_bits (by decide) (by decide) h1 h2 (by simpa [IntOp.andi] using h3)
  · intro n
    have e1 := Host.reduce_andi_all _ _ _ _ _ e.2 (ix2 g n)
    simp only [andi, cmpi, broadcastInDim, constantI, IntOp.cmpi, and_ofBool, ofBool_one, Bool.and_eq_true, edge_at] at e1
    obtain ⟨⟨h1, h2⟩, h3⟩ := e1
    exact low_bits (by decide) (by decide) h1 h2 (by simpa [IntOp.andi] using h3)

/-- Under the precondition the copied bundle is good at every grid point. -/
theorem good (m : (ℓ : Loc Cert.Gnn.nD Cert.Gnn.τ Cert.Gnn.sig) → Buf (Elt F) ℓ) (c : Dev Cert.Gnn.nD)
    (x0 x1 : IVec S64x1x2048 32) (x2 : IVec S64x72x1x256 32) (x4 : FVec F S128x768 .f32) (x5 : FVec F S2x768x768 .f32) (x6 : FVec F S8x768 .f32)
    (h : fn (F := F) x0 x1 x2 (m ((c.tc : Thread Cert.Gnn.nD Cert.Gnn.τ).loc Cert.Gnn.main_arg3)) x4 x5 x6 = fun _ => 1#1) (t : Fin Cert.Gnn.cfg0.N) :
    Cert.Gnn.Gen.Good (Cert.Gnn.Gen.bundleOf (Cert.Gnn.Gen.iblk m c 3 t)) := by
  obtain ⟨ht, he⟩ := words _ _ _ _ _ _ _ h (Cert.Gnn.Gen.graphOf t)
  refine ⟨fun k hk => ?_, fun n hn => ?_⟩
  · rw [Cert.Gnn.Gen.word_at m c t k (by omega)]
    exact tile_good (ht ⟨k, hk⟩)
  · rw [Cert.Gnn.Gen.word_at m c t (72 + n) (by omega)]
    exact edge_good (he ⟨n, hn⟩)

end Cert.Pre_bundle_in_range

end
-- ==== Proof.GnnBridge.lean ====
/- The graph kernel and its idealization are one text: a run of the one is a run of the other. -/
module

public import proofs.«01_k».proof.Proof.Gen.Gnn
public import proofs.«01_k».proof.Proof.Gen.GnnIdeal
public import Idealize.ShloMosaic.Lib.Pipeline.Regions

@[expose] public section

set_option maxRecDepth 16384

noncomputable section

namespace Cert.GnnIdeal.Gen

open Idealize.ShloMosaic Idealize.ShloMosaic.TcCoe
open Idealize.SL.Sem

variable {F : FTy → Type} [FloatOps F]

theorem sig_eq : Cert.GnnIdeal.sig = Cert.Gnn.sig := by chain_rfl

theorem run_eq (m : (ℓ : Loc nD τ sig) → Buf (Elt F) ℓ) (ρ : Dev nD → PrngReg) (Q : PUnit × MemSt nD τ sig (Elt F) → Prop) :
    θ_run (defs (F := F)) (onTc (τ := τ) (main (F := F))) ⟨m, fun _ => 0, ρ⟩ Q
      = @θ_run Cert.Gnn.nD Cert.Gnn.τ Cert.Gnn.sig (Elt F) _ (Cert.Gnn.defs (F := F)) (onTc (τ := Cert.Gnn.τ) (Cert.Gnn.main (F := F))) ⟨m, fun _ => 0, ρ⟩ Q := by
  chain_rfl

end Cert.GnnIdeal.Gen

end
-- ==== Proof.GnnSpec.lean ====
/- The graph network on one graph, as plain sums over the extended reals. -/
module

public import Idealize.ShloMosaic.PureOps.Ideal
public import Idealize.ShloMosaic.Lib.Pointwise

@[expose] public section

noncomputable section

namespace Cert.GnnSpec

open Idealize.ShloMosaic Idealize.ShloMosaic.Pointwise

/-- One graph: each node's table row and batch element, and its edges in 72 chunks of 256 slots, each with the chunk's first
    row, the slot's target counted from it, and the slot's source. -/
structure Graph where
  ids : Fin 2048 → Fin 128
  bat : Fin 2048 → BitVec 32
  tile : Fin 72 → ℕ
  loc : Fin 72 → Fin 256 → BitVec 32
  src : Fin 72 → Fin 256 → Fin 2048

/-- Slot `j` of chunk `k` carries an edge into node `v`. -/
def Graph.hit (G : Graph) (k : Fin 72) (j : Fin 256) (v : Fin 2048) : Prop :=
  (G.tile k ≤ v.val ∧ v.val < G.tile k + 256) ∧ G.loc k j = BitVec.ofNat 32 (v.val - G.tile k)

instance (G : Graph) (k : Fin 72) (j : Fin 256) (v : Fin 2048) : Decidable (G.hit k j v) := by
  unfold Graph.hit
  infer_instance

/-- The sum of the features that the edges into `v` bring. -/
def agg (G : Graph) (h : Fin 2048 → Fin 768 → EReal) (v : Fin 2048) (d : Fin 768) : EReal :=
  ∑ k, ∑ j, if G.hit k j v then h (G.src k j) d else 0

/-- One round: own features plus the neighbours', through a matrix, a bias and the positive part. -/
def layer (G : Graph) (W : Fin 768 → Fin 768 → EReal) (b : Fin 768 → EReal) (h : Fin 2048 → Fin 768 → EReal) (v : Fin 2048) (d : Fin 768) : EReal :=
  max ((∑ i, (h v i + agg G h v i) * W i d) + b d) 0

/-- The mean over the nodes of batch element `q`, the empty mean being zero. -/
def mean (G : Graph) (h : Fin 2048 → Fin 768 → EReal) (q : Fin 32) (d : Fin 768) : EReal :=
  Ideal.div (∑ v, if G.bat v = BitVec.ofNat 32 q.val then h v d else 0) (max (∑ v, if G.bat v = BitVec.ofNat 32 q.val then 1 else 0) 1)

/-- The features after both rounds. -/
def feats (G : Graph) (T : Fin 128 → Fin 768 → EReal) (W : Fin 2 → Fin 768 → Fin 768 → EReal) (b : Fin 2 → Fin 768 → EReal) :
    Fin 2048 → Fin 768 → EReal :=
  layer G (W 1) (b 1) (layer G (W 0) (b 0) fun v => T (G.ids v))

/-- Graph `g` of the call's arguments. -/
def graphAt (x0 x1 : IVec ⟨3, ![64, 1, 2048]⟩ 32) (x2 : IVec ⟨4, ![64, 72, 1, 256]⟩ 32) (x3 : IVec ⟨3, ![64, 1, 19456]⟩ 32) (g : Fin 64) : Graph where
  ids v := ⟨(x0 (ix3 g 0 v)).toNat % 128, Nat.mod_lt _ (by decide)⟩
  bat v := x1 (ix3 g 0 v)
  tile k := (x3 (ix3 g 0 ⟨k.val, by omega⟩)).toNat
  loc k j := x2 (ix4 g k 0 j)
  src k j := ⟨(x3 (ix3 g 0 ⟨72 + (256 * k.val + j.val), by omega⟩)).toNat / 8 % 2048, Nat.mod_lt _ (by decide)⟩

/-- The mean of graph `g`. -/
def meanAt (x0 x1 : IVec ⟨3, ![64, 1, 2048]⟩ 32) (x2 : IVec ⟨4, ![64, 72, 1, 256]⟩ 32) (x3 : IVec ⟨3, ![64, 1, 19456]⟩ 32)
    (x4 : FVec Ideal ⟨2, ![128, 768]⟩ .f32) (x5 : FVec Ideal ⟨3, ![2, 768, 768]⟩ .f32) (x6 : FVec Ideal ⟨2, ![8, 768]⟩ .f32)
    (g : Fin 64) (q : Fin 32) (d : Fin 768) : EReal :=
  mean (graphAt x0 x1 x2 x3 g)
    (feats (graphAt x0 x1 x2 x3 g) (fun i d => x4 (ix2 i d)) (fun l i d => x5 (ix3 l i d)) (fun l d => x6 (ix2 ⟨l.val, by omega⟩ d))) q d

/-- A comparison of two words, widened and converted, is the indicator of their equality. -/
theorem hot (a b : BitVec 32) :
    (FloatOps.sitofp (F := Ideal) FTy.f32 (BitVec.setWidth 32 (IntOp.cmpi CmpIPredicate.eq a b)) : EReal) = if a = b then 1 else 0 := by
  by_cases h : a = b
  · subst h
    rw [if_pos rfl, show IntOp.cmpi CmpIPredicate.eq a a = 1#1 from by simp [IntOp.cmpi]]
    show (((BitVec.setWidth 32 1#1).toInt : ℝ) : EReal) = 1
    rw [show (BitVec.setWidth 32 1#1).toInt = 1 from by decide]
    norm_num
  · rw [if_neg h, show IntOp.cmpi CmpIPredicate.eq a b = 0#1 from by
      have : (a == b) = false := beq_eq_false_iff_ne.mpr h
      simp [IntOp.cmpi, this]]
    show (((BitVec.setWidth 32 0#1).toInt : ℝ) : EReal) = 0
    rw [show (BitVec.setWidth 32 0#1).toInt = 0 from by decide]
    norm_num

end Cert.GnnSpec

end
-- ==== Proof.GnnValue.lean ====
/- What the graph kernel computes at one grid point, over the extended reals: the graph network on that point's graph. -/
module

public import proofs.«01_k».proof.Proof.GnnSpec
public import proofs.«01_k».proof.Proof.GnnBlocks

@[expose] public section

set_option maxRecDepth 16384

noncomputable section

namespace Cert.Gnn.Gen

open Idealize.ShloMosaic Idealize.ShloMosaic.TcCoe Idealize.SL.Sem
open Idealize.ShloMosaic.Pointwise Cert.GnnSpec

/-- An index pair spelt two ways. -/
theorem pair_eq {A B : ℕ} (r : Fin A) (d : Fin B) : Shape.pair (d := (⟨2, ![A, B]⟩ : Shape).size) r d = ix2 r d := by
  funext a
  match a with
  | ⟨0, _⟩ => rfl
  | ⟨1, _⟩ => rfl

/-- The features a node starts from: its table row. -/
theorem feat0_at (x : Vec Ideal S1x1x2048 .i32) (am : Vec Ideal S128x768 .f32) (v : Fin 2048) (d : Fin 768) (a : Fin 128)
    (ha : x (ix3 0 0 v) = BitVec.ofNat 32 a.val) : feat0 (F := Ideal) x am (ix2 v d) = am (ix2 a d) := by
  have e : ∀ y : Fin 128, BitVec.ofNat 32 y.val = BitVec.ofNat 32 a.val ↔ y = a := fun y => by
    rw [← BitVec.toNat_inj, BitVec.toNat_ofNat, BitVec.toNat_ofNat, Fin.ext_iff]
    omega
  pointwise [feat0, k0_pay514]
  simp only [hot, ha, e, ite_mul, one_mul, zero_mul, Finset.sum_ite_eq', Finset.mem_univ, if_true]

/-- What one chunk adds to a row of its tile. -/
theorem pay523_at (D : Vec Ideal S1x1x1x256 .i32) (A : Vec Ideal S256x768 .f32) (y : Fin 6 → Vec Ideal S256x128 .f32) (h : Fin 256 → Fin 768 → EReal)
    (hy : ∀ (p : Fin 6) (j : Fin 256) (e : Fin 128), y p (ix2 j e) = h j ⟨128 * p.val + e.val, by omega⟩) (r : Fin 256) (d : Fin 768) :
    k0_pay523 (F := Ideal) D (y 0) (y 1) (y 2) (y 3) (y 4) (y 5) A (ix2 r d)
      = A (ix2 r d) + ∑ j, if D (ix4 0 0 0 j) = BitVec.ofNat 32 r.val then h j d else 0 := by
  pointwise [k0_pay523]
  simp only [hot, hy, ite_mul, one_mul, zero_mul]
  refine congrArg (A (ix2 r d) + ·) (Finset.sum_congr rfl fun j _ => ?_)
  refine if_congr Iff.rfl ?_ rfl
  have hd := d.isLt
  split_ifs <;> refine congrArg (h j) (Fin.ext ?_) <;> simp <;> omega

/-- A round's features. -/
theorem pay525_at (h A : Vec Ideal S2048x768 .f32) (W : Vec Ideal S1x768x768 .f32) (b : Vec Ideal S1x768 .f32) (v : Fin 2048) (d : Fin 768) :
    k0_pay525 (F := Ideal) (k0_pay524 h A W) b (ix2 v d) = max ((∑ i, (h (ix2 v i) + A (ix2 v i)) * W (ix3 0 i d)) + b (ix2 0 d)) 0 := by
  pointwise [k0_pay525, k0_pay524]

theorem pay535_at (h A : Vec Ideal S2048x768 .f32) (W : Vec Ideal S1x768x768 .f32) (b : Vec Ideal S1x768 .f32) (v : Fin 2048) (d : Fin 768) :
    k0_pay535 (F := Ideal) h A W b (ix2 v d) = max ((∑ i, (h (ix2 v i) + A (ix2 v i)) * W (ix3 0 i d)) + b (ix2 0 d)) 0 := by
  pointwise [k0_pay535]

/-- The means of one graph. -/
theorem pay2_at (x : Vec Ideal S1x1x2048 .i32) (h : Vec Ideal S2048x768 .f32) (q : Fin 32) (d : Fin 768) :
    k0_pay2 (F := Ideal) (k0_pay536 x) h (ix3 0 q d)
      = Ideal.div (∑ v, if x (ix3 0 0 v) = BitVec.ofNat 32 q.val then h (ix2 v d) else 0)
          (max (∑ v, if x (ix3 0 0 v) = BitVec.ofNat 32 q.val then 1 else 0) 1) := by
  pointwise [k0_pay2, k0_pay1, k0_pay536]
  simp only [hot, ite_mul, one_mul, zero_mul]

theorem pay3_at (x : Vec Ideal S1x1x2048 .i32) (h : Vec Ideal S2048x768 .f32) (prev : Vec Ideal S1x32x768 .f32) (q : Fin 32) (d : Fin 768) :
    k0_pay3 (F := Ideal) (k0_pay536 x) h prev (ix3 0 q d) = prev (ix3 0 q d) + k0_pay2 (F := Ideal) (k0_pay536 x) h (ix3 0 q d) := by
  rw [k0_pay2, k0_pay3]
  generalize k0_pay1 (F := Ideal) (k0_pay536 (F := Ideal) x) h = z
  pointwise

theorem wRow0_at (W : Vec Ideal S2x768x768 .f32) (i d : Fin 768) : wRow0 W (ix3 0 i d) = W (ix3 0 i d) := by
  refine congrArg W (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem wRow1_at (W : Vec Ideal S2x768x768 .f32) (i d : Fin 768) : wRow1 W (ix3 0 i d) = W (ix3 1 i d) := by
  refine congrArg W (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem bRow0_at (b : Vec Ideal S8x768 .f32) (d : Fin 768) : bRow0 b (ix2 0 d) = b (ix2 0 d) := by
  refine congrArg b (funext fun a => Fin.ext ?_)
  match a with
  | ⟨0, _⟩ => rfl
  | ⟨1, _⟩ => exact (Nat.zero_add _).trans (Nat.one_mul _)

theorem bRow1_at (b : Vec Ideal S8x768 .f32) (d : Fin 768) : bRow1 b (ix2 0 d) = b (ix2 1 d) := by
  refine congrArg b (funext fun a => Fin.ext ?_)
  match a with
  | ⟨0, _⟩ => rfl
  | ⟨1, _⟩ => exact (Nat.zero_add _).trans (Nat.one_mul _)

theorem dstRow_at (D : Vec Ideal S1x72x1x256 .i32) (k : Fin k0_t1_loop.trips) (k' : Fin 72) (hk : k.val = k'.val) (j : Fin 256) :
    dstRow D k (ix4 0 0 0 j) = D (ix4 0 k' 0 j) := by
  have e : ∀ k : Fin k0_t1_loop.trips, k0_off513 k = ![0, k.val, 0, 0] := by decide +kernel
  refine congrArg D (funext fun a => Fin.ext ?_)
  refine (congrArg (· + 1 * (ix4 (0 : Fin 1) (0 : Fin 1) (0 : Fin 1) j a).val) (congrFun (e k) a)).trans ?_
  match a with
  | ⟨0, _⟩ => rfl
  | ⟨1, _⟩ => exact hk
  | ⟨2, _⟩ => rfl
  | ⟨3, _⟩ => exact (Nat.zero_add _).trans (Nat.one_mul _)

/-- The kernel's words say what the graph's fields say. -/
structure Says (G : GnnSpec.Graph) (D : Vec Ideal S1x72x1x256 .i32) (g : S19456.Idx → BitVec 32) : Prop where
  loc : ∀ k j, D (ix4 0 k 0 j) = G.loc k j
  tile : ∀ k : Fin 72, (wordAt g k.val).toNat = G.tile k
  src : ∀ (k : Fin 72) (j : Fin 256), (wordAt g (72 + 256 * k.val + j.val)).toNat / 8 % 2048 = (G.src k j).val

variable {G : GnnSpec.Graph} {D : Vec Ideal S1x72x1x256 .i32} {g : S19456.Idx → BitVec 32}

theorem chunk_at (hG : Says G D g) (h : Vec Ideal S2048x768 .f32) (k : Fin k0_t1_loop.trips) (k' : Fin 72) (hk : k.val = k'.val)
    (A : Vec Ideal S2048x768 .f32) (v : Fin 2048) (d : Fin 768) :
    chunkOf D h g k A (ix2 v d) = A (ix2 v d) + ∑ j, if G.hit k' j v then h (ix2 (G.src k' j) d) else 0 := by
  have ht := hG.tile k'
  rw [← hk] at ht
  unfold chunkOf
  dsimp only
  split
  · rename_i h'
    have h1 : (wordAt g k.val).toNat ≤ v.val ∧ v.val < (wordAt g k.val).toNat + 256 := h'
    have hp : k0_pay523 (dstRow D k) (gath h g k.val 0) (gath h g k.val 1) (gath h g k.val 2) (gath h g k.val 3) (gath h g k.val 4) (gath h g k.val 5)
        (rows A (wordAt g k.val).toNat) (ix2 (⟨v.val - (wordAt g k.val).toNat, by omega⟩ : Fin 256) d)
        = A (ix2 v d) + ∑ j, if G.hit k' j v then h (ix2 (G.src k' j) d) else 0 := by
      rw [pay523_at _ _ (gath h g k.val) (fun j d => h (ix2 (G.src k' j) d))]
      · refine congrArg₂ (· + ·) ?_ (Finset.sum_congr rfl fun j _ => if_congr ?_ rfl rfl)
        · unfold rows
          refine congrArg A ((pair_eq _ _).trans ?_)
          refine congrArg (ix2 · d) (Fin.ext ?_)
          show ((wordAt g k.val).toNat + (v.val - (wordAt g k.val).toNat)) % 2048 = v.val
          omega
        · rw [dstRow_at D k k' hk, hG.loc]
          unfold GnnSpec.Graph.hit
          rw [← ht]
          exact ⟨fun e => ⟨h1, e⟩, fun e => e.2⟩
      · intro p j e
        unfold gath
        refine congrArg h ((pair_eq _ _).trans ?_)
        refine congrArg₂ ix2 (Fin.ext ?_) rfl
        have := hG.src k' j
        rw [← hk] at this
        exact this
    refine Eq.trans ?_ hp
    exact congrArg _ (pair_eq _ _)
  · rename_i h'
    have h1 : ¬((wordAt g k.val).toNat ≤ v.val ∧ v.val < (wordAt g k.val).toNat + 256) := h'
    rw [ht] at h1
    rw [Finset.sum_eq_zero fun j _ => if_neg fun e => h1 e.1, add_zero]

theorem aggTo_at (hG : Says G D g) (h : Vec Ideal S2048x768 .f32) (v : Fin 2048) (d : Fin 768) (n : ℕ) :
    aggTo D h g n (ix2 v d)
      = ∑ k : Fin 72, if k.val < n then ∑ j, if G.hit k j v then h (ix2 (G.src k j) d) else 0 else 0 := by
  induction n with
  | zero =>
    simp only [Nat.not_lt_zero, if_false, Finset.sum_const_zero]
    show k0_pay521 (F := Ideal) (ix2 v d) = 0
    pointwise [k0_pay521]
  | succ n ih =>
    rw [aggTo]
    split
    · rename_i hn
      have hn' : n < 72 := trips1 ▸ hn
      rw [chunk_at hG h ⟨n, hn⟩ ⟨n, hn'⟩ rfl, ih]
      have e : ∀ (k : Fin 72) (z : EReal), (if k.val < n + 1 then z else 0) = (if k.val < n then z else 0) + if k = ⟨n, hn'⟩ then z else 0 := by
        intro k z
        rcases Nat.lt_trichotomy k.val n with l | l | l
        · rw [if_pos (by omega), if_pos l, if_neg (fun e => by rw [Fin.ext_iff] at e; exact absurd e (Nat.ne_of_lt l)), add_zero]
        · rw [if_pos (by omega), if_neg (by omega), if_pos (Fin.ext l), zero_add]
        · rw [if_neg (by omega), if_neg (by omega), if_neg (fun e => by rw [Fin.ext_iff] at e; exact absurd e (Nat.ne_of_gt l)), add_zero]
      simp only [e, Finset.sum_add_distrib, Finset.sum_ite_eq', Finset.mem_univ, if_true]
    · rename_i hn
      rw [trips1] at hn
      rw [ih]
      refine Finset.sum_congr rfl fun k _ => ?_
      have := k.isLt
      rw [if_pos (by omega), if_pos (by omega)]

theorem agg_at (hG : Says G D g) (h : Vec Ideal S2048x768 .f32) (v : Fin 2048) (d : Fin 768) :
    agg D h g (ix2 v d) = GnnSpec.agg G (fun v d => h (ix2 v d)) v d := by
  rw [agg, aggTo_at hG]
  exact Finset.sum_congr rfl fun k _ => if_pos k.isLt

theorem feat1_at (hG : Says G D g) (h : Vec Ideal S2048x768 .f32) (W : Vec Ideal S2x768x768 .f32) (b : Vec Ideal S8x768 .f32) (v : Fin 2048) (d : Fin 768) :
    feat1 h D g W b (ix2 v d) = GnnSpec.layer G (fun i d => W (ix3 0 i d)) (fun d => b (ix2 0 d)) (fun v d => h (ix2 v d)) v d := by
  rw [feat1, pay525_at]
  simp only [agg_at hG, wRow0_at, bRow0_at]
  rfl

theorem feat2_at (hG : Says G D g) (h : Vec Ideal S2048x768 .f32) (W : Vec Ideal S2x768x768 .f32) (b : Vec Ideal S8x768 .f32) (v : Fin 2048) (d : Fin 768) :
    feat2 h D g W b (ix2 v d) = GnnSpec.layer G (fun i d => W (ix3 1 i d)) (fun d => b (ix2 1 d)) (fun v d => h (ix2 v d)) v d := by
  rw [feat2, pay535_at]
  simp only [agg_at hG, wRow1_at, bRow1_at]
  rfl

/-! ## One grid point -/

variable (m : (ℓ : Loc nD τ sig) → Buf (Elt Ideal) ℓ) (c : Dev nD)

/-- Graph `g` of the arguments in memory. -/
def graph (g : Fin 64) : GnnSpec.Graph :=
  GnnSpec.graphAt (m ((c : Thread nD τ).loc main_arg0)) (m ((c : Thread nD τ).loc main_arg1)) (m ((c : Thread nD τ).loc main_arg2))
    (m ((c : Thread nD τ).loc main_arg3)) g

/-- The mean of graph `g` of the arguments in memory. -/
def meanOf (g : Fin 64) (q : Fin 32) (d : Fin 768) : EReal :=
  GnnSpec.meanAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) g q d

theorem said (t : Fin cfg0.N) : Says (graph m c (graphOf t)) (iblk m c 2 t) (bundleOf (iblk m c 3 t)) where
  loc k j := blk_slots m c t k j
  tile k := congrArg BitVec.toNat (word_at m c t k.val (by omega))
  src k j := by
    rw [show 72 + 256 * k.val + j.val = 72 + (256 * k.val + j.val) from Nat.add_assoc ..]
    exact congrArg (fun w : BitVec 32 => w.toNat / 8 % 2048) (word_at m c t (72 + (256 * k.val + j.val)) (by omega))

variable (hid : ∀ (g : Fin 64) (v : Fin 2048), ((m ((c : Thread nD τ).loc main_arg0) : IVec S64x1x2048 32) (ix3 g 0 v)).toNat < 128)
include hid

theorem featsAt_at (t : Fin cfg0.N) (v : Fin 2048) (d : Fin 768) :
    featsAt m c t (ix2 v d) = GnnSpec.feats (graph m c (graphOf t)) (fun i d => (m ((c : Thread nD τ).loc main_arg4) : FVec Ideal S128x768 .f32) (ix2 i d))
      (fun l i d => (m ((c : Thread nD τ).loc main_arg5) : FVec Ideal S2x768x768 .f32) (ix3 l i d))
      (fun l d => (m ((c : Thread nD τ).loc main_arg6) : FVec Ideal S8x768 .f32) (ix2 ⟨l.val, by omega⟩ d)) v d := by
  have h0 : ∀ v d, feat0 (iblk m c 0 t) (iblk m c 4 t) (ix2 v d)
      = (m ((c : Thread nD τ).loc main_arg4) : FVec Ideal S128x768 .f32) (ix2 ((graph m c (graphOf t)).ids v) d) := by
    intro v d
    rw [feat0_at _ _ v d ((graph m c (graphOf t)).ids v), blk_table]
    rw [blk_ids]
    refine BitVec.eq_of_toNat_eq ?_
    have := hid (graphOf t) v
    show _ = ((m ((c : Thread nD τ).loc main_arg0) : IVec S64x1x2048 32) (ix3 (graphOf t) 0 v)).toNat % 128 % 2 ^ 32
    omega
  unfold featsAt feats GnnSpec.feats
  rw [feat2_at (said m c t)]
  simp only [feat1_at (said m c t), h0, blk_weight, blk_bias]
  rfl

theorem outFst_at (t : Fin cfg0.N) (q : Fin 32) (d : Fin 768) : outFst m c t (ix3 0 q d) = meanOf m c (graphOf t) q d := by
  rw [outFst, pay2_at]
  simp only [featsAt_at m c hid, blk_batch]
  rfl

/-- At a second point: the sum of the two graphs' means. -/
theorem outAt_at (t : Fin cfg0.N) (k : Fin 32) (ht : t.val = 2 * k.val + 1) (q : Fin 32) (d : Fin 768) :
    outAt m c t (ix3 0 q d) = meanOf m c ⟨k.val, by omega⟩ q d + meanOf m c ⟨32 + k.val, by omega⟩ q d := by
  rw [outAt, if_neg (by omega), pay3_at, ← outFst, outFst_at m c hid, outFst_at m c hid]
  refine congrArg₂ (fun g g' => meanOf m c g q d + meanOf m c g' q d) (Fin.ext ?_) (Fin.ext ?_)
  · show (t.val - 1) % 2 * 32 + (t.val - 1) / 2 = k.val
    omega
  · show t.val % 2 * 32 + t.val / 2 = 32 + k.val
    omega

/-! ## The result -/

/-- The result: for each of the 32 pairs of graphs the sum of their means. -/
def result : FVec Ideal S32x32x768 .f32 := fun i =>
  meanOf m c ⟨(i 0).val, Nat.lt_of_lt_of_le (i 0).isLt (by decide)⟩ (i 1) (i 2)
    + meanOf m c ⟨32 + (i 0).val, by have : (i 0).val < 32 := (i 0).isLt; omega⟩ (i 1) (i 2)

omit hid in
theorem flush7 : ∀ t : Fin cfg0.N, (cfg0.win 7).flush t = true ↔ t.val % 2 = 1 := (by decide +kernel : ∀ t : Fin grid0.N, _)

omit hid in
theorem mem_blk7 (t : Fin cfg0.N) (i : S32x32x768.Idx) :
    i ∈ ((cfg0.win 7).blk t).view.set ↔ ∀ a : Fin 3, win0_7.index t a * S1x32x768.size a ≤ (i a).val ∧ (i a).val < win0_7.index t a * S1x32x768.size a + S1x32x768.size a := by
  show i ∈ ((View.whole main_v0).slice (win0_7.rect t)).set ↔ _
  rw [View.set_slice_whole, Rect.mem_set_unit]
  exact Iff.rfl

theorem flushed7 (t : Fin cfg0.N) (ht : t.val % 2 = 1) :
    (dats m 0 c).flushed 7 t = fun y => result m c (((cfg0.win 7).blk t).view.emb y) := by
  funext y
  have h64 := points t
  have hy0 : (y 0).val < 1 := (y 0).isLt
  have hy1 : (y 1).val < 32 := (y 1).isLt
  have hy2 : (y 2).val < 768 := (y 2).isLt
  have hl : (cfg0.win 7).xinj (grid0.coords t) y = ix3 (0 : Fin 1) (⟨(y 1).val, hy1⟩ : Fin 32) (⟨(y 2).val, hy2⟩ : Fin 768) := by
    funext a
    refine Fin.ext ?_
    match a with
    | ⟨0, _⟩ => show (y 0).val = 0; omega
    | ⟨1, _⟩ => rfl
    | ⟨2, _⟩ => rfl
  have i0 : win0_7.index t (0 : Fin 3) = t.val / 2 := congrFun (idx7 t) 0
  have i1 : win0_7.index t (1 : Fin 3) = 0 := congrFun (idx7 t) 1
  have i2 : win0_7.index t (2 : Fin 3) = 0 := congrFun (idx7 t) 2
  have hb0 : (((cfg0.win 7).blk t).view.emb y 0).val = win0_7.index t (0 : Fin 3) * 1 + 1 * (y 0).val := rfl
  have hb1 : (((cfg0.win 7).blk t).view.emb y 1).val = win0_7.index t (1 : Fin 3) * 32 + 1 * (y 1).val := rfl
  have hb2 : (((cfg0.win 7).blk t).view.emb y 2).val = win0_7.index t (2 : Fin 3) * 768 + 1 * (y 2).val := rfl
  have he : ((cfg0.win 7).blk t).view.emb y = ix3 (⟨t.val / 2, by omega⟩ : Fin 32) (⟨(y 1).val, hy1⟩ : Fin 32) (⟨(y 2).val, hy2⟩ : Fin 768) := by
    funext a
    refine Fin.ext ?_
    match a with
    | ⟨0, _⟩ => show (((cfg0.win 7).blk t).view.emb y 0).val = t.val / 2; omega
    | ⟨1, _⟩ => show (((cfg0.win 7).blk t).view.emb y 1).val = (y 1).val; omega
    | ⟨2, _⟩ => show (((cfg0.win 7).blk t).view.emb y 2).val = (y 2).val; omega
  show (dats m 0 c).after 7 t ((cfg0.win 7).xinj (grid0.coords t) y) = _
  rw [after0_7, hl, he, outAt_at m c hid t ⟨t.val / 2, by omega⟩ (by show t.val = 2 * (t.val / 2) + 1; omega)]
  rfl

theorem final7 : (dats m 0 c).arrAt 7 cfg0.N = result m c :=
  (dats m 0 c).arrAt_eq_of_cover 7 _ (fun t hf => flushed7 m c hid t ((flush7 t).mp hf)) (fun i => by
    have h0 : (i 0).val < 32 := (i 0).isLt
    have h1 : (i 1).val < 32 := (i 1).isLt
    have h2 : (i 2).val < 768 := (i 2).isLt
    refine ⟨⟨2 * (i 0).val + 1, by show _ < 64; omega⟩, (flush7 _).mpr (by show (2 * (i 0).val + 1) % 2 = 1; omega), ?_⟩
    rw [mem_blk7, idx7]
    intro a
    match a with
    | ⟨0, _⟩ => show (2 * (i 0).val + 1) / 2 * 1 ≤ (i 0).val ∧ (i 0).val < (2 * (i 0).val + 1) / 2 * 1 + 1; omega
    | ⟨1, _⟩ => show 0 * 32 ≤ (i 1).val ∧ (i 1).val < 0 * 32 + 32; omega
    | ⟨2, _⟩ => show 0 * 768 ≤ (i 2).val ∧ (i 2).val < 0 * 768 + 768; omega)

end Cert.Gnn.Gen

end
-- ==== Proof.GnnRefOps.lean ====
/- Gathers and scatters by pairs of index words, at one element. -/
module

public import proofs.«01_k».proof.Proof.GnnSpec
public import Idealize.ShloMosaic.Lib.Routing.OpsPair
public import Idealize.ShloMosaic.Lib.Routing.OpsOne

@[expose] public section

set_option maxRecDepth 16384

noncomputable section

namespace Cert.GnnRefOps

open Idealize.ShloMosaic Idealize.ShloMosaic.Pointwise Idealize.ShloMosaic.Routing

/-- The dimension numbers of `x[g, s]`, row `s` of graph `g`. -/
def pairDims (A R M N : ℕ) (wf : GatherDims.WF (shape3 A R N) (shape3 A M 2) (shape3 A M N) [2] [0, 1] [] [0, 1] [] 2 ![1, 1, N]) :
    GatherDims (shape3 A R N) (shape3 A M 2) (shape3 A M N) where
  offsetDims := [2]
  collapsedSliceDims := [0, 1]
  operandBatchingDims := []
  startIndicesBatchingDims := []
  startIndexMap := [0, 1]
  indexVectorDim := 2
  sliceSizes := ![1, 1, N]
  wf := wf

/-- An element of `x[g, s]` where the two index words say `g` and `s`. -/
theorem gather_pair {A R M N : ℕ} (wf : GatherDims.WF (shape3 A R N) (shape3 A M 2) (shape3 A M N) [2] [0, 1] [] [0, 1] [] 2 ![1, 1, N])
    (x : FVec Ideal (shape3 A R N) .f32) (idx : IVec (shape3 A M 2) 32) (a : Fin A) (n : Fin M) (e : Fin N) (g : Fin A) (s : Fin R)
    (hg : (idx (ix3 a n 0)).toInt.toNat = g.val) (hs : (idx (ix3 a n 1)).toInt.toNat = s.val) :
    Host.gather (pairDims A R M N wf) x idx (ix3 a n e) = x (ix3 g s e) := by
  unfold Host.gather
  congr 1
  funext k
  refine Fin.ext ?_
  show (pairDims A R M N wf).start (ix3 a n e) idx k + (pairDims A R M N wf).batchCoord (ix3 a n e) k
      + (pairDims A R M N wf).offCoord (ix3 a n e) k = _
  rw [GatherDims.batchCoord_eq_zero _ _ _ (fun h => by simp [pairDims] at h)]
  have hk : k = 0 ∨ k = 1 ∨ k = 2 := by
    match k with
    | ⟨0, _⟩ => exact Or.inl rfl
    | ⟨1, _⟩ => exact Or.inr (Or.inl rfl)
    | ⟨2, _⟩ => exact Or.inr (Or.inr rfl)
  have m0 : (0 : Fin 3) ∈ (pairDims A R M N wf).startIndexMap := List.mem_cons_self
  have m1 : (1 : Fin 3) ∈ (pairDims A R M N wf).startIndexMap := List.mem_cons_of_mem _ (List.mem_singleton.mpr rfl)
  rcases hk with rfl | rfl | rfl
  · rw [GatherDims.offCoord_eq_zero _ _ _ (fun h => ((GatherDims.mem_sKept _ _).mp h).1 List.mem_cons_self)]
    simp only [Nat.add_zero]
    unfold GatherDims.start
    rw [dif_pos m0]
    have hsi : (pairDims A R M N wf).siIdx (ix3 a n e) ⟨List.idxOf (0 : Fin 3) (pairDims A R M N wf).startIndexMap,
        List.idxOf_lt_length_iff.2 m0⟩ = ix3 a n 0 := by
      funext q; refine Fin.ext ?_
      match q with
      | ⟨0, _⟩ => rfl
      | ⟨1, _⟩ => rfl
      | ⟨2, _⟩ => rfl
    rw [hsi, hg]
    have := g.isLt
    show min g.val (A - 1) = g.val
    omega
  · rw [GatherDims.offCoord_eq_zero _ _ _ (fun h => ((GatherDims.mem_sKept _ _).mp h).1 (List.mem_cons_of_mem _ (List.mem_singleton.mpr rfl)))]
    simp only [Nat.add_zero]
    unfold GatherDims.start
    rw [dif_pos m1]
    have hsi : (pairDims A R M N wf).siIdx (ix3 a n e) ⟨List.idxOf (1 : Fin 3) (pairDims A R M N wf).startIndexMap,
        List.idxOf_lt_length_iff.2 m1⟩ = ix3 a n 1 := by
      funext q; refine Fin.ext ?_
      match q with
      | ⟨0, _⟩ => rfl
      | ⟨1, _⟩ => rfl
      | ⟨2, _⟩ => rfl
    rw [hsi, hs]
    have := s.isLt
    show min s.val (R - 1) = s.val
    omega
  · have h0 : (pairDims A R M N wf).start (ix3 a n e) idx 2 = 0 := by
      unfold GatherDims.start
      exact dif_neg (fun h => by simp [pairDims] at h)
    rw [h0]
    unfold GatherDims.offCoord
    rw [dif_pos ((GatherDims.mem_sKept _ _).mpr ⟨by simp [pairDims], by simp [pairDims]⟩)]
    simp only [Nat.zero_add]
    rfl

/-- The dimension numbers of "row `idx[b, s]` of a table of `R` rows". -/
def rowDims (A M R N : ℕ) (wf : GatherDims.WF (shape2 R N) (shape3 A M 1) (shape3 A M N) [2] [0] [] [0] [] 2 ![1, N]) :
    GatherDims (shape2 R N) (shape3 A M 1) (shape3 A M N) where
  offsetDims := [2]
  collapsedSliceDims := [0]
  operandBatchingDims := []
  startIndicesBatchingDims := []
  startIndexMap := [0]
  indexVectorDim := 2
  sliceSizes := ![1, N]
  wf := wf

/-- Such a gather at `(b, s, d)` is the table at row `a` and column `d`, where `a` is the identifier at `(b, s)`. -/
theorem gather_row {A M R N : ℕ} (wf : GatherDims.WF (shape2 R N) (shape3 A M 1) (shape3 A M N) [2] [0] [] [0] [] 2 ![1, N])
    (x : FVec Ideal (shape2 R N) .f32) (idx : IVec (shape3 A M 1) 32) (b : Fin A) (s : Fin M) (d : Fin N) (a : Fin R)
    (ha : (idx (ix3 b s 0)).toInt.toNat = a.val) :
    Host.gather (rowDims A M R N wf) x idx (ix3 b s d) = x (ix2 a d) := by
  unfold Host.gather
  congr 1
  funext k
  refine Fin.ext ?_
  show (rowDims A M R N wf).start (ix3 b s d) idx k + (rowDims A M R N wf).batchCoord (ix3 b s d) k
      + (rowDims A M R N wf).offCoord (ix3 b s d) k = _
  rw [GatherDims.batchCoord_eq_zero _ _ _ (fun h => by simp [rowDims] at h)]
  have hk : k = 0 ∨ k = 1 := by
    match k with
    | ⟨0, _⟩ => exact Or.inl rfl
    | ⟨1, _⟩ => exact Or.inr rfl
  rcases hk with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims A M R N wf).startIndexMap from List.mem_singleton.mpr rfl)]
    have hsi : (rowDims A M R N wf).siIdx (ix3 b s d) ⟨List.idxOf (0 : Fin 2) (rowDims A M R N wf).startIndexMap,
        List.idxOf_lt_length_iff.2 (List.mem_singleton.mpr rfl)⟩ = ix3 b s 0 := by
      funext q; refine Fin.ext ?_
      match q with
      | ⟨0, _⟩ => rfl
      | ⟨1, _⟩ => rfl
      | ⟨2, _⟩ => rfl
    rw [hsi, ha]
    have := a.isLt
    show min a.val (R - 1) = a.val
    omega
  · have h0 : (rowDims A M R N wf).start (ix3 b s d) idx 1 = 0 := by
      unfold GatherDims.start
      exact dif_neg (fun h => by simp [rowDims] at h)
    rw [h0]
    unfold GatherDims.offCoord
    rw [dif_pos ((GatherDims.mem_sKept _ _).mpr ⟨by simp [rowDims], by simp [rowDims]⟩)]
    simp only [Nat.zero_add]
    rfl

/-- Where an update row of a scatter by pairs lands. -/
theorem row_lands {A R M N : ℕ} (d : ScatterDims (shape3 A R N) (shape3 A M 2) (shape3 A M N)) (hu : d.updateWindowDims = [2])
    (hi : d.insertedWindowDims = [0, 1]) (hs : d.scatterDimsToOperandDims = [0, 1]) (hv : d.indexVectorDim = 2) (idx : IVec (shape3 A M 2) 32)
    (a : Fin A) (n : Fin M) (e : Fin N) (r : Fin A) (c : Fin R) (e' : Fin N) :
    d.resultIdx? (ix3 a n e) idx = some (ix3 r c e') ↔ (idx (ix3 a n 0)).toInt = r.val ∧ (idx (ix3 a n 1)).toInt = c.val ∧ e = e' := by
  obtain ⟨u, i, s, v, wf⟩ := d
  simp only at hu hi hs hv
  subst hu hi hs hv
  refine (resultIdx?_eq_some _ _ _ _).trans ?_
  have hw0 : ScatterDims.window ⟨[2], [0, 1], [0, 1], 2, wf⟩ (ix3 a n e) 0 = 0 := rfl
  have hw1 : ScatterDims.window ⟨[2], [0, 1], [0, 1], 2, wf⟩ (ix3 a n e) 1 = 0 := rfl
  have hw2 : ScatterDims.window ⟨[2], [0, 1], [0, 1], 2, wf⟩ (ix3 a n e) 2 = e.val := rfl
  have hs0 : ScatterDims.start ⟨[2], [0, 1], [0, 1], 2, wf⟩ (ix3 a n e) idx 0 = (idx (ix3 a n 0)).toInt := by
    show (idx _).toInt = _
    refine congrArg (fun t => (idx t).toInt) ?_
    funext b
    match b with
    | ⟨0, _⟩ => rfl
    | ⟨1, _⟩ => rfl
    | ⟨2, _⟩ => rfl
  have hs1 : ScatterDims.start ⟨[2], [0, 1], [0, 1], 2, wf⟩ (ix3 a n e) idx 1 = (idx (ix3 a n 1)).toInt := by
    show (idx _).toInt = _
    refine congrArg (fun t => (idx t).toInt) ?_
    funext b
    match b with
    | ⟨0, _⟩ => rfl
    | ⟨1, _⟩ => rfl
    | ⟨2, _⟩ => rfl
  have hs2 : ScatterDims.start ⟨[2], [0, 1], [0, 1], 2, wf⟩ (ix3 a n e) idx 2 = 0 := rfl
  constructor
  · intro h
    have h0 := h 0
    have h1 := h 1
    have h2 := h 2
    rw [hw0, hs0] at h0
    rw [hw1, hs1] at h1
    rw [hw2, hs2] at h2
    replace h0 : _ = ((r.val : ℕ) : Int) := h0
    replace h1 : _ = ((c.val : ℕ) : Int) := h1
    replace h2 : _ = ((e'.val : ℕ) : Int) := h2
    exact ⟨by omega, by omega, Fin.ext (by omega)⟩
  · rintro ⟨h0, h1, rfl⟩ b
    match b with
    | ⟨0, _⟩ => exact (congrArg₂ (fun x y => x + (y : Int)) hs0 (congrArg Nat.cast hw0)).trans (by simp [h0])
    | ⟨1, _⟩ => exact (congrArg₂ (fun x y => x + (y : Int)) hs1 (congrArg Nat.cast hw1)).trans (by simp [h1])
    | ⟨2, _⟩ => exact (congrArg₂ (fun x y => x + (y : Int)) hs2 (congrArg Nat.cast hw2)).trans (by simp)

/-- A sum scattered by pairs whose first word is the update's own graph. -/
theorem scatter_rows {A R M N : ℕ} (d : ScatterDims (shape3 A R N) (shape3 A M 2) (shape3 A M N)) (hu : d.updateWindowDims = [2])
    (hi : d.insertedWindowDims = [0, 1]) (hs : d.scatterDimsToOperandDims = [0, 1]) (hv : d.indexVectorDim = 2) (idx : IVec (shape3 A M 2) 32)
    (h0 : ∀ a n, (idx (ix3 a n 0)).toInt = a.val) (x : FVec Ideal (shape3 A R N) .f32) (upd : FVec Ideal (shape3 A M N) .f32)
    (r : Fin A) (c : Fin R) (e : Fin N) :
    Host.scatterAdd (F := Ideal) d x idx upd (ix3 r c e) = x (ix3 r c e) + ∑ n, if (idx (ix3 r n 1)).toInt = c.val then upd (ix3 r n e) else 0 := by
  show x (ix3 r c e) + ∑ j ∈ Finset.univ.filter (fun j => d.resultIdx? j idx = some (ix3 r c e)), upd j = _
  refine congrArg (x (ix3 r c e) + ·) ?_
  rw [← Finset.sum_filter]
  symm
  refine Finset.sum_bij (fun n _ => ix3 r n e) ?_ ?_ ?_ ?_
  · intro n hn
    rw [Finset.mem_filter] at hn ⊢
    exact ⟨Finset.mem_univ _, (row_lands d hu hi hs hv idx r n e r c e).mpr ⟨h0 r n, hn.2, rfl⟩⟩
  · intro n _ n' _ he
    exact congrFun he 1
  · intro j hj
    obtain ⟨a, n, e', rfl⟩ : ∃ (a : Fin A) (n : Fin M) (e' : Fin N), j = ix3 a n e' := ⟨j 0, j 1, j 2, eq_ix3 j⟩
    rw [Finset.mem_filter] at hj
    obtain ⟨e0, e1, rfl⟩ := (row_lands d hu hi hs hv idx a n e' r c e).mp hj.2
    rw [h0] at e0
    obtain rfl : a = r := Fin.ext (by exact_mod_cast e0)
    exact ⟨n, Finset.mem_filter.mpr ⟨Finset.mem_univ _, e1⟩, rfl⟩
  · intro _ _
    rfl

/-- A count scattered by pairs whose first word is the update's own graph. -/
theorem scatter_counts {A R M : ℕ} (d : ScatterDims (shape2 A R) (shape3 A M 2) (shape2 A M))
    (hi : d.insertedWindowDims = [0, 1]) (hs : d.scatterDimsToOperandDims = [0, 1]) (hv : d.indexVectorDim = 2) (idx : IVec (shape3 A M 2) 32)
    (h0 : ∀ a n, (idx (ix3 a n 0)).toInt = a.val) (x : FVec Ideal (shape2 A R) .f32) (upd : FVec Ideal (shape2 A M) .f32)
    (r : Fin A) (c : Fin R) :
    Host.scatterAdd (F := Ideal) d x idx upd (ix2 r c) = x (ix2 r c) + ∑ n, if (idx (ix3 r n 1)).toInt = c.val then upd (ix2 r n) else 0 := by
  show x (ix2 r c) + ∑ j ∈ Finset.univ.filter (fun j => d.resultIdx? j idx = some (ix2 r c)), upd j = _
  refine congrArg (x (ix2 r c) + ·) ?_
  rw [← Finset.sum_filter]
  symm
  refine Finset.sum_bij (fun n _ => ix2 r n) ?_ ?_ ?_ ?_
  · intro n hn
    rw [Finset.mem_filter] at hn ⊢
    exact ⟨Finset.mem_univ _, (scatter_lands2 d hi hs hv idx r n r c).mpr ⟨h0 r n, hn.2⟩⟩
  · intro n _ n' _ he
    exact congrFun he 1
  · intro j hj
    obtain ⟨a, n, rfl⟩ : ∃ (a : Fin A) (n : Fin M), j = ix2 a n := ⟨j 0, j 1, eq_ix2 j⟩
    rw [Finset.mem_filter] at hj
    obtain ⟨e0, e1⟩ := (scatter_lands2 d hi hs hv idx a n r c).mp hj.2
    have e2 := (h0 a n).symm.trans e0
    obtain rfl : a = r := Fin.ext (by exact_mod_cast e2)
    exact ⟨n, Finset.mem_filter.mpr ⟨Finset.mem_univ _, e1⟩, rfl⟩
  · intro _ _
    rfl

/-- A sum over the slots of all chunks, chunk by chunk. -/
theorem sum_slots (f : Fin 18432 → EReal) : ∑ n, f n = ∑ k : Fin 72, ∑ j : Fin 256, f ⟨256 * k.val + j.val, by omega⟩ := by
  rw [← Fintype.sum_prod_type' (fun (k : Fin 72) (j : Fin 256) => f ⟨256 * k.val + j.val, by omega⟩)]
  symm
  refine Fintype.sum_equiv (finProdFinEquiv (m := 72) (n := 256)) _ _ fun p => congrArg f (Fin.ext ?_)
  show 256 * p.1.val + p.2.val = p.2.val + 256 * p.1.val
  omega

end Cert.GnnRefOps

end
-- ==== Proof.GnnRef.lean ====
/- The reference's graph network, node by node and edge by edge. -/
module

public import proofs.«01_k».proof.Proof.GnnRefOps
public import proofs.«01_k».proof.Proof.Gen.GnnRefIdeal.Run
public import Idealize.ShloMosaic.Lib.Pointwise

@[expose] public section

set_option maxRecDepth 16384

noncomputable section

namespace Cert.GnnRefIdeal.Graphs

open Idealize.ShloMosaic Idealize.ShloMosaic.TcCoe Idealize.SL.Sem Idealize.ShloMosaic.Pointwise
open Cert.GnnRefIdeal Cert.GnnRefIdeal.Gen Cert.GnnRefIdeal.Value

variable (V : Valuation τ sig (Elt Ideal))

/-- The graph numbers as a column of index words over edges. -/
def edgeGraph : IVec S64x18432x1 32 :=
  broadcastInDim S64x18432x1 ![0, 1] bcast_S64x18432_S64x18432x1_0_1 (broadcastInDim S64x18432 ![0, 1] bcast_S64x1_S64x18432_0_1 (select (cmpi .slt (res_main_v1 V) (broadcastInDim S64x1 ![] bcast_S_S64x1 (constantI S_ 32 0#32))) (addi (res_main_v1 V) (broadcastInDim S64x1 ![] bcast_S_S64x1 (constantI S_ 32 64#32))) (res_main_v1 V)))

/-- … and over nodes. -/
def nodeGraph : IVec S64x2048x1 32 :=
  broadcastInDim S64x2048x1 ![0, 1] bcast_S64x2048_S64x2048x1_0_1 (broadcastInDim S64x2048 ![0, 1] bcast_S64x1_S64x2048_0_1 (select (cmpi .slt (res_main_v1 V) (broadcastInDim S64x1 ![] bcast_S_S64x1 (constantI S_ 32 0#32))) (addi (res_main_v1 V) (broadcastInDim S64x1 ![] bcast_S_S64x1 (constantI S_ 32 64#32))) (res_main_v1 V)))

/-- Index words over edges: the graph's and `x`'s, a negative one counted from the end. -/
def edgePairs (x : IVec S64x18432 32) : IVec S64x18432x2 32 :=
  concatenate S64x18432x2 2 [⟨S64x18432x1, edgeGraph V⟩, ⟨S64x18432x1, (broadcastInDim S64x18432x1 ![0, 1] bcast_S64x18432_S64x18432x1_0_1 (select (cmpi .slt x (broadcastInDim S64x18432 ![] bcast_S_S64x18432 (constantI S_ 32 0#32))) (addi x (broadcastInDim S64x18432 ![] bcast_S_S64x18432 (constantI S_ 32 2048#32))) x))⟩] concatenates_S64x18432x1_S64x18432x1_S64x18432x2_d2

/-- Index words over nodes: likewise. -/
def nodePairs (x : IVec S64x2048 32) : IVec S64x2048x2 32 :=
  concatenate S64x2048x2 2 [⟨S64x2048x1, nodeGraph V⟩, ⟨S64x2048x1, (broadcastInDim S64x2048x1 ![0, 1] bcast_S64x2048_S64x2048x1_0_1 (select (cmpi .slt x (broadcastInDim S64x2048 ![] bcast_S_S64x2048 (constantI S_ 32 0#32))) (addi x (broadcastInDim S64x2048 ![] bcast_S_S64x2048 (constantI S_ 32 32#32))) x))⟩] concatenates_S64x2048x1_S64x2048x1_S64x2048x2_d2

/-- A word of a graph number, wrapped or not, is the number. -/
theorem num_word (g : Fin 64) (a : BitVec 32) :
    Scalar.select (IntOp.cmpi .slt (BitVec.ofNat 32 g.val) 0#32) a (BitVec.ofNat 32 g.val) = BitVec.ofNat 32 g.val := by
  refine Routing.wrap_of_lt _ _ ?_
  rw [BitVec.toNat_ofNat]
  omega

theorem num_int (n : ℕ) (h : n < 2 ^ 31) : (BitVec.ofNat 32 n).toInt = n := by
  rw [BitVec.toInt_eq_toNat_of_lt (by rw [BitVec.toNat_ofNat]; omega), BitVec.toNat_ofNat]
  congr 1
  omega

theorem edgePairs_0 (x : IVec S64x18432 32) (g : Fin 64) (n : Fin 18432) : edgePairs V x (ix3 g n 0) = BitVec.ofNat 32 g.val := by
  pointwise [edgePairs, edgeGraph, res_main_v1, num_word]

theorem nodePairs_0 (x : IVec S64x2048 32) (g : Fin 64) (n : Fin 2048) : nodePairs V x (ix3 g n 0) = BitVec.ofNat 32 g.val := by
  pointwise [nodePairs, nodeGraph, res_main_v1, num_word]

theorem edgePairs_1 (x : IVec S64x18432 32) (g : Fin 64) (n : Fin 18432) (h : (x (ix2 g n)).toNat < 2 ^ 31) : edgePairs V x (ix3 g n 1) = x (ix2 g n) := by
  have e := Routing.wrap_of_lt (x (ix2 g n)) (IntOp.addi (x (ix2 g n)) 2048#32) h
  pointwise [edgePairs, e]

theorem nodePairs_1 (x : IVec S64x2048 32) (g : Fin 64) (n : Fin 2048) (h : (x (ix2 g n)).toNat < 2 ^ 31) : nodePairs V x (ix3 g n 1) = x (ix2 g n) := by
  have e := Routing.wrap_of_lt (x (ix2 g n)) (IntOp.addi (x (ix2 g n)) 32#32) h
  pointwise [nodePairs, e]

/-- The chunk and slot of an edge, its target. -/
theorem dst_at (g : Fin 64) (k : Fin 72) (j : Fin 256) :
    (res_main_v18 V : IVec S64x18432 32) (ix2 g ⟨256 * k.val + j.val, by omega⟩)
      = Scalar.select (IntOp.andi (IntOp.cmpi .sge ((V (Proc.devRef .tc main_arg2) : IVec S64x72x1x256 32) (ix4 g k 0 j)) 0#32)
          (IntOp.cmpi .slt ((V (Proc.devRef .tc main_arg2) : IVec S64x72x1x256 32) (ix4 g k 0 j)) 256#32))
        (IntOp.addi ((V (Proc.devRef .tc main_arg3) : IVec S64x1x19456 32) (ix3 g 0 ⟨k.val, by omega⟩))
          ((V (Proc.devRef .tc main_arg2) : IVec S64x72x1x256 32) (ix4 g k 0 j))) 2048#32 := by
  have hk : (256 * k.val + j.val) / 256 = k.val := by omega
  have hj : (256 * k.val + j.val) % 256 = j.val := by omega
  pointwise [res_main_v18, res_main_v6, hk, hj]
  rfl

/-- The source of an edge. -/
theorem src_at (g : Fin 64) (n : Fin 18432) :
    (res_main_v8 V : IVec S64x18432 32) (ix2 g n)
      = Host.shrsi (s := S64x18432) (w := 32) (fun _ => (V (Proc.devRef .tc main_arg3) : IVec S64x1x19456 32) (ix3 g 0 ⟨72 + n.val, by omega⟩)) (fun _ => 3#32) (ix2 g n) := by
  pointwise [res_main_v8]

theorem xs_at (g : Fin 64) (v : Fin 2048) :
    (res_main_v19 V : IVec S64x2048 32) (ix2 g v) = (V (Proc.devRef .tc main_arg0) : IVec S64x1x2048 32) (ix3 g 0 v) := by
  pointwise [res_main_v19]

theorem bs_at (g : Fin 64) (v : Fin 2048) :
    (res_main_v110 V : IVec S64x2048 32) (ix2 g v) = (V (Proc.devRef .tc main_arg1) : IVec S64x1x2048 32) (ix3 g 0 v) := by
  pointwise [res_main_v110]

/-- One round of the reference, on all graphs: own and gathered features through a matrix, a bias and the positive part. -/
def round (h a : FVec Ideal S64x2048x768 .f32) (W : FVec Ideal S768x768 .f32) (b : FVec Ideal S768 .f32) : FVec Ideal S64x2048x768 .f32 :=
  maximumf (addf (Host.dotGeneral dot_S64x2048x768_S768x768_S64x2048x768_2_0_01_1_n_n none (addf h a) W) (broadcastInDim S64x2048x768 ![0, 1, 2] bcast_S1x1x768_S64x2048x768_0_1_2 (broadcastInDim S1x1x768 ![2] bcast_S768_S1x1x768_2 b))) (broadcastInDim S64x2048x768 ![] bcast_S_S64x2048x768 (constant S_ .f32 0x00000000#32))

theorem round_at (h a : FVec Ideal S64x2048x768 .f32) (W : FVec Ideal S768x768 .f32) (b : FVec Ideal S768 .f32) (g : Fin 64) (v : Fin 2048) (d : Fin 768) :
    round h a W b (ix3 g v d) = max ((∑ i, (h (ix3 g v i) + a (ix3 g v i)) * W (ix2 i d)) + b (ix1 d)) 0 := by
  pointwise [round]

/-- The reference's sums over edges. -/
def sums (h : FVec Ideal S64x2048x768 .f32) : FVec Ideal S64x2048x768 .f32 :=
  Host.scatterAdd scatter_S64x2048x768_S64x18432x2_S64x18432x768_2_01_01_2 (broadcastInDim S64x2048x768 ![] bcast_S_S64x2048x768 (constant S_ .f32 0x00000000#32)) (edgePairs V (res_main_v18 V)) (Host.gather gather_S64x2048x768_S64x18432x2_S64x18432x768_2_01_n_n_01_2_11768 h (edgePairs V (res_main_v8 V)))

def weight0 : FVec Ideal S768x768 .f32 := shapeCast _ (extractStridedSlice S1x768x768 ![0, 0, 0] (V (Proc.devRef .tc main_arg5)) slices_S2x768x768_S1x768x768_0_0_0) shapeCasts_S1x768x768_S768x768
def weight1 : FVec Ideal S768x768 .f32 := shapeCast _ (extractStridedSlice S1x768x768 ![1, 0, 0] (V (Proc.devRef .tc main_arg5)) slices_S2x768x768_S1x768x768_1_0_0) shapeCasts_S1x768x768_S768x768
def bias0 : FVec Ideal S768 .f32 := shapeCast _ (extractStridedSlice S1x768 ![0, 0] (V (Proc.devRef .tc main_arg6)) slices_S8x768_S1x768_0_0) shapeCasts_S1x768_S768
def bias1 : FVec Ideal S768 .f32 := shapeCast _ (extractStridedSlice S1x768 ![1, 0] (V (Proc.devRef .tc main_arg6)) slices_S8x768_S1x768_1_0) shapeCasts_S1x768_S768

theorem weight0_at (i d : Fin 768) : weight0 V (ix2 i d) = (V (Proc.devRef .tc main_arg5) : FVec Ideal S2x768x768 .f32) (ix3 0 i d) := by pointwise [weight0]
theorem weight1_at (i d : Fin 768) : weight1 V (ix2 i d) = (V (Proc.devRef .tc main_arg5) : FVec Ideal S2x768x768 .f32) (ix3 1 i d) := by pointwise [weight1]
theorem bias0_at (d : Fin 768) : bias0 V (ix1 d) = (V (Proc.devRef .tc main_arg6) : FVec Ideal S8x768 .f32) (ix2 0 d) := by pointwise [bias0]
theorem bias1_at (d : Fin 768) : bias1 V (ix1 d) = (V (Proc.devRef .tc main_arg6) : FVec Ideal S8x768 .f32) (ix2 1 d) := by pointwise [bias1]

theorem round0_eq : (res_main_v67 V : FVec Ideal S64x2048x768 .f32) = round (res_main_v26 V) (sums V (res_main_v26 V)) (weight0 V) (bias0 V) := rfl

/-- Sums over the nodes of each batch element, and how many there are. -/
def poolSum (h : FVec Ideal S64x2048x768 .f32) : FVec Ideal S64x32x768 .f32 :=
  Host.scatterAdd scatter_S64x32x768_S64x2048x2_S64x2048x768_2_01_01_2 (broadcastInDim S64x32x768 ![] bcast_S_S64x32x768 (constant S_ .f32 0x00000000#32)) (nodePairs V (res_main_v110 V)) h
def poolCount : FVec Ideal S64x32 .f32 :=
  Host.scatterAdd scatter_S64x32_S64x2048x2_S64x2048_n_01_01_2 (broadcastInDim S64x32 ![] bcast_S_S64x32 (constant S_ .f32 0x00000000#32)) (nodePairs V (res_main_v110 V)) (broadcastInDim S64x2048 ![] bcast_S_S64x2048 (constant S_ .f32 0x3F800000#32))

def quot (s : FVec Ideal S64x32x768 .f32) (n : FVec Ideal S64x32 .f32) : FVec Ideal S64x32x768 .f32 :=
  Host.divf s (broadcastInDim S64x32x768 ![0, 1, 2] bcast_S64x32x1_S64x32x768_0_1_2 (broadcastInDim S64x32x1 ![0, 1] bcast_S64x32_S64x32x1_0_1 (maximumf n (broadcastInDim S64x32 ![] bcast_S_S64x32 (constant S_ .f32 0x3F800000#32)))))

theorem quot_at (s : FVec Ideal S64x32x768 .f32) (n : FVec Ideal S64x32 .f32) (g : Fin 64) (q : Fin 32) (d : Fin 768) :
    quot s n (ix3 g q d) = Ideal.div (s (ix3 g q d)) (max (n (ix2 g q)) 1) := by
  pointwise [quot]

theorem mean_eq : (res_main_v148 V : FVec Ideal S64x32x768 .f32)
    = quot (poolSum V (round (res_main_v67 V) (sums V (res_main_v67 V)) (weight1 V) (bias1 V))) (poolCount V) := rfl

/-! ## In range -/

/-- The node identifiers, batch elements and bundle words in range. -/
structure Range : Prop where
  ids : ∀ (g : Fin 64) (v : Fin 2048), ((V (Proc.devRef .tc main_arg0) : IVec S64x1x2048 32) (ix3 g 0 v)).toNat < 128
  bat : ∀ (g : Fin 64) (v : Fin 2048), ((V (Proc.devRef .tc main_arg1) : IVec S64x1x2048 32) (ix3 g 0 v)).toNat < 2 ^ 31
  tile : ∀ (g : Fin 64) (k : Fin 72), ((V (Proc.devRef .tc main_arg3) : IVec S64x1x19456 32) (ix3 g 0 ⟨k.val, by omega⟩)).toNat < 2048
  word : ∀ (g : Fin 64) (n : Fin 18432), ((V (Proc.devRef .tc main_arg3) : IVec S64x1x19456 32) (ix3 g 0 ⟨72 + n.val, by omega⟩)).toNat < 16384

/-- Graph `g` of the arguments. -/
def graph (g : Fin 64) : GnnSpec.Graph :=
  GnnSpec.graphAt (V (Proc.devRef .tc main_arg0)) (V (Proc.devRef .tc main_arg1)) (V (Proc.devRef .tc main_arg2)) (V (Proc.devRef .tc main_arg3)) g

/-- The mean of graph `g` of the arguments. -/
def meanOf (g : Fin 64) (q : Fin 32) (d : Fin 768) : EReal :=
  GnnSpec.meanAt (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) g q d

/-- A signed word below `2 ^ 31` as a natural number. -/
theorem int_word (w : BitVec 32) (h : w.toNat < 2 ^ 31) : w.toInt = w.toNat := BitVec.toInt_eq_toNat_of_lt (by omega)

/-- A target word: the chunk's row plus the slot's offset where that is one of 256, else past the last node. -/
theorem target (t l : BitVec 32) (ht : t.toNat < 2048) :
    Scalar.select (IntOp.andi (IntOp.cmpi .sge l 0#32) (IntOp.cmpi .slt l 256#32)) (IntOp.addi t l) 2048#32
      = if l.toNat < 256 then BitVec.ofNat 32 (t.toNat + l.toNat) else 2048#32 := by
  have e : IntOp.addi t l = if l.toNat < 256 then BitVec.ofNat 32 (t.toNat + l.toNat) else IntOp.addi t l := by
    split
    · refine BitVec.eq_of_toNat_eq ?_
      show (t + l).toNat = _
      rw [BitVec.toNat_add, BitVec.toNat_ofNat]
    · rfl
  rw [WordCmp.andi_sge_zero_slt_ofNat (k := 256) (by decide), WordCmp.select_decide, e]
  split <;> rfl

theorem dst_word (hR : Range V) (g : Fin 64) (k : Fin 72) (j : Fin 256) :
    (res_main_v18 V : IVec S64x18432 32) (ix2 g ⟨256 * k.val + j.val, by omega⟩)
      = if ((graph V g).loc k j).toNat < 256 then BitVec.ofNat 32 ((graph V g).tile k + ((graph V g).loc k j).toNat) else 2048#32 := by
  rw [dst_at, target _ _ (hR.tile g k)]
  rfl

theorem dst_lt (hR : Range V) (g : Fin 64) (n : Fin 18432) : ((res_main_v18 V : IVec S64x18432 32) (ix2 g n)).toNat < 2 ^ 31 := by
  obtain ⟨k, j, rfl⟩ : ∃ (k : Fin 72) (j : Fin 256), n = ⟨256 * k.val + j.val, by omega⟩ :=
    ⟨⟨n.val / 256, by omega⟩, ⟨n.val % 256, by omega⟩, Fin.ext (by show n.val = 256 * (n.val / 256) + n.val % 256; omega)⟩
  rw [dst_word V hR]
  have : (graph V g).tile k < 2048 := hR.tile g k
  split
  · rw [BitVec.toNat_ofNat]
    omega
  · decide

theorem dst_hit (hR : Range V) (g : Fin 64) (k : Fin 72) (j : Fin 256) (v : Fin 2048) :
    ((res_main_v18 V : IVec S64x18432 32) (ix2 g ⟨256 * k.val + j.val, by omega⟩)).toInt = v.val ↔ (graph V g).hit k j v := by
  rw [int_word _ (dst_lt V hR g _), dst_word V hR]
  have ht : (graph V g).tile k < 2048 := hR.tile g k
  unfold GnnSpec.Graph.hit
  generalize (graph V g).tile k = t at ht ⊢
  generalize (graph V g).loc k j = l
  have hv := v.isLt
  constructor
  · intro e
    split at e
    · rename_i h
      rw [BitVec.toNat_ofNat] at e
      have e' : t + l.toNat = v.val := by omega
      refine ⟨by omega, BitVec.eq_of_toNat_eq ?_⟩
      rw [BitVec.toNat_ofNat]
      omega
    · exfalso
      have : ((2048#32 : BitVec 32).toNat : Int) = 2048 := by decide
      omega
  · rintro ⟨h, rfl⟩
    have e : (BitVec.ofNat 32 (v.val - t)).toNat = v.val - t := by
      rw [BitVec.toNat_ofNat]
      omega
    rw [if_pos (by omega), e, BitVec.toNat_ofNat]
    omega

theorem src_word (hR : Range V) (g : Fin 64) (k : Fin 72) (j : Fin 256) :
    ((res_main_v8 V : IVec S64x18432 32) (ix2 g ⟨256 * k.val + j.val, by omega⟩)).toNat = ((graph V g).src k j).val := by
  rw [src_at]
  have h := hR.word g ⟨256 * k.val + j.val, by omega⟩
  show _ = ((V (Proc.devRef .tc main_arg3) : IVec S64x1x19456 32) (ix3 g 0 ⟨72 + (256 * k.val + j.val), _⟩)).toNat / 8 % 2048
  replace h : ((V (Proc.devRef .tc main_arg3) : IVec S64x1x19456 32) (ix3 g 0 ⟨72 + (256 * k.val + j.val), by omega⟩)).toNat < 16384 := h
  generalize (V (Proc.devRef .tc main_arg3) : IVec S64x1x19456 32) (ix3 g 0 ⟨72 + (256 * k.val + j.val), by omega⟩) = w at h ⊢
  show (w.sshiftRight 3).toNat = _
  have hm : w.msb = false := by
    rw [BitVec.msb_eq_false_iff_two_mul_lt]
    omega
  rw [BitVec.sshiftRight_eq_of_msb_false hm, BitVec.toNat_ushiftRight, Nat.shiftRight_eq_div_pow]
  omega

theorem edge_first (x : IVec S64x18432 32) (g : Fin 64) (n : Fin 18432) : (edgePairs V x (ix3 g n 0)).toInt = g.val := by
  rw [edgePairs_0, num_int _ (by omega)]

theorem node_first (x : IVec S64x2048 32) (g : Fin 64) (n : Fin 2048) : (nodePairs V x (ix3 g n 0)).toInt = g.val := by
  rw [nodePairs_0, num_int _ (by omega)]

theorem sums_at (hR : Range V) (h : FVec Ideal S64x2048x768 .f32) (g : Fin 64) (v : Fin 2048) (d : Fin 768) :
    sums V h (ix3 g v d) = GnnSpec.agg (graph V g) (fun v d => h (ix3 g v d)) v d := by
  refine (GnnRefOps.scatter_rows _ rfl rfl rfl rfl _ (edge_first V _) _ _ g v d).trans ?_
  have z : (broadcastInDim S64x2048x768 ![] bcast_S_S64x2048x768 (constant (F := Ideal) S_ .f32 0x00000000#32) : FVec Ideal S64x2048x768 .f32) (ix3 g v d) = 0 := by
    pointwise
  rw [z, zero_add, GnnRefOps.sum_slots]
  refine Finset.sum_congr rfl fun k _ => Finset.sum_congr rfl fun j _ => if_congr ?_ ?_ rfl
  · rw [edgePairs_1 V _ _ _ (dst_lt V hR g _)]
    exact dst_hit V hR g k j v
  · refine GnnRefOps.gather_pair gather_S64x2048x768_S64x18432x2_S64x18432x768_2_01_n_n_01_2_11768_wf h _ g _ d g ((graph V g).src k j) ?_ ?_
    · rw [edge_first]
      rfl
    · have e := src_word V hR g k j
      have l := ((graph V g).src k j).isLt
      rw [edgePairs_1 V _ _ _ (by omega), int_word _ (by omega), e]
      rfl

/-- The identifiers as index words, a negative one counted from the end. -/
def idWords (x : IVec S64x2048 32) : IVec S64x2048x1 32 :=
  broadcastInDim S64x2048x1 ![0, 1] bcast_S64x2048_S64x2048x1_0_1 (select (cmpi .slt x (broadcastInDim S64x2048 ![] bcast_S_S64x2048 (constantI S_ 32 0#32))) (addi x (broadcastInDim S64x2048 ![] bcast_S_S64x2048 (constantI S_ 32 128#32))) x)

theorem idWords_at (x : IVec S64x2048 32) (g : Fin 64) (v : Fin 2048) (h : (x (ix2 g v)).toNat < 2 ^ 31) : idWords x (ix3 g v 0) = x (ix2 g v) := by
  have e := Routing.wrap_of_lt (x (ix2 g v)) (IntOp.addi (x (ix2 g v)) 128#32) h
  pointwise [idWords, e]

/-- The features a node starts from: its table row. -/
theorem first_at (hR : Range V) (g : Fin 64) (v : Fin 2048) (d : Fin 768) :
    (res_main_v26 V : FVec Ideal S64x2048x768 .f32) (ix3 g v d)
      = (V (Proc.devRef .tc main_arg4) : FVec Ideal S128x768 .f32) (ix2 ((graph V g).ids v) d) := by
  have h := hR.ids g v
  have hx : ((res_main_v19 V : IVec S64x2048 32) (ix2 g v)).toNat < 128 := by
    rw [xs_at]
    exact h
  refine GnnRefOps.gather_row gather_S128x768_S64x2048x1_S64x2048x768_2_0_n_n_0_2_1768_wf _ (idWords (res_main_v19 V)) g v d ((graph V g).ids v) ?_
  rw [idWords_at _ _ _ (by omega), int_word _ (by omega), xs_at]
  exact (Nat.mod_eq_of_lt h).symm

theorem bs_lt (hR : Range V) (g : Fin 64) (v : Fin 2048) : ((res_main_v110 V : IVec S64x2048 32) (ix2 g v)).toNat < 2 ^ 31 := by
  rw [bs_at]
  exact hR.bat g v

theorem bat_hit (hR : Range V) (g : Fin 64) (v : Fin 2048) (q : Fin 32) :
    (nodePairs V (res_main_v110 V) (ix3 g v 1)).toInt = q.val ↔ (graph V g).bat v = BitVec.ofNat 32 q.val := by
  rw [nodePairs_1 V _ _ _ (bs_lt V hR g v), int_word _ (bs_lt V hR g v), bs_at]
  show _ ↔ (V (Proc.devRef .tc main_arg1) : IVec S64x1x2048 32) (ix3 g 0 v) = _
  rw [← BitVec.toNat_inj, BitVec.toNat_ofNat]
  omega

theorem poolSum_at (hR : Range V) (h : FVec Ideal S64x2048x768 .f32) (g : Fin 64) (q : Fin 32) (d : Fin 768) :
    poolSum V h (ix3 g q d) = ∑ v, if (graph V g).bat v = BitVec.ofNat 32 q.val then h (ix3 g v d) else 0 := by
  refine (GnnRefOps.scatter_rows _ rfl rfl rfl rfl _ (node_first V _) _ _ g q d).trans ?_
  have z : (broadcastInDim S64x32x768 ![] bcast_S_S64x32x768 (constant (F := Ideal) S_ .f32 0x00000000#32) : FVec Ideal S64x32x768 .f32) (ix3 g q d) = 0 := by
    pointwise
  rw [z, zero_add]
  exact Finset.sum_congr rfl fun v _ => if_congr (bat_hit V hR g v q) rfl rfl

theorem poolCount_at (hR : Range V) (g : Fin 64) (q : Fin 32) :
    poolCount V (ix2 g q) = ∑ v, if (graph V g).bat v = BitVec.ofNat 32 q.val then 1 else 0 := by
  refine (GnnRefOps.scatter_counts _ rfl rfl rfl _ (node_first V _) _ _ g q).trans ?_
  have z : (broadcastInDim S64x32 ![] bcast_S_S64x32 (constant (F := Ideal) S_ .f32 0x00000000#32) : FVec Ideal S64x32 .f32) (ix2 g q) = 0 := by
    pointwise
  have o : ∀ v : Fin 2048, (broadcastInDim S64x2048 ![] bcast_S_S64x2048 (constant (F := Ideal) S_ .f32 0x3F800000#32) : FVec Ideal S64x2048 .f32) (ix2 g v) = 1 := by
    intro v
    pointwise
  rw [z, zero_add]
  exact Finset.sum_congr rfl fun v _ => if_congr (bat_hit V hR g v q) (o v) rfl

theorem round_layer (hR : Range V) (h : FVec Ideal S64x2048x768 .f32) (W : FVec Ideal S768x768 .f32) (b : FVec Ideal S768 .f32) (g : Fin 64) (v : Fin 2048) (d : Fin 768) :
    round h (sums V h) W b (ix3 g v d) = GnnSpec.layer (graph V g) (fun i d => W (ix2 i d)) (fun d => b (ix1 d)) (fun v d => h (ix3 g v d)) v d := by
  rw [round_at]
  simp only [sums_at V hR]
  rfl

/-- The reference's mean of graph `g`. -/
theorem mean_at (hR : Range V) (g : Fin 64) (q : Fin 32) (d : Fin 768) :
    (res_main_v148 V : FVec Ideal S64x32x768 .f32) (ix3 g q d) = meanOf V g q d := by
  rw [mean_eq, quot_at, poolSum_at V hR, poolCount_at V hR]
  simp only [round_layer V hR, round0_eq, first_at V hR, weight0_at, weight1_at, bias0_at, bias1_at]
  rfl

/-- The reference's result. -/
theorem result_at (hR : Range V) (k : Fin 32) (q : Fin 32) (d : Fin 768) :
    (addf (extractStridedSlice S32x32x768 ![0, 0, 0] (res_main_v148 V) slices_S64x32x768_S32x32x768_0_0_0) (extractStridedSlice S32x32x768 ![32, 0, 0] (res_main_v148 V) slices_S64x32x768_S32x32x768_32_0_0) : FVec Ideal S32x32x768 .f32) (ix3 k q d)
      = meanOf V ⟨k.val, by omega⟩ q d + meanOf V ⟨32 + k.val, by omega⟩ q d := by
  rw [← mean_at V hR, ← mean_at V hR]
  generalize (res_main_v148 V : FVec Ideal S64x32x768 .f32) = x
  pointwise

end Cert.GnnRefIdeal.Graphs

end
-- ==== Proof.GnnTie.lean ====
/- The two programs of the graph call side by side: the precondition read off, the kernel's run with its result, and the
   reference's result equal to it. -/
module

public import proofs.«01_k».proof.Proof.GnnIds
public import proofs.«01_k».proof.Proof.GnnBridge
public import proofs.«01_k».proof.Proof.GnnValue
public import proofs.«01_k».proof.Proof.GnnRef
public import proofs.«01_k».proof.Proof.Gen.Pre_gnn_in_range
public import Idealize.ShloMosaic.Lib.ReduceAll
public import Idealize.ShloMosaic.Lib.Pointwise

@[expose] public section

set_option maxRecDepth 16384

noncomputable section

namespace Cert.Pre_gnn_in_range

open Idealize.ShloMosaic Idealize.SL.Sem Idealize.ShloMosaic.Pointwise
open Cert.Pre_ids_in_range (and_ofBool ofBool_one)
open Cert.Pre_bundle_in_range (and_one tile_at edge_at low_bits tile_good edge_good)
open Facts

variable {F : FTy → Type} [FloatOps F]

/-- A word between zero and `n`, both read signed, is below `n`. -/
theorem below {x : BitVec 32} {n : ℕ} (hn : n < 2 ^ 31) (h0 : (0#32).sle x = true) (h1 : x.slt (BitVec.ofNat 32 n) = true) : x.toNat < n :=
  (low_bits (k := 0) hn (by decide) h0 h1 (by simp)).1

/-- What the precondition says of the words: node identifiers and batch elements in range, and the bundle's row tiles and rows
    aligned and in range. -/
structure Words (x0 x1 : IVec S64x1x2048 32) (x3 : IVec S64x1x19456 32) : Prop where
  ids : ∀ (g : Fin 64) (v : Fin 2048), (x0 (ix3 g 0 v)).toNat < 25
  bat : ∀ (g : Fin 64) (v : Fin 2048), (x1 (ix3 g 0 v)).toNat < 32
  tile : ∀ (g : Fin 64) (k : Fin 72), (x3 (ix3 g 0 ⟨k.val, by omega⟩)).toNat < 2048 ∧ 2 ^ 8 ∣ (x3 (ix3 g 0 ⟨k.val, by omega⟩)).toNat
  word : ∀ (g : Fin 64) (n : Fin 18432),
    (x3 (ix3 g 0 ⟨72 + n.val, by omega⟩)).toNat < 16384 ∧ 2 ^ 3 ∣ (x3 (ix3 g 0 ⟨72 + n.val, by omega⟩)).toNat

set_option maxHeartbeats 4000000 in
theorem words (x0 x1 : IVec S64x1x2048 32) (x2 : IVec S64x72x1x256 32) (x3 : IVec S64x1x19456 32) (x4 : FVec F S128x768 .f32) (x5 : FVec F S2x768x768 .f32) (x6 : FVec F S8x768 .f32)
    (h : fn (F := F) x0 x1 x2 x3 x4 x5 x6 = fun _ => 1#1) : Words x0 x1 x3 := by
  have e := congrFun h ix0
  dsimp only [fn, fn_part1, fn_part2] at e
  rw [andi, and_one, andi, and_one] at e
  obtain ⟨⟨ht, hw⟩, hn⟩ := e
  have node (g : Fin 64) (v : Fin 2048) : (x0 (ix3 g 0 v)).toNat < 25 ∧ (x1 (ix3 g 0 v)).toNat < 32 := by
    have e1 := Host.reduce_andi_all _ _ _ _ _ hn (ix3 g 0 v)
    simp only [andi, cmpi, broadcastInDim, constantI, IntOp.cmpi, and_ofBool, ofBool_one, Bool.and_eq_true] at e1
    obtain ⟨⟨⟨h1, h2⟩, h3⟩, h4⟩ := e1
    exact ⟨below (by decide) h1 h2, below (by decide) h3 h4⟩
  refine ⟨fun g v => (node g v).1, fun g v => (node g v).2, fun g k => ?_, fun g n => ?_⟩
  · have e1 := Host.reduce_andi_all _ _ _ _ _ ht (ix2 g k)
    simp only [andi, cmpi, broadcastInDim, constantI, IntOp.cmpi, and_ofBool, ofBool_one, Bool.and_eq_true, tile_at] at e1
    obtain ⟨⟨h1, h2⟩, h3⟩ := e1
    exact low_bits (by decide) (by decide) h1 h2 (by simpa [IntOp.andi] using h3)
  · have e1 := Host.reduce_andi_all _ _ _ _ _ hw (ix2 g n)
    simp only [andi, cmpi, broadcastInDim, constantI, IntOp.cmpi, and_ofBool, ofBool_one, Bool.and_eq_true, edge_at] at e1
    obtain ⟨⟨h1, h2⟩, h3⟩ := e1
    exact low_bits (by decide) (by decide) h1 h2 (by simpa [IntOp.andi] using h3)

/-- Under the precondition the copied bundle is good at every grid point. -/
theorem good (m : (ℓ : Loc Cert.Gnn.nD Cert.Gnn.τ Cert.Gnn.sig) → Buf (Elt F) ℓ) (c : Dev Cert.Gnn.nD) (x0 x1 : IVec S64x1x2048 32)
    (h : Words x0 x1 (m ((c.tc : Thread Cert.Gnn.nD Cert.Gnn.τ).loc Cert.Gnn.main_arg3))) (t : Fin Cert.Gnn.cfg0.N) :
    Cert.Gnn.Gen.Good (Cert.Gnn.Gen.bundleOf (Cert.Gnn.Gen.iblk m c 3 t)) := by
  refine ⟨fun k hk => ?_, fun n hn => ?_⟩
  · rw [Cert.Gnn.Gen.word_at m c t k (by omega)]
    exact tile_good (h.tile (Cert.Gnn.Gen.graphOf t) ⟨k, hk⟩)
  · rw [Cert.Gnn.Gen.word_at m c t (72 + n) (by omega)]
    exact edge_good (h.word (Cert.Gnn.Gen.graphOf t) ⟨n, hn⟩)

end Cert.Pre_gnn_in_range

namespace Cert.GnnTie

open Idealize.ShloMosaic Idealize.SL.Sem Idealize.ShloMosaic.Pointwise Idealize.ShloMosaic.TcCoe
open Cert.Pre_gnn_in_range (Words)

/-- The words of the arguments in memory are in range on every device. -/
abbrev InRange (m : (ℓ : Loc Cert.Gnn.nD Cert.Gnn.τ Cert.Gnn.sig) → Buf (Elt Ideal) ℓ) : Prop :=
  ∀ c : Dev Cert.Gnn.nD, Words (m ((c.tc : Thread Cert.Gnn.nD Cert.Gnn.τ).loc Cert.Gnn.main_arg0))
    (m ((c.tc : Thread Cert.Gnn.nD Cert.Gnn.τ).loc Cert.Gnn.main_arg1)) (m ((c.tc : Thread Cert.Gnn.nD Cert.Gnn.τ).loc Cert.Gnn.main_arg3))

section

open Cert.Gnn

/-- The kernel ends with the two means' sums in its result array and its arguments unchanged. -/
theorem run (m : (ℓ : Loc nD τ sig) → Buf (Elt Ideal) ℓ) (ρ : Dev nD → PrngReg) (hw : InRange m) :
    θ_run defs (onTc (τ := τ) (main (F := Ideal))) ⟨m, fun _ => 0, ρ⟩ (fun r => ∀ c : Dev nD,
      r.2.mem ((c.tc : Thread nD τ).loc main_v0) = Gen.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (Gen.final7 m c fun g v => lt_trans ((hw c).ids g v) (by decide)), Gen.kept m r h.1 c⟩)
    (Gen.run_main_quiescent m ρ fun c t => Cert.Pre_gnn_in_range.good m c _ _ (hw c) t)

end

/-- The reference's arguments are the kernel's. -/
structure Same (m : (ℓ : Loc Gnn.nD Gnn.τ Gnn.sig) → Buf (Elt Ideal) ℓ) (c : Dev Gnn.nD) (V : Valuation GnnRefIdeal.τ GnnRefIdeal.sig (Elt Ideal)) : Prop where
  a0 : V (Proc.devRef .tc GnnRefIdeal.main_arg0) = m ((c.tc : Thread Gnn.nD Gnn.τ).loc Gnn.main_arg0)
  a1 : V (Proc.devRef .tc GnnRefIdeal.main_arg1) = m ((c.tc : Thread Gnn.nD Gnn.τ).loc Gnn.main_arg1)
  a2 : V (Proc.devRef .tc GnnRefIdeal.main_arg2) = m ((c.tc : Thread Gnn.nD Gnn.τ).loc Gnn.main_arg2)
  a3 : V (Proc.devRef .tc GnnRefIdeal.main_arg3) = m ((c.tc : Thread Gnn.nD Gnn.τ).loc Gnn.main_arg3)
  a4 : V (Proc.devRef .tc GnnRefIdeal.main_arg4) = m ((c.tc : Thread Gnn.nD Gnn.τ).loc Gnn.main_arg4)
  a5 : V (Proc.devRef .tc GnnRefIdeal.main_arg5) = m ((c.tc : Thread Gnn.nD Gnn.τ).loc Gnn.main_arg5)
  a6 : V (Proc.devRef .tc GnnRefIdeal.main_arg6) = m ((c.tc : Thread Gnn.nD Gnn.τ).loc Gnn.main_arg6)

variable {m : (ℓ : Loc Gnn.nD Gnn.τ Gnn.sig) → Buf (Elt Ideal) ℓ} {c : Dev Gnn.nD} {V : Valuation GnnRefIdeal.τ GnnRefIdeal.sig (Elt Ideal)}

/-- So are its graphs' means. -/
theorem meanOf_eq (h : Same m c V) (g : Fin 64) (q : Fin 32) (d : Fin 768) : GnnRefIdeal.Graphs.meanOf V g q d = Gnn.Gen.meanOf m c g q d := by
  rw [GnnRefIdeal.Graphs.meanOf, h.a0, h.a1, h.a2, h.a3, h.a4, h.a5, h.a6]
  rfl

/-- On words in range the reference's range holds. -/
theorem range (h : Same m c V)
    (hw : Words (m ((c.tc : Thread Gnn.nD Gnn.τ).loc Gnn.main_arg0)) (m ((c.tc : Thread Gnn.nD Gnn.τ).loc Gnn.main_arg1))
      (m ((c.tc : Thread Gnn.nD Gnn.τ).loc Gnn.main_arg3))) : GnnRefIdeal.Graphs.Range V := by
  refine ⟨fun g v => ?_, fun g v => ?_, fun g k => ?_, fun g n => ?_⟩
  · rw [h.a0]
    exact lt_trans (hw.ids g v) (by decide)
  · rw [h.a1]
    exact lt_trans (hw.bat g v) (by decide)
  · rw [h.a3]
    exact (hw.tile g k).1
  · rw [h.a3]
    exact (hw.word g n).1

/-- The reference's result on the same arguments is the kernel's. -/
theorem result_eq (h : Same m c V)
    (hw : Words (m ((c.tc : Thread Gnn.nD Gnn.τ).loc Gnn.main_arg0)) (m ((c.tc : Thread Gnn.nD Gnn.τ).loc Gnn.main_arg1))
      (m ((c.tc : Thread Gnn.nD Gnn.τ).loc Gnn.main_arg3))) (h0) (h1) :
    (addf (extractStridedSlice GnnRefIdeal.S32x32x768 ![0, 0, 0] (GnnRefIdeal.Value.res_main_v148 V) h0)
        (extractStridedSlice GnnRefIdeal.S32x32x768 ![32, 0, 0] (GnnRefIdeal.Value.res_main_v148 V) h1) : FVec Ideal GnnRefIdeal.S32x32x768 .f32)
      = Gnn.Gen.result m c := by
  funext i
  obtain ⟨k, q, d, rfl⟩ : ∃ (k q : Fin 32) (d : Fin 768), i = ix3 k q d := ⟨i 0, i 1, i 2, eq_ix3 i⟩
  rw [GnnRefIdeal.Graphs.result_at V (range h hw) k q d, meanOf_eq h, meanOf_eq h]
  rfl

end Cert.GnnTie

end
-- ==== Proof.lean ====
/- The certificate of the two calls: each program ends with its arguments unchanged and its counters zero, and the transformer
   and the graph kernel's results are their references', exactly, over the extended reals. -/
module

public import proofs.«01_k».proof.Defs
public import proofs.«01_k».proof.Proof.Gen.Pre_ids_in_range
public import proofs.«01_k».proof.Proof.Gen.TrRefIdeal.Run
public import proofs.«01_k».proof.Proof.TrFrame
public import proofs.«01_k».proof.Proof.Tie
public import proofs.«01_k».proof.Proof.Ids
public import proofs.«01_k».proof.Proof.GnnIds
public import proofs.«01_k».proof.Proof.GnnBridge
public import proofs.«01_k».proof.Proof.GnnTie
public import proofs.«01_k».proof.Proof.Gen.Pre_gnn_in_range
public import proofs.«01_k».proof.Proof.Gen.GnnRefIdeal.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The reference ends with its arguments unchanged and no counter raised. -/
theorem frame_ref : quiescent_TrRefIdeal := fun m ρ _ =>
  (θ_run Cert.TrRefIdeal.defs _ _).mono (fun r h => ⟨fun c => (h c).2, sem_eq_zero_of_no_sems (by decide) r.2⟩)
    (Cert.TrRefIdeal.Value.run (F := Ideal) m ρ)

set_option maxHeartbeats 4000000 in
/-- From memories agreeing on the arguments, with identifiers in range, kernel and reference end with the same result. -/
theorem algebraic : algebraic_TrIdeal_TrRefIdeal_pre_ids_in_range := by
  intro m ρ m' ρ' hpre hagree
  refine ⟨_, Cert.TrIdeal.Value.run (F := Ideal) m ρ, ?_⟩
  refine (θ_run Cert.TrRefIdeal.defs _ _).mono (fun _ h c => ⟨?_, (h c).2⟩) (Cert.TrRefIdeal.Value.run (F := Ideal) m' ρ')
  rw [(h c).1]
  have hb := fun y => Cert.Pre_ids_in_range.bounds _ _ _ _ _ _ _ _ _ _ _ _ _ _ _ _ _ _ _ _ _ _ _ _ _ _ (hpre c) y
  obtain ⟨h0, h1, h2, h3, h4, h5, h6, h7, h8, h9, h10, h11, h12, h13, h14, h15, h16, h17, h18, h19, h20, h21, h22, h23, h24, h25⟩ := hagree c
  refine Cert.Tie.result_eq (V := StableHlo.launchContents m' c) ?_ (fun y => (hb y).1) (fun y => (hb y).2.1) (fun y => (hb y).2.2) _
  exact ⟨h0, h1, h2, h3, h4, h5, h6, h7, h8, h9, h10, h11, h12, h13, h14, h15, h16, h17, h18, h19, h20, h21, h22, h23, h24, h25⟩

/-- The graph kernel ends with its arguments unchanged and its counters zero. -/
theorem frame_graph : quiescent_Gnn := fun m ρ hpre =>
  Cert.Gnn.Gen.frame m ρ fun c t => Cert.Pre_bundle_in_range.good m c _ _ _ _ _ _ (hpre c) t

/-- So does its idealization, the same program read over the extended reals. -/
theorem frame_graphIdeal : quiescent_GnnIdeal := fun m ρ hpre =>
  (Cert.GnnIdeal.Gen.run_eq m ρ _).mpr
    (Cert.Gnn.Gen.frame m ρ fun c t => Cert.Pre_bundle_in_range.good m c _ _ _ _ _ _ (hpre c) t)

/-- And so it does under the narrower precondition of the value claim. -/
theorem frame_graphIdeal_in_range : quiescent_GnnIdeal_pre_gnn_in_range := fun m ρ hpre =>
  (Cert.GnnIdeal.Gen.run_eq m ρ _).mpr
    (Cert.Gnn.Gen.frame m ρ fun c t => Cert.Pre_gnn_in_range.good m c _ _ (Cert.Pre_gnn_in_range.words _ _ _ _ _ _ _ (hpre c)) t)

/-- The graph call's reference ends with its arguments unchanged and no counter raised. -/
theorem frame_graphRef : quiescent_GnnRefIdeal := fun m ρ _ =>
  (θ_run Cert.GnnRefIdeal.defs _ _).mono (fun r h => ⟨fun c => (h c).2, sem_eq_zero_of_no_sems (by decide) r.2⟩)
    (Cert.GnnRefIdeal.Value.run (F := Ideal) m ρ)

/-- From memories agreeing on the arguments, with words in range, the graph kernel and its reference end with the same result. -/
theorem algebraic_graph : algebraic_GnnIdeal_GnnRefIdeal_pre_gnn_in_range := by
  intro m ρ m' ρ' hpre hagree
  have hw := fun c => Cert.Pre_gnn_in_range.words _ _ _ _ _ _ _ (hpre c)
  refine ⟨_, (Cert.GnnIdeal.Gen.run_eq m ρ _).mpr (Cert.GnnTie.run m ρ hw), ?_⟩
  refine (θ_run Cert.GnnRefIdeal.defs _ _).mono (fun _ h c => ⟨?_, (h c).2⟩) (Cert.GnnRefIdeal.Value.run (F := Ideal) m' ρ')
  rw [(h c).1]
  obtain ⟨h0, h1, h2, h3, h4, h5, h6⟩ := hagree c
  exact Cert.GnnTie.result_eq (V := StableHlo.launchContents m' c) ⟨h0, h1, h2, h3, h4, h5, h6⟩ (hw c) _ _

/-- Every claim stated of the programs. -/
theorem claim : Cert.Claim :=
  ⟨Cert.Tr.Gen.facts, Cert.TrIdeal.Gen.facts, Cert.TrRefIdeal.Gen.facts, Cert.Gnn.Gen.facts, Cert.GnnIdeal.Gen.facts,
    Cert.GnnRefIdeal.Gen.facts, Cert.Pre_ids_in_range.Gen.facts, Cert.Pre_bundle_in_range.Gen.facts, Cert.Pre_gnn_in_range.Gen.facts,
    fun m ρ _ => Cert.Tr.Gen.frame m ρ, fun m ρ _ => Cert.TrIdeal.Gen.frame m ρ, fun m ρ _ => Cert.TrIdeal.Gen.frame m ρ,
    frame_ref, fun m ρ _ => frame_ref m ρ trivial, frame_graph, frame_graphIdeal, frame_graphIdeal_in_range,
    frame_graphRef, fun m ρ _ => frame_graphRef m ρ trivial, (trivial : preserves_Tr_TrIdeal), algebraic,
    (trivial : preserves_Gnn_GnnIdeal), algebraic_graph⟩

end Cert.Proof

end
